-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelCross (m : (ℓ : Loc Cert.KernelCross.nD Cert.KernelCross.τ Cert.KernelCross.sig) → Buf (Elt Bits) ℓ) : Prop :=
  True

def Pre_KernelCrossIdeal (m : (ℓ : Loc Cert.KernelCrossIdeal.nD Cert.KernelCrossIdeal.τ Cert.KernelCrossIdeal.sig) → Buf (Elt Ideal) ℓ) : Prop :=
  True

def Pre_ReferenceCrossIdeal (m : (ℓ : Loc Cert.ReferenceCrossIdeal.nD Cert.ReferenceCrossIdeal.τ Cert.ReferenceCrossIdeal.sig) → Buf (Elt Ideal) ℓ) : Prop :=
  True

def Pre_KernelCkv (m : (ℓ : Loc Cert.KernelCkv.nD Cert.KernelCkv.τ Cert.KernelCkv.sig) → Buf (Elt Bits) ℓ) : Prop :=
  True

def Pre_KernelCkvIdeal (m : (ℓ : Loc Cert.KernelCkvIdeal.nD Cert.KernelCkvIdeal.τ Cert.KernelCkvIdeal.sig) → Buf (Elt Ideal) ℓ) : Prop :=
  True

def Pre_ReferenceCkvIdeal (m : (ℓ : Loc Cert.ReferenceCkvIdeal.nD Cert.ReferenceCkvIdeal.τ Cert.ReferenceCkvIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4))) = (fun _ => 1#1)

def Pre_KernelInb (m : (ℓ : Loc Cert.KernelInb.nD Cert.KernelInb.τ Cert.KernelInb.sig) → Buf (Elt Bits) ℓ) : Prop :=
  True

def Pre_KernelInbIdeal (m : (ℓ : Loc Cert.KernelInbIdeal.nD Cert.KernelInbIdeal.τ Cert.KernelInbIdeal.sig) → Buf (Elt Ideal) ℓ) : Prop :=
  True

def Pre_ReferenceInbIdeal (m : (ℓ : Loc Cert.ReferenceInbIdeal.nD Cert.ReferenceInbIdeal.τ Cert.ReferenceInbIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelAdIn [hPre_on_a_chip : Cert.Pre_on_a_chip.Facts] (m : (ℓ : Loc Cert.KernelAdIn.nD Cert.KernelAdIn.τ Cert.KernelAdIn.sig) → Buf (Elt Bits) ℓ) : Prop :=
  ∀ c : Dev Cert.KernelAdIn.nD,
    (Cert.Pre_on_a_chip.fn (F := Bits) (m ((c.tc : Thread Cert.KernelAdIn.nD Cert.KernelAdIn.τ).loc Cert.KernelAdIn.main_arg0)) (m ((c.tc : Thread Cert.KernelAdIn.nD Cert.KernelAdIn.τ).loc Cert.KernelAdIn.main_arg1)) (m ((c.tc : Thread Cert.KernelAdIn.nD Cert.KernelAdIn.τ).loc Cert.KernelAdIn.main_arg2)) (m ((c.tc : Thread Cert.KernelAdIn.nD Cert.KernelAdIn.τ).loc Cert.KernelAdIn.main_arg3)) (m ((c.tc : Thread Cert.KernelAdIn.nD Cert.KernelAdIn.τ).loc Cert.KernelAdIn.main_arg4)) (m ((c.tc : Thread Cert.KernelAdIn.nD Cert.KernelAdIn.τ).loc Cert.KernelAdIn.main_arg5))) = (fun _ => 1#1)

def Pre_KernelAdInIdeal [hPre_on_a_chip : Cert.Pre_on_a_chip.Facts] (m : (ℓ : Loc Cert.KernelAdInIdeal.nD Cert.KernelAdInIdeal.τ Cert.KernelAdInIdeal.sig) → Buf (Elt Ideal) ℓ) : Prop :=
  ∀ c : Dev Cert.KernelAdInIdeal.nD,
    (Cert.Pre_on_a_chip.fn (F := Ideal) (m ((c.tc : Thread Cert.KernelAdInIdeal.nD Cert.KernelAdInIdeal.τ).loc Cert.KernelAdInIdeal.main_arg0)) (m ((c.tc : Thread Cert.KernelAdInIdeal.nD Cert.KernelAdInIdeal.τ).loc Cert.KernelAdInIdeal.main_arg1)) (m ((c.tc : Thread Cert.KernelAdInIdeal.nD Cert.KernelAdInIdeal.τ).loc Cert.KernelAdInIdeal.main_arg2)) (m ((c.tc : Thread Cert.KernelAdInIdeal.nD Cert.KernelAdInIdeal.τ).loc Cert.KernelAdInIdeal.main_arg3)) (m ((c.tc : Thread Cert.KernelAdInIdeal.nD Cert.KernelAdInIdeal.τ).loc Cert.KernelAdInIdeal.main_arg4)) (m ((c.tc : Thread Cert.KernelAdInIdeal.nD Cert.KernelAdInIdeal.τ).loc Cert.KernelAdInIdeal.main_arg5))) = (fun _ => 1#1)

def Pre_ReferenceAdInIdeal [hPre_on_a_chip : Cert.Pre_on_a_chip.Facts] (m : (ℓ : Loc Cert.ReferenceAdInIdeal.nD Cert.ReferenceAdInIdeal.τ Cert.ReferenceAdInIdeal.sig) → Buf (Elt Ideal) ℓ) : Prop :=
  ∀ c : Dev Cert.ReferenceAdInIdeal.nD,
    (Cert.Pre_on_a_chip.fn (F := Ideal) (m ((c.tc : Thread Cert.ReferenceAdInIdeal.nD Cert.ReferenceAdInIdeal.τ).loc Cert.ReferenceAdInIdeal.main_arg0)) (m ((c.tc : Thread Cert.ReferenceAdInIdeal.nD Cert.ReferenceAdInIdeal.τ).loc Cert.ReferenceAdInIdeal.main_arg1)) (m ((c.tc : Thread Cert.ReferenceAdInIdeal.nD Cert.ReferenceAdInIdeal.τ).loc Cert.ReferenceAdInIdeal.main_arg2)) (m ((c.tc : Thread Cert.ReferenceAdInIdeal.nD Cert.ReferenceAdInIdeal.τ).loc Cert.ReferenceAdInIdeal.main_arg3)) (m ((c.tc : Thread Cert.ReferenceAdInIdeal.nD Cert.ReferenceAdInIdeal.τ).loc Cert.ReferenceAdInIdeal.main_arg4)) (m ((c.tc : Thread Cert.ReferenceAdInIdeal.nD Cert.ReferenceAdInIdeal.τ).loc Cert.ReferenceAdInIdeal.main_arg5))) = (fun _ => 1#1)

def Pre_KernelAdDown [hPre_on_a_chip_down : Cert.Pre_on_a_chip_down.Facts] (m : (ℓ : Loc Cert.KernelAdDown.nD Cert.KernelAdDown.τ Cert.KernelAdDown.sig) → Buf (Elt Bits) ℓ) : Prop :=
  ∀ c : Dev Cert.KernelAdDown.nD,
    (Cert.Pre_on_a_chip_down.fn (F := Bits) (m ((c.tc : Thread Cert.KernelAdDown.nD Cert.KernelAdDown.τ).loc Cert.KernelAdDown.main_arg0)) (m ((c.tc : Thread Cert.KernelAdDown.nD Cert.KernelAdDown.τ).loc Cert.KernelAdDown.main_arg1)) (m ((c.tc : Thread Cert.KernelAdDown.nD Cert.KernelAdDown.τ).loc Cert.KernelAdDown.main_arg2)) (m ((c.tc : Thread Cert.KernelAdDown.nD Cert.KernelAdDown.τ).loc Cert.KernelAdDown.main_arg3)) (m ((c.tc : Thread Cert.KernelAdDown.nD Cert.KernelAdDown.τ).loc Cert.KernelAdDown.main_arg4)) (m ((c.tc : Thread Cert.KernelAdDown.nD Cert.KernelAdDown.τ).loc Cert.KernelAdDown.main_arg5))) = (fun _ => 1#1)

def Pre_KernelAdDownIdeal [hPre_on_a_chip_down : Cert.Pre_on_a_chip_down.Facts] (m : (ℓ : Loc Cert.KernelAdDownIdeal.nD Cert.KernelAdDownIdeal.τ Cert.KernelAdDownIdeal.sig) → Buf (Elt Ideal) ℓ) : Prop :=
  ∀ c : Dev Cert.KernelAdDownIdeal.nD,
    (Cert.Pre_on_a_chip_down.fn (F := Ideal) (m ((c.tc : Thread Cert.KernelAdDownIdeal.nD Cert.KernelAdDownIdeal.τ).loc Cert.KernelAdDownIdeal.main_arg0)) (m ((c.tc : Thread Cert.KernelAdDownIdeal.nD Cert.KernelAdDownIdeal.τ).loc Cert.KernelAdDownIdeal.main_arg1)) (m ((c.tc : Thread Cert.KernelAdDownIdeal.nD Cert.KernelAdDownIdeal.τ).loc Cert.KernelAdDownIdeal.main_arg2)) (m ((c.tc : Thread Cert.KernelAdDownIdeal.nD Cert.KernelAdDownIdeal.τ).loc Cert.KernelAdDownIdeal.main_arg3)) (m ((c.tc : Thread Cert.KernelAdDownIdeal.nD Cert.KernelAdDownIdeal.τ).loc Cert.KernelAdDownIdeal.main_arg4)) (m ((c.tc : Thread Cert.KernelAdDownIdeal.nD Cert.KernelAdDownIdeal.τ).loc Cert.KernelAdDownIdeal.main_arg5))) = (fun _ => 1#1)

def Pre_ReferenceAdDownIdeal [hPre_on_a_chip_down : Cert.Pre_on_a_chip_down.Facts] (m : (ℓ : Loc Cert.ReferenceAdDownIdeal.nD Cert.ReferenceAdDownIdeal.τ Cert.ReferenceAdDownIdeal.sig) → Buf (Elt Ideal) ℓ) : Prop :=
  ∀ c : Dev Cert.ReferenceAdDownIdeal.nD,
    (Cert.Pre_on_a_chip_down.fn (F := Ideal) (m ((c.tc : Thread Cert.ReferenceAdDownIdeal.nD Cert.ReferenceAdDownIdeal.τ).loc Cert.ReferenceAdDownIdeal.main_arg0)) (m ((c.tc : Thread Cert.ReferenceAdDownIdeal.nD Cert.ReferenceAdDownIdeal.τ).loc Cert.ReferenceAdDownIdeal.main_arg1)) (m ((c.tc : Thread Cert.ReferenceAdDownIdeal.nD Cert.ReferenceAdDownIdeal.τ).loc Cert.ReferenceAdDownIdeal.main_arg2)) (m ((c.tc : Thread Cert.ReferenceAdDownIdeal.nD Cert.ReferenceAdDownIdeal.τ).loc Cert.ReferenceAdDownIdeal.main_arg3)) (m ((c.tc : Thread Cert.ReferenceAdDownIdeal.nD Cert.ReferenceAdDownIdeal.τ).loc Cert.ReferenceAdDownIdeal.main_arg4)) (m ((c.tc : Thread Cert.ReferenceAdDownIdeal.nD Cert.ReferenceAdDownIdeal.τ).loc Cert.ReferenceAdDownIdeal.main_arg5))) = (fun _ => 1#1)

def Pre_KernelAdCkv [hPre_on_a_chip_ckv : Cert.Pre_on_a_chip_ckv.Facts] (m : (ℓ : Loc Cert.KernelAdCkv.nD Cert.KernelAdCkv.τ Cert.KernelAdCkv.sig) → Buf (Elt Bits) ℓ) : Prop :=
  ∀ c : Dev Cert.KernelAdCkv.nD,
    (Cert.Pre_on_a_chip_ckv.fn (F := Bits) (m ((c.tc : Thread Cert.KernelAdCkv.nD Cert.KernelAdCkv.τ).loc Cert.KernelAdCkv.main_arg0)) (m ((c.tc : Thread Cert.KernelAdCkv.nD Cert.KernelAdCkv.τ).loc Cert.KernelAdCkv.main_arg1)) (m ((c.tc : Thread Cert.KernelAdCkv.nD Cert.KernelAdCkv.τ).loc Cert.KernelAdCkv.main_arg2)) (m ((c.tc : Thread Cert.KernelAdCkv.nD Cert.KernelAdCkv.τ).loc Cert.KernelAdCkv.main_arg3)) (m ((c.tc : Thread Cert.KernelAdCkv.nD Cert.KernelAdCkv.τ).loc Cert.KernelAdCkv.main_arg4)) (m ((c.tc : Thread Cert.KernelAdCkv.nD Cert.KernelAdCkv.τ).loc Cert.KernelAdCkv.main_arg5))) = (fun _ => 1#1)

def Pre_KernelAdCkvIdeal [hPre_on_a_chip_ckv : Cert.Pre_on_a_chip_ckv.Facts] (m : (ℓ : Loc Cert.KernelAdCkvIdeal.nD Cert.KernelAdCkvIdeal.τ Cert.KernelAdCkvIdeal.sig) → Buf (Elt Ideal) ℓ) : Prop :=
  ∀ c : Dev Cert.KernelAdCkvIdeal.nD,
    (Cert.Pre_on_a_chip_ckv.fn (F := Ideal) (m ((c.tc : Thread Cert.KernelAdCkvIdeal.nD Cert.KernelAdCkvIdeal.τ).loc Cert.KernelAdCkvIdeal.main_arg0)) (m ((c.tc : Thread Cert.KernelAdCkvIdeal.nD Cert.KernelAdCkvIdeal.τ).loc Cert.KernelAdCkvIdeal.main_arg1)) (m ((c.tc : Thread Cert.KernelAdCkvIdeal.nD Cert.KernelAdCkvIdeal.τ).loc Cert.KernelAdCkvIdeal.main_arg2)) (m ((c.tc : Thread Cert.KernelAdCkvIdeal.nD Cert.KernelAdCkvIdeal.τ).loc Cert.KernelAdCkvIdeal.main_arg3)) (m ((c.tc : Thread Cert.KernelAdCkvIdeal.nD Cert.KernelAdCkvIdeal.τ).loc Cert.KernelAdCkvIdeal.main_arg4)) (m ((c.tc : Thread Cert.KernelAdCkvIdeal.nD Cert.KernelAdCkvIdeal.τ).loc Cert.KernelAdCkvIdeal.main_arg5))) = (fun _ => 1#1)

def Pre_ReferenceAdCkvIdeal [hPre_on_a_chip_ckv : Cert.Pre_on_a_chip_ckv.Facts] (m : (ℓ : Loc Cert.ReferenceAdCkvIdeal.nD Cert.ReferenceAdCkvIdeal.τ Cert.ReferenceAdCkvIdeal.sig) → Buf (Elt Ideal) ℓ) : Prop :=
  ∀ c : Dev Cert.ReferenceAdCkvIdeal.nD,
    (Cert.Pre_on_a_chip_ckv.fn (F := Ideal) (m ((c.tc : Thread Cert.ReferenceAdCkvIdeal.nD Cert.ReferenceAdCkvIdeal.τ).loc Cert.ReferenceAdCkvIdeal.main_arg0)) (m ((c.tc : Thread Cert.ReferenceAdCkvIdeal.nD Cert.ReferenceAdCkvIdeal.τ).loc Cert.ReferenceAdCkvIdeal.main_arg1)) (m ((c.tc : Thread Cert.ReferenceAdCkvIdeal.nD Cert.ReferenceAdCkvIdeal.τ).loc Cert.ReferenceAdCkvIdeal.main_arg2)) (m ((c.tc : Thread Cert.ReferenceAdCkvIdeal.nD Cert.ReferenceAdCkvIdeal.τ).loc Cert.ReferenceAdCkvIdeal.main_arg3)) (m ((c.tc : Thread Cert.ReferenceAdCkvIdeal.nD Cert.ReferenceAdCkvIdeal.τ).loc Cert.ReferenceAdCkvIdeal.main_arg4)) (m ((c.tc : Thread Cert.ReferenceAdCkvIdeal.nD Cert.ReferenceAdCkvIdeal.τ).loc Cert.ReferenceAdCkvIdeal.main_arg5))) = (fun _ => 1#1)

def Pre_KernelAdMix0 [hPre_on_a_chip_mix : Cert.Pre_on_a_chip_mix.Facts] (m : (ℓ : Loc Cert.KernelAdMix0.nD Cert.KernelAdMix0.τ Cert.KernelAdMix0.sig) → Buf (Elt Bits) ℓ) : Prop :=
  ∀ c : Dev Cert.KernelAdMix0.nD,
    (Cert.Pre_on_a_chip_mix.fn (F := Bits) (m ((c.tc : Thread Cert.KernelAdMix0.nD Cert.KernelAdMix0.τ).loc Cert.KernelAdMix0.main_arg0)) (m ((c.tc : Thread Cert.KernelAdMix0.nD Cert.KernelAdMix0.τ).loc Cert.KernelAdMix0.main_arg1)) (m ((c.tc : Thread Cert.KernelAdMix0.nD Cert.KernelAdMix0.τ).loc Cert.KernelAdMix0.main_arg2)) (m ((c.tc : Thread Cert.KernelAdMix0.nD Cert.KernelAdMix0.τ).loc Cert.KernelAdMix0.main_arg3)) (m ((c.tc : Thread Cert.KernelAdMix0.nD Cert.KernelAdMix0.τ).loc Cert.KernelAdMix0.main_arg4)) (m ((c.tc : Thread Cert.KernelAdMix0.nD Cert.KernelAdMix0.τ).loc Cert.KernelAdMix0.main_arg5))) = (fun _ => 1#1)

def Pre_KernelAdMix0Ideal [hPre_on_a_chip_mix : Cert.Pre_on_a_chip_mix.Facts] (m : (ℓ : Loc Cert.KernelAdMix0Ideal.nD Cert.KernelAdMix0Ideal.τ Cert.KernelAdMix0Ideal.sig) → Buf (Elt Ideal) ℓ) : Prop :=
  ∀ c : Dev Cert.KernelAdMix0Ideal.nD,
    (Cert.Pre_on_a_chip_mix.fn (F := Ideal) (m ((c.tc : Thread Cert.KernelAdMix0Ideal.nD Cert.KernelAdMix0Ideal.τ).loc Cert.KernelAdMix0Ideal.main_arg0)) (m ((c.tc : Thread Cert.KernelAdMix0Ideal.nD Cert.KernelAdMix0Ideal.τ).loc Cert.KernelAdMix0Ideal.main_arg1)) (m ((c.tc : Thread Cert.KernelAdMix0Ideal.nD Cert.KernelAdMix0Ideal.τ).loc Cert.KernelAdMix0Ideal.main_arg2)) (m ((c.tc : Thread Cert.KernelAdMix0Ideal.nD Cert.KernelAdMix0Ideal.τ).loc Cert.KernelAdMix0Ideal.main_arg3)) (m ((c.tc : Thread Cert.KernelAdMix0Ideal.nD Cert.KernelAdMix0Ideal.τ).loc Cert.KernelAdMix0Ideal.main_arg4)) (m ((c.tc : Thread Cert.KernelAdMix0Ideal.nD Cert.KernelAdMix0Ideal.τ).loc Cert.KernelAdMix0Ideal.main_arg5))) = (fun _ => 1#1)

def Pre_ReferenceAdMix0Ideal [hPre_on_a_chip_mix : Cert.Pre_on_a_chip_mix.Facts] (m : (ℓ : Loc Cert.ReferenceAdMix0Ideal.nD Cert.ReferenceAdMix0Ideal.τ Cert.ReferenceAdMix0Ideal.sig) → Buf (Elt Ideal) ℓ) : Prop :=
  ∀ c : Dev Cert.ReferenceAdMix0Ideal.nD,
    (Cert.Pre_on_a_chip_mix.fn (F := Ideal) (m ((c.tc : Thread Cert.ReferenceAdMix0Ideal.nD Cert.ReferenceAdMix0Ideal.τ).loc Cert.ReferenceAdMix0Ideal.main_arg0)) (m ((c.tc : Thread Cert.ReferenceAdMix0Ideal.nD Cert.ReferenceAdMix0Ideal.τ).loc Cert.ReferenceAdMix0Ideal.main_arg1)) (m ((c.tc : Thread Cert.ReferenceAdMix0Ideal.nD Cert.ReferenceAdMix0Ideal.τ).loc Cert.ReferenceAdMix0Ideal.main_arg2)) (m ((c.tc : Thread Cert.ReferenceAdMix0Ideal.nD Cert.ReferenceAdMix0Ideal.τ).loc Cert.ReferenceAdMix0Ideal.main_arg3)) (m ((c.tc : Thread Cert.ReferenceAdMix0Ideal.nD Cert.ReferenceAdMix0Ideal.τ).loc Cert.ReferenceAdMix0Ideal.main_arg4)) (m ((c.tc : Thread Cert.ReferenceAdMix0Ideal.nD Cert.ReferenceAdMix0Ideal.τ).loc Cert.ReferenceAdMix0Ideal.main_arg5))) = (fun _ => 1#1)

def Pre_KernelAdMix1 [hPre_on_a_chip_mix : Cert.Pre_on_a_chip_mix.Facts] (m : (ℓ : Loc Cert.KernelAdMix1.nD Cert.KernelAdMix1.τ Cert.KernelAdMix1.sig) → Buf (Elt Bits) ℓ) : Prop :=
  ∀ c : Dev Cert.KernelAdMix1.nD,
    (Cert.Pre_on_a_chip_mix.fn (F := Bits) (m ((c.tc : Thread Cert.KernelAdMix1.nD Cert.KernelAdMix1.τ).loc Cert.KernelAdMix1.main_arg0)) (m ((c.tc : Thread Cert.KernelAdMix1.nD Cert.KernelAdMix1.τ).loc Cert.KernelAdMix1.main_arg1)) (m ((c.tc : Thread Cert.KernelAdMix1.nD Cert.KernelAdMix1.τ).loc Cert.KernelAdMix1.main_arg2)) (m ((c.tc : Thread Cert.KernelAdMix1.nD Cert.KernelAdMix1.τ).loc Cert.KernelAdMix1.main_arg3)) (m ((c.tc : Thread Cert.KernelAdMix1.nD Cert.KernelAdMix1.τ).loc Cert.KernelAdMix1.main_arg4)) (m ((c.tc : Thread Cert.KernelAdMix1.nD Cert.KernelAdMix1.τ).loc Cert.KernelAdMix1.main_arg5))) = (fun _ => 1#1)

def Pre_KernelAdMix1Ideal [hPre_on_a_chip_mix : Cert.Pre_on_a_chip_mix.Facts] (m : (ℓ : Loc Cert.KernelAdMix1Ideal.nD Cert.KernelAdMix1Ideal.τ Cert.KernelAdMix1Ideal.sig) → Buf (Elt Ideal) ℓ) : Prop :=
  ∀ c : Dev Cert.KernelAdMix1Ideal.nD,
    (Cert.Pre_on_a_chip_mix.fn (F := Ideal) (m ((c.tc : Thread Cert.KernelAdMix1Ideal.nD Cert.KernelAdMix1Ideal.τ).loc Cert.KernelAdMix1Ideal.main_arg0)) (m ((c.tc : Thread Cert.KernelAdMix1Ideal.nD Cert.KernelAdMix1Ideal.τ).loc Cert.KernelAdMix1Ideal.main_arg1)) (m ((c.tc : Thread Cert.KernelAdMix1Ideal.nD Cert.KernelAdMix1Ideal.τ).loc Cert.KernelAdMix1Ideal.main_arg2)) (m ((c.tc : Thread Cert.KernelAdMix1Ideal.nD Cert.KernelAdMix1Ideal.τ).loc Cert.KernelAdMix1Ideal.main_arg3)) (m ((c.tc : Thread Cert.KernelAdMix1Ideal.nD Cert.KernelAdMix1Ideal.τ).loc Cert.KernelAdMix1Ideal.main_arg4)) (m ((c.tc : Thread Cert.KernelAdMix1Ideal.nD Cert.KernelAdMix1Ideal.τ).loc Cert.KernelAdMix1Ideal.main_arg5))) = (fun _ => 1#1)

def Pre_ReferenceAdMix1Ideal [hPre_on_a_chip_mix : Cert.Pre_on_a_chip_mix.Facts] (m : (ℓ : Loc Cert.ReferenceAdMix1Ideal.nD Cert.ReferenceAdMix1Ideal.τ Cert.ReferenceAdMix1Ideal.sig) → Buf (Elt Ideal) ℓ) : Prop :=
  ∀ c : Dev Cert.ReferenceAdMix1Ideal.nD,
    (Cert.Pre_on_a_chip_mix.fn (F := Ideal) (m ((c.tc : Thread Cert.ReferenceAdMix1Ideal.nD Cert.ReferenceAdMix1Ideal.τ).loc Cert.ReferenceAdMix1Ideal.main_arg0)) (m ((c.tc : Thread Cert.ReferenceAdMix1Ideal.nD Cert.ReferenceAdMix1Ideal.τ).loc Cert.ReferenceAdMix1Ideal.main_arg1)) (m ((c.tc : Thread Cert.ReferenceAdMix1Ideal.nD Cert.ReferenceAdMix1Ideal.τ).loc Cert.ReferenceAdMix1Ideal.main_arg2)) (m ((c.tc : Thread Cert.ReferenceAdMix1Ideal.nD Cert.ReferenceAdMix1Ideal.τ).loc Cert.ReferenceAdMix1Ideal.main_arg3)) (m ((c.tc : Thread Cert.ReferenceAdMix1Ideal.nD Cert.ReferenceAdMix1Ideal.τ).loc Cert.ReferenceAdMix1Ideal.main_arg4)) (m ((c.tc : Thread Cert.ReferenceAdMix1Ideal.nD Cert.ReferenceAdMix1Ideal.τ).loc Cert.ReferenceAdMix1Ideal.main_arg5))) = (fun _ => 1#1)

def Pre_KernelAdMix2 [hPre_on_a_chip_mix : Cert.Pre_on_a_chip_mix.Facts] (m : (ℓ : Loc Cert.KernelAdMix2.nD Cert.KernelAdMix2.τ Cert.KernelAdMix2.sig) → Buf (Elt Bits) ℓ) : Prop :=
  ∀ c : Dev Cert.KernelAdMix2.nD,
    (Cert.Pre_on_a_chip_mix.fn (F := Bits) (m ((c.tc : Thread Cert.KernelAdMix2.nD Cert.KernelAdMix2.τ).loc Cert.KernelAdMix2.main_arg0)) (m ((c.tc : Thread Cert.KernelAdMix2.nD Cert.KernelAdMix2.τ).loc Cert.KernelAdMix2.main_arg1)) (m ((c.tc : Thread Cert.KernelAdMix2.nD Cert.KernelAdMix2.τ).loc Cert.KernelAdMix2.main_arg2)) (m ((c.tc : Thread Cert.KernelAdMix2.nD Cert.KernelAdMix2.τ).loc Cert.KernelAdMix2.main_arg3)) (m ((c.tc : Thread Cert.KernelAdMix2.nD Cert.KernelAdMix2.τ).loc Cert.KernelAdMix2.main_arg4)) (m ((c.tc : Thread Cert.KernelAdMix2.nD Cert.KernelAdMix2.τ).loc Cert.KernelAdMix2.main_arg5))) = (fun _ => 1#1)

def Pre_KernelAdMix2Ideal [hPre_on_a_chip_mix : Cert.Pre_on_a_chip_mix.Facts] (m : (ℓ : Loc Cert.KernelAdMix2Ideal.nD Cert.KernelAdMix2Ideal.τ Cert.KernelAdMix2Ideal.sig) → Buf (Elt Ideal) ℓ) : Prop :=
  ∀ c : Dev Cert.KernelAdMix2Ideal.nD,
    (Cert.Pre_on_a_chip_mix.fn (F := Ideal) (m ((c.tc : Thread Cert.KernelAdMix2Ideal.nD Cert.KernelAdMix2Ideal.τ).loc Cert.KernelAdMix2Ideal.main_arg0)) (m ((c.tc : Thread Cert.KernelAdMix2Ideal.nD Cert.KernelAdMix2Ideal.τ).loc Cert.KernelAdMix2Ideal.main_arg1)) (m ((c.tc : Thread Cert.KernelAdMix2Ideal.nD Cert.KernelAdMix2Ideal.τ).loc Cert.KernelAdMix2Ideal.main_arg2)) (m ((c.tc : Thread Cert.KernelAdMix2Ideal.nD Cert.KernelAdMix2Ideal.τ).loc Cert.KernelAdMix2Ideal.main_arg3)) (m ((c.tc : Thread Cert.KernelAdMix2Ideal.nD Cert.KernelAdMix2Ideal.τ).loc Cert.KernelAdMix2Ideal.main_arg4)) (m ((c.tc : Thread Cert.KernelAdMix2Ideal.nD Cert.KernelAdMix2Ideal.τ).loc Cert.KernelAdMix2Ideal.main_arg5))) = (fun _ => 1#1)

def Pre_ReferenceAdMix2Ideal [hPre_on_a_chip_mix : Cert.Pre_on_a_chip_mix.Facts] (m : (ℓ : Loc Cert.ReferenceAdMix2Ideal.nD Cert.ReferenceAdMix2Ideal.τ Cert.ReferenceAdMix2Ideal.sig) → Buf (Elt Ideal) ℓ) : Prop :=
  ∀ c : Dev Cert.ReferenceAdMix2Ideal.nD,
    (Cert.Pre_on_a_chip_mix.fn (F := Ideal) (m ((c.tc : Thread Cert.ReferenceAdMix2Ideal.nD Cert.ReferenceAdMix2Ideal.τ).loc Cert.ReferenceAdMix2Ideal.main_arg0)) (m ((c.tc : Thread Cert.ReferenceAdMix2Ideal.nD Cert.ReferenceAdMix2Ideal.τ).loc Cert.ReferenceAdMix2Ideal.main_arg1)) (m ((c.tc : Thread Cert.ReferenceAdMix2Ideal.nD Cert.ReferenceAdMix2Ideal.τ).loc Cert.ReferenceAdMix2Ideal.main_arg2)) (m ((c.tc : Thread Cert.ReferenceAdMix2Ideal.nD Cert.ReferenceAdMix2Ideal.τ).loc Cert.ReferenceAdMix2Ideal.main_arg3)) (m ((c.tc : Thread Cert.ReferenceAdMix2Ideal.nD Cert.ReferenceAdMix2Ideal.τ).loc Cert.ReferenceAdMix2Ideal.main_arg4)) (m ((c.tc : Thread Cert.ReferenceAdMix2Ideal.nD Cert.ReferenceAdMix2Ideal.τ).loc Cert.ReferenceAdMix2Ideal.main_arg5))) = (fun _ => 1#1)

def Pre_KernelAdCross0 [hPre_on_a_chip_cross : Cert.Pre_on_a_chip_cross.Facts] (m : (ℓ : Loc Cert.KernelAdCross0.nD Cert.KernelAdCross0.τ Cert.KernelAdCross0.sig) → Buf (Elt Bits) ℓ) : Prop :=
  ∀ c : Dev Cert.KernelAdCross0.nD,
    (Cert.Pre_on_a_chip_cross.fn (F := Bits) (m ((c.tc : Thread Cert.KernelAdCross0.nD Cert.KernelAdCross0.τ).loc Cert.KernelAdCross0.main_arg0)) (m ((c.tc : Thread Cert.KernelAdCross0.nD Cert.KernelAdCross0.τ).loc Cert.KernelAdCross0.main_arg1)) (m ((c.tc : Thread Cert.KernelAdCross0.nD Cert.KernelAdCross0.τ).loc Cert.KernelAdCross0.main_arg2)) (m ((c.tc : Thread Cert.KernelAdCross0.nD Cert.KernelAdCross0.τ).loc Cert.KernelAdCross0.main_arg3)) (m ((c.tc : Thread Cert.KernelAdCross0.nD Cert.KernelAdCross0.τ).loc Cert.KernelAdCross0.main_arg4)) (m ((c.tc : Thread Cert.KernelAdCross0.nD Cert.KernelAdCross0.τ).loc Cert.KernelAdCross0.main_arg5))) = (fun _ => 1#1)

def Pre_KernelAdCross0Ideal [hPre_on_a_chip_cross : Cert.Pre_on_a_chip_cross.Facts] (m : (ℓ : Loc Cert.KernelAdCross0Ideal.nD Cert.KernelAdCross0Ideal.τ Cert.KernelAdCross0Ideal.sig) → Buf (Elt Ideal) ℓ) : Prop :=
  ∀ c : Dev Cert.KernelAdCross0Ideal.nD,
    (Cert.Pre_on_a_chip_cross.fn (F := Ideal) (m ((c.tc : Thread Cert.KernelAdCross0Ideal.nD Cert.KernelAdCross0Ideal.τ).loc Cert.KernelAdCross0Ideal.main_arg0)) (m ((c.tc : Thread Cert.KernelAdCross0Ideal.nD Cert.KernelAdCross0Ideal.τ).loc Cert.KernelAdCross0Ideal.main_arg1)) (m ((c.tc : Thread Cert.KernelAdCross0Ideal.nD Cert.KernelAdCross0Ideal.τ).loc Cert.KernelAdCross0Ideal.main_arg2)) (m ((c.tc : Thread Cert.KernelAdCross0Ideal.nD Cert.KernelAdCross0Ideal.τ).loc Cert.KernelAdCross0Ideal.main_arg3)) (m ((c.tc : Thread Cert.KernelAdCross0Ideal.nD Cert.KernelAdCross0Ideal.τ).loc Cert.KernelAdCross0Ideal.main_arg4)) (m ((c.tc : Thread Cert.KernelAdCross0Ideal.nD Cert.KernelAdCross0Ideal.τ).loc Cert.KernelAdCross0Ideal.main_arg5))) = (fun _ => 1#1)

def Pre_ReferenceAdCross0Ideal [hPre_on_a_chip_cross : Cert.Pre_on_a_chip_cross.Facts] (m : (ℓ : Loc Cert.ReferenceAdCross0Ideal.nD Cert.ReferenceAdCross0Ideal.τ Cert.ReferenceAdCross0Ideal.sig) → Buf (Elt Ideal) ℓ) : Prop :=
  ∀ c : Dev Cert.ReferenceAdCross0Ideal.nD,
    (Cert.Pre_on_a_chip_cross.fn (F := Ideal) (m ((c.tc : Thread Cert.ReferenceAdCross0Ideal.nD Cert.ReferenceAdCross0Ideal.τ).loc Cert.ReferenceAdCross0Ideal.main_arg0)) (m ((c.tc : Thread Cert.ReferenceAdCross0Ideal.nD Cert.ReferenceAdCross0Ideal.τ).loc Cert.ReferenceAdCross0Ideal.main_arg1)) (m ((c.tc : Thread Cert.ReferenceAdCross0Ideal.nD Cert.ReferenceAdCross0Ideal.τ).loc Cert.ReferenceAdCross0Ideal.main_arg2)) (m ((c.tc : Thread Cert.ReferenceAdCross0Ideal.nD Cert.ReferenceAdCross0Ideal.τ).loc Cert.ReferenceAdCross0Ideal.main_arg3)) (m ((c.tc : Thread Cert.ReferenceAdCross0Ideal.nD Cert.ReferenceAdCross0Ideal.τ).loc Cert.ReferenceAdCross0Ideal.main_arg4)) (m ((c.tc : Thread Cert.ReferenceAdCross0Ideal.nD Cert.ReferenceAdCross0Ideal.τ).loc Cert.ReferenceAdCross0Ideal.main_arg5))) = (fun _ => 1#1)

def Pre_KernelAdCross1 [hPre_on_a_chip_cross : Cert.Pre_on_a_chip_cross.Facts] (m : (ℓ : Loc Cert.KernelAdCross1.nD Cert.KernelAdCross1.τ Cert.KernelAdCross1.sig) → Buf (Elt Bits) ℓ) : Prop :=
  ∀ c : Dev Cert.KernelAdCross1.nD,
    (Cert.Pre_on_a_chip_cross.fn (F := Bits) (m ((c.tc : Thread Cert.KernelAdCross1.nD Cert.KernelAdCross1.τ).loc Cert.KernelAdCross1.main_arg0)) (m ((c.tc : Thread Cert.KernelAdCross1.nD Cert.KernelAdCross1.τ).loc Cert.KernelAdCross1.main_arg1)) (m ((c.tc : Thread Cert.KernelAdCross1.nD Cert.KernelAdCross1.τ).loc Cert.KernelAdCross1.main_arg2)) (m ((c.tc : Thread Cert.KernelAdCross1.nD Cert.KernelAdCross1.τ).loc Cert.KernelAdCross1.main_arg3)) (m ((c.tc : Thread Cert.KernelAdCross1.nD Cert.KernelAdCross1.τ).loc Cert.KernelAdCross1.main_arg4)) (m ((c.tc : Thread Cert.KernelAdCross1.nD Cert.KernelAdCross1.τ).loc Cert.KernelAdCross1.main_arg5))) = (fun _ => 1#1)

def Pre_KernelAdCross1Ideal [hPre_on_a_chip_cross : Cert.Pre_on_a_chip_cross.Facts] (m : (ℓ : Loc Cert.KernelAdCross1Ideal.nD Cert.KernelAdCross1Ideal.τ Cert.KernelAdCross1Ideal.sig) → Buf (Elt Ideal) ℓ) : Prop :=
  ∀ c : Dev Cert.KernelAdCross1Ideal.nD,
    (Cert.Pre_on_a_chip_cross.fn (F := Ideal) (m ((c.tc : Thread Cert.KernelAdCross1Ideal.nD Cert.KernelAdCross1Ideal.τ).loc Cert.KernelAdCross1Ideal.main_arg0)) (m ((c.tc : Thread Cert.KernelAdCross1Ideal.nD Cert.KernelAdCross1Ideal.τ).loc Cert.KernelAdCross1Ideal.main_arg1)) (m ((c.tc : Thread Cert.KernelAdCross1Ideal.nD Cert.KernelAdCross1Ideal.τ).loc Cert.KernelAdCross1Ideal.main_arg2)) (m ((c.tc : Thread Cert.KernelAdCross1Ideal.nD Cert.KernelAdCross1Ideal.τ).loc Cert.KernelAdCross1Ideal.main_arg3)) (m ((c.tc : Thread Cert.KernelAdCross1Ideal.nD Cert.KernelAdCross1Ideal.τ).loc Cert.KernelAdCross1Ideal.main_arg4)) (m ((c.tc : Thread Cert.KernelAdCross1Ideal.nD Cert.KernelAdCross1Ideal.τ).loc Cert.KernelAdCross1Ideal.main_arg5))) = (fun _ => 1#1)

def Pre_ReferenceAdCross1Ideal [hPre_on_a_chip_cross : Cert.Pre_on_a_chip_cross.Facts] (m : (ℓ : Loc Cert.ReferenceAdCross1Ideal.nD Cert.ReferenceAdCross1Ideal.τ Cert.ReferenceAdCross1Ideal.sig) → Buf (Elt Ideal) ℓ) : Prop :=
  ∀ c : Dev Cert.ReferenceAdCross1Ideal.nD,
    (Cert.Pre_on_a_chip_cross.fn (F := Ideal) (m ((c.tc : Thread Cert.ReferenceAdCross1Ideal.nD Cert.ReferenceAdCross1Ideal.τ).loc Cert.ReferenceAdCross1Ideal.main_arg0)) (m ((c.tc : Thread Cert.ReferenceAdCross1Ideal.nD Cert.ReferenceAdCross1Ideal.τ).loc Cert.ReferenceAdCross1Ideal.main_arg1)) (m ((c.tc : Thread Cert.ReferenceAdCross1Ideal.nD Cert.ReferenceAdCross1Ideal.τ).loc Cert.ReferenceAdCross1Ideal.main_arg2)) (m ((c.tc : Thread Cert.ReferenceAdCross1Ideal.nD Cert.ReferenceAdCross1Ideal.τ).loc Cert.ReferenceAdCross1Ideal.main_arg3)) (m ((c.tc : Thread Cert.ReferenceAdCross1Ideal.nD Cert.ReferenceAdCross1Ideal.τ).loc Cert.ReferenceAdCross1Ideal.main_arg4)) (m ((c.tc : Thread Cert.ReferenceAdCross1Ideal.nD Cert.ReferenceAdCross1Ideal.τ).loc Cert.ReferenceAdCross1Ideal.main_arg5))) = (fun _ => 1#1)

def Pre_KernelAdGu [hPre_on_a_chip_gu : Cert.Pre_on_a_chip_gu.Facts] (m : (ℓ : Loc Cert.KernelAdGu.nD Cert.KernelAdGu.τ Cert.KernelAdGu.sig) → Buf (Elt Bits) ℓ) : Prop :=
  ∀ c : Dev Cert.KernelAdGu.nD,
    (Cert.Pre_on_a_chip_gu.fn (F := Bits) (m ((c.tc : Thread Cert.KernelAdGu.nD Cert.KernelAdGu.τ).loc Cert.KernelAdGu.main_arg0)) (m ((c.tc : Thread Cert.KernelAdGu.nD Cert.KernelAdGu.τ).loc Cert.KernelAdGu.main_arg1)) (m ((c.tc : Thread Cert.KernelAdGu.nD Cert.KernelAdGu.τ).loc Cert.KernelAdGu.main_arg2)) (m ((c.tc : Thread Cert.KernelAdGu.nD Cert.KernelAdGu.τ).loc Cert.KernelAdGu.main_arg3)) (m ((c.tc : Thread Cert.KernelAdGu.nD Cert.KernelAdGu.τ).loc Cert.KernelAdGu.main_arg4)) (m ((c.tc : Thread Cert.KernelAdGu.nD Cert.KernelAdGu.τ).loc Cert.KernelAdGu.main_arg5))) = (fun _ => 1#1)

def Pre_KernelAdGuIdeal [hPre_on_a_chip_gu : Cert.Pre_on_a_chip_gu.Facts] (m : (ℓ : Loc Cert.KernelAdGuIdeal.nD Cert.KernelAdGuIdeal.τ Cert.KernelAdGuIdeal.sig) → Buf (Elt Ideal) ℓ) : Prop :=
  ∀ c : Dev Cert.KernelAdGuIdeal.nD,
    (Cert.Pre_on_a_chip_gu.fn (F := Ideal) (m ((c.tc : Thread Cert.KernelAdGuIdeal.nD Cert.KernelAdGuIdeal.τ).loc Cert.KernelAdGuIdeal.main_arg0)) (m ((c.tc : Thread Cert.KernelAdGuIdeal.nD Cert.KernelAdGuIdeal.τ).loc Cert.KernelAdGuIdeal.main_arg1)) (m ((c.tc : Thread Cert.KernelAdGuIdeal.nD Cert.KernelAdGuIdeal.τ).loc Cert.KernelAdGuIdeal.main_arg2)) (m ((c.tc : Thread Cert.KernelAdGuIdeal.nD Cert.KernelAdGuIdeal.τ).loc Cert.KernelAdGuIdeal.main_arg3)) (m ((c.tc : Thread Cert.KernelAdGuIdeal.nD Cert.KernelAdGuIdeal.τ).loc Cert.KernelAdGuIdeal.main_arg4)) (m ((c.tc : Thread Cert.KernelAdGuIdeal.nD Cert.KernelAdGuIdeal.τ).loc Cert.KernelAdGuIdeal.main_arg5))) = (fun _ => 1#1)

def Pre_ReferenceAdGuIdeal [hPre_on_a_chip_gu : Cert.Pre_on_a_chip_gu.Facts] (m : (ℓ : Loc Cert.ReferenceAdGuIdeal.nD Cert.ReferenceAdGuIdeal.τ Cert.ReferenceAdGuIdeal.sig) → Buf (Elt Ideal) ℓ) : Prop :=
  ∀ c : Dev Cert.ReferenceAdGuIdeal.nD,
    (Cert.Pre_on_a_chip_gu.fn (F := Ideal) (m ((c.tc : Thread Cert.ReferenceAdGuIdeal.nD Cert.ReferenceAdGuIdeal.τ).loc Cert.ReferenceAdGuIdeal.main_arg0)) (m ((c.tc : Thread Cert.ReferenceAdGuIdeal.nD Cert.ReferenceAdGuIdeal.τ).loc Cert.ReferenceAdGuIdeal.main_arg1)) (m ((c.tc : Thread Cert.ReferenceAdGuIdeal.nD Cert.ReferenceAdGuIdeal.τ).loc Cert.ReferenceAdGuIdeal.main_arg2)) (m ((c.tc : Thread Cert.ReferenceAdGuIdeal.nD Cert.ReferenceAdGuIdeal.τ).loc Cert.ReferenceAdGuIdeal.main_arg3)) (m ((c.tc : Thread Cert.ReferenceAdGuIdeal.nD Cert.ReferenceAdGuIdeal.τ).loc Cert.ReferenceAdGuIdeal.main_arg4)) (m ((c.tc : Thread Cert.ReferenceAdGuIdeal.nD Cert.ReferenceAdGuIdeal.τ).loc Cert.ReferenceAdGuIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1)
      ∧ r.2.mem ((c.tc : Thread Cert.KernelGu.nD Cert.KernelGu.τ).loc Cert.KernelGu.main_arg2) = m ((c.tc : Thread Cert.KernelGu.nD Cert.KernelGu.τ).loc Cert.KernelGu.main_arg2))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
      ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6))
      ∧ r.2.sem = fun _ => 0)

def quiescent_KernelCross [hKernelCross : Cert.KernelCross.Facts] : Prop :=
  ∀ (m : (ℓ : Loc Cert.KernelCross.nD Cert.KernelCross.τ Cert.KernelCross.sig) → Buf (Elt Bits) ℓ) (g : Dev Cert.KernelCross.nD → PrngReg), Pre_KernelCross m →
    θ_run (Cert.KernelCross.defs (F := Bits)) (onTc (τ := Cert.KernelCross.τ) (Cert.KernelCross.main (F := Bits))) ⟨m, fun _ => 0, g⟩ (fun r => (∀ c : Dev Cert.KernelCross.nD,
      r.2.mem ((c.tc : Thread Cert.KernelCross.nD Cert.KernelCross.τ).loc Cert.KernelCross.main_arg0) = m ((c.tc : Thread Cert.KernelCross.nD Cert.KernelCross.τ).loc Cert.KernelCross.main_arg0)
      ∧ r.2.mem ((c.tc : Thread Cert.KernelCross.nD Cert.KernelCross.τ).loc Cert.KernelCross.main_arg1) = m ((c.tc : Thread Cert.KernelCross.nD Cert.KernelCross.τ).loc Cert.KernelCross.main_arg1)
      ∧ r.2.mem ((c.tc : Thread Cert.KernelCross.nD Cert.KernelCross.τ).loc Cert.KernelCross.main_arg2) = m ((c.tc : Thread Cert.KernelCross.nD Cert.KernelCross.τ).loc Cert.KernelCross.main_arg2)
      ∧ r.2.mem ((c.tc : Thread Cert.KernelCross.nD Cert.KernelCross.τ).loc Cert.KernelCross.main_arg3) = m ((c.tc : Thread Cert.KernelCross.nD Cert.KernelCross.τ).loc Cert.KernelCross.main_arg3)
      ∧ r.2.mem ((c.tc : Thread Cert.KernelCross.nD Cert.KernelCross.τ).loc Cert.KernelCross.main_arg4) = m ((c.tc : Thread Cert.KernelCross.nD Cert.KernelCross.τ).loc Cert.KernelCross.main_arg4))
      ∧ r.2.sem = fun _ => 0)

def quiescent_KernelCrossIdeal [hKernelCrossIdeal : Cert.KernelCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg), Pre_KernelCrossIdeal m →
    θ_run (Cert.KernelCrossIdeal.defs (F := Ideal)) (onTc (τ := Cert.KernelCrossIdeal.τ) (Cert.KernelCrossIdeal.main (F := Ideal))) ⟨m, fun _ => 0, g⟩ (fun r => (∀ c : Dev Cert.KernelCrossIdeal.nD,
      r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
      ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
      ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
      ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
      ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ r.2.sem = fun _ => 0)

def quiescent_ReferenceCrossIdeal [hReferenceCrossIdeal : Cert.ReferenceCrossIdeal.Facts] : Prop :=
  ∀ (m : (ℓ : Loc Cert.ReferenceCrossIdeal.nD Cert.ReferenceCrossIdeal.τ Cert.ReferenceCrossIdeal.sig) → Buf (Elt Ideal) ℓ) (g : Dev Cert.ReferenceCrossIdeal.nD → PrngReg), Pre_ReferenceCrossIdeal m →
    θ_run (Cert.ReferenceCrossIdeal.defs (F := Ideal)) (onTc (τ := Cert.ReferenceCrossIdeal.τ) (Cert.ReferenceCrossIdeal.main (F := Ideal))) ⟨m, fun _ => 0, g⟩ (fun r => (∀ c : Dev Cert.ReferenceCrossIdeal.nD,
      r.2.mem ((c.tc : Thread Cert.ReferenceCrossIdeal.nD Cert.ReferenceCrossIdeal.τ).loc Cert.ReferenceCrossIdeal.main_arg0) = m ((c.tc : Thread Cert.ReferenceCrossIdeal.nD Cert.ReferenceCrossIdeal.τ).loc Cert.ReferenceCrossIdeal.main_arg0)
      ∧ r.2.mem ((c.tc : Thread Cert.ReferenceCrossIdeal.nD Cert.ReferenceCrossIdeal.τ).loc Cert.ReferenceCrossIdeal.main_arg1) = m ((c.tc : Thread Cert.ReferenceCrossIdeal.nD Cert.ReferenceCrossIdeal.τ).loc Cert.ReferenceCrossIdeal.main_arg1)
      ∧ r.2.mem ((c.tc : Thread Cert.ReferenceCrossIdeal.nD Cert.ReferenceCrossIdeal.τ).loc Cert.ReferenceCrossIdeal.main_arg2) = m ((c.tc : Thread Cert.ReferenceCrossIdeal.nD Cert.ReferenceCrossIdeal.τ).loc Cert.ReferenceCrossIdeal.main_arg2)
      ∧ r.2.mem ((c.tc : Thread Cert.ReferenceCrossIdeal.nD Cert.ReferenceCrossIdeal.τ).loc Cert.ReferenceCrossIdeal.main_arg3) = m ((c.tc : Thread Cert.ReferenceCrossIdeal.nD Cert.ReferenceCrossIdeal.τ).loc Cert.ReferenceCrossIdeal.main_arg3)
      ∧ r.2.mem ((c.tc : Thread Cert.ReferenceCrossIdeal.nD Cert.ReferenceCrossIdeal.τ).loc Cert.ReferenceCrossIdeal.main_arg4) = m ((c.tc : Thread Cert.ReferenceCrossIdeal.nD Cert.ReferenceCrossIdeal.τ).loc Cert.ReferenceCrossIdeal.main_arg4))
      ∧ r.2.sem = fun _ => 0)

def quiescent_KernelCkv [hKernelCkv : Cert.KernelCkv.Facts] : Prop :=
  ∀ (m : (ℓ : Loc Cert.KernelCkv.nD Cert.KernelCkv.τ Cert.KernelCkv.sig) → Buf (Elt Bits) ℓ) (g : Dev Cert.KernelCkv.nD → PrngReg), Pre_KernelCkv m →
    θ_run (Cert.KernelCkv.defs (F := Bits)) (onTc (τ := Cert.KernelCkv.τ) (Cert.KernelCkv.main (F := Bits))) ⟨m, fun _ => 0, g⟩ (fun r => (∀ c : Dev Cert.KernelCkv.nD,
      r.2.mem ((c.tc : Thread Cert.KernelCkv.nD Cert.KernelCkv.τ).loc Cert.KernelCkv.main_arg0) = m ((c.tc : Thread Cert.KernelCkv.nD Cert.KernelCkv.τ).loc Cert.KernelCkv.main_arg0)
      ∧ r.2.mem ((c.tc : Thread Cert.KernelCkv.nD Cert.KernelCkv.τ).loc Cert.KernelCkv.main_arg1) = m ((c.tc : Thread Cert.KernelCkv.nD Cert.KernelCkv.τ).loc Cert.KernelCkv.main_arg1)
      ∧ r.2.mem ((c.tc : Thread Cert.KernelCkv.nD Cert.KernelCkv.τ).loc Cert.KernelCkv.main_arg2) = m ((c.tc : Thread Cert.KernelCkv.nD Cert.KernelCkv.τ).loc Cert.KernelCkv.main_arg2))
      ∧ r.2.sem = fun _ => 0)

def quiescent_KernelCkvIdeal [hKernelCkvIdeal : Cert.KernelCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg), Pre_KernelCkvIdeal m →
    θ_run (Cert.KernelCkvIdeal.defs (F := Ideal)) (onTc (τ := Cert.KernelCkvIdeal.τ) (Cert.KernelCkvIdeal.main (F := Ideal))) ⟨m, fun _ => 0, g⟩ (fun r => (∀ c : Dev Cert.KernelCkvIdeal.nD,
      r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
      ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1)
      ∧ r.2.mem ((c.tc : Thread Cert.KernelCkvIdeal.nD Cert.KernelCkvIdeal.τ).loc Cert.KernelCkvIdeal.main_arg2) = m ((c.tc : Thread Cert.KernelCkvIdeal.nD Cert.KernelCkvIdeal.τ).loc Cert.KernelCkvIdeal.main_arg2))
      ∧ r.2.sem = fun _ => 0)

def quiescent_ReferenceCkvIdeal [hReferenceCkvIdeal : Cert.ReferenceCkvIdeal.Facts] : Prop :=
  ∀ (m : (ℓ : Loc Cert.ReferenceCkvIdeal.nD Cert.ReferenceCkvIdeal.τ Cert.ReferenceCkvIdeal.sig) → Buf (Elt Ideal) ℓ) (g : Dev Cert.ReferenceCkvIdeal.nD → PrngReg), Pre_ReferenceCkvIdeal m →
    θ_run (Cert.ReferenceCkvIdeal.defs (F := Ideal)) (onTc (τ := Cert.ReferenceCkvIdeal.τ) (Cert.ReferenceCkvIdeal.main (F := Ideal))) ⟨m, fun _ => 0, g⟩ (fun r => (∀ c : Dev Cert.ReferenceCkvIdeal.nD,
      r.2.mem ((c.tc : Thread Cert.ReferenceCkvIdeal.nD Cert.ReferenceCkvIdeal.τ).loc Cert.ReferenceCkvIdeal.main_arg0) = m ((c.tc : Thread Cert.ReferenceCkvIdeal.nD Cert.ReferenceCkvIdeal.τ).loc Cert.ReferenceCkvIdeal.main_arg0)
      ∧ r.2.mem ((c.tc : Thread Cert.ReferenceCkvIdeal.nD Cert.ReferenceCkvIdeal.τ).loc Cert.ReferenceCkvIdeal.main_arg1) = m ((c.tc : Thread Cert.ReferenceCkvIdeal.nD Cert.ReferenceCkvIdeal.τ).loc Cert.ReferenceCkvIdeal.main_arg1)
      ∧ r.2.mem ((c.tc : Thread Cert.ReferenceCkvIdeal.nD Cert.ReferenceCkvIdeal.τ).loc Cert.ReferenceCkvIdeal.main_arg2) = m ((c.tc : Thread Cert.ReferenceCkvIdeal.nD Cert.ReferenceCkvIdeal.τ).loc Cert.ReferenceCkvIdeal.main_arg2))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelInb [hKernelInb : Cert.KernelInb.Facts] : Prop :=
  ∀ (m : (ℓ : Loc Cert.KernelInb.nD Cert.KernelInb.τ Cert.KernelInb.sig) → Buf (Elt Bits) ℓ) (g : Dev Cert.KernelInb.nD → PrngReg), Pre_KernelInb m →
    θ_run (Cert.KernelInb.defs (F := Bits)) (onTc (τ := Cert.KernelInb.τ) (Cert.KernelInb.main (F := Bits))) ⟨m, fun _ => 0, g⟩ (fun r => (∀ c : Dev Cert.KernelInb.nD,
      r.2.mem ((c.tc : Thread Cert.KernelInb.nD Cert.KernelInb.τ).loc Cert.KernelInb.main_arg0) = m ((c.tc : Thread Cert.KernelInb.nD Cert.KernelInb.τ).loc Cert.KernelInb.main_arg0)
      ∧ r.2.mem ((c.tc : Thread Cert.KernelInb.nD Cert.KernelInb.τ).loc Cert.KernelInb.main_arg1) = m ((c.tc : Thread Cert.KernelInb.nD Cert.KernelInb.τ).loc Cert.KernelInb.main_arg1)
      ∧ r.2.mem ((c.tc : Thread Cert.KernelInb.nD Cert.KernelInb.τ).loc Cert.KernelInb.main_arg2) = m ((c.tc : Thread Cert.KernelInb.nD Cert.KernelInb.τ).loc Cert.KernelInb.main_arg2)
      ∧ r.2.mem ((c.tc : Thread Cert.KernelInb.nD Cert.KernelInb.τ).loc Cert.KernelInb.main_arg3) = m ((c.tc : Thread Cert.KernelInb.nD Cert.KernelInb.τ).loc Cert.KernelInb.main_arg3)
      ∧ r.2.mem ((c.tc : Thread Cert.KernelInb.nD Cert.KernelInb.τ).loc Cert.KernelInb.main_arg4) = m ((c.tc : Thread Cert.KernelInb.nD Cert.KernelInb.τ).loc Cert.KernelInb.main_arg4)
      ∧ r.2.mem ((c.tc : Thread Cert.KernelInb.nD Cert.KernelInb.τ).loc Cert.KernelInb.main_arg5) = m ((c.tc : Thread Cert.KernelInb.nD Cert.KernelInb.τ).loc Cert.KernelInb.main_arg5)
      ∧ r.2.mem ((c.tc : Thread Cert.KernelInb.nD Cert.KernelInb.τ).loc Cert.KernelInb.main_arg6) = m ((c.tc : Thread Cert.KernelInb.nD Cert.KernelInb.τ).loc Cert.KernelInb.main_arg6)
      ∧ r.2.mem ((c.tc : Thread Cert.KernelInb.nD Cert.KernelInb.τ).loc Cert.KernelInb.main_arg7) = m ((c.tc : Thread Cert.KernelInb.nD Cert.KernelInb.τ).loc Cert.KernelInb.main_arg7))
      ∧ r.2.sem = fun _ => 0)

def quiescent_KernelInbIdeal [hKernelInbIdeal : Cert.KernelInbIdeal.Facts] : Prop :=
  ∀ (m : (ℓ : Loc Cert.KernelInbIdeal.nD Cert.KernelInbIdeal.τ Cert.KernelInbIdeal.sig) → Buf (Elt Ideal) ℓ) (g : Dev Cert.KernelInbIdeal.nD → PrngReg), Pre_KernelInbIdeal m →
    θ_run (Cert.KernelInbIdeal.defs (F := Ideal)) (onTc (τ := Cert.KernelInbIdeal.τ) (Cert.KernelInbIdeal.main (F := Ideal))) ⟨m, fun _ => 0, g⟩ (fun r => (∀ c : Dev Cert.KernelInbIdeal.nD,
      r.2.mem ((c.tc : Thread Cert.KernelInbIdeal.nD Cert.KernelInbIdeal.τ).loc Cert.KernelInbIdeal.main_arg0) = m ((c.tc : Thread Cert.KernelInbIdeal.nD Cert.KernelInbIdeal.τ).loc Cert.KernelInbIdeal.main_arg0)
      ∧ r.2.mem ((c.tc : Thread Cert.KernelInbIdeal.nD Cert.KernelInbIdeal.τ).loc Cert.KernelInbIdeal.main_arg1) = m ((c.tc : Thread Cert.KernelInbIdeal.nD Cert.KernelInbIdeal.τ).loc Cert.KernelInbIdeal.main_arg1)
      ∧ r.2.mem ((c.tc : Thread Cert.KernelInbIdeal.nD Cert.KernelInbIdeal.τ).loc Cert.KernelInbIdeal.main_arg2) = m ((c.tc : Thread Cert.KernelInbIdeal.nD Cert.KernelInbIdeal.τ).loc Cert.KernelInbIdeal.main_arg2)
      ∧ r.2.mem ((c.tc : Thread Cert.KernelInbIdeal.nD Cert.KernelInbIdeal.τ).loc Cert.KernelInbIdeal.main_arg3) = m ((c.tc : Thread Cert.KernelInbIdeal.nD Cert.KernelInbIdeal.τ).loc Cert.KernelInbIdeal.main_arg3)
      ∧ r.2.mem ((c.tc : Thread Cert.KernelInbIdeal.nD Cert.KernelInbIdeal.τ).loc Cert.KernelInbIdeal.main_arg4) = m ((c.tc : Thread Cert.KernelInbIdeal.nD Cert.KernelInbIdeal.τ).loc Cert.KernelInbIdeal.main_arg4)
      ∧ r.2.mem ((c.tc : Thread Cert.KernelInbIdeal.nD Cert.KernelInbIdeal.τ).loc Cert.KernelInbIdeal.main_arg5) = m ((c.tc : Thread Cert.KernelInbIdeal.nD Cert.KernelInbIdeal.τ).loc Cert.KernelInbIdeal.main_arg5)
      ∧ r.2.mem ((c.tc : Thread Cert.KernelInbIdeal.nD Cert.KernelInbIdeal.τ).loc Cert.KernelInbIdeal.main_arg6) = m ((c.tc : Thread Cert.KernelInbIdeal.nD Cert.KernelInbIdeal.τ).loc Cert.KernelInbIdeal.main_arg6)
      ∧ r.2.mem ((c.tc : Thread Cert.KernelInbIdeal.nD Cert.KernelInbIdeal.τ).loc Cert.KernelInbIdeal.main_arg7) = m ((c.tc : Thread Cert.KernelInbIdeal.nD Cert.KernelInbIdeal.τ).loc Cert.KernelInbIdeal.main_arg7))
      ∧ r.2.sem = fun _ => 0)

def quiescent_ReferenceInbIdeal [hReferenceInbIdeal : Cert.ReferenceInbIdeal.Facts] : Prop :=
  ∀ (m : (ℓ : Loc Cert.ReferenceInbIdeal.nD Cert.ReferenceInbIdeal.τ Cert.ReferenceInbIdeal.sig) → Buf (Elt Ideal) ℓ) (g : Dev Cert.ReferenceInbIdeal.nD → PrngReg), Pre_ReferenceInbIdeal m →
    θ_run (Cert.ReferenceInbIdeal.defs (F := Ideal)) (onTc (τ := Cert.ReferenceInbIdeal.τ) (Cert.ReferenceInbIdeal.main (F := Ideal))) ⟨m, fun _ => 0, g⟩ (fun r => (∀ c : Dev Cert.ReferenceInbIdeal.nD,
      r.2.mem ((c.tc : Thread Cert.ReferenceInbIdeal.nD Cert.ReferenceInbIdeal.τ).loc Cert.ReferenceInbIdeal.main_arg0) = m ((c.tc : Thread Cert.ReferenceInbIdeal.nD Cert.ReferenceInbIdeal.τ).loc Cert.ReferenceInbIdeal.main_arg0)
      ∧ r.2.mem ((c.tc : Thread Cert.ReferenceInbIdeal.nD Cert.ReferenceInbIdeal.τ).loc Cert.ReferenceInbIdeal.main_arg1) = m ((c.tc : Thread Cert.ReferenceInbIdeal.nD Cert.ReferenceInbIdeal.τ).loc Cert.ReferenceInbIdeal.main_arg1)
      ∧ r.2.mem ((c.tc : Thread Cert.ReferenceInbIdeal.nD Cert.ReferenceInbIdeal.τ).loc Cert.ReferenceInbIdeal.main_arg2) = m ((c.tc : Thread Cert.ReferenceInbIdeal.nD Cert.ReferenceInbIdeal.τ).loc Cert.ReferenceInbIdeal.main_arg2)
      ∧ r.2.mem ((c.tc : Thread Cert.ReferenceInbIdeal.nD Cert.ReferenceInbIdeal.τ).loc Cert.ReferenceInbIdeal.main_arg3) = m ((c.tc : Thread Cert.ReferenceInbIdeal.nD Cert.ReferenceInbIdeal.τ).loc Cert.ReferenceInbIdeal.main_arg3)
      ∧ r.2.mem ((c.tc : Thread Cert.ReferenceInbIdeal.nD Cert.ReferenceInbIdeal.τ).loc Cert.ReferenceInbIdeal.main_arg4) = m ((c.tc : Thread Cert.ReferenceInbIdeal.nD Cert.ReferenceInbIdeal.τ).loc Cert.ReferenceInbIdeal.main_arg4)
      ∧ r.2.mem ((c.tc : Thread Cert.ReferenceInbIdeal.nD Cert.ReferenceInbIdeal.τ).loc Cert.ReferenceInbIdeal.main_arg5) = m ((c.tc : Thread Cert.ReferenceInbIdeal.nD Cert.ReferenceInbIdeal.τ).loc Cert.ReferenceInbIdeal.main_arg5)
      ∧ r.2.mem ((c.tc : Thread Cert.ReferenceInbIdeal.nD Cert.ReferenceInbIdeal.τ).loc Cert.ReferenceInbIdeal.main_arg6) = m ((c.tc : Thread Cert.ReferenceInbIdeal.nD Cert.ReferenceInbIdeal.τ).loc Cert.ReferenceInbIdeal.main_arg6)
      ∧ r.2.mem ((c.tc : Thread Cert.ReferenceInbIdeal.nD Cert.ReferenceInbIdeal.τ).loc Cert.ReferenceInbIdeal.main_arg7) = m ((c.tc : Thread Cert.ReferenceInbIdeal.nD Cert.ReferenceInbIdeal.τ).loc Cert.ReferenceInbIdeal.main_arg7))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3))
      ∧ r.2.sem = fun _ => 0)

def quiescent_KernelAdIn [hKernelAdIn : Cert.KernelAdIn.Facts] [hPre_on_a_chip : Cert.Pre_on_a_chip.Facts] : Prop :=
  ∀ (m : (ℓ : Loc Cert.KernelAdIn.nD Cert.KernelAdIn.τ Cert.KernelAdIn.sig) → Buf (Elt Bits) ℓ) (g : Dev Cert.KernelAdIn.nD → PrngReg), Pre_KernelAdIn m →
    θ_run (Cert.KernelAdIn.defs (F := Bits)) (onTc (τ := Cert.KernelAdIn.τ) (Cert.KernelAdIn.main (F := Bits))) ⟨m, fun _ => 0, g⟩ (fun r => (∀ c : Dev Cert.KernelAdIn.nD,
      r.2.mem ((c.tc : Thread Cert.KernelAdIn.nD Cert.KernelAdIn.τ).loc Cert.KernelAdIn.main_arg0) = m ((c.tc : Thread Cert.KernelAdIn.nD Cert.KernelAdIn.τ).loc Cert.KernelAdIn.main_arg0)
      ∧ r.2.mem ((c.tc : Thread Cert.KernelAdIn.nD Cert.KernelAdIn.τ).loc Cert.KernelAdIn.main_arg1) = m ((c.tc : Thread Cert.KernelAdIn.nD Cert.KernelAdIn.τ).loc Cert.KernelAdIn.main_arg1)
      ∧ r.2.mem ((c.tc : Thread Cert.KernelAdIn.nD Cert.KernelAdIn.τ).loc Cert.KernelAdIn.main_arg2) = m ((c.tc : Thread Cert.KernelAdIn.nD Cert.KernelAdIn.τ).loc Cert.KernelAdIn.main_arg2)
      ∧ r.2.mem ((c.tc : Thread Cert.KernelAdIn.nD Cert.KernelAdIn.τ).loc Cert.KernelAdIn.main_arg3) = m ((c.tc : Thread Cert.KernelAdIn.nD Cert.KernelAdIn.τ).loc Cert.KernelAdIn.main_arg3)
      ∧ r.2.mem ((c.tc : Thread Cert.KernelAdIn.nD Cert.KernelAdIn.τ).loc Cert.KernelAdIn.main_arg4) = m ((c.tc : Thread Cert.KernelAdIn.nD Cert.KernelAdIn.τ).loc Cert.KernelAdIn.main_arg4)
      ∧ r.2.mem ((c.tc : Thread Cert.KernelAdIn.nD Cert.KernelAdIn.τ).loc Cert.KernelAdIn.main_arg5) = m ((c.tc : Thread Cert.KernelAdIn.nD Cert.KernelAdIn.τ).loc Cert.KernelAdIn.main_arg5))
      ∧ r.2.sem = fun _ => 0)

def quiescent_KernelAdInIdeal [hKernelAdInIdeal : Cert.KernelAdInIdeal.Facts] [hPre_on_a_chip : Cert.Pre_on_a_chip.Facts] : Prop :=
  ∀ (m : (ℓ : Loc Cert.KernelAdInIdeal.nD Cert.KernelAdInIdeal.τ Cert.KernelAdInIdeal.sig) → Buf (Elt Ideal) ℓ) (g : Dev Cert.KernelAdInIdeal.nD → PrngReg), Pre_KernelAdInIdeal m →
    θ_run (Cert.KernelAdInIdeal.defs (F := Ideal)) (onTc (τ := Cert.KernelAdInIdeal.τ) (Cert.KernelAdInIdeal.main (F := Ideal))) ⟨m, fun _ => 0, g⟩ (fun r => (∀ c : Dev Cert.KernelAdInIdeal.nD,
      r.2.mem ((c.tc : Thread Cert.KernelAdInIdeal.nD Cert.KernelAdInIdeal.τ).loc Cert.KernelAdInIdeal.main_arg0) = m ((c.tc : Thread Cert.KernelAdInIdeal.nD Cert.KernelAdInIdeal.τ).loc Cert.KernelAdInIdeal.main_arg0)
      ∧ r.2.mem ((c.tc : Thread Cert.KernelAdInIdeal.nD Cert.KernelAdInIdeal.τ).loc Cert.KernelAdInIdeal.main_arg1) = m ((c.tc : Thread Cert.KernelAdInIdeal.nD Cert.KernelAdInIdeal.τ).loc Cert.KernelAdInIdeal.main_arg1)
      ∧ r.2.mem ((c.tc : Thread Cert.KernelAdInIdeal.nD Cert.KernelAdInIdeal.τ).loc Cert.KernelAdInIdeal.main_arg2) = m ((c.tc : Thread Cert.KernelAdInIdeal.nD Cert.KernelAdInIdeal.τ).loc Cert.KernelAdInIdeal.main_arg2)
      ∧ r.2.mem ((c.tc : Thread Cert.KernelAdInIdeal.nD Cert.KernelAdInIdeal.τ).loc Cert.KernelAdInIdeal.main_arg3) = m ((c.tc : Thread Cert.KernelAdInIdeal.nD Cert.KernelAdInIdeal.τ).loc Cert.KernelAdInIdeal.main_arg3)
      ∧ r.2.mem ((c.tc : Thread Cert.KernelAdInIdeal.nD Cert.KernelAdInIdeal.τ).loc Cert.KernelAdInIdeal.main_arg4) = m ((c.tc : Thread Cert.KernelAdInIdeal.nD Cert.KernelAdInIdeal.τ).loc Cert.KernelAdInIdeal.main_arg4)
      ∧ r.2.mem ((c.tc : Thread Cert.KernelAdInIdeal.nD Cert.KernelAdInIdeal.τ).loc Cert.KernelAdInIdeal.main_arg5) = m ((c.tc : Thread Cert.KernelAdInIdeal.nD Cert.KernelAdInIdeal.τ).loc Cert.KernelAdInIdeal.main_arg5))
      ∧ r.2.sem = fun _ => 0)

def quiescent_ReferenceAdInIdeal [hReferenceAdInIdeal : Cert.ReferenceAdInIdeal.Facts] [hPre_on_a_chip : Cert.Pre_on_a_chip.Facts] : Prop :=
  ∀ (m : (ℓ : Loc Cert.ReferenceAdInIdeal.nD Cert.ReferenceAdInIdeal.τ Cert.ReferenceAdInIdeal.sig) → Buf (Elt Ideal) ℓ) (g : Dev Cert.ReferenceAdInIdeal.nD → PrngReg), Pre_ReferenceAdInIdeal m →
    θ_run (Cert.ReferenceAdInIdeal.defs (F := Ideal)) (onTc (τ := Cert.ReferenceAdInIdeal.τ) (Cert.ReferenceAdInIdeal.main (F := Ideal))) ⟨m, fun _ => 0, g⟩ (fun r => (∀ c : Dev Cert.ReferenceAdInIdeal.nD,
      r.2.mem ((c.tc : Thread Cert.ReferenceAdInIdeal.nD Cert.ReferenceAdInIdeal.τ).loc Cert.ReferenceAdInIdeal.main_arg0) = m ((c.tc : Thread Cert.ReferenceAdInIdeal.nD Cert.ReferenceAdInIdeal.τ).loc Cert.ReferenceAdInIdeal.main_arg0)
      ∧ r.2.mem ((c.tc : Thread Cert.ReferenceAdInIdeal.nD Cert.ReferenceAdInIdeal.τ).loc Cert.ReferenceAdInIdeal.main_arg1) = m ((c.tc : Thread Cert.ReferenceAdInIdeal.nD Cert.ReferenceAdInIdeal.τ).loc Cert.ReferenceAdInIdeal.main_arg1)
      ∧ r.2.mem ((c.tc : Thread Cert.ReferenceAdInIdeal.nD Cert.ReferenceAdInIdeal.τ).loc Cert.ReferenceAdInIdeal.main_arg2) = m ((c.tc : Thread Cert.ReferenceAdInIdeal.nD Cert.ReferenceAdInIdeal.τ).loc Cert.ReferenceAdInIdeal.main_arg2)
      ∧ r.2.mem ((c.tc : Thread Cert.ReferenceAdInIdeal.nD Cert.ReferenceAdInIdeal.τ).loc Cert.ReferenceAdInIdeal.main_arg3) = m ((c.tc : Thread Cert.ReferenceAdInIdeal.nD Cert.ReferenceAdInIdeal.τ).loc Cert.ReferenceAdInIdeal.main_arg3)
      ∧ r.2.mem ((c.tc : Thread Cert.ReferenceAdInIdeal.nD Cert.ReferenceAdInIdeal.τ).loc Cert.ReferenceAdInIdeal.main_arg4) = m ((c.tc : Thread Cert.ReferenceAdInIdeal.nD Cert.ReferenceAdInIdeal.τ).loc Cert.ReferenceAdInIdeal.main_arg4)
      ∧ r.2.mem ((c.tc : Thread Cert.ReferenceAdInIdeal.nD Cert.ReferenceAdInIdeal.τ).loc Cert.ReferenceAdInIdeal.main_arg5) = m ((c.tc : Thread Cert.ReferenceAdInIdeal.nD Cert.ReferenceAdInIdeal.τ).loc Cert.ReferenceAdInIdeal.main_arg5))
      ∧ r.2.sem = fun _ => 0)

def quiescent_KernelAdDown [hKernelAdDown : Cert.KernelAdDown.Facts] [hPre_on_a_chip_down : Cert.Pre_on_a_chip_down.Facts] : Prop :=
  ∀ (m : (ℓ : Loc Cert.KernelAdDown.nD Cert.KernelAdDown.τ Cert.KernelAdDown.sig) → Buf (Elt Bits) ℓ) (g : Dev Cert.KernelAdDown.nD → PrngReg), Pre_KernelAdDown m →
    θ_run (Cert.KernelAdDown.defs (F := Bits)) (onTc (τ := Cert.KernelAdDown.τ) (Cert.KernelAdDown.main (F := Bits))) ⟨m, fun _ => 0, g⟩ (fun r => (∀ c : Dev Cert.KernelAdDown.nD,
      r.2.mem ((c.tc : Thread Cert.KernelAdDown.nD Cert.KernelAdDown.τ).loc Cert.KernelAdDown.main_arg0) = m ((c.tc : Thread Cert.KernelAdDown.nD Cert.KernelAdDown.τ).loc Cert.KernelAdDown.main_arg0)
      ∧ r.2.mem ((c.tc : Thread Cert.KernelAdDown.nD Cert.KernelAdDown.τ).loc Cert.KernelAdDown.main_arg1) = m ((c.tc : Thread Cert.KernelAdDown.nD Cert.KernelAdDown.τ).loc Cert.KernelAdDown.main_arg1)
      ∧ r.2.mem ((c.tc : Thread Cert.KernelAdDown.nD Cert.KernelAdDown.τ).loc Cert.KernelAdDown.main_arg2) = m ((c.tc : Thread Cert.KernelAdDown.nD Cert.KernelAdDown.τ).loc Cert.KernelAdDown.main_arg2)
      ∧ r.2.mem ((c.tc : Thread Cert.KernelAdDown.nD Cert.KernelAdDown.τ).loc Cert.KernelAdDown.main_arg3) = m ((c.tc : Thread Cert.KernelAdDown.nD Cert.KernelAdDown.τ).loc Cert.KernelAdDown.main_arg3)
      ∧ r.2.mem ((c.tc : Thread Cert.KernelAdDown.nD Cert.KernelAdDown.τ).loc Cert.KernelAdDown.main_arg4) = m ((c.tc : Thread Cert.KernelAdDown.nD Cert.KernelAdDown.τ).loc Cert.KernelAdDown.main_arg4)
      ∧ r.2.mem ((c.tc : Thread Cert.KernelAdDown.nD Cert.KernelAdDown.τ).loc Cert.KernelAdDown.main_arg5) = m ((c.tc : Thread Cert.KernelAdDown.nD Cert.KernelAdDown.τ).loc Cert.KernelAdDown.main_arg5))
      ∧ r.2.sem = fun _ => 0)

def quiescent_KernelAdDownIdeal [hKernelAdDownIdeal : Cert.KernelAdDownIdeal.Facts] [hPre_on_a_chip_down : Cert.Pre_on_a_chip_down.Facts] : Prop :=
  ∀ (m : (ℓ : Loc Cert.KernelAdDownIdeal.nD Cert.KernelAdDownIdeal.τ Cert.KernelAdDownIdeal.sig) → Buf (Elt Ideal) ℓ) (g : Dev Cert.KernelAdDownIdeal.nD → PrngReg), Pre_KernelAdDownIdeal m →
    θ_run (Cert.KernelAdDownIdeal.defs (F := Ideal)) (onTc (τ := Cert.KernelAdDownIdeal.τ) (Cert.KernelAdDownIdeal.main (F := Ideal))) ⟨m, fun _ => 0, g⟩ (fun r => (∀ c : Dev Cert.KernelAdDownIdeal.nD,
      r.2.mem ((c.tc : Thread Cert.KernelAdDownIdeal.nD Cert.KernelAdDownIdeal.τ).loc Cert.KernelAdDownIdeal.main_arg0) = m ((c.tc : Thread Cert.KernelAdDownIdeal.nD Cert.KernelAdDownIdeal.τ).loc Cert.KernelAdDownIdeal.main_arg0)
      ∧ r.2.mem ((c.tc : Thread Cert.KernelAdDownIdeal.nD Cert.KernelAdDownIdeal.τ).loc Cert.KernelAdDownIdeal.main_arg1) = m ((c.tc : Thread Cert.KernelAdDownIdeal.nD Cert.KernelAdDownIdeal.τ).loc Cert.KernelAdDownIdeal.main_arg1)
      ∧ r.2.mem ((c.tc : Thread Cert.KernelAdDownIdeal.nD Cert.KernelAdDownIdeal.τ).loc Cert.KernelAdDownIdeal.main_arg2) = m ((c.tc : Thread Cert.KernelAdDownIdeal.nD Cert.KernelAdDownIdeal.τ).loc Cert.KernelAdDownIdeal.main_arg2)
      ∧ r.2.mem ((c.tc : Thread Cert.KernelAdDownIdeal.nD Cert.KernelAdDownIdeal.τ).loc Cert.KernelAdDownIdeal.main_arg3) = m ((c.tc : Thread Cert.KernelAdDownIdeal.nD Cert.KernelAdDownIdeal.τ).loc Cert.KernelAdDownIdeal.main_arg3)
      ∧ r.2.mem ((c.tc : Thread Cert.KernelAdDownIdeal.nD Cert.KernelAdDownIdeal.τ).loc Cert.KernelAdDownIdeal.main_arg4) = m ((c.tc : Thread Cert.KernelAdDownIdeal.nD Cert.KernelAdDownIdeal.τ).loc Cert.KernelAdDownIdeal.main_arg4)
      ∧ r.2.mem ((c.tc : Thread Cert.KernelAdDownIdeal.nD Cert.KernelAdDownIdeal.τ).loc Cert.KernelAdDownIdeal.main_arg5) = m ((c.tc : Thread Cert.KernelAdDownIdeal.nD Cert.KernelAdDownIdeal.τ).loc Cert.KernelAdDownIdeal.main_arg5))
      ∧ r.2.sem = fun _ => 0)

def quiescent_ReferenceAdDownIdeal [hReferenceAdDownIdeal : Cert.ReferenceAdDownIdeal.Facts] [hPre_on_a_chip_down : Cert.Pre_on_a_chip_down.Facts] : Prop :=
  ∀ (m : (ℓ : Loc Cert.ReferenceAdDownIdeal.nD Cert.ReferenceAdDownIdeal.τ Cert.ReferenceAdDownIdeal.sig) → Buf (Elt Ideal) ℓ) (g : Dev Cert.ReferenceAdDownIdeal.nD → PrngReg), Pre_ReferenceAdDownIdeal m →
    θ_run (Cert.ReferenceAdDownIdeal.defs (F := Ideal)) (onTc (τ := Cert.ReferenceAdDownIdeal.τ) (Cert.ReferenceAdDownIdeal.main (F := Ideal))) ⟨m, fun _ => 0, g⟩ (fun r => (∀ c : Dev Cert.ReferenceAdDownIdeal.nD,
      r.2.mem ((c.tc : Thread Cert.ReferenceAdDownIdeal.nD Cert.ReferenceAdDownIdeal.τ).loc Cert.ReferenceAdDownIdeal.main_arg0) = m ((c.tc : Thread Cert.ReferenceAdDownIdeal.nD Cert.ReferenceAdDownIdeal.τ).loc Cert.ReferenceAdDownIdeal.main_arg0)
      ∧ r.2.mem ((c.tc : Thread Cert.ReferenceAdDownIdeal.nD Cert.ReferenceAdDownIdeal.τ).loc Cert.ReferenceAdDownIdeal.main_arg1) = m ((c.tc : Thread Cert.ReferenceAdDownIdeal.nD Cert.ReferenceAdDownIdeal.τ).loc Cert.ReferenceAdDownIdeal.main_arg1)
      ∧ r.2.mem ((c.tc : Thread Cert.ReferenceAdDownIdeal.nD Cert.ReferenceAdDownIdeal.τ).loc Cert.ReferenceAdDownIdeal.main_arg2) = m ((c.tc : Thread Cert.ReferenceAdDownIdeal.nD Cert.ReferenceAdDownIdeal.τ).loc Cert.ReferenceAdDownIdeal.main_arg2)
      ∧ r.2.mem ((c.tc : Thread Cert.ReferenceAdDownIdeal.nD Cert.ReferenceAdDownIdeal.τ).loc Cert.ReferenceAdDownIdeal.main_arg3) = m ((c.tc : Thread Cert.ReferenceAdDownIdeal.nD Cert.ReferenceAdDownIdeal.τ).loc Cert.ReferenceAdDownIdeal.main_arg3)
      ∧ r.2.mem ((c.tc : Thread Cert.ReferenceAdDownIdeal.nD Cert.ReferenceAdDownIdeal.τ).loc Cert.ReferenceAdDownIdeal.main_arg4) = m ((c.tc : Thread Cert.ReferenceAdDownIdeal.nD Cert.ReferenceAdDownIdeal.τ).loc Cert.ReferenceAdDownIdeal.main_arg4)
      ∧ r.2.mem ((c.tc : Thread Cert.ReferenceAdDownIdeal.nD Cert.ReferenceAdDownIdeal.τ).loc Cert.ReferenceAdDownIdeal.main_arg5) = m ((c.tc : Thread Cert.ReferenceAdDownIdeal.nD Cert.ReferenceAdDownIdeal.τ).loc Cert.ReferenceAdDownIdeal.main_arg5))
      ∧ r.2.sem = fun _ => 0)

def quiescent_KernelAdCkv [hKernelAdCkv : Cert.KernelAdCkv.Facts] [hPre_on_a_chip_ckv : Cert.Pre_on_a_chip_ckv.Facts] : Prop :=
  ∀ (m : (ℓ : Loc Cert.KernelAdCkv.nD Cert.KernelAdCkv.τ Cert.KernelAdCkv.sig) → Buf (Elt Bits) ℓ) (g : Dev Cert.KernelAdCkv.nD → PrngReg), Pre_KernelAdCkv m →
    θ_run (Cert.KernelAdCkv.defs (F := Bits)) (onTc (τ := Cert.KernelAdCkv.τ) (Cert.KernelAdCkv.main (F := Bits))) ⟨m, fun _ => 0, g⟩ (fun r => (∀ c : Dev Cert.KernelAdCkv.nD,
      r.2.mem ((c.tc : Thread Cert.KernelAdCkv.nD Cert.KernelAdCkv.τ).loc Cert.KernelAdCkv.main_arg0) = m ((c.tc : Thread Cert.KernelAdCkv.nD Cert.KernelAdCkv.τ).loc Cert.KernelAdCkv.main_arg0)
      ∧ r.2.mem ((c.tc : Thread Cert.KernelAdCkv.nD Cert.KernelAdCkv.τ).loc Cert.KernelAdCkv.main_arg1) = m ((c.tc : Thread Cert.KernelAdCkv.nD Cert.KernelAdCkv.τ).loc Cert.KernelAdCkv.main_arg1)
      ∧ r.2.mem ((c.tc : Thread Cert.KernelAdCkv.nD Cert.KernelAdCkv.τ).loc Cert.KernelAdCkv.main_arg2) = m ((c.tc : Thread Cert.KernelAdCkv.nD Cert.KernelAdCkv.τ).loc Cert.KernelAdCkv.main_arg2)
      ∧ r.2.mem ((c.tc : Thread Cert.KernelAdCkv.nD Cert.KernelAdCkv.τ).loc Cert.KernelAdCkv.main_arg3) = m ((c.tc : Thread Cert.KernelAdCkv.nD Cert.KernelAdCkv.τ).loc Cert.KernelAdCkv.main_arg3)
      ∧ r.2.mem ((c.tc : Thread Cert.KernelAdCkv.nD Cert.KernelAdCkv.τ).loc Cert.KernelAdCkv.main_arg4) = m ((c.tc : Thread Cert.KernelAdCkv.nD Cert.KernelAdCkv.τ).loc Cert.KernelAdCkv.main_arg4)
      ∧ r.2.mem ((c.tc : Thread Cert.KernelAdCkv.nD Cert.KernelAdCkv.τ).loc Cert.KernelAdCkv.main_arg5) = m ((c.tc : Thread Cert.KernelAdCkv.nD Cert.KernelAdCkv.τ).loc Cert.KernelAdCkv.main_arg5))
      ∧ r.2.sem = fun _ => 0)

def quiescent_KernelAdCkvIdeal [hKernelAdCkvIdeal : Cert.KernelAdCkvIdeal.Facts] [hPre_on_a_chip_ckv : Cert.Pre_on_a_chip_ckv.Facts] : Prop :=
  ∀ (m : (ℓ : Loc Cert.KernelAdCkvIdeal.nD Cert.KernelAdCkvIdeal.τ Cert.KernelAdCkvIdeal.sig) → Buf (Elt Ideal) ℓ) (g : Dev Cert.KernelAdCkvIdeal.nD → PrngReg), Pre_KernelAdCkvIdeal m →
    θ_run (Cert.KernelAdCkvIdeal.defs (F := Ideal)) (onTc (τ := Cert.KernelAdCkvIdeal.τ) (Cert.KernelAdCkvIdeal.main (F := Ideal))) ⟨m, fun _ => 0, g⟩ (fun r => (∀ c : Dev Cert.KernelAdCkvIdeal.nD,
      r.2.mem ((c.tc : Thread Cert.KernelAdCkvIdeal.nD Cert.KernelAdCkvIdeal.τ).loc Cert.KernelAdCkvIdeal.main_arg0) = m ((c.tc : Thread Cert.KernelAdCkvIdeal.nD Cert.KernelAdCkvIdeal.τ).loc Cert.KernelAdCkvIdeal.main_arg0)
      ∧ r.2.mem ((c.tc : Thread Cert.KernelAdCkvIdeal.nD Cert.KernelAdCkvIdeal.τ).loc Cert.KernelAdCkvIdeal.main_arg1) = m ((c.tc : Thread Cert.KernelAdCkvIdeal.nD Cert.KernelAdCkvIdeal.τ).loc Cert.KernelAdCkvIdeal.main_arg1)
      ∧ r.2.mem ((c.tc : Thread Cert.KernelAdCkvIdeal.nD Cert.KernelAdCkvIdeal.τ).loc Cert.KernelAdCkvIdeal.main_arg2) = m ((c.tc : Thread Cert.KernelAdCkvIdeal.nD Cert.KernelAdCkvIdeal.τ).loc Cert.KernelAdCkvIdeal.main_arg2)
      ∧ r.2.mem ((c.tc : Thread Cert.KernelAdCkvIdeal.nD Cert.KernelAdCkvIdeal.τ).loc Cert.KernelAdCkvIdeal.main_arg3) = m ((c.tc : Thread Cert.KernelAdCkvIdeal.nD Cert.KernelAdCkvIdeal.τ).loc Cert.KernelAdCkvIdeal.main_arg3)
      ∧ r.2.mem ((c.tc : Thread Cert.KernelAdCkvIdeal.nD Cert.KernelAdCkvIdeal.τ).loc Cert.KernelAdCkvIdeal.main_arg4) = m ((c.tc : Thread Cert.KernelAdCkvIdeal.nD Cert.KernelAdCkvIdeal.τ).loc Cert.KernelAdCkvIdeal.main_arg4)
      ∧ r.2.mem ((c.tc : Thread Cert.KernelAdCkvIdeal.nD Cert.KernelAdCkvIdeal.τ).loc Cert.KernelAdCkvIdeal.main_arg5) = m ((c.tc : Thread Cert.KernelAdCkvIdeal.nD Cert.KernelAdCkvIdeal.τ).loc Cert.KernelAdCkvIdeal.main_arg5))
      ∧ r.2.sem = fun _ => 0)

def quiescent_ReferenceAdCkvIdeal [hReferenceAdCkvIdeal : Cert.ReferenceAdCkvIdeal.Facts] [hPre_on_a_chip_ckv : Cert.Pre_on_a_chip_ckv.Facts] : Prop :=
  ∀ (m : (ℓ : Loc Cert.ReferenceAdCkvIdeal.nD Cert.ReferenceAdCkvIdeal.τ Cert.ReferenceAdCkvIdeal.sig) → Buf (Elt Ideal) ℓ) (g : Dev Cert.ReferenceAdCkvIdeal.nD → PrngReg), Pre_ReferenceAdCkvIdeal m →
    θ_run (Cert.ReferenceAdCkvIdeal.defs (F := Ideal)) (onTc (τ := Cert.ReferenceAdCkvIdeal.τ) (Cert.ReferenceAdCkvIdeal.main (F := Ideal))) ⟨m, fun _ => 0, g⟩ (fun r => (∀ c : Dev Cert.ReferenceAdCkvIdeal.nD,
      r.2.mem ((c.tc : Thread Cert.ReferenceAdCkvIdeal.nD Cert.ReferenceAdCkvIdeal.τ).loc Cert.ReferenceAdCkvIdeal.main_arg0) = m ((c.tc : Thread Cert.ReferenceAdCkvIdeal.nD Cert.ReferenceAdCkvIdeal.τ).loc Cert.ReferenceAdCkvIdeal.main_arg0)
      ∧ r.2.mem ((c.tc : Thread Cert.ReferenceAdCkvIdeal.nD Cert.ReferenceAdCkvIdeal.τ).loc Cert.ReferenceAdCkvIdeal.main_arg1) = m ((c.tc : Thread Cert.ReferenceAdCkvIdeal.nD Cert.ReferenceAdCkvIdeal.τ).loc Cert.ReferenceAdCkvIdeal.main_arg1)
      ∧ r.2.mem ((c.tc : Thread Cert.ReferenceAdCkvIdeal.nD Cert.ReferenceAdCkvIdeal.τ).loc Cert.ReferenceAdCkvIdeal.main_arg2) = m ((c.tc : Thread Cert.ReferenceAdCkvIdeal.nD Cert.ReferenceAdCkvIdeal.τ).loc Cert.ReferenceAdCkvIdeal.main_arg2)
      ∧ r.2.mem ((c.tc : Thread Cert.ReferenceAdCkvIdeal.nD Cert.ReferenceAdCkvIdeal.τ).loc Cert.ReferenceAdCkvIdeal.main_arg3) = m ((c.tc : Thread Cert.ReferenceAdCkvIdeal.nD Cert.ReferenceAdCkvIdeal.τ).loc Cert.ReferenceAdCkvIdeal.main_arg3)
      ∧ r.2.mem ((c.tc : Thread Cert.ReferenceAdCkvIdeal.nD Cert.ReferenceAdCkvIdeal.τ).loc Cert.ReferenceAdCkvIdeal.main_arg4) = m ((c.tc : Thread Cert.ReferenceAdCkvIdeal.nD Cert.ReferenceAdCkvIdeal.τ).loc Cert.ReferenceAdCkvIdeal.main_arg4)
      ∧ r.2.mem ((c.tc : Thread Cert.ReferenceAdCkvIdeal.nD Cert.ReferenceAdCkvIdeal.τ).loc Cert.ReferenceAdCkvIdeal.main_arg5) = m ((c.tc : Thread Cert.ReferenceAdCkvIdeal.nD Cert.ReferenceAdCkvIdeal.τ).loc Cert.ReferenceAdCkvIdeal.main_arg5))
      ∧ r.2.sem = fun _ => 0)

def quiescent_KernelAdMix0 [hKernelAdMix0 : Cert.KernelAdMix0.Facts] [hPre_on_a_chip_mix : Cert.Pre_on_a_chip_mix.Facts] : Prop :=
  ∀ (m : (ℓ : Loc Cert.KernelAdMix0.nD Cert.KernelAdMix0.τ Cert.KernelAdMix0.sig) → Buf (Elt Bits) ℓ) (g : Dev Cert.KernelAdMix0.nD → PrngReg), Pre_KernelAdMix0 m →
    θ_run (Cert.KernelAdMix0.defs (F := Bits)) (onTc (τ := Cert.KernelAdMix0.τ) (Cert.KernelAdMix0.main (F := Bits))) ⟨m, fun _ => 0, g⟩ (fun r => (∀ c : Dev Cert.KernelAdMix0.nD,
      r.2.mem ((c.tc : Thread Cert.KernelAdMix0.nD Cert.KernelAdMix0.τ).loc Cert.KernelAdMix0.main_arg0) = m ((c.tc : Thread Cert.KernelAdMix0.nD Cert.KernelAdMix0.τ).loc Cert.KernelAdMix0.main_arg0)
      ∧ r.2.mem ((c.tc : Thread Cert.KernelAdMix0.nD Cert.KernelAdMix0.τ).loc Cert.KernelAdMix0.main_arg1) = m ((c.tc : Thread Cert.KernelAdMix0.nD Cert.KernelAdMix0.τ).loc Cert.KernelAdMix0.main_arg1)
      ∧ r.2.mem ((c.tc : Thread Cert.KernelAdMix0.nD Cert.KernelAdMix0.τ).loc Cert.KernelAdMix0.main_arg2) = m ((c.tc : Thread Cert.KernelAdMix0.nD Cert.KernelAdMix0.τ).loc Cert.KernelAdMix0.main_arg2)
      ∧ r.2.mem ((c.tc : Thread Cert.KernelAdMix0.nD Cert.KernelAdMix0.τ).loc Cert.KernelAdMix0.main_arg3) = m ((c.tc : Thread Cert.KernelAdMix0.nD Cert.KernelAdMix0.τ).loc Cert.KernelAdMix0.main_arg3)
      ∧ r.2.mem ((c.tc : Thread Cert.KernelAdMix0.nD Cert.KernelAdMix0.τ).loc Cert.KernelAdMix0.main_arg4) = m ((c.tc : Thread Cert.KernelAdMix0.nD Cert.KernelAdMix0.τ).loc Cert.KernelAdMix0.main_arg4)
      ∧ r.2.mem ((c.tc : Thread Cert.KernelAdMix0.nD Cert.KernelAdMix0.τ).loc Cert.KernelAdMix0.main_arg5) = m ((c.tc : Thread Cert.KernelAdMix0.nD Cert.KernelAdMix0.τ).loc Cert.KernelAdMix0.main_arg5))
      ∧ r.2.sem = fun _ => 0)

def quiescent_KernelAdMix0Ideal [hKernelAdMix0Ideal : Cert.KernelAdMix0Ideal.Facts] [hPre_on_a_chip_mix : Cert.Pre_on_a_chip_mix.Facts] : Prop :=
  ∀ (m : (ℓ : Loc Cert.KernelAdMix0Ideal.nD Cert.KernelAdMix0Ideal.τ Cert.KernelAdMix0Ideal.sig) → Buf (Elt Ideal) ℓ) (g : Dev Cert.KernelAdMix0Ideal.nD → PrngReg), Pre_KernelAdMix0Ideal m →
    θ_run (Cert.KernelAdMix0Ideal.defs (F := Ideal)) (onTc (τ := Cert.KernelAdMix0Ideal.τ) (Cert.KernelAdMix0Ideal.main (F := Ideal))) ⟨m, fun _ => 0, g⟩ (fun r => (∀ c : Dev Cert.KernelAdMix0Ideal.nD,
      r.2.mem ((c.tc : Thread Cert.KernelAdMix0Ideal.nD Cert.KernelAdMix0Ideal.τ).loc Cert.KernelAdMix0Ideal.main_arg0) = m ((c.tc : Thread Cert.KernelAdMix0Ideal.nD Cert.KernelAdMix0Ideal.τ).loc Cert.KernelAdMix0Ideal.main_arg0)
      ∧ r.2.mem ((c.tc : Thread Cert.KernelAdMix0Ideal.nD Cert.KernelAdMix0Ideal.τ).loc Cert.KernelAdMix0Ideal.main_arg1) = m ((c.tc : Thread Cert.KernelAdMix0Ideal.nD Cert.KernelAdMix0Ideal.τ).loc Cert.KernelAdMix0Ideal.main_arg1)
      ∧ r.2.mem ((c.tc : Thread Cert.KernelAdMix0Ideal.nD Cert.KernelAdMix0Ideal.τ).loc Cert.KernelAdMix0Ideal.main_arg2) = m ((c.tc : Thread Cert.KernelAdMix0Ideal.nD Cert.KernelAdMix0Ideal.τ).loc Cert.KernelAdMix0Ideal.main_arg2)
      ∧ r.2.mem ((c.tc : Thread Cert.KernelAdMix0Ideal.nD Cert.KernelAdMix0Ideal.τ).loc Cert.KernelAdMix0Ideal.main_arg3) = m ((c.tc : Thread Cert.KernelAdMix0Ideal.nD Cert.KernelAdMix0Ideal.τ).loc Cert.KernelAdMix0Ideal.main_arg3)
      ∧ r.2.mem ((c.tc : Thread Cert.KernelAdMix0Ideal.nD Cert.KernelAdMix0Ideal.τ).loc Cert.KernelAdMix0Ideal.main_arg4) = m ((c.tc : Thread Cert.KernelAdMix0Ideal.nD Cert.KernelAdMix0Ideal.τ).loc Cert.KernelAdMix0Ideal.main_arg4)
      ∧ r.2.mem ((c.tc : Thread Cert.KernelAdMix0Ideal.nD Cert.KernelAdMix0Ideal.τ).loc Cert.KernelAdMix0Ideal.main_arg5) = m ((c.tc : Thread Cert.KernelAdMix0Ideal.nD Cert.KernelAdMix0Ideal.τ).loc Cert.KernelAdMix0Ideal.main_arg5))
      ∧ r.2.sem = fun _ => 0)

def quiescent_ReferenceAdMix0Ideal [hReferenceAdMix0Ideal : Cert.ReferenceAdMix0Ideal.Facts] [hPre_on_a_chip_mix : Cert.Pre_on_a_chip_mix.Facts] : Prop :=
  ∀ (m : (ℓ : Loc Cert.ReferenceAdMix0Ideal.nD Cert.ReferenceAdMix0Ideal.τ Cert.ReferenceAdMix0Ideal.sig) → Buf (Elt Ideal) ℓ) (g : Dev Cert.ReferenceAdMix0Ideal.nD → PrngReg), Pre_ReferenceAdMix0Ideal m →
    θ_run (Cert.ReferenceAdMix0Ideal.defs (F := Ideal)) (onTc (τ := Cert.ReferenceAdMix0Ideal.τ) (Cert.ReferenceAdMix0Ideal.main (F := Ideal))) ⟨m, fun _ => 0, g⟩ (fun r => (∀ c : Dev Cert.ReferenceAdMix0Ideal.nD,
      r.2.mem ((c.tc : Thread Cert.ReferenceAdMix0Ideal.nD Cert.ReferenceAdMix0Ideal.τ).loc Cert.ReferenceAdMix0Ideal.main_arg0) = m ((c.tc : Thread Cert.ReferenceAdMix0Ideal.nD Cert.ReferenceAdMix0Ideal.τ).loc Cert.ReferenceAdMix0Ideal.main_arg0)
      ∧ r.2.mem ((c.tc : Thread Cert.ReferenceAdMix0Ideal.nD Cert.ReferenceAdMix0Ideal.τ).loc Cert.ReferenceAdMix0Ideal.main_arg1) = m ((c.tc : Thread Cert.ReferenceAdMix0Ideal.nD Cert.ReferenceAdMix0Ideal.τ).loc Cert.ReferenceAdMix0Ideal.main_arg1)
      ∧ r.2.mem ((c.tc : Thread Cert.ReferenceAdMix0Ideal.nD Cert.ReferenceAdMix0Ideal.τ).loc Cert.ReferenceAdMix0Ideal.main_arg2) = m ((c.tc : Thread Cert.ReferenceAdMix0Ideal.nD Cert.ReferenceAdMix0Ideal.τ).loc Cert.ReferenceAdMix0Ideal.main_arg2)
      ∧ r.2.mem ((c.tc : Thread Cert.ReferenceAdMix0Ideal.nD Cert.ReferenceAdMix0Ideal.τ).loc Cert.ReferenceAdMix0Ideal.main_arg3) = m ((c.tc : Thread Cert.ReferenceAdMix0Ideal.nD Cert.ReferenceAdMix0Ideal.τ).loc Cert.ReferenceAdMix0Ideal.main_arg3)
      ∧ r.2.mem ((c.tc : Thread Cert.ReferenceAdMix0Ideal.nD Cert.ReferenceAdMix0Ideal.τ).loc Cert.ReferenceAdMix0Ideal.main_arg4) = m ((c.tc : Thread Cert.ReferenceAdMix0Ideal.nD Cert.ReferenceAdMix0Ideal.τ).loc Cert.ReferenceAdMix0Ideal.main_arg4)
      ∧ r.2.mem ((c.tc : Thread Cert.ReferenceAdMix0Ideal.nD Cert.ReferenceAdMix0Ideal.τ).loc Cert.ReferenceAdMix0Ideal.main_arg5) = m ((c.tc : Thread Cert.ReferenceAdMix0Ideal.nD Cert.ReferenceAdMix0Ideal.τ).loc Cert.ReferenceAdMix0Ideal.main_arg5))
      ∧ r.2.sem = fun _ => 0)

def quiescent_KernelAdMix1 [hKernelAdMix1 : Cert.KernelAdMix1.Facts] [hPre_on_a_chip_mix : Cert.Pre_on_a_chip_mix.Facts] : Prop :=
  ∀ (m : (ℓ : Loc Cert.KernelAdMix1.nD Cert.KernelAdMix1.τ Cert.KernelAdMix1.sig) → Buf (Elt Bits) ℓ) (g : Dev Cert.KernelAdMix1.nD → PrngReg), Pre_KernelAdMix1 m →
    θ_run (Cert.KernelAdMix1.defs (F := Bits)) (onTc (τ := Cert.KernelAdMix1.τ) (Cert.KernelAdMix1.main (F := Bits))) ⟨m, fun _ => 0, g⟩ (fun r => (∀ c : Dev Cert.KernelAdMix1.nD,
      r.2.mem ((c.tc : Thread Cert.KernelAdMix1.nD Cert.KernelAdMix1.τ).loc Cert.KernelAdMix1.main_arg0) = m ((c.tc : Thread Cert.KernelAdMix1.nD Cert.KernelAdMix1.τ).loc Cert.KernelAdMix1.main_arg0)
      ∧ r.2.mem ((c.tc : Thread Cert.KernelAdMix1.nD Cert.KernelAdMix1.τ).loc Cert.KernelAdMix1.main_arg1) = m ((c.tc : Thread Cert.KernelAdMix1.nD Cert.KernelAdMix1.τ).loc Cert.KernelAdMix1.main_arg1)
      ∧ r.2.mem ((c.tc : Thread Cert.KernelAdMix1.nD Cert.KernelAdMix1.τ).loc Cert.KernelAdMix1.main_arg2) = m ((c.tc : Thread Cert.KernelAdMix1.nD Cert.KernelAdMix1.τ).loc Cert.KernelAdMix1.main_arg2)
      ∧ r.2.mem ((c.tc : Thread Cert.KernelAdMix1.nD Cert.KernelAdMix1.τ).loc Cert.KernelAdMix1.main_arg3) = m ((c.tc : Thread Cert.KernelAdMix1.nD Cert.KernelAdMix1.τ).loc Cert.KernelAdMix1.main_arg3)
      ∧ r.2.mem ((c.tc : Thread Cert.KernelAdMix1.nD Cert.KernelAdMix1.τ).loc Cert.KernelAdMix1.main_arg4) = m ((c.tc : Thread Cert.KernelAdMix1.nD Cert.KernelAdMix1.τ).loc Cert.KernelAdMix1.main_arg4)
      ∧ r.2.mem ((c.tc : Thread Cert.KernelAdMix1.nD Cert.KernelAdMix1.τ).loc Cert.KernelAdMix1.main_arg5) = m ((c.tc : Thread Cert.KernelAdMix1.nD Cert.KernelAdMix1.τ).loc Cert.KernelAdMix1.main_arg5))
      ∧ r.2.sem = fun _ => 0)

def quiescent_KernelAdMix1Ideal [hKernelAdMix1Ideal : Cert.KernelAdMix1Ideal.Facts] [hPre_on_a_chip_mix : Cert.Pre_on_a_chip_mix.Facts] : Prop :=
  ∀ (m : (ℓ : Loc Cert.KernelAdMix1Ideal.nD Cert.KernelAdMix1Ideal.τ Cert.KernelAdMix1Ideal.sig) → Buf (Elt Ideal) ℓ) (g : Dev Cert.KernelAdMix1Ideal.nD → PrngReg), Pre_KernelAdMix1Ideal m →
    θ_run (Cert.KernelAdMix1Ideal.defs (F := Ideal)) (onTc (τ := Cert.KernelAdMix1Ideal.τ) (Cert.KernelAdMix1Ideal.main (F := Ideal))) ⟨m, fun _ => 0, g⟩ (fun r => (∀ c : Dev Cert.KernelAdMix1Ideal.nD,
      r.2.mem ((c.tc : Thread Cert.KernelAdMix1Ideal.nD Cert.KernelAdMix1Ideal.τ).loc Cert.KernelAdMix1Ideal.main_arg0) = m ((c.tc : Thread Cert.KernelAdMix1Ideal.nD Cert.KernelAdMix1Ideal.τ).loc Cert.KernelAdMix1Ideal.main_arg0)
      ∧ r.2.mem ((c.tc : Thread Cert.KernelAdMix1Ideal.nD Cert.KernelAdMix1Ideal.τ).loc Cert.KernelAdMix1Ideal.main_arg1) = m ((c.tc : Thread Cert.KernelAdMix1Ideal.nD Cert.KernelAdMix1Ideal.τ).loc Cert.KernelAdMix1Ideal.main_arg1)
      ∧ r.2.mem ((c.tc : Thread Cert.KernelAdMix1Ideal.nD Cert.KernelAdMix1Ideal.τ).loc Cert.KernelAdMix1Ideal.main_arg2) = m ((c.tc : Thread Cert.KernelAdMix1Ideal.nD Cert.KernelAdMix1Ideal.τ).loc Cert.KernelAdMix1Ideal.main_arg2)
      ∧ r.2.mem ((c.tc : Thread Cert.KernelAdMix1Ideal.nD Cert.KernelAdMix1Ideal.τ).loc Cert.KernelAdMix1Ideal.main_arg3) = m ((c.tc : Thread Cert.KernelAdMix1Ideal.nD Cert.KernelAdMix1Ideal.τ).loc Cert.KernelAdMix1Ideal.main_arg3)
      ∧ r.2.mem ((c.tc : Thread Cert.KernelAdMix1Ideal.nD Cert.KernelAdMix1Ideal.τ).loc Cert.KernelAdMix1Ideal.main_arg4) = m ((c.tc : Thread Cert.KernelAdMix1Ideal.nD Cert.KernelAdMix1Ideal.τ).loc Cert.KernelAdMix1Ideal.main_arg4)
      ∧ r.2.mem ((c.tc : Thread Cert.KernelAdMix1Ideal.nD Cert.KernelAdMix1Ideal.τ).loc Cert.KernelAdMix1Ideal.main_arg5) = m ((c.tc : Thread Cert.KernelAdMix1Ideal.nD Cert.KernelAdMix1Ideal.τ).loc Cert.KernelAdMix1Ideal.main_arg5))
      ∧ r.2.sem = fun _ => 0)

def quiescent_ReferenceAdMix1Ideal [hReferenceAdMix1Ideal : Cert.ReferenceAdMix1Ideal.Facts] [hPre_on_a_chip_mix : Cert.Pre_on_a_chip_mix.Facts] : Prop :=
  ∀ (m : (ℓ : Loc Cert.ReferenceAdMix1Ideal.nD Cert.ReferenceAdMix1Ideal.τ Cert.ReferenceAdMix1Ideal.sig) → Buf (Elt Ideal) ℓ) (g : Dev Cert.ReferenceAdMix1Ideal.nD → PrngReg), Pre_ReferenceAdMix1Ideal m →
    θ_run (Cert.ReferenceAdMix1Ideal.defs (F := Ideal)) (onTc (τ := Cert.ReferenceAdMix1Ideal.τ) (Cert.ReferenceAdMix1Ideal.main (F := Ideal))) ⟨m, fun _ => 0, g⟩ (fun r => (∀ c : Dev Cert.ReferenceAdMix1Ideal.nD,
      r.2.mem ((c.tc : Thread Cert.ReferenceAdMix1Ideal.nD Cert.ReferenceAdMix1Ideal.τ).loc Cert.ReferenceAdMix1Ideal.main_arg0) = m ((c.tc : Thread Cert.ReferenceAdMix1Ideal.nD Cert.ReferenceAdMix1Ideal.τ).loc Cert.ReferenceAdMix1Ideal.main_arg0)
      ∧ r.2.mem ((c.tc : Thread Cert.ReferenceAdMix1Ideal.nD Cert.ReferenceAdMix1Ideal.τ).loc Cert.ReferenceAdMix1Ideal.main_arg1) = m ((c.tc : Thread Cert.ReferenceAdMix1Ideal.nD Cert.ReferenceAdMix1Ideal.τ).loc Cert.ReferenceAdMix1Ideal.main_arg1)
      ∧ r.2.mem ((c.tc : Thread Cert.ReferenceAdMix1Ideal.nD Cert.ReferenceAdMix1Ideal.τ).loc Cert.ReferenceAdMix1Ideal.main_arg2) = m ((c.tc : Thread Cert.ReferenceAdMix1Ideal.nD Cert.ReferenceAdMix1Ideal.τ).loc Cert.ReferenceAdMix1Ideal.main_arg2)
      ∧ r.2.mem ((c.tc : Thread Cert.ReferenceAdMix1Ideal.nD Cert.ReferenceAdMix1Ideal.τ).loc Cert.ReferenceAdMix1Ideal.main_arg3) = m ((c.tc : Thread Cert.ReferenceAdMix1Ideal.nD Cert.ReferenceAdMix1Ideal.τ).loc Cert.ReferenceAdMix1Ideal.main_arg3)
      ∧ r.2.mem ((c.tc : Thread Cert.ReferenceAdMix1Ideal.nD Cert.ReferenceAdMix1Ideal.τ).loc Cert.ReferenceAdMix1Ideal.main_arg4) = m ((c.tc : Thread Cert.ReferenceAdMix1Ideal.nD Cert.ReferenceAdMix1Ideal.τ).loc Cert.ReferenceAdMix1Ideal.main_arg4)
      ∧ r.2.mem ((c.tc : Thread Cert.ReferenceAdMix1Ideal.nD Cert.ReferenceAdMix1Ideal.τ).loc Cert.ReferenceAdMix1Ideal.main_arg5) = m ((c.tc : Thread Cert.ReferenceAdMix1Ideal.nD Cert.ReferenceAdMix1Ideal.τ).loc Cert.ReferenceAdMix1Ideal.main_arg5))
      ∧ r.2.sem = fun _ => 0)

def quiescent_KernelAdMix2 [hKernelAdMix2 : Cert.KernelAdMix2.Facts] [hPre_on_a_chip_mix : Cert.Pre_on_a_chip_mix.Facts] : Prop :=
  ∀ (m : (ℓ : Loc Cert.KernelAdMix2.nD Cert.KernelAdMix2.τ Cert.KernelAdMix2.sig) → Buf (Elt Bits) ℓ) (g : Dev Cert.KernelAdMix2.nD → PrngReg), Pre_KernelAdMix2 m →
    θ_run (Cert.KernelAdMix2.defs (F := Bits)) (onTc (τ := Cert.KernelAdMix2.τ) (Cert.KernelAdMix2.main (F := Bits))) ⟨m, fun _ => 0, g⟩ (fun r => (∀ c : Dev Cert.KernelAdMix2.nD,
      r.2.mem ((c.tc : Thread Cert.KernelAdMix2.nD Cert.KernelAdMix2.τ).loc Cert.KernelAdMix2.main_arg0) = m ((c.tc : Thread Cert.KernelAdMix2.nD Cert.KernelAdMix2.τ).loc Cert.KernelAdMix2.main_arg0)
      ∧ r.2.mem ((c.tc : Thread Cert.KernelAdMix2.nD Cert.KernelAdMix2.τ).loc Cert.KernelAdMix2.main_arg1) = m ((c.tc : Thread Cert.KernelAdMix2.nD Cert.KernelAdMix2.τ).loc Cert.KernelAdMix2.main_arg1)
      ∧ r.2.mem ((c.tc : Thread Cert.KernelAdMix2.nD Cert.KernelAdMix2.τ).loc Cert.KernelAdMix2.main_arg2) = m ((c.tc : Thread Cert.KernelAdMix2.nD Cert.KernelAdMix2.τ).loc Cert.KernelAdMix2.main_arg2)
      ∧ r.2.mem ((c.tc : Thread Cert.KernelAdMix2.nD Cert.KernelAdMix2.τ).loc Cert.KernelAdMix2.main_arg3) = m ((c.tc : Thread Cert.KernelAdMix2.nD Cert.KernelAdMix2.τ).loc Cert.KernelAdMix2.main_arg3)
      ∧ r.2.mem ((c.tc : Thread Cert.KernelAdMix2.nD Cert.KernelAdMix2.τ).loc Cert.KernelAdMix2.main_arg4) = m ((c.tc : Thread Cert.KernelAdMix2.nD Cert.KernelAdMix2.τ).loc Cert.KernelAdMix2.main_arg4)
      ∧ r.2.mem ((c.tc : Thread Cert.KernelAdMix2.nD Cert.KernelAdMix2.τ).loc Cert.KernelAdMix2.main_arg5) = m ((c.tc : Thread Cert.KernelAdMix2.nD Cert.KernelAdMix2.τ).loc Cert.KernelAdMix2.main_arg5))
      ∧ r.2.sem = fun _ => 0)

def quiescent_KernelAdMix2Ideal [hKernelAdMix2Ideal : Cert.KernelAdMix2Ideal.Facts] [hPre_on_a_chip_mix : Cert.Pre_on_a_chip_mix.Facts] : Prop :=
  ∀ (m : (ℓ : Loc Cert.KernelAdMix2Ideal.nD Cert.KernelAdMix2Ideal.τ Cert.KernelAdMix2Ideal.sig) → Buf (Elt Ideal) ℓ) (g : Dev Cert.KernelAdMix2Ideal.nD → PrngReg), Pre_KernelAdMix2Ideal m →
    θ_run (Cert.KernelAdMix2Ideal.defs (F := Ideal)) (onTc (τ := Cert.KernelAdMix2Ideal.τ) (Cert.KernelAdMix2Ideal.main (F := Ideal))) ⟨m, fun _ => 0, g⟩ (fun r => (∀ c : Dev Cert.KernelAdMix2Ideal.nD,
      r.2.mem ((c.tc : Thread Cert.KernelAdMix2Ideal.nD Cert.KernelAdMix2Ideal.τ).loc Cert.KernelAdMix2Ideal.main_arg0) = m ((c.tc : Thread Cert.KernelAdMix2Ideal.nD Cert.KernelAdMix2Ideal.τ).loc Cert.KernelAdMix2Ideal.main_arg0)
      ∧ r.2.mem ((c.tc : Thread Cert.KernelAdMix2Ideal.nD Cert.KernelAdMix2Ideal.τ).loc Cert.KernelAdMix2Ideal.main_arg1) = m ((c.tc : Thread Cert.KernelAdMix2Ideal.nD Cert.KernelAdMix2Ideal.τ).loc Cert.KernelAdMix2Ideal.main_arg1)
      ∧ r.2.mem ((c.tc : Thread Cert.KernelAdMix2Ideal.nD Cert.KernelAdMix2Ideal.τ).loc Cert.KernelAdMix2Ideal.main_arg2) = m ((c.tc : Thread Cert.KernelAdMix2Ideal.nD Cert.KernelAdMix2Ideal.τ).loc Cert.KernelAdMix2Ideal.main_arg2)
      ∧ r.2.mem ((c.tc : Thread Cert.KernelAdMix2Ideal.nD Cert.KernelAdMix2Ideal.τ).loc Cert.KernelAdMix2Ideal.main_arg3) = m ((c.tc : Thread Cert.KernelAdMix2Ideal.nD Cert.KernelAdMix2Ideal.τ).loc Cert.KernelAdMix2Ideal.main_arg3)
      ∧ r.2.mem ((c.tc : Thread Cert.KernelAdMix2Ideal.nD Cert.KernelAdMix2Ideal.τ).loc Cert.KernelAdMix2Ideal.main_arg4) = m ((c.tc : Thread Cert.KernelAdMix2Ideal.nD Cert.KernelAdMix2Ideal.τ).loc Cert.KernelAdMix2Ideal.main_arg4)
      ∧ r.2.mem ((c.tc : Thread Cert.KernelAdMix2Ideal.nD Cert.KernelAdMix2Ideal.τ).loc Cert.KernelAdMix2Ideal.main_arg5) = m ((c.tc : Thread Cert.KernelAdMix2Ideal.nD Cert.KernelAdMix2Ideal.τ).loc Cert.KernelAdMix2Ideal.main_arg5))
      ∧ r.2.sem = fun _ => 0)

def quiescent_ReferenceAdMix2Ideal [hReferenceAdMix2Ideal : Cert.ReferenceAdMix2Ideal.Facts] [hPre_on_a_chip_mix : Cert.Pre_on_a_chip_mix.Facts] : Prop :=
  ∀ (m : (ℓ : Loc Cert.ReferenceAdMix2Ideal.nD Cert.ReferenceAdMix2Ideal.τ Cert.ReferenceAdMix2Ideal.sig) → Buf (Elt Ideal) ℓ) (g : Dev Cert.ReferenceAdMix2Ideal.nD → PrngReg), Pre_ReferenceAdMix2Ideal m →
    θ_run (Cert.ReferenceAdMix2Ideal.defs (F := Ideal)) (onTc (τ := Cert.ReferenceAdMix2Ideal.τ) (Cert.ReferenceAdMix2Ideal.main (F := Ideal))) ⟨m, fun _ => 0, g⟩ (fun r => (∀ c : Dev Cert.ReferenceAdMix2Ideal.nD,
      r.2.mem ((c.tc : Thread Cert.ReferenceAdMix2Ideal.nD Cert.ReferenceAdMix2Ideal.τ).loc Cert.ReferenceAdMix2Ideal.main_arg0) = m ((c.tc : Thread Cert.ReferenceAdMix2Ideal.nD Cert.ReferenceAdMix2Ideal.τ).loc Cert.ReferenceAdMix2Ideal.main_arg0)
      ∧ r.2.mem ((c.tc : Thread Cert.ReferenceAdMix2Ideal.nD Cert.ReferenceAdMix2Ideal.τ).loc Cert.ReferenceAdMix2Ideal.main_arg1) = m ((c.tc : Thread Cert.ReferenceAdMix2Ideal.nD Cert.ReferenceAdMix2Ideal.τ).loc Cert.ReferenceAdMix2Ideal.main_arg1)
      ∧ r.2.mem ((c.tc : Thread Cert.ReferenceAdMix2Ideal.nD Cert.ReferenceAdMix2Ideal.τ).loc Cert.ReferenceAdMix2Ideal.main_arg2) = m ((c.tc : Thread Cert.ReferenceAdMix2Ideal.nD Cert.ReferenceAdMix2Ideal.τ).loc Cert.ReferenceAdMix2Ideal.main_arg2)
      ∧ r.2.mem ((c.tc : Thread Cert.ReferenceAdMix2Ideal.nD Cert.ReferenceAdMix2Ideal.τ).loc Cert.ReferenceAdMix2Ideal.main_arg3) = m ((c.tc : Thread Cert.ReferenceAdMix2Ideal.nD Cert.ReferenceAdMix2Ideal.τ).loc Cert.ReferenceAdMix2Ideal.main_arg3)
      ∧ r.2.mem ((c.tc : Thread Cert.ReferenceAdMix2Ideal.nD Cert.ReferenceAdMix2Ideal.τ).loc Cert.ReferenceAdMix2Ideal.main_arg4) = m ((c.tc : Thread Cert.ReferenceAdMix2Ideal.nD Cert.ReferenceAdMix2Ideal.τ).loc Cert.ReferenceAdMix2Ideal.main_arg4)
      ∧ r.2.mem ((c.tc : Thread Cert.ReferenceAdMix2Ideal.nD Cert.ReferenceAdMix2Ideal.τ).loc Cert.ReferenceAdMix2Ideal.main_arg5) = m ((c.tc : Thread Cert.ReferenceAdMix2Ideal.nD Cert.ReferenceAdMix2Ideal.τ).loc Cert.ReferenceAdMix2Ideal.main_arg5))
      ∧ r.2.sem = fun _ => 0)

def quiescent_KernelAdCross0 [hKernelAdCross0 : Cert.KernelAdCross0.Facts] [hPre_on_a_chip_cross : Cert.Pre_on_a_chip_cross.Facts] : Prop :=
  ∀ (m : (ℓ : Loc Cert.KernelAdCross0.nD Cert.KernelAdCross0.τ Cert.KernelAdCross0.sig) → Buf (Elt Bits) ℓ) (g : Dev Cert.KernelAdCross0.nD → PrngReg), Pre_KernelAdCross0 m →
    θ_run (Cert.KernelAdCross0.defs (F := Bits)) (onTc (τ := Cert.KernelAdCross0.τ) (Cert.KernelAdCross0.main (F := Bits))) ⟨m, fun _ => 0, g⟩ (fun r => (∀ c : Dev Cert.KernelAdCross0.nD,
      r.2.mem ((c.tc : Thread Cert.KernelAdCross0.nD Cert.KernelAdCross0.τ).loc Cert.KernelAdCross0.main_arg0) = m ((c.tc : Thread Cert.KernelAdCross0.nD Cert.KernelAdCross0.τ).loc Cert.KernelAdCross0.main_arg0)
      ∧ r.2.mem ((c.tc : Thread Cert.KernelAdCross0.nD Cert.KernelAdCross0.τ).loc Cert.KernelAdCross0.main_arg1) = m ((c.tc : Thread Cert.KernelAdCross0.nD Cert.KernelAdCross0.τ).loc Cert.KernelAdCross0.main_arg1)
      ∧ r.2.mem ((c.tc : Thread Cert.KernelAdCross0.nD Cert.KernelAdCross0.τ).loc Cert.KernelAdCross0.main_arg2) = m ((c.tc : Thread Cert.KernelAdCross0.nD Cert.KernelAdCross0.τ).loc Cert.KernelAdCross0.main_arg2)
      ∧ r.2.mem ((c.tc : Thread Cert.KernelAdCross0.nD Cert.KernelAdCross0.τ).loc Cert.KernelAdCross0.main_arg3) = m ((c.tc : Thread Cert.KernelAdCross0.nD Cert.KernelAdCross0.τ).loc Cert.KernelAdCross0.main_arg3)
      ∧ r.2.mem ((c.tc : Thread Cert.KernelAdCross0.nD Cert.KernelAdCross0.τ).loc Cert.KernelAdCross0.main_arg4) = m ((c.tc : Thread Cert.KernelAdCross0.nD Cert.KernelAdCross0.τ).loc Cert.KernelAdCross0.main_arg4)
      ∧ r.2.mem ((c.tc : Thread Cert.KernelAdCross0.nD Cert.KernelAdCross0.τ).loc Cert.KernelAdCross0.main_arg5) = m ((c.tc : Thread Cert.KernelAdCross0.nD Cert.KernelAdCross0.τ).loc Cert.KernelAdCross0.main_arg5))
      ∧ r.2.sem = fun _ => 0)

def quiescent_KernelAdCross0Ideal [hKernelAdCross0Ideal : Cert.KernelAdCross0Ideal.Facts] [hPre_on_a_chip_cross : Cert.Pre_on_a_chip_cross.Facts] : Prop :=
  ∀ (m : (ℓ : Loc Cert.KernelAdCross0Ideal.nD Cert.KernelAdCross0Ideal.τ Cert.KernelAdCross0Ideal.sig) → Buf (Elt Ideal) ℓ) (g : Dev Cert.KernelAdCross0Ideal.nD → PrngReg), Pre_KernelAdCross0Ideal m →
    θ_run (Cert.KernelAdCross0Ideal.defs (F := Ideal)) (onTc (τ := Cert.KernelAdCross0Ideal.τ) (Cert.KernelAdCross0Ideal.main (F := Ideal))) ⟨m, fun _ => 0, g⟩ (fun r => (∀ c : Dev Cert.KernelAdCross0Ideal.nD,
      r.2.mem ((c.tc : Thread Cert.KernelAdCross0Ideal.nD Cert.KernelAdCross0Ideal.τ).loc Cert.KernelAdCross0Ideal.main_arg0) = m ((c.tc : Thread Cert.KernelAdCross0Ideal.nD Cert.KernelAdCross0Ideal.τ).loc Cert.KernelAdCross0Ideal.main_arg0)
      ∧ r.2.mem ((c.tc : Thread Cert.KernelAdCross0Ideal.nD Cert.KernelAdCross0Ideal.τ).loc Cert.KernelAdCross0Ideal.main_arg1) = m ((c.tc : Thread Cert.KernelAdCross0Ideal.nD Cert.KernelAdCross0Ideal.τ).loc Cert.KernelAdCross0Ideal.main_arg1)
      ∧ r.2.mem ((c.tc : Thread Cert.KernelAdCross0Ideal.nD Cert.KernelAdCross0Ideal.τ).loc Cert.KernelAdCross0Ideal.main_arg2) = m ((c.tc : Thread Cert.KernelAdCross0Ideal.nD Cert.KernelAdCross0Ideal.τ).loc Cert.KernelAdCross0Ideal.main_arg2)
      ∧ r.2.mem ((c.tc : Thread Cert.KernelAdCross0Ideal.nD Cert.KernelAdCross0Ideal.τ).loc Cert.KernelAdCross0Ideal.main_arg3) = m ((c.tc : Thread Cert.KernelAdCross0Ideal.nD Cert.KernelAdCross0Ideal.τ).loc Cert.KernelAdCross0Ideal.main_arg3)
      ∧ r.2.mem ((c.tc : Thread Cert.KernelAdCross0Ideal.nD Cert.KernelAdCross0Ideal.τ).loc Cert.KernelAdCross0Ideal.main_arg4) = m ((c.tc : Thread Cert.KernelAdCross0Ideal.nD Cert.KernelAdCross0Ideal.τ).loc Cert.KernelAdCross0Ideal.main_arg4)
      ∧ r.2.mem ((c.tc : Thread Cert.KernelAdCross0Ideal.nD Cert.KernelAdCross0Ideal.τ).loc Cert.KernelAdCross0Ideal.main_arg5) = m ((c.tc : Thread Cert.KernelAdCross0Ideal.nD Cert.KernelAdCross0Ideal.τ).loc Cert.KernelAdCross0Ideal.main_arg5))
      ∧ r.2.sem = fun _ => 0)

def quiescent_ReferenceAdCross0Ideal [hReferenceAdCross0Ideal : Cert.ReferenceAdCross0Ideal.Facts] [hPre_on_a_chip_cross : Cert.Pre_on_a_chip_cross.Facts] : Prop :=
  ∀ (m : (ℓ : Loc Cert.ReferenceAdCross0Ideal.nD Cert.ReferenceAdCross0Ideal.τ Cert.ReferenceAdCross0Ideal.sig) → Buf (Elt Ideal) ℓ) (g : Dev Cert.ReferenceAdCross0Ideal.nD → PrngReg), Pre_ReferenceAdCross0Ideal m →
    θ_run (Cert.ReferenceAdCross0Ideal.defs (F := Ideal)) (onTc (τ := Cert.ReferenceAdCross0Ideal.τ) (Cert.ReferenceAdCross0Ideal.main (F := Ideal))) ⟨m, fun _ => 0, g⟩ (fun r => (∀ c : Dev Cert.ReferenceAdCross0Ideal.nD,
      r.2.mem ((c.tc : Thread Cert.ReferenceAdCross0Ideal.nD Cert.ReferenceAdCross0Ideal.τ).loc Cert.ReferenceAdCross0Ideal.main_arg0) = m ((c.tc : Thread Cert.ReferenceAdCross0Ideal.nD Cert.ReferenceAdCross0Ideal.τ).loc Cert.ReferenceAdCross0Ideal.main_arg0)
      ∧ r.2.mem ((c.tc : Thread Cert.ReferenceAdCross0Ideal.nD Cert.ReferenceAdCross0Ideal.τ).loc Cert.ReferenceAdCross0Ideal.main_arg1) = m ((c.tc : Thread Cert.ReferenceAdCross0Ideal.nD Cert.ReferenceAdCross0Ideal.τ).loc Cert.ReferenceAdCross0Ideal.main_arg1)
      ∧ r.2.mem ((c.tc : Thread Cert.ReferenceAdCross0Ideal.nD Cert.ReferenceAdCross0Ideal.τ).loc Cert.ReferenceAdCross0Ideal.main_arg2) = m ((c.tc : Thread Cert.ReferenceAdCross0Ideal.nD Cert.ReferenceAdCross0Ideal.τ).loc Cert.ReferenceAdCross0Ideal.main_arg2)
      ∧ r.2.mem ((c.tc : Thread Cert.ReferenceAdCross0Ideal.nD Cert.ReferenceAdCross0Ideal.τ).loc Cert.ReferenceAdCross0Ideal.main_arg3) = m ((c.tc : Thread Cert.ReferenceAdCross0Ideal.nD Cert.ReferenceAdCross0Ideal.τ).loc Cert.ReferenceAdCross0Ideal.main_arg3)
      ∧ r.2.mem ((c.tc : Thread Cert.ReferenceAdCross0Ideal.nD Cert.ReferenceAdCross0Ideal.τ).loc Cert.ReferenceAdCross0Ideal.main_arg4) = m ((c.tc : Thread Cert.ReferenceAdCross0Ideal.nD Cert.ReferenceAdCross0Ideal.τ).loc Cert.ReferenceAdCross0Ideal.main_arg4)
      ∧ r.2.mem ((c.tc : Thread Cert.ReferenceAdCross0Ideal.nD Cert.ReferenceAdCross0Ideal.τ).loc Cert.ReferenceAdCross0Ideal.main_arg5) = m ((c.tc : Thread Cert.ReferenceAdCross0Ideal.nD Cert.ReferenceAdCross0Ideal.τ).loc Cert.ReferenceAdCross0Ideal.main_arg5))
      ∧ r.2.sem = fun _ => 0)

def quiescent_KernelAdCross1 [hKernelAdCross1 : Cert.KernelAdCross1.Facts] [hPre_on_a_chip_cross : Cert.Pre_on_a_chip_cross.Facts] : Prop :=
  ∀ (m : (ℓ : Loc Cert.KernelAdCross1.nD Cert.KernelAdCross1.τ Cert.KernelAdCross1.sig) → Buf (Elt Bits) ℓ) (g : Dev Cert.KernelAdCross1.nD → PrngReg), Pre_KernelAdCross1 m →
    θ_run (Cert.KernelAdCross1.defs (F := Bits)) (onTc (τ := Cert.KernelAdCross1.τ) (Cert.KernelAdCross1.main (F := Bits))) ⟨m, fun _ => 0, g⟩ (fun r => (∀ c : Dev Cert.KernelAdCross1.nD,
      r.2.mem ((c.tc : Thread Cert.KernelAdCross1.nD Cert.KernelAdCross1.τ).loc Cert.KernelAdCross1.main_arg0) = m ((c.tc : Thread Cert.KernelAdCross1.nD Cert.KernelAdCross1.τ).loc Cert.KernelAdCross1.main_arg0)
      ∧ r.2.mem ((c.tc : Thread Cert.KernelAdCross1.nD Cert.KernelAdCross1.τ).loc Cert.KernelAdCross1.main_arg1) = m ((c.tc : Thread Cert.KernelAdCross1.nD Cert.KernelAdCross1.τ).loc Cert.KernelAdCross1.main_arg1)
      ∧ r.2.mem ((c.tc : Thread Cert.KernelAdCross1.nD Cert.KernelAdCross1.τ).loc Cert.KernelAdCross1.main_arg2) = m ((c.tc : Thread Cert.KernelAdCross1.nD Cert.KernelAdCross1.τ).loc Cert.KernelAdCross1.main_arg2)
      ∧ r.2.mem ((c.tc : Thread Cert.KernelAdCross1.nD Cert.KernelAdCross1.τ).loc Cert.KernelAdCross1.main_arg3) = m ((c.tc : Thread Cert.KernelAdCross1.nD Cert.KernelAdCross1.τ).loc Cert.KernelAdCross1.main_arg3)
      ∧ r.2.mem ((c.tc : Thread Cert.KernelAdCross1.nD Cert.KernelAdCross1.τ).loc Cert.KernelAdCross1.main_arg4) = m ((c.tc : Thread Cert.KernelAdCross1.nD Cert.KernelAdCross1.τ).loc Cert.KernelAdCross1.main_arg4)
      ∧ r.2.mem ((c.tc : Thread Cert.KernelAdCross1.nD Cert.KernelAdCross1.τ).loc Cert.KernelAdCross1.main_arg5) = m ((c.tc : Thread Cert.KernelAdCross1.nD Cert.KernelAdCross1.τ).loc Cert.KernelAdCross1.main_arg5))
      ∧ r.2.sem = fun _ => 0)

def quiescent_KernelAdCross1Ideal [hKernelAdCross1Ideal : Cert.KernelAdCross1Ideal.Facts] [hPre_on_a_chip_cross : Cert.Pre_on_a_chip_cross.Facts] : Prop :=
  ∀ (m : (ℓ : Loc Cert.KernelAdCross1Ideal.nD Cert.KernelAdCross1Ideal.τ Cert.KernelAdCross1Ideal.sig) → Buf (Elt Ideal) ℓ) (g : Dev Cert.KernelAdCross1Ideal.nD → PrngReg), Pre_KernelAdCross1Ideal m →
    θ_run (Cert.KernelAdCross1Ideal.defs (F := Ideal)) (onTc (τ := Cert.KernelAdCross1Ideal.τ) (Cert.KernelAdCross1Ideal.main (F := Ideal))) ⟨m, fun _ => 0, g⟩ (fun r => (∀ c : Dev Cert.KernelAdCross1Ideal.nD,
      r.2.mem ((c.tc : Thread Cert.KernelAdCross1Ideal.nD Cert.KernelAdCross1Ideal.τ).loc Cert.KernelAdCross1Ideal.main_arg0) = m ((c.tc : Thread Cert.KernelAdCross1Ideal.nD Cert.KernelAdCross1Ideal.τ).loc Cert.KernelAdCross1Ideal.main_arg0)
      ∧ r.2.mem ((c.tc : Thread Cert.KernelAdCross1Ideal.nD Cert.KernelAdCross1Ideal.τ).loc Cert.KernelAdCross1Ideal.main_arg1) = m ((c.tc : Thread Cert.KernelAdCross1Ideal.nD Cert.KernelAdCross1Ideal.τ).loc Cert.KernelAdCross1Ideal.main_arg1)
      ∧ r.2.mem ((c.tc : Thread Cert.KernelAdCross1Ideal.nD Cert.KernelAdCross1Ideal.τ).loc Cert.KernelAdCross1Ideal.main_arg2) = m ((c.tc : Thread Cert.KernelAdCross1Ideal.nD Cert.KernelAdCross1Ideal.τ).loc Cert.KernelAdCross1Ideal.main_arg2)
      ∧ r.2.mem ((c.tc : Thread Cert.KernelAdCross1Ideal.nD Cert.KernelAdCross1Ideal.τ).loc Cert.KernelAdCross1Ideal.main_arg3) = m ((c.tc : Thread Cert.KernelAdCross1Ideal.nD Cert.KernelAdCross1Ideal.τ).loc Cert.KernelAdCross1Ideal.main_arg3)
      ∧ r.2.mem ((c.tc : Thread Cert.KernelAdCross1Ideal.nD Cert.KernelAdCross1Ideal.τ).loc Cert.KernelAdCross1Ideal.main_arg4) = m ((c.tc : Thread Cert.KernelAdCross1Ideal.nD Cert.KernelAdCross1Ideal.τ).loc Cert.KernelAdCross1Ideal.main_arg4)
      ∧ r.2.mem ((c.tc : Thread Cert.KernelAdCross1Ideal.nD Cert.KernelAdCross1Ideal.τ).loc Cert.KernelAdCross1Ideal.main_arg5) = m ((c.tc : Thread Cert.KernelAdCross1Ideal.nD Cert.KernelAdCross1Ideal.τ).loc Cert.KernelAdCross1Ideal.main_arg5))
      ∧ r.2.sem = fun _ => 0)

def quiescent_ReferenceAdCross1Ideal [hReferenceAdCross1Ideal : Cert.ReferenceAdCross1Ideal.Facts] [hPre_on_a_chip_cross : Cert.Pre_on_a_chip_cross.Facts] : Prop :=
  ∀ (m : (ℓ : Loc Cert.ReferenceAdCross1Ideal.nD Cert.ReferenceAdCross1Ideal.τ Cert.ReferenceAdCross1Ideal.sig) → Buf (Elt Ideal) ℓ) (g : Dev Cert.ReferenceAdCross1Ideal.nD → PrngReg), Pre_ReferenceAdCross1Ideal m →
    θ_run (Cert.ReferenceAdCross1Ideal.defs (F := Ideal)) (onTc (τ := Cert.ReferenceAdCross1Ideal.τ) (Cert.ReferenceAdCross1Ideal.main (F := Ideal))) ⟨m, fun _ => 0, g⟩ (fun r => (∀ c : Dev Cert.ReferenceAdCross1Ideal.nD,
      r.2.mem ((c.tc : Thread Cert.ReferenceAdCross1Ideal.nD Cert.ReferenceAdCross1Ideal.τ).loc Cert.ReferenceAdCross1Ideal.main_arg0) = m ((c.tc : Thread Cert.ReferenceAdCross1Ideal.nD Cert.ReferenceAdCross1Ideal.τ).loc Cert.ReferenceAdCross1Ideal.main_arg0)
      ∧ r.2.mem ((c.tc : Thread Cert.ReferenceAdCross1Ideal.nD Cert.ReferenceAdCross1Ideal.τ).loc Cert.ReferenceAdCross1Ideal.main_arg1) = m ((c.tc : Thread Cert.ReferenceAdCross1Ideal.nD Cert.ReferenceAdCross1Ideal.τ).loc Cert.ReferenceAdCross1Ideal.main_arg1)
      ∧ r.2.mem ((c.tc : Thread Cert.ReferenceAdCross1Ideal.nD Cert.ReferenceAdCross1Ideal.τ).loc Cert.ReferenceAdCross1Ideal.main_arg2) = m ((c.tc : Thread Cert.ReferenceAdCross1Ideal.nD Cert.ReferenceAdCross1Ideal.τ).loc Cert.ReferenceAdCross1Ideal.main_arg2)
      ∧ r.2.mem ((c.tc : Thread Cert.ReferenceAdCross1Ideal.nD Cert.ReferenceAdCross1Ideal.τ).loc Cert.ReferenceAdCross1Ideal.main_arg3) = m ((c.tc : Thread Cert.ReferenceAdCross1Ideal.nD Cert.ReferenceAdCross1Ideal.τ).loc Cert.ReferenceAdCross1Ideal.main_arg3)
      ∧ r.2.mem ((c.tc : Thread Cert.ReferenceAdCross1Ideal.nD Cert.ReferenceAdCross1Ideal.τ).loc Cert.ReferenceAdCross1Ideal.main_arg4) = m ((c.tc : Thread Cert.ReferenceAdCross1Ideal.nD Cert.ReferenceAdCross1Ideal.τ).loc Cert.ReferenceAdCross1Ideal.main_arg4)
      ∧ r.2.mem ((c.tc : Thread Cert.ReferenceAdCross1Ideal.nD Cert.ReferenceAdCross1Ideal.τ).loc Cert.ReferenceAdCross1Ideal.main_arg5) = m ((c.tc : Thread Cert.ReferenceAdCross1Ideal.nD Cert.ReferenceAdCross1Ideal.τ).loc Cert.ReferenceAdCross1Ideal.main_arg5))
      ∧ r.2.sem = fun _ => 0)

def quiescent_KernelAdGu [hKernelAdGu : Cert.KernelAdGu.Facts] [hPre_on_a_chip_gu : Cert.Pre_on_a_chip_gu.Facts] : Prop :=
  ∀ (m : (ℓ : Loc Cert.KernelAdGu.nD Cert.KernelAdGu.τ Cert.KernelAdGu.sig) → Buf (Elt Bits) ℓ) (g : Dev Cert.KernelAdGu.nD → PrngReg), Pre_KernelAdGu m →
    θ_run (Cert.KernelAdGu.defs (F := Bits)) (onTc (τ := Cert.KernelAdGu.τ) (Cert.KernelAdGu.main (F := Bits))) ⟨m, fun _ => 0, g⟩ (fun r => (∀ c : Dev Cert.KernelAdGu.nD,
      r.2.mem ((c.tc : Thread Cert.KernelAdGu.nD Cert.KernelAdGu.τ).loc Cert.KernelAdGu.main_arg0) = m ((c.tc : Thread Cert.KernelAdGu.nD Cert.KernelAdGu.τ).loc Cert.KernelAdGu.main_arg0)
      ∧ r.2.mem ((c.tc : Thread Cert.KernelAdGu.nD Cert.KernelAdGu.τ).loc Cert.KernelAdGu.main_arg1) = m ((c.tc : Thread Cert.KernelAdGu.nD Cert.KernelAdGu.τ).loc Cert.KernelAdGu.main_arg1)
      ∧ r.2.mem ((c.tc : Thread Cert.KernelAdGu.nD Cert.KernelAdGu.τ).loc Cert.KernelAdGu.main_arg2) = m ((c.tc : Thread Cert.KernelAdGu.nD Cert.KernelAdGu.τ).loc Cert.KernelAdGu.main_arg2)
      ∧ r.2.mem ((c.tc : Thread Cert.KernelAdGu.nD Cert.KernelAdGu.τ).loc Cert.KernelAdGu.main_arg3) = m ((c.tc : Thread Cert.KernelAdGu.nD Cert.KernelAdGu.τ).loc Cert.KernelAdGu.main_arg3)
      ∧ r.2.mem ((c.tc : Thread Cert.KernelAdGu.nD Cert.KernelAdGu.τ).loc Cert.KernelAdGu.main_arg4) = m ((c.tc : Thread Cert.KernelAdGu.nD Cert.KernelAdGu.τ).loc Cert.KernelAdGu.main_arg4)
      ∧ r.2.mem ((c.tc : Thread Cert.KernelAdGu.nD Cert.KernelAdGu.τ).loc Cert.KernelAdGu.main_arg5) = m ((c.tc : Thread Cert.KernelAdGu.nD Cert.KernelAdGu.τ).loc Cert.KernelAdGu.main_arg5))
      ∧ r.2.sem = fun _ => 0)

def quiescent_KernelAdGuIdeal [hKernelAdGuIdeal : Cert.KernelAdGuIdeal.Facts] [hPre_on_a_chip_gu : Cert.Pre_on_a_chip_gu.Facts] : Prop :=
  ∀ (m : (ℓ : Loc Cert.KernelAdGuIdeal.nD Cert.KernelAdGuIdeal.τ Cert.KernelAdGuIdeal.sig) → Buf (Elt Ideal) ℓ) (g : Dev Cert.KernelAdGuIdeal.nD → PrngReg), Pre_KernelAdGuIdeal m →
    θ_run (Cert.KernelAdGuIdeal.defs (F := Ideal)) (onTc (τ := Cert.KernelAdGuIdeal.τ) (Cert.KernelAdGuIdeal.main (F := Ideal))) ⟨m, fun _ => 0, g⟩ (fun r => (∀ c : Dev Cert.KernelAdGuIdeal.nD,
      r.2.mem ((c.tc : Thread Cert.KernelAdGuIdeal.nD Cert.KernelAdGuIdeal.τ).loc Cert.KernelAdGuIdeal.main_arg0) = m ((c.tc : Thread Cert.KernelAdGuIdeal.nD Cert.KernelAdGuIdeal.τ).loc Cert.KernelAdGuIdeal.main_arg0)
      ∧ r.2.mem ((c.tc : Thread Cert.KernelAdGuIdeal.nD Cert.KernelAdGuIdeal.τ).loc Cert.KernelAdGuIdeal.main_arg1) = m ((c.tc : Thread Cert.KernelAdGuIdeal.nD Cert.KernelAdGuIdeal.τ).loc Cert.KernelAdGuIdeal.main_arg1)
      ∧ r.2.mem ((c.tc : Thread Cert.KernelAdGuIdeal.nD Cert.KernelAdGuIdeal.τ).loc Cert.KernelAdGuIdeal.main_arg2) = m ((c.tc : Thread Cert.KernelAdGuIdeal.nD Cert.KernelAdGuIdeal.τ).loc Cert.KernelAdGuIdeal.main_arg2)
      ∧ r.2.mem ((c.tc : Thread Cert.KernelAdGuIdeal.nD Cert.KernelAdGuIdeal.τ).loc Cert.KernelAdGuIdeal.main_arg3) = m ((c.tc : Thread Cert.KernelAdGuIdeal.nD Cert.KernelAdGuIdeal.τ).loc Cert.KernelAdGuIdeal.main_arg3)
      ∧ r.2.mem ((c.tc : Thread Cert.KernelAdGuIdeal.nD Cert.KernelAdGuIdeal.τ).loc Cert.KernelAdGuIdeal.main_arg4) = m ((c.tc : Thread Cert.KernelAdGuIdeal.nD Cert.KernelAdGuIdeal.τ).loc Cert.KernelAdGuIdeal.main_arg4)
      ∧ r.2.mem ((c.tc : Thread Cert.KernelAdGuIdeal.nD Cert.KernelAdGuIdeal.τ).loc Cert.KernelAdGuIdeal.main_arg5) = m ((c.tc : Thread Cert.KernelAdGuIdeal.nD Cert.KernelAdGuIdeal.τ).loc Cert.KernelAdGuIdeal.main_arg5))
      ∧ r.2.sem = fun _ => 0)

def quiescent_ReferenceAdGuIdeal [hReferenceAdGuIdeal : Cert.ReferenceAdGuIdeal.Facts] [hPre_on_a_chip_gu : Cert.Pre_on_a_chip_gu.Facts] : Prop :=
  ∀ (m : (ℓ : Loc Cert.ReferenceAdGuIdeal.nD Cert.ReferenceAdGuIdeal.τ Cert.ReferenceAdGuIdeal.sig) → Buf (Elt Ideal) ℓ) (g : Dev Cert.ReferenceAdGuIdeal.nD → PrngReg), Pre_ReferenceAdGuIdeal m →
    θ_run (Cert.ReferenceAdGuIdeal.defs (F := Ideal)) (onTc (τ := Cert.ReferenceAdGuIdeal.τ) (Cert.ReferenceAdGuIdeal.main (F := Ideal))) ⟨m, fun _ => 0, g⟩ (fun r => (∀ c : Dev Cert.ReferenceAdGuIdeal.nD,
      r.2.mem ((c.tc : Thread Cert.ReferenceAdGuIdeal.nD Cert.ReferenceAdGuIdeal.τ).loc Cert.ReferenceAdGuIdeal.main_arg0) = m ((c.tc : Thread Cert.ReferenceAdGuIdeal.nD Cert.ReferenceAdGuIdeal.τ).loc Cert.ReferenceAdGuIdeal.main_arg0)
      ∧ r.2.mem ((c.tc : Thread Cert.ReferenceAdGuIdeal.nD Cert.ReferenceAdGuIdeal.τ).loc Cert.ReferenceAdGuIdeal.main_arg1) = m ((c.tc : Thread Cert.ReferenceAdGuIdeal.nD Cert.ReferenceAdGuIdeal.τ).loc Cert.ReferenceAdGuIdeal.main_arg1)
      ∧ r.2.mem ((c.tc : Thread Cert.ReferenceAdGuIdeal.nD Cert.ReferenceAdGuIdeal.τ).loc Cert.ReferenceAdGuIdeal.main_arg2) = m ((c.tc : Thread Cert.ReferenceAdGuIdeal.nD Cert.ReferenceAdGuIdeal.τ).loc Cert.ReferenceAdGuIdeal.main_arg2)
      ∧ r.2.mem ((c.tc : Thread Cert.ReferenceAdGuIdeal.nD Cert.ReferenceAdGuIdeal.τ).loc Cert.ReferenceAdGuIdeal.main_arg3) = m ((c.tc : Thread Cert.ReferenceAdGuIdeal.nD Cert.ReferenceAdGuIdeal.τ).loc Cert.ReferenceAdGuIdeal.main_arg3)
      ∧ r.2.mem ((c.tc : Thread Cert.ReferenceAdGuIdeal.nD Cert.ReferenceAdGuIdeal.τ).loc Cert.ReferenceAdGuIdeal.main_arg4) = m ((c.tc : Thread Cert.ReferenceAdGuIdeal.nD Cert.ReferenceAdGuIdeal.τ).loc Cert.ReferenceAdGuIdeal.main_arg4)
      ∧ r.2.mem ((c.tc : Thread Cert.ReferenceAdGuIdeal.nD Cert.ReferenceAdGuIdeal.τ).loc Cert.ReferenceAdGuIdeal.main_arg5) = m ((c.tc : Thread Cert.ReferenceAdGuIdeal.nD Cert.ReferenceAdGuIdeal.τ).loc Cert.ReferenceAdGuIdeal.main_arg5))
      ∧ r.2.sem = fun _ => 0)

def preserves_Kernel_KernelIdeal : Prop :=
  IdealRules.named_const.Statement Cert.KernelIdeal.κ "scale_log2_e" .f32 0x3E0293EE#32 (((Real.sqrt 128)⁻¹ * (Real.log 2)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)
      ∧ m' ((c.tc : Thread Cert.ReferenceGuIdeal.nD Cert.ReferenceGuIdeal.τ).loc Cert.ReferenceGuIdeal.main_arg2) = m ((c.tc : Thread Cert.KernelGuIdeal.nD Cert.KernelGuIdeal.τ).loc Cert.KernelGuIdeal.main_arg2)) →
    ∃ (v0 : (c : Dev Cert.KernelGuIdeal.nD) → Buf (Elt Ideal) ((c.tc : Thread Cert.KernelGuIdeal.nD Cert.KernelGuIdeal.τ).loc Cert.KernelGuIdeal.main_v2)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v2) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
          ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v4) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1)
          ∧ r.2.mem ((c.tc : Thread Cert.ReferenceGuIdeal.nD Cert.ReferenceGuIdeal.τ).loc Cert.ReferenceGuIdeal.main_arg2) = m' ((c.tc : Thread Cert.ReferenceGuIdeal.nD Cert.ReferenceGuIdeal.τ).loc Cert.ReferenceGuIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v18) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)) →
    ∃ (v0 : (c : Dev Cert.KernelMixIdeal.nD) → Buf (Elt Ideal) ((c.tc : Thread Cert.KernelMixIdeal.nD Cert.KernelMixIdeal.τ).loc Cert.KernelMixIdeal.main_v6)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v19) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6))

def preserves_KernelCross_KernelCrossIdeal : Prop :=
  True

def algebraic_KernelCrossIdeal_ReferenceCrossIdeal [hKernelCrossIdeal : Cert.KernelCrossIdeal.Facts] [hReferenceCrossIdeal : Cert.ReferenceCrossIdeal.Facts] : Prop :=
  ∀ (m : (ℓ : Loc Cert.KernelCrossIdeal.nD Cert.KernelCrossIdeal.τ Cert.KernelCrossIdeal.sig) → Buf (Elt Ideal) ℓ) (g : Dev Cert.KernelCrossIdeal.nD → PrngReg)
    (m' : (ℓ : Loc Cert.ReferenceCrossIdeal.nD Cert.ReferenceCrossIdeal.τ Cert.ReferenceCrossIdeal.sig) → Buf (Elt Ideal) ℓ) (g' : Dev Cert.ReferenceCrossIdeal.nD → PrngReg), Pre_KernelCrossIdeal m →
    (∀ c : Dev Cert.KernelCrossIdeal.nD,
      m' ((c.tc : Thread Cert.ReferenceCrossIdeal.nD Cert.ReferenceCrossIdeal.τ).loc Cert.ReferenceCrossIdeal.main_arg0) = m ((c.tc : Thread Cert.KernelCrossIdeal.nD Cert.KernelCrossIdeal.τ).loc Cert.KernelCrossIdeal.main_arg0)
      ∧ m' ((c.tc : Thread Cert.ReferenceCrossIdeal.nD Cert.ReferenceCrossIdeal.τ).loc Cert.ReferenceCrossIdeal.main_arg1) = m ((c.tc : Thread Cert.KernelCrossIdeal.nD Cert.KernelCrossIdeal.τ).loc Cert.KernelCrossIdeal.main_arg1)
      ∧ m' ((c.tc : Thread Cert.ReferenceCrossIdeal.nD Cert.ReferenceCrossIdeal.τ).loc Cert.ReferenceCrossIdeal.main_arg2) = m ((c.tc : Thread Cert.KernelCrossIdeal.nD Cert.KernelCrossIdeal.τ).loc Cert.KernelCrossIdeal.main_arg2)
      ∧ m' ((c.tc : Thread Cert.ReferenceCrossIdeal.nD Cert.ReferenceCrossIdeal.τ).loc Cert.ReferenceCrossIdeal.main_arg3) = m ((c.tc : Thread Cert.KernelCrossIdeal.nD Cert.KernelCrossIdeal.τ).loc Cert.KernelCrossIdeal.main_arg3)
      ∧ m' ((c.tc : Thread Cert.ReferenceCrossIdeal.nD Cert.ReferenceCrossIdeal.τ).loc Cert.ReferenceCrossIdeal.main_arg4) = m ((c.tc : Thread Cert.KernelCrossIdeal.nD Cert.KernelCrossIdeal.τ).loc Cert.KernelCrossIdeal.main_arg4)) →
    ∃ (v0 : (c : Dev Cert.KernelCrossIdeal.nD) → Buf (Elt Ideal) ((c.tc : Thread Cert.KernelCrossIdeal.nD Cert.KernelCrossIdeal.τ).loc Cert.KernelCrossIdeal.main_v4)),
      θ_run (Cert.KernelCrossIdeal.defs (F := Ideal)) (onTc (τ := Cert.KernelCrossIdeal.τ) (Cert.KernelCrossIdeal.main (F := Ideal))) ⟨m, fun _ => 0, g⟩ (fun r => ∀ c : Dev Cert.KernelCrossIdeal.nD,
          r.2.mem ((c.tc : Thread Cert.KernelCrossIdeal.nD Cert.KernelCrossIdeal.τ).loc Cert.KernelCrossIdeal.main_v4) = v0 c
          ∧ r.2.mem ((c.tc : Thread Cert.KernelCrossIdeal.nD Cert.KernelCrossIdeal.τ).loc Cert.KernelCrossIdeal.main_arg0) = m ((c.tc : Thread Cert.KernelCrossIdeal.nD Cert.KernelCrossIdeal.τ).loc Cert.KernelCrossIdeal.main_arg0)
          ∧ r.2.mem ((c.tc : Thread Cert.KernelCrossIdeal.nD Cert.KernelCrossIdeal.τ).loc Cert.KernelCrossIdeal.main_arg1) = m ((c.tc : Thread Cert.KernelCrossIdeal.nD Cert.KernelCrossIdeal.τ).loc Cert.KernelCrossIdeal.main_arg1)
          ∧ r.2.mem ((c.tc : Thread Cert.KernelCrossIdeal.nD Cert.KernelCrossIdeal.τ).loc Cert.KernelCrossIdeal.main_arg2) = m ((c.tc : Thread Cert.KernelCrossIdeal.nD Cert.KernelCrossIdeal.τ).loc Cert.KernelCrossIdeal.main_arg2)
          ∧ r.2.mem ((c.tc : Thread Cert.KernelCrossIdeal.nD Cert.KernelCrossIdeal.τ).loc Cert.KernelCrossIdeal.main_arg3) = m ((c.tc : Thread Cert.KernelCrossIdeal.nD Cert.KernelCrossIdeal.τ).loc Cert.KernelCrossIdeal.main_arg3)
          ∧ r.2.mem ((c.tc : Thread Cert.KernelCrossIdeal.nD Cert.KernelCrossIdeal.τ).loc Cert.KernelCrossIdeal.main_arg4) = m ((c.tc : Thread Cert.KernelCrossIdeal.nD Cert.KernelCrossIdeal.τ).loc Cert.KernelCrossIdeal.main_arg4))
      ∧ θ_run (Cert.ReferenceCrossIdeal.defs (F := Ideal)) (onTc (τ := Cert.ReferenceCrossIdeal.τ) (Cert.ReferenceCrossIdeal.main (F := Ideal))) ⟨m', fun _ => 0, g'⟩ (fun r => ∀ c : Dev Cert.ReferenceCrossIdeal.nD,
          r.2.mem ((c.tc : Thread Cert.ReferenceCrossIdeal.nD Cert.ReferenceCrossIdeal.τ).loc Cert.ReferenceCrossIdeal.main_v13) = v0 c
          ∧ r.2.mem ((c.tc : Thread Cert.ReferenceCrossIdeal.nD Cert.ReferenceCrossIdeal.τ).loc Cert.ReferenceCrossIdeal.main_arg0) = m' ((c.tc : Thread Cert.ReferenceCrossIdeal.nD Cert.ReferenceCrossIdeal.τ).loc Cert.ReferenceCrossIdeal.main_arg0)
          ∧ r.2.mem ((c.tc : Thread Cert.ReferenceCrossIdeal.nD Cert.ReferenceCrossIdeal.τ).loc Cert.ReferenceCrossIdeal.main_arg1) = m' ((c.tc : Thread Cert.ReferenceCrossIdeal.nD Cert.ReferenceCrossIdeal.τ).loc Cert.ReferenceCrossIdeal.main_arg1)
          ∧ r.2.mem ((c.tc : Thread Cert.ReferenceCrossIdeal.nD Cert.ReferenceCrossIdeal.τ).loc Cert.ReferenceCrossIdeal.main_arg2) = m' ((c.tc : Thread Cert.ReferenceCrossIdeal.nD Cert.ReferenceCrossIdeal.τ).loc Cert.ReferenceCrossIdeal.main_arg2)
          ∧ r.2.mem ((c.tc : Thread Cert.ReferenceCrossIdeal.nD Cert.ReferenceCrossIdeal.τ).loc Cert.ReferenceCrossIdeal.main_arg3) = m' ((c.tc : Thread Cert.ReferenceCrossIdeal.nD Cert.ReferenceCrossIdeal.τ).loc Cert.ReferenceCrossIdeal.main_arg3)
          ∧ r.2.mem ((c.tc : Thread Cert.ReferenceCrossIdeal.nD Cert.ReferenceCrossIdeal.τ).loc Cert.ReferenceCrossIdeal.main_arg4) = m' ((c.tc : Thread Cert.ReferenceCrossIdeal.nD Cert.ReferenceCrossIdeal.τ).loc Cert.ReferenceCrossIdeal.main_arg4))

def preserves_KernelCkv_KernelCkvIdeal : Prop :=
  True

def algebraic_KernelCkvIdeal_ReferenceCkvIdeal [hKernelCkvIdeal : Cert.KernelCkvIdeal.Facts] [hReferenceCkvIdeal : Cert.ReferenceCkvIdeal.Facts] : Prop :=
  ∀ (m : (ℓ : Loc Cert.KernelCkvIdeal.nD Cert.KernelCkvIdeal.τ Cert.KernelCkvIdeal.sig) → Buf (Elt Ideal) ℓ) (g : Dev Cert.KernelCkvIdeal.nD → PrngReg)
    (m' : (ℓ : Loc Cert.ReferenceCkvIdeal.nD Cert.ReferenceCkvIdeal.τ Cert.ReferenceCkvIdeal.sig) → Buf (Elt Ideal) ℓ) (g' : Dev Cert.ReferenceCkvIdeal.nD → PrngReg), Pre_KernelCkvIdeal m →
    (∀ c : Dev Cert.KernelCkvIdeal.nD,
      m' ((c.tc : Thread Cert.ReferenceCkvIdeal.nD Cert.ReferenceCkvIdeal.τ).loc Cert.ReferenceCkvIdeal.main_arg0) = m ((c.tc : Thread Cert.KernelCkvIdeal.nD Cert.KernelCkvIdeal.τ).loc Cert.KernelCkvIdeal.main_arg0)
      ∧ m' ((c.tc : Thread Cert.ReferenceCkvIdeal.nD Cert.ReferenceCkvIdeal.τ).loc Cert.ReferenceCkvIdeal.main_arg1) = m ((c.tc : Thread Cert.KernelCkvIdeal.nD Cert.KernelCkvIdeal.τ).loc Cert.KernelCkvIdeal.main_arg1)
      ∧ m' ((c.tc : Thread Cert.ReferenceCkvIdeal.nD Cert.ReferenceCkvIdeal.τ).loc Cert.ReferenceCkvIdeal.main_arg2) = m ((c.tc : Thread Cert.KernelCkvIdeal.nD Cert.KernelCkvIdeal.τ).loc Cert.KernelCkvIdeal.main_arg2)) →
    ∃ (v0 : (c : Dev Cert.KernelCkvIdeal.nD) → Buf (Elt Ideal) ((c.tc : Thread Cert.KernelCkvIdeal.nD Cert.KernelCkvIdeal.τ).loc Cert.KernelCkvIdeal.main_v0)),
      θ_run (Cert.KernelCkvIdeal.defs (F := Ideal)) (onTc (τ := Cert.KernelCkvIdeal.τ) (Cert.KernelCkvIdeal.main (F := Ideal))) ⟨m, fun _ => 0, g⟩ (fun r => ∀ c : Dev Cert.KernelCkvIdeal.nD,
          r.2.mem ((c.tc : Thread Cert.KernelCkvIdeal.nD Cert.KernelCkvIdeal.τ).loc Cert.KernelCkvIdeal.main_v0) = v0 c
          ∧ r.2.mem ((c.tc : Thread Cert.KernelCkvIdeal.nD Cert.KernelCkvIdeal.τ).loc Cert.KernelCkvIdeal.main_arg0) = m ((c.tc : Thread Cert.KernelCkvIdeal.nD Cert.KernelCkvIdeal.τ).loc Cert.KernelCkvIdeal.main_arg0)
          ∧ r.2.mem ((c.tc : Thread Cert.KernelCkvIdeal.nD Cert.KernelCkvIdeal.τ).loc Cert.KernelCkvIdeal.main_arg1) = m ((c.tc : Thread Cert.KernelCkvIdeal.nD Cert.KernelCkvIdeal.τ).loc Cert.KernelCkvIdeal.main_arg1)
          ∧ r.2.mem ((c.tc : Thread Cert.KernelCkvIdeal.nD Cert.KernelCkvIdeal.τ).loc Cert.KernelCkvIdeal.main_arg2) = m ((c.tc : Thread Cert.KernelCkvIdeal.nD Cert.KernelCkvIdeal.τ).loc Cert.KernelCkvIdeal.main_arg2))
      ∧ θ_run (Cert.ReferenceCkvIdeal.defs (F := Ideal)) (onTc (τ := Cert.ReferenceCkvIdeal.τ) (Cert.ReferenceCkvIdeal.main (F := Ideal))) ⟨m', fun _ => 0, g'⟩ (fun r => ∀ c : Dev Cert.ReferenceCkvIdeal.nD,
          r.2.mem ((c.tc : Thread Cert.ReferenceCkvIdeal.nD Cert.ReferenceCkvIdeal.τ).loc Cert.ReferenceCkvIdeal.main_v5) = v0 c
          ∧ r.2.mem ((c.tc : Thread Cert.ReferenceCkvIdeal.nD Cert.ReferenceCkvIdeal.τ).loc Cert.ReferenceCkvIdeal.main_arg0) = m' ((c.tc : Thread Cert.ReferenceCkvIdeal.nD Cert.ReferenceCkvIdeal.τ).loc Cert.ReferenceCkvIdeal.main_arg0)
          ∧ r.2.mem ((c.tc : Thread Cert.ReferenceCkvIdeal.nD Cert.ReferenceCkvIdeal.τ).loc Cert.ReferenceCkvIdeal.main_arg1) = m' ((c.tc : Thread Cert.ReferenceCkvIdeal.nD Cert.ReferenceCkvIdeal.τ).loc Cert.ReferenceCkvIdeal.main_arg1)
          ∧ r.2.mem ((c.tc : Thread Cert.ReferenceCkvIdeal.nD Cert.ReferenceCkvIdeal.τ).loc Cert.ReferenceCkvIdeal.main_arg2) = m' ((c.tc : Thread Cert.ReferenceCkvIdeal.nD Cert.ReferenceCkvIdeal.τ).loc Cert.ReferenceCkvIdeal.main_arg2))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v19_0)) (v1 : (c : Dev Cert.KernelFfnIdeal.nD) → Buf (Elt Ideal) ((c.tc : Thread Cert.KernelFfnIdeal.nD Cert.KernelFfnIdeal.τ).loc Cert.KernelFfnIdeal.main_v19_1)) (v2 : (c : Dev Cert.KernelFfnIdeal.nD) → Buf (Elt Ideal) ((c.tc : Thread Cert.KernelFfnIdeal.nD Cert.KernelFfnIdeal.τ).loc Cert.KernelFfnIdeal.main_v19_2)) (v3 : (c : Dev Cert.KernelFfnIdeal.nD) → Buf (Elt Ideal) ((c.tc : Thread Cert.KernelFfnIdeal.nD Cert.KernelFfnIdeal.τ).loc Cert.KernelFfnIdeal.main_v19_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v19_0) = v0 c
          ∧ r.2.mem ((c.tc : Thread Cert.KernelFfnIdeal.nD Cert.KernelFfnIdeal.τ).loc Cert.KernelFfnIdeal.main_v19_1) = v1 c
          ∧ r.2.mem ((c.tc : Thread Cert.KernelFfnIdeal.nD Cert.KernelFfnIdeal.τ).loc Cert.KernelFfnIdeal.main_v19_2) = v2 c
          ∧ r.2.mem ((c.tc : Thread Cert.KernelFfnIdeal.nD Cert.KernelFfnIdeal.τ).loc Cert.KernelFfnIdeal.main_v19_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v56) = v0 c
          ∧ r.2.mem ((c.tc : Thread Cert.ReferenceFfnIdeal.nD Cert.ReferenceFfnIdeal.τ).loc Cert.ReferenceFfnIdeal.main_v59) = v1 c
          ∧ r.2.mem ((c.tc : Thread Cert.ReferenceFfnIdeal.nD Cert.ReferenceFfnIdeal.τ).loc Cert.ReferenceFfnIdeal.main_v60) = v2 c
          ∧ r.2.mem ((c.tc : Thread Cert.ReferenceFfnIdeal.nD Cert.ReferenceFfnIdeal.τ).loc Cert.ReferenceFfnIdeal.main_v39) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelInb_KernelInbIdeal : Prop :=
  True

def algebraic_KernelInbIdeal_ReferenceInbIdeal [hKernelInbIdeal : Cert.KernelInbIdeal.Facts] [hReferenceInbIdeal : Cert.ReferenceInbIdeal.Facts] : Prop :=
  ∀ (m : (ℓ : Loc Cert.KernelInbIdeal.nD Cert.KernelInbIdeal.τ Cert.KernelInbIdeal.sig) → Buf (Elt Ideal) ℓ) (g : Dev Cert.KernelInbIdeal.nD → PrngReg)
    (m' : (ℓ : Loc Cert.ReferenceInbIdeal.nD Cert.ReferenceInbIdeal.τ Cert.ReferenceInbIdeal.sig) → Buf (Elt Ideal) ℓ) (g' : Dev Cert.ReferenceInbIdeal.nD → PrngReg), Pre_KernelInbIdeal m →
    (∀ c : Dev Cert.KernelInbIdeal.nD,
      m' ((c.tc : Thread Cert.ReferenceInbIdeal.nD Cert.ReferenceInbIdeal.τ).loc Cert.ReferenceInbIdeal.main_arg0) = m ((c.tc : Thread Cert.KernelInbIdeal.nD Cert.KernelInbIdeal.τ).loc Cert.KernelInbIdeal.main_arg0)
      ∧ m' ((c.tc : Thread Cert.ReferenceInbIdeal.nD Cert.ReferenceInbIdeal.τ).loc Cert.ReferenceInbIdeal.main_arg1) = m ((c.tc : Thread Cert.KernelInbIdeal.nD Cert.KernelInbIdeal.τ).loc Cert.KernelInbIdeal.main_arg1)
      ∧ m' ((c.tc : Thread Cert.ReferenceInbIdeal.nD Cert.ReferenceInbIdeal.τ).loc Cert.ReferenceInbIdeal.main_arg2) = m ((c.tc : Thread Cert.KernelInbIdeal.nD Cert.KernelInbIdeal.τ).loc Cert.KernelInbIdeal.main_arg2)
      ∧ m' ((c.tc : Thread Cert.ReferenceInbIdeal.nD Cert.ReferenceInbIdeal.τ).loc Cert.ReferenceInbIdeal.main_arg3) = m ((c.tc : Thread Cert.KernelInbIdeal.nD Cert.KernelInbIdeal.τ).loc Cert.KernelInbIdeal.main_arg3)
      ∧ m' ((c.tc : Thread Cert.ReferenceInbIdeal.nD Cert.ReferenceInbIdeal.τ).loc Cert.ReferenceInbIdeal.main_arg4) = m ((c.tc : Thread Cert.KernelInbIdeal.nD Cert.KernelInbIdeal.τ).loc Cert.KernelInbIdeal.main_arg4)
      ∧ m' ((c.tc : Thread Cert.ReferenceInbIdeal.nD Cert.ReferenceInbIdeal.τ).loc Cert.ReferenceInbIdeal.main_arg5) = m ((c.tc : Thread Cert.KernelInbIdeal.nD Cert.KernelInbIdeal.τ).loc Cert.KernelInbIdeal.main_arg5)
      ∧ m' ((c.tc : Thread Cert.ReferenceInbIdeal.nD Cert.ReferenceInbIdeal.τ).loc Cert.ReferenceInbIdeal.main_arg6) = m ((c.tc : Thread Cert.KernelInbIdeal.nD Cert.KernelInbIdeal.τ).loc Cert.KernelInbIdeal.main_arg6)
      ∧ m' ((c.tc : Thread Cert.ReferenceInbIdeal.nD Cert.ReferenceInbIdeal.τ).loc Cert.ReferenceInbIdeal.main_arg7) = m ((c.tc : Thread Cert.KernelInbIdeal.nD Cert.KernelInbIdeal.τ).loc Cert.KernelInbIdeal.main_arg7)) →
    ∃ (v0 : (c : Dev Cert.KernelInbIdeal.nD) → Buf (Elt Ideal) ((c.tc : Thread Cert.KernelInbIdeal.nD Cert.KernelInbIdeal.τ).loc Cert.KernelInbIdeal.main_v4_0)) (v1 : (c : Dev Cert.KernelInbIdeal.nD) → Buf (Elt Ideal) ((c.tc : Thread Cert.KernelInbIdeal.nD Cert.KernelInbIdeal.τ).loc Cert.KernelInbIdeal.main_v4_1)),
      θ_run (Cert.KernelInbIdeal.defs (F := Ideal)) (onTc (τ := Cert.KernelInbIdeal.τ) (Cert.KernelInbIdeal.main (F := Ideal))) ⟨m, fun _ => 0, g⟩ (fun r => ∀ c : Dev Cert.KernelInbIdeal.nD,
          r.2.mem ((c.tc : Thread Cert.KernelInbIdeal.nD Cert.KernelInbIdeal.τ).loc Cert.KernelInbIdeal.main_v4_0) = v0 c
          ∧ r.2.mem ((c.tc : Thread Cert.KernelInbIdeal.nD Cert.KernelInbIdeal.τ).loc Cert.KernelInbIdeal.main_v4_1) = v1 c
          ∧ r.2.mem ((c.tc : Thread Cert.KernelInbIdeal.nD Cert.KernelInbIdeal.τ).loc Cert.KernelInbIdeal.main_arg0) = m ((c.tc : Thread Cert.KernelInbIdeal.nD Cert.KernelInbIdeal.τ).loc Cert.KernelInbIdeal.main_arg0)
          ∧ r.2.mem ((c.tc : Thread Cert.KernelInbIdeal.nD Cert.KernelInbIdeal.τ).loc Cert.KernelInbIdeal.main_arg1) = m ((c.tc : Thread Cert.KernelInbIdeal.nD Cert.KernelInbIdeal.τ).loc Cert.KernelInbIdeal.main_arg1)
          ∧ r.2.mem ((c.tc : Thread Cert.KernelInbIdeal.nD Cert.KernelInbIdeal.τ).loc Cert.KernelInbIdeal.main_arg2) = m ((c.tc : Thread Cert.KernelInbIdeal.nD Cert.KernelInbIdeal.τ).loc Cert.KernelInbIdeal.main_arg2)
          ∧ r.2.mem ((c.tc : Thread Cert.KernelInbIdeal.nD Cert.KernelInbIdeal.τ).loc Cert.KernelInbIdeal.main_arg3) = m ((c.tc : Thread Cert.KernelInbIdeal.nD Cert.KernelInbIdeal.τ).loc Cert.KernelInbIdeal.main_arg3)
          ∧ r.2.mem ((c.tc : Thread Cert.KernelInbIdeal.nD Cert.KernelInbIdeal.τ).loc Cert.KernelInbIdeal.main_arg4) = m ((c.tc : Thread Cert.KernelInbIdeal.nD Cert.KernelInbIdeal.τ).loc Cert.KernelInbIdeal.main_arg4)
          ∧ r.2.mem ((c.tc : Thread Cert.KernelInbIdeal.nD Cert.KernelInbIdeal.τ).loc Cert.KernelInbIdeal.main_arg5) = m ((c.tc : Thread Cert.KernelInbIdeal.nD Cert.KernelInbIdeal.τ).loc Cert.KernelInbIdeal.main_arg5)
          ∧ r.2.mem ((c.tc : Thread Cert.KernelInbIdeal.nD Cert.KernelInbIdeal.τ).loc Cert.KernelInbIdeal.main_arg6) = m ((c.tc : Thread Cert.KernelInbIdeal.nD Cert.KernelInbIdeal.τ).loc Cert.KernelInbIdeal.main_arg6)
          ∧ r.2.mem ((c.tc : Thread Cert.KernelInbIdeal.nD Cert.KernelInbIdeal.τ).loc Cert.KernelInbIdeal.main_arg7) = m ((c.tc : Thread Cert.KernelInbIdeal.nD Cert.KernelInbIdeal.τ).loc Cert.KernelInbIdeal.main_arg7))
      ∧ θ_run (Cert.ReferenceInbIdeal.defs (F := Ideal)) (onTc (τ := Cert.ReferenceInbIdeal.τ) (Cert.ReferenceInbIdeal.main (F := Ideal))) ⟨m', fun _ => 0, g'⟩ (fun r => ∀ c : Dev Cert.ReferenceInbIdeal.nD,
          r.2.mem ((c.tc : Thread Cert.ReferenceInbIdeal.nD Cert.ReferenceInbIdeal.τ).loc Cert.ReferenceInbIdeal.main_v51) = v0 c
          ∧ r.2.mem ((c.tc : Thread Cert.ReferenceInbIdeal.nD Cert.ReferenceInbIdeal.τ).loc Cert.ReferenceInbIdeal.main_v34) = v1 c
          ∧ r.2.mem ((c.tc : Thread Cert.ReferenceInbIdeal.nD Cert.ReferenceInbIdeal.τ).loc Cert.ReferenceInbIdeal.main_arg0) = m' ((c.tc : Thread Cert.ReferenceInbIdeal.nD Cert.ReferenceInbIdeal.τ).loc Cert.ReferenceInbIdeal.main_arg0)
          ∧ r.2.mem ((c.tc : Thread Cert.ReferenceInbIdeal.nD Cert.ReferenceInbIdeal.τ).loc Cert.ReferenceInbIdeal.main_arg1) = m' ((c.tc : Thread Cert.ReferenceInbIdeal.nD Cert.ReferenceInbIdeal.τ).loc Cert.ReferenceInbIdeal.main_arg1)
          ∧ r.2.mem ((c.tc : Thread Cert.ReferenceInbIdeal.nD Cert.ReferenceInbIdeal.τ).loc Cert.ReferenceInbIdeal.main_arg2) = m' ((c.tc : Thread Cert.ReferenceInbIdeal.nD Cert.ReferenceInbIdeal.τ).loc Cert.ReferenceInbIdeal.main_arg2)
          ∧ r.2.mem ((c.tc : Thread Cert.ReferenceInbIdeal.nD Cert.ReferenceInbIdeal.τ).loc Cert.ReferenceInbIdeal.main_arg3) = m' ((c.tc : Thread Cert.ReferenceInbIdeal.nD Cert.ReferenceInbIdeal.τ).loc Cert.ReferenceInbIdeal.main_arg3)
          ∧ r.2.mem ((c.tc : Thread Cert.ReferenceInbIdeal.nD Cert.ReferenceInbIdeal.τ).loc Cert.ReferenceInbIdeal.main_arg4) = m' ((c.tc : Thread Cert.ReferenceInbIdeal.nD Cert.ReferenceInbIdeal.τ).loc Cert.ReferenceInbIdeal.main_arg4)
          ∧ r.2.mem ((c.tc : Thread Cert.ReferenceInbIdeal.nD Cert.ReferenceInbIdeal.τ).loc Cert.ReferenceInbIdeal.main_arg5) = m' ((c.tc : Thread Cert.ReferenceInbIdeal.nD Cert.ReferenceInbIdeal.τ).loc Cert.ReferenceInbIdeal.main_arg5)
          ∧ r.2.mem ((c.tc : Thread Cert.ReferenceInbIdeal.nD Cert.ReferenceInbIdeal.τ).loc Cert.ReferenceInbIdeal.main_arg6) = m' ((c.tc : Thread Cert.ReferenceInbIdeal.nD Cert.ReferenceInbIdeal.τ).loc Cert.ReferenceInbIdeal.main_arg6)
          ∧ r.2.mem ((c.tc : Thread Cert.ReferenceInbIdeal.nD Cert.ReferenceInbIdeal.τ).loc Cert.ReferenceInbIdeal.main_arg7) = m' ((c.tc : Thread Cert.ReferenceInbIdeal.nD Cert.ReferenceInbIdeal.τ).loc Cert.ReferenceInbIdeal.main_arg7))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)) →
    ∃ (v0 : (c : Dev Cert.KernelFwdIdeal.nD) → Buf (Elt Ideal) ((c.tc : Thread Cert.KernelFwdIdeal.nD Cert.KernelFwdIdeal.τ).loc Cert.KernelFwdIdeal.main_v2_0)) (v1 : (c : Dev Cert.KernelFwdIdeal.nD) → Buf (Elt Ideal) ((c.tc : Thread Cert.KernelFwdIdeal.nD Cert.KernelFwdIdeal.τ).loc Cert.KernelFwdIdeal.main_v2_1)) (v2 : (c : Dev Cert.KernelFwdIdeal.nD) → Buf (Elt Ideal) ((c.tc : Thread Cert.KernelFwdIdeal.nD Cert.KernelFwdIdeal.τ).loc Cert.KernelFwdIdeal.main_v2_2)) (v3 : (c : Dev Cert.KernelFwdIdeal.nD) → Buf (Elt Ideal) ((c.tc : Thread Cert.KernelFwdIdeal.nD Cert.KernelFwdIdeal.τ).loc Cert.KernelFwdIdeal.main_v2_3)) (v4 : (c : Dev Cert.KernelFwdIdeal.nD) → Buf (Elt Ideal) ((c.tc : Thread Cert.KernelFwdIdeal.nD Cert.KernelFwdIdeal.τ).loc Cert.KernelFwdIdeal.main_v2_4)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v2_0) = v0 c
          ∧ r.2.mem ((c.tc : Thread Cert.KernelFwdIdeal.nD Cert.KernelFwdIdeal.τ).loc Cert.KernelFwdIdeal.main_v2_1) = v1 c
          ∧ r.2.mem ((c.tc : Thread Cert.KernelFwdIdeal.nD Cert.KernelFwdIdeal.τ).loc Cert.KernelFwdIdeal.main_v2_2) = v2 c
          ∧ r.2.mem ((c.tc : Thread Cert.KernelFwdIdeal.nD Cert.KernelFwdIdeal.τ).loc Cert.KernelFwdIdeal.main_v2_3) = v3 c
          ∧ r.2.mem ((c.tc : Thread Cert.KernelFwdIdeal.nD Cert.KernelFwdIdeal.τ).loc Cert.KernelFwdIdeal.main_v2_4) = v4 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v30) = v0 c
          ∧ r.2.mem ((c.tc : Thread Cert.ReferenceFwdIdeal.nD Cert.ReferenceFwdIdeal.τ).loc Cert.ReferenceFwdIdeal.main_v31) = v1 c
          ∧ r.2.mem ((c.tc : Thread Cert.ReferenceFwdIdeal.nD Cert.ReferenceFwdIdeal.τ).loc Cert.ReferenceFwdIdeal.main_v32) = v2 c
          ∧ r.2.mem ((c.tc : Thread Cert.ReferenceFwdIdeal.nD Cert.ReferenceFwdIdeal.τ).loc Cert.ReferenceFwdIdeal.main_v33) = v3 c
          ∧ r.2.mem ((c.tc : Thread Cert.ReferenceFwdIdeal.nD Cert.ReferenceFwdIdeal.τ).loc Cert.ReferenceFwdIdeal.main_v43) = v4 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3))

def preserves_KernelAdIn_KernelAdInIdeal : Prop :=
  True

def algebraic_KernelAdInIdeal_ReferenceAdInIdeal [hKernelAdInIdeal : Cert.KernelAdInIdeal.Facts] [hReferenceAdInIdeal : Cert.ReferenceAdInIdeal.Facts] [hPre_on_a_chip : Cert.Pre_on_a_chip.Facts] : Prop :=
  ∀ (m : (ℓ : Loc Cert.KernelAdInIdeal.nD Cert.KernelAdInIdeal.τ Cert.KernelAdInIdeal.sig) → Buf (Elt Ideal) ℓ) (g : Dev Cert.KernelAdInIdeal.nD → PrngReg)
    (m' : (ℓ : Loc Cert.ReferenceAdInIdeal.nD Cert.ReferenceAdInIdeal.τ Cert.ReferenceAdInIdeal.sig) → Buf (Elt Ideal) ℓ) (g' : Dev Cert.ReferenceAdInIdeal.nD → PrngReg), Pre_KernelAdInIdeal m →
    (∀ c : Dev Cert.KernelAdInIdeal.nD,
      m' ((c.tc : Thread Cert.ReferenceAdInIdeal.nD Cert.ReferenceAdInIdeal.τ).loc Cert.ReferenceAdInIdeal.main_arg0) = m ((c.tc : Thread Cert.KernelAdInIdeal.nD Cert.KernelAdInIdeal.τ).loc Cert.KernelAdInIdeal.main_arg0)
      ∧ m' ((c.tc : Thread Cert.ReferenceAdInIdeal.nD Cert.ReferenceAdInIdeal.τ).loc Cert.ReferenceAdInIdeal.main_arg1) = m ((c.tc : Thread Cert.KernelAdInIdeal.nD Cert.KernelAdInIdeal.τ).loc Cert.KernelAdInIdeal.main_arg1)
      ∧ m' ((c.tc : Thread Cert.ReferenceAdInIdeal.nD Cert.ReferenceAdInIdeal.τ).loc Cert.ReferenceAdInIdeal.main_arg2) = m ((c.tc : Thread Cert.KernelAdInIdeal.nD Cert.KernelAdInIdeal.τ).loc Cert.KernelAdInIdeal.main_arg2)
      ∧ m' ((c.tc : Thread Cert.ReferenceAdInIdeal.nD Cert.ReferenceAdInIdeal.τ).loc Cert.ReferenceAdInIdeal.main_arg3) = m ((c.tc : Thread Cert.KernelAdInIdeal.nD Cert.KernelAdInIdeal.τ).loc Cert.KernelAdInIdeal.main_arg3)
      ∧ m' ((c.tc : Thread Cert.ReferenceAdInIdeal.nD Cert.ReferenceAdInIdeal.τ).loc Cert.ReferenceAdInIdeal.main_arg4) = m ((c.tc : Thread Cert.KernelAdInIdeal.nD Cert.KernelAdInIdeal.τ).loc Cert.KernelAdInIdeal.main_arg4)
      ∧ m' ((c.tc : Thread Cert.ReferenceAdInIdeal.nD Cert.ReferenceAdInIdeal.τ).loc Cert.ReferenceAdInIdeal.main_arg5) = m ((c.tc : Thread Cert.KernelAdInIdeal.nD Cert.KernelAdInIdeal.τ).loc Cert.KernelAdInIdeal.main_arg5)) →
    ∃ (v0 : (c : Dev Cert.KernelAdInIdeal.nD) → Buf (Elt Ideal) ((c.tc : Thread Cert.KernelAdInIdeal.nD Cert.KernelAdInIdeal.τ).loc Cert.KernelAdInIdeal.main_v3_0)) (v1 : (c : Dev Cert.KernelAdInIdeal.nD) → Buf (Elt Ideal) ((c.tc : Thread Cert.KernelAdInIdeal.nD Cert.KernelAdInIdeal.τ).loc Cert.KernelAdInIdeal.main_v3_1)) (v2 : (c : Dev Cert.KernelAdInIdeal.nD) → Buf (Elt Ideal) ((c.tc : Thread Cert.KernelAdInIdeal.nD Cert.KernelAdInIdeal.τ).loc Cert.KernelAdInIdeal.main_v3_2)) (v3 : (c : Dev Cert.KernelAdInIdeal.nD) → Buf (Elt Ideal) ((c.tc : Thread Cert.KernelAdInIdeal.nD Cert.KernelAdInIdeal.τ).loc Cert.KernelAdInIdeal.main_v3_3)),
      θ_run (Cert.KernelAdInIdeal.defs (F := Ideal)) (onTc (τ := Cert.KernelAdInIdeal.τ) (Cert.KernelAdInIdeal.main (F := Ideal))) ⟨m, fun _ => 0, g⟩ (fun r => ∀ c : Dev Cert.KernelAdInIdeal.nD,
          r.2.mem ((c.tc : Thread Cert.KernelAdInIdeal.nD Cert.KernelAdInIdeal.τ).loc Cert.KernelAdInIdeal.main_v3_0) = v0 c
          ∧ r.2.mem ((c.tc : Thread Cert.KernelAdInIdeal.nD Cert.KernelAdInIdeal.τ).loc Cert.KernelAdInIdeal.main_v3_1) = v1 c
          ∧ r.2.mem ((c.tc : Thread Cert.KernelAdInIdeal.nD Cert.KernelAdInIdeal.τ).loc Cert.KernelAdInIdeal.main_v3_2) = v2 c
          ∧ r.2.mem ((c.tc : Thread Cert.KernelAdInIdeal.nD Cert.KernelAdInIdeal.τ).loc Cert.KernelAdInIdeal.main_v3_3) = v3 c
          ∧ r.2.mem ((c.tc : Thread Cert.KernelAdInIdeal.nD Cert.KernelAdInIdeal.τ).loc Cert.KernelAdInIdeal.main_arg0) = m ((c.tc : Thread Cert.KernelAdInIdeal.nD Cert.KernelAdInIdeal.τ).loc Cert.KernelAdInIdeal.main_arg0)
          ∧ r.2.mem ((c.tc : Thread Cert.KernelAdInIdeal.nD Cert.KernelAdInIdeal.τ).loc Cert.KernelAdInIdeal.main_arg1) = m ((c.tc : Thread Cert.KernelAdInIdeal.nD Cert.KernelAdInIdeal.τ).loc Cert.KernelAdInIdeal.main_arg1)
          ∧ r.2.mem ((c.tc : Thread Cert.KernelAdInIdeal.nD Cert.KernelAdInIdeal.τ).loc Cert.KernelAdInIdeal.main_arg2) = m ((c.tc : Thread Cert.KernelAdInIdeal.nD Cert.KernelAdInIdeal.τ).loc Cert.KernelAdInIdeal.main_arg2)
          ∧ r.2.mem ((c.tc : Thread Cert.KernelAdInIdeal.nD Cert.KernelAdInIdeal.τ).loc Cert.KernelAdInIdeal.main_arg3) = m ((c.tc : Thread Cert.KernelAdInIdeal.nD Cert.KernelAdInIdeal.τ).loc Cert.KernelAdInIdeal.main_arg3)
          ∧ r.2.mem ((c.tc : Thread Cert.KernelAdInIdeal.nD Cert.KernelAdInIdeal.τ).loc Cert.KernelAdInIdeal.main_arg4) = m ((c.tc : Thread Cert.KernelAdInIdeal.nD Cert.KernelAdInIdeal.τ).loc Cert.KernelAdInIdeal.main_arg4)
          ∧ r.2.mem ((c.tc : Thread Cert.KernelAdInIdeal.nD Cert.KernelAdInIdeal.τ).loc Cert.KernelAdInIdeal.main_arg5) = m ((c.tc : Thread Cert.KernelAdInIdeal.nD Cert.KernelAdInIdeal.τ).loc Cert.KernelAdInIdeal.main_arg5))
      ∧ θ_run (Cert.ReferenceAdInIdeal.defs (F := Ideal)) (onTc (τ := Cert.ReferenceAdInIdeal.τ) (Cert.ReferenceAdInIdeal.main (F := Ideal))) ⟨m', fun _ => 0, g'⟩ (fun r => ∀ c : Dev Cert.ReferenceAdInIdeal.nD,
          r.2.mem ((c.tc : Thread Cert.ReferenceAdInIdeal.nD Cert.ReferenceAdInIdeal.τ).loc Cert.ReferenceAdInIdeal.main_v6) = v0 c
          ∧ r.2.mem ((c.tc : Thread Cert.ReferenceAdInIdeal.nD Cert.ReferenceAdInIdeal.τ).loc Cert.ReferenceAdInIdeal.main_v30) = v1 c
          ∧ r.2.mem ((c.tc : Thread Cert.ReferenceAdInIdeal.nD Cert.ReferenceAdInIdeal.τ).loc Cert.ReferenceAdInIdeal.main_v11) = v2 c
          ∧ r.2.mem ((c.tc : Thread Cert.ReferenceAdInIdeal.nD Cert.ReferenceAdInIdeal.τ).loc Cert.ReferenceAdInIdeal.main_v17) = v3 c
          ∧ r.2.mem ((c.tc : Thread Cert.ReferenceAdInIdeal.nD Cert.ReferenceAdInIdeal.τ).loc Cert.ReferenceAdInIdeal.main_arg0) = m' ((c.tc : Thread Cert.ReferenceAdInIdeal.nD Cert.ReferenceAdInIdeal.τ).loc Cert.ReferenceAdInIdeal.main_arg0)
          ∧ r.2.mem ((c.tc : Thread Cert.ReferenceAdInIdeal.nD Cert.ReferenceAdInIdeal.τ).loc Cert.ReferenceAdInIdeal.main_arg1) = m' ((c.tc : Thread Cert.ReferenceAdInIdeal.nD Cert.ReferenceAdInIdeal.τ).loc Cert.ReferenceAdInIdeal.main_arg1)
          ∧ r.2.mem ((c.tc : Thread Cert.ReferenceAdInIdeal.nD Cert.ReferenceAdInIdeal.τ).loc Cert.ReferenceAdInIdeal.main_arg2) = m' ((c.tc : Thread Cert.ReferenceAdInIdeal.nD Cert.ReferenceAdInIdeal.τ).loc Cert.ReferenceAdInIdeal.main_arg2)
          ∧ r.2.mem ((c.tc : Thread Cert.ReferenceAdInIdeal.nD Cert.ReferenceAdInIdeal.τ).loc Cert.ReferenceAdInIdeal.main_arg3) = m' ((c.tc : Thread Cert.ReferenceAdInIdeal.nD Cert.ReferenceAdInIdeal.τ).loc Cert.ReferenceAdInIdeal.main_arg3)
          ∧ r.2.mem ((c.tc : Thread Cert.ReferenceAdInIdeal.nD Cert.ReferenceAdInIdeal.τ).loc Cert.ReferenceAdInIdeal.main_arg4) = m' ((c.tc : Thread Cert.ReferenceAdInIdeal.nD Cert.ReferenceAdInIdeal.τ).loc Cert.ReferenceAdInIdeal.main_arg4)
          ∧ r.2.mem ((c.tc : Thread Cert.ReferenceAdInIdeal.nD Cert.ReferenceAdInIdeal.τ).loc Cert.ReferenceAdInIdeal.main_arg5) = m' ((c.tc : Thread Cert.ReferenceAdInIdeal.nD Cert.ReferenceAdInIdeal.τ).loc Cert.ReferenceAdInIdeal.main_arg5))

def preserves_KernelAdDown_KernelAdDownIdeal : Prop :=
  True

def algebraic_KernelAdDownIdeal_ReferenceAdDownIdeal [hKernelAdDownIdeal : Cert.KernelAdDownIdeal.Facts] [hReferenceAdDownIdeal : Cert.ReferenceAdDownIdeal.Facts] [hPre_on_a_chip_down : Cert.Pre_on_a_chip_down.Facts] : Prop :=
  ∀ (m : (ℓ : Loc Cert.KernelAdDownIdeal.nD Cert.KernelAdDownIdeal.τ Cert.KernelAdDownIdeal.sig) → Buf (Elt Ideal) ℓ) (g : Dev Cert.KernelAdDownIdeal.nD → PrngReg)
    (m' : (ℓ : Loc Cert.ReferenceAdDownIdeal.nD Cert.ReferenceAdDownIdeal.τ Cert.ReferenceAdDownIdeal.sig) → Buf (Elt Ideal) ℓ) (g' : Dev Cert.ReferenceAdDownIdeal.nD → PrngReg), Pre_KernelAdDownIdeal m →
    (∀ c : Dev Cert.KernelAdDownIdeal.nD,
      m' ((c.tc : Thread Cert.ReferenceAdDownIdeal.nD Cert.ReferenceAdDownIdeal.τ).loc Cert.ReferenceAdDownIdeal.main_arg0) = m ((c.tc : Thread Cert.KernelAdDownIdeal.nD Cert.KernelAdDownIdeal.τ).loc Cert.KernelAdDownIdeal.main_arg0)
      ∧ m' ((c.tc : Thread Cert.ReferenceAdDownIdeal.nD Cert.ReferenceAdDownIdeal.τ).loc Cert.ReferenceAdDownIdeal.main_arg1) = m ((c.tc : Thread Cert.KernelAdDownIdeal.nD Cert.KernelAdDownIdeal.τ).loc Cert.KernelAdDownIdeal.main_arg1)
      ∧ m' ((c.tc : Thread Cert.ReferenceAdDownIdeal.nD Cert.ReferenceAdDownIdeal.τ).loc Cert.ReferenceAdDownIdeal.main_arg2) = m ((c.tc : Thread Cert.KernelAdDownIdeal.nD Cert.KernelAdDownIdeal.τ).loc Cert.KernelAdDownIdeal.main_arg2)
      ∧ m' ((c.tc : Thread Cert.ReferenceAdDownIdeal.nD Cert.ReferenceAdDownIdeal.τ).loc Cert.ReferenceAdDownIdeal.main_arg3) = m ((c.tc : Thread Cert.KernelAdDownIdeal.nD Cert.KernelAdDownIdeal.τ).loc Cert.KernelAdDownIdeal.main_arg3)
      ∧ m' ((c.tc : Thread Cert.ReferenceAdDownIdeal.nD Cert.ReferenceAdDownIdeal.τ).loc Cert.ReferenceAdDownIdeal.main_arg4) = m ((c.tc : Thread Cert.KernelAdDownIdeal.nD Cert.KernelAdDownIdeal.τ).loc Cert.KernelAdDownIdeal.main_arg4)
      ∧ m' ((c.tc : Thread Cert.ReferenceAdDownIdeal.nD Cert.ReferenceAdDownIdeal.τ).loc Cert.ReferenceAdDownIdeal.main_arg5) = m ((c.tc : Thread Cert.KernelAdDownIdeal.nD Cert.KernelAdDownIdeal.τ).loc Cert.KernelAdDownIdeal.main_arg5)) →
    ∃ (v0 : (c : Dev Cert.KernelAdDownIdeal.nD) → Buf (Elt Ideal) ((c.tc : Thread Cert.KernelAdDownIdeal.nD Cert.KernelAdDownIdeal.τ).loc Cert.KernelAdDownIdeal.main_v3_0)) (v1 : (c : Dev Cert.KernelAdDownIdeal.nD) → Buf (Elt Ideal) ((c.tc : Thread Cert.KernelAdDownIdeal.nD Cert.KernelAdDownIdeal.τ).loc Cert.KernelAdDownIdeal.main_v3_1)) (v2 : (c : Dev Cert.KernelAdDownIdeal.nD) → Buf (Elt Ideal) ((c.tc : Thread Cert.KernelAdDownIdeal.nD Cert.KernelAdDownIdeal.τ).loc Cert.KernelAdDownIdeal.main_v3_2)) (v3 : (c : Dev Cert.KernelAdDownIdeal.nD) → Buf (Elt Ideal) ((c.tc : Thread Cert.KernelAdDownIdeal.nD Cert.KernelAdDownIdeal.τ).loc Cert.KernelAdDownIdeal.main_v3_3)),
      θ_run (Cert.KernelAdDownIdeal.defs (F := Ideal)) (onTc (τ := Cert.KernelAdDownIdeal.τ) (Cert.KernelAdDownIdeal.main (F := Ideal))) ⟨m, fun _ => 0, g⟩ (fun r => ∀ c : Dev Cert.KernelAdDownIdeal.nD,
          r.2.mem ((c.tc : Thread Cert.KernelAdDownIdeal.nD Cert.KernelAdDownIdeal.τ).loc Cert.KernelAdDownIdeal.main_v3_0) = v0 c
          ∧ r.2.mem ((c.tc : Thread Cert.KernelAdDownIdeal.nD Cert.KernelAdDownIdeal.τ).loc Cert.KernelAdDownIdeal.main_v3_1) = v1 c
          ∧ r.2.mem ((c.tc : Thread Cert.KernelAdDownIdeal.nD Cert.KernelAdDownIdeal.τ).loc Cert.KernelAdDownIdeal.main_v3_2) = v2 c
          ∧ r.2.mem ((c.tc : Thread Cert.KernelAdDownIdeal.nD Cert.KernelAdDownIdeal.τ).loc Cert.KernelAdDownIdeal.main_v3_3) = v3 c
          ∧ r.2.mem ((c.tc : Thread Cert.KernelAdDownIdeal.nD Cert.KernelAdDownIdeal.τ).loc Cert.KernelAdDownIdeal.main_arg0) = m ((c.tc : Thread Cert.KernelAdDownIdeal.nD Cert.KernelAdDownIdeal.τ).loc Cert.KernelAdDownIdeal.main_arg0)
          ∧ r.2.mem ((c.tc : Thread Cert.KernelAdDownIdeal.nD Cert.KernelAdDownIdeal.τ).loc Cert.KernelAdDownIdeal.main_arg1) = m ((c.tc : Thread Cert.KernelAdDownIdeal.nD Cert.KernelAdDownIdeal.τ).loc Cert.KernelAdDownIdeal.main_arg1)
          ∧ r.2.mem ((c.tc : Thread Cert.KernelAdDownIdeal.nD Cert.KernelAdDownIdeal.τ).loc Cert.KernelAdDownIdeal.main_arg2) = m ((c.tc : Thread Cert.KernelAdDownIdeal.nD Cert.KernelAdDownIdeal.τ).loc Cert.KernelAdDownIdeal.main_arg2)
          ∧ r.2.mem ((c.tc : Thread Cert.KernelAdDownIdeal.nD Cert.KernelAdDownIdeal.τ).loc Cert.KernelAdDownIdeal.main_arg3) = m ((c.tc : Thread Cert.KernelAdDownIdeal.nD Cert.KernelAdDownIdeal.τ).loc Cert.KernelAdDownIdeal.main_arg3)
          ∧ r.2.mem ((c.tc : Thread Cert.KernelAdDownIdeal.nD Cert.KernelAdDownIdeal.τ).loc Cert.KernelAdDownIdeal.main_arg4) = m ((c.tc : Thread Cert.KernelAdDownIdeal.nD Cert.KernelAdDownIdeal.τ).loc Cert.KernelAdDownIdeal.main_arg4)
          ∧ r.2.mem ((c.tc : Thread Cert.KernelAdDownIdeal.nD Cert.KernelAdDownIdeal.τ).loc Cert.KernelAdDownIdeal.main_arg5) = m ((c.tc : Thread Cert.KernelAdDownIdeal.nD Cert.KernelAdDownIdeal.τ).loc Cert.KernelAdDownIdeal.main_arg5))
      ∧ θ_run (Cert.ReferenceAdDownIdeal.defs (F := Ideal)) (onTc (τ := Cert.ReferenceAdDownIdeal.τ) (Cert.ReferenceAdDownIdeal.main (F := Ideal))) ⟨m', fun _ => 0, g'⟩ (fun r => ∀ c : Dev Cert.ReferenceAdDownIdeal.nD,
          r.2.mem ((c.tc : Thread Cert.ReferenceAdDownIdeal.nD Cert.ReferenceAdDownIdeal.τ).loc Cert.ReferenceAdDownIdeal.main_v6) = v0 c
          ∧ r.2.mem ((c.tc : Thread Cert.ReferenceAdDownIdeal.nD Cert.ReferenceAdDownIdeal.τ).loc Cert.ReferenceAdDownIdeal.main_v30) = v1 c
          ∧ r.2.mem ((c.tc : Thread Cert.ReferenceAdDownIdeal.nD Cert.ReferenceAdDownIdeal.τ).loc Cert.ReferenceAdDownIdeal.main_v11) = v2 c
          ∧ r.2.mem ((c.tc : Thread Cert.ReferenceAdDownIdeal.nD Cert.ReferenceAdDownIdeal.τ).loc Cert.ReferenceAdDownIdeal.main_v17) = v3 c
          ∧ r.2.mem ((c.tc : Thread Cert.ReferenceAdDownIdeal.nD Cert.ReferenceAdDownIdeal.τ).loc Cert.ReferenceAdDownIdeal.main_arg0) = m' ((c.tc : Thread Cert.ReferenceAdDownIdeal.nD Cert.ReferenceAdDownIdeal.τ).loc Cert.ReferenceAdDownIdeal.main_arg0)
          ∧ r.2.mem ((c.tc : Thread Cert.ReferenceAdDownIdeal.nD Cert.ReferenceAdDownIdeal.τ).loc Cert.ReferenceAdDownIdeal.main_arg1) = m' ((c.tc : Thread Cert.ReferenceAdDownIdeal.nD Cert.ReferenceAdDownIdeal.τ).loc Cert.ReferenceAdDownIdeal.main_arg1)
          ∧ r.2.mem ((c.tc : Thread Cert.ReferenceAdDownIdeal.nD Cert.ReferenceAdDownIdeal.τ).loc Cert.ReferenceAdDownIdeal.main_arg2) = m' ((c.tc : Thread Cert.ReferenceAdDownIdeal.nD Cert.ReferenceAdDownIdeal.τ).loc Cert.ReferenceAdDownIdeal.main_arg2)
          ∧ r.2.mem ((c.tc : Thread Cert.ReferenceAdDownIdeal.nD Cert.ReferenceAdDownIdeal.τ).loc Cert.ReferenceAdDownIdeal.main_arg3) = m' ((c.tc : Thread Cert.ReferenceAdDownIdeal.nD Cert.ReferenceAdDownIdeal.τ).loc Cert.ReferenceAdDownIdeal.main_arg3)
          ∧ r.2.mem ((c.tc : Thread Cert.ReferenceAdDownIdeal.nD Cert.ReferenceAdDownIdeal.τ).loc Cert.ReferenceAdDownIdeal.main_arg4) = m' ((c.tc : Thread Cert.ReferenceAdDownIdeal.nD Cert.ReferenceAdDownIdeal.τ).loc Cert.ReferenceAdDownIdeal.main_arg4)
          ∧ r.2.mem ((c.tc : Thread Cert.ReferenceAdDownIdeal.nD Cert.ReferenceAdDownIdeal.τ).loc Cert.ReferenceAdDownIdeal.main_arg5) = m' ((c.tc : Thread Cert.ReferenceAdDownIdeal.nD Cert.ReferenceAdDownIdeal.τ).loc Cert.ReferenceAdDownIdeal.main_arg5))

def preserves_KernelAdCkv_KernelAdCkvIdeal : Prop :=
  True

def algebraic_KernelAdCkvIdeal_ReferenceAdCkvIdeal [hKernelAdCkvIdeal : Cert.KernelAdCkvIdeal.Facts] [hReferenceAdCkvIdeal : Cert.ReferenceAdCkvIdeal.Facts] [hPre_on_a_chip_ckv : Cert.Pre_on_a_chip_ckv.Facts] : Prop :=
  ∀ (m : (ℓ : Loc Cert.KernelAdCkvIdeal.nD Cert.KernelAdCkvIdeal.τ Cert.KernelAdCkvIdeal.sig) → Buf (Elt Ideal) ℓ) (g : Dev Cert.KernelAdCkvIdeal.nD → PrngReg)
    (m' : (ℓ : Loc Cert.ReferenceAdCkvIdeal.nD Cert.ReferenceAdCkvIdeal.τ Cert.ReferenceAdCkvIdeal.sig) → Buf (Elt Ideal) ℓ) (g' : Dev Cert.ReferenceAdCkvIdeal.nD → PrngReg), Pre_KernelAdCkvIdeal m →
    (∀ c : Dev Cert.KernelAdCkvIdeal.nD,
      m' ((c.tc : Thread Cert.ReferenceAdCkvIdeal.nD Cert.ReferenceAdCkvIdeal.τ).loc Cert.ReferenceAdCkvIdeal.main_arg0) = m ((c.tc : Thread Cert.KernelAdCkvIdeal.nD Cert.KernelAdCkvIdeal.τ).loc Cert.KernelAdCkvIdeal.main_arg0)
      ∧ m' ((c.tc : Thread Cert.ReferenceAdCkvIdeal.nD Cert.ReferenceAdCkvIdeal.τ).loc Cert.ReferenceAdCkvIdeal.main_arg1) = m ((c.tc : Thread Cert.KernelAdCkvIdeal.nD Cert.KernelAdCkvIdeal.τ).loc Cert.KernelAdCkvIdeal.main_arg1)
      ∧ m' ((c.tc : Thread Cert.ReferenceAdCkvIdeal.nD Cert.ReferenceAdCkvIdeal.τ).loc Cert.ReferenceAdCkvIdeal.main_arg2) = m ((c.tc : Thread Cert.KernelAdCkvIdeal.nD Cert.KernelAdCkvIdeal.τ).loc Cert.KernelAdCkvIdeal.main_arg2)
      ∧ m' ((c.tc : Thread Cert.ReferenceAdCkvIdeal.nD Cert.ReferenceAdCkvIdeal.τ).loc Cert.ReferenceAdCkvIdeal.main_arg3) = m ((c.tc : Thread Cert.KernelAdCkvIdeal.nD Cert.KernelAdCkvIdeal.τ).loc Cert.KernelAdCkvIdeal.main_arg3)
      ∧ m' ((c.tc : Thread Cert.ReferenceAdCkvIdeal.nD Cert.ReferenceAdCkvIdeal.τ).loc Cert.ReferenceAdCkvIdeal.main_arg4) = m ((c.tc : Thread Cert.KernelAdCkvIdeal.nD Cert.KernelAdCkvIdeal.τ).loc Cert.KernelAdCkvIdeal.main_arg4)
      ∧ m' ((c.tc : Thread Cert.ReferenceAdCkvIdeal.nD Cert.ReferenceAdCkvIdeal.τ).loc Cert.ReferenceAdCkvIdeal.main_arg5) = m ((c.tc : Thread Cert.KernelAdCkvIdeal.nD Cert.KernelAdCkvIdeal.τ).loc Cert.KernelAdCkvIdeal.main_arg5)) →
    ∃ (v0 : (c : Dev Cert.KernelAdCkvIdeal.nD) → Buf (Elt Ideal) ((c.tc : Thread Cert.KernelAdCkvIdeal.nD Cert.KernelAdCkvIdeal.τ).loc Cert.KernelAdCkvIdeal.main_v3_0)) (v1 : (c : Dev Cert.KernelAdCkvIdeal.nD) → Buf (Elt Ideal) ((c.tc : Thread Cert.KernelAdCkvIdeal.nD Cert.KernelAdCkvIdeal.τ).loc Cert.KernelAdCkvIdeal.main_v3_1)) (v2 : (c : Dev Cert.KernelAdCkvIdeal.nD) → Buf (Elt Ideal) ((c.tc : Thread Cert.KernelAdCkvIdeal.nD Cert.KernelAdCkvIdeal.τ).loc Cert.KernelAdCkvIdeal.main_v3_2)) (v3 : (c : Dev Cert.KernelAdCkvIdeal.nD) → Buf (Elt Ideal) ((c.tc : Thread Cert.KernelAdCkvIdeal.nD Cert.KernelAdCkvIdeal.τ).loc Cert.KernelAdCkvIdeal.main_v3_3)),
      θ_run (Cert.KernelAdCkvIdeal.defs (F := Ideal)) (onTc (τ := Cert.KernelAdCkvIdeal.τ) (Cert.KernelAdCkvIdeal.main (F := Ideal))) ⟨m, fun _ => 0, g⟩ (fun r => ∀ c : Dev Cert.KernelAdCkvIdeal.nD,
          r.2.mem ((c.tc : Thread Cert.KernelAdCkvIdeal.nD Cert.KernelAdCkvIdeal.τ).loc Cert.KernelAdCkvIdeal.main_v3_0) = v0 c
          ∧ r.2.mem ((c.tc : Thread Cert.KernelAdCkvIdeal.nD Cert.KernelAdCkvIdeal.τ).loc Cert.KernelAdCkvIdeal.main_v3_1) = v1 c
          ∧ r.2.mem ((c.tc : Thread Cert.KernelAdCkvIdeal.nD Cert.KernelAdCkvIdeal.τ).loc Cert.KernelAdCkvIdeal.main_v3_2) = v2 c
          ∧ r.2.mem ((c.tc : Thread Cert.KernelAdCkvIdeal.nD Cert.KernelAdCkvIdeal.τ).loc Cert.KernelAdCkvIdeal.main_v3_3) = v3 c
          ∧ r.2.mem ((c.tc : Thread Cert.KernelAdCkvIdeal.nD Cert.KernelAdCkvIdeal.τ).loc Cert.KernelAdCkvIdeal.main_arg0) = m ((c.tc : Thread Cert.KernelAdCkvIdeal.nD Cert.KernelAdCkvIdeal.τ).loc Cert.KernelAdCkvIdeal.main_arg0)
          ∧ r.2.mem ((c.tc : Thread Cert.KernelAdCkvIdeal.nD Cert.KernelAdCkvIdeal.τ).loc Cert.KernelAdCkvIdeal.main_arg1) = m ((c.tc : Thread Cert.KernelAdCkvIdeal.nD Cert.KernelAdCkvIdeal.τ).loc Cert.KernelAdCkvIdeal.main_arg1)
          ∧ r.2.mem ((c.tc : Thread Cert.KernelAdCkvIdeal.nD Cert.KernelAdCkvIdeal.τ).loc Cert.KernelAdCkvIdeal.main_arg2) = m ((c.tc : Thread Cert.KernelAdCkvIdeal.nD Cert.KernelAdCkvIdeal.τ).loc Cert.KernelAdCkvIdeal.main_arg2)
          ∧ r.2.mem ((c.tc : Thread Cert.KernelAdCkvIdeal.nD Cert.KernelAdCkvIdeal.τ).loc Cert.KernelAdCkvIdeal.main_arg3) = m ((c.tc : Thread Cert.KernelAdCkvIdeal.nD Cert.KernelAdCkvIdeal.τ).loc Cert.KernelAdCkvIdeal.main_arg3)
          ∧ r.2.mem ((c.tc : Thread Cert.KernelAdCkvIdeal.nD Cert.KernelAdCkvIdeal.τ).loc Cert.KernelAdCkvIdeal.main_arg4) = m ((c.tc : Thread Cert.KernelAdCkvIdeal.nD Cert.KernelAdCkvIdeal.τ).loc Cert.KernelAdCkvIdeal.main_arg4)
          ∧ r.2.mem ((c.tc : Thread Cert.KernelAdCkvIdeal.nD Cert.KernelAdCkvIdeal.τ).loc Cert.KernelAdCkvIdeal.main_arg5) = m ((c.tc : Thread Cert.KernelAdCkvIdeal.nD Cert.KernelAdCkvIdeal.τ).loc Cert.KernelAdCkvIdeal.main_arg5))
      ∧ θ_run (Cert.ReferenceAdCkvIdeal.defs (F := Ideal)) (onTc (τ := Cert.ReferenceAdCkvIdeal.τ) (Cert.ReferenceAdCkvIdeal.main (F := Ideal))) ⟨m', fun _ => 0, g'⟩ (fun r => ∀ c : Dev Cert.ReferenceAdCkvIdeal.nD,
          r.2.mem ((c.tc : Thread Cert.ReferenceAdCkvIdeal.nD Cert.ReferenceAdCkvIdeal.τ).loc Cert.ReferenceAdCkvIdeal.main_v6) = v0 c
          ∧ r.2.mem ((c.tc : Thread Cert.ReferenceAdCkvIdeal.nD Cert.ReferenceAdCkvIdeal.τ).loc Cert.ReferenceAdCkvIdeal.main_v30) = v1 c
          ∧ r.2.mem ((c.tc : Thread Cert.ReferenceAdCkvIdeal.nD Cert.ReferenceAdCkvIdeal.τ).loc Cert.ReferenceAdCkvIdeal.main_v11) = v2 c
          ∧ r.2.mem ((c.tc : Thread Cert.ReferenceAdCkvIdeal.nD Cert.ReferenceAdCkvIdeal.τ).loc Cert.ReferenceAdCkvIdeal.main_v17) = v3 c
          ∧ r.2.mem ((c.tc : Thread Cert.ReferenceAdCkvIdeal.nD Cert.ReferenceAdCkvIdeal.τ).loc Cert.ReferenceAdCkvIdeal.main_arg0) = m' ((c.tc : Thread Cert.ReferenceAdCkvIdeal.nD Cert.ReferenceAdCkvIdeal.τ).loc Cert.ReferenceAdCkvIdeal.main_arg0)
          ∧ r.2.mem ((c.tc : Thread Cert.ReferenceAdCkvIdeal.nD Cert.ReferenceAdCkvIdeal.τ).loc Cert.ReferenceAdCkvIdeal.main_arg1) = m' ((c.tc : Thread Cert.ReferenceAdCkvIdeal.nD Cert.ReferenceAdCkvIdeal.τ).loc Cert.ReferenceAdCkvIdeal.main_arg1)
          ∧ r.2.mem ((c.tc : Thread Cert.ReferenceAdCkvIdeal.nD Cert.ReferenceAdCkvIdeal.τ).loc Cert.ReferenceAdCkvIdeal.main_arg2) = m' ((c.tc : Thread Cert.ReferenceAdCkvIdeal.nD Cert.ReferenceAdCkvIdeal.τ).loc Cert.ReferenceAdCkvIdeal.main_arg2)
          ∧ r.2.mem ((c.tc : Thread Cert.ReferenceAdCkvIdeal.nD Cert.ReferenceAdCkvIdeal.τ).loc Cert.ReferenceAdCkvIdeal.main_arg3) = m' ((c.tc : Thread Cert.ReferenceAdCkvIdeal.nD Cert.ReferenceAdCkvIdeal.τ).loc Cert.ReferenceAdCkvIdeal.main_arg3)
          ∧ r.2.mem ((c.tc : Thread Cert.ReferenceAdCkvIdeal.nD Cert.ReferenceAdCkvIdeal.τ).loc Cert.ReferenceAdCkvIdeal.main_arg4) = m' ((c.tc : Thread Cert.ReferenceAdCkvIdeal.nD Cert.ReferenceAdCkvIdeal.τ).loc Cert.ReferenceAdCkvIdeal.main_arg4)
          ∧ r.2.mem ((c.tc : Thread Cert.ReferenceAdCkvIdeal.nD Cert.ReferenceAdCkvIdeal.τ).loc Cert.ReferenceAdCkvIdeal.main_arg5) = m' ((c.tc : Thread Cert.ReferenceAdCkvIdeal.nD Cert.ReferenceAdCkvIdeal.τ).loc Cert.ReferenceAdCkvIdeal.main_arg5))

def preserves_KernelAdMix0_KernelAdMix0Ideal : Prop :=
  True

def algebraic_KernelAdMix0Ideal_ReferenceAdMix0Ideal [hKernelAdMix0Ideal : Cert.KernelAdMix0Ideal.Facts] [hReferenceAdMix0Ideal : Cert.ReferenceAdMix0Ideal.Facts] [hPre_on_a_chip_mix : Cert.Pre_on_a_chip_mix.Facts] : Prop :=
  ∀ (m : (ℓ : Loc Cert.KernelAdMix0Ideal.nD Cert.KernelAdMix0Ideal.τ Cert.KernelAdMix0Ideal.sig) → Buf (Elt Ideal) ℓ) (g : Dev Cert.KernelAdMix0Ideal.nD → PrngReg)
    (m' : (ℓ : Loc Cert.ReferenceAdMix0Ideal.nD Cert.ReferenceAdMix0Ideal.τ Cert.ReferenceAdMix0Ideal.sig) → Buf (Elt Ideal) ℓ) (g' : Dev Cert.ReferenceAdMix0Ideal.nD → PrngReg), Pre_KernelAdMix0Ideal m →
    (∀ c : Dev Cert.KernelAdMix0Ideal.nD,
      m' ((c.tc : Thread Cert.ReferenceAdMix0Ideal.nD Cert.ReferenceAdMix0Ideal.τ).loc Cert.ReferenceAdMix0Ideal.main_arg0) = m ((c.tc : Thread Cert.KernelAdMix0Ideal.nD Cert.KernelAdMix0Ideal.τ).loc Cert.KernelAdMix0Ideal.main_arg0)
      ∧ m' ((c.tc : Thread Cert.ReferenceAdMix0Ideal.nD Cert.ReferenceAdMix0Ideal.τ).loc Cert.ReferenceAdMix0Ideal.main_arg1) = m ((c.tc : Thread Cert.KernelAdMix0Ideal.nD Cert.KernelAdMix0Ideal.τ).loc Cert.KernelAdMix0Ideal.main_arg1)
      ∧ m' ((c.tc : Thread Cert.ReferenceAdMix0Ideal.nD Cert.ReferenceAdMix0Ideal.τ).loc Cert.ReferenceAdMix0Ideal.main_arg2) = m ((c.tc : Thread Cert.KernelAdMix0Ideal.nD Cert.KernelAdMix0Ideal.τ).loc Cert.KernelAdMix0Ideal.main_arg2)
      ∧ m' ((c.tc : Thread Cert.ReferenceAdMix0Ideal.nD Cert.ReferenceAdMix0Ideal.τ).loc Cert.ReferenceAdMix0Ideal.main_arg3) = m ((c.tc : Thread Cert.KernelAdMix0Ideal.nD Cert.KernelAdMix0Ideal.τ).loc Cert.KernelAdMix0Ideal.main_arg3)
      ∧ m' ((c.tc : Thread Cert.ReferenceAdMix0Ideal.nD Cert.ReferenceAdMix0Ideal.τ).loc Cert.ReferenceAdMix0Ideal.main_arg4) = m ((c.tc : Thread Cert.KernelAdMix0Ideal.nD Cert.KernelAdMix0Ideal.τ).loc Cert.KernelAdMix0Ideal.main_arg4)
      ∧ m' ((c.tc : Thread Cert.ReferenceAdMix0Ideal.nD Cert.ReferenceAdMix0Ideal.τ).loc Cert.ReferenceAdMix0Ideal.main_arg5) = m ((c.tc : Thread Cert.KernelAdMix0Ideal.nD Cert.KernelAdMix0Ideal.τ).loc Cert.KernelAdMix0Ideal.main_arg5)) →
    ∃ (v0 : (c : Dev Cert.KernelAdMix0Ideal.nD) → Buf (Elt Ideal) ((c.tc : Thread Cert.KernelAdMix0Ideal.nD Cert.KernelAdMix0Ideal.τ).loc Cert.KernelAdMix0Ideal.main_v3_0)) (v1 : (c : Dev Cert.KernelAdMix0Ideal.nD) → Buf (Elt Ideal) ((c.tc : Thread Cert.KernelAdMix0Ideal.nD Cert.KernelAdMix0Ideal.τ).loc Cert.KernelAdMix0Ideal.main_v3_1)) (v2 : (c : Dev Cert.KernelAdMix0Ideal.nD) → Buf (Elt Ideal) ((c.tc : Thread Cert.KernelAdMix0Ideal.nD Cert.KernelAdMix0Ideal.τ).loc Cert.KernelAdMix0Ideal.main_v3_2)) (v3 : (c : Dev Cert.KernelAdMix0Ideal.nD) → Buf (Elt Ideal) ((c.tc : Thread Cert.KernelAdMix0Ideal.nD Cert.KernelAdMix0Ideal.τ).loc Cert.KernelAdMix0Ideal.main_v3_3)),
      θ_run (Cert.KernelAdMix0Ideal.defs (F := Ideal)) (onTc (τ := Cert.KernelAdMix0Ideal.τ) (Cert.KernelAdMix0Ideal.main (F := Ideal))) ⟨m, fun _ => 0, g⟩ (fun r => ∀ c : Dev Cert.KernelAdMix0Ideal.nD,
          r.2.mem ((c.tc : Thread Cert.KernelAdMix0Ideal.nD Cert.KernelAdMix0Ideal.τ).loc Cert.KernelAdMix0Ideal.main_v3_0) = v0 c
          ∧ r.2.mem ((c.tc : Thread Cert.KernelAdMix0Ideal.nD Cert.KernelAdMix0Ideal.τ).loc Cert.KernelAdMix0Ideal.main_v3_1) = v1 c
          ∧ r.2.mem ((c.tc : Thread Cert.KernelAdMix0Ideal.nD Cert.KernelAdMix0Ideal.τ).loc Cert.KernelAdMix0Ideal.main_v3_2) = v2 c
          ∧ r.2.mem ((c.tc : Thread Cert.KernelAdMix0Ideal.nD Cert.KernelAdMix0Ideal.τ).loc Cert.KernelAdMix0Ideal.main_v3_3) = v3 c
          ∧ r.2.mem ((c.tc : Thread Cert.KernelAdMix0Ideal.nD Cert.KernelAdMix0Ideal.τ).loc Cert.KernelAdMix0Ideal.main_arg0) = m ((c.tc : Thread Cert.KernelAdMix0Ideal.nD Cert.KernelAdMix0Ideal.τ).loc Cert.KernelAdMix0Ideal.main_arg0)
          ∧ r.2.mem ((c.tc : Thread Cert.KernelAdMix0Ideal.nD Cert.KernelAdMix0Ideal.τ).loc Cert.KernelAdMix0Ideal.main_arg1) = m ((c.tc : Thread Cert.KernelAdMix0Ideal.nD Cert.KernelAdMix0Ideal.τ).loc Cert.KernelAdMix0Ideal.main_arg1)
          ∧ r.2.mem ((c.tc : Thread Cert.KernelAdMix0Ideal.nD Cert.KernelAdMix0Ideal.τ).loc Cert.KernelAdMix0Ideal.main_arg2) = m ((c.tc : Thread Cert.KernelAdMix0Ideal.nD Cert.KernelAdMix0Ideal.τ).loc Cert.KernelAdMix0Ideal.main_arg2)
          ∧ r.2.mem ((c.tc : Thread Cert.KernelAdMix0Ideal.nD Cert.KernelAdMix0Ideal.τ).loc Cert.KernelAdMix0Ideal.main_arg3) = m ((c.tc : Thread Cert.KernelAdMix0Ideal.nD Cert.KernelAdMix0Ideal.τ).loc Cert.KernelAdMix0Ideal.main_arg3)
          ∧ r.2.mem ((c.tc : Thread Cert.KernelAdMix0Ideal.nD Cert.KernelAdMix0Ideal.τ).loc Cert.KernelAdMix0Ideal.main_arg4) = m ((c.tc : Thread Cert.KernelAdMix0Ideal.nD Cert.KernelAdMix0Ideal.τ).loc Cert.KernelAdMix0Ideal.main_arg4)
          ∧ r.2.mem ((c.tc : Thread Cert.KernelAdMix0Ideal.nD Cert.KernelAdMix0Ideal.τ).loc Cert.KernelAdMix0Ideal.main_arg5) = m ((c.tc : Thread Cert.KernelAdMix0Ideal.nD Cert.KernelAdMix0Ideal.τ).loc Cert.KernelAdMix0Ideal.main_arg5))
      ∧ θ_run (Cert.ReferenceAdMix0Ideal.defs (F := Ideal)) (onTc (τ := Cert.ReferenceAdMix0Ideal.τ) (Cert.ReferenceAdMix0Ideal.main (F := Ideal))) ⟨m', fun _ => 0, g'⟩ (fun r => ∀ c : Dev Cert.ReferenceAdMix0Ideal.nD,
          r.2.mem ((c.tc : Thread Cert.ReferenceAdMix0Ideal.nD Cert.ReferenceAdMix0Ideal.τ).loc Cert.ReferenceAdMix0Ideal.main_v7) = v0 c
          ∧ r.2.mem ((c.tc : Thread Cert.ReferenceAdMix0Ideal.nD Cert.ReferenceAdMix0Ideal.τ).loc Cert.ReferenceAdMix0Ideal.main_v31) = v1 c
          ∧ r.2.mem ((c.tc : Thread Cert.ReferenceAdMix0Ideal.nD Cert.ReferenceAdMix0Ideal.τ).loc Cert.ReferenceAdMix0Ideal.main_v12) = v2 c
          ∧ r.2.mem ((c.tc : Thread Cert.ReferenceAdMix0Ideal.nD Cert.ReferenceAdMix0Ideal.τ).loc Cert.ReferenceAdMix0Ideal.main_v18) = v3 c
          ∧ r.2.mem ((c.tc : Thread Cert.ReferenceAdMix0Ideal.nD Cert.ReferenceAdMix0Ideal.τ).loc Cert.ReferenceAdMix0Ideal.main_arg0) = m' ((c.tc : Thread Cert.ReferenceAdMix0Ideal.nD Cert.ReferenceAdMix0Ideal.τ).loc Cert.ReferenceAdMix0Ideal.main_arg0)
          ∧ r.2.mem ((c.tc : Thread Cert.ReferenceAdMix0Ideal.nD Cert.ReferenceAdMix0Ideal.τ).loc Cert.ReferenceAdMix0Ideal.main_arg1) = m' ((c.tc : Thread Cert.ReferenceAdMix0Ideal.nD Cert.ReferenceAdMix0Ideal.τ).loc Cert.ReferenceAdMix0Ideal.main_arg1)
          ∧ r.2.mem ((c.tc : Thread Cert.ReferenceAdMix0Ideal.nD Cert.ReferenceAdMix0Ideal.τ).loc Cert.ReferenceAdMix0Ideal.main_arg2) = m' ((c.tc : Thread Cert.ReferenceAdMix0Ideal.nD Cert.ReferenceAdMix0Ideal.τ).loc Cert.ReferenceAdMix0Ideal.main_arg2)
          ∧ r.2.mem ((c.tc : Thread Cert.ReferenceAdMix0Ideal.nD Cert.ReferenceAdMix0Ideal.τ).loc Cert.ReferenceAdMix0Ideal.main_arg3) = m' ((c.tc : Thread Cert.ReferenceAdMix0Ideal.nD Cert.ReferenceAdMix0Ideal.τ).loc Cert.ReferenceAdMix0Ideal.main_arg3)
          ∧ r.2.mem ((c.tc : Thread Cert.ReferenceAdMix0Ideal.nD Cert.ReferenceAdMix0Ideal.τ).loc Cert.ReferenceAdMix0Ideal.main_arg4) = m' ((c.tc : Thread Cert.ReferenceAdMix0Ideal.nD Cert.ReferenceAdMix0Ideal.τ).loc Cert.ReferenceAdMix0Ideal.main_arg4)
          ∧ r.2.mem ((c.tc : Thread Cert.ReferenceAdMix0Ideal.nD Cert.ReferenceAdMix0Ideal.τ).loc Cert.ReferenceAdMix0Ideal.main_arg5) = m' ((c.tc : Thread Cert.ReferenceAdMix0Ideal.nD Cert.ReferenceAdMix0Ideal.τ).loc Cert.ReferenceAdMix0Ideal.main_arg5))

def preserves_KernelAdMix1_KernelAdMix1Ideal : Prop :=
  True

def algebraic_KernelAdMix1Ideal_ReferenceAdMix1Ideal [hKernelAdMix1Ideal : Cert.KernelAdMix1Ideal.Facts] [hReferenceAdMix1Ideal : Cert.ReferenceAdMix1Ideal.Facts] [hPre_on_a_chip_mix : Cert.Pre_on_a_chip_mix.Facts] : Prop :=
  ∀ (m : (ℓ : Loc Cert.KernelAdMix1Ideal.nD Cert.KernelAdMix1Ideal.τ Cert.KernelAdMix1Ideal.sig) → Buf (Elt Ideal) ℓ) (g : Dev Cert.KernelAdMix1Ideal.nD → PrngReg)
    (m' : (ℓ : Loc Cert.ReferenceAdMix1Ideal.nD Cert.ReferenceAdMix1Ideal.τ Cert.ReferenceAdMix1Ideal.sig) → Buf (Elt Ideal) ℓ) (g' : Dev Cert.ReferenceAdMix1Ideal.nD → PrngReg), Pre_KernelAdMix1Ideal m →
    (∀ c : Dev Cert.KernelAdMix1Ideal.nD,
      m' ((c.tc : Thread Cert.ReferenceAdMix1Ideal.nD Cert.ReferenceAdMix1Ideal.τ).loc Cert.ReferenceAdMix1Ideal.main_arg0) = m ((c.tc : Thread Cert.KernelAdMix1Ideal.nD Cert.KernelAdMix1Ideal.τ).loc Cert.KernelAdMix1Ideal.main_arg0)
      ∧ m' ((c.tc : Thread Cert.ReferenceAdMix1Ideal.nD Cert.ReferenceAdMix1Ideal.τ).loc Cert.ReferenceAdMix1Ideal.main_arg1) = m ((c.tc : Thread Cert.KernelAdMix1Ideal.nD Cert.KernelAdMix1Ideal.τ).loc Cert.KernelAdMix1Ideal.main_arg1)
      ∧ m' ((c.tc : Thread Cert.ReferenceAdMix1Ideal.nD Cert.ReferenceAdMix1Ideal.τ).loc Cert.ReferenceAdMix1Ideal.main_arg2) = m ((c.tc : Thread Cert.KernelAdMix1Ideal.nD Cert.KernelAdMix1Ideal.τ).loc Cert.KernelAdMix1Ideal.main_arg2)
      ∧ m' ((c.tc : Thread Cert.ReferenceAdMix1Ideal.nD Cert.ReferenceAdMix1Ideal.τ).loc Cert.ReferenceAdMix1Ideal.main_arg3) = m ((c.tc : Thread Cert.KernelAdMix1Ideal.nD Cert.KernelAdMix1Ideal.τ).loc Cert.KernelAdMix1Ideal.main_arg3)
      ∧ m' ((c.tc : Thread Cert.ReferenceAdMix1Ideal.nD Cert.ReferenceAdMix1Ideal.τ).loc Cert.ReferenceAdMix1Ideal.main_arg4) = m ((c.tc : Thread Cert.KernelAdMix1Ideal.nD Cert.KernelAdMix1Ideal.τ).loc Cert.KernelAdMix1Ideal.main_arg4)
      ∧ m' ((c.tc : Thread Cert.ReferenceAdMix1Ideal.nD Cert.ReferenceAdMix1Ideal.τ).loc Cert.ReferenceAdMix1Ideal.main_arg5) = m ((c.tc : Thread Cert.KernelAdMix1Ideal.nD Cert.KernelAdMix1Ideal.τ).loc Cert.KernelAdMix1Ideal.main_arg5)) →
    ∃ (v0 : (c : Dev Cert.KernelAdMix1Ideal.nD) → Buf (Elt Ideal) ((c.tc : Thread Cert.KernelAdMix1Ideal.nD Cert.KernelAdMix1Ideal.τ).loc Cert.KernelAdMix1Ideal.main_v3_0)) (v1 : (c : Dev Cert.KernelAdMix1Ideal.nD) → Buf (Elt Ideal) ((c.tc : Thread Cert.KernelAdMix1Ideal.nD Cert.KernelAdMix1Ideal.τ).loc Cert.KernelAdMix1Ideal.main_v3_1)) (v2 : (c : Dev Cert.KernelAdMix1Ideal.nD) → Buf (Elt Ideal) ((c.tc : Thread Cert.KernelAdMix1Ideal.nD Cert.KernelAdMix1Ideal.τ).loc Cert.KernelAdMix1Ideal.main_v3_2)) (v3 : (c : Dev Cert.KernelAdMix1Ideal.nD) → Buf (Elt Ideal) ((c.tc : Thread Cert.KernelAdMix1Ideal.nD Cert.KernelAdMix1Ideal.τ).loc Cert.KernelAdMix1Ideal.main_v3_3)),
      θ_run (Cert.KernelAdMix1Ideal.defs (F := Ideal)) (onTc (τ := Cert.KernelAdMix1Ideal.τ) (Cert.KernelAdMix1Ideal.main (F := Ideal))) ⟨m, fun _ => 0, g⟩ (fun r => ∀ c : Dev Cert.KernelAdMix1Ideal.nD,
          r.2.mem ((c.tc : Thread Cert.KernelAdMix1Ideal.nD Cert.KernelAdMix1Ideal.τ).loc Cert.KernelAdMix1Ideal.main_v3_0) = v0 c
          ∧ r.2.mem ((c.tc : Thread Cert.KernelAdMix1Ideal.nD Cert.KernelAdMix1Ideal.τ).loc Cert.KernelAdMix1Ideal.main_v3_1) = v1 c
          ∧ r.2.mem ((c.tc : Thread Cert.KernelAdMix1Ideal.nD Cert.KernelAdMix1Ideal.τ).loc Cert.KernelAdMix1Ideal.main_v3_2) = v2 c
          ∧ r.2.mem ((c.tc : Thread Cert.KernelAdMix1Ideal.nD Cert.KernelAdMix1Ideal.τ).loc Cert.KernelAdMix1Ideal.main_v3_3) = v3 c
          ∧ r.2.mem ((c.tc : Thread Cert.KernelAdMix1Ideal.nD Cert.KernelAdMix1Ideal.τ).loc Cert.KernelAdMix1Ideal.main_arg0) = m ((c.tc : Thread Cert.KernelAdMix1Ideal.nD Cert.KernelAdMix1Ideal.τ).loc Cert.KernelAdMix1Ideal.main_arg0)
          ∧ r.2.mem ((c.tc : Thread Cert.KernelAdMix1Ideal.nD Cert.KernelAdMix1Ideal.τ).loc Cert.KernelAdMix1Ideal.main_arg1) = m ((c.tc : Thread Cert.KernelAdMix1Ideal.nD Cert.KernelAdMix1Ideal.τ).loc Cert.KernelAdMix1Ideal.main_arg1)
          ∧ r.2.mem ((c.tc : Thread Cert.KernelAdMix1Ideal.nD Cert.KernelAdMix1Ideal.τ).loc Cert.KernelAdMix1Ideal.main_arg2) = m ((c.tc : Thread Cert.KernelAdMix1Ideal.nD Cert.KernelAdMix1Ideal.τ).loc Cert.KernelAdMix1Ideal.main_arg2)
          ∧ r.2.mem ((c.tc : Thread Cert.KernelAdMix1Ideal.nD Cert.KernelAdMix1Ideal.τ).loc Cert.KernelAdMix1Ideal.main_arg3) = m ((c.tc : Thread Cert.KernelAdMix1Ideal.nD Cert.KernelAdMix1Ideal.τ).loc Cert.KernelAdMix1Ideal.main_arg3)
          ∧ r.2.mem ((c.tc : Thread Cert.KernelAdMix1Ideal.nD Cert.KernelAdMix1Ideal.τ).loc Cert.KernelAdMix1Ideal.main_arg4) = m ((c.tc : Thread Cert.KernelAdMix1Ideal.nD Cert.KernelAdMix1Ideal.τ).loc Cert.KernelAdMix1Ideal.main_arg4)
          ∧ r.2.mem ((c.tc : Thread Cert.KernelAdMix1Ideal.nD Cert.KernelAdMix1Ideal.τ).loc Cert.KernelAdMix1Ideal.main_arg5) = m ((c.tc : Thread Cert.KernelAdMix1Ideal.nD Cert.KernelAdMix1Ideal.τ).loc Cert.KernelAdMix1Ideal.main_arg5))
      ∧ θ_run (Cert.ReferenceAdMix1Ideal.defs (F := Ideal)) (onTc (τ := Cert.ReferenceAdMix1Ideal.τ) (Cert.ReferenceAdMix1Ideal.main (F := Ideal))) ⟨m', fun _ => 0, g'⟩ (fun r => ∀ c : Dev Cert.ReferenceAdMix1Ideal.nD,
          r.2.mem ((c.tc : Thread Cert.ReferenceAdMix1Ideal.nD Cert.ReferenceAdMix1Ideal.τ).loc Cert.ReferenceAdMix1Ideal.main_v7) = v0 c
          ∧ r.2.mem ((c.tc : Thread Cert.ReferenceAdMix1Ideal.nD Cert.ReferenceAdMix1Ideal.τ).loc Cert.ReferenceAdMix1Ideal.main_v31) = v1 c
          ∧ r.2.mem ((c.tc : Thread Cert.ReferenceAdMix1Ideal.nD Cert.ReferenceAdMix1Ideal.τ).loc Cert.ReferenceAdMix1Ideal.main_v12) = v2 c
          ∧ r.2.mem ((c.tc : Thread Cert.ReferenceAdMix1Ideal.nD Cert.ReferenceAdMix1Ideal.τ).loc Cert.ReferenceAdMix1Ideal.main_v18) = v3 c
          ∧ r.2.mem ((c.tc : Thread Cert.ReferenceAdMix1Ideal.nD Cert.ReferenceAdMix1Ideal.τ).loc Cert.ReferenceAdMix1Ideal.main_arg0) = m' ((c.tc : Thread Cert.ReferenceAdMix1Ideal.nD Cert.ReferenceAdMix1Ideal.τ).loc Cert.ReferenceAdMix1Ideal.main_arg0)
          ∧ r.2.mem ((c.tc : Thread Cert.ReferenceAdMix1Ideal.nD Cert.ReferenceAdMix1Ideal.τ).loc Cert.ReferenceAdMix1Ideal.main_arg1) = m' ((c.tc : Thread Cert.ReferenceAdMix1Ideal.nD Cert.ReferenceAdMix1Ideal.τ).loc Cert.ReferenceAdMix1Ideal.main_arg1)
          ∧ r.2.mem ((c.tc : Thread Cert.ReferenceAdMix1Ideal.nD Cert.ReferenceAdMix1Ideal.τ).loc Cert.ReferenceAdMix1Ideal.main_arg2) = m' ((c.tc : Thread Cert.ReferenceAdMix1Ideal.nD Cert.ReferenceAdMix1Ideal.τ).loc Cert.ReferenceAdMix1Ideal.main_arg2)
          ∧ r.2.mem ((c.tc : Thread Cert.ReferenceAdMix1Ideal.nD Cert.ReferenceAdMix1Ideal.τ).loc Cert.ReferenceAdMix1Ideal.main_arg3) = m' ((c.tc : Thread Cert.ReferenceAdMix1Ideal.nD Cert.ReferenceAdMix1Ideal.τ).loc Cert.ReferenceAdMix1Ideal.main_arg3)
          ∧ r.2.mem ((c.tc : Thread Cert.ReferenceAdMix1Ideal.nD Cert.ReferenceAdMix1Ideal.τ).loc Cert.ReferenceAdMix1Ideal.main_arg4) = m' ((c.tc : Thread Cert.ReferenceAdMix1Ideal.nD Cert.ReferenceAdMix1Ideal.τ).loc Cert.ReferenceAdMix1Ideal.main_arg4)
          ∧ r.2.mem ((c.tc : Thread Cert.ReferenceAdMix1Ideal.nD Cert.ReferenceAdMix1Ideal.τ).loc Cert.ReferenceAdMix1Ideal.main_arg5) = m' ((c.tc : Thread Cert.ReferenceAdMix1Ideal.nD Cert.ReferenceAdMix1Ideal.τ).loc Cert.ReferenceAdMix1Ideal.main_arg5))

def preserves_KernelAdMix2_KernelAdMix2Ideal : Prop :=
  True

def algebraic_KernelAdMix2Ideal_ReferenceAdMix2Ideal [hKernelAdMix2Ideal : Cert.KernelAdMix2Ideal.Facts] [hReferenceAdMix2Ideal : Cert.ReferenceAdMix2Ideal.Facts] [hPre_on_a_chip_mix : Cert.Pre_on_a_chip_mix.Facts] : Prop :=
  ∀ (m : (ℓ : Loc Cert.KernelAdMix2Ideal.nD Cert.KernelAdMix2Ideal.τ Cert.KernelAdMix2Ideal.sig) → Buf (Elt Ideal) ℓ) (g : Dev Cert.KernelAdMix2Ideal.nD → PrngReg)
    (m' : (ℓ : Loc Cert.ReferenceAdMix2Ideal.nD Cert.ReferenceAdMix2Ideal.τ Cert.ReferenceAdMix2Ideal.sig) → Buf (Elt Ideal) ℓ) (g' : Dev Cert.ReferenceAdMix2Ideal.nD → PrngReg), Pre_KernelAdMix2Ideal m →
    (∀ c : Dev Cert.KernelAdMix2Ideal.nD,
      m' ((c.tc : Thread Cert.ReferenceAdMix2Ideal.nD Cert.ReferenceAdMix2Ideal.τ).loc Cert.ReferenceAdMix2Ideal.main_arg0) = m ((c.tc : Thread Cert.KernelAdMix2Ideal.nD Cert.KernelAdMix2Ideal.τ).loc Cert.KernelAdMix2Ideal.main_arg0)
      ∧ m' ((c.tc : Thread Cert.ReferenceAdMix2Ideal.nD Cert.ReferenceAdMix2Ideal.τ).loc Cert.ReferenceAdMix2Ideal.main_arg1) = m ((c.tc : Thread Cert.KernelAdMix2Ideal.nD Cert.KernelAdMix2Ideal.τ).loc Cert.KernelAdMix2Ideal.main_arg1)
      ∧ m' ((c.tc : Thread Cert.ReferenceAdMix2Ideal.nD Cert.ReferenceAdMix2Ideal.τ).loc Cert.ReferenceAdMix2Ideal.main_arg2) = m ((c.tc : Thread Cert.KernelAdMix2Ideal.nD Cert.KernelAdMix2Ideal.τ).loc Cert.KernelAdMix2Ideal.main_arg2)
      ∧ m' ((c.tc : Thread Cert.ReferenceAdMix2Ideal.nD Cert.ReferenceAdMix2Ideal.τ).loc Cert.ReferenceAdMix2Ideal.main_arg3) = m ((c.tc : Thread Cert.KernelAdMix2Ideal.nD Cert.KernelAdMix2Ideal.τ).loc Cert.KernelAdMix2Ideal.main_arg3)
      ∧ m' ((c.tc : Thread Cert.ReferenceAdMix2Ideal.nD Cert.ReferenceAdMix2Ideal.τ).loc Cert.ReferenceAdMix2Ideal.main_arg4) = m ((c.tc : Thread Cert.KernelAdMix2Ideal.nD Cert.KernelAdMix2Ideal.τ).loc Cert.KernelAdMix2Ideal.main_arg4)
      ∧ m' ((c.tc : Thread Cert.ReferenceAdMix2Ideal.nD Cert.ReferenceAdMix2Ideal.τ).loc Cert.ReferenceAdMix2Ideal.main_arg5) = m ((c.tc : Thread Cert.KernelAdMix2Ideal.nD Cert.KernelAdMix2Ideal.τ).loc Cert.KernelAdMix2Ideal.main_arg5)) →
    ∃ (v0 : (c : Dev Cert.KernelAdMix2Ideal.nD) → Buf (Elt Ideal) ((c.tc : Thread Cert.KernelAdMix2Ideal.nD Cert.KernelAdMix2Ideal.τ).loc Cert.KernelAdMix2Ideal.main_v3_0)) (v1 : (c : Dev Cert.KernelAdMix2Ideal.nD) → Buf (Elt Ideal) ((c.tc : Thread Cert.KernelAdMix2Ideal.nD Cert.KernelAdMix2Ideal.τ).loc Cert.KernelAdMix2Ideal.main_v3_1)) (v2 : (c : Dev Cert.KernelAdMix2Ideal.nD) → Buf (Elt Ideal) ((c.tc : Thread Cert.KernelAdMix2Ideal.nD Cert.KernelAdMix2Ideal.τ).loc Cert.KernelAdMix2Ideal.main_v3_2)) (v3 : (c : Dev Cert.KernelAdMix2Ideal.nD) → Buf (Elt Ideal) ((c.tc : Thread Cert.KernelAdMix2Ideal.nD Cert.KernelAdMix2Ideal.τ).loc Cert.KernelAdMix2Ideal.main_v3_3)),
      θ_run (Cert.KernelAdMix2Ideal.defs (F := Ideal)) (onTc (τ := Cert.KernelAdMix2Ideal.τ) (Cert.KernelAdMix2Ideal.main (F := Ideal))) ⟨m, fun _ => 0, g⟩ (fun r => ∀ c : Dev Cert.KernelAdMix2Ideal.nD,
          r.2.mem ((c.tc : Thread Cert.KernelAdMix2Ideal.nD Cert.KernelAdMix2Ideal.τ).loc Cert.KernelAdMix2Ideal.main_v3_0) = v0 c
          ∧ r.2.mem ((c.tc : Thread Cert.KernelAdMix2Ideal.nD Cert.KernelAdMix2Ideal.τ).loc Cert.KernelAdMix2Ideal.main_v3_1) = v1 c
          ∧ r.2.mem ((c.tc : Thread Cert.KernelAdMix2Ideal.nD Cert.KernelAdMix2Ideal.τ).loc Cert.KernelAdMix2Ideal.main_v3_2) = v2 c
          ∧ r.2.mem ((c.tc : Thread Cert.KernelAdMix2Ideal.nD Cert.KernelAdMix2Ideal.τ).loc Cert.KernelAdMix2Ideal.main_v3_3) = v3 c
          ∧ r.2.mem ((c.tc : Thread Cert.KernelAdMix2Ideal.nD Cert.KernelAdMix2Ideal.τ).loc Cert.KernelAdMix2Ideal.main_arg0) = m ((c.tc : Thread Cert.KernelAdMix2Ideal.nD Cert.KernelAdMix2Ideal.τ).loc Cert.KernelAdMix2Ideal.main_arg0)
          ∧ r.2.mem ((c.tc : Thread Cert.KernelAdMix2Ideal.nD Cert.KernelAdMix2Ideal.τ).loc Cert.KernelAdMix2Ideal.main_arg1) = m ((c.tc : Thread Cert.KernelAdMix2Ideal.nD Cert.KernelAdMix2Ideal.τ).loc Cert.KernelAdMix2Ideal.main_arg1)
          ∧ r.2.mem ((c.tc : Thread Cert.KernelAdMix2Ideal.nD Cert.KernelAdMix2Ideal.τ).loc Cert.KernelAdMix2Ideal.main_arg2) = m ((c.tc : Thread Cert.KernelAdMix2Ideal.nD Cert.KernelAdMix2Ideal.τ).loc Cert.KernelAdMix2Ideal.main_arg2)
          ∧ r.2.mem ((c.tc : Thread Cert.KernelAdMix2Ideal.nD Cert.KernelAdMix2Ideal.τ).loc Cert.KernelAdMix2Ideal.main_arg3) = m ((c.tc : Thread Cert.KernelAdMix2Ideal.nD Cert.KernelAdMix2Ideal.τ).loc Cert.KernelAdMix2Ideal.main_arg3)
          ∧ r.2.mem ((c.tc : Thread Cert.KernelAdMix2Ideal.nD Cert.KernelAdMix2Ideal.τ).loc Cert.KernelAdMix2Ideal.main_arg4) = m ((c.tc : Thread Cert.KernelAdMix2Ideal.nD Cert.KernelAdMix2Ideal.τ).loc Cert.KernelAdMix2Ideal.main_arg4)
          ∧ r.2.mem ((c.tc : Thread Cert.KernelAdMix2Ideal.nD Cert.KernelAdMix2Ideal.τ).loc Cert.KernelAdMix2Ideal.main_arg5) = m ((c.tc : Thread Cert.KernelAdMix2Ideal.nD Cert.KernelAdMix2Ideal.τ).loc Cert.KernelAdMix2Ideal.main_arg5))
      ∧ θ_run (Cert.ReferenceAdMix2Ideal.defs (F := Ideal)) (onTc (τ := Cert.ReferenceAdMix2Ideal.τ) (Cert.ReferenceAdMix2Ideal.main (F := Ideal))) ⟨m', fun _ => 0, g'⟩ (fun r => ∀ c : Dev Cert.ReferenceAdMix2Ideal.nD,
          r.2.mem ((c.tc : Thread Cert.ReferenceAdMix2Ideal.nD Cert.ReferenceAdMix2Ideal.τ).loc Cert.ReferenceAdMix2Ideal.main_v7) = v0 c
          ∧ r.2.mem ((c.tc : Thread Cert.ReferenceAdMix2Ideal.nD Cert.ReferenceAdMix2Ideal.τ).loc Cert.ReferenceAdMix2Ideal.main_v31) = v1 c
          ∧ r.2.mem ((c.tc : Thread Cert.ReferenceAdMix2Ideal.nD Cert.ReferenceAdMix2Ideal.τ).loc Cert.ReferenceAdMix2Ideal.main_v12) = v2 c
          ∧ r.2.mem ((c.tc : Thread Cert.ReferenceAdMix2Ideal.nD Cert.ReferenceAdMix2Ideal.τ).loc Cert.ReferenceAdMix2Ideal.main_v18) = v3 c
          ∧ r.2.mem ((c.tc : Thread Cert.ReferenceAdMix2Ideal.nD Cert.ReferenceAdMix2Ideal.τ).loc Cert.ReferenceAdMix2Ideal.main_arg0) = m' ((c.tc : Thread Cert.ReferenceAdMix2Ideal.nD Cert.ReferenceAdMix2Ideal.τ).loc Cert.ReferenceAdMix2Ideal.main_arg0)
          ∧ r.2.mem ((c.tc : Thread Cert.ReferenceAdMix2Ideal.nD Cert.ReferenceAdMix2Ideal.τ).loc Cert.ReferenceAdMix2Ideal.main_arg1) = m' ((c.tc : Thread Cert.ReferenceAdMix2Ideal.nD Cert.ReferenceAdMix2Ideal.τ).loc Cert.ReferenceAdMix2Ideal.main_arg1)
          ∧ r.2.mem ((c.tc : Thread Cert.ReferenceAdMix2Ideal.nD Cert.ReferenceAdMix2Ideal.τ).loc Cert.ReferenceAdMix2Ideal.main_arg2) = m' ((c.tc : Thread Cert.ReferenceAdMix2Ideal.nD Cert.ReferenceAdMix2Ideal.τ).loc Cert.ReferenceAdMix2Ideal.main_arg2)
          ∧ r.2.mem ((c.tc : Thread Cert.ReferenceAdMix2Ideal.nD Cert.ReferenceAdMix2Ideal.τ).loc Cert.ReferenceAdMix2Ideal.main_arg3) = m' ((c.tc : Thread Cert.ReferenceAdMix2Ideal.nD Cert.ReferenceAdMix2Ideal.τ).loc Cert.ReferenceAdMix2Ideal.main_arg3)
          ∧ r.2.mem ((c.tc : Thread Cert.ReferenceAdMix2Ideal.nD Cert.ReferenceAdMix2Ideal.τ).loc Cert.ReferenceAdMix2Ideal.main_arg4) = m' ((c.tc : Thread Cert.ReferenceAdMix2Ideal.nD Cert.ReferenceAdMix2Ideal.τ).loc Cert.ReferenceAdMix2Ideal.main_arg4)
          ∧ r.2.mem ((c.tc : Thread Cert.ReferenceAdMix2Ideal.nD Cert.ReferenceAdMix2Ideal.τ).loc Cert.ReferenceAdMix2Ideal.main_arg5) = m' ((c.tc : Thread Cert.ReferenceAdMix2Ideal.nD Cert.ReferenceAdMix2Ideal.τ).loc Cert.ReferenceAdMix2Ideal.main_arg5))

def preserves_KernelAdCross0_KernelAdCross0Ideal : Prop :=
  True

def algebraic_KernelAdCross0Ideal_ReferenceAdCross0Ideal [hKernelAdCross0Ideal : Cert.KernelAdCross0Ideal.Facts] [hReferenceAdCross0Ideal : Cert.ReferenceAdCross0Ideal.Facts] [hPre_on_a_chip_cross : Cert.Pre_on_a_chip_cross.Facts] : Prop :=
  ∀ (m : (ℓ : Loc Cert.KernelAdCross0Ideal.nD Cert.KernelAdCross0Ideal.τ Cert.KernelAdCross0Ideal.sig) → Buf (Elt Ideal) ℓ) (g : Dev Cert.KernelAdCross0Ideal.nD → PrngReg)
    (m' : (ℓ : Loc Cert.ReferenceAdCross0Ideal.nD Cert.ReferenceAdCross0Ideal.τ Cert.ReferenceAdCross0Ideal.sig) → Buf (Elt Ideal) ℓ) (g' : Dev Cert.ReferenceAdCross0Ideal.nD → PrngReg), Pre_KernelAdCross0Ideal m →
    (∀ c : Dev Cert.KernelAdCross0Ideal.nD,
      m' ((c.tc : Thread Cert.ReferenceAdCross0Ideal.nD Cert.ReferenceAdCross0Ideal.τ).loc Cert.ReferenceAdCross0Ideal.main_arg0) = m ((c.tc : Thread Cert.KernelAdCross0Ideal.nD Cert.KernelAdCross0Ideal.τ).loc Cert.KernelAdCross0Ideal.main_arg0)
      ∧ m' ((c.tc : Thread Cert.ReferenceAdCross0Ideal.nD Cert.ReferenceAdCross0Ideal.τ).loc Cert.ReferenceAdCross0Ideal.main_arg1) = m ((c.tc : Thread Cert.KernelAdCross0Ideal.nD Cert.KernelAdCross0Ideal.τ).loc Cert.KernelAdCross0Ideal.main_arg1)
      ∧ m' ((c.tc : Thread Cert.ReferenceAdCross0Ideal.nD Cert.ReferenceAdCross0Ideal.τ).loc Cert.ReferenceAdCross0Ideal.main_arg2) = m ((c.tc : Thread Cert.KernelAdCross0Ideal.nD Cert.KernelAdCross0Ideal.τ).loc Cert.KernelAdCross0Ideal.main_arg2)
      ∧ m' ((c.tc : Thread Cert.ReferenceAdCross0Ideal.nD Cert.ReferenceAdCross0Ideal.τ).loc Cert.ReferenceAdCross0Ideal.main_arg3) = m ((c.tc : Thread Cert.KernelAdCross0Ideal.nD Cert.KernelAdCross0Ideal.τ).loc Cert.KernelAdCross0Ideal.main_arg3)
      ∧ m' ((c.tc : Thread Cert.ReferenceAdCross0Ideal.nD Cert.ReferenceAdCross0Ideal.τ).loc Cert.ReferenceAdCross0Ideal.main_arg4) = m ((c.tc : Thread Cert.KernelAdCross0Ideal.nD Cert.KernelAdCross0Ideal.τ).loc Cert.KernelAdCross0Ideal.main_arg4)
      ∧ m' ((c.tc : Thread Cert.ReferenceAdCross0Ideal.nD Cert.ReferenceAdCross0Ideal.τ).loc Cert.ReferenceAdCross0Ideal.main_arg5) = m ((c.tc : Thread Cert.KernelAdCross0Ideal.nD Cert.KernelAdCross0Ideal.τ).loc Cert.KernelAdCross0Ideal.main_arg5)) →
    ∃ (v0 : (c : Dev Cert.KernelAdCross0Ideal.nD) → Buf (Elt Ideal) ((c.tc : Thread Cert.KernelAdCross0Ideal.nD Cert.KernelAdCross0Ideal.τ).loc Cert.KernelAdCross0Ideal.main_v3_0)) (v1 : (c : Dev Cert.KernelAdCross0Ideal.nD) → Buf (Elt Ideal) ((c.tc : Thread Cert.KernelAdCross0Ideal.nD Cert.KernelAdCross0Ideal.τ).loc Cert.KernelAdCross0Ideal.main_v3_1)) (v2 : (c : Dev Cert.KernelAdCross0Ideal.nD) → Buf (Elt Ideal) ((c.tc : Thread Cert.KernelAdCross0Ideal.nD Cert.KernelAdCross0Ideal.τ).loc Cert.KernelAdCross0Ideal.main_v3_2)) (v3 : (c : Dev Cert.KernelAdCross0Ideal.nD) → Buf (Elt Ideal) ((c.tc : Thread Cert.KernelAdCross0Ideal.nD Cert.KernelAdCross0Ideal.τ).loc Cert.KernelAdCross0Ideal.main_v3_3)),
      θ_run (Cert.KernelAdCross0Ideal.defs (F := Ideal)) (onTc (τ := Cert.KernelAdCross0Ideal.τ) (Cert.KernelAdCross0Ideal.main (F := Ideal))) ⟨m, fun _ => 0, g⟩ (fun r => ∀ c : Dev Cert.KernelAdCross0Ideal.nD,
          r.2.mem ((c.tc : Thread Cert.KernelAdCross0Ideal.nD Cert.KernelAdCross0Ideal.τ).loc Cert.KernelAdCross0Ideal.main_v3_0) = v0 c
          ∧ r.2.mem ((c.tc : Thread Cert.KernelAdCross0Ideal.nD Cert.KernelAdCross0Ideal.τ).loc Cert.KernelAdCross0Ideal.main_v3_1) = v1 c
          ∧ r.2.mem ((c.tc : Thread Cert.KernelAdCross0Ideal.nD Cert.KernelAdCross0Ideal.τ).loc Cert.KernelAdCross0Ideal.main_v3_2) = v2 c
          ∧ r.2.mem ((c.tc : Thread Cert.KernelAdCross0Ideal.nD Cert.KernelAdCross0Ideal.τ).loc Cert.KernelAdCross0Ideal.main_v3_3) = v3 c
          ∧ r.2.mem ((c.tc : Thread Cert.KernelAdCross0Ideal.nD Cert.KernelAdCross0Ideal.τ).loc Cert.KernelAdCross0Ideal.main_arg0) = m ((c.tc : Thread Cert.KernelAdCross0Ideal.nD Cert.KernelAdCross0Ideal.τ).loc Cert.KernelAdCross0Ideal.main_arg0)
          ∧ r.2.mem ((c.tc : Thread Cert.KernelAdCross0Ideal.nD Cert.KernelAdCross0Ideal.τ).loc Cert.KernelAdCross0Ideal.main_arg1) = m ((c.tc : Thread Cert.KernelAdCross0Ideal.nD Cert.KernelAdCross0Ideal.τ).loc Cert.KernelAdCross0Ideal.main_arg1)
          ∧ r.2.mem ((c.tc : Thread Cert.KernelAdCross0Ideal.nD Cert.KernelAdCross0Ideal.τ).loc Cert.KernelAdCross0Ideal.main_arg2) = m ((c.tc : Thread Cert.KernelAdCross0Ideal.nD Cert.KernelAdCross0Ideal.τ).loc Cert.KernelAdCross0Ideal.main_arg2)
          ∧ r.2.mem ((c.tc : Thread Cert.KernelAdCross0Ideal.nD Cert.KernelAdCross0Ideal.τ).loc Cert.KernelAdCross0Ideal.main_arg3) = m ((c.tc : Thread Cert.KernelAdCross0Ideal.nD Cert.KernelAdCross0Ideal.τ).loc Cert.KernelAdCross0Ideal.main_arg3)
          ∧ r.2.mem ((c.tc : Thread Cert.KernelAdCross0Ideal.nD Cert.KernelAdCross0Ideal.τ).loc Cert.KernelAdCross0Ideal.main_arg4) = m ((c.tc : Thread Cert.KernelAdCross0Ideal.nD Cert.KernelAdCross0Ideal.τ).loc Cert.KernelAdCross0Ideal.main_arg4)
          ∧ r.2.mem ((c.tc : Thread Cert.KernelAdCross0Ideal.nD Cert.KernelAdCross0Ideal.τ).loc Cert.KernelAdCross0Ideal.main_arg5) = m ((c.tc : Thread Cert.KernelAdCross0Ideal.nD Cert.KernelAdCross0Ideal.τ).loc Cert.KernelAdCross0Ideal.main_arg5))
      ∧ θ_run (Cert.ReferenceAdCross0Ideal.defs (F := Ideal)) (onTc (τ := Cert.ReferenceAdCross0Ideal.τ) (Cert.ReferenceAdCross0Ideal.main (F := Ideal))) ⟨m', fun _ => 0, g'⟩ (fun r => ∀ c : Dev Cert.ReferenceAdCross0Ideal.nD,
          r.2.mem ((c.tc : Thread Cert.ReferenceAdCross0Ideal.nD Cert.ReferenceAdCross0Ideal.τ).loc Cert.ReferenceAdCross0Ideal.main_v7) = v0 c
          ∧ r.2.mem ((c.tc : Thread Cert.ReferenceAdCross0Ideal.nD Cert.ReferenceAdCross0Ideal.τ).loc Cert.ReferenceAdCross0Ideal.main_v31) = v1 c
          ∧ r.2.mem ((c.tc : Thread Cert.ReferenceAdCross0Ideal.nD Cert.ReferenceAdCross0Ideal.τ).loc Cert.ReferenceAdCross0Ideal.main_v12) = v2 c
          ∧ r.2.mem ((c.tc : Thread Cert.ReferenceAdCross0Ideal.nD Cert.ReferenceAdCross0Ideal.τ).loc Cert.ReferenceAdCross0Ideal.main_v18) = v3 c
          ∧ r.2.mem ((c.tc : Thread Cert.ReferenceAdCross0Ideal.nD Cert.ReferenceAdCross0Ideal.τ).loc Cert.ReferenceAdCross0Ideal.main_arg0) = m' ((c.tc : Thread Cert.ReferenceAdCross0Ideal.nD Cert.ReferenceAdCross0Ideal.τ).loc Cert.ReferenceAdCross0Ideal.main_arg0)
          ∧ r.2.mem ((c.tc : Thread Cert.ReferenceAdCross0Ideal.nD Cert.ReferenceAdCross0Ideal.τ).loc Cert.ReferenceAdCross0Ideal.main_arg1) = m' ((c.tc : Thread Cert.ReferenceAdCross0Ideal.nD Cert.ReferenceAdCross0Ideal.τ).loc Cert.ReferenceAdCross0Ideal.main_arg1)
          ∧ r.2.mem ((c.tc : Thread Cert.ReferenceAdCross0Ideal.nD Cert.ReferenceAdCross0Ideal.τ).loc Cert.ReferenceAdCross0Ideal.main_arg2) = m' ((c.tc : Thread Cert.ReferenceAdCross0Ideal.nD Cert.ReferenceAdCross0Ideal.τ).loc Cert.ReferenceAdCross0Ideal.main_arg2)
          ∧ r.2.mem ((c.tc : Thread Cert.ReferenceAdCross0Ideal.nD Cert.ReferenceAdCross0Ideal.τ).loc Cert.ReferenceAdCross0Ideal.main_arg3) = m' ((c.tc : Thread Cert.ReferenceAdCross0Ideal.nD Cert.ReferenceAdCross0Ideal.τ).loc Cert.ReferenceAdCross0Ideal.main_arg3)
          ∧ r.2.mem ((c.tc : Thread Cert.ReferenceAdCross0Ideal.nD Cert.ReferenceAdCross0Ideal.τ).loc Cert.ReferenceAdCross0Ideal.main_arg4) = m' ((c.tc : Thread Cert.ReferenceAdCross0Ideal.nD Cert.ReferenceAdCross0Ideal.τ).loc Cert.ReferenceAdCross0Ideal.main_arg4)
          ∧ r.2.mem ((c.tc : Thread Cert.ReferenceAdCross0Ideal.nD Cert.ReferenceAdCross0Ideal.τ).loc Cert.ReferenceAdCross0Ideal.main_arg5) = m' ((c.tc : Thread Cert.ReferenceAdCross0Ideal.nD Cert.ReferenceAdCross0Ideal.τ).loc Cert.ReferenceAdCross0Ideal.main_arg5))

def preserves_KernelAdCross1_KernelAdCross1Ideal : Prop :=
  True

def algebraic_KernelAdCross1Ideal_ReferenceAdCross1Ideal [hKernelAdCross1Ideal : Cert.KernelAdCross1Ideal.Facts] [hReferenceAdCross1Ideal : Cert.ReferenceAdCross1Ideal.Facts] [hPre_on_a_chip_cross : Cert.Pre_on_a_chip_cross.Facts] : Prop :=
  ∀ (m : (ℓ : Loc Cert.KernelAdCross1Ideal.nD Cert.KernelAdCross1Ideal.τ Cert.KernelAdCross1Ideal.sig) → Buf (Elt Ideal) ℓ) (g : Dev Cert.KernelAdCross1Ideal.nD → PrngReg)
    (m' : (ℓ : Loc Cert.ReferenceAdCross1Ideal.nD Cert.ReferenceAdCross1Ideal.τ Cert.ReferenceAdCross1Ideal.sig) → Buf (Elt Ideal) ℓ) (g' : Dev Cert.ReferenceAdCross1Ideal.nD → PrngReg), Pre_KernelAdCross1Ideal m →
    (∀ c : Dev Cert.KernelAdCross1Ideal.nD,
      m' ((c.tc : Thread Cert.ReferenceAdCross1Ideal.nD Cert.ReferenceAdCross1Ideal.τ).loc Cert.ReferenceAdCross1Ideal.main_arg0) = m ((c.tc : Thread Cert.KernelAdCross1Ideal.nD Cert.KernelAdCross1Ideal.τ).loc Cert.KernelAdCross1Ideal.main_arg0)
      ∧ m' ((c.tc : Thread Cert.ReferenceAdCross1Ideal.nD Cert.ReferenceAdCross1Ideal.τ).loc Cert.ReferenceAdCross1Ideal.main_arg1) = m ((c.tc : Thread Cert.KernelAdCross1Ideal.nD Cert.KernelAdCross1Ideal.τ).loc Cert.KernelAdCross1Ideal.main_arg1)
      ∧ m' ((c.tc : Thread Cert.ReferenceAdCross1Ideal.nD Cert.ReferenceAdCross1Ideal.τ).loc Cert.ReferenceAdCross1Ideal.main_arg2) = m ((c.tc : Thread Cert.KernelAdCross1Ideal.nD Cert.KernelAdCross1Ideal.τ).loc Cert.KernelAdCross1Ideal.main_arg2)
      ∧ m' ((c.tc : Thread Cert.ReferenceAdCross1Ideal.nD Cert.ReferenceAdCross1Ideal.τ).loc Cert.ReferenceAdCross1Ideal.main_arg3) = m ((c.tc : Thread Cert.KernelAdCross1Ideal.nD Cert.KernelAdCross1Ideal.τ).loc Cert.KernelAdCross1Ideal.main_arg3)
      ∧ m' ((c.tc : Thread Cert.ReferenceAdCross1Ideal.nD Cert.ReferenceAdCross1Ideal.τ).loc Cert.ReferenceAdCross1Ideal.main_arg4) = m ((c.tc : Thread Cert.KernelAdCross1Ideal.nD Cert.KernelAdCross1Ideal.τ).loc Cert.KernelAdCross1Ideal.main_arg4)
      ∧ m' ((c.tc : Thread Cert.ReferenceAdCross1Ideal.nD Cert.ReferenceAdCross1Ideal.τ).loc Cert.ReferenceAdCross1Ideal.main_arg5) = m ((c.tc : Thread Cert.KernelAdCross1Ideal.nD Cert.KernelAdCross1Ideal.τ).loc Cert.KernelAdCross1Ideal.main_arg5)) →
    ∃ (v0 : (c : Dev Cert.KernelAdCross1Ideal.nD) → Buf (Elt Ideal) ((c.tc : Thread Cert.KernelAdCross1Ideal.nD Cert.KernelAdCross1Ideal.τ).loc Cert.KernelAdCross1Ideal.main_v3_0)) (v1 : (c : Dev Cert.KernelAdCross1Ideal.nD) → Buf (Elt Ideal) ((c.tc : Thread Cert.KernelAdCross1Ideal.nD Cert.KernelAdCross1Ideal.τ).loc Cert.KernelAdCross1Ideal.main_v3_1)) (v2 : (c : Dev Cert.KernelAdCross1Ideal.nD) → Buf (Elt Ideal) ((c.tc : Thread Cert.KernelAdCross1Ideal.nD Cert.KernelAdCross1Ideal.τ).loc Cert.KernelAdCross1Ideal.main_v3_2)) (v3 : (c : Dev Cert.KernelAdCross1Ideal.nD) → Buf (Elt Ideal) ((c.tc : Thread Cert.KernelAdCross1Ideal.nD Cert.KernelAdCross1Ideal.τ).loc Cert.KernelAdCross1Ideal.main_v3_3)),
      θ_run (Cert.KernelAdCross1Ideal.defs (F := Ideal)) (onTc (τ := Cert.KernelAdCross1Ideal.τ) (Cert.KernelAdCross1Ideal.main (F := Ideal))) ⟨m, fun _ => 0, g⟩ (fun r => ∀ c : Dev Cert.KernelAdCross1Ideal.nD,
          r.2.mem ((c.tc : Thread Cert.KernelAdCross1Ideal.nD Cert.KernelAdCross1Ideal.τ).loc Cert.KernelAdCross1Ideal.main_v3_0) = v0 c
          ∧ r.2.mem ((c.tc : Thread Cert.KernelAdCross1Ideal.nD Cert.KernelAdCross1Ideal.τ).loc Cert.KernelAdCross1Ideal.main_v3_1) = v1 c
          ∧ r.2.mem ((c.tc : Thread Cert.KernelAdCross1Ideal.nD Cert.KernelAdCross1Ideal.τ).loc Cert.KernelAdCross1Ideal.main_v3_2) = v2 c
          ∧ r.2.mem ((c.tc : Thread Cert.KernelAdCross1Ideal.nD Cert.KernelAdCross1Ideal.τ).loc Cert.KernelAdCross1Ideal.main_v3_3) = v3 c
          ∧ r.2.mem ((c.tc : Thread Cert.KernelAdCross1Ideal.nD Cert.KernelAdCross1Ideal.τ).loc Cert.KernelAdCross1Ideal.main_arg0) = m ((c.tc : Thread Cert.KernelAdCross1Ideal.nD Cert.KernelAdCross1Ideal.τ).loc Cert.KernelAdCross1Ideal.main_arg0)
          ∧ r.2.mem ((c.tc : Thread Cert.KernelAdCross1Ideal.nD Cert.KernelAdCross1Ideal.τ).loc Cert.KernelAdCross1Ideal.main_arg1) = m ((c.tc : Thread Cert.KernelAdCross1Ideal.nD Cert.KernelAdCross1Ideal.τ).loc Cert.KernelAdCross1Ideal.main_arg1)
          ∧ r.2.mem ((c.tc : Thread Cert.KernelAdCross1Ideal.nD Cert.KernelAdCross1Ideal.τ).loc Cert.KernelAdCross1Ideal.main_arg2) = m ((c.tc : Thread Cert.KernelAdCross1Ideal.nD Cert.KernelAdCross1Ideal.τ).loc Cert.KernelAdCross1Ideal.main_arg2)
          ∧ r.2.mem ((c.tc : Thread Cert.KernelAdCross1Ideal.nD Cert.KernelAdCross1Ideal.τ).loc Cert.KernelAdCross1Ideal.main_arg3) = m ((c.tc : Thread Cert.KernelAdCross1Ideal.nD Cert.KernelAdCross1Ideal.τ).loc Cert.KernelAdCross1Ideal.main_arg3)
          ∧ r.2.mem ((c.tc : Thread Cert.KernelAdCross1Ideal.nD Cert.KernelAdCross1Ideal.τ).loc Cert.KernelAdCross1Ideal.main_arg4) = m ((c.tc : Thread Cert.KernelAdCross1Ideal.nD Cert.KernelAdCross1Ideal.τ).loc Cert.KernelAdCross1Ideal.main_arg4)
          ∧ r.2.mem ((c.tc : Thread Cert.KernelAdCross1Ideal.nD Cert.KernelAdCross1Ideal.τ).loc Cert.KernelAdCross1Ideal.main_arg5) = m ((c.tc : Thread Cert.KernelAdCross1Ideal.nD Cert.KernelAdCross1Ideal.τ).loc Cert.KernelAdCross1Ideal.main_arg5))
      ∧ θ_run (Cert.ReferenceAdCross1Ideal.defs (F := Ideal)) (onTc (τ := Cert.ReferenceAdCross1Ideal.τ) (Cert.ReferenceAdCross1Ideal.main (F := Ideal))) ⟨m', fun _ => 0, g'⟩ (fun r => ∀ c : Dev Cert.ReferenceAdCross1Ideal.nD,
          r.2.mem ((c.tc : Thread Cert.ReferenceAdCross1Ideal.nD Cert.ReferenceAdCross1Ideal.τ).loc Cert.ReferenceAdCross1Ideal.main_v7) = v0 c
          ∧ r.2.mem ((c.tc : Thread Cert.ReferenceAdCross1Ideal.nD Cert.ReferenceAdCross1Ideal.τ).loc Cert.ReferenceAdCross1Ideal.main_v31) = v1 c
          ∧ r.2.mem ((c.tc : Thread Cert.ReferenceAdCross1Ideal.nD Cert.ReferenceAdCross1Ideal.τ).loc Cert.ReferenceAdCross1Ideal.main_v12) = v2 c
          ∧ r.2.mem ((c.tc : Thread Cert.ReferenceAdCross1Ideal.nD Cert.ReferenceAdCross1Ideal.τ).loc Cert.ReferenceAdCross1Ideal.main_v18) = v3 c
          ∧ r.2.mem ((c.tc : Thread Cert.ReferenceAdCross1Ideal.nD Cert.ReferenceAdCross1Ideal.τ).loc Cert.ReferenceAdCross1Ideal.main_arg0) = m' ((c.tc : Thread Cert.ReferenceAdCross1Ideal.nD Cert.ReferenceAdCross1Ideal.τ).loc Cert.ReferenceAdCross1Ideal.main_arg0)
          ∧ r.2.mem ((c.tc : Thread Cert.ReferenceAdCross1Ideal.nD Cert.ReferenceAdCross1Ideal.τ).loc Cert.ReferenceAdCross1Ideal.main_arg1) = m' ((c.tc : Thread Cert.ReferenceAdCross1Ideal.nD Cert.ReferenceAdCross1Ideal.τ).loc Cert.ReferenceAdCross1Ideal.main_arg1)
          ∧ r.2.mem ((c.tc : Thread Cert.ReferenceAdCross1Ideal.nD Cert.ReferenceAdCross1Ideal.τ).loc Cert.ReferenceAdCross1Ideal.main_arg2) = m' ((c.tc : Thread Cert.ReferenceAdCross1Ideal.nD Cert.ReferenceAdCross1Ideal.τ).loc Cert.ReferenceAdCross1Ideal.main_arg2)
          ∧ r.2.mem ((c.tc : Thread Cert.ReferenceAdCross1Ideal.nD Cert.ReferenceAdCross1Ideal.τ).loc Cert.ReferenceAdCross1Ideal.main_arg3) = m' ((c.tc : Thread Cert.ReferenceAdCross1Ideal.nD Cert.ReferenceAdCross1Ideal.τ).loc Cert.ReferenceAdCross1Ideal.main_arg3)
          ∧ r.2.mem ((c.tc : Thread Cert.ReferenceAdCross1Ideal.nD Cert.ReferenceAdCross1Ideal.τ).loc Cert.ReferenceAdCross1Ideal.main_arg4) = m' ((c.tc : Thread Cert.ReferenceAdCross1Ideal.nD Cert.ReferenceAdCross1Ideal.τ).loc Cert.ReferenceAdCross1Ideal.main_arg4)
          ∧ r.2.mem ((c.tc : Thread Cert.ReferenceAdCross1Ideal.nD Cert.ReferenceAdCross1Ideal.τ).loc Cert.ReferenceAdCross1Ideal.main_arg5) = m' ((c.tc : Thread Cert.ReferenceAdCross1Ideal.nD Cert.ReferenceAdCross1Ideal.τ).loc Cert.ReferenceAdCross1Ideal.main_arg5))

def preserves_KernelAdGu_KernelAdGuIdeal : Prop :=
  True

def algebraic_KernelAdGuIdeal_ReferenceAdGuIdeal [hKernelAdGuIdeal : Cert.KernelAdGuIdeal.Facts] [hReferenceAdGuIdeal : Cert.ReferenceAdGuIdeal.Facts] [hPre_on_a_chip_gu : Cert.Pre_on_a_chip_gu.Facts] : Prop :=
  ∀ (m : (ℓ : Loc Cert.KernelAdGuIdeal.nD Cert.KernelAdGuIdeal.τ Cert.KernelAdGuIdeal.sig) → Buf (Elt Ideal) ℓ) (g : Dev Cert.KernelAdGuIdeal.nD → PrngReg)
    (m' : (ℓ : Loc Cert.ReferenceAdGuIdeal.nD Cert.ReferenceAdGuIdeal.τ Cert.ReferenceAdGuIdeal.sig) → Buf (Elt Ideal) ℓ) (g' : Dev Cert.ReferenceAdGuIdeal.nD → PrngReg), Pre_KernelAdGuIdeal m →
    (∀ c : Dev Cert.KernelAdGuIdeal.nD,
      m' ((c.tc : Thread Cert.ReferenceAdGuIdeal.nD Cert.ReferenceAdGuIdeal.τ).loc Cert.ReferenceAdGuIdeal.main_arg0) = m ((c.tc : Thread Cert.KernelAdGuIdeal.nD Cert.KernelAdGuIdeal.τ).loc Cert.KernelAdGuIdeal.main_arg0)
      ∧ m' ((c.tc : Thread Cert.ReferenceAdGuIdeal.nD Cert.ReferenceAdGuIdeal.τ).loc Cert.ReferenceAdGuIdeal.main_arg1) = m ((c.tc : Thread Cert.KernelAdGuIdeal.nD Cert.KernelAdGuIdeal.τ).loc Cert.KernelAdGuIdeal.main_arg1)
      ∧ m' ((c.tc : Thread Cert.ReferenceAdGuIdeal.nD Cert.ReferenceAdGuIdeal.τ).loc Cert.ReferenceAdGuIdeal.main_arg2) = m ((c.tc : Thread Cert.KernelAdGuIdeal.nD Cert.KernelAdGuIdeal.τ).loc Cert.KernelAdGuIdeal.main_arg2)
      ∧ m' ((c.tc : Thread Cert.ReferenceAdGuIdeal.nD Cert.ReferenceAdGuIdeal.τ).loc Cert.ReferenceAdGuIdeal.main_arg3) = m ((c.tc : Thread Cert.KernelAdGuIdeal.nD Cert.KernelAdGuIdeal.τ).loc Cert.KernelAdGuIdeal.main_arg3)
      ∧ m' ((c.tc : Thread Cert.ReferenceAdGuIdeal.nD Cert.ReferenceAdGuIdeal.τ).loc Cert.ReferenceAdGuIdeal.main_arg4) = m ((c.tc : Thread Cert.KernelAdGuIdeal.nD Cert.KernelAdGuIdeal.τ).loc Cert.KernelAdGuIdeal.main_arg4)
      ∧ m' ((c.tc : Thread Cert.ReferenceAdGuIdeal.nD Cert.ReferenceAdGuIdeal.τ).loc Cert.ReferenceAdGuIdeal.main_arg5) = m ((c.tc : Thread Cert.KernelAdGuIdeal.nD Cert.KernelAdGuIdeal.τ).loc Cert.KernelAdGuIdeal.main_arg5)) →
    ∃ (v0 : (c : Dev Cert.KernelAdGuIdeal.nD) → Buf (Elt Ideal) ((c.tc : Thread Cert.KernelAdGuIdeal.nD Cert.KernelAdGuIdeal.τ).loc Cert.KernelAdGuIdeal.main_v5_0)) (v1 : (c : Dev Cert.KernelAdGuIdeal.nD) → Buf (Elt Ideal) ((c.tc : Thread Cert.KernelAdGuIdeal.nD Cert.KernelAdGuIdeal.τ).loc Cert.KernelAdGuIdeal.main_v5_1)) (v2 : (c : Dev Cert.KernelAdGuIdeal.nD) → Buf (Elt Ideal) ((c.tc : Thread Cert.KernelAdGuIdeal.nD Cert.KernelAdGuIdeal.τ).loc Cert.KernelAdGuIdeal.main_v5_2)) (v3 : (c : Dev Cert.KernelAdGuIdeal.nD) → Buf (Elt Ideal) ((c.tc : Thread Cert.KernelAdGuIdeal.nD Cert.KernelAdGuIdeal.τ).loc Cert.KernelAdGuIdeal.main_v5_3)),
      θ_run (Cert.KernelAdGuIdeal.defs (F := Ideal)) (onTc (τ := Cert.KernelAdGuIdeal.τ) (Cert.KernelAdGuIdeal.main (F := Ideal))) ⟨m, fun _ => 0, g⟩ (fun r => ∀ c : Dev Cert.KernelAdGuIdeal.nD,
          r.2.mem ((c.tc : Thread Cert.KernelAdGuIdeal.nD Cert.KernelAdGuIdeal.τ).loc Cert.KernelAdGuIdeal.main_v5_0) = v0 c
          ∧ r.2.mem ((c.tc : Thread Cert.KernelAdGuIdeal.nD Cert.KernelAdGuIdeal.τ).loc Cert.KernelAdGuIdeal.main_v5_1) = v1 c
          ∧ r.2.mem ((c.tc : Thread Cert.KernelAdGuIdeal.nD Cert.KernelAdGuIdeal.τ).loc Cert.KernelAdGuIdeal.main_v5_2) = v2 c
          ∧ r.2.mem ((c.tc : Thread Cert.KernelAdGuIdeal.nD Cert.KernelAdGuIdeal.τ).loc Cert.KernelAdGuIdeal.main_v5_3) = v3 c
          ∧ r.2.mem ((c.tc : Thread Cert.KernelAdGuIdeal.nD Cert.KernelAdGuIdeal.τ).loc Cert.KernelAdGuIdeal.main_arg0) = m ((c.tc : Thread Cert.KernelAdGuIdeal.nD Cert.KernelAdGuIdeal.τ).loc Cert.KernelAdGuIdeal.main_arg0)
          ∧ r.2.mem ((c.tc : Thread Cert.KernelAdGuIdeal.nD Cert.KernelAdGuIdeal.τ).loc Cert.KernelAdGuIdeal.main_arg1) = m ((c.tc : Thread Cert.KernelAdGuIdeal.nD Cert.KernelAdGuIdeal.τ).loc Cert.KernelAdGuIdeal.main_arg1)
          ∧ r.2.mem ((c.tc : Thread Cert.KernelAdGuIdeal.nD Cert.KernelAdGuIdeal.τ).loc Cert.KernelAdGuIdeal.main_arg2) = m ((c.tc : Thread Cert.KernelAdGuIdeal.nD Cert.KernelAdGuIdeal.τ).loc Cert.KernelAdGuIdeal.main_arg2)
          ∧ r.2.mem ((c.tc : Thread Cert.KernelAdGuIdeal.nD Cert.KernelAdGuIdeal.τ).loc Cert.KernelAdGuIdeal.main_arg3) = m ((c.tc : Thread Cert.KernelAdGuIdeal.nD Cert.KernelAdGuIdeal.τ).loc Cert.KernelAdGuIdeal.main_arg3)
          ∧ r.2.mem ((c.tc : Thread Cert.KernelAdGuIdeal.nD Cert.KernelAdGuIdeal.τ).loc Cert.KernelAdGuIdeal.main_arg4) = m ((c.tc : Thread Cert.KernelAdGuIdeal.nD Cert.KernelAdGuIdeal.τ).loc Cert.KernelAdGuIdeal.main_arg4)
          ∧ r.2.mem ((c.tc : Thread Cert.KernelAdGuIdeal.nD Cert.KernelAdGuIdeal.τ).loc Cert.KernelAdGuIdeal.main_arg5) = m ((c.tc : Thread Cert.KernelAdGuIdeal.nD Cert.KernelAdGuIdeal.τ).loc Cert.KernelAdGuIdeal.main_arg5))
      ∧ θ_run (Cert.ReferenceAdGuIdeal.defs (F := Ideal)) (onTc (τ := Cert.ReferenceAdGuIdeal.τ) (Cert.ReferenceAdGuIdeal.main (F := Ideal))) ⟨m', fun _ => 0, g'⟩ (fun r => ∀ c : Dev Cert.ReferenceAdGuIdeal.nD,
          r.2.mem ((c.tc : Thread Cert.ReferenceAdGuIdeal.nD Cert.ReferenceAdGuIdeal.τ).loc Cert.ReferenceAdGuIdeal.main_v7) = v0 c
          ∧ r.2.mem ((c.tc : Thread Cert.ReferenceAdGuIdeal.nD Cert.ReferenceAdGuIdeal.τ).loc Cert.ReferenceAdGuIdeal.main_v31) = v1 c
          ∧ r.2.mem ((c.tc : Thread Cert.ReferenceAdGuIdeal.nD Cert.ReferenceAdGuIdeal.τ).loc Cert.ReferenceAdGuIdeal.main_v12) = v2 c
          ∧ r.2.mem ((c.tc : Thread Cert.ReferenceAdGuIdeal.nD Cert.ReferenceAdGuIdeal.τ).loc Cert.ReferenceAdGuIdeal.main_v18) = v3 c
          ∧ r.2.mem ((c.tc : Thread Cert.ReferenceAdGuIdeal.nD Cert.ReferenceAdGuIdeal.τ).loc Cert.ReferenceAdGuIdeal.main_arg0) = m' ((c.tc : Thread Cert.ReferenceAdGuIdeal.nD Cert.ReferenceAdGuIdeal.τ).loc Cert.ReferenceAdGuIdeal.main_arg0)
          ∧ r.2.mem ((c.tc : Thread Cert.ReferenceAdGuIdeal.nD Cert.ReferenceAdGuIdeal.τ).loc Cert.ReferenceAdGuIdeal.main_arg1) = m' ((c.tc : Thread Cert.ReferenceAdGuIdeal.nD Cert.ReferenceAdGuIdeal.τ).loc Cert.ReferenceAdGuIdeal.main_arg1)
          ∧ r.2.mem ((c.tc : Thread Cert.ReferenceAdGuIdeal.nD Cert.ReferenceAdGuIdeal.τ).loc Cert.ReferenceAdGuIdeal.main_arg2) = m' ((c.tc : Thread Cert.ReferenceAdGuIdeal.nD Cert.ReferenceAdGuIdeal.τ).loc Cert.ReferenceAdGuIdeal.main_arg2)
          ∧ r.2.mem ((c.tc : Thread Cert.ReferenceAdGuIdeal.nD Cert.ReferenceAdGuIdeal.τ).loc Cert.ReferenceAdGuIdeal.main_arg3) = m' ((c.tc : Thread Cert.ReferenceAdGuIdeal.nD Cert.ReferenceAdGuIdeal.τ).loc Cert.ReferenceAdGuIdeal.main_arg3)
          ∧ r.2.mem ((c.tc : Thread Cert.ReferenceAdGuIdeal.nD Cert.ReferenceAdGuIdeal.τ).loc Cert.ReferenceAdGuIdeal.main_arg4) = m' ((c.tc : Thread Cert.ReferenceAdGuIdeal.nD Cert.ReferenceAdGuIdeal.τ).loc Cert.ReferenceAdGuIdeal.main_arg4)
          ∧ r.2.mem ((c.tc : Thread Cert.ReferenceAdGuIdeal.nD Cert.ReferenceAdGuIdeal.τ).loc Cert.ReferenceAdGuIdeal.main_arg5) = m' ((c.tc : Thread Cert.ReferenceAdGuIdeal.nD Cert.ReferenceAdGuIdeal.τ).loc Cert.ReferenceAdGuIdeal.main_arg5))

def Claim : Prop :=
  ∃ (hKernel : Cert.Kernel.Facts) (hKernelIdeal : Cert.KernelIdeal.Facts) (hReferenceIdeal : Cert.ReferenceIdeal.Facts) (hKernelGu : Cert.KernelGu.Facts) (hKernelGuIdeal : Cert.KernelGuIdeal.Facts) (hReferenceGuIdeal : Cert.ReferenceGuIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelMix : Cert.KernelMix.Facts) (hKernelMixIdeal : Cert.KernelMixIdeal.Facts) (hReferenceMixIdeal : Cert.ReferenceMixIdeal.Facts) (hKernelCross : Cert.KernelCross.Facts) (hKernelCrossIdeal : Cert.KernelCrossIdeal.Facts) (hReferenceCrossIdeal : Cert.ReferenceCrossIdeal.Facts) (hKernelCkv : Cert.KernelCkv.Facts) (hKernelCkvIdeal : Cert.KernelCkvIdeal.Facts) (hReferenceCkvIdeal : Cert.ReferenceCkvIdeal.Facts) (hKernelFfn : Cert.KernelFfn.Facts) (hKernelFfnIdeal : Cert.KernelFfnIdeal.Facts) (hReferenceFfnIdeal : Cert.ReferenceFfnIdeal.Facts) (hKernelInb : Cert.KernelInb.Facts) (hKernelInbIdeal : Cert.KernelInbIdeal.Facts) (hReferenceInbIdeal : Cert.ReferenceInbIdeal.Facts) (hKernelFwd : Cert.KernelFwd.Facts) (hKernelFwdIdeal : Cert.KernelFwdIdeal.Facts) (hReferenceFwdIdeal : Cert.ReferenceFwdIdeal.Facts) (hKernelAdIn : Cert.KernelAdIn.Facts) (hKernelAdInIdeal : Cert.KernelAdInIdeal.Facts) (hReferenceAdInIdeal : Cert.ReferenceAdInIdeal.Facts) (hKernelAdDown : Cert.KernelAdDown.Facts) (hKernelAdDownIdeal : Cert.KernelAdDownIdeal.Facts) (hReferenceAdDownIdeal : Cert.ReferenceAdDownIdeal.Facts) (hKernelAdCkv : Cert.KernelAdCkv.Facts) (hKernelAdCkvIdeal : Cert.KernelAdCkvIdeal.Facts) (hReferenceAdCkvIdeal : Cert.ReferenceAdCkvIdeal.Facts) (hKernelAdMix0 : Cert.KernelAdMix0.Facts) (hKernelAdMix0Ideal : Cert.KernelAdMix0Ideal.Facts) (hReferenceAdMix0Ideal : Cert.ReferenceAdMix0Ideal.Facts) (hKernelAdMix1 : Cert.KernelAdMix1.Facts) (hKernelAdMix1Ideal : Cert.KernelAdMix1Ideal.Facts) (hReferenceAdMix1Ideal : Cert.ReferenceAdMix1Ideal.Facts) (hKernelAdMix2 : Cert.KernelAdMix2.Facts) (hKernelAdMix2Ideal : Cert.KernelAdMix2Ideal.Facts) (hReferenceAdMix2Ideal : Cert.ReferenceAdMix2Ideal.Facts) (hKernelAdCross0 : Cert.KernelAdCross0.Facts) (hKernelAdCross0Ideal : Cert.KernelAdCross0Ideal.Facts) (hReferenceAdCross0Ideal : Cert.ReferenceAdCross0Ideal.Facts) (hKernelAdCross1 : Cert.KernelAdCross1.Facts) (hKernelAdCross1Ideal : Cert.KernelAdCross1Ideal.Facts) (hReferenceAdCross1Ideal : Cert.ReferenceAdCross1Ideal.Facts) (hKernelAdGu : Cert.KernelAdGu.Facts) (hKernelAdGuIdeal : Cert.KernelAdGuIdeal.Facts) (hReferenceAdGuIdeal : Cert.ReferenceAdGuIdeal.Facts) (hPre_finite : Cert.Pre_finite.Facts) (hPre_finite_ffn : Cert.Pre_finite_ffn.Facts) (hPre_on_a_chip : Cert.Pre_on_a_chip.Facts) (hPre_on_a_chip_down : Cert.Pre_on_a_chip_down.Facts) (hPre_on_a_chip_ckv : Cert.Pre_on_a_chip_ckv.Facts) (hPre_on_a_chip_mix : Cert.Pre_on_a_chip_mix.Facts) (hPre_on_a_chip_cross : Cert.Pre_on_a_chip_cross.Facts) (hPre_on_a_chip_gu : Cert.Pre_on_a_chip_gu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelCross (hKernelCross := hKernelCross)
    ∧ quiescent_KernelCrossIdeal (hKernelCrossIdeal := hKernelCrossIdeal)
    ∧ quiescent_ReferenceCrossIdeal (hReferenceCrossIdeal := hReferenceCrossIdeal)
    ∧ quiescent_KernelCkv (hKernelCkv := hKernelCkv)
    ∧ quiescent_KernelCkvIdeal (hKernelCkvIdeal := hKernelCkvIdeal)
    ∧ quiescent_ReferenceCkvIdeal (hReferenceCkvIdeal := hReferenceCkvIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelInb (hKernelInb := hKernelInb)
    ∧ quiescent_KernelInbIdeal (hKernelInbIdeal := hKernelInbIdeal)
    ∧ quiescent_ReferenceInbIdeal (hReferenceInbIdeal := hReferenceInbIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelAdIn (hKernelAdIn := hKernelAdIn) (hPre_on_a_chip := hPre_on_a_chip)
    ∧ quiescent_KernelAdInIdeal (hKernelAdInIdeal := hKernelAdInIdeal) (hPre_on_a_chip := hPre_on_a_chip)
    ∧ quiescent_ReferenceAdInIdeal (hReferenceAdInIdeal := hReferenceAdInIdeal) (hPre_on_a_chip := hPre_on_a_chip)
    ∧ quiescent_KernelAdDown (hKernelAdDown := hKernelAdDown) (hPre_on_a_chip_down := hPre_on_a_chip_down)
    ∧ quiescent_KernelAdDownIdeal (hKernelAdDownIdeal := hKernelAdDownIdeal) (hPre_on_a_chip_down := hPre_on_a_chip_down)
    ∧ quiescent_ReferenceAdDownIdeal (hReferenceAdDownIdeal := hReferenceAdDownIdeal) (hPre_on_a_chip_down := hPre_on_a_chip_down)
    ∧ quiescent_KernelAdCkv (hKernelAdCkv := hKernelAdCkv) (hPre_on_a_chip_ckv := hPre_on_a_chip_ckv)
    ∧ quiescent_KernelAdCkvIdeal (hKernelAdCkvIdeal := hKernelAdCkvIdeal) (hPre_on_a_chip_ckv := hPre_on_a_chip_ckv)
    ∧ quiescent_ReferenceAdCkvIdeal (hReferenceAdCkvIdeal := hReferenceAdCkvIdeal) (hPre_on_a_chip_ckv := hPre_on_a_chip_ckv)
    ∧ quiescent_KernelAdMix0 (hKernelAdMix0 := hKernelAdMix0) (hPre_on_a_chip_mix := hPre_on_a_chip_mix)
    ∧ quiescent_KernelAdMix0Ideal (hKernelAdMix0Ideal := hKernelAdMix0Ideal) (hPre_on_a_chip_mix := hPre_on_a_chip_mix)
    ∧ quiescent_ReferenceAdMix0Ideal (hReferenceAdMix0Ideal := hReferenceAdMix0Ideal) (hPre_on_a_chip_mix := hPre_on_a_chip_mix)
    ∧ quiescent_KernelAdMix1 (hKernelAdMix1 := hKernelAdMix1) (hPre_on_a_chip_mix := hPre_on_a_chip_mix)
    ∧ quiescent_KernelAdMix1Ideal (hKernelAdMix1Ideal := hKernelAdMix1Ideal) (hPre_on_a_chip_mix := hPre_on_a_chip_mix)
    ∧ quiescent_ReferenceAdMix1Ideal (hReferenceAdMix1Ideal := hReferenceAdMix1Ideal) (hPre_on_a_chip_mix := hPre_on_a_chip_mix)
    ∧ quiescent_KernelAdMix2 (hKernelAdMix2 := hKernelAdMix2) (hPre_on_a_chip_mix := hPre_on_a_chip_mix)
    ∧ quiescent_KernelAdMix2Ideal (hKernelAdMix2Ideal := hKernelAdMix2Ideal) (hPre_on_a_chip_mix := hPre_on_a_chip_mix)
    ∧ quiescent_ReferenceAdMix2Ideal (hReferenceAdMix2Ideal := hReferenceAdMix2Ideal) (hPre_on_a_chip_mix := hPre_on_a_chip_mix)
    ∧ quiescent_KernelAdCross0 (hKernelAdCross0 := hKernelAdCross0) (hPre_on_a_chip_cross := hPre_on_a_chip_cross)
    ∧ quiescent_KernelAdCross0Ideal (hKernelAdCross0Ideal := hKernelAdCross0Ideal) (hPre_on_a_chip_cross := hPre_on_a_chip_cross)
    ∧ quiescent_ReferenceAdCross0Ideal (hReferenceAdCross0Ideal := hReferenceAdCross0Ideal) (hPre_on_a_chip_cross := hPre_on_a_chip_cross)
    ∧ quiescent_KernelAdCross1 (hKernelAdCross1 := hKernelAdCross1) (hPre_on_a_chip_cross := hPre_on_a_chip_cross)
    ∧ quiescent_KernelAdCross1Ideal (hKernelAdCross1Ideal := hKernelAdCross1Ideal) (hPre_on_a_chip_cross := hPre_on_a_chip_cross)
    ∧ quiescent_ReferenceAdCross1Ideal (hReferenceAdCross1Ideal := hReferenceAdCross1Ideal) (hPre_on_a_chip_cross := hPre_on_a_chip_cross)
    ∧ quiescent_KernelAdGu (hKernelAdGu := hKernelAdGu) (hPre_on_a_chip_gu := hPre_on_a_chip_gu)
    ∧ quiescent_KernelAdGuIdeal (hKernelAdGuIdeal := hKernelAdGuIdeal) (hPre_on_a_chip_gu := hPre_on_a_chip_gu)
    ∧ quiescent_ReferenceAdGuIdeal (hReferenceAdGuIdeal := hReferenceAdGuIdeal) (hPre_on_a_chip_gu := hPre_on_a_chip_gu)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGu_KernelGuIdeal
    ∧ algebraic_KernelGuIdeal_ReferenceGuIdeal (hKernelGuIdeal := hKernelGuIdeal) (hReferenceGuIdeal := hReferenceGuIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelMix_KernelMixIdeal
    ∧ algebraic_KernelMixIdeal_ReferenceMixIdeal (hKernelMixIdeal := hKernelMixIdeal) (hReferenceMixIdeal := hReferenceMixIdeal)
    ∧ preserves_KernelCross_KernelCrossIdeal
    ∧ algebraic_KernelCrossIdeal_ReferenceCrossIdeal (hKernelCrossIdeal := hKernelCrossIdeal) (hReferenceCrossIdeal := hReferenceCrossIdeal)
    ∧ preserves_KernelCkv_KernelCkvIdeal
    ∧ algebraic_KernelCkvIdeal_ReferenceCkvIdeal (hKernelCkvIdeal := hKernelCkvIdeal) (hReferenceCkvIdeal := hReferenceCkvIdeal)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelInb_KernelInbIdeal
    ∧ algebraic_KernelInbIdeal_ReferenceInbIdeal (hKernelInbIdeal := hKernelInbIdeal) (hReferenceInbIdeal := hReferenceInbIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelAdIn_KernelAdInIdeal
    ∧ algebraic_KernelAdInIdeal_ReferenceAdInIdeal (hKernelAdInIdeal := hKernelAdInIdeal) (hReferenceAdInIdeal := hReferenceAdInIdeal) (hPre_on_a_chip := hPre_on_a_chip)
    ∧ preserves_KernelAdDown_KernelAdDownIdeal
    ∧ algebraic_KernelAdDownIdeal_ReferenceAdDownIdeal (hKernelAdDownIdeal := hKernelAdDownIdeal) (hReferenceAdDownIdeal := hReferenceAdDownIdeal) (hPre_on_a_chip_down := hPre_on_a_chip_down)
    ∧ preserves_KernelAdCkv_KernelAdCkvIdeal
    ∧ algebraic_KernelAdCkvIdeal_ReferenceAdCkvIdeal (hKernelAdCkvIdeal := hKernelAdCkvIdeal) (hReferenceAdCkvIdeal := hReferenceAdCkvIdeal) (hPre_on_a_chip_ckv := hPre_on_a_chip_ckv)
    ∧ preserves_KernelAdMix0_KernelAdMix0Ideal
    ∧ algebraic_KernelAdMix0Ideal_ReferenceAdMix0Ideal (hKernelAdMix0Ideal := hKernelAdMix0Ideal) (hReferenceAdMix0Ideal := hReferenceAdMix0Ideal) (hPre_on_a_chip_mix := hPre_on_a_chip_mix)
    ∧ preserves_KernelAdMix1_KernelAdMix1Ideal
    ∧ algebraic_KernelAdMix1Ideal_ReferenceAdMix1Ideal (hKernelAdMix1Ideal := hKernelAdMix1Ideal) (hReferenceAdMix1Ideal := hReferenceAdMix1Ideal) (hPre_on_a_chip_mix := hPre_on_a_chip_mix)
    ∧ preserves_KernelAdMix2_KernelAdMix2Ideal
    ∧ algebraic_KernelAdMix2Ideal_ReferenceAdMix2Ideal (hKernelAdMix2Ideal := hKernelAdMix2Ideal) (hReferenceAdMix2Ideal := hReferenceAdMix2Ideal) (hPre_on_a_chip_mix := hPre_on_a_chip_mix)
    ∧ preserves_KernelAdCross0_KernelAdCross0Ideal
    ∧ algebraic_KernelAdCross0Ideal_ReferenceAdCross0Ideal (hKernelAdCross0Ideal := hKernelAdCross0Ideal) (hReferenceAdCross0Ideal := hReferenceAdCross0Ideal) (hPre_on_a_chip_cross := hPre_on_a_chip_cross)
    ∧ preserves_KernelAdCross1_KernelAdCross1Ideal
    ∧ algebraic_KernelAdCross1Ideal_ReferenceAdCross1Ideal (hKernelAdCross1Ideal := hKernelAdCross1Ideal) (hReferenceAdCross1Ideal := hReferenceAdCross1Ideal) (hPre_on_a_chip_cross := hPre_on_a_chip_cross)
    ∧ preserves_KernelAdGu_KernelAdGuIdeal
    ∧ algebraic_KernelAdGuIdeal_ReferenceAdGuIdeal (hKernelAdGuIdeal := hKernelAdGuIdeal) (hReferenceAdGuIdeal := hReferenceAdGuIdeal) (hPre_on_a_chip_gu := hPre_on_a_chip_gu)
-- ==== Pre_finite.lean ====
abbrev S2048x3072 : Shape := ⟨2, ![2048, 3072]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  reducesTo_S2048x3072_S_d0_1 : S2048x3072.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x3072 .f32) (main_arg1 : FVec F S2048x1024 .f32) : IVec S_ 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_c : IVec S_ 1 := constantI S_ 1 1#1
  let main_v3 : IVec S_ 1 := (fun x v => Host.reduce IntOp.andi x v reducesTo_S2048x3072_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Pre_finite_ffn.lean ====
abbrev S2048x1024 : Shape := ⟨2, ![2048, 1024]⟩
abbrev S1x1024 : Shape := ⟨2, ![1, 1024]⟩
abbrev S8x768x1024 : Shape := ⟨3, ![8, 768, 1024]⟩
abbrev S8x352x1024 : Shape := ⟨3, ![8, 352, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8x768x1024 : S_.BroadcastsInDim S8x768x1024 (![] : Fin 0 → Fin S8x768x1024.rank)
  reducesTo_S8x768x1024_S_d0_1_2 : S8x768x1024.ReducesTo [0, 1, 2] S_
  bcast_S_S8x352x1024 : S_.BroadcastsInDim S8x352x1024 (![] : Fin 0 → Fin S8x352x1024.rank)
  reducesTo_S8x352x1024_S_d0_1_2 : S8x352x1024.ReducesTo [0, 1, 2] S_

variable [Facts]

def fn_part1 {F : FTy → Type} [FloatOps F] (main_arg4 : FVec F S8x352x1024 .f32) (main_v13 : IVec S_ 1) (main_v16 : IVec S8x768x1024 1) : IVec S_ 1 :=
  let main_c_5 : IVec S_ 1 := constantI S_ 1 1#1
  let main_v17 : IVec S_ 1 := (fun x v => Host.reduce IntOp.andi x v reducesTo_S8x768x1024_S_d0_1_2 h_S_) main_v16 main_c_5
  let main_v18 : IVec S_ 1 := andi main_v13 main_v17
  let main_v19 : FVec F S8x352x1024 .f32 := Host.absf main_arg4
  let main_cst_6 : FVec F S_ .f32 := constant S_ .f32 0x7F800000#32
  let main_v20 : FVec F S8x352x1024 .f32 := broadcastInDim S8x352x1024 ![] bcast_S_S8x352x1024 main_cst_6
  let main_v21 : IVec S8x352x1024 1 := cmpf .olt main_v19 main_v20
  let main_c_7 : IVec S_ 1 := constantI S_ 1 1#1
  let main_v22 : IVec S_ 1 := (fun x v => Host.reduce IntOp.andi x v reducesTo_S8x352x1024_S_d0_1_2 h_S_) main_v21 main_c_7
  let main_v23 : IVec S_ 1 := andi main_v18 main_v22
  main_v23

def fn {F : FTy → Type} [FloatOps F] (main_arg0 : FVec F S2048x1024 .f32) (main_arg1 : FVec F S2048x1024 .f32) (main_arg2 : FVec F S1x1024 .f32) (main_arg3 : FVec F S8x768x1024 .f32) (main_arg4 : FVec F S8x352x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S8x768x1024 .f32 := Host.absf main_arg3
  let main_cst_4 : FVec F S_ .f32 := constant S_ .f32 0x7F800000#32
  let main_v15 : FVec F S8x768x1024 .f32 := broadcastInDim S8x768x1024 ![] bcast_S_S8x768x1024 main_cst_4
  let main_v16 : IVec S8x768x1024 1 := cmpf .olt main_v14 main_v15
  fn_part1 (F := F) main_arg4 main_v13 main_v16
-- ==== Pre_on_a_chip.lean ====
abbrev S1024x1024 : Shape := ⟨2, ![1024, 1024]⟩
abbrev S4x1024x1024 : Shape := ⟨3, ![4, 1024, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1024x1024 .f32) (main_arg1 : FVec F S4x1024x1024 .f32) (main_arg2 : FVec F S4x1024x1024 .f32) (main_arg3 : IVec S1 32) (main_arg4 : FVec F S1024x1024 .f32) (main_arg5 : FVec F S1024x1024 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_on_a_chip_ckv.lean ====
abbrev S1024x256 : Shape := ⟨2, ![1024, 256]⟩
abbrev S4x1024x256 : Shape := ⟨3, ![4, 1024, 256]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1024x256 .f32) (main_arg1 : FVec F S4x1024x256 .f32) (main_arg2 : FVec F S4x1024x256 .f32) (main_arg3 : IVec S1 32) (main_arg4 : FVec F S1024x256 .f32) (main_arg5 : FVec F S1024x256 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_on_a_chip_cross.lean ====
abbrev S128x1024 : Shape := ⟨2, ![128, 1024]⟩
abbrev S4x256x1024 : Shape := ⟨3, ![4, 256, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S128x1024 .f32) (main_arg1 : FVec F S4x256x1024 .f32) (main_arg2 : FVec F S4x256x1024 .f32) (main_arg3 : IVec S1 32) (main_arg4 : FVec F S128x1024 .f32) (main_arg5 : FVec F S128x1024 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_on_a_chip_down.lean ====
abbrev S352x1024 : Shape := ⟨2, ![352, 1024]⟩
abbrev S4x352x1024 : Shape := ⟨3, ![4, 352, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S352x1024 .f32) (main_arg1 : FVec F S4x352x1024 .f32) (main_arg2 : FVec F S4x352x1024 .f32) (main_arg3 : IVec S1 32) (main_arg4 : FVec F S352x1024 .f32) (main_arg5 : FVec F S352x1024 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_on_a_chip_gu.lean ====
abbrev S704x1024 : Shape := ⟨2, ![704, 1024]⟩
abbrev S4x768x1024 : Shape := ⟨3, ![4, 768, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S704x1024 .f32) (main_arg1 : FVec F S4x768x1024 .f32) (main_arg2 : FVec F S4x768x1024 .f32) (main_arg3 : IVec S1 32) (main_arg4 : FVec F S704x1024 .f32) (main_arg5 : FVec F S704x1024 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Pre_on_a_chip_mix.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S128x1024 .f32) (main_arg1 : FVec F S4x384x1024 .f32) (main_arg2 : FVec F S4x384x1024 .f32) (main_arg3 : IVec S1 32) (main_arg4 : FVec F S128x1024 .f32) (main_arg5 : FVec F S128x1024 .f32) : IVec S_ 1 :=
  let main_c : IVec S_ 32 := constantI S_ 32 0#32
  let main_v0 : IVec S1 32 := broadcastInDim S1 ![] bcast_S_S1 main_c
  let main_v1 : IVec S1 1 := cmpi .sge main_arg3 main_v0
  let main_c_0 : IVec S_ 1 := constantI S_ 1 1#1
  let main_v2 : IVec S_ 1 := (fun x v => Host.reduce IntOp.andi x v reducesTo_S1_S_d0 h_S_) main_v1 main_c_0
  let main_c_1 : IVec S_ 32 := constantI S_ 32 4#32
  let main_v3 : IVec S1 32 := broadcastInDim S1 ![] bcast_S_S1 main_c_1
  let main_v4 : IVec S1 1 := cmpi .slt main_arg3 main_v3
  let main_c_2 : IVec S_ 1 := constantI S_ 1 1#1
  let main_v5 : IVec S_ 1 := (fun x v => Host.reduce IntOp.andi x v reducesTo_S1_S_d0 h_S_) main_v4 main_c_2
  let main_v6 : IVec S_ 1 := andi main_v2 main_v5
  main_v6
-- ==== Kernel.lean ====
abbrev S2048x3072 : Shape := ⟨2, ![2048, 3072]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S8x2048x1 : Shape := ⟨3, ![8, 2048, 1]⟩
abbrev S8x128 : Shape := ⟨2, ![8, 128]⟩
abbrev S2x2048x1024 : Shape := ⟨3, ![2, 2048, 1024]⟩
abbrev S512x256 : Shape := ⟨2, ![512, 256]⟩
abbrev S2048x256 : Shape := ⟨2, ![2048, 256]⟩
abbrev S2x512x1 : Shape := ⟨3, ![2, 512, 1]⟩
abbrev S2x2048x256 : Shape := ⟨3, ![2, 2048, 256]⟩
abbrev S512x1 : Shape := ⟨2, ![512, 1]⟩
abbrev S512x128 : Shape := ⟨2, ![512, 128]⟩
abbrev S256x128 : Shape := ⟨2, ![256, 128]⟩
abbrev S1024x256 : Shape := ⟨2, ![1024, 256]⟩
abbrev S1024x512 : Shape := ⟨2, ![1024, 512]⟩
abbrev S1x512x1 : Shape := ⟨3, ![1, 512, 1]⟩
abbrev S256x256 : Shape := ⟨2, ![256, 256]⟩
abbrev S1x256x128 : Shape := ⟨3, ![1, 256, 128]⟩
abbrev S512 : Shape := ⟨1, ![512]⟩
abbrev S512x512 : Shape := ⟨2, ![512, 512]⟩
abbrev S1x256x1 : Shape := ⟨3, ![1, 256, 1]⟩
abbrev S256x1 : Shape := ⟨2, ![256, 1]⟩

abbrev nBuf : Space → Nat
  | .hbm => 58
  | .vmem => 15
  | .smem => 0
  | _ => 0

abbrev bufTy : (tb : Table) → Fin (tcTables nBuf tb) → BufTy
  | .hbm, ⟨0, _⟩ => ⟨S2048x3072, .f32⟩
  | .hbm, ⟨1, _⟩ => ⟨S2048x1024, .f32⟩
  | .hbm, ⟨2, _⟩ => ⟨S2048x3072, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x8x128, .f32⟩
  | .hbm, ⟨8, _⟩ => ⟨S8x2048x128, .f32⟩
  | .hbm, ⟨9, _⟩ => ⟨S2048x8x128, .f32⟩
  | .hbm, ⟨10, _⟩ => ⟨S8x2048x128, .f32⟩
  | .hbm, ⟨11, _⟩ => ⟨S2048x8x128, .f32⟩
  | .hbm, ⟨12, _⟩ => ⟨S8x2048x128, .f32⟩
  | .hbm, ⟨13, _⟩ => ⟨S8x2048x2048, .f32⟩
  | .hbm, ⟨14, _⟩ => ⟨S_, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S_, .f32⟩
  | .hbm, ⟨44, _⟩ => ⟨S8x2048x2048, .i1⟩
  | .hbm, ⟨45, _⟩ => ⟨S8x2048x2048, .f32⟩
  | .hbm, ⟨46, _⟩ => ⟨S8x2048x2048, .f32⟩
  | .hbm, ⟨47, _⟩ => ⟨S_, .f32⟩
  | .hbm, ⟨48, _⟩ => ⟨S8x2048, .f32⟩
  | .hbm, ⟨49, _⟩ => ⟨S8x2048x1, .f32⟩
  | .hbm, ⟨50, _⟩ => ⟨S_, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x128, .f32⟩
  | .hbm, ⟨56, _⟩ => ⟨S2048x1024, .bf16⟩
  | .hbm, ⟨57, _⟩ => ⟨S2x2048x1024, .f32⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S512x256, .bf16⟩
  | .local _ .vmem, ⟨7, _⟩ => ⟨S512x256, .bf16⟩
  | .local _ .vmem, ⟨8, _⟩ => ⟨S2x512x1, .f32⟩
  | .local _ .vmem, ⟨9, _⟩ => ⟨S2x512x1, .f32⟩
  | .local _ .vmem, ⟨10, _⟩ => ⟨S8x128, .f32⟩
  | .local _ .vmem, ⟨11, _⟩ => ⟨S512x256, .bf16⟩
  | .local _ .vmem, ⟨12, _⟩ => ⟨S512x256, .bf16⟩
  | .local _ .vmem, ⟨13, _⟩ => ⟨S2x2048x256, .f32⟩
  | .local _ .vmem, ⟨14, _⟩ => ⟨S2x2048x256, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v23 : Ref sig .tc := ⟨.hbm, 41, rfl⟩
abbrev main_cst_0 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31_0 : Ref sig .tc := ⟨.hbm, 56, rfl⟩
abbrev main_v31_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_4 : BitVec 32 := 1#32
  ⟨c0_i32_3, v19, c1_i32_4⟩
def k0_mult1 (i : grid0.Coords) (k0_t1 : Fin (k0_t1_loop i).trips) : BitVec 32 :=
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  v416
def k0_off1 (i : grid0.Coords) (k0_t1 : Fin (k0_t1_loop i).trips) : Fin 2 → Nat :=
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v420 : Index := Scalar.indexCast v417
  let c0_174 : Index := 0#32
  ![v420.toNat, 0]
def k0_off2 (i : grid0.Coords) (k0_t1 : Fin (k0_t1_loop i).trips) : Fin 2 → Nat :=
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v442 : Index := Scalar.indexCast v417
  let c128_184 : Index := 128#32
  ![v442.toNat, 128]
def k0_off3 (i : grid0.Coords) (k0_t1 : Fin (k0_t1_loop i).trips) : Fin 3 → Nat :=
  let c0_209 : Index := 0#32
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v514 : Index := Scalar.indexCast v417
  let c0_210 : Index := 0#32
  ![0, v514.toNat, 0]
def k0_off4 (i : grid0.Coords) (k0_t1 : Fin (k0_t1_loop i).trips) : Fin 3 → Nat :=
  let c1_216 : Index := 1#32
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v525 : Index := Scalar.indexCast v417
  let c0_217 : Index := 0#32
  ![1, v525.toNat, 0]
def k0_off5 (i : grid0.Coords) (k0_t1 : Fin (k0_t1_loop i).trips) : Fin 3 → Nat :=
  let c0_228 : Index := 0#32
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v557 : Index := Scalar.indexCast v417
  let c128_229 : Index := 128#32
  ![0, v557.toNat, 128]
def k0_off6 (i : grid0.Coords) (k0_t1 : Fin (k0_t1_loop i).trips) : Fin 3 → Nat :=
  let c1_235 : Index := 1#32
  let c0_i32_3 : BitVec 32 := 0#32
  let c1_i32_4 : BitVec 32 := 1#32
  let arg10 : BitVec 32 := Scf.iv c0_i32_3 c1_i32_4 k0_t1
  let c256_i32_171 : BitVec 32 := 256#32
  let v416 : BitVec 32 := Scalar.muli arg10 c256_i32_171
  let v417 : BitVec 32 := v416
  let v568 : Index := Scalar.indexCast v417
  let c128_236 : Index := 128#32
  ![1, v568.toNat, 128]
@[reducible] def k0_t2_loop (i : grid0.Coords) : Scf.Loop 32 :=
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let v16 : BitVec 32 := Scalar.addi c0_i32_3 v15
  let c1_i32_5 : BitVec 32 := 1#32
  ⟨v19, v16, c1_i32_5⟩
def k0_mult2 (i : grid0.Coords) (k0_t2 : Fin (k0_t2_loop i).trips) : BitVec 32 :=
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  v416
def k0_off7 (i : grid0.Coords) (k0_t2 : Fin (k0_t2_loop i).trips) : Fin 2 → Nat :=
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v420 : Index := Scalar.indexCast v417
  let c0_174 : Index := 0#32
  ![v420.toNat, 0]
def k0_off8 (i : grid0.Coords) (k0_t2 : Fin (k0_t2_loop i).trips) : Fin 2 → Nat :=
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v442 : Index := Scalar.indexCast v417
  let c128_184 : Index := 128#32
  ![v442.toNat, 128]
def k0_off9 (i : grid0.Coords) (k0_t2 : Fin (k0_t2_loop i).trips) : Fin 3 → Nat :=
  let c0_209 : Index := 0#32
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v514 : Index := Scalar.indexCast v417
  let c0_210 : Index := 0#32
  ![0, v514.toNat, 0]
def k0_off10 (i : grid0.Coords) (k0_t2 : Fin (k0_t2_loop i).trips) : Fin 3 → Nat :=
  let c1_216 : Index := 1#32
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v525 : Index := Scalar.indexCast v417
  let c0_217 : Index := 0#32
  ![1, v525.toNat, 0]
def k0_off11 (i : grid0.Coords) (k0_t2 : Fin (k0_t2_loop i).trips) : Fin 3 → Nat :=
  let c0_228 : Index := 0#32
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v557 : Index := Scalar.indexCast v417
  let c128_229 : Index := 128#32
  ![0, v557.toNat, 128]
def k0_off12 (i : grid0.Coords) (k0_t2 : Fin (k0_t2_loop i).trips) : Fin 3 → Nat :=
  let c1_235 : Index := 1#32
  let c0_i32_3 : BitVec 32 := 0#32
  let arg1 : BitVec 32 := BitVec.ofNat 32 (i 1).val
  let c2_i32 : BitVec 32 := 2#32
  let v14 : BitVec 32 := Scalar.muli arg1 c2_i32
  let v15 : BitVec 32 := Scalar.subi v14 c0_i32_3
  let c1_i32 : BitVec 32 := 1#32
  let v17 : BitVec 32 := Scalar.divsi v15 c1_i32
  let v18 : BitVec 32 := Scalar.muli v17 c1_i32
  let v19 : BitVec 32 := Scalar.addi c0_i32_3 v18
  let c1_i32_5 : BitVec 32 := 1#32
  let arg10 : BitVec 32 := Scf.iv v19 c1_i32_5 k0_t2
  let c256_i32_171 : BitVec 32 := 256#32
  let v416 : BitVec 32 := Scalar.muli arg10 c256_i32_171
  let v417 : BitVec 32 := v416
  let v568 : Index := Scalar.indexCast v417
  let c128_236 : Index := 128#32
  ![1, v568.toNat, 128]
def k0_mult3 (i : grid0.Coords) : BitVec 32 :=
  let arg1 : BitVec 32 := BitVec.ofNat 32 (i 1).val
  let c2_i32_6 : BitVec 32 := 2#32
  let v22 : BitVec 32 := Scalar.muli arg1 c2_i32_6
  let c0_i32_7 : BitVec 32 := 0#32
  let v23 : BitVec 32 := Scalar.addi v22 c0_i32_7
  let c256_i32 : BitVec 32 := 256#32
  let v24 : BitVec 32 := Scalar.muli v23 c256_i32
  v24
def k0_off13 (i : grid0.Coords) (c0_i32_7 : BitVec 32) : Fin 2 → Nat :=
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v35 : Index := Scalar.indexCast v25
  let c0_11 : Index := 0#32
  ![v35.toNat, 0]
def k0_off14 (i : grid0.Coords) (c0_i32_7 : BitVec 32) : Fin 2 → Nat :=
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v59 : Index := Scalar.indexCast v25
  let c128_21 : Index := 128#32
  ![v59.toNat, 128]
def k0_off15 (i : grid0.Coords) (c0_i32_7 : BitVec 32) : Fin 3 → Nat :=
  let c0_49 : Index := 0#32
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v139 : Index := Scalar.indexCast v25
  let c0_50 : Index := 0#32
  ![0, v139.toNat, 0]
def k0_off16 (i : grid0.Coords) (c0_i32_7 : BitVec 32) : Fin 3 → Nat :=
  let c1_56 : Index := 1#32
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v150 : Index := Scalar.indexCast v25
  let c0_57 : Index := 0#32
  ![1, v150.toNat, 0]
def k0_off17 (i : grid0.Coords) (c0_i32_7 : BitVec 32) : Fin 3 → Nat :=
  let c0_69 : Index := 0#32
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v184 : Index := Scalar.indexCast v25
  let c128_70 : Index := 128#32
  ![0, v184.toNat, 128]
def k0_off18 (i : grid0.Coords) (c0_i32_7 : BitVec 32) : Fin 3 → Nat :=
  let c1_76 : Index := 1#32
  let arg1 : BitVec 32 := BitVec.ofNat 32 (i 1).val
  let c2_i32_6 : BitVec 32 := 2#32
  let v22 : BitVec 32 := Scalar.muli arg1 c2_i32_6
  let v23 : BitVec 32 := Scalar.addi v22 c0_i32_7
  let c256_i32 : BitVec 32 := 256#32
  let v24 : BitVec 32 := Scalar.muli v23 c256_i32
  let v25 : BitVec 32 := v24
  let v195 : Index := Scalar.indexCast v25
  let c128_77 : Index := 128#32
  ![1, v195.toNat, 128]
def k0_mult4 (i : grid0.Coords) : BitVec 32 :=
  let arg1 : BitVec 32 := BitVec.ofNat 32 (i 1).val
  let c2_i32_87 : BitVec 32 := 2#32
  let v218 : BitVec 32 := Scalar.muli arg1 c2_i32_87
  let c1_i32_88 : BitVec 32 := 1#32
  let v219 : BitVec 32 := Scalar.addi v218 c1_i32_88
  let c256_i32_89 : BitVec 32 := 256#32
  let v220 : BitVec 32 := Scalar.muli v219 c256_i32_89
  v220
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log2_e" => some (((Real.log 2)⁻¹ : ℝ) : EReal)
  | "scale" => some (((Real.sqrt 128)⁻¹ : ℝ) : EReal)
  | "scale_log2_e" => some (((Real.sqrt 128)⁻¹ * (Real.log 2)⁻¹ : ℝ) : EReal)
  | _ => none
-- ==== ReferenceIdeal.lean ====
abbrev S2048x3072 : Shape := ⟨2, ![2048, 3072]⟩
abbrev S2048x1024 : Shape := ⟨2, ![2048, 1024]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S1x2048x1024 : Shape := ⟨3, ![1, 2048, 1024]⟩
abbrev S2x2048x1024 : Shape := ⟨3, ![2, 2048, 1024]⟩

abbrev nBuf : Space → Nat
  | .hbm => 186
  | .vmem => 0
  | .smem => 0
  | _ => 0

abbrev hbmTy0_0 (i : Nat) : BufTy := match i % 128 with
  | 0 => ⟨S2048x3072, .f32⟩
  | 1 => ⟨S2048x1024, .f32⟩
  | 2 => ⟨S2048x1024, .f32⟩
  | 3 => ⟨S2048x1024, .f32⟩
  | 4 => ⟨S2048x1024, .f32⟩
  | 5 => ⟨S2048x8x128, .f32⟩
  | 6 => ⟨S8x2048x128, .f32⟩
  | 7 => ⟨S2048x8x128, .f32⟩
  | 8 => ⟨S8x2048x128, .f32⟩
  | 9 => ⟨S2048x8x128, .f32⟩
  | 10 => ⟨S8x2048x128, .f32⟩
  | 11 => ⟨S8x2048x2048, .f32⟩
  | 12 => ⟨S_, .f32⟩
  | 13 => ⟨S_, .f32⟩
  | 14 => ⟨S8x2048x2048, .f32⟩
  | 15 => ⟨S8x2048x2048, .f32⟩
  | 16 => ⟨S2048, .i32⟩
  | 17 => ⟨S1x2048, .i32⟩
  | 18 => ⟨S2048, .i32⟩
  | 19 => ⟨S2048x1, .i32⟩
  | 20 => ⟨S2048x2048, .i32⟩
  | 21 => ⟨S2048x2048, .i32⟩
  | 22 => ⟨S2048x2048, .i1⟩
  | 23 => ⟨S8x2048x2048, .f32⟩
  | 24 => ⟨S8x2048x2048, .f32⟩
  | 25 => ⟨S_, .f32⟩
  | 26 => ⟨S8x2048x2048, .f32⟩
  | 27 => ⟨S8x2048x2048, .f32⟩
  | 28 => ⟨S8x2048x2048, .f32⟩
  | 29 => ⟨S8x2048x2048, .f32⟩
  | 30 => ⟨S8x2048x2048, .i1⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S_, .f32⟩
  | 40 => ⟨S8x2048x2048, .f32⟩
  | 41 => ⟨S8x2048x2048, .i1⟩
  | 42 => ⟨S_, .f32⟩
  | 43 => ⟨S8x2048x2048, .f32⟩
  | 44 => ⟨S8x2048x2048, .f32⟩
  | 45 => ⟨S_, .f32⟩
  | 46 => ⟨S8x2048x2048, .f32⟩
  | 47 => ⟨S8x2048x2048, .i1⟩
  | 48 => ⟨S_, .f32⟩
  | 49 => ⟨S8x2048x2048, .f32⟩
  | 50 => ⟨S8x2048x2048, .f32⟩
  | 51 => ⟨S8x2048x2048, .f32⟩
  | 52 => ⟨S8x2048x2048, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x2048x2048, .f32⟩
  | 61 => ⟨S8x2048x2048, .i1⟩
  | 62 => ⟨S_, .f32⟩
  | 63 => ⟨S8x2048x2048, .f32⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x2048, .f32⟩
  | 72 => ⟨S_, .f32⟩
  | 73 => ⟨S_, .f32⟩
  | 74 => ⟨S8x2048x2048, .i1⟩
  | 75 => ⟨S8x2048x2048, .f32⟩
  | 76 => ⟨S8x2048x2048, .f32⟩
  | 77 => ⟨S_, .f32⟩
  | 78 => ⟨S8x2048x2048, .f32⟩
  | 79 => ⟨S_, .f32⟩
  | 80 => ⟨S_, .f32⟩
  | 81 => ⟨S8x2048x2048, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S8x2048x2048, .f32⟩
  | 88 => ⟨S8x2048x2048, .f32⟩
  | 89 => ⟨S8x2048x2048, .i1⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S_, .f32⟩
  | 99 => ⟨S8x2048x2048, .f32⟩
  | 100 => ⟨S8x2048x2048, .i1⟩
  | 101 => ⟨S_, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .i1⟩
  | 107 => ⟨S_, .f32⟩
  | 108 => ⟨S8x2048x2048, .f32⟩
  | 109 => ⟨S8x2048x2048, .f32⟩
  | 110 => ⟨S8x2048x2048, .f32⟩
  | 111 => ⟨S8x2048x2048, .f32⟩
  | 112 => ⟨S_, .f32⟩
  | 113 => ⟨S_, .f32⟩
  | 114 => ⟨S_, .i1⟩
  | 115 => ⟨S_, .f32⟩
  | 116 => ⟨S_, .f32⟩
  | 117 => ⟨S_, .f32⟩
  | 118 => ⟨S_, .f32⟩
  | 119 => ⟨S8x2048x2048, .f32⟩
  | 120 => ⟨S8x2048x2048, .i1⟩
  | 121 => ⟨S_, .f32⟩
  | 122 => ⟨S8x2048x2048, .f32⟩
  | 123 => ⟨S8x2048x2048, .f32⟩
  | 124 => ⟨S8x2048x2048, .f32⟩
  | 125 => ⟨S8x2048x2048, .f32⟩
  | 126 => ⟨S8x2048x2048, .f32⟩
  | 127 => ⟨S_, .f32⟩
  | _ => ⟨S2048x3072, .f32⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S8x2048x2048, .f32⟩
  | 5 => ⟨S_, .f32⟩
  | 6 => ⟨S_, .f32⟩
  | 7 => ⟨S8x2048x2048, .i1⟩
  | 8 => ⟨S8x2048x2048, .f32⟩
  | 9 => ⟨S8x2048x2048, .f32⟩
  | 10 => ⟨S_, .f32⟩
  | 11 => ⟨S8x2048x2048, .f32⟩
  | 12 => ⟨S8x2048x128, .f32⟩
  | 13 => ⟨S2048x8x128, .f32⟩
  | 14 => ⟨S2048x1024, .f32⟩
  | 15 => ⟨S2048x8x128, .f32⟩
  | 16 => ⟨S8x2048x128, .f32⟩
  | 17 => ⟨S8x128x2048, .f32⟩
  | 18 => ⟨S8x2048x128, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .f32⟩
  | 28 => ⟨S_, .f32⟩
  | 29 => ⟨S_, .f32⟩
  | 30 => ⟨S8x2048x2048, .f32⟩
  | 31 => ⟨S8x2048x2048, .f32⟩
  | 32 => ⟨S_, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x128, .f32⟩
  | 43 => ⟨S8x2048x128, .f32⟩
  | 44 => ⟨S2048x8x128, .f32⟩
  | 45 => ⟨S2048x1024, .f32⟩
  | 46 => ⟨S2048x8x128, .f32⟩
  | 47 => ⟨S2048x1024, .f32⟩
  | 48 => ⟨S2048x8x128, .f32⟩
  | 49 => ⟨S2048x1024, .f32⟩
  | 50 => ⟨S2048x3072, .f32⟩
  | 51 => ⟨S2048x1024, .f32⟩
  | 52 => ⟨S2048x1024, .f32⟩
  | 53 => ⟨S2048x1024, .f32⟩
  | 54 => ⟨S2048x1024, .bf16⟩
  | 55 => ⟨S1x2048x1024, .f32⟩
  | 56 => ⟨S1x2048x1024, .f32⟩
  | 57 => ⟨S2x2048x1024, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v21_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v21_2 : Ref sig .tc := ⟨.hbm, 70, rfl⟩
abbrev main_v21_0 : Ref sig .tc := ⟨.hbm, 71, rfl⟩
abbrev main_cst_0 : Ref sig .tc := ⟨.hbm, 72, rfl⟩
abbrev main_call1_v0 : Ref sig .tc := ⟨.hbm, 73, rfl⟩
abbrev main_v22_1 : Ref sig .tc := ⟨.hbm, 74, rfl⟩
abbrev main_call1_v2 : Ref sig .tc := ⟨.hbm, 75, rfl⟩
abbrev main_v22_0 : Ref sig .tc := ⟨.hbm, 76, rfl⟩
abbrev main_call1_cst : Ref sig .tc := ⟨.hbm, 77, rfl⟩
abbrev main_v22_2 : Ref sig .tc := ⟨.hbm, 78, rfl⟩
abbrev main_call2_cst : Ref sig .tc := ⟨.hbm, 79, rfl⟩
abbrev main_call2_v0 : Ref sig .tc := ⟨.hbm, 80, rfl⟩
abbrev main_v23 : Ref sig .tc := ⟨.hbm, 81, rfl⟩
abbrev main_v24 : Ref sig .tc := ⟨.hbm, 82, rfl⟩
abbrev main_call3_v0 : Ref sig .tc := ⟨.hbm, 83, rfl⟩
abbrev main_call3_call0_cst : Ref sig .tc := ⟨.hbm, 84, rfl⟩
abbrev main_call3_call0_v0 : Ref sig .tc := ⟨.hbm, 85, rfl⟩
abbrev main_call3_call0_v1 : Ref sig .tc := ⟨.hbm, 86, rfl⟩
abbrev main_call3_call0_v2 : Ref sig .tc := ⟨.hbm, 87, rfl⟩
abbrev main_call3_call0_v3 : Ref sig .tc := ⟨.hbm, 88, rfl⟩
abbrev main_call3_call0_v4 : Ref sig .tc := ⟨.hbm, 89, rfl⟩
abbrev main_call3_call0_v5 : Ref sig .tc := ⟨.hbm, 90, rfl⟩
abbrev main_call3_call0_v6 : Ref sig .tc := ⟨.hbm, 91, rfl⟩
abbrev main_call3_call0_v7 : Ref sig .tc := ⟨.hbm, 92, rfl⟩
abbrev main_call3_call0_v8 : Ref sig .tc := ⟨.hbm, 93, rfl⟩
abbrev main_call3_call0_v9 : Ref sig .tc := ⟨.hbm, 94, rfl⟩
abbrev main_call3_call0_v10 : Ref sig .tc := ⟨.hbm, 95, rfl⟩
abbrev main_call3_call0_v11 : Ref sig .tc := ⟨.hbm, 96, rfl⟩
abbrev main_call3_v1_0 : Ref sig .tc := ⟨.hbm, 97, rfl⟩
abbrev main_call3_call0_cst_0 : Ref sig .tc := ⟨.hbm, 98, rfl⟩
abbrev main_call3_call0_v13 : Ref sig .tc := ⟨.hbm, 99, rfl⟩
abbrev main_call3_call0_v14 : Ref sig .tc := ⟨.hbm, 100, rfl⟩
abbrev main_call3_call0_cst_1 : Ref sig .tc := ⟨.hbm, 101, rfl⟩
abbrev main_call3_call0_v15 : Ref sig .tc := ⟨.hbm, 102, rfl⟩
abbrev main_call3_call0_v16 : Ref sig .tc := ⟨.hbm, 103, rfl⟩
abbrev main_call3_call0_cst_2 : Ref sig .tc := ⟨.hbm, 104, rfl⟩
abbrev main_call3_call0_v17 : Ref sig .tc := ⟨.hbm, 105, rfl⟩
abbrev main_call3_call0_v18 : Ref sig .tc := ⟨.hbm, 106, rfl⟩
abbrev main_call3_call0_cst_3 : Ref sig .tc := ⟨.hbm, 107, rfl⟩
abbrev main_call3_call0_v19 : Ref sig .tc := ⟨.hbm, 108, rfl⟩
abbrev main_call3_call0_v20 : Ref sig .tc := ⟨.hbm, 109, rfl⟩
abbrev main_call3_call0_v21 : Ref sig .tc := ⟨.hbm, 110, rfl⟩
abbrev main_v25_1 : Ref sig .tc := ⟨.hbm, 111, rfl⟩
abbrev main_call3_call0_cst_4 : Ref sig .tc := ⟨.hbm, 112, rfl⟩
abbrev main_call3_call0_cst_5 : Ref sig .tc := ⟨.hbm, 113, rfl⟩
abbrev main_call3_call0_v23 : Ref sig .tc := ⟨.hbm, 114, rfl⟩
abbrev main_call3_call0_cst_6 : Ref sig .tc := ⟨.hbm, 115, rfl⟩
abbrev main_call3_call0_cst_7 : Ref sig .tc := ⟨.hbm, 116, rfl⟩
abbrev main_call3_call0_v24 : Ref sig .tc := ⟨.hbm, 117, rfl⟩
abbrev main_call3_call0_cst_8 : Ref sig .tc := ⟨.hbm, 118, rfl⟩
abbrev main_call3_call0_v25 : Ref sig .tc := ⟨.hbm, 119, rfl⟩
abbrev main_call3_call0_v26 : Ref sig .tc := ⟨.hbm, 120, rfl⟩
abbrev main_call3_call0_cst_9 : Ref sig .tc := ⟨.hbm, 121, rfl⟩
abbrev main_call3_call0_v27 : Ref sig .tc := ⟨.hbm, 122, rfl⟩
abbrev main_call3_call0_v28 : Ref sig .tc := ⟨.hbm, 123, rfl⟩
abbrev main_call3_call0_v29 : Ref sig .tc := ⟨.hbm, 124, rfl⟩
abbrev main_call3_call0_v30 : Ref sig .tc := ⟨.hbm, 125, rfl⟩
abbrev main_call3_call0_v31 : Ref sig .tc := ⟨.hbm, 126, rfl⟩
abbrev main_call3_call0_cst_10 : Ref sig .tc := ⟨.hbm, 127, rfl⟩
abbrev main_call3_call0_v32 : Ref sig .tc := ⟨.hbm, 128, rfl⟩
abbrev main_v25_2 : Ref sig .tc := ⟨.hbm, 129, rfl⟩
abbrev main_v25_0 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_call6_v0 : Ref sig .tc := ⟨.hbm, 152, rfl⟩
abbrev main_call6_v1 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_v42 : Ref sig .tc := ⟨.hbm, 159, rfl⟩
abbrev main_call8_cst : Ref sig .tc := ⟨.hbm, 160, rfl⟩
abbrev main_call8_v0 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩
abbrev main_v49 : Ref sig .tc := ⟨.hbm, 170, rfl⟩
abbrev main_v50 : Ref sig .tc := ⟨.hbm, 171, rfl⟩
abbrev main_v51 : Ref sig .tc := ⟨.hbm, 172, rfl⟩
abbrev main_v52 : Ref sig .tc := ⟨.hbm, 173, rfl⟩
abbrev main_v53 : Ref sig .tc := ⟨.hbm, 174, rfl⟩
abbrev main_v54 : Ref sig .tc := ⟨.hbm, 175, rfl⟩
abbrev main_v55 : Ref sig .tc := ⟨.hbm, 176, rfl⟩
abbrev main_v56 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_v61 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩

abbrev nD : Nat := 1
abbrev τ : Topo := Topo.v7x

variable {F : FTy → Type} [FloatOps F]
-- ==== KernelGu.lean ====
abbrev S2048x1024 : Shape := ⟨2, ![2048, 1024]⟩
abbrev S8x768x1024 : Shape := ⟨3, ![8, 768, 1024]⟩
abbrev S8x2048x768 : Shape := ⟨3, ![8, 2048, 768]⟩
abbrev S1x2048x768 : Shape := ⟨3, ![1, 2048, 768]⟩
abbrev S1x768x1024 : Shape := ⟨3, ![1, 768, 1024]⟩
abbrev S2048x768 : Shape := ⟨2, ![2048, 768]⟩
abbrev S768x1024 : Shape := ⟨2, ![768, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8x768x1024, .f32⟩
  | .hbm, ⟨2, _⟩ => ⟨S8x2048x768, .f32⟩
  | .hbm, ⟨3, _⟩ => ⟨S8x2048x768, .bf16⟩
  | .hbm, ⟨4, _⟩ => ⟨S2048x1024, .bf16⟩
  | .hbm, ⟨5, _⟩ => ⟨S8x768x1024, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x1024, .bf16⟩
  | .local _ .vmem, ⟨3, _⟩ => ⟨S1x768x1024, .bf16⟩
  | .local _ .vmem, ⟨4, _⟩ => ⟨S1x768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGuIdeal.lean ====
abbrev S2048x1024 : Shape := ⟨2, ![2048, 1024]⟩
abbrev S8x768x1024 : Shape := ⟨3, ![8, 768, 1024]⟩
abbrev S8x2048x768 : Shape := ⟨3, ![8, 2048, 768]⟩
abbrev S8x768x2048 : Shape := ⟨3, ![8, 768, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x768x1024, .f32⟩
  | .hbm, ⟨2, _⟩ => ⟨S8x2048x768, .f32⟩
  | .hbm, ⟨3, _⟩ => ⟨S8x768x2048, .f32⟩
  | .hbm, ⟨4, _⟩ => ⟨S8x2048x768, .f32⟩
  | .hbm, ⟨5, _⟩ => ⟨S8x768x2048, .f32⟩
  | .hbm, ⟨6, _⟩ => ⟨S8x768x1024, .f32⟩
  | .hbm, ⟨7, _⟩ => ⟨S8x768x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDown.lean ====
abbrev S4x2048x768 : Shape := ⟨3, ![4, 2048, 768]⟩
abbrev S4x704x1024 : Shape := ⟨3, ![4, 704, 1024]⟩
abbrev S2048x1024 : Shape := ⟨2, ![2048, 1024]⟩
abbrev S1x2048x768 : Shape := ⟨3, ![1, 2048, 768]⟩
abbrev S1x704x1024 : Shape := ⟨3, ![1, 704, 1024]⟩
abbrev S2048x768 : Shape := ⟨2, ![2048, 768]⟩
abbrev S768x1024 : Shape := ⟨2, ![768, 1024]⟩
abbrev S704x1024 : Shape := ⟨2, ![704, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4x2048x768, .f32⟩
  | .hbm, ⟨1, _⟩ => ⟨S4x704x1024, .f32⟩
  | .hbm, ⟨2, _⟩ => ⟨S2048x1024, .f32⟩
  | .hbm, ⟨3, _⟩ => ⟨S4x2048x768, .bf16⟩
  | .hbm, ⟨4, _⟩ => ⟨S2048x1024, .bf16⟩
  | .hbm, ⟨5, _⟩ => ⟨S4x704x1024, .bf16⟩
  | .local _ .vmem, ⟨0, _⟩ => ⟨S1x2048x768, .bf16⟩
  | .local _ .vmem, ⟨1, _⟩ => ⟨S1x2048x768, .bf16⟩
  | .local _ .vmem, ⟨2, _⟩ => ⟨S2048x1024, .bf16⟩
  | .local _ .vmem, ⟨3, _⟩ => ⟨S1x704x1024, .bf16⟩
  | .local _ .vmem, ⟨4, _⟩ => ⟨S1x704x1024, .bf16⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDownIdeal.lean ====
abbrev S4x2048x768 : Shape := ⟨3, ![4, 2048, 768]⟩
abbrev S4x704x1024 : Shape := ⟨3, ![4, 704, 1024]⟩
abbrev S2048x1024 : Shape := ⟨2, ![2048, 1024]⟩
abbrev S4x2048x704 : Shape := ⟨3, ![4, 2048, 704]⟩
abbrev S1024x4x704 : Shape := ⟨3, ![1024, 4, 704]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S4x704x1024, .f32⟩
  | .hbm, ⟨2, _⟩ => ⟨S2048x1024, .f32⟩
  | .hbm, ⟨3, _⟩ => ⟨S4x2048x704, .f32⟩
  | .hbm, ⟨4, _⟩ => ⟨S2048x1024, .f32⟩
  | .hbm, ⟨5, _⟩ => ⟨S1024x4x704, .f32⟩
  | .hbm, ⟨6, _⟩ => ⟨S4x704x1024, .f32⟩
  | .hbm, ⟨7, _⟩ => ⟨S4x704x1024, .bf16⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S2048x1024 : Shape := ⟨2, ![2048, 1024]⟩
abbrev S8x1024x1024 : Shape := ⟨3, ![8, 1024, 1024]⟩
abbrev S3x2048x1024 : Shape := ⟨3, ![3, 2048, 1024]⟩
abbrev S2x2048x1024 : Shape := ⟨3, ![2, 2048, 1024]⟩
abbrev S1x2048x1024 : Shape := ⟨3, ![1, 2048, 1024]⟩
abbrev S1x2048x512 : Shape := ⟨3, ![1, 2048, 512]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 12
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S8x1024x1024, .f32⟩
  | .hbm, ⟨2, _⟩ => ⟨S3x2048x1024, .f32⟩
  | .hbm, ⟨3, _⟩ => ⟨S2048x1024, .f32⟩
  | .hbm, ⟨4, _⟩ => ⟨S2x2048x1024, .f32⟩
  | .hbm, ⟨5, _⟩ => ⟨S2x2048x1024, .f32⟩
  | .hbm, ⟨6, _⟩ => ⟨S2048x1024, .bf16⟩
  | .hbm, ⟨7, _⟩ => ⟨S3x2048x1024, .bf16⟩
  | .hbm, ⟨8, _⟩ => ⟨S2048x1024, .bf16⟩
  | .hbm, ⟨9, _⟩ => ⟨S1x2048x1024, .bf16⟩
  | .hbm, ⟨10, _⟩ => ⟨S2x2048x1024, .bf16⟩
  | .hbm, ⟨11, _⟩ => ⟨S8x1024x1024, .bf16⟩
  | .local _ .vmem, ⟨0, _⟩ => ⟨S2048x1024, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .f32⟩
  | .local _ .vmem, ⟨6, _⟩ => ⟨S1x2048x512, .f32⟩
  | .local _ .vmem, ⟨7, _⟩ => ⟨S1x2048x512, .bf16⟩
  | .local _ .vmem, ⟨8, _⟩ => ⟨S1x2048x512, .bf16⟩
  | .local _ .vmem, ⟨9, _⟩ => ⟨S1x1024x512, .bf16⟩
  | .local _ .vmem, ⟨10, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c3_i32 : BitVec 32 := 3#32
  let v1 : BitVec 1 := Scalar.cmpi .slt arg0 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c3_i32_1 : BitVec 32 := 3#32
  let v5 : BitVec 1 := Scalar.cmpi .sge arg0 c3_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c4_i32_3 : BitVec 32 := 4#32
  let v10 : BitVec 1 := Scalar.cmpi .sge arg0 c4_i32_3
  let c6_i32 : BitVec 32 := 6#32
  let v11 : BitVec 1 := Scalar.cmpi .slt arg0 c6_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c6_i32_5 : BitVec 32 := 6#32
  let v15 : BitVec 1 := Scalar.cmpi .sge arg0 c6_i32_5
  let c8_i32 : BitVec 32 := 8#32
  let v16 : BitVec 1 := Scalar.cmpi .slt arg0 c8_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  let v3 : BitVec 1 := Scalar.cmpi .sge arg0 c0_i32_1
  let c2_i32_2 : BitVec 32 := 2#32
  let v4 : BitVec 1 := Scalar.cmpi .sle arg0 c2_i32_2
  let v5 : BitVec 1 := Scalar.andi v3 v4
  let c0_i32_3 : BitVec 32 := 0#32
  let v6 : BitVec 32 := Scalar.select v5 arg1 c0_i32_3
  let c0_i32_4 : BitVec 32 := 0#32
  let c0_i32_5 : BitVec 32 := 0#32
  ![v2.toNat, c0_i32_4.toNat, v6.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let c0_i32_0 : BitVec 32 := 0#32
  let v1 : BitVec 32 := Scalar.maxsi c0_i32 v0
  let v2 : BitVec 32 := Scalar.minsi c0_i32_0 v1
  let c3_i32_1 : BitVec 32 := 3#32
  let v3 : BitVec 1 := Scalar.cmpi .sge arg0 c3_i32_1
  let c3_i32_2 : BitVec 32 := 3#32
  let v4 : BitVec 1 := Scalar.cmpi .sle arg0 c3_i32_2
  let v5 : BitVec 1 := Scalar.andi v3 v4
  let c0_i32_3 : BitVec 32 := 0#32
  let v6 : BitVec 32 := Scalar.select v5 arg1 c0_i32_3
  let c0_i32_4 : BitVec 32 := 0#32
  let c0_i32_5 : BitVec 32 := 0#32
  ![v2.toNat, c0_i32_4.toNat, v6.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c4_i32_0 : BitVec 32 := 4#32
  let v3 : BitVec 1 := Scalar.cmpi .sge arg0 c4_i32_0
  let c5_i32 : BitVec 32 := 5#32
  let v4 : BitVec 1 := Scalar.cmpi .sle arg0 c5_i32
  let v5 : BitVec 1 := Scalar.andi v3 v4
  let c0_i32_1 : BitVec 32 := 0#32
  let v6 : BitVec 32 := Scalar.select v5 arg1 c0_i32_1
  let c0_i32_2 : BitVec 32 := 0#32
  let c0_i32_3 : BitVec 32 := 0#32
  ![v2.toNat, c0_i32_2.toNat, v6.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c6_i32_0 : BitVec 32 := 6#32
  let v3 : BitVec 1 := Scalar.cmpi .sge arg0 c6_i32_0
  let c7_i32 : BitVec 32 := 7#32
  let v4 : BitVec 1 := Scalar.cmpi .sle arg0 c7_i32
  let v5 : BitVec 1 := Scalar.andi v3 v4
  let c0_i32_1 : BitVec 32 := 0#32
  let v6 : BitVec 32 := Scalar.select v5 arg1 c0_i32_1
  let c0_i32_2 : BitVec 32 := 0#32
  let c0_i32_3 : BitVec 32 := 0#32
  ![v2.toNat, c0_i32_2.toNat, v6.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceInIdeal.lean ====
abbrev S2048x1024 : Shape := ⟨2, ![2048, 1024]⟩
abbrev S8x1024x1024 : Shape := ⟨3, ![8, 1024, 1024]⟩
abbrev S3x2048x1024 : Shape := ⟨3, ![3, 2048, 1024]⟩
abbrev S2x2048x1024 : Shape := ⟨3, ![2, 2048, 1024]⟩
abbrev S8x1024x2048 : Shape := ⟨3, ![8, 1024, 2048]⟩
abbrev S8x2048x1024 : Shape := ⟨3, ![8, 2048, 1024]⟩
abbrev S1x2048x1024 : Shape := ⟨3, ![1, 2048, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8x1024x1024, .f32⟩
  | .hbm, ⟨2, _⟩ => ⟨S3x2048x1024, .f32⟩
  | .hbm, ⟨3, _⟩ => ⟨S2048x1024, .f32⟩
  | .hbm, ⟨4, _⟩ => ⟨S2x2048x1024, .f32⟩
  | .hbm, ⟨5, _⟩ => ⟨S2x2048x1024, .f32⟩
  | .hbm, ⟨6, _⟩ => ⟨S8x1024x2048, .f32⟩
  | .hbm, ⟨7, _⟩ => ⟨S8x2048x1024, .f32⟩
  | .hbm, ⟨8, _⟩ => ⟨S3x2048x1024, .f32⟩
  | .hbm, ⟨9, _⟩ => ⟨S1x2048x1024, .f32⟩
  | .hbm, ⟨10, _⟩ => ⟨S2048x1024, .f32⟩
  | .hbm, ⟨11, _⟩ => ⟨S2x2048x1024, .f32⟩
  | .hbm, ⟨12, _⟩ => ⟨S2x2048x1024, .f32⟩
  | .hbm, ⟨13, _⟩ => ⟨S_, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S1x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x1024x2048, .f32⟩
  | .hbm, ⟨26, _⟩ => ⟨S8x1024x1024, .f32⟩
  | .hbm, ⟨27, _⟩ => ⟨S8x1024x1024, .f32⟩
  | .hbm, ⟨28, _⟩ => ⟨S8x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== KernelMix.lean ====
abbrev S2048x1024 : Shape := ⟨2, ![2048, 1024]⟩
abbrev S8x384x1024 : Shape := ⟨3, ![8, 384, 1024]⟩
abbrev S2048x512 : Shape := ⟨2, ![2048, 512]⟩
abbrev S8x128x512 : Shape := ⟨3, ![8, 128, 512]⟩
abbrev S1024x512 : Shape := ⟨2, ![1024, 512]⟩

abbrev nBuf : Space → Nat
  | .hbm => 14
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x384x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x1024, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S8x384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S8x128x512, .bf16⟩
  | .local _ .vmem, ⟨10, _⟩ => ⟨S8x128x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMixIdeal.lean ====
abbrev S2048x1024 : Shape := ⟨2, ![2048, 1024]⟩
abbrev S8x384x1024 : Shape := ⟨3, ![8, 384, 1024]⟩
abbrev S8x128x1024 : Shape := ⟨3, ![8, 128, 1024]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S8x384x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S8x128x1024, .f32⟩
  | .hbm, ⟨8, _⟩ => ⟨S8x128x1024, .f32⟩
  | .hbm, ⟨9, _⟩ => ⟨S8x128x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S8x128x1024, .f32⟩
  | .hbm, ⟨23, _⟩ => ⟨S8x128x1024, .f32⟩
  | .hbm, ⟨24, _⟩ => ⟨S8x128x1024, .f32⟩
  | .hbm, ⟨25, _⟩ => ⟨S8x384x1024, .f32⟩
  | .hbm, ⟨26, _⟩ => ⟨S8x384x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelCross.lean ====
abbrev S2048x1024 : Shape := ⟨2, ![2048, 1024]⟩
abbrev S8x256x1024 : Shape := ⟨3, ![8, 256, 1024]⟩
abbrev S2048x512 : Shape := ⟨2, ![2048, 512]⟩
abbrev S8x128x512 : Shape := ⟨3, ![8, 128, 512]⟩
abbrev S1024x512 : Shape := ⟨2, ![1024, 512]⟩

abbrev nBuf : Space → Nat
  | .hbm => 10
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x256x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S8x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S8x128x512, .bf16⟩
  | .local _ .vmem, ⟨7, _⟩ => ⟨S8x128x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceCrossIdeal.lean ====
abbrev S2048x1024 : Shape := ⟨2, ![2048, 1024]⟩
abbrev S8x256x1024 : Shape := ⟨3, ![8, 256, 1024]⟩
abbrev S8x128x1024 : Shape := ⟨3, ![8, 128, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x256x1024, .f32⟩
  | .hbm, ⟨3, _⟩ => ⟨S2048x1024, .f32⟩
  | .hbm, ⟨4, _⟩ => ⟨S2048x1024, .f32⟩
  | .hbm, ⟨5, _⟩ => ⟨S8x128x1024, .f32⟩
  | .hbm, ⟨6, _⟩ => ⟨S8x128x1024, .f32⟩
  | .hbm, ⟨7, _⟩ => ⟨S1024x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S8x128x1024, .f32⟩
  | .hbm, ⟨16, _⟩ => ⟨S8x128x1024, .f32⟩
  | .hbm, ⟨17, _⟩ => ⟨S8x256x1024, .f32⟩
  | .hbm, ⟨18, _⟩ => ⟨S8x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelCkv.lean ====
abbrev S256x1024 : Shape := ⟨2, ![256, 1024]⟩
abbrev S8x1024x256 : Shape := ⟨3, ![8, 1024, 256]⟩
abbrev S8x256x256 : Shape := ⟨3, ![8, 256, 256]⟩
abbrev S1x256x256 : Shape := ⟨3, ![1, 256, 256]⟩
abbrev S1x1024x256 : Shape := ⟨3, ![1, 1024, 256]⟩
abbrev S256x256 : Shape := ⟨2, ![256, 256]⟩
abbrev S1024x256 : Shape := ⟨2, ![1024, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S8x1024x256, .f32⟩
  | .hbm, ⟨2, _⟩ => ⟨S8x256x256, .f32⟩
  | .hbm, ⟨3, _⟩ => ⟨S8x1024x256, .bf16⟩
  | .local _ .vmem, ⟨0, _⟩ => ⟨S256x1024, .f32⟩
  | .local _ .vmem, ⟨1, _⟩ => ⟨S1x256x256, .f32⟩
  | .local _ .vmem, ⟨2, _⟩ => ⟨S1x256x256, .f32⟩
  | .local _ .vmem, ⟨3, _⟩ => ⟨S1x1024x256, .bf16⟩
  | .local _ .vmem, ⟨4, _⟩ => ⟨S1x1024x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceCkvIdeal.lean ====
abbrev S256x1024 : Shape := ⟨2, ![256, 1024]⟩
abbrev S8x1024x256 : Shape := ⟨3, ![8, 1024, 256]⟩
abbrev S8x256x256 : Shape := ⟨3, ![8, 256, 256]⟩
abbrev S8x256x1024 : Shape := ⟨3, ![8, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x1024x256, .f32⟩
  | .hbm, ⟨2, _⟩ => ⟨S8x256x256, .f32⟩
  | .hbm, ⟨3, _⟩ => ⟨S8x256x256, .f32⟩
  | .hbm, ⟨4, _⟩ => ⟨S8x256x256, .f32⟩
  | .hbm, ⟨5, _⟩ => ⟨S8x256x256, .f32⟩
  | .hbm, ⟨6, _⟩ => ⟨S8x256x1024, .f32⟩
  | .hbm, ⟨7, _⟩ => ⟨S8x1024x256, .f32⟩
  | .hbm, ⟨8, _⟩ => ⟨S8x1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFfn.lean ====
abbrev S2048x1024 : Shape := ⟨2, ![2048, 1024]⟩
abbrev S1x1024 : Shape := ⟨2, ![1, 1024]⟩
abbrev S8x768x1024 : Shape := ⟨3, ![8, 768, 1024]⟩
abbrev S8x352x1024 : Shape := ⟨3, ![8, 352, 1024]⟩
abbrev S_ : Shape := ⟨0, ![]⟩
abbrev S2048 : Shape := ⟨1, ![2048]⟩
abbrev S2048x1 : Shape := ⟨2, ![2048, 1]⟩
abbrev S8x768x2048 : Shape := ⟨3, ![8, 768, 2048]⟩
abbrev S8x2048x768 : Shape := ⟨3, ![8, 2048, 768]⟩
abbrev S4x2048x768 : Shape := ⟨3, ![4, 2048, 768]⟩
abbrev S256x1024 : Shape := ⟨2, ![256, 1024]⟩
abbrev S4x256x768 : Shape := ⟨3, ![4, 256, 768]⟩
abbrev S8x256x768 : Shape := ⟨3, ![8, 256, 768]⟩
abbrev S4x768x1024 : Shape := ⟨3, ![4, 768, 1024]⟩
abbrev S9 : Shape := ⟨1, ![9]⟩
abbrev S1 : Shape := ⟨1, ![1]⟩
abbrev S1x352x1024 : Shape := ⟨3, ![1, 352, 1024]⟩
abbrev S4x64x1024 : Shape := ⟨3, ![4, 64, 1024]⟩
abbrev S1x256x1024 : Shape := ⟨3, ![1, 256, 1024]⟩
abbrev S256x256 : Shape := ⟨2, ![256, 256]⟩
abbrev S1x256x256 : Shape := ⟨3, ![1, 256, 256]⟩
abbrev S1x256x768 : Shape := ⟨3, ![1, 256, 768]⟩
abbrev S256x768 : Shape := ⟨2, ![256, 768]⟩
abbrev S1x768x1024 : Shape := ⟨3, ![1, 768, 1024]⟩
abbrev S768x1024 : Shape := ⟨2, ![768, 1024]⟩
abbrev S256 : Shape := ⟨1, ![256]⟩
abbrev S256x1 : Shape := ⟨2, ![256, 1]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S8x768x1024, .f32⟩
  | .hbm, ⟨4, _⟩ => ⟨S8x352x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S8x768x2048, .f32⟩
  | .hbm, ⟨21, _⟩ => ⟨S8x2048x768, .f32⟩
  | .hbm, ⟨22, _⟩ => ⟨S8x2048x768, .bf16⟩
  | .hbm, ⟨23, _⟩ => ⟨S4x2048x768, .bf16⟩
  | .hbm, ⟨24, _⟩ => ⟨S4x2048x768, .bf16⟩
  | .hbm, ⟨25, _⟩ => ⟨S8x768x1024, .bf16⟩
  | .hbm, ⟨26, _⟩ => ⟨S8x352x1024, .bf16⟩
  | .hbm, ⟨27, _⟩ => ⟨S8x2048x768, .bf16⟩
  | .hbm, ⟨28, _⟩ => ⟨S2048x1024, .bf16⟩
  | .hbm, ⟨29, _⟩ => ⟨S2048x1024, .f32⟩
  | .hbm, ⟨30, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S4x256x768, .bf16⟩
  | .local _ .vmem, ⟨6, _⟩ => ⟨S4x256x768, .bf16⟩
  | .local _ .vmem, ⟨7, _⟩ => ⟨S4x256x768, .bf16⟩
  | .local _ .vmem, ⟨8, _⟩ => ⟨S4x256x768, .bf16⟩
  | .local _ .vmem, ⟨9, _⟩ => ⟨S8x256x768, .bf16⟩
  | .local _ .vmem, ⟨10, _⟩ => ⟨S8x256x768, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S8x768x1024, .bf16⟩
  | .local _ .vmem, ⟨17, _⟩ => ⟨S4x768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev main_v19_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_316 : BitVec 32 := 0#32
  let v494 : BitVec 1 := Scalar.cmpi .eq arg0 c0_i32_316
  let v495 : BitVec 32 := Scalar.extui v494
  let c0_i32_317 : BitVec 32 := 0#32
  let v496 : BitVec 1 := Scalar.cmpi .ne v495 c0_i32_317
  v496

def k0_cond3 (i : grid0.Coords) : BitVec 1 :=
  let arg0 : BitVec 32 := BitVec.ofNat 32 (i 0).val
  let c0_i32_318 : BitVec 32 := 0#32
  let v497 : BitVec 1 := Scalar.cmpi .ne arg0 c0_i32_318
  let v498 : BitVec 32 := Scalar.extui v497
  let c0_i32_319 : BitVec 32 := 0#32
  let v499 : BitVec 1 := Scalar.cmpi .ne v498 c0_i32_319
  v499

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFfnIdeal.lean ====
abbrev S2048x1024 : Shape := ⟨2, ![2048, 1024]⟩
abbrev S1x1024 : Shape := ⟨2, ![1, 1024]⟩
abbrev S8x768x1024 : Shape := ⟨3, ![8, 768, 1024]⟩
abbrev S8x352x1024 : Shape := ⟨3, ![8, 352, 1024]⟩
abbrev S_ : Shape := ⟨0, ![]⟩
abbrev S2048 : Shape := ⟨1, ![2048]⟩
abbrev S2048x1 : Shape := ⟨2, ![2048, 1]⟩
abbrev S8x768x2048 : Shape := ⟨3, ![8, 768, 2048]⟩
abbrev S8x2048x768 : Shape := ⟨3, ![8, 2048, 768]⟩
abbrev S4x2048x768 : Shape := ⟨3, ![4, 2048, 768]⟩
abbrev S4x2048x704 : Shape := ⟨3, ![4, 2048, 704]⟩
abbrev S4x704x1024 : Shape := ⟨3, ![4, 704, 1024]⟩
abbrev S2048x4x704 : Shape := ⟨3, ![2048, 4, 704]⟩
abbrev S1024 : Shape := ⟨1, ![1024]⟩

abbrev nBuf : Space → Nat
  | .hbm => 93
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S8x768x1024, .f32⟩
  | .hbm, ⟨4, _⟩ => ⟨S8x352x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S8x768x2048, .f32⟩
  | .hbm, ⟨25, _⟩ => ⟨S8x2048x768, .f32⟩
  | .hbm, ⟨26, _⟩ => ⟨S4x2048x768, .f32⟩
  | .hbm, ⟨27, _⟩ => ⟨S4x2048x768, .f32⟩
  | .hbm, ⟨28, _⟩ => ⟨S4x2048x768, .f32⟩
  | .hbm, ⟨29, _⟩ => ⟨S4x2048x768, .f32⟩
  | .hbm, ⟨30, _⟩ => ⟨S_, .f32⟩
  | .hbm, ⟨31, _⟩ => ⟨S4x2048x768, .f32⟩
  | .hbm, ⟨32, _⟩ => ⟨S4x2048x768, .f32⟩
  | .hbm, ⟨33, _⟩ => ⟨S_, .f32⟩
  | .hbm, ⟨34, _⟩ => ⟨S4x2048x768, .f32⟩
  | .hbm, ⟨35, _⟩ => ⟨S4x2048x768, .f32⟩
  | .hbm, ⟨36, _⟩ => ⟨S_, .f32⟩
  | .hbm, ⟨37, _⟩ => ⟨S4x2048x768, .f32⟩
  | .hbm, ⟨38, _⟩ => ⟨S4x2048x768, .f32⟩
  | .hbm, ⟨39, _⟩ => ⟨S4x2048x768, .f32⟩
  | .hbm, ⟨40, _⟩ => ⟨S4x2048x768, .f32⟩
  | .hbm, ⟨41, _⟩ => ⟨S4x2048x768, .f32⟩
  | .hbm, ⟨42, _⟩ => ⟨S4x2048x704, .f32⟩
  | .hbm, ⟨43, _⟩ => ⟨S4x704x1024, .f32⟩
  | .hbm, ⟨44, _⟩ => ⟨S2048x1024, .f32⟩
  | .hbm, ⟨45, _⟩ => ⟨S_, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x4x704, .f32⟩
  | .hbm, ⟨52, _⟩ => ⟨S4x2048x704, .f32⟩
  | .hbm, ⟨53, _⟩ => ⟨S_, .f32⟩
  | .hbm, ⟨54, _⟩ => ⟨S4x2048x768, .f32⟩
  | .hbm, ⟨55, _⟩ => ⟨S4x2048x768, .f32⟩
  | .hbm, ⟨56, _⟩ => ⟨S4x2048x768, .f32⟩
  | .hbm, ⟨57, _⟩ => ⟨S4x2048x768, .f32⟩
  | .hbm, ⟨58, _⟩ => ⟨S4x2048x768, .f32⟩
  | .hbm, ⟨59, _⟩ => ⟨S4x2048x768, .f32⟩
  | .hbm, ⟨60, _⟩ => ⟨S4x2048x768, .f32⟩
  | .hbm, ⟨61, _⟩ => ⟨S8x2048x768, .f32⟩
  | .hbm, ⟨62, _⟩ => ⟨S8x768x2048, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S2048x1024, .f32⟩
  | .hbm, ⟨75, _⟩ => ⟨S2048x1024, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S8x2048x768, .bf16⟩
  | .hbm, ⟨88, _⟩ => ⟨S_, .f32⟩
  | .hbm, ⟨89, _⟩ => ⟨S2048x1024, .f32⟩
  | .hbm, ⟨90, _⟩ => ⟨S2048x1024, .f32⟩
  | .hbm, ⟨91, _⟩ => ⟨S2048x1024, .bf16⟩
  | .hbm, ⟨92, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== KernelInb.lean ====
abbrev S3x2048x1024 : Shape := ⟨3, ![3, 2048, 1024]⟩
abbrev S2048x1024 : Shape := ⟨2, ![2048, 1024]⟩
abbrev S2x2048x1024 : Shape := ⟨3, ![2, 2048, 1024]⟩
abbrev S8x1024x1024 : Shape := ⟨3, ![8, 1024, 1024]⟩
abbrev S1x1024 : Shape := ⟨2, ![1, 1024]⟩
abbrev S3x256x1024 : Shape := ⟨3, ![3, 256, 1024]⟩
abbrev S256x1024 : Shape := ⟨2, ![256, 1024]⟩
abbrev S2x256x1024 : Shape := ⟨3, ![2, 256, 1024]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x256x1024 : Shape := ⟨3, ![1, 256, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S3x2048x1024, .f32⟩
  | .hbm, ⟨1, _⟩ => ⟨S2048x1024, .f32⟩
  | .hbm, ⟨2, _⟩ => ⟨S2x2048x1024, .f32⟩
  | .hbm, ⟨3, _⟩ => ⟨S2x2048x1024, .f32⟩
  | .hbm, ⟨4, _⟩ => ⟨S8x1024x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S3x2048x1024, .bf16⟩
  | .hbm, ⟨9, _⟩ => ⟨S2048x1024, .bf16⟩
  | .hbm, ⟨10, _⟩ => ⟨S2x2048x1024, .bf16⟩
  | .hbm, ⟨11, _⟩ => ⟨S8x1024x1024, .bf16⟩
  | .hbm, ⟨12, _⟩ => ⟨S2048x1024, .f32⟩
  | .hbm, ⟨13, _⟩ => ⟨S1x1024, .f32⟩
  | .local _ .vmem, ⟨0, _⟩ => ⟨S3x256x1024, .bf16⟩
  | .local _ .vmem, ⟨1, _⟩ => ⟨S3x256x1024, .bf16⟩
  | .local _ .vmem, ⟨2, _⟩ => ⟨S256x1024, .bf16⟩
  | .local _ .vmem, ⟨3, _⟩ => ⟨S256x1024, .bf16⟩
  | .local _ .vmem, ⟨4, _⟩ => ⟨S2x256x1024, .f32⟩
  | .local _ .vmem, ⟨5, _⟩ => ⟨S2x256x1024, .f32⟩
  | .local _ .vmem, ⟨6, _⟩ => ⟨S2x256x1024, .bf16⟩
  | .local _ .vmem, ⟨7, _⟩ => ⟨S2x256x1024, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S8x1024x1024, .bf16⟩
  | _, _ => ⟨S3x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_61 : BitVec 32 := 0#32
  let v82 : BitVec 1 := Scalar.cmpi .eq arg0 c0_i32_61
  let v83 : BitVec 32 := Scalar.extui v82
  let c0_i32_62 : BitVec 32 := 0#32
  let v84 : BitVec 1 := Scalar.cmpi .ne v83 c0_i32_62
  v84

def k0_cond3 (i : grid0.Coords) : BitVec 1 :=
  let arg0 : BitVec 32 := BitVec.ofNat 32 (i 0).val
  let c0_i32_63 : BitVec 32 := 0#32
  let v85 : BitVec 1 := Scalar.cmpi .ne arg0 c0_i32_63
  let v86 : BitVec 32 := Scalar.extui v85
  let c0_i32_64 : BitVec 32 := 0#32
  let v87 : BitVec 1 := Scalar.cmpi .ne v86 c0_i32_64
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceInbIdeal.lean ====
abbrev S3x2048x1024 : Shape := ⟨3, ![3, 2048, 1024]⟩
abbrev S2048x1024 : Shape := ⟨2, ![2048, 1024]⟩
abbrev S2x2048x1024 : Shape := ⟨3, ![2, 2048, 1024]⟩
abbrev S8x1024x1024 : Shape := ⟨3, ![8, 1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x1024x2048 : Shape := ⟨3, ![8, 1024, 2048]⟩
abbrev S8x2048x1024 : Shape := ⟨3, ![8, 2048, 1024]⟩
abbrev S1x2048x1024 : Shape := ⟨3, ![1, 2048, 1024]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S3x2048x1024, .f32⟩
  | .hbm, ⟨1, _⟩ => ⟨S2048x1024, .f32⟩
  | .hbm, ⟨2, _⟩ => ⟨S2x2048x1024, .f32⟩
  | .hbm, ⟨3, _⟩ => ⟨S2x2048x1024, .f32⟩
  | .hbm, ⟨4, _⟩ => ⟨S8x1024x1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S8x1024x2048, .f32⟩
  | .hbm, ⟨28, _⟩ => ⟨S8x2048x1024, .f32⟩
  | .hbm, ⟨29, _⟩ => ⟨S3x2048x1024, .f32⟩
  | .hbm, ⟨30, _⟩ => ⟨S1x2048x1024, .f32⟩
  | .hbm, ⟨31, _⟩ => ⟨S2048x1024, .f32⟩
  | .hbm, ⟨32, _⟩ => ⟨S2x2048x1024, .f32⟩
  | .hbm, ⟨33, _⟩ => ⟨S2x2048x1024, .f32⟩
  | .hbm, ⟨34, _⟩ => ⟨S_, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S1x2048x1024, .f32⟩
  | .hbm, ⟨40, _⟩ => ⟨S_, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048x1024, .f32⟩
  | .hbm, ⟨45, _⟩ => ⟨S8x2048x1024, .f32⟩
  | .hbm, ⟨46, _⟩ => ⟨S8x1024x2048, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | _, _ => ⟨S3x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== KernelFwd.lean ====
abbrev S2048x1024 : Shape := ⟨2, ![2048, 1024]⟩
abbrev S1x1024 : Shape := ⟨2, ![1, 1024]⟩
abbrev S8x768x1024 : Shape := ⟨3, ![8, 768, 1024]⟩
abbrev S8x352x1024 : Shape := ⟨3, ![8, 352, 1024]⟩
abbrev S4x2048x768 : Shape := ⟨3, ![4, 2048, 768]⟩
abbrev S256x1024 : Shape := ⟨2, ![256, 1024]⟩
abbrev S4x256x768 : Shape := ⟨3, ![4, 256, 768]⟩
abbrev S4x768x1024 : Shape := ⟨3, ![4, 768, 1024]⟩
abbrev S9 : Shape := ⟨1, ![9]⟩
abbrev S1 : Shape := ⟨1, ![1]⟩
abbrev S_ : Shape := ⟨0, ![]⟩
abbrev S1x352x1024 : Shape := ⟨3, ![1, 352, 1024]⟩
abbrev S4x64x1024 : Shape := ⟨3, ![4, 64, 1024]⟩
abbrev S256 : Shape := ⟨1, ![256]⟩
abbrev S256x1 : Shape := ⟨2, ![256, 1]⟩
abbrev S1x256x1024 : Shape := ⟨3, ![1, 256, 1024]⟩
abbrev S256x256 : Shape := ⟨2, ![256, 256]⟩
abbrev S1x256x256 : Shape := ⟨3, ![1, 256, 256]⟩
abbrev S1x256x768 : Shape := ⟨3, ![1, 256, 768]⟩
abbrev S256x768 : Shape := ⟨2, ![256, 768]⟩
abbrev S1x768x1024 : Shape := ⟨3, ![1, 768, 1024]⟩
abbrev S768x1024 : Shape := ⟨2, ![768, 1024]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x768x1024, .f32⟩
  | .hbm, ⟨3, _⟩ => ⟨S8x352x1024, .f32⟩
  | .hbm, ⟨4, _⟩ => ⟨S8x768x1024, .bf16⟩
  | .hbm, ⟨5, _⟩ => ⟨S8x352x1024, .bf16⟩
  | .hbm, ⟨6, _⟩ => ⟨S2048x1024, .bf16⟩
  | .hbm, ⟨7, _⟩ => ⟨S4x2048x768, .bf16⟩
  | .hbm, ⟨8, _⟩ => ⟨S4x2048x768, .bf16⟩
  | .hbm, ⟨9, _⟩ => ⟨S4x2048x768, .bf16⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S4x256x768, .bf16⟩
  | .local _ .vmem, ⟨6, _⟩ => ⟨S4x256x768, .bf16⟩
  | .local _ .vmem, ⟨7, _⟩ => ⟨S4x256x768, .bf16⟩
  | .local _ .vmem, ⟨8, _⟩ => ⟨S4x256x768, .bf16⟩
  | .local _ .vmem, ⟨9, _⟩ => ⟨S4x256x768, .bf16⟩
  | .local _ .vmem, ⟨10, _⟩ => ⟨S4x256x768, .bf16⟩
  | .local _ .vmem, ⟨11, _⟩ => ⟨S256x1024, .f32⟩
  | .local _ .vmem, ⟨12, _⟩ => ⟨S256x1024, .f32⟩
  | .local _ .vmem, ⟨13, _⟩ => ⟨S8x768x1024, .bf16⟩
  | .local _ .vmem, ⟨14, _⟩ => ⟨S4x768x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceFwdIdeal.lean ====
abbrev S2048x1024 : Shape := ⟨2, ![2048, 1024]⟩
abbrev S1x1024 : Shape := ⟨2, ![1, 1024]⟩
abbrev S8x768x1024 : Shape := ⟨3, ![8, 768, 1024]⟩
abbrev S8x352x1024 : Shape := ⟨3, ![8, 352, 1024]⟩
abbrev S_ : Shape := ⟨0, ![]⟩
abbrev S2048 : Shape := ⟨1, ![2048]⟩
abbrev S2048x1 : Shape := ⟨2, ![2048, 1]⟩
abbrev S8x768x2048 : Shape := ⟨3, ![8, 768, 2048]⟩
abbrev S8x2048x768 : Shape := ⟨3, ![8, 2048, 768]⟩
abbrev S4x2048x768 : Shape := ⟨3, ![4, 2048, 768]⟩
abbrev S4x2048x704 : Shape := ⟨3, ![4, 2048, 704]⟩
abbrev S4x704x1024 : Shape := ⟨3, ![4, 704, 1024]⟩

abbrev nBuf : Space → Nat
  | .hbm => 71
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x768x1024, .f32⟩
  | .hbm, ⟨3, _⟩ => ⟨S8x352x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S8x768x2048, .f32⟩
  | .hbm, ⟨20, _⟩ => ⟨S8x2048x768, .f32⟩
  | .hbm, ⟨21, _⟩ => ⟨S4x2048x768, .f32⟩
  | .hbm, ⟨22, _⟩ => ⟨S4x2048x768, .f32⟩
  | .hbm, ⟨23, _⟩ => ⟨S4x2048x768, .f32⟩
  | .hbm, ⟨24, _⟩ => ⟨S4x2048x768, .f32⟩
  | .hbm, ⟨25, _⟩ => ⟨S_, .f32⟩
  | .hbm, ⟨26, _⟩ => ⟨S4x2048x768, .f32⟩
  | .hbm, ⟨27, _⟩ => ⟨S4x2048x768, .f32⟩
  | .hbm, ⟨28, _⟩ => ⟨S_, .f32⟩
  | .hbm, ⟨29, _⟩ => ⟨S4x2048x768, .f32⟩
  | .hbm, ⟨30, _⟩ => ⟨S4x2048x768, .f32⟩
  | .hbm, ⟨31, _⟩ => ⟨S4x2048x768, .f32⟩
  | .hbm, ⟨32, _⟩ => ⟨S4x2048x768, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | .hbm, ⟨49, _⟩ => ⟨S4x2048x768, .bf16⟩
  | .hbm, ⟨50, _⟩ => ⟨S4x2048x768, .bf16⟩
  | .hbm, ⟨51, _⟩ => ⟨S4x2048x768, .bf16⟩
  | .hbm, ⟨52, _⟩ => ⟨S4x2048x768, .f32⟩
  | .hbm, ⟨53, _⟩ => ⟨S4x2048x768, .f32⟩
  | .hbm, ⟨54, _⟩ => ⟨S4x2048x768, .f32⟩
  | .hbm, ⟨55, _⟩ => ⟨S4x2048x768, .f32⟩
  | .hbm, ⟨56, _⟩ => ⟨S_, .f32⟩
  | .hbm, ⟨57, _⟩ => ⟨S4x2048x768, .f32⟩
  | .hbm, ⟨58, _⟩ => ⟨S4x2048x768, .f32⟩
  | .hbm, ⟨59, _⟩ => ⟨S_, .f32⟩
  | .hbm, ⟨60, _⟩ => ⟨S4x2048x768, .f32⟩
  | .hbm, ⟨61, _⟩ => ⟨S4x2048x768, .f32⟩
  | .hbm, ⟨62, _⟩ => ⟨S4x2048x768, .f32⟩
  | .hbm, ⟨63, _⟩ => ⟨S4x2048x768, .f32⟩
  | .hbm, ⟨64, _⟩ => ⟨S4x2048x704, .f32⟩
  | .hbm, ⟨65, _⟩ => ⟨S4x704x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== KernelAdIn.lean ====
abbrev S1024x1024 : Shape := ⟨2, ![1024, 1024]⟩
abbrev S4x1024x1024 : Shape := ⟨3, ![4, 1024, 1024]⟩
abbrev S1 : Shape := ⟨1, ![1]⟩
abbrev S_ : Shape := ⟨0, ![]⟩
abbrev S8x128 : Shape := ⟨2, ![8, 128]⟩
abbrev S256x1024 : Shape := ⟨2, ![256, 1024]⟩
abbrev S4x256x1024 : Shape := ⟨3, ![4, 256, 1024]⟩
abbrev S1x256x1024 : Shape := ⟨3, ![1, 256, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S8x128, .f32⟩
  | .hbm, ⟨7, _⟩ => ⟨S4x1024x1024, .bf16⟩
  | .hbm, ⟨8, _⟩ => ⟨S4x1024x1024, .bf16⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x128, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x128, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdInIdeal.lean ====
abbrev S1024x1024 : Shape := ⟨2, ![1024, 1024]⟩
abbrev S4x1024x1024 : Shape := ⟨3, ![4, 1024, 1024]⟩
abbrev S1 : Shape := ⟨1, ![1]⟩
abbrev S_ : Shape := ⟨0, ![]⟩
abbrev S8x128 : Shape := ⟨2, ![8, 128]⟩
abbrev S256x1024 : Shape := ⟨2, ![256, 1024]⟩
abbrev S4x256x1024 : Shape := ⟨3, ![4, 256, 1024]⟩
abbrev S1x256x1024 : Shape := ⟨3, ![1, 256, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S8x128, .f32⟩
  | .hbm, ⟨7, _⟩ => ⟨S4x1024x1024, .bf16⟩
  | .hbm, ⟨8, _⟩ => ⟨S4x1024x1024, .bf16⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S4x256x1024, .bf16⟩
  | .local _ .vmem, ⟨3, _⟩ => ⟨S4x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S8x128, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x128, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdInIdeal.lean ====
abbrev S1024x1024 : Shape := ⟨2, ![1024, 1024]⟩
abbrev S4x1024x1024 : Shape := ⟨3, ![4, 1024, 1024]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4x1024x1024, .f32⟩
  | .hbm, ⟨2, _⟩ => ⟨S4x1024x1024, .f32⟩
  | .hbm, ⟨3, _⟩ => ⟨S1, .i32⟩
  | .hbm, ⟨4, _⟩ => ⟨S1024x1024, .f32⟩
  | .hbm, ⟨5, _⟩ => ⟨S1024x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x1024x1024, .i1⟩
  | .hbm, ⟨12, _⟩ => ⟨S4x1024x1024, .f32⟩
  | .hbm, ⟨13, _⟩ => ⟨S_, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .f32⟩
  | .hbm, ⟨41, _⟩ => ⟨S_, .f32⟩
  | .hbm, ⟨42, _⟩ => ⟨S1024x1024, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdDown.lean ====
abbrev S352x1024 : Shape := ⟨2, ![352, 1024]⟩
abbrev S4x352x1024 : Shape := ⟨3, ![4, 352, 1024]⟩
abbrev S1 : Shape := ⟨1, ![1]⟩
abbrev S_ : Shape := ⟨0, ![]⟩
abbrev S8x128 : Shape := ⟨2, ![8, 128]⟩
abbrev S176x1024 : Shape := ⟨2, ![176, 1024]⟩
abbrev S4x176x1024 : Shape := ⟨3, ![4, 176, 1024]⟩
abbrev S1x176x1024 : Shape := ⟨3, ![1, 176, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S352x1024, .f32⟩
  | .hbm, ⟨1, _⟩ => ⟨S4x352x1024, .f32⟩
  | .hbm, ⟨2, _⟩ => ⟨S4x352x1024, .f32⟩
  | .hbm, ⟨3, _⟩ => ⟨S352x1024, .f32⟩
  | .hbm, ⟨4, _⟩ => ⟨S352x1024, .f32⟩
  | .hbm, ⟨5, _⟩ => ⟨S_, .f32⟩
  | .hbm, ⟨6, _⟩ => ⟨S8x128, .f32⟩
  | .hbm, ⟨7, _⟩ => ⟨S4x352x1024, .bf16⟩
  | .hbm, ⟨8, _⟩ => ⟨S4x352x1024, .bf16⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S8x128, .f32⟩
  | .local _ .vmem, ⟨0, _⟩ => ⟨S176x1024, .f32⟩
  | .local _ .vmem, ⟨1, _⟩ => ⟨S176x1024, .f32⟩
  | .local _ .vmem, ⟨2, _⟩ => ⟨S4x176x1024, .bf16⟩
  | .local _ .vmem, ⟨3, _⟩ => ⟨S4x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S8x128, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S8x128, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdDownIdeal.lean ====
abbrev S352x1024 : Shape := ⟨2, ![352, 1024]⟩
abbrev S4x352x1024 : Shape := ⟨3, ![4, 352, 1024]⟩
abbrev S1 : Shape := ⟨1, ![1]⟩
abbrev S_ : Shape := ⟨0, ![]⟩
abbrev S8x128 : Shape := ⟨2, ![8, 128]⟩
abbrev S176x1024 : Shape := ⟨2, ![176, 1024]⟩
abbrev S4x176x1024 : Shape := ⟨3, ![4, 176, 1024]⟩
abbrev S1x176x1024 : Shape := ⟨3, ![1, 176, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S352x1024, .f32⟩
  | .hbm, ⟨1, _⟩ => ⟨S4x352x1024, .f32⟩
  | .hbm, ⟨2, _⟩ => ⟨S4x352x1024, .f32⟩
  | .hbm, ⟨3, _⟩ => ⟨S352x1024, .f32⟩
  | .hbm, ⟨4, _⟩ => ⟨S352x1024, .f32⟩
  | .hbm, ⟨5, _⟩ => ⟨S_, .f32⟩
  | .hbm, ⟨6, _⟩ => ⟨S8x128, .f32⟩
  | .hbm, ⟨7, _⟩ => ⟨S4x352x1024, .bf16⟩
  | .hbm, ⟨8, _⟩ => ⟨S4x352x1024, .bf16⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S352x1024, .f32⟩
  | .hbm, ⟨13, _⟩ => ⟨S8x128, .f32⟩
  | .local _ .vmem, ⟨0, _⟩ => ⟨S176x1024, .f32⟩
  | .local _ .vmem, ⟨1, _⟩ => ⟨S176x1024, .f32⟩
  | .local _ .vmem, ⟨2, _⟩ => ⟨S4x176x1024, .bf16⟩
  | .local _ .vmem, ⟨3, _⟩ => ⟨S4x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S8x128, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S8x128, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdDownIdeal.lean ====
abbrev S352x1024 : Shape := ⟨2, ![352, 1024]⟩
abbrev S4x352x1024 : Shape := ⟨3, ![4, 352, 1024]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S4x352x1024, .f32⟩
  | .hbm, ⟨2, _⟩ => ⟨S4x352x1024, .f32⟩
  | .hbm, ⟨3, _⟩ => ⟨S1, .i32⟩
  | .hbm, ⟨4, _⟩ => ⟨S352x1024, .f32⟩
  | .hbm, ⟨5, _⟩ => ⟨S352x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x352x1024, .i1⟩
  | .hbm, ⟨12, _⟩ => ⟨S4x352x1024, .f32⟩
  | .hbm, ⟨13, _⟩ => ⟨S_, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdCkv.lean ====
abbrev S1024x256 : Shape := ⟨2, ![1024, 256]⟩
abbrev S4x1024x256 : Shape := ⟨3, ![4, 1024, 256]⟩
abbrev S1 : Shape := ⟨1, ![1]⟩
abbrev S_ : Shape := ⟨0, ![]⟩
abbrev S8x128 : Shape := ⟨2, ![8, 128]⟩
abbrev S256x256 : Shape := ⟨2, ![256, 256]⟩
abbrev S4x256x256 : Shape := ⟨3, ![4, 256, 256]⟩
abbrev S1x256x256 : Shape := ⟨3, ![1, 256, 256]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S1024x256, .f32⟩
  | .hbm, ⟨1, _⟩ => ⟨S4x1024x256, .f32⟩
  | .hbm, ⟨2, _⟩ => ⟨S4x1024x256, .f32⟩
  | .hbm, ⟨3, _⟩ => ⟨S1024x256, .f32⟩
  | .hbm, ⟨4, _⟩ => ⟨S1024x256, .f32⟩
  | .hbm, ⟨5, _⟩ => ⟨S_, .f32⟩
  | .hbm, ⟨6, _⟩ => ⟨S8x128, .f32⟩
  | .hbm, ⟨7, _⟩ => ⟨S4x1024x256, .bf16⟩
  | .hbm, ⟨8, _⟩ => ⟨S4x1024x256, .bf16⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S8x128, .f32⟩
  | .local _ .vmem, ⟨0, _⟩ => ⟨S256x256, .f32⟩
  | .local _ .vmem, ⟨1, _⟩ => ⟨S256x256, .f32⟩
  | .local _ .vmem, ⟨2, _⟩ => ⟨S4x256x256, .bf16⟩
  | .local _ .vmem, ⟨3, _⟩ => ⟨S4x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S8x128, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S8x128, .f32⟩
  | .local _ .smem, ⟨0, _⟩ => ⟨S1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdCkvIdeal.lean ====
abbrev S1024x256 : Shape := ⟨2, ![1024, 256]⟩
abbrev S4x1024x256 : Shape := ⟨3, ![4, 1024, 256]⟩
abbrev S1 : Shape := ⟨1, ![1]⟩
abbrev S_ : Shape := ⟨0, ![]⟩
abbrev S8x128 : Shape := ⟨2, ![8, 128]⟩
abbrev S256x256 : Shape := ⟨2, ![256, 256]⟩
abbrev S4x256x256 : Shape := ⟨3, ![4, 256, 256]⟩
abbrev S1x256x256 : Shape := ⟨3, ![1, 256, 256]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S1024x256, .f32⟩
  | .hbm, ⟨1, _⟩ => ⟨S4x1024x256, .f32⟩
  | .hbm, ⟨2, _⟩ => ⟨S4x1024x256, .f32⟩
  | .hbm, ⟨3, _⟩ => ⟨S1024x256, .f32⟩
  | .hbm, ⟨4, _⟩ => ⟨S1024x256, .f32⟩
  | .hbm, ⟨5, _⟩ => ⟨S_, .f32⟩
  | .hbm, ⟨6, _⟩ => ⟨S8x128, .f32⟩
  | .hbm, ⟨7, _⟩ => ⟨S4x1024x256, .bf16⟩
  | .hbm, ⟨8, _⟩ => ⟨S4x1024x256, .bf16⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S8x128, .f32⟩
  | .local _ .vmem, ⟨0, _⟩ => ⟨S256x256, .f32⟩
  | .local _ .vmem, ⟨1, _⟩ => ⟨S256x256, .f32⟩
  | .local _ .vmem, ⟨2, _⟩ => ⟨S4x256x256, .bf16⟩
  | .local _ .vmem, ⟨3, _⟩ => ⟨S4x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S8x128, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S8x128, .f32⟩
  | .local _ .smem, ⟨0, _⟩ => ⟨S1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdCkvIdeal.lean ====
abbrev S1024x256 : Shape := ⟨2, ![1024, 256]⟩
abbrev S4x1024x256 : Shape := ⟨3, ![4, 1024, 256]⟩
abbrev S1 : Shape := ⟨1, ![1]⟩
abbrev S4 : Shape := ⟨1, ![4]⟩
abbrev S4x1x1 : Shape := ⟨3, ![4, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S4x1024x256, .f32⟩
  | .hbm, ⟨2, _⟩ => ⟨S4x1024x256, .f32⟩
  | .hbm, ⟨3, _⟩ => ⟨S1, .i32⟩
  | .hbm, ⟨4, _⟩ => ⟨S1024x256, .f32⟩
  | .hbm, ⟨5, _⟩ => ⟨S1024x256, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x1024x256, .i1⟩
  | .hbm, ⟨12, _⟩ => ⟨S4x1024x256, .f32⟩
  | .hbm, ⟨13, _⟩ => ⟨S_, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S1024x256, .f32⟩
  | .hbm, ⟨41, _⟩ => ⟨S_, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== KernelAdMix0.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdMix0Ideal.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdMix0Ideal.lean ====
abbrev S128x1024 : Shape := ⟨2, ![128, 1024]⟩
abbrev S4x384x1024 : Shape := ⟨3, ![4, 384, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S384x1024 : Shape := ⟨2, ![384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S1, .i32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x384x1024, .i1⟩
  | .hbm, ⟨12, _⟩ => ⟨S4x384x1024, .f32⟩
  | .hbm, ⟨13, _⟩ => ⟨S_, .f32⟩
  | .hbm, ⟨14, _⟩ => ⟨S384x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelAdMix1.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi arg0 c2_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdMix1Ideal.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi arg0 c2_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdMix1Ideal.lean ====
abbrev S128x1024 : Shape := ⟨2, ![128, 1024]⟩
abbrev S4x384x1024 : Shape := ⟨3, ![4, 384, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S384x1024 : Shape := ⟨2, ![384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S1, .i32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x384x1024, .i1⟩
  | .hbm, ⟨12, _⟩ => ⟨S4x384x1024, .f32⟩
  | .hbm, ⟨13, _⟩ => ⟨S_, .f32⟩
  | .hbm, ⟨14, _⟩ => ⟨S384x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelAdMix2.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi arg0 c4_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdMix2Ideal.lean ====
abbrev S128x1024 : Shape := ⟨2, ![128, 1024]⟩
abbrev S4x384x1024 : Shape := ⟨3, ![4, 384, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x384x1024, .bf16⟩
  | .hbm, ⟨8, _⟩ => ⟨S4x384x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.addi arg0 c4_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdMix2Ideal.lean ====
abbrev S128x1024 : Shape := ⟨2, ![128, 1024]⟩
abbrev S4x384x1024 : Shape := ⟨3, ![4, 384, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S384x1024 : Shape := ⟨2, ![384, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x384x1024, .f32⟩
  | .hbm, ⟨2, _⟩ => ⟨S4x384x1024, .f32⟩
  | .hbm, ⟨3, _⟩ => ⟨S1, .i32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x384x1024, .i1⟩
  | .hbm, ⟨12, _⟩ => ⟨S4x384x1024, .f32⟩
  | .hbm, ⟨13, _⟩ => ⟨S_, .f32⟩
  | .hbm, ⟨14, _⟩ => ⟨S384x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelAdCross0.lean ====
abbrev S128x1024 : Shape := ⟨2, ![128, 1024]⟩
abbrev S4x256x1024 : Shape := ⟨3, ![4, 256, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x256x1024, .bf16⟩
  | .hbm, ⟨8, _⟩ => ⟨S4x256x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdCross0Ideal.lean ====
abbrev S128x1024 : Shape := ⟨2, ![128, 1024]⟩
abbrev S4x256x1024 : Shape := ⟨3, ![4, 256, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x256x1024, .bf16⟩
  | .hbm, ⟨8, _⟩ => ⟨S4x256x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdCross0Ideal.lean ====
abbrev S128x1024 : Shape := ⟨2, ![128, 1024]⟩
abbrev S4x256x1024 : Shape := ⟨3, ![4, 256, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S1, .i32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x256x1024, .i1⟩
  | .hbm, ⟨12, _⟩ => ⟨S4x256x1024, .f32⟩
  | .hbm, ⟨13, _⟩ => ⟨S_, .f32⟩
  | .hbm, ⟨14, _⟩ => ⟨S256x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelAdCross1.lean ====
abbrev S128x1024 : Shape := ⟨2, ![128, 1024]⟩
abbrev S4x256x1024 : Shape := ⟨3, ![4, 256, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x256x1024, .bf16⟩
  | .hbm, ⟨8, _⟩ => ⟨S4x256x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi arg0 c2_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelAdCross1Ideal.lean ====
abbrev S128x1024 : Shape := ⟨2, ![128, 1024]⟩
abbrev S4x256x1024 : Shape := ⟨3, ![4, 256, 1024]⟩
abbrev S1 : Shape := ⟨1, ![1]⟩
abbrev S_ : Shape := ⟨0, ![]⟩
abbrev S8x128 : Shape := ⟨2, ![8, 128]⟩
abbrev S64x1024 : Shape := ⟨2, ![64, 1024]⟩
abbrev S4x64x1024 : Shape := ⟨3, ![4, 64, 1024]⟩
abbrev S1x64x1024 : Shape := ⟨3, ![1, 64, 1024]⟩
abbrev S1x1 : Shape := ⟨2, ![1, 1]⟩

abbrev nBuf : Space → Nat
  | .hbm => 14
  | .vmem => 20
  | .smem => 1
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S128x1024, .f32⟩
  | .hbm, ⟨4, _⟩ => ⟨S128x1024, .f32⟩
  | .hbm, ⟨5, _⟩ => ⟨S_, .f32⟩
  | .hbm, ⟨6, _⟩ => ⟨S8x128, .f32⟩
  | .hbm, ⟨7, _⟩ => ⟨S4x256x1024, .bf16⟩
  | .hbm, ⟨8, _⟩ => ⟨S4x256x1024, .bf16⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S8x128, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S1x64x1024, .bf16⟩
  | .local _ .vmem, ⟨5, _⟩ => ⟨S1x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x128, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S8x128, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![c0_i32.toNat, v0.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.addi arg0 c2_i32
  let c0_i32 : BitVec 32 := 0#32
  let c0_i32_0 : BitVec 32 := 0#32
  ![v0.toNat, v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdCross1Ideal.lean ====
abbrev S128x1024 : Shape := ⟨2, ![128, 1024]⟩
abbrev S4x256x1024 : Shape := ⟨3, ![4, 256, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S4x256x1024, .f32⟩
  | .hbm, ⟨2, _⟩ => ⟨S4x256x1024, .f32⟩
  | .hbm, ⟨3, _⟩ => ⟨S1, .i32⟩
  | .hbm, ⟨4, _⟩ => ⟨S128x1024, .f32⟩
  | .hbm, ⟨5, _⟩ => ⟨S128x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x256x1024, .i1⟩
  | .hbm, ⟨12, _⟩ => ⟨S4x256x1024, .f32⟩
  | .hbm, ⟨13, _⟩ => ⟨S_, .f32⟩
  | .hbm, ⟨14, _⟩ => ⟨S256x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== KernelAdGu.lean ====
abbrev S704x1024 : Shape := ⟨2, ![704, 1024]⟩
abbrev S4x768x1024 : Shape := ⟨3, ![4, 768, 1024]⟩
abbrev S1 : Shape := ⟨1, ![1]⟩
abbrev S4x704x1024 : Shape := ⟨3, ![4, 704, 1024]⟩
abbrev S_ : Shape := ⟨0, ![]⟩
abbrev S8x128 : Shape := ⟨2, ![8, 128]⟩
abbrev S176x1024 : Shape := ⟨2, ![176, 1024]⟩
abbrev S4x176x1024 : Shape := ⟨3, ![4, 176, 1024]⟩
abbrev S1x176x1024 : Shape := ⟨3, ![1, 176, 1024]⟩
abbrev S1x1 : Shape := ⟨2, ![1, 1]⟩

abbrev nBuf : Space → Nat
  | .hbm => 16
  | .vmem => 20
  | .smem => 1
  | _ => 0

abbrev bufTy : (tb : Table) → Fin (tcTables nBuf tb) → BufTy
  | .hbm, ⟨0, _⟩ => ⟨S704x1024, .f32⟩
  | .hbm, ⟨1, _⟩ => ⟨S4x768x1024, .f32⟩
  | .hbm, ⟨2, _⟩ => ⟨S4x768x1024, .f32⟩
  | .hbm, ⟨3, _⟩ => ⟨S704x1024, .f32⟩
  | .hbm, ⟨4, _⟩ => ⟨S704x1024, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S8x128, .f32⟩
  | .hbm, ⟨9, _⟩ => ⟨S4x704x1024, .bf16⟩
  | .hbm, ⟨10, _⟩ => ⟨S4x704x1024, .bf16⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S8x128, .f32⟩
  | .local _ .vmem, ⟨0, _⟩ => ⟨S176x1024, .f32⟩
  | .local _ .vmem, ⟨1, _⟩ => ⟨S176x1024, .f32⟩
  | .local _ .vmem, ⟨2, _⟩ => ⟨S4x176x1024, .bf16⟩
  | .local _ .vmem, ⟨3, _⟩ => ⟨S4x176x1024, .bf16⟩
  | .local _ .vmem, ⟨4, _⟩ => ⟨S1x176x1024, .bf16⟩
  | .local _ .vmem, ⟨5, _⟩ => ⟨S1x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S8x128, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S8x128, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.addi arg0 c0_i32
  let c0_i32_0 : BitVec 32 := 0#32
  let c0_i32_1 : BitVec 32 := 0#32
  ![v0.toNat, v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAdGuIdeal.lean ====
abbrev S704x1024 : Shape := ⟨2, ![704, 1024]⟩
abbrev S4x768x1024 : Shape := ⟨3, ![4, 768, 1024]⟩
abbrev S1 : Shape := ⟨1, ![1]⟩
abbrev S4 : Shape := ⟨1, ![4]⟩
abbrev S4x1x1 : Shape := ⟨3, ![4, 1, 1]⟩
abbrev S_ : Shape := ⟨0, ![]⟩
abbrev S768x1024 : Shape := ⟨2, ![768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S4x768x1024, .f32⟩
  | .hbm, ⟨2, _⟩ => ⟨S4x768x1024, .f32⟩
  | .hbm, ⟨3, _⟩ => ⟨S1, .i32⟩
  | .hbm, ⟨4, _⟩ => ⟨S704x1024, .f32⟩
  | .hbm, ⟨5, _⟩ => ⟨S704x1024, .f32⟩
  | .hbm, ⟨6, _⟩ => ⟨S4, .i32⟩
  | .hbm, ⟨7, _⟩ => ⟨S4x1x1, .i32⟩
  | .hbm, ⟨8, _⟩ => ⟨S_, .i32⟩
  | .hbm, ⟨9, _⟩ => ⟨S4x1x1, .i32⟩
  | .hbm, ⟨10, _⟩ => ⟨S4x1x1, .i1⟩
  | .hbm, ⟨11, _⟩ => ⟨S4x768x1024, .i1⟩
  | .hbm, ⟨12, _⟩ => ⟨S4x768x1024, .f32⟩
  | .hbm, ⟨13, _⟩ => ⟨S_, .f32⟩
  | .hbm, ⟨14, _⟩ => ⟨S768x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Calc.lean ====
module

public import proofs.«01_k».proof.Proof.Gen.KernelIdeal.Skeleton
public import Idealize.ShloMosaic.Lib.Pointwise
public import Idealize.ShloMosaic.Lib.MatmulPlain
public import Idealize.ShloMosaic.Lib.ValueLayout
public import Idealize.ShloMosaic.Lib.ValueLayoutCasts
public import Idealize.ShloMosaic.Lib.WritesUnit

/-!
Readings of arrays of extended reals as real functions of natural number coordinates.
`Is2 v f` says that every element of the matrix `v` is the real number `f i j`; the instances
below carry such readings through the vector operations, so that the real function computed by a
composed expression is found by instance search.
-/

@[expose] public section

noncomputable section

namespace Cert.Calc

open Idealize.ShloMosaic hiding ix1 ix2 ix3 ix4
open Idealize.ShloMosaic.ValueIdx
open scoped BigOperators

/-- The scalar `x` is the real number `r`. -/
class IsS (x : EReal) (r : outParam ℝ) : Prop where
  eq : x = (r : EReal)

/-- The vector `v` holds the real numbers `f i`. -/
class Is1 {a : ℕ} (v : (⟨1, ![a]⟩ : Shape).Idx → EReal) (f : outParam (ℕ → ℝ)) : Prop where
  eq : ∀ (i : Fin a), v (ix1 i) = ((f i : ℝ) : EReal)

/-- The matrix `v` holds the real numbers `f i j`. -/
class Is2 {a b : ℕ} (v : (⟨2, ![a, b]⟩ : Shape).Idx → EReal) (f : outParam (ℕ → ℕ → ℝ)) : Prop where
  eq : ∀ (i : Fin a) (j : Fin b), v (ix2 i j) = ((f i j : ℝ) : EReal)

/-- The array `v` of rank three holds the real numbers `f i j k`. -/
class Is3 {a b c : ℕ} (v : (⟨3, ![a, b, c]⟩ : Shape).Idx → EReal) (f : outParam (ℕ → ℕ → ℕ → ℝ)) : Prop where
  eq : ∀ (i : Fin a) (j : Fin b) (k : Fin c), v (ix3 i j k) = ((f i j k : ℝ) : EReal)

/-- The mask `c` is one exactly where `p` holds. -/
class Mask2 {a b : ℕ} (c : (⟨2, ![a, b]⟩ : Shape).Idx → BitVec 1) (p : outParam (ℕ → ℕ → Bool)) : Prop where
  eq : ∀ (i : Fin a) (j : Fin b), c (ix2 i j) = if p i j then 1#1 else 0#1

theorem Is1.congr {a : ℕ} {v : (⟨1, ![a]⟩ : Shape).Idx → EReal} {f g : ℕ → ℝ} (h : Is1 v f)
    (hfg : ∀ i, i < a → f i = g i) : Is1 v g :=
  ⟨fun i => by rw [h.eq, hfg _ i.isLt]⟩

theorem Is2.congr {a b : ℕ} {v : (⟨2, ![a, b]⟩ : Shape).Idx → EReal} {f g : ℕ → ℕ → ℝ} (h : Is2 v f)
    (hfg : ∀ i j, i < a → j < b → f i j = g i j) : Is2 v g :=
  ⟨fun i j => by rw [h.eq, hfg _ _ i.isLt j.isLt]⟩

theorem Is3.congr {a b c : ℕ} {v : (⟨3, ![a, b, c]⟩ : Shape).Idx → EReal} {f g : ℕ → ℕ → ℕ → ℝ} (h : Is3 v f)
    (hfg : ∀ i j k, i < a → j < b → k < c → f i j k = g i j k) : Is3 v g :=
  ⟨fun i j k => by rw [h.eq, hfg _ _ _ i.isLt j.isLt k.isLt]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

theorem sum_fin {n : ℕ} (f : Fin n → EReal) (g : ℕ → ℝ) (h : ∀ i : Fin n, f i = ((g i : ℝ) : EReal)) :
    ∑ i : Fin n, f i = ((∑ i ∈ Finset.range n, g i : ℝ) : EReal) := by
  rw [Finset.sum_range, coe_sum]
  exact Finset.sum_congr rfl fun i _ => h i

/-! ### Scalars -/

instance ofBits_zero : IsS (Scalar.ofBits (F := Ideal) .f32 0x00000000#32) 0 :=
  ⟨by rw [EReal.coe_zero]; exact Ideal.ofBits_zero .f32⟩

instance ofBits_zero' : IsS (FloatOps.ofBits (F := Ideal) .f32 0x00000000#32) 0 :=
  ⟨by rw [EReal.coe_zero]; exact Ideal.ofBits_zero .f32⟩

instance ofBits_one : IsS (Scalar.ofBits (F := Ideal) .f32 0x3F800000#32) 1 :=
  ⟨by rw [EReal.coe_one]; exact Ideal.ofBits_one_f32⟩

/-- The factor of the logits, the softmax scale over the natural logarithm of two. -/
def cz : ℝ := (Real.sqrt 128)⁻¹ * (Real.log 2)⁻¹
/-- The reciprocal of the natural logarithm of two. -/
def cl : ℝ := (Real.log 2)⁻¹
/-- The scale of the logits. -/
def cs : ℝ := (Real.sqrt 128)⁻¹

instance named_z : IsS (Named.named (F := Ideal) (φ := .f32) Cert.KernelIdeal.κ "scale_log2_e" 0x3E0293EE#32) cz :=
  ⟨IdealRules.named_const.ideal_named_scalar _ _ _ _ rfl⟩
instance named_l : IsS (Named.named (F := Ideal) (φ := .f32) Cert.KernelIdeal.κ "log2_e" 0x3FB8AA3B#32) cl :=
  ⟨IdealRules.named_const.ideal_named_scalar _ _ _ _ rfl⟩
instance named_s : IsS (Named.named (F := Ideal) (φ := .f32) Cert.KernelIdeal.κ "scale" 0x3DB504F3#32) cs :=
  ⟨IdealRules.named_const.ideal_named_scalar _ _ _ _ rfl⟩

/-! ### Elementwise operations -/

section Elementwise
variable {a b c : ℕ} {φ : FTy}

instance bcast2 (x : EReal) (r : ℝ) [h : IsS x r] : Is2 (broadcast (⟨2, ![a, b]⟩ : Shape) x) (fun _ _ => r) :=
  ⟨fun _ _ => h.eq⟩
instance bcast3 (x : EReal) (r : ℝ) [h : IsS x r] : Is3 (broadcast (⟨3, ![a, b, c]⟩ : Shape) x) (fun _ _ _ => r) :=
  ⟨fun _ _ _ => h.eq⟩
instance const2 (w : BitVec φ.bits) (r : ℝ) [h : IsS (FloatOps.ofBits (F := Ideal) φ w) r] :
    Is2 (constant (F := Ideal) (⟨2, ![a, b]⟩ : Shape) φ w) (fun _ _ => r) :=
  ⟨fun _ _ => h.eq⟩

variable (v w : FVec Ideal (⟨2, ![a, b]⟩ : Shape) φ) (f g : ℕ → ℕ → ℝ)

instance addf2 [hv : Is2 v f] [hw : Is2 w g] : Is2 (addf v w) (fun i j => f i j + g i j) :=
  ⟨fun i j => by rw [EReal.coe_add, ← hv.eq, ← hw.eq]; rfl⟩
instance subf2 [hv : Is2 v f] [hw : Is2 w g] : Is2 (subf v w) (fun i j => f i j - g i j) :=
  ⟨fun i j => by rw [EReal.coe_sub, ← hv.eq, ← hw.eq]; rfl⟩
instance mulf2 [hv : Is2 v f] [hw : Is2 w g] : Is2 (mulf v w) (fun i j => f i j * g i j) :=
  ⟨fun i j => by rw [EReal.coe_mul, ← hv.eq, ← hw.eq]; rfl⟩
instance maxf2 [hv : Is2 v f] [hw : Is2 w g] : Is2 (maximumf v w) (fun i j => max (f i j) (g i j)) :=
  ⟨fun i j => by rw [coe_max, ← hv.eq, ← hw.eq]; rfl⟩
instance absf2 [hv : Is2 v f] : Is2 (absf v) (fun i j => |f i j|) :=
  ⟨fun i j => by
    have : (((|f i j| : ℝ)) : EReal) = max ((f i j : ℝ) : EReal) (-((f i j : ℝ) : EReal)) := by
      rw [abs_eq_max_neg, coe_max, EReal.coe_neg]
    rw [this, ← hv.eq]; rfl⟩
instance exp22 [hv : Is2 v f] : Is2 (exp2 v) (fun i j => (2 : ℝ) ^ f i j) :=
  ⟨fun i j => by
    have : exp2 v (ix2 i j) = Ideal.exp2 (v (ix2 i j)) := rfl
    rw [this, hv.eq, Ideal.exp2_coe]; rfl⟩

theorem log2_of [hv : Is2 v f] (h : ∀ i j, i < a → j < b → 0 < f i j) : Is2 (log v) (fun i j => Real.log (f i j)) :=
  ⟨fun i j => by
    have : log v (ix2 i j) = Ideal.log (v (ix2 i j)) := rfl
    rw [this, hv.eq, Ideal.log_coe, if_neg (not_le.mpr (h _ _ i.isLt j.isLt))]⟩

/-- The logarithm of one more than a power of two. -/
instance log2_one_add (f : ℕ → ℕ → ℝ) [hv : Is2 v (fun i j => 1 + (2 : ℝ) ^ f i j)] :
    Is2 (log v) (fun i j => Real.log (1 + (2 : ℝ) ^ f i j)) :=
  log2_of v _ fun i j _ _ => by positivity

instance sel2 (c : IVec (⟨2, ![a, b]⟩ : Shape) 1) (p : ℕ → ℕ → Bool) [hc : Mask2 c p] [hv : Is2 v f] [hw : Is2 w g] :
    Is2 (select c v w) (fun i j => if p i j then f i j else g i j) :=
  ⟨fun i j => by
    have : select c v w (ix2 i j) = Scalar.select (c (ix2 i j)) (v (ix2 i j)) (w (ix2 i j)) := rfl
    rw [this, hc.eq, hv.eq, hw.eq]
    cases p i j <;> rfl⟩

end Elementwise

section Casts
variable {a b : ℕ} {f : ℕ → ℕ → ℝ}

instance truncf2 (v : FVec Ideal (⟨2, ![a, b]⟩ : Shape) .f32) (h : (FTy.bf16).bits < (FTy.f32).bits) [hv : Is2 v f] :
    Is2 (truncf .bf16 v h) f := ⟨fun i j => by rw [← hv.eq]; rfl⟩
instance extf2 (v : FVec Ideal (⟨2, ![a, b]⟩ : Shape) .bf16) (h : (FTy.bf16).bits < (FTy.f32).bits) [hv : Is2 v f] :
    Is2 (extf .f32 v h) f := ⟨fun i j => by rw [← hv.eq]; rfl⟩
instance cast_self2 (v : (⟨2, ![a, b]⟩ : Shape).Idx → EReal) (h : (⟨2, ![a, b]⟩ : Shape).ShapeCasts ⟨2, ![a, b]⟩) [hv : Is2 v f] :
    Is2 (shapeCast (⟨2, ![a, b]⟩ : Shape) v h) f := by rw [shapeCast_self]; exact hv
instance cast_drop (v : (⟨3, ![1, a, b]⟩ : Shape).Idx → EReal) (h : (⟨3, ![1, a, b]⟩ : Shape).ShapeCasts ⟨2, ![a, b]⟩)
    (f : ℕ → ℕ → ℕ → ℝ) [hv : Is3 v f] : Is2 (shapeCast (⟨2, ![a, b]⟩ : Shape) v h) (fun i j => f 0 i j) :=
  ⟨fun i j => by rw [shapeCast_1ab_ab_apply, hv.eq]; rfl⟩
instance cast_add (v : (⟨2, ![a, b]⟩ : Shape).Idx → EReal) (h : (⟨2, ![a, b]⟩ : Shape).ShapeCasts ⟨3, ![1, a, b]⟩)
    [hv : Is2 v f] : Is3 (shapeCast (⟨3, ![1, a, b]⟩ : Shape) v h) (fun _ i j => f i j) :=
  ⟨fun u i j => by rw [shapeCast_ab_1ab_apply, hv.eq]⟩
instance cast_col (v : (⟨1, ![a]⟩ : Shape).Idx → EReal) (h : (⟨1, ![a]⟩ : Shape).ShapeCasts ⟨2, ![a, 1]⟩) (f : ℕ → ℝ)
    [hv : Is1 v f] : Is2 (shapeCast (⟨2, ![a, 1]⟩ : Shape) v h) (fun i _ => f i) :=
  ⟨fun i j => by rw [shapeCast_a_a1_apply, hv.eq]⟩
instance bcast_col (v : (⟨2, ![a, 1]⟩ : Shape).Idx → EReal) (h : (⟨2, ![a, 1]⟩ : Shape).Broadcasts ⟨2, ![a, b]⟩)
    [hv : Is2 v f] : Is2 (broadcastTo (⟨2, ![a, b]⟩ : Shape) v h) (fun i _ => f i 0) :=
  ⟨fun i j => by
    rw [broadcastTo_apply v h (ix2 i j) (ix2 i (0 : Fin 1)) (fun ax => ?_), hv.eq]
    · rfl
    · match ax with
      | ⟨0, _⟩ =>
        show i.val = if a = 1 then 0 else i.val
        split
        · have := i.isLt; omega
        · rfl
      | ⟨1, _⟩ => rfl⟩
instance slice2 {m n : ℕ} (o p : ℕ) (v : (⟨2, ![a, b]⟩ : Shape).Idx → EReal)
    (h : (⟨2, ![a, b]⟩ : Shape).Slices ![o, p] ⟨2, ![m, n]⟩) [hv : Is2 v f] :
    Is2 (extractStridedSlice (⟨2, ![m, n]⟩ : Shape) ![o, p] v h) (fun i j => f (o + i) (p + j)) :=
  ⟨fun i j => by
    have h0 : o + m ≤ a := h.2 0
    have h1 : p + n ≤ b := h.2 1
    have hi := i.isLt
    have hj := j.isLt
    rw [extractStridedSlice_apply _ _ _ _ (ix2 (⟨o + i, by omega⟩ : Fin a) (⟨p + j, by omega⟩ : Fin b)) (fun ax => ?_), hv.eq]
    match ax with
    | ⟨0, _⟩ => rfl
    | ⟨1, _⟩ => rfl⟩
instance concat_rows {m n : ℕ} (v : (⟨2, ![m, b]⟩ : Shape).Idx → EReal) (w : (⟨2, ![n, b]⟩ : Shape).Idx → EReal) (g : ℕ → ℕ → ℝ)
    (h : Shape.Concatenates [⟨2, ![m, b]⟩, ⟨2, ![n, b]⟩] (⟨2, ![a, b]⟩ : Shape) 0) [hv : Is2 v f] [hw : Is2 w g] :
    Is2 (concatenate (⟨2, ![a, b]⟩ : Shape) 0 [⟨⟨2, ![m, b]⟩, v⟩, ⟨⟨2, ![n, b]⟩, w⟩] h)
      (fun i j => if i < m then f i j else g (i - m) j) :=
  ⟨fun i j => by
    rw [concatenate_pair_apply]
    show (if hlt : i.val < m then _ else _) = _
    split <;> rename_i hlt
    · exact (congrArg v (by funext ax; match ax with | ⟨0, _⟩ => rfl | ⟨1, _⟩ => rfl)).trans (hv.eq ⟨i, hlt⟩ j)
    · have hm : i.val - m < n := h.snd_lt (ix2 i j) hlt 0
      exact (congrArg w (by funext ax; match ax with | ⟨0, _⟩ => rfl | ⟨1, _⟩ => rfl)).trans (hw.eq ⟨i - m, hm⟩ j)⟩
instance concat_cols {m n : ℕ} (v : (⟨2, ![a, m]⟩ : Shape).Idx → EReal) (w : (⟨2, ![a, n]⟩ : Shape).Idx → EReal) (g : ℕ → ℕ → ℝ)
    (h : Shape.Concatenates [⟨2, ![a, m]⟩, ⟨2, ![a, n]⟩] (⟨2, ![a, b]⟩ : Shape) 1) [hv : Is2 v f] [hw : Is2 w g] :
    Is2 (concatenate (⟨2, ![a, b]⟩ : Shape) 1 [⟨⟨2, ![a, m]⟩, v⟩, ⟨⟨2, ![a, n]⟩, w⟩] h)
      (fun i j => if j < m then f i j else g i (j - m)) :=
  ⟨fun i j => by
    rw [concatenate_pair_apply]
    show (if hlt : j.val < m then _ else _) = _
    split <;> rename_i hlt
    · exact (congrArg v (by funext ax; match ax with | ⟨0, _⟩ => rfl | ⟨1, _⟩ => rfl)).trans (hv.eq i ⟨j, hlt⟩)
    · have hm : j.val - m < n := h.snd_lt (ix2 i j) hlt 1
      exact (congrArg w (by funext ax; match ax with | ⟨0, _⟩ => rfl | ⟨1, _⟩ => rfl)).trans (hw.eq i ⟨j - m, hm⟩)⟩
theorem rowsum (v : FVec Ideal (⟨2, ![a, b]⟩ : Shape) .f32) (acc : BitVec (FTy.f32).bits) (h : (⟨2, ![a, b]⟩ : Shape).Reduces [1] ⟨1, ![a]⟩)
    (hφ : FKind.Formats .f32) (hacc : acc = FKind.add.neutral .f32 hφ) [hv : Is2 v f] :
    Is1 (multiReduction .add [1] (⟨1, ![a]⟩ : Shape) v acc h hφ hacc) (fun i => ∑ j ∈ Finset.range b, f i j) :=
  ⟨fun i => by
    rw [multiReduction_add_apply]
    refine (Ideal.reduceAdd_r2_a1 h v (ix1 i)).trans (sum_fin _ _ fun k => ?_)
    exact hv.eq i k⟩

end Casts

/-! ### Products -/

section Products
variable {M K N : ℕ} {f g : ℕ → ℕ → ℝ} {prec : Option ContractPrecision}

theorem mm_plain (l : FVec Ideal ⟨2, ![M, K]⟩ .bf16) (r : FVec Ideal ⟨2, ![K, N]⟩ .bf16) (acc : FVec Ideal ⟨2, ![M, N]⟩ .f32)
    [hl : Is2 l f] [hr : Is2 r g] [ha : Is2 acc (fun _ _ => 0)] :
    Is2 (matmul (DotDims.plain M K N) prec l r acc) (fun i j => ∑ k ∈ Finset.range K, f i k * g k j) :=
  ⟨fun i j => by
    refine (Ideal.matmul_plain_apply prec l r acc i j).trans ?_
    rw [ha.eq, EReal.coe_zero, zero_add]
    exact sum_fin _ _ fun k => by rw [hl.eq, hr.eq, EReal.coe_mul]⟩

theorem mm_nt (l : FVec Ideal ⟨2, ![M, K]⟩ .bf16) (r : FVec Ideal ⟨2, ![N, K]⟩ .bf16) (acc : FVec Ideal ⟨2, ![M, N]⟩ .f32)
    [hl : Is2 l f] [hr : Is2 r g] [ha : Is2 acc (fun _ _ => 0)] :
    Is2 (matmul (DotDims.transposedRhs M K N) prec l r acc) (fun i j => ∑ k ∈ Finset.range K, f i k * g j k) :=
  ⟨fun i j => by
    refine (Ideal.matmul_transposedRhs_apply prec l r acc i j).trans ?_
    rw [ha.eq, EReal.coe_zero, zero_add]
    exact sum_fin _ _ fun k => by rw [hl.eq, hr.eq, EReal.coe_mul]⟩

theorem mm_tn (d : DotDims ⟨2, ![K, M]⟩ ⟨2, ![K, N]⟩ ⟨2, ![M, N]⟩) (l : FVec Ideal ⟨2, ![K, M]⟩ .bf16) (r : FVec Ideal ⟨2, ![K, N]⟩ .bf16)
    (acc : FVec Ideal ⟨2, ![M, N]⟩ .f32)
    (hd : ∀ i j, FloatOps.matmul d prec l r acc (ix2 i j) = acc (ix2 i j) + ∑ k : Fin K, l (ix2 k i) * r (ix2 k j))
    [hl : Is2 l f] [hr : Is2 r g] [ha : Is2 acc (fun _ _ => 0)] :
    Is2 (matmul d prec l r acc) (fun i j => ∑ k ∈ Finset.range K, f k i * g k j) :=
  ⟨fun i j => by
    refine (hd i j).trans ?_
    rw [ha.eq, EReal.coe_zero, zero_add]
    exact sum_fin _ _ fun k => by rw [hl.eq, hr.eq, EReal.coe_mul]⟩

end Products

section Printed
open Cert.KernelIdeal
variable {f g : ℕ → ℕ → ℝ} {prec : Option ContractPrecision}

instance mm_a (l : FVec Ideal S512x128 .bf16) (r : FVec Ideal S256x128 .bf16) (acc : FVec Ideal S512x256 .f32)
    [Is2 l f] [Is2 r g] [Is2 acc (fun _ _ => 0)] :
    Is2 (matmul dot_S512x128_S256x128_S512x256_1_1_0_0_n_n prec l r acc) (fun i j => ∑ k ∈ Finset.range 128, f i k * g j k) :=
  mm_nt l r acc
instance mm_b (l : FVec Ideal S256x128 .bf16) (r : FVec Ideal S256x128 .bf16) (acc : FVec Ideal S256x256 .f32)
    [Is2 l f] [Is2 r g] [Is2 acc (fun _ _ => 0)] :
    Is2 (matmul dot_S256x128_S256x128_S256x256_1_1_0_0_n_n prec l r acc) (fun i j => ∑ k ∈ Finset.range 128, f i k * g j k) :=
  mm_nt l r acc
instance mm_c (l : FVec Ideal S1024x512 .bf16) (r : FVec Ideal S512x256 .bf16) (acc : FVec Ideal S1024x256 .f32)
    [Is2 l f] [Is2 r g] [Is2 acc (fun _ _ => 0)] :
    Is2 (matmul dot_S1024x512_S512x256_S1024x256_1_0_0_1_n_n prec l r acc) (fun i j => ∑ k ∈ Finset.range 512, f i k * g k j) :=
  mm_plain l r acc
instance mm_d (l : FVec Ideal S1024x256 .bf16) (r : FVec Ideal S256x256 .bf16) (acc : FVec Ideal S1024x256 .f32)
    [Is2 l f] [Is2 r g] [Is2 acc (fun _ _ => 0)] :
    Is2 (matmul dot_S1024x256_S256x256_S1024x256_1_0_0_1_n_n prec l r acc) (fun i j => ∑ k ∈ Finset.range 256, f i k * g k j) :=
  mm_plain l r acc
instance mm_e (l : FVec Ideal S512x256 .bf16) (r : FVec Ideal S256x128 .bf16) (acc : FVec Ideal S512x128 .f32)
    [Is2 l f] [Is2 r g] [Is2 acc (fun _ _ => 0)] :
    Is2 (matmul dot_S512x256_S256x128_S512x128_1_0_0_1_n_n prec l r acc) (fun i j => ∑ k ∈ Finset.range 256, f i k * g k j) :=
  mm_plain l r acc
instance mm_f (l : FVec Ideal S512x512 .bf16) (r : FVec Ideal S512x256 .bf16) (acc : FVec Ideal S512x256 .f32)
    [Is2 l f] [Is2 r g] [Is2 acc (fun _ _ => 0)] :
    Is2 (matmul dot_S512x512_S512x256_S512x256_1_0_0_1_n_n prec l r acc) (fun i j => ∑ k ∈ Finset.range 512, f i k * g k j) :=
  mm_plain l r acc
instance mm_g (l : FVec Ideal S512x256 .bf16) (r : FVec Ideal S256x256 .bf16) (acc : FVec Ideal S512x256 .f32)
    [Is2 l f] [Is2 r g] [Is2 acc (fun _ _ => 0)] :
    Is2 (matmul dot_S512x256_S256x256_S512x256_1_0_0_1_n_n prec l r acc) (fun i j => ∑ k ∈ Finset.range 256, f i k * g k j) :=
  mm_plain l r acc
instance mm_h (l : FVec Ideal S256x256 .bf16) (r : FVec Ideal S256x128 .bf16) (acc : FVec Ideal S256x128 .f32)
    [Is2 l f] [Is2 r g] [Is2 acc (fun _ _ => 0)] :
    Is2 (matmul dot_S256x256_S256x128_S256x128_1_0_0_1_n_n prec l r acc) (fun i j => ∑ k ∈ Finset.range 256, f i k * g k j) :=
  mm_plain l r acc
instance mm_i (l : FVec Ideal S512x256 .bf16) (r : FVec Ideal S512x128 .bf16) (acc : FVec Ideal S256x128 .f32)
    [Is2 l f] [Is2 r g] [Is2 acc (fun _ _ => 0)] :
    Is2 (matmul dot_S512x256_S512x128_S256x128_0_0_1_1_n_n prec l r acc) (fun i j => ∑ k ∈ Finset.range 512, f k i * g k j) :=
  mm_tn _ l r acc fun i j => by
    refine Ideal.matmul_apply₁_of (d := dot_S512x256_S512x128_S256x128_0_0_1_1_n_n) (K := 512) rfl rfl l r acc (ix2 i j)
      (fun k => ix2 k i) (fun k => ix2 k j) (fun k => ?_) (fun k => ?_)
    · funext ax; match ax with | ⟨0, _⟩ => rfl | ⟨1, _⟩ => rfl
    · funext ax; match ax with | ⟨0, _⟩ => rfl | ⟨1, _⟩ => rfl
instance mm_j (l : FVec Ideal S256x256 .bf16) (r : FVec Ideal S256x128 .bf16) (acc : FVec Ideal S256x128 .f32)
    [Is2 l f] [Is2 r g] [Is2 acc (fun _ _ => 0)] :
    Is2 (matmul dot_S256x256_S256x128_S256x128_0_0_1_1_n_n prec l r acc) (fun i j => ∑ k ∈ Finset.range 256, f k i * g k j) :=
  mm_tn _ l r acc fun i j => by
    refine Ideal.matmul_apply₁_of (d := dot_S256x256_S256x128_S256x128_0_0_1_1_n_n) (K := 256) rfl rfl l r acc (ix2 i j)
      (fun k => ix2 k i) (fun k => ix2 k j) (fun k => ?_) (fun k => ?_)
    · funext ax; match ax with | ⟨0, _⟩ => rfl | ⟨1, _⟩ => rfl
    · funext ax; match ax with | ⟨0, _⟩ => rfl | ⟨1, _⟩ => rfl

instance rowsum_a (v : FVec Ideal S512x256 .f32) [hv : Is2 v f] :
    Is1 (multiReduction .add [1] S512 v 0x00000000#32 Gen.reduces_S512x256_S512 (.inl rfl) rfl) (fun i => ∑ j ∈ Finset.range 256, f i j) :=
  rowsum v _ _ _ _

end Printed

end Cert.Calc
-- ==== Proof.Finite.lean ====
module

public import proofs.«01_k».proof.Pre_finite
public import proofs.«01_k».proof.Proof.Calc
public import Idealize.ShloMosaic.Lib.ReduceAll

/-!
The precondition: every entry of the two arguments is a real number.
-/

@[expose] public section

noncomputable section

namespace Cert.Calc

open Idealize.ShloMosaic hiding ix1 ix2 ix3 ix4
open Idealize.ShloMosaic.ValueIdx

/-- The shapes' relations that the precondition takes. -/
theorem preFacts : Cert.Pre_finite.Facts where
  bcast_S_S2048x3072 := by decide
  reducesTo_S2048x3072_S_d0_1 := by decide
  h_S_ := by decide
  bcast_S_S2048x1024 := by decide
  reducesTo_S2048x1024_S_d0_1 := by decide

theorem real_of_abs_lt {x w : EReal} (h : max x (-x) < w) : ((x.toReal : ℝ) : EReal) = x := by
  have h1 : max x (-x) ≠ ⊤ := ne_top_of_lt h
  refine EReal.coe_toReal (fun e => h1 ?_) (fun e => h1 ?_)
  · rw [e]; exact max_eq_left le_top
  · rw [e]; exact max_eq_right bot_le

instance : Subsingleton (Cert.Pre_finite.S_).Idx := ⟨fun _ _ => funext fun a => a.elim0⟩

/-- The reals of a matrix of extended reals. -/
def reals {a b : ℕ} (x : (⟨2, ![a, b]⟩ : Shape).Idx → EReal) (i j : ℕ) : ℝ :=
  if h : i < a ∧ j < b then (x (ix2 (⟨i, h.1⟩ : Fin a) (⟨j, h.2⟩ : Fin b))).toReal else 0

theorem reals_is {a b : ℕ} (x : (⟨2, ![a, b]⟩ : Shape).Idx → EReal) (h : ∀ i, ∃ w, max (x i) (-x i) < w) : Is2 x (reals x) :=
  ⟨fun i j => by
    obtain ⟨w, hw⟩ := h (ix2 i j)
    unfold reals
    rw [dif_pos ⟨i.isLt, j.isLt⟩]
    exact (real_of_abs_lt hw).symm⟩

theorem finite_real (x : FVec Idealize.ShloMosaic.Ideal Cert.Pre_finite.S2048x3072 .f32)
    (y : FVec Idealize.ShloMosaic.Ideal Cert.Pre_finite.S2048x1024 .f32)
    (h : (haveI := preFacts; Cert.Pre_finite.fn (F := Idealize.ShloMosaic.Ideal) x y) = fun _ => 1#1) :
    Is2 (a := 2048) (b := 3072) x (reals (a := 2048) (b := 3072) x) ∧ Is2 (a := 2048) (b := 1024) y (reals (a := 2048) (b := 1024) y) := by
  have h0 := IntOp.andi_eq_one.mp (congrFun h (Shape.Idx.first (s := Cert.Pre_finite.S_) (by decide)))
  exact ⟨reals_is _ fun i => ⟨_, (Idealize.ShloMosaic.Ideal.cmp_olt_eq_one _ _).mp (Host.reduce_andi_all _ _ _ _ _ h0.1 i)⟩,
    reals_is _ fun i => ⟨_, (Idealize.ShloMosaic.Ideal.cmp_olt_eq_one _ _).mp (Host.reduce_andi_all _ _ _ _ _ h0.2 i)⟩⟩

end Cert.Calc
-- ==== Proof.Rows.lean ====
module

public import proofs.«01_k».proof.Proof.Gen.KernelGuIdeal.Value
public import proofs.«01_k».proof.Proof.Gen.KernelDownIdeal.Value
public import proofs.«01_k».proof.Proof.Gen.ReferenceGuIdeal.Run
public import proofs.«01_k».proof.Proof.Gen.ReferenceDownIdeal.Run
public import Idealize.ShloMosaic.Lib.Pipeline.ValueKit
public import Idealize.ShloMosaic.Lib.Pointwise
public import Idealize.ShloMosaic.Lib.ValueLayout
public import Idealize.ShloMosaic.Lib.ValueLayoutCasts

/-!
The gradients of the two weight matrices of a feed-forward half step. Block `j` of either gradient is
one product over all rows: the block's columns of one operand against the other operand. The kernel
computes one block at each grid point, the reference all blocks by one product; both are the same sum
over the rows, read here at an index, for any extended reals.
-/

@[expose] public section

noncomputable section

namespace Cert.Calc

open Idealize.ShloMosaic hiding ix1 ix2 ix3 ix4
open Idealize.ShloMosaic.ValueIdx
open Idealize.ShloMosaic.TcCoe
open scoped BigOperators

local notation "𝔽" => Idealize.ShloMosaic.Ideal
local notation "𝕍" => Elt Idealize.ShloMosaic.Ideal

/-- The sum over the rows of the products of column `y 1` of block `y 0` of `a` with column `y 2` of `b`. -/
def rowsProd {n b : ℕ} (h : b ≤ 768) (p : FVec 𝔽 (⟨3, ![n, 2048, 768]⟩ : Shape) .f32)
    (q : FVec 𝔽 (⟨2, ![2048, 1024]⟩ : Shape) .f32) :
    FVec 𝔽 (⟨3, ![n, b, 1024]⟩ : Shape) .bf16 := fun y =>
  ∑ k : Fin 2048, p (ix3 (⟨(y 0).val, (y 0).isLt⟩ : Fin n) k (⟨(y 1).val, lt_of_lt_of_le (y 1).isLt h⟩ : Fin 768))
    * q (ix2 k (⟨(y 2).val, (y 2).isLt⟩ : Fin 1024))

/-- A conversion keeps the real reading. -/
theorem truncf_at {s : Shape} {φ ψ : FTy} (v : FVec 𝔽 s φ) (h : ψ.bits < φ.bits) (i : s.Idx) :
    truncf ψ v h i = v i := rfl

namespace Down
open Cert.KernelDownIdeal Cert.KernelDownIdeal.Gen

variable (m : (ℓ : Loc nD τ sig) → Buf 𝕍 ℓ) (c : Dev nD)

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![t.val, 0, 0] := by decide +kernel

theorem V_a : V m c main_v0 = truncf (F := 𝔽) .bf16 (m ((c : Thread nD τ).loc main_arg0)) bitsLt_bf16_f32 := by
  show StableHlo.after _ _ _ = _
  after_results
theorem V_b : V m c main_v1 = truncf (F := 𝔽) .bf16 (m ((c : Thread nD τ).loc main_arg2)) bitsLt_bf16_f32 := by
  show StableHlo.after _ _ _ = _
  after_results

theorem blk_a (t : Fin cfg0.N) (u : Fin 1) (k : Fin 2048) (i : Fin 768) :
    iblk m c 0 t (ix3 u k i) = m ((c : Thread nD τ).loc main_arg0) (ix3 (⟨t.val, t.isLt⟩ : Fin 4) k i) := by
  refine Eq.trans (b := V m c main_v0 (ix3 (⟨t.val, t.isLt⟩ : Fin 4) k i)) ?_ (by rw [V_a]; rfl)
  blk_ext [iblk, idx0 t]
theorem blk_b (t : Fin cfg0.N) (k : Fin 2048) (j : Fin 1024) :
    iblk m c 1 t (ix2 k j) = m ((c : Thread nD τ).loc main_arg2) (ix2 k j) := by
  refine Eq.trans (b := V m c main_v1 (ix2 k j)) ?_ (by rw [V_b]; rfl)
  blk_ext [iblk, idx1 t]

/-- What a grid point stores, at an index. -/
theorem pay (a : Vec 𝔽 S1x2048x768 .bf16) (b : Vec 𝔽 S2048x1024 .bf16)
    (u : Fin 1) (i : Fin 704) (j : Fin 1024) :
    k0_pay1 a b (ix3 u i j) = ∑ k : Fin 2048, a (ix3 (0 : Fin 1) k (⟨i.val, by omega⟩ : Fin 768)) * b (ix2 k j) := by
  unfold k0_pay1
  refine (shapeCast_ab_1ab_apply _ _ u i j).trans ?_
  refine (truncf_at (φ := .f32) (ψ := .bf16) _ (by decide) _).trans ((extractStridedSlice_apply _ _ _ (ix2 i j) (ix2 (⟨i.val, by omega⟩ : Fin 768) j) (fun ax => ?_)).trans ?_)
  · match ax with
    | ⟨0, _⟩ => exact (Nat.zero_add _).symm
    | ⟨1, _⟩ => exact (Nat.zero_add _).symm
  refine (Ideal.matmul_apply₁_of (d := dot_S2048x768_S2048x1024_S768x1024_0_0_1_1_n_n) (K := 2048) rfl rfl _ _ _ _
    (fun k => ix2 k (⟨i.val, by omega⟩ : Fin 768)) (fun k => ix2 k j) (fun k => ?_) (fun k => ?_)).trans ?_
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    rw [shapeCast_1ab_ab_apply, shapeCast_self]

/-- The kernel's array. -/
theorem arr : (dats m 0 c).arrAt 2 cfg0.N
    = rowsProd (n := 4) (b := 704) (by decide) (m ((c : Thread nD τ).loc main_arg0)) (m ((c : Thread nD τ).loc main_arg2)) := by
  refine (dats m 0 c).arrAt_eq_of_covers 2 _ (by decide +kernel) fun t hf y => ?_
  unfold rowsProd
  blk_simp [idx2 t]
  rw [after0_2]
  frame_out
  refine (congrArg _ (ValueIdx.eq_ix3 (n0 := 1) (n1 := 704) (n2 := 1024) y)).trans ((pay _ _ _ _ _).trans ?_)
  refine Finset.sum_congr rfl fun k _ => ?_
  refine congrArg₂ (· * ·) ((blk_a m c t 0 k _).trans (congrArg _ ?_)) ((blk_b m c t k (y 2)).trans (congrArg _ ?_))
  · rfl
  · rfl

/-- The reference's product. -/
theorem ref (p : FVec 𝔽 (⟨3, ![4, 2048, 768]⟩ : Shape) .f32) (q : FVec 𝔽 (⟨2, ![2048, 1024]⟩ : Shape) .f32) :
    truncf .bf16 (transpose Cert.ReferenceDownIdeal.S4x704x1024 [1, 2, 0] (Host.dotGeneral Cert.ReferenceDownIdeal.dot_S2048x1024_S4x2048x704_S1024x4x704_0_1_1_02_n_n none q
      (extractStridedSlice Cert.ReferenceDownIdeal.S4x2048x704 ![0, 0, 0] p Cert.ReferenceDownIdeal.Gen.slices_S4x2048x768_S4x2048x704_0_0_0)) Cert.ReferenceDownIdeal.Gen.transposes_S1024x4x704_S4x704x1024_1_2_0) Cert.ReferenceDownIdeal.Gen.bitsLt_bf16_f32
    = rowsProd (n := 4) (b := 704) (by decide) p q := by
  funext y
  obtain ⟨u, i, j, rfl⟩ : ∃ (u : Fin 4) (i : Fin 704) (j : Fin 1024), y = ix3 u i j := ⟨y 0, y 1, y 2, ValueIdx.eq_ix3 y⟩
  refine (truncf_at (φ := .f32) (ψ := .bf16) _ (by decide) _).trans ((transpose_apply _ _ _ (ix3 u i j) (ix3 j u i) (fun ax => ?_)).trans ?_)
  · match ax with
    | ⟨0, _⟩ => rfl
    | ⟨1, _⟩ => rfl
    | ⟨2, _⟩ => rfl
  refine (Ideal.matmul_apply₁_of (d := Cert.ReferenceDownIdeal.dot_S2048x1024_S4x2048x704_S1024x4x704_0_1_1_02_n_n) (K := 2048) rfl rfl _ _ _ _
    (fun k => ix2 k j) (fun k => ix3 u k i) (fun k => ?_) (fun k => ?_)).trans ?_
  · funext ax; match ax with | ⟨0, _⟩ => rfl | ⟨1, _⟩ => rfl
  · funext ax; match ax with | ⟨0, _⟩ => rfl | ⟨1, _⟩ => rfl | ⟨2, _⟩ => rfl
  · refine (zero_add _).trans (Finset.sum_congr rfl fun k _ => ?_)
    rw [mul_comm]
    refine congrArg (· * _) (extractStridedSlice_apply _ _ _ _ _ (fun ax => ?_))
    match ax with
    | ⟨0, _⟩ => exact (Nat.zero_add _).symm
    | ⟨1, _⟩ => exact (Nat.zero_add _).symm
    | ⟨2, _⟩ => exact (Nat.zero_add _).symm

end Down

namespace Gu
open Cert.KernelGuIdeal Cert.KernelGuIdeal.Gen

variable (m : (ℓ : Loc nD τ sig) → Buf 𝕍 ℓ) (c : Dev nD)

theorem idx0 : ∀ t : Fin cfg0.N, win0_0.index t = ![t.val, 0, 0] := by decide +kernel
theorem idx1 : ∀ t : Fin cfg0.N, win0_1.index t = ![0, 0] := by decide +kernel
theorem idx2 : ∀ t : Fin cfg0.N, win0_2.index t = ![t.val, 0, 0] := by decide +kernel

theorem V_a : V m c main_v0 = truncf (F := 𝔽) .bf16 (m ((c : Thread nD τ).loc main_arg2)) bitsLt_bf16_f32 := by
  show StableHlo.after _ _ _ = _
  after_results
theorem V_b : V m c main_v1 = truncf (F := 𝔽) .bf16 (m ((c : Thread nD τ).loc main_arg0)) bitsLt_bf16_f32 := by
  show StableHlo.after _ _ _ = _
  after_results

theorem blk_a (t : Fin cfg0.N) (u : Fin 1) (k : Fin 2048) (i : Fin 768) :
    iblk m c 0 t (ix3 u k i) = m ((c : Thread nD τ).loc main_arg2) (ix3 (⟨t.val, t.isLt⟩ : Fin 8) k i) := by
  refine Eq.trans (b := V m c main_v0 (ix3 (⟨t.val, t.isLt⟩ : Fin 8) k i)) ?_ (by rw [V_a]; rfl)
  blk_ext [iblk, idx0 t]
theorem blk_b (t : Fin cfg0.N) (k : Fin 2048) (j : Fin 1024) :
    iblk m c 1 t (ix2 k j) = m ((c : Thread nD τ).loc main_arg0) (ix2 k j) := by
  refine Eq.trans (b := V m c main_v1 (ix2 k j)) ?_ (by rw [V_b]; rfl)
  blk_ext [iblk, idx1 t]

/-- What a grid point stores, at an index. -/
theorem pay (a : Vec 𝔽 S1x2048x768 .bf16) (b : Vec 𝔽 S2048x1024 .bf16)
    (u : Fin 1) (i : Fin 768) (j : Fin 1024) :
    k0_pay1 a b (ix3 u i j) = ∑ k : Fin 2048, a (ix3 (0 : Fin 1) k (⟨i.val, by omega⟩ : Fin 768)) * b (ix2 k j) := by
  unfold k0_pay1
  refine (shapeCast_ab_1ab_apply _ _ u i j).trans ?_
  refine (truncf_at (φ := .f32) (ψ := .bf16) _ (by decide) _).trans ((Ideal.matmul_apply₁_of (d := dot_S2048x768_S2048x1024_S768x1024_0_0_1_1_n_n) (K := 2048) rfl rfl _ _ _ _
    (fun k => ix2 k (⟨i.val, by omega⟩ : Fin 768)) (fun k => ix2 k j) (fun k => ?_) (fun k => ?_)).trans ?_)
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    rw [shapeCast_1ab_ab_apply, shapeCast_self]

/-- The kernel's array. -/
theorem arr : (dats m 0 c).arrAt 2 cfg0.N
    = rowsProd (n := 8) (b := 768) (by decide) (m ((c : Thread nD τ).loc main_arg2)) (m ((c : Thread nD τ).loc main_arg0)) := by
  refine (dats m 0 c).arrAt_eq_of_covers 2 _ (by decide +kernel) fun t hf y => ?_
  unfold rowsProd
  blk_simp [idx2 t]
  rw [after0_2]
  frame_out
  refine (congrArg _ (ValueIdx.eq_ix3 (n0 := 1) (n1 := 768) (n2 := 1024) y)).trans ((pay _ _ _ _ _).trans ?_)
  refine Finset.sum_congr rfl fun k _ => ?_
  refine congrArg₂ (· * ·) ((blk_a m c t 0 k _).trans (congrArg _ ?_)) ((blk_b m c t k (y 2)).trans (congrArg _ ?_))
  · rfl
  · rfl

/-- The reference's product. -/
theorem ref (p : FVec 𝔽 (⟨3, ![8, 2048, 768]⟩ : Shape) .f32) (q : FVec 𝔽 (⟨2, ![2048, 1024]⟩ : Shape) .f32) :
    truncf .bf16 (Host.dotGeneral Cert.ReferenceGuIdeal.dot_S8x768x2048_S2048x1024_S8x768x1024_2_0_01_1_n_n none
      (transpose Cert.ReferenceGuIdeal.S8x768x2048 [0, 2, 1] p Cert.ReferenceGuIdeal.Gen.transposes_S8x2048x768_S8x768x2048_0_2_1) q) Cert.ReferenceGuIdeal.Gen.bitsLt_bf16_f32
    = rowsProd (n := 8) (b := 768) (by decide) p q := by
  funext y
  obtain ⟨u, i, j, rfl⟩ : ∃ (u : Fin 8) (i : Fin 768) (j : Fin 1024), y = ix3 u i j := ⟨y 0, y 1, y 2, ValueIdx.eq_ix3 y⟩
  refine (truncf_at (φ := .f32) (ψ := .bf16) _ (by decide) _).trans ((Ideal.matmul_apply₁_of (d := Cert.ReferenceGuIdeal.dot_S8x768x2048_S2048x1024_S8x768x1024_2_0_01_1_n_n) (K := 2048) rfl rfl _ _ _ _
    (fun k => ix3 u i k) (fun k => ix2 k j) (fun k => ?_) (fun k => ?_)).trans ?_)
  · funext ax; match ax with | ⟨0, _⟩ => rfl | ⟨1, _⟩ => rfl | ⟨2, _⟩ => rfl
  · funext ax; match ax with | ⟨0, _⟩ => rfl | ⟨1, _⟩ => rfl
  · refine (zero_add _).trans (Finset.sum_congr rfl fun k _ => ?_)
    refine congrArg (· * _) (transpose_apply _ _ _ _ _ (fun ax => ?_))
    match ax with
    | ⟨0, _⟩ => rfl
    | ⟨1, _⟩ => rfl
    | ⟨2, _⟩ => rfl

end Gu

end Cert.Calc
-- ==== Proof.AdBase.lean ====
module

public import proofs.«01_k».proof.Defs
public import proofs.«01_k».proof.Proof.Finite
public import proofs.«01_k».proof.Proof.Rows

/-! What the optimiser's calls on the weights share, for any number of rows and columns: the gradient as the sum of
the four chips' parts, as a call forms it and as a reference does, and the places of a block's entries. -/

@[expose] public section

noncomputable section

namespace Cert.Calc.Ad

open Idealize.ShloMosaic hiding ix1 ix2 ix3 ix4
open Idealize.ShloMosaic.ValueIdx
open Idealize.SL.Sem

local notation "𝔽" => Idealize.ShloMosaic.Ideal
abbrev S₀ : Shape := ⟨0, ![]⟩
abbrev S₁ : Shape := ⟨1, ![1]⟩

theorem ofBool (p : Bool) : BitVec.ofBool p = 1#1 ↔ p = true := by cases p <;> decide

theorem word_eq {a b : BitVec 32} (h : IntOp.cmpi .eq a b = 1#1) : b = a :=
  (beq_iff_eq.mp ((ofBool (a == b)).mp h)).symm

/-- The one entry of an array of one word. -/
def word (chip : IVec S₁ 32) : BitVec 32 := chip (Shape.Idx.first (by decide))

theorem word_at (chip : IVec S₁ 32) (i) : chip i = word chip :=
  congrArg chip (funext fun | ⟨0, _⟩ => Subsingleton.elim (α := Fin 1) _ _)

/-- Under the precondition the chip's number is below four. -/
theorem chip_lt (chip : IVec S₁ 32) (hb : S₀.BroadcastsInDim S₁ (![] : Fin 0 → Fin 1)) (hr : Shape.ReducesTo S₁ [0] S₀) (hs : 0 < S₀.numel)
    (h : andi (Host.reduce IntOp.andi (cmpi .sge chip (broadcastInDim S₁ ![] hb (constantI S₀ 32 0#32))) (constantI S₀ 1 1#1) hr hs)
      (Host.reduce IntOp.andi (cmpi .slt chip (broadcastInDim S₁ ![] hb (constantI S₀ 32 4#32))) (constantI S₀ 1 1#1) hr hs) = fun _ => 1#1) (i) :
    (chip i).toNat < 4 := by
  have h0 := IntOp.andi_eq_one.mp (congrFun h (Shape.Idx.first (s := S₀) (by decide)))
  have : Subsingleton S₀.Idx := ⟨fun _ _ => funext fun a => a.elim0⟩
  have h1 : IntOp.cmpi .sge (chip i) 0#32 = 1#1 := Host.reduce_andi_all _ _ _ _ _ h0.1 i
  have h2 : IntOp.cmpi .slt (chip i) 4#32 = 1#1 := Host.reduce_andi_all _ _ _ _ _ h0.2 i
  simp only [ofBool, IntOp.cmpi, BitVec.sle, BitVec.slt, decide_eq_true_eq, BitVec.toInt, BitVec.toNat_ofNat] at h1 h2
  have := (chip i).isLt
  omega

variable {n r R c tr : ℕ}

/-- The place in the whole array of an index of the block at a grid point. -/
def place (h : n * tr ≤ r) (t : Fin n) (y : (⟨2, ![tr, c]⟩ : Shape).Idx) : (⟨2, ![r, c]⟩ : Shape).Idx :=
  ix2 (⟨t.val * tr + (y 0).val, by
    have h1 : (y 0).val < tr := (y 0).isLt
    have h2 := Nat.mul_le_mul_right tr t.isLt
    rw [Nat.succ_mul] at h2; omega⟩ : Fin r) (⟨(y 1).val, (y 1).isLt⟩ : Fin c)

theorem exists_place (h : n * tr = r) (i : (⟨2, ![r, c]⟩ : Shape).Idx) : ∃ (t : Fin n) (y : (⟨2, ![tr, c]⟩ : Shape).Idx), i = place h.le t y := by
  have hi : (i 0).val < n * tr := h ▸ (i 0).isLt
  have hp : 0 < tr := Nat.pos_of_ne_zero fun h0 => by subst h0; omega
  refine ⟨⟨(i 0).val / tr, (Nat.div_lt_iff_lt_mul hp).mpr hi⟩, ix2 (⟨(i 0).val % tr, Nat.mod_lt _ hp⟩ : Fin tr) (⟨(i 1).val, (i 1).isLt⟩ : Fin c), ?_⟩
  funext a; apply Fin.ext
  match a with
  | ⟨0, _⟩ => exact (Nat.div_add_mod' _ _).symm
  | ⟨1, _⟩ => rfl

/-- The place in the chips' parts of an index of the weight. -/
def part (off : ℕ) (h : off + r ≤ R) (k : Fin 4) (Y : (⟨2, ![r, c]⟩ : Shape).Idx) : (⟨3, ![4, R, c]⟩ : Shape).Idx :=
  ix3 k (⟨off + (Y 0).val, by have : (Y 0).val < r := (Y 0).isLt; omega⟩ : Fin R) (⟨(Y 1).val, (Y 1).isLt⟩ : Fin c)

/-- The gradient: the sum of the chips' parts, the chip's own taken from its own array. -/
def grad (off : ℕ) (h : off + r ≤ R) (w : BitVec 32) (own land : FVec 𝔽 ⟨3, ![4, R, c]⟩ .f32) : FVec 𝔽 ⟨2, ![r, c]⟩ .f32 := fun Y =>
  (∑ k : Fin 4, Scalar.select (IntOp.cmpi .eq (BitVec.ofNat 32 k.val) w) (own (part off h k Y)) (land (part off h k Y)) : EReal)

/-- The reference's sum, at an index. -/
theorem sum_at (chip : IVec S₁ 32) (own land : FVec 𝔽 ⟨3, ![4, R, c]⟩ .f32) (h1 h2 h3 h4) (h5 : Shape.ReducesTo ⟨3, ![4, R, c]⟩ [0] ⟨2, ![R, c]⟩) (h6) (Y : (⟨2, ![R, c]⟩ : Shape).Idx) :
    (Host.reduceAdd (select (broadcastInDim ⟨3, ![4, R, c]⟩ ![0, 1, 2] h1 (cmpi .eq (broadcastInDim ⟨3, ![4, 1, 1]⟩ ![0] h2 (iotaInDim ⟨1, ![4]⟩ 32 0))
        (broadcastInDim ⟨3, ![4, 1, 1]⟩ ![] h3 (shapeCast S₀ chip h4)))) own land) (constant S₀ .f32 0x00000000#32) h5 h6 : FVec 𝔽 ⟨2, ![R, c]⟩ .f32) Y
      = (∑ k : Fin 4, Scalar.select (IntOp.cmpi .eq (BitVec.ofNat 32 k.val) (word chip)) (own (ix3 k (Y 0) (Y 1))) (land (ix3 k (Y 0) (Y 1))) : EReal) := by
  refine (Ideal.hostReduceAdd_r3_a0 _ _ _ _).trans ?_
  refine (congrArg (· + _) (Ideal.ofBits_zero .f32)).trans ((zero_add _).trans (Finset.sum_congr rfl fun k _ => ?_))
  obtain ⟨b, rfl⟩ : ∃ b, chip = fun _ => b := ⟨_, funext fun i => word_at chip i⟩
  rfl

theorem ref0 (chip : IVec S₁ 32) (own land : FVec 𝔽 ⟨3, ![4, r, c]⟩ .f32) (h1 h2 h3 h4) (h5 : Shape.ReducesTo ⟨3, ![4, r, c]⟩ [0] ⟨2, ![r, c]⟩) (h6) :
    (Host.reduceAdd (select (broadcastInDim ⟨3, ![4, r, c]⟩ ![0, 1, 2] h1 (cmpi .eq (broadcastInDim ⟨3, ![4, 1, 1]⟩ ![0] h2 (iotaInDim ⟨1, ![4]⟩ 32 0))
        (broadcastInDim ⟨3, ![4, 1, 1]⟩ ![] h3 (shapeCast S₀ chip h4)))) own land) (constant S₀ .f32 0x00000000#32) h5 h6 : FVec 𝔽 ⟨2, ![r, c]⟩ .f32)
      = grad 0 (Nat.zero_add r).le (word chip) own land := by
  funext Y
  refine (sum_at chip own land h1 h2 h3 h4 h5 h6 Y).trans (Finset.sum_congr rfl fun k _ => ?_)
  have e : part 0 (Nat.zero_add r).le k Y = ix3 k (Y 0) (Y 1) := funext fun
    | ⟨0, _⟩ => rfl
    | ⟨1, _⟩ => Fin.ext (Nat.zero_add _)
    | ⟨2, _⟩ => rfl
  rw [e]; rfl

theorem ref1 (off : ℕ) (h : off + r ≤ R) (chip : IVec S₁ 32) (own land : FVec 𝔽 ⟨3, ![4, R, c]⟩ .f32) (h1 h2 h3 h4) (h5 : Shape.ReducesTo ⟨3, ![4, R, c]⟩ [0] ⟨2, ![R, c]⟩) (h6 h7) :
    extractStridedSlice ⟨2, ![r, c]⟩ ![off, 0]
      (Host.reduceAdd (select (broadcastInDim ⟨3, ![4, R, c]⟩ ![0, 1, 2] h1 (cmpi .eq (broadcastInDim ⟨3, ![4, 1, 1]⟩ ![0] h2 (iotaInDim ⟨1, ![4]⟩ 32 0))
        (broadcastInDim ⟨3, ![4, 1, 1]⟩ ![] h3 (shapeCast S₀ chip h4)))) own land) (constant S₀ .f32 0x00000000#32) h5 h6 : FVec 𝔽 ⟨2, ![R, c]⟩ .f32) h7
      = grad off h (word chip) own land := by
  funext Y
  refine (sum_at chip own land h1 h2 h3 h4 h5 h6 _).trans (Finset.sum_congr rfl fun k _ => ?_)
  have e : part off h k Y = ix3 k (⟨off + (Y 0).val, by have : (Y 0).val < r := (Y 0).isLt; omega⟩ : Fin R) (⟨0 + (Y 1).val, by have : (Y 1).val < c := (Y 1).isLt; omega⟩ : Fin c) :=
    funext fun
    | ⟨0, _⟩ => rfl
    | ⟨1, _⟩ => rfl
    | ⟨2, _⟩ => Fin.ext (Nat.zero_add _).symm
  rw [e]
  rfl

/-- A chip's part, as a call picks it from its two blocks. -/
def term (w : BitVec 32) (a : Vec 𝔽 ⟨3, ![4, tr, c]⟩ .bf16) (b : Vec 𝔽 ⟨3, ![1, tr, c]⟩ .bf16) (y : (⟨2, ![tr, c]⟩ : Shape).Idx) (k : Fin 4) : EReal :=
  Scalar.select (IntOp.cmpi .eq (BitVec.ofNat 32 k.val) w) (b (ix3 (0 : Fin 1) (y 0) (y 1))) (a (ix3 k (y 0) (y 1)))

theorem sel (w : BitVec 32) (k : Fin 4) (a : Vec 𝔽 ⟨3, ![4, tr, c]⟩ .bf16) (b : Vec 𝔽 ⟨3, ![1, tr, c]⟩ .bf16) (y : (⟨2, ![tr, c]⟩ : Shape).Idx) (inb hs hs' hb hb') :
    (Scalar.select (Scalar.cmpi .eq w (BitVec.ofNat 32 k.val))
      (extf .f32 (shapeCast ⟨2, ![tr, c]⟩ b hs : FVec 𝔽 ⟨2, ![tr, c]⟩ .bf16) hb)
      (extf .f32 (shapeCast ⟨2, ![tr, c]⟩ (View.ld a (Rect.unit ![k.val, 0, 0] ![1, tr, c] inb)) hs' : FVec 𝔽 ⟨2, ![tr, c]⟩ .bf16) hb')) y
      = term w a b y k := by
  have e : Scalar.cmpi .eq w (BitVec.ofNat 32 k.val) = IntOp.cmpi .eq (BitVec.ofNat 32 k.val) w := by
    show IntOp.cmpi _ _ _ = _
    simp only [IntOp.cmpi, Bool.beq_comm]
  rw [e]
  unfold term Scalar.select
  split
  · show shapeCast ⟨2, ![tr, c]⟩ b hs y = _
    refine (congrArg _ (ValueIdx.eq_ix2 (n0 := tr) (n1 := c) y)).trans (shapeCast_1ab_ab_apply _ _ _ _)
  · show shapeCast ⟨2, ![tr, c]⟩ (View.ld a _) hs' y = _
    refine (congrArg _ (ValueIdx.eq_ix2 (n0 := tr) (n1 := c) y)).trans ((shapeCast_1ab_ab_apply _ _ _ _).trans (congrArg a (funext fun ax => Fin.ext ?_)))
    match ax with
    | ⟨0, _⟩ => rfl
    | ⟨1, _⟩ => exact (Nat.zero_add _).trans (Nat.one_mul _)
    | ⟨2, _⟩ => exact (Nat.zero_add _).trans (Nat.one_mul _)

/-- The gradient as a call adds it up, the token's entry last. -/
theorem gsum {w : BitVec 32} {a : Vec 𝔽 ⟨3, ![4, tr, c]⟩ .bf16} {b : Vec 𝔽 ⟨3, ![1, tr, c]⟩ .bf16} {y : (⟨2, ![tr, c]⟩ : Shape).Idx} {f0 f1 f2 f3 z : EReal}
    (h0 : f0 = term w a b y 0) (h1 : f1 = term w a b y 1) (h2 : f2 = term w a b y 2) (h3 : f3 = term w a b y 3) (hz : z = 0) :
    f0 + f1 + f2 + f3 + z = ∑ k, term w a b y k := by
  rw [hz, add_zero, Fin.sum_univ_four, h0, h1, h2, h3]

/-- The terms are those of the gradient at the block's place, when the blocks' entries are those of the parts there. -/
theorem gsum_eq {off : ℕ} {h : off + r ≤ R} {chip w : BitVec 32} {own land : FVec 𝔽 ⟨3, ![4, R, c]⟩ .f32} {a : Vec 𝔽 ⟨3, ![4, tr, c]⟩ .bf16} {b : Vec 𝔽 ⟨3, ![1, tr, c]⟩ .bf16}
    {y : (⟨2, ![tr, c]⟩ : Shape).Idx} {Y : (⟨2, ![r, c]⟩ : Shape).Idx} (hw : w = chip) (ha : ∀ k, a (ix3 k (y 0) (y 1)) = land (part off h k Y))
    (hb : ∀ k : Fin 4, chip = BitVec.ofNat 32 k.val → b (ix3 (0 : Fin 1) (y 0) (y 1)) = own (part off h k Y)) :
    ∑ k, term w a b y k = grad off h chip own land Y := by
  subst hw
  refine Finset.sum_congr rfl fun k _ => ?_
  unfold term Scalar.select
  split
  · rename_i e; exact hb k (word_eq e)
  · exact ha k

/-- An array formed entry by entry, at an entry. -/
theorem at2 {α ι : Type} (k : (ι → α) → (ι → α) → ι → α) (hk : ∀ g a y, k g a y = k (fun _ => g y) (fun _ => a y) y) {g a : ι → α} {y : ι} {u v : α}
    (hg : g y = u) (ha : a y = v) : k g a y = k (fun _ => u) (fun _ => v) y := by
  subst hg ha; exact hk ..
theorem at4 {α ι : Type} (k : (ι → α) → (ι → α) → (ι → α) → (ι → α) → ι → α)
    (hk : ∀ g a b w y, k g a b w y = k (fun _ => g y) (fun _ => a y) (fun _ => b y) (fun _ => w y) y) {g a b w : ι → α} {y : ι} {u v p q : α}
    (hg : g y = u) (ha : a y = v) (hb : b y = p) (hw : w y = q) : k g a b w y = k (fun _ => u) (fun _ => v) (fun _ => p) (fun _ => q) y := by
  subst hg ha hb hw; exact hk ..

end Cert.Calc.Ad

end
-- ==== Proof.AdIn.lean ====
module

public import proofs.«01_k».proof.Proof.Gen.KernelAdIn.Frame
public import proofs.«01_k».proof.Proof.Gen.KernelAdInIdeal.Frame
public import proofs.«01_k».proof.Proof.Gen.ReferenceAdInIdeal.Run
public import proofs.«01_k».proof.Proof.AdBase

/-! The optimiser's call on the input projection's matrix, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre : Cert.Pre_on_a_chip.Facts where
  bcast_S_S1 := by decide
  reducesTo_S1_S_d0 := by decide
  h_S_ := by decide

namespace Cert.Calc.AdIn

section kernel
open Cert.KernelAdInIdeal Cert.KernelAdInIdeal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 4 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 256 ≤ 1024
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 4) (y : S256x1024.Idx) : S1024x1024.Idx := place (by decide) t y
/-- The place of a weight's entry in a chip's part. -/
abbrev part' (k : Fin 4) (Y : S1024x1024.Idx) : S4x1024x1024.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S256x1024.Idx) : (((cfgM m hO).win 6).blk t).view.emb y = at' t y := by
  funext a; apply Fin.ext
  match a with
  | ⟨0, _⟩ => show cc0_transform_6 (grid0.coords t) 0 * 256 + 1 * (y 0).val = t.val * 256 + (y 0).val; rw [coord]; simp
  | ⟨1, _⟩ => show cc0_transform_6 (grid0.coords t) 1 * 1024 + 1 * (y 1).val = (y 1).val; rw [coord]; simp

theorem blk0 (t : Fin (cfgM m hO).N) (y : S256x1024.Idx) : iblk m hO c 0 t y = m ((c : Thread nD τ).loc main_arg0) (at' t y) := by
  rw [← V_main_arg0 m c, ← emb6]; rfl
theorem blk3 (t : Fin (cfgM m hO).N) (y : S256x1024.Idx) : iblk m hO c 3 t y = m ((c : Thread nD τ).loc main_arg4) (at' t y) := by
  rw [← V_main_arg4 m c, ← emb6]; rfl
theorem blk4 (t : Fin (cfgM m hO).N) (y : S256x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S256x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 256 + 1 * (y 0).val = 0 + (t.val * 256 + (y 0).val); rw [coord1]; simp
  | ⟨2, _⟩ => show cc0_transform_1 (grid0.coords t) 2 * 1024 + 1 * (y 1).val = (y 1).val; rw [coord1]; simp

theorem blk2 (t : Fin (cfgM m hO).N) (y : S256x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 256 + 1 * (y 0).val = 0 + (t.val * 256 + (y 0).val); rw [coord1]; simp
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S256x1024.Idx) : (dats m hO 0 c).after 6 t y =
    grad (R := 1024) (r := 1024) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S1024x1024.Idx) : ∃ t : Fin (cfgM m hO).N, ((cfgM m hO).win 6).flush t = true ∧ i ∈ (((cfgM m hO).win 6).blk t).view.set := by
  have key : ∃ (t : Fin (cfgM m hO).N) (y : S256x1024.Idx), i = at' t y := exists_place (n := 4) (tr := 256) (by decide) i
  obtain ⟨t, y, e⟩ := key
  refine ⟨t, flush0_6 _ t, ?_⟩
  rw [e, ← emb6 m hO t y]
  exact View.emb_mem_set _ _

end kernel

theorem frameP : Cert.quiescent_KernelAdIn (hKernelAdIn := Cert.KernelAdIn.Gen.facts) (hPre_on_a_chip := pre) := fun m ρ h =>
  Cert.KernelAdIn.Gen.frame m ρ (ok (F := Bits) m fun c => chip_lt _ _ _ _ (h c))
theorem framePI : Cert.quiescent_KernelAdInIdeal (hKernelAdInIdeal := Cert.KernelAdInIdeal.Gen.facts) (hPre_on_a_chip := pre) := fun m ρ h =>
  Cert.KernelAdInIdeal.Gen.frame m ρ (ok m fun c => chip_lt _ _ _ _ (h c))

open Cert.ReferenceAdInIdeal Cert.ReferenceAdInIdeal.Gen in
/-- The reference is host operations only: its run read at the arguments; it declares no semaphore. -/
theorem frame : Cert.quiescent_ReferenceAdInIdeal (hReferenceAdInIdeal := Cert.ReferenceAdInIdeal.Gen.facts) (hPre_on_a_chip := pre) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdInIdeal Cert.KernelAdInIdeal.Gen in
/-- The kernel's four results are the reference's. -/
theorem value : Cert.algebraic_KernelAdInIdeal_ReferenceAdInIdeal (hKernelAdInIdeal := Cert.KernelAdInIdeal.Gen.facts)
    (hReferenceAdInIdeal := Cert.ReferenceAdInIdeal.Gen.facts) (hPre_on_a_chip := pre) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdInIdeal.defs _ _).mono (fun r h c => ?_) (Cert.ReferenceAdInIdeal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref0] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdIn

end
-- ==== Proof.AdDown.lean ====
module

public import proofs.«01_k».proof.Proof.Gen.KernelAdDown.Frame
public import proofs.«01_k».proof.Proof.Gen.KernelAdDownIdeal.Frame
public import proofs.«01_k».proof.Proof.Gen.ReferenceAdDownIdeal.Run
public import proofs.«01_k».proof.Proof.AdBase

/-! The optimiser's call on a down projection's matrix, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre_down : Cert.Pre_on_a_chip_down.Facts where
  bcast_S_S1 := by decide
  reducesTo_S1_S_d0 := by decide
  h_S_ := by decide

namespace Cert.Calc.AdDown

section kernel
open Cert.KernelAdDownIdeal Cert.KernelAdDownIdeal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 176 ≤ 352
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S176x1024.Idx) : S352x1024.Idx := place (by decide) t y
/-- The place of a weight's entry in a chip's part. -/
abbrev part' (k : Fin 4) (Y : S352x1024.Idx) : S4x352x1024.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S176x1024.Idx) : (((cfgM m hO).win 6).blk t).view.emb y = at' t y := by
  funext a; apply Fin.ext
  match a with
  | ⟨0, _⟩ => show cc0_transform_6 (grid0.coords t) 0 * 176 + 1 * (y 0).val = t.val * 176 + (y 0).val; rw [coord]; simp
  | ⟨1, _⟩ => show cc0_transform_6 (grid0.coords t) 1 * 1024 + 1 * (y 1).val = (y 1).val; rw [coord]; simp

theorem blk0 (t : Fin (cfgM m hO).N) (y : S176x1024.Idx) : iblk m hO c 0 t y = m ((c : Thread nD τ).loc main_arg0) (at' t y) := by
  rw [← V_main_arg0 m c, ← emb6]; rfl
theorem blk3 (t : Fin (cfgM m hO).N) (y : S176x1024.Idx) : iblk m hO c 3 t y = m ((c : Thread nD τ).loc main_arg4) (at' t y) := by
  rw [← V_main_arg4 m c, ← emb6]; rfl
theorem blk4 (t : Fin (cfgM m hO).N) (y : S176x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S176x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 176 + 1 * (y 0).val = 0 + (t.val * 176 + (y 0).val); rw [coord1]; simp
  | ⟨2, _⟩ => show cc0_transform_1 (grid0.coords t) 2 * 1024 + 1 * (y 1).val = (y 1).val; rw [coord1]; simp

theorem blk2 (t : Fin (cfgM m hO).N) (y : S176x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 176 + 1 * (y 0).val = 0 + (t.val * 176 + (y 0).val); rw [coord1]; simp
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S176x1024.Idx) : (dats m hO 0 c).after 6 t y =
    grad (R := 352) (r := 352) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S352x1024.Idx) : ∃ t : Fin (cfgM m hO).N, ((cfgM m hO).win 6).flush t = true ∧ i ∈ (((cfgM m hO).win 6).blk t).view.set := by
  have key : ∃ (t : Fin (cfgM m hO).N) (y : S176x1024.Idx), i = at' t y := exists_place (n := 2) (tr := 176) (by decide) i
  obtain ⟨t, y, e⟩ := key
  refine ⟨t, flush0_6 _ t, ?_⟩
  rw [e, ← emb6 m hO t y]
  exact View.emb_mem_set _ _

end kernel

theorem frameP : Cert.quiescent_KernelAdDown (hKernelAdDown := Cert.KernelAdDown.Gen.facts) (hPre_on_a_chip_down := pre_down) := fun m ρ h =>
  Cert.KernelAdDown.Gen.frame m ρ (ok (F := Bits) m fun c => chip_lt _ _ _ _ (h c))
theorem framePI : Cert.quiescent_KernelAdDownIdeal (hKernelAdDownIdeal := Cert.KernelAdDownIdeal.Gen.facts) (hPre_on_a_chip_down := pre_down) := fun m ρ h =>
  Cert.KernelAdDownIdeal.Gen.frame m ρ (ok m fun c => chip_lt _ _ _ _ (h c))

open Cert.ReferenceAdDownIdeal Cert.ReferenceAdDownIdeal.Gen in
/-- The reference is host operations only: its run read at the arguments; it declares no semaphore. -/
theorem frame : Cert.quiescent_ReferenceAdDownIdeal (hReferenceAdDownIdeal := Cert.ReferenceAdDownIdeal.Gen.facts) (hPre_on_a_chip_down := pre_down) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdDownIdeal Cert.KernelAdDownIdeal.Gen in
/-- The kernel's four results are the reference's. -/
theorem value : Cert.algebraic_KernelAdDownIdeal_ReferenceAdDownIdeal (hKernelAdDownIdeal := Cert.KernelAdDownIdeal.Gen.facts)
    (hReferenceAdDownIdeal := Cert.ReferenceAdDownIdeal.Gen.facts) (hPre_on_a_chip_down := pre_down) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdDownIdeal.defs _ _).mono (fun r h c => ?_) (Cert.ReferenceAdDownIdeal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref0] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdDown

end
-- ==== Proof.AdCkv.lean ====
module

public import proofs.«01_k».proof.Proof.Gen.KernelAdCkv.Frame
public import proofs.«01_k».proof.Proof.Gen.KernelAdCkvIdeal.Frame
public import proofs.«01_k».proof.Proof.Gen.ReferenceAdCkvIdeal.Run
public import proofs.«01_k».proof.Proof.AdBase

/-! The optimiser's call on the cross attention's key and value matrix, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre_ckv : Cert.Pre_on_a_chip_ckv.Facts where
  bcast_S_S1 := by decide
  reducesTo_S1_S_d0 := by decide
  h_S_ := by decide

namespace Cert.Calc.AdCkv

section kernel
open Cert.KernelAdCkvIdeal Cert.KernelAdCkvIdeal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 4 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 256 ≤ 1024
    simp only [BitVec.toNat_add, BitVec.toNat_ofNat]; omega
  | ⟨2, _⟩ => exact (by decide : (0 + 1) * 256 ≤ 256)

variable (m : (ℓ : Loc nD τ sig) → Buf (Elt 𝔽) ℓ) (hO : Ok m) (c : Dev nD)

/-- The place of a block's entry in the weight. -/
abbrev at' (t : Fin 4) (y : S256x256.Idx) : S1024x256.Idx := place (by decide) t y
/-- The place of a weight's entry in a chip's part. -/
abbrev part' (k : Fin 4) (Y : S1024x256.Idx) : S4x1024x256.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S256x256.Idx) : (((cfgM m hO).win 6).blk t).view.emb y = at' t y := by
  funext a; apply Fin.ext
  match a with
  | ⟨0, _⟩ => show cc0_transform_6 (grid0.coords t) 0 * 256 + 1 * (y 0).val = t.val * 256 + (y 0).val; rw [coord]; simp
  | ⟨1, _⟩ => show cc0_transform_6 (grid0.coords t) 1 * 256 + 1 * (y 1).val = (y 1).val; rw [coord]; simp

theorem blk0 (t : Fin (cfgM m hO).N) (y : S256x256.Idx) : iblk m hO c 0 t y = m ((c : Thread nD τ).loc main_arg0) (at' t y) := by
  rw [← V_main_arg0 m c, ← emb6]; rfl
theorem blk3 (t : Fin (cfgM m hO).N) (y : S256x256.Idx) : iblk m hO c 3 t y = m ((c : Thread nD τ).loc main_arg4) (at' t y) := by
  rw [← V_main_arg4 m c, ← emb6]; rfl
theorem blk4 (t : Fin (cfgM m hO).N) (y : S256x256.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S256x256.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 256 + 1 * (y 0).val = 0 + (t.val * 256 + (y 0).val); rw [coord1]; simp
  | ⟨2, _⟩ => show cc0_transform_1 (grid0.coords t) 2 * 256 + 1 * (y 1).val = (y 1).val; rw [coord1]; simp

theorem blk2 (t : Fin (cfgM m hO).N) (y : S256x256.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 256 + 1 * (y 0).val = 0 + (t.val * 256 + (y 0).val); rw [coord1]; simp
  | ⟨2, _⟩ => show cc0_transform_1 (grid0.coords t) 2 * 256 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S256x256.Idx) : (dats m hO 0 c).after 6 t y =
    grad (R := 1024) (r := 1024) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S1024x256.Idx) : ∃ t : Fin (cfgM m hO).N, ((cfgM m hO).win 6).flush t = true ∧ i ∈ (((cfgM m hO).win 6).blk t).view.set := by
  have key : ∃ (t : Fin (cfgM m hO).N) (y : S256x256.Idx), i = at' t y := exists_place (n := 4) (tr := 256) (by decide) i
  obtain ⟨t, y, e⟩ := key
  refine ⟨t, flush0_6 _ t, ?_⟩
  rw [e, ← emb6 m hO t y]
  exact View.emb_mem_set _ _

end kernel

theorem frameP : Cert.quiescent_KernelAdCkv (hKernelAdCkv := Cert.KernelAdCkv.Gen.facts) (hPre_on_a_chip_ckv := pre_ckv) := fun m ρ h =>
  Cert.KernelAdCkv.Gen.frame m ρ (ok (F := Bits) m fun c => chip_lt _ _ _ _ (h c))
theorem framePI : Cert.quiescent_KernelAdCkvIdeal (hKernelAdCkvIdeal := Cert.KernelAdCkvIdeal.Gen.facts) (hPre_on_a_chip_ckv := pre_ckv) := fun m ρ h =>
  Cert.KernelAdCkvIdeal.Gen.frame m ρ (ok m fun c => chip_lt _ _ _ _ (h c))

open Cert.ReferenceAdCkvIdeal Cert.ReferenceAdCkvIdeal.Gen in
/-- The reference is host operations only: its run read at the arguments; it declares no semaphore. -/
theorem frame : Cert.quiescent_ReferenceAdCkvIdeal (hReferenceAdCkvIdeal := Cert.ReferenceAdCkvIdeal.Gen.facts) (hPre_on_a_chip_ckv := pre_ckv) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdCkvIdeal Cert.KernelAdCkvIdeal.Gen in
/-- The kernel's four results are the reference's. -/
theorem value : Cert.algebraic_KernelAdCkvIdeal_ReferenceAdCkvIdeal (hKernelAdCkvIdeal := Cert.KernelAdCkvIdeal.Gen.facts)
    (hReferenceAdCkvIdeal := Cert.ReferenceAdCkvIdeal.Gen.facts) (hPre_on_a_chip_ckv := pre_ckv) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdCkvIdeal.defs _ _).mono (fun r h c => ?_) (Cert.ReferenceAdCkvIdeal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref0] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdCkv

end
-- ==== Proof.AdMix.lean ====
module

public import proofs.«01_k».proof.Proof.Gen.KernelAdMix0.Frame
public import proofs.«01_k».proof.Proof.Gen.KernelAdMix0Ideal.Frame
public import proofs.«01_k».proof.Proof.Gen.ReferenceAdMix0Ideal.Run
public import proofs.«01_k».proof.Proof.Gen.KernelAdMix1.Frame
public import proofs.«01_k».proof.Proof.Gen.KernelAdMix1Ideal.Frame
public import proofs.«01_k».proof.Proof.Gen.ReferenceAdMix1Ideal.Run
public import proofs.«01_k».proof.Proof.Gen.KernelAdMix2.Frame
public import proofs.«01_k».proof.Proof.Gen.KernelAdMix2Ideal.Frame
public import proofs.«01_k».proof.Proof.Gen.ReferenceAdMix2Ideal.Run
public import proofs.«01_k».proof.Proof.AdBase

/-! The optimiser's call on the mixer's three square matrices, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre_mix : Cert.Pre_on_a_chip_mix.Facts where
  bcast_S_S1 := by decide
  reducesTo_S1_S_d0 := by decide
  h_S_ := by decide

namespace Cert.Calc.AdMix0

section kernel
open Cert.KernelAdMix0Ideal Cert.KernelAdMix0Ideal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 64 ≤ 384
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S64x1024.Idx) : S128x1024.Idx := place (by decide) t y
/-- The place of a weight's entry in a chip's part. -/
abbrev part' (k : Fin 4) (Y : S128x1024.Idx) : S4x384x1024.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S64x1024.Idx) : (((cfgM m hO).win 6).blk t).view.emb y = at' t y := by
  funext a; apply Fin.ext
  match a with
  | ⟨0, _⟩ => show cc0_transform_6 (grid0.coords t) 0 * 64 + 1 * (y 0).val = t.val * 64 + (y 0).val; rw [coord]; simp
  | ⟨1, _⟩ => show cc0_transform_6 (grid0.coords t) 1 * 1024 + 1 * (y 1).val = (y 1).val; rw [coord]; simp

theorem blk0 (t : Fin (cfgM m hO).N) (y : S64x1024.Idx) : iblk m hO c 0 t y = m ((c : Thread nD τ).loc main_arg0) (at' t y) := by
  rw [← V_main_arg0 m c, ← emb6]; rfl
theorem blk3 (t : Fin (cfgM m hO).N) (y : S64x1024.Idx) : iblk m hO c 3 t y = m ((c : Thread nD τ).loc main_arg4) (at' t y) := by
  rw [← V_main_arg4 m c, ← emb6]; rfl
theorem blk4 (t : Fin (cfgM m hO).N) (y : S64x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S64x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 64 + 1 * (y 0).val = 0 + (t.val * 64 + (y 0).val); rw [coord1]; simp
  | ⟨2, _⟩ => show cc0_transform_1 (grid0.coords t) 2 * 1024 + 1 * (y 1).val = (y 1).val; rw [coord1]; simp

theorem blk2 (t : Fin (cfgM m hO).N) (y : S64x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 64 + 1 * (y 0).val = 0 + (t.val * 64 + (y 0).val); rw [coord1]; simp
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S64x1024.Idx) : (dats m hO 0 c).after 6 t y =
    grad (R := 384) (r := 128) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S128x1024.Idx) : ∃ t : Fin (cfgM m hO).N, ((cfgM m hO).win 6).flush t = true ∧ i ∈ (((cfgM m hO).win 6).blk t).view.set := by
  have key : ∃ (t : Fin (cfgM m hO).N) (y : S64x1024.Idx), i = at' t y := exists_place (n := 2) (tr := 64) (by decide) i
  obtain ⟨t, y, e⟩ := key
  refine ⟨t, flush0_6 _ t, ?_⟩
  rw [e, ← emb6 m hO t y]
  exact View.emb_mem_set _ _

end kernel

theorem frameP : Cert.quiescent_KernelAdMix0 (hKernelAdMix0 := Cert.KernelAdMix0.Gen.facts) (hPre_on_a_chip_mix := pre_mix) := fun m ρ h =>
  Cert.KernelAdMix0.Gen.frame m ρ (ok (F := Bits) m fun c => chip_lt _ _ _ _ (h c))
theorem framePI : Cert.quiescent_KernelAdMix0Ideal (hKernelAdMix0Ideal := Cert.KernelAdMix0Ideal.Gen.facts) (hPre_on_a_chip_mix := pre_mix) := fun m ρ h =>
  Cert.KernelAdMix0Ideal.Gen.frame m ρ (ok m fun c => chip_lt _ _ _ _ (h c))

open Cert.ReferenceAdMix0Ideal Cert.ReferenceAdMix0Ideal.Gen in
/-- The reference is host operations only: its run read at the arguments; it declares no semaphore. -/
theorem frame : Cert.quiescent_ReferenceAdMix0Ideal (hReferenceAdMix0Ideal := Cert.ReferenceAdMix0Ideal.Gen.facts) (hPre_on_a_chip_mix := pre_mix) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdMix0Ideal Cert.KernelAdMix0Ideal.Gen in
/-- The kernel's four results are the reference's. -/
theorem value : Cert.algebraic_KernelAdMix0Ideal_ReferenceAdMix0Ideal (hKernelAdMix0Ideal := Cert.KernelAdMix0Ideal.Gen.facts)
    (hReferenceAdMix0Ideal := Cert.ReferenceAdMix0Ideal.Gen.facts) (hPre_on_a_chip_mix := pre_mix) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdMix0Ideal.defs _ _).mono (fun r h c => ?_) (Cert.ReferenceAdMix0Ideal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 0 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdMix0

namespace Cert.Calc.AdMix1

section kernel
open Cert.KernelAdMix1Ideal Cert.KernelAdMix1Ideal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 2#32).toNat + 1) * 64 ≤ 384
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S64x1024.Idx) : S128x1024.Idx := place (by decide) t y
/-- The place of a weight's entry in a chip's part. -/
abbrev part' (k : Fin 4) (Y : S128x1024.Idx) : S4x384x1024.Idx := part 128 (by decide) k Y

theorem coord : ∀ t : Fin grid0.N, cc0_transform_6 (grid0.coords t) = ![t.val, 0] := by decide +kernel
theorem coord1 : ∀ t : Fin grid0.N, cc0_transform_1 (grid0.coords t) = ![0, t.val + 2, 0] := by decide +kernel

theorem emb6 (t : Fin (cfgM m hO).N) (y : S64x1024.Idx) : (((cfgM m hO).win 6).blk t).view.emb y = at' t y := by
  funext a; apply Fin.ext
  match a with
  | ⟨0, _⟩ => show cc0_transform_6 (grid0.coords t) 0 * 64 + 1 * (y 0).val = t.val * 64 + (y 0).val; rw [coord]; simp
  | ⟨1, _⟩ => show cc0_transform_6 (grid0.coords t) 1 * 1024 + 1 * (y 1).val = (y 1).val; rw [coord]; simp

theorem blk0 (t : Fin (cfgM m hO).N) (y : S64x1024.Idx) : iblk m hO c 0 t y = m ((c : Thread nD τ).loc main_arg0) (at' t y) := by
  rw [← V_main_arg0 m c, ← emb6]; rfl
theorem blk3 (t : Fin (cfgM m hO).N) (y : S64x1024.Idx) : iblk m hO c 3 t y = m ((c : Thread nD τ).loc main_arg4) (at' t y) := by
  rw [← V_main_arg4 m c, ← emb6]; rfl
theorem blk4 (t : Fin (cfgM m hO).N) (y : S64x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S64x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 64 + 1 * (y 0).val = 128 + (t.val * 64 + (y 0).val); rw [coord1]; simp <;> omega
  | ⟨2, _⟩ => show cc0_transform_1 (grid0.coords t) 2 * 1024 + 1 * (y 1).val = (y 1).val; rw [coord1]; simp

theorem blk2 (t : Fin (cfgM m hO).N) (y : S64x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 64 + 1 * (y 0).val = 128 + (t.val * 64 + (y 0).val); rw [coord1]; simp <;> omega
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S64x1024.Idx) : (dats m hO 0 c).after 6 t y =
    grad (R := 384) (r := 128) 128 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S128x1024.Idx) : ∃ t : Fin (cfgM m hO).N, ((cfgM m hO).win 6).flush t = true ∧ i ∈ (((cfgM m hO).win 6).blk t).view.set := by
  have key : ∃ (t : Fin (cfgM m hO).N) (y : S64x1024.Idx), i = at' t y := exists_place (n := 2) (tr := 64) (by decide) i
  obtain ⟨t, y, e⟩ := key
  refine ⟨t, flush0_6 _ t, ?_⟩
  rw [e, ← emb6 m hO t y]
  exact View.emb_mem_set _ _

end kernel

theorem frameP : Cert.quiescent_KernelAdMix1 (hKernelAdMix1 := Cert.KernelAdMix1.Gen.facts) (hPre_on_a_chip_mix := pre_mix) := fun m ρ h =>
  Cert.KernelAdMix1.Gen.frame m ρ (ok (F := Bits) m fun c => chip_lt _ _ _ _ (h c))
theorem framePI : Cert.quiescent_KernelAdMix1Ideal (hKernelAdMix1Ideal := Cert.KernelAdMix1Ideal.Gen.facts) (hPre_on_a_chip_mix := pre_mix) := fun m ρ h =>
  Cert.KernelAdMix1Ideal.Gen.frame m ρ (ok m fun c => chip_lt _ _ _ _ (h c))

open Cert.ReferenceAdMix1Ideal Cert.ReferenceAdMix1Ideal.Gen in
/-- The reference is host operations only: its run read at the arguments; it declares no semaphore. -/
theorem frame : Cert.quiescent_ReferenceAdMix1Ideal (hReferenceAdMix1Ideal := Cert.ReferenceAdMix1Ideal.Gen.facts) (hPre_on_a_chip_mix := pre_mix) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdMix1Ideal Cert.KernelAdMix1Ideal.Gen in
/-- The kernel's four results are the reference's. -/
theorem value : Cert.algebraic_KernelAdMix1Ideal_ReferenceAdMix1Ideal (hKernelAdMix1Ideal := Cert.KernelAdMix1Ideal.Gen.facts)
    (hReferenceAdMix1Ideal := Cert.ReferenceAdMix1Ideal.Gen.facts) (hPre_on_a_chip_mix := pre_mix) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdMix1Ideal.defs _ _).mono (fun r h c => ?_) (Cert.ReferenceAdMix1Ideal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 128 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdMix1

namespace Cert.Calc.AdMix2

section kernel
open Cert.KernelAdMix2Ideal Cert.KernelAdMix2Ideal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 4#32).toNat + 1) * 64 ≤ 384
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S64x1024.Idx) : S128x1024.Idx := place (by decide) t y
/-- The place of a weight's entry in a chip's part. -/
abbrev part' (k : Fin 4) (Y : S128x1024.Idx) : S4x384x1024.Idx := part 256 (by decide) k Y

theorem coord : ∀ t : Fin grid0.N, cc0_transform_6 (grid0.coords t) = ![t.val, 0] := by decide +kernel
theorem coord1 : ∀ t : Fin grid0.N, cc0_transform_1 (grid0.coords t) = ![0, t.val + 4, 0] := by decide +kernel

theorem emb6 (t : Fin (cfgM m hO).N) (y : S64x1024.Idx) : (((cfgM m hO).win 6).blk t).view.emb y = at' t y := by
  funext a; apply Fin.ext
  match a with
  | ⟨0, _⟩ => show cc0_transform_6 (grid0.coords t) 0 * 64 + 1 * (y 0).val = t.val * 64 + (y 0).val; rw [coord]; simp
  | ⟨1, _⟩ => show cc0_transform_6 (grid0.coords t) 1 * 1024 + 1 * (y 1).val = (y 1).val; rw [coord]; simp

theorem blk0 (t : Fin (cfgM m hO).N) (y : S64x1024.Idx) : iblk m hO c 0 t y = m ((c : Thread nD τ).loc main_arg0) (at' t y) := by
  rw [← V_main_arg0 m c, ← emb6]; rfl
theorem blk3 (t : Fin (cfgM m hO).N) (y : S64x1024.Idx) : iblk m hO c 3 t y = m ((c : Thread nD τ).loc main_arg4) (at' t y) := by
  rw [← V_main_arg4 m c, ← emb6]; rfl
theorem blk4 (t : Fin (cfgM m hO).N) (y : S64x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S64x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 64 + 1 * (y 0).val = 256 + (t.val * 64 + (y 0).val); rw [coord1]; simp <;> omega
  | ⟨2, _⟩ => show cc0_transform_1 (grid0.coords t) 2 * 1024 + 1 * (y 1).val = (y 1).val; rw [coord1]; simp

theorem blk2 (t : Fin (cfgM m hO).N) (y : S64x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 64 + 1 * (y 0).val = 256 + (t.val * 64 + (y 0).val); rw [coord1]; simp <;> omega
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S64x1024.Idx) : (dats m hO 0 c).after 6 t y =
    grad (R := 384) (r := 128) 256 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S128x1024.Idx) : ∃ t : Fin (cfgM m hO).N, ((cfgM m hO).win 6).flush t = true ∧ i ∈ (((cfgM m hO).win 6).blk t).view.set := by
  have key : ∃ (t : Fin (cfgM m hO).N) (y : S64x1024.Idx), i = at' t y := exists_place (n := 2) (tr := 64) (by decide) i
  obtain ⟨t, y, e⟩ := key
  refine ⟨t, flush0_6 _ t, ?_⟩
  rw [e, ← emb6 m hO t y]
  exact View.emb_mem_set _ _

end kernel

theorem frameP : Cert.quiescent_KernelAdMix2 (hKernelAdMix2 := Cert.KernelAdMix2.Gen.facts) (hPre_on_a_chip_mix := pre_mix) := fun m ρ h =>
  Cert.KernelAdMix2.Gen.frame m ρ (ok (F := Bits) m fun c => chip_lt _ _ _ _ (h c))
theorem framePI : Cert.quiescent_KernelAdMix2Ideal (hKernelAdMix2Ideal := Cert.KernelAdMix2Ideal.Gen.facts) (hPre_on_a_chip_mix := pre_mix) := fun m ρ h =>
  Cert.KernelAdMix2Ideal.Gen.frame m ρ (ok m fun c => chip_lt _ _ _ _ (h c))

open Cert.ReferenceAdMix2Ideal Cert.ReferenceAdMix2Ideal.Gen in
/-- The reference is host operations only: its run read at the arguments; it declares no semaphore. -/
theorem frame : Cert.quiescent_ReferenceAdMix2Ideal (hReferenceAdMix2Ideal := Cert.ReferenceAdMix2Ideal.Gen.facts) (hPre_on_a_chip_mix := pre_mix) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdMix2Ideal Cert.KernelAdMix2Ideal.Gen in
/-- The kernel's four results are the reference's. -/
theorem value : Cert.algebraic_KernelAdMix2Ideal_ReferenceAdMix2Ideal (hKernelAdMix2Ideal := Cert.KernelAdMix2Ideal.Gen.facts)
    (hReferenceAdMix2Ideal := Cert.ReferenceAdMix2Ideal.Gen.facts) (hPre_on_a_chip_mix := pre_mix) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdMix2Ideal.defs _ _).mono (fun r h c => ?_) (Cert.ReferenceAdMix2Ideal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 256 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdMix2

end
-- ==== Proof.AdCross.lean ====
module

public import proofs.«01_k».proof.Proof.Gen.KernelAdCross0.Frame
public import proofs.«01_k».proof.Proof.Gen.KernelAdCross0Ideal.Frame
public import proofs.«01_k».proof.Proof.Gen.ReferenceAdCross0Ideal.Run
public import proofs.«01_k».proof.Proof.Gen.KernelAdCross1.Frame
public import proofs.«01_k».proof.Proof.Gen.KernelAdCross1Ideal.Frame
public import proofs.«01_k».proof.Proof.Gen.ReferenceAdCross1Ideal.Run
public import proofs.«01_k».proof.Proof.AdBase

/-! The optimiser's call on the cross attention's two square matrices, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre_cross : Cert.Pre_on_a_chip_cross.Facts where
  bcast_S_S1 := by decide
  reducesTo_S1_S_d0 := by decide
  h_S_ := by decide

namespace Cert.Calc.AdCross0

section kernel
open Cert.KernelAdCross0Ideal Cert.KernelAdCross0Ideal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 64 ≤ 256
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S64x1024.Idx) : S128x1024.Idx := place (by decide) t y
/-- The place of a weight's entry in a chip's part. -/
abbrev part' (k : Fin 4) (Y : S128x1024.Idx) : S4x256x1024.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S64x1024.Idx) : (((cfgM m hO).win 6).blk t).view.emb y = at' t y := by
  funext a; apply Fin.ext
  match a with
  | ⟨0, _⟩ => show cc0_transform_6 (grid0.coords t) 0 * 64 + 1 * (y 0).val = t.val * 64 + (y 0).val; rw [coord]; simp
  | ⟨1, _⟩ => show cc0_transform_6 (grid0.coords t) 1 * 1024 + 1 * (y 1).val = (y 1).val; rw [coord]; simp

theorem blk0 (t : Fin (cfgM m hO).N) (y : S64x1024.Idx) : iblk m hO c 0 t y = m ((c : Thread nD τ).loc main_arg0) (at' t y) := by
  rw [← V_main_arg0 m c, ← emb6]; rfl
theorem blk3 (t : Fin (cfgM m hO).N) (y : S64x1024.Idx) : iblk m hO c 3 t y = m ((c : Thread nD τ).loc main_arg4) (at' t y) := by
  rw [← V_main_arg4 m c, ← emb6]; rfl
theorem blk4 (t : Fin (cfgM m hO).N) (y : S64x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S64x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 64 + 1 * (y 0).val = 0 + (t.val * 64 + (y 0).val); rw [coord1]; simp
  | ⟨2, _⟩ => show cc0_transform_1 (grid0.coords t) 2 * 1024 + 1 * (y 1).val = (y 1).val; rw [coord1]; simp

theorem blk2 (t : Fin (cfgM m hO).N) (y : S64x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 64 + 1 * (y 0).val = 0 + (t.val * 64 + (y 0).val); rw [coord1]; simp
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S64x1024.Idx) : (dats m hO 0 c).after 6 t y =
    grad (R := 256) (r := 128) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S128x1024.Idx) : ∃ t : Fin (cfgM m hO).N, ((cfgM m hO).win 6).flush t = true ∧ i ∈ (((cfgM m hO).win 6).blk t).view.set := by
  have key : ∃ (t : Fin (cfgM m hO).N) (y : S64x1024.Idx), i = at' t y := exists_place (n := 2) (tr := 64) (by decide) i
  obtain ⟨t, y, e⟩ := key
  refine ⟨t, flush0_6 _ t, ?_⟩
  rw [e, ← emb6 m hO t y]
  exact View.emb_mem_set _ _

end kernel

theorem frameP : Cert.quiescent_KernelAdCross0 (hKernelAdCross0 := Cert.KernelAdCross0.Gen.facts) (hPre_on_a_chip_cross := pre_cross) := fun m ρ h =>
  Cert.KernelAdCross0.Gen.frame m ρ (ok (F := Bits) m fun c => chip_lt _ _ _ _ (h c))
theorem framePI : Cert.quiescent_KernelAdCross0Ideal (hKernelAdCross0Ideal := Cert.KernelAdCross0Ideal.Gen.facts) (hPre_on_a_chip_cross := pre_cross) := fun m ρ h =>
  Cert.KernelAdCross0Ideal.Gen.frame m ρ (ok m fun c => chip_lt _ _ _ _ (h c))

open Cert.ReferenceAdCross0Ideal Cert.ReferenceAdCross0Ideal.Gen in
/-- The reference is host operations only: its run read at the arguments; it declares no semaphore. -/
theorem frame : Cert.quiescent_ReferenceAdCross0Ideal (hReferenceAdCross0Ideal := Cert.ReferenceAdCross0Ideal.Gen.facts) (hPre_on_a_chip_cross := pre_cross) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdCross0Ideal Cert.KernelAdCross0Ideal.Gen in
/-- The kernel's four results are the reference's. -/
theorem value : Cert.algebraic_KernelAdCross0Ideal_ReferenceAdCross0Ideal (hKernelAdCross0Ideal := Cert.KernelAdCross0Ideal.Gen.facts)
    (hReferenceAdCross0Ideal := Cert.ReferenceAdCross0Ideal.Gen.facts) (hPre_on_a_chip_cross := pre_cross) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdCross0Ideal.defs _ _).mono (fun r h c => ?_) (Cert.ReferenceAdCross0Ideal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 0 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdCross0

namespace Cert.Calc.AdCross1

section kernel
open Cert.KernelAdCross1Ideal Cert.KernelAdCross1Ideal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 2 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 2#32).toNat + 1) * 64 ≤ 256
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 2) (y : S64x1024.Idx) : S128x1024.Idx := place (by decide) t y
/-- The place of a weight's entry in a chip's part. -/
abbrev part' (k : Fin 4) (Y : S128x1024.Idx) : S4x256x1024.Idx := part 128 (by decide) k Y

theorem coord : ∀ t : Fin grid0.N, cc0_transform_6 (grid0.coords t) = ![t.val, 0] := by decide +kernel
theorem coord1 : ∀ t : Fin grid0.N, cc0_transform_1 (grid0.coords t) = ![0, t.val + 2, 0] := by decide +kernel

theorem emb6 (t : Fin (cfgM m hO).N) (y : S64x1024.Idx) : (((cfgM m hO).win 6).blk t).view.emb y = at' t y := by
  funext a; apply Fin.ext
  match a with
  | ⟨0, _⟩ => show cc0_transform_6 (grid0.coords t) 0 * 64 + 1 * (y 0).val = t.val * 64 + (y 0).val; rw [coord]; simp
  | ⟨1, _⟩ => show cc0_transform_6 (grid0.coords t) 1 * 1024 + 1 * (y 1).val = (y 1).val; rw [coord]; simp

theorem blk0 (t : Fin (cfgM m hO).N) (y : S64x1024.Idx) : iblk m hO c 0 t y = m ((c : Thread nD τ).loc main_arg0) (at' t y) := by
  rw [← V_main_arg0 m c, ← emb6]; rfl
theorem blk3 (t : Fin (cfgM m hO).N) (y : S64x1024.Idx) : iblk m hO c 3 t y = m ((c : Thread nD τ).loc main_arg4) (at' t y) := by
  rw [← V_main_arg4 m c, ← emb6]; rfl
theorem blk4 (t : Fin (cfgM m hO).N) (y : S64x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S64x1024.Idx) (k : Fin 4) :
    iblk m hO c 1 t (ix3 k (y 0) (y 1)) = m ((c : Thread nD τ).loc main_arg1) (part' k (at' t y)) := by
  have hV : V m c main_v1 = truncf (F := 𝔽) .bf16 (m ((c : Thread nD τ).loc main_arg1)) bitsLt_bf16_f32 := by
    show StableHlo.after _ _ _ = _
    after_results
  refine Eq.trans (b := V m c main_v1 (part' k (at' t y))) (congrArg (V m c main_v1) (funext fun a => Fin.ext ?_)) (by rw [hV]; rfl)
  match a with
  | ⟨0, _⟩ => show cc0_transform_1 (grid0.coords t) 0 * 4 + 1 * k.val = k.val; rw [coord1]; simp
  | ⟨1, _⟩ => show cc0_transform_1 (grid0.coords t) 1 * 64 + 1 * (y 0).val = 128 + (t.val * 64 + (y 0).val); rw [coord1]; simp <;> omega
  | ⟨2, _⟩ => show cc0_transform_1 (grid0.coords t) 2 * 1024 + 1 * (y 1).val = (y 1).val; rw [coord1]; simp

theorem blk2 (t : Fin (cfgM m hO).N) (y : S64x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v2 = truncf (F := 𝔽) .bf16 (m ((c : Thread nD τ).loc main_arg2)) bitsLt_bf16_f32 := by
    show StableHlo.after _ _ _ = _
    after_results
  refine Eq.trans (b := V m c main_v2 (part' k (at' t y))) (congrArg (V m c main_v2) (funext fun a => Fin.ext ?_)) (by rw [hV]; rfl)
  match a with
  | ⟨0, _⟩ =>
    show (tbl m 0 _).toNat * 1 + 1 * 0 = k.val
    rw [tbl_at, hk]; have := k.isLt; simp; omega
  | ⟨1, _⟩ => show cc0_transform_1 (grid0.coords t) 1 * 64 + 1 * (y 0).val = 128 + (t.val * 64 + (y 0).val); rw [coord1]; simp <;> omega
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v0 = broadcastInDim S8x128 ![] bcast_S_S8x128 (constant (F := 𝔽) S_ .f32 0x00000000#32) := by
    show StableHlo.after _ _ _ = _
    after_results
  refine Eq.trans (b := V m c main_v0 ((((cfgM m hO).win 5).blk t).view.emb i)) rfl ?_
  rw [hV]; exact Ideal.ofBits_zero .f32

theorem out6 (t : Fin (cfgM m hO).N) (y : S64x1024.Idx) : (dats m hO 0 c).after 6 t y =
    grad (R := 256) (r := 128) 128 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S128x1024.Idx) : ∃ t : Fin (cfgM m hO).N, ((cfgM m hO).win 6).flush t = true ∧ i ∈ (((cfgM m hO).win 6).blk t).view.set := by
  have key : ∃ (t : Fin (cfgM m hO).N) (y : S64x1024.Idx), i = at' t y := exists_place (n := 2) (tr := 64) (by decide) i
  obtain ⟨t, y, e⟩ := key
  refine ⟨t, flush0_6 _ t, ?_⟩
  rw [e, ← emb6 m hO t y]
  exact View.emb_mem_set _ _

end kernel

theorem frameP : Cert.quiescent_KernelAdCross1 (hKernelAdCross1 := Cert.KernelAdCross1.Gen.facts) (hPre_on_a_chip_cross := pre_cross) := fun m ρ h =>
  Cert.KernelAdCross1.Gen.frame m ρ (ok (F := Bits) m fun c => chip_lt _ _ _ _ (h c))
theorem framePI : Cert.quiescent_KernelAdCross1Ideal (hKernelAdCross1Ideal := Cert.KernelAdCross1Ideal.Gen.facts) (hPre_on_a_chip_cross := pre_cross) := fun m ρ h =>
  Cert.KernelAdCross1Ideal.Gen.frame m ρ (ok m fun c => chip_lt _ _ _ _ (h c))

open Cert.ReferenceAdCross1Ideal Cert.ReferenceAdCross1Ideal.Gen in
/-- The reference is host operations only: its run read at the arguments; it declares no semaphore. -/
theorem frame : Cert.quiescent_ReferenceAdCross1Ideal (hReferenceAdCross1Ideal := Cert.ReferenceAdCross1Ideal.Gen.facts) (hPre_on_a_chip_cross := pre_cross) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdCross1Ideal Cert.KernelAdCross1Ideal.Gen in
/-- The kernel's four results are the reference's. -/
theorem value : Cert.algebraic_KernelAdCross1Ideal_ReferenceAdCross1Ideal (hKernelAdCross1Ideal := Cert.KernelAdCross1Ideal.Gen.facts)
    (hReferenceAdCross1Ideal := Cert.ReferenceAdCross1Ideal.Gen.facts) (hPre_on_a_chip_cross := pre_cross) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdCross1Ideal.defs _ _).mono (fun r h c => ?_) (Cert.ReferenceAdCross1Ideal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 128 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdCross1

end
-- ==== Proof.AdGu.lean ====
module

public import proofs.«01_k».proof.Proof.Gen.KernelAdGu.Frame
public import proofs.«01_k».proof.Proof.Gen.KernelAdGuIdeal.Frame
public import proofs.«01_k».proof.Proof.Gen.ReferenceAdGuIdeal.Run
public import proofs.«01_k».proof.Proof.AdBase

/-! The optimiser's call on a gate and up projections' matrix, under the precondition that the chip's number is below four: each grid
point reads a block of the four chips' parts (its own from a second array), adds them, and stores the moments and
the step. At the ideal every result is the reference's expression at the block's place. -/

@[expose] public section

noncomputable section

open Idealize.ShloMosaic hiding ix1 ix2 ix3 ix4
open Idealize.ShloMosaic.ValueIdx
open Idealize.ShloMosaic.TcCoe
open Idealize.SL.Sem
open Cert.Calc.Ad

local notation "𝔽" => Idealize.ShloMosaic.Ideal

theorem Cert.Calc.Ad.pre_gu : Cert.Pre_on_a_chip_gu.Facts where
  bcast_S_S1 := by decide
  reducesTo_S1_S_d0 := by decide
  h_S_ := by decide

namespace Cert.Calc.AdGu

section kernel
open Cert.KernelAdGuIdeal Cert.KernelAdGuIdeal.Gen

/-- The chip's own block lies inside the array. -/
theorem ok {F : FTy → Type} [FloatOps F] (m : (ℓ : Loc nD τ sig) → Buf (Elt F) ℓ)
    (h : ∀ c i, (m (((c : Dev nD) : Thread nD τ).loc main_arg3) i).toNat < 4) : Ok m := fun i => by
  refine ⟨fun a => ?_, .inr (Affine.block_words_dvd (of_decide_eq_true rfl) (by decide))⟩
  have hi : (i 0).val < 4 := (i 0).isLt
  match a with
  | ⟨0, _⟩ =>
    show ((tbl m 0 _).toNat + 1) * 1 ≤ 4
    rw [show tbl m 0 = m (((0 : Dev nD) : Thread nD τ).loc main_arg3) from V_main_arg3 m 0]
    simpa using h 0 _
  | ⟨1, _⟩ =>
    show ((BitVec.ofNat 32 (i 0).val + 0#32).toNat + 1) * 176 ≤ 704
    simp only [BitVec.toNat_add, BitVec.toNat_ofNat]; omega
  | ⟨2, _⟩ => exact (by decide : (0 + 1) * 1024 ≤ 1024)

variable (m : (ℓ : Loc nD τ sig) → Buf (Elt 𝔽) ℓ) (hO : Ok m) (c : Dev nD)

/-- The place of a block's entry in the weight. -/
abbrev at' (t : Fin 4) (y : S176x1024.Idx) : S704x1024.Idx := place (by decide) t y
/-- The place of a weight's entry in a chip's part. -/
abbrev part' (k : Fin 4) (Y : S704x1024.Idx) : S4x768x1024.Idx := part 0 (by decide) k Y

theorem coord : ∀ t : Fin grid0.N, cc0_transform_6 (grid0.coords t) = ![t.val, 0] := by decide +kernel
theorem coord1 : ∀ t : Fin grid0.N, cc0_transform_1 (grid0.coords t) = ![0, t.val + 0, 0] := by decide +kernel

theorem emb6 (t : Fin (cfgM m hO).N) (y : S176x1024.Idx) : (((cfgM m hO).win 6).blk t).view.emb y = at' t y := by
  funext a; apply Fin.ext
  match a with
  | ⟨0, _⟩ => show cc0_transform_6 (grid0.coords t) 0 * 176 + 1 * (y 0).val = t.val * 176 + (y 0).val; rw [coord]; simp
  | ⟨1, _⟩ => show cc0_transform_6 (grid0.coords t) 1 * 1024 + 1 * (y 1).val = (y 1).val; rw [coord]; simp

theorem blk0 (t : Fin (cfgM m hO).N) (y : S176x1024.Idx) : iblk m hO c 0 t y = m ((c : Thread nD τ).loc main_arg0) (at' t y) := by
  rw [← V_main_arg0 m c, ← emb6]; rfl
theorem blk3 (t : Fin (cfgM m hO).N) (y : S176x1024.Idx) : iblk m hO c 3 t y = m ((c : Thread nD τ).loc main_arg4) (at' t y) := by
  rw [← V_main_arg4 m c, ← emb6]; rfl
theorem blk4 (t : Fin (cfgM m hO).N) (y : S176x1024.Idx) : iblk m hO c 4 t y = m ((c : Thread nD τ).loc main_arg5) (at' t y) := by
  rw [← V_main_arg5 m c, ← emb6]; rfl

/-- The chip's number. -/
abbrev chip : BitVec 32 := word (m (((0 : Dev nD) : Thread nD τ).loc main_arg3))

theorem tbl_at (i) : tbl m 0 i = chip m := by
  rw [show tbl m 0 = m (((0 : Dev nD) : Thread nD τ).loc main_arg3) from V_main_arg3 m 0]; exact word_at _ _

theorem blk1 (t : Fin (cfgM m hO).N) (y : S176x1024.Idx) (k : Fin 4) :
    iblk m hO c 1 t (ix3 k (y 0) (y 1)) = m ((c : Thread nD τ).loc main_arg1) (part' k (at' t y)) := by
  have hV : V m c main_v3 = truncf (F := 𝔽) .bf16 (extractStridedSlice S4x704x1024 ![0, 0, 0] (m ((c : Thread nD τ).loc main_arg1)) slices_S4x768x1024_S4x704x1024_0_0_0) bitsLt_bf16_f32 := by
    show StableHlo.after _ _ _ = _
    after_results
  refine Eq.trans (b := V m c main_v3 (part (R := 704) 0 (by decide) k (at' t y))) (congrArg (V m c main_v3) (funext fun a => Fin.ext ?_)) (by rw [hV]; exact congrArg (m _) (funext fun | ⟨0, _⟩ => Fin.ext (Nat.zero_add _) | ⟨1, _⟩ => Fin.ext (Nat.zero_add _) | ⟨2, _⟩ => Fin.ext (Nat.zero_add _)))
  match a with
  | ⟨0, _⟩ => show cc0_transform_1 (grid0.coords t) 0 * 4 + 1 * k.val = k.val; rw [coord1]; simp
  | ⟨1, _⟩ => show cc0_transform_1 (grid0.coords t) 1 * 176 + 1 * (y 0).val = 0 + (t.val * 176 + (y 0).val); rw [coord1]; simp
  | ⟨2, _⟩ => show cc0_transform_1 (grid0.coords t) 2 * 1024 + 1 * (y 1).val = (y 1).val; rw [coord1]; simp

theorem blk2 (t : Fin (cfgM m hO).N) (y : S176x1024.Idx) (k : Fin 4) (hk : chip m = BitVec.ofNat 32 k.val) :
    iblk m hO c 2 t (ix3 (0 : Fin 1) (y 0) (y 1)) = m ((c : Thread nD τ).loc main_arg2) (part' k (at' t y)) := by
  have hV : V m c main_v4 = truncf (F := 𝔽) .bf16 (extractStridedSlice S4x704x1024 ![0, 0, 0] (m ((c : Thread nD τ).loc main_arg2)) slices_S4x768x1024_S4x704x1024_0_0_0) bitsLt_bf16_f32 := by
    show StableHlo.after _ _ _ = _
    after_results
  refine Eq.trans (b := V m c main_v4 (part (R := 704) 0 (by decide) k (at' t y))) (congrArg (V m c main_v4) (funext fun a => Fin.ext ?_)) (by rw [hV]; exact congrArg (m _) (funext fun | ⟨0, _⟩ => Fin.ext (Nat.zero_add _) | ⟨1, _⟩ => Fin.ext (Nat.zero_add _) | ⟨2, _⟩ => Fin.ext (Nat.zero_add _)))
  match a with
  | ⟨0, _⟩ =>
    show (tbl m 0 _).toNat * 1 + 1 * 0 = k.val
    rw [tbl_at, hk]; have := k.isLt; simp; omega
  | ⟨1, _⟩ => show cc0_transform_1 (grid0.coords t) 1 * 176 + 1 * (y 0).val = 0 + (t.val * 176 + (y 0).val); rw [coord1]; simp
  | ⟨2, _⟩ => show cc0_transform_1 (grid0.coords t) 2 * 1024 + 1 * (y 1).val = (y 1).val; rw [coord1]; simp

theorem blk5 (t : Fin (cfgM m hO).N) (i : S8x128.Idx) : iblk m hO c 5 t i = (0 : EReal) := by
  have hV : V m c main_v2 = broadcastInDim S8x128 ![] bcast_S_S8x128 (constant (F := 𝔽) S_ .f32 0x00000000#32) := by
    show StableHlo.after _ _ _ = _
    after_results
  refine Eq.trans (b := V m c main_v2 ((((cfgM m hO).win 5).blk t).view.emb i)) rfl ?_
  rw [hV]; exact Ideal.ofBits_zero .f32

theorem out6 (t : Fin (cfgM m hO).N) (y : S176x1024.Idx) : (dats m hO 0 c).after 6 t y =
    grad (R := 768) (r := 704) 0 (by decide) (chip m) (m ((c : Thread nD τ).loc main_arg2)) (m ((c : Thread nD τ).loc main_arg1)) (at' t y) := by
  rw [after0_6]
  unfold outsAt0
  dsimp only
  frame_out
  unfold k0_pay2
  refine (gsum (sel _ 0 _ _ y _ _ _ _ _) (sel _ 1 _ _ y _ _ _ _ _) (sel _ 2 _ _ y _ _ _ _ _) (sel _ 3 _ _ y _ _ _ _ _)
    ((congrFun ((hs0_5 m hO t).read_unread _) _).trans (blk5 m hO c t _))).trans (gsum_eq (tbl_at m _) (fun k => ?_) fun k hk => ?_)
  · exact (congrFun ((hs0_1 m hO t).read_unread _) _).trans (blk1 m hO c t y k)
  · exact (congrFun ((hs0_2 m hO t).read_unread _) _).trans (blk2 m hO c t y k hk)
theorem out7 (t : Fin (cfgM m hO).N) : (dats m hO 0 c).after 7 t = k0_pay5 ((dats m hO 0 c).after 6 t) (iblk m hO c 3 t) (iblk m hO c 4 t) (iblk m hO c 0 t) := by
  rw [after0_7, after0_6]
  unfold outsAt0
  dsimp only
  frame_out
  congr 1
  · exact (hs0_3 m hO t).read_unread _
  · exact (hs0_4 m hO t).read_unread _
  · exact (hs0_0 m hO t).read_unread _
theorem out8 (t : Fin (cfgM m hO).N) : (dats m hO 0 c).after 8 t = k0_pay3 ((dats m hO 0 c).after 6 t) (iblk m hO c 3 t) := by
  rw [after0_8, after0_6]
  unfold outsAt0
  dsimp only
  frame_out
  congr 1
  exact (hs0_3 m hO t).read_unread _
theorem out9 (t : Fin (cfgM m hO).N) : (dats m hO 0 c).after 9 t = k0_pay4 ((dats m hO 0 c).after 6 t) (iblk m hO c 4 t) := by
  rw [after0_9, after0_6]
  unfold outsAt0
  dsimp only
  frame_out
  congr 1
  exact (hs0_4 m hO t).read_unread _

theorem covers (i : S704x1024.Idx) : ∃ t : Fin (cfgM m hO).N, ((cfgM m hO).win 6).flush t = true ∧ i ∈ (((cfgM m hO).win 6).blk t).view.set := by
  have key : ∃ (t : Fin (cfgM m hO).N) (y : S176x1024.Idx), i = at' t y := exists_place (n := 4) (tr := 176) (by decide) i
  obtain ⟨t, y, e⟩ := key
  refine ⟨t, flush0_6 _ t, ?_⟩
  rw [e, ← emb6 m hO t y]
  exact View.emb_mem_set _ _

end kernel

theorem frameP : Cert.quiescent_KernelAdGu (hKernelAdGu := Cert.KernelAdGu.Gen.facts) (hPre_on_a_chip_gu := pre_gu) := fun m ρ h =>
  Cert.KernelAdGu.Gen.frame m ρ (ok (F := Bits) m fun c => chip_lt _ _ _ _ (h c))
theorem framePI : Cert.quiescent_KernelAdGuIdeal (hKernelAdGuIdeal := Cert.KernelAdGuIdeal.Gen.facts) (hPre_on_a_chip_gu := pre_gu) := fun m ρ h =>
  Cert.KernelAdGuIdeal.Gen.frame m ρ (ok m fun c => chip_lt _ _ _ _ (h c))

open Cert.ReferenceAdGuIdeal Cert.ReferenceAdGuIdeal.Gen in
/-- The reference is host operations only: its run read at the arguments; it declares no semaphore. -/
theorem frame : Cert.quiescent_ReferenceAdGuIdeal (hReferenceAdGuIdeal := Cert.ReferenceAdGuIdeal.Gen.facts) (hPre_on_a_chip_gu := pre_gu) := fun m ρ _ =>
  (θ_run defs _ _).mono (fun r h => ⟨fun c => (h c).2.2.2.2, Idealize.ShloMosaic.sem_eq_zero_of_no_sems (by decide) r.2⟩)
    (Value.run (F := Idealize.ShloMosaic.Ideal) m ρ)

open Cert.KernelAdGuIdeal Cert.KernelAdGuIdeal.Gen in
/-- The kernel's four results are the reference's. -/
theorem value : Cert.algebraic_KernelAdGuIdeal_ReferenceAdGuIdeal (hKernelAdGuIdeal := Cert.KernelAdGuIdeal.Gen.facts)
    (hReferenceAdGuIdeal := Cert.ReferenceAdGuIdeal.Gen.facts) (hPre_on_a_chip_gu := pre_gu) := by
  intro m g m' g' hpre hargs
  have hO : Ok m := ok m fun c => chip_lt _ _ _ _ (hpre c)
  refine ⟨fun c => (dats m hO 0 c).arrAt 6 (cfgM m hO).N, fun c => (dats m hO 0 c).arrAt 7 (cfgM m hO).N,
    fun c => (dats m hO 0 c).arrAt 8 (cfgM m hO).N, fun c => (dats m hO 0 c).arrAt 9 (cfgM m hO).N,
    (θ_run defs _ _).mono (fun r h c => ⟨(h.1 c).1 6, (h.1 c).1 7, (h.1 c).1 8, (h.1 c).1 9, h.2 c⟩)
      (θ_run_and (run_main m g hO) (unchanged m g hO)), ?_⟩
  refine (θ_run Cert.ReferenceAdGuIdeal.defs _ _).mono (fun r h c => ?_) (Cert.ReferenceAdGuIdeal.Value.run (F := Idealize.ShloMosaic.Ideal) m' g')
  obtain ⟨h0, h1, h2, h3, h4, h5⟩ := hargs c
  obtain ⟨r0, r1, r2, r3, hr⟩ := h c
  rw [h0, h1, h2, h3, h4, h5] at r1
  rw [h1, h2, h3] at r0
  rw [h1, h2, h3, h4] at r2
  rw [h1, h2, h3, h5] at r3
  rw [ref1 0 (by decide)] at r0 r1 r2 r3
  obtain rfl : c = 0 := Subsingleton.elim _ _
  refine ⟨r0.trans (Eq.symm ?_), r1.trans (Eq.symm ?_), r2.trans (Eq.symm ?_), r3.trans (Eq.symm ?_), hr⟩
  · exact (dats m hO 0 0).arrAt_eq_of_emb 6 _ (fun t _ y => (out6 m hO 0 t y).trans (congrArg _ (emb6 m hO t y).symm)) (covers m hO)
  · refine (dats m hO 0 0).arrAt_eq_of_emb 7 _ (fun t _ y => ?_) (covers m hO)
    refine (congrFun (out7 m hO 0 t) y).trans ((at4 (k0_pay5 (F := 𝔽)) (fun _ _ _ _ _ => rfl) (out6 m hO 0 t y) (blk3 m hO 0 t y) (blk4 m hO 0 t y) (blk0 m hO 0 t y)).trans (Eq.trans ?_ (congrArg _ (emb6 m hO t y).symm)))
    generalize grad _ _ _ _ _ = G, at' t y = Y
    rfl
  · refine (dats m hO 0 0).arrAt_eq_of_emb 8 _ (fun t _ y => ?_) (covers m hO)
    refine (congrFun (out8 m hO 0 t) y).trans ((at2 (k0_pay3 (F := 𝔽)) (fun _ _ _ => rfl) (out6 m hO 0 t y) (blk3 m hO 0 t y)).trans (Eq.trans ?_ (congrArg _ (emb6 m hO t y).symm)))
    generalize grad _ _ _ _ _ = G, at' t y = Y
    rfl
  · refine (dats m hO 0 0).arrAt_eq_of_emb 9 _ (fun t _ y => ?_) (covers m hO)
    refine (congrFun (out9 m hO 0 t) y).trans ((at2 (k0_pay4 (F := 𝔽)) (fun _ _ _ => rfl) (out6 m hO 0 t y) (blk4 m hO 0 t y)).trans (Eq.trans ?_ (congrArg _ (emb6 m hO t y).symm)))
    generalize grad _ _ _ _ _ = G, at' t y = Y
    rfl

end Cert.Calc.AdGu

end
-- ==== Proof.HostCalc.lean ====
module

public import proofs.«01_k».proof.Proof.Calc
public import proofs.«01_k».proof.Proof.Gen.ReferenceIdeal.Run

/-!
Readings of the host's array operations as operations on real functions, in the same way as the
vector operations are read: the real function of a composed expression is found by instance search.
-/

@[expose] public section

noncomputable section

namespace Cert.Calc

open Idealize.ShloMosaic hiding ix1 ix2 ix3 ix4
open Idealize.ShloMosaic.ValueIdx
open scoped BigOperators

/-- The scalar array `v` holds the real number `r`. -/
class Is0 (v : (⟨0, ![]⟩ : Shape).Idx → EReal) (r : outParam ℝ) : Prop where
  eq : ∀ i, v i = ((r : ℝ) : EReal)

/-- The mask `c` of rank three is one exactly where `p` holds. -/
class Mask3 {a b c : ℕ} (v : (⟨3, ![a, b, c]⟩ : Shape).Idx → BitVec 1) (p : outParam (ℕ → ℕ → ℕ → Bool)) : Prop where
  eq : ∀ (i : Fin a) (j : Fin b) (k : Fin c), v (ix3 i j k) = if p i j k then 1#1 else 0#1

/-! ### Scalars -/

theorem bits_128 : Ideal.ofBits .f32 0x43000000#32 = ((128 : ℝ) : EReal) := by
  simp [Ideal.ofBits, Ideal.ieee]
  rw [← EReal.coe_mul]
  norm_num
theorem bits_two : Ideal.ofBits .f32 0x40000000#32 = ((2 : ℝ) : EReal) := by
  simp [Ideal.ofBits, Ideal.ieee]
  rw [← EReal.coe_mul]
  norm_num
theorem bits_top : Ideal.ofBits .f32 0x7F800000#32 = ⊤ := by
  simp [Ideal.ofBits, Ideal.ieee]

instance zero0 : Is0 (constant (F := Ideal) (⟨0, ![]⟩ : Shape) .f32 0x00000000#32) 0 :=
  ⟨fun _ => by rw [EReal.coe_zero]; exact Ideal.ofBits_zero .f32⟩
instance id0 (v : (⟨0, ![]⟩ : Shape).Idx → EReal) (r : ℝ) [h : Is0 v r] : Is0 (id v) r := h
instance bc00 (v : (⟨0, ![]⟩ : Shape).Idx → EReal) (r : ℝ) (d : Fin 0 → Fin 0)
    (h : (⟨0, ![]⟩ : Shape).BroadcastsInDim (⟨0, ![]⟩ : Shape) d) [hv : Is0 v r] : Is0 (broadcastInDim (⟨0, ![]⟩ : Shape) d h v) r :=
  ⟨fun _ => hv.eq _⟩
instance sqrt_128 : Is0 (Host.sqrt (constant (F := Ideal) (⟨0, ![]⟩ : Shape) .f32 0x43000000#32)) (Real.sqrt 128) :=
  ⟨fun i => by
    show Ideal.sqrt (Ideal.ofBits .f32 0x43000000#32) = _
    rw [bits_128, Ideal.sqrt_coe, if_neg (by norm_num)]⟩
instance log_two : Is0 (Host.log (constant (F := Ideal) (⟨0, ![]⟩ : Shape) .f32 0x40000000#32)) (Real.log 2) :=
  ⟨fun i => by
    show Ideal.log (Ideal.ofBits .f32 0x40000000#32) = _
    rw [bits_two, Ideal.log_coe, if_neg (by norm_num)]⟩

/-- A broadcast along named axes, read at a place. -/
theorem bid_apply {s t : Shape} {α : Type} (dims : Fin s.rank → Fin t.rank) (h : s.BroadcastsInDim t dims) (x : s.Idx → α) (j : t.Idx)
    (k : s.Idx) (hk : ∀ ax, (k ax).val = if s.size ax = 1 then 0 else (j (dims ax)).val) : broadcastInDim t dims h x j = x k := by
  unfold broadcastInDim
  refine congrArg x (funext fun ax => Fin.ext ?_)
  rw [hk]
  split <;> rfl
theorem one_or {n : ℕ} (i : Fin n) : i.val = if n = 1 then 0 else i.val := by
  split
  · have := i.isLt; omega
  · rfl

/-! ### Elementwise operations -/

section Elementwise
variable {a b c : ℕ} {φ : FTy}

instance bcast03 (v : (⟨0, ![]⟩ : Shape).Idx → EReal) (r : ℝ) (d : Fin 0 → Fin 3)
    (h : (⟨0, ![]⟩ : Shape).BroadcastsInDim (⟨3, ![a, b, c]⟩ : Shape) d) [hv : Is0 v r] :
    Is3 (broadcastInDim (⟨3, ![a, b, c]⟩ : Shape) d h v) (fun _ _ _ => r) :=
  ⟨fun _ _ _ => hv.eq _⟩

variable (v w : FVec Ideal (⟨3, ![a, b, c]⟩ : Shape) φ) (f g : ℕ → ℕ → ℕ → ℝ)

instance addf3 [hv : Is3 v f] [hw : Is3 w g] : Is3 (addf v w) (fun i j k => f i j k + g i j k) :=
  ⟨fun i j k => by rw [EReal.coe_add, ← hv.eq, ← hw.eq]; rfl⟩
instance subf3 [hv : Is3 v f] [hw : Is3 w g] : Is3 (subf v w) (fun i j k => f i j k - g i j k) :=
  ⟨fun i j k => by rw [EReal.coe_sub, ← hv.eq, ← hw.eq]; rfl⟩
instance mulf3 [hv : Is3 v f] [hw : Is3 w g] : Is3 (mulf v w) (fun i j k => f i j k * g i j k) :=
  ⟨fun i j k => by rw [EReal.coe_mul, ← hv.eq, ← hw.eq]; rfl⟩
instance maxf3 [hv : Is3 v f] [hw : Is3 w g] : Is3 (maximumf v w) (fun i j k => max (f i j k) (g i j k)) :=
  ⟨fun i j k => by rw [coe_max, ← hv.eq, ← hw.eq]; rfl⟩
instance hnegf3 [hv : Is3 v f] : Is3 (Host.negf v) (fun i j k => -f i j k) :=
  ⟨fun i j k => by rw [EReal.coe_neg, ← hv.eq]; rfl⟩
instance habsf3 [hv : Is3 v f] : Is3 (Host.absf v) (fun i j k => |f i j k|) :=
  ⟨fun i j k => by
    have : (((|f i j k| : ℝ)) : EReal) = max ((f i j k : ℝ) : EReal) (-((f i j k : ℝ) : EReal)) := by
      rw [abs_eq_max_neg, coe_max, EReal.coe_neg]
    rw [this, ← hv.eq]; rfl⟩
instance hexp3 [hv : Is3 v f] : Is3 (Host.exp v) (fun i j k => Real.exp (f i j k)) :=
  ⟨fun i j k => by
    have : Host.exp v (ix3 i j k) = Ideal.exp (v (ix3 i j k)) := rfl
    rw [this, hv.eq, Ideal.exp_coe]⟩
instance hlog1p3 [hv : Is3 v (fun i j k => Real.exp (f i j k))] :
    Is3 (Host.log1p v) (fun i j k => Real.log (1 + Real.exp (f i j k))) :=
  ⟨fun i j k => by
    have : Host.log1p v (ix3 i j k) = Ideal.log (1 + v (ix3 i j k)) := rfl
    have hp : ¬ (1 + Real.exp (f i j k) ≤ 0) := by have := Real.exp_pos (f i j k); linarith
    rw [this, hv.eq, ← EReal.coe_one, ← EReal.coe_add, Ideal.log_coe, if_neg hp]⟩
theorem hdivf3 [hv : Is3 v f] (r : ℝ) [hw : Is3 w (fun _ _ _ => r)] (hr : r ≠ 0) :
    Is3 (Host.divf v w) (fun i j k => f i j k * r⁻¹) :=
  ⟨fun i j k => by
    have : Host.divf v w (ix3 i j k) = Ideal.div (v (ix3 i j k)) (w (ix3 i j k)) := rfl
    rw [this, hv.eq, hw.eq, Ideal.div_coe hr, ← EReal.coe_mul, one_div]⟩
instance hdiv_sqrt [hv : Is3 v f] [hw : Is3 w (fun _ _ _ => Real.sqrt 128)] :
    Is3 (Host.divf v w) (fun i j k => f i j k * (Real.sqrt 128)⁻¹) :=
  hdivf3 v w f _ (by positivity)
instance hdiv_log [hv : Is3 v f] [hw : Is3 w (fun _ _ _ => Real.log 2)] :
    Is3 (Host.divf v w) (fun i j k => f i j k * (Real.log 2)⁻¹) :=
  hdivf3 v w f _ (Real.log_pos (by norm_num)).ne'

instance hsel3 (m : IVec (⟨3, ![a, b, c]⟩ : Shape) 1) (p : ℕ → ℕ → ℕ → Bool) [hc : Mask3 m p] [hv : Is3 v f] [hw : Is3 w g] :
    Is3 (select m v w) (fun i j k => if p i j k then f i j k else g i j k) :=
  ⟨fun i j k => by
    have : select m v w (ix3 i j k) = Scalar.select (m (ix3 i j k)) (v (ix3 i j k)) (w (ix3 i j k)) := rfl
    rw [this, hc.eq, hv.eq, hw.eq]
    cases p i j k <;> rfl⟩

/-- No real number differs from itself. -/
instance une_self [hv : Is3 v f] : Mask3 (cmpf .une v v) (fun _ _ _ => false) :=
  ⟨fun i j k => by
    have : cmpf .une v v (ix3 i j k) = Ideal.cmp .une (v (ix3 i j k)) (v (ix3 i j k)) := rfl
    rw [this]; simp [Ideal.cmp]⟩
/-- No real number is the infinity. -/
instance oeq_top (d : Fin 0 → Fin 3) (h : (⟨0, ![]⟩ : Shape).BroadcastsInDim (⟨3, ![a, b, c]⟩ : Shape) d)
    (v : FVec Ideal (⟨3, ![a, b, c]⟩ : Shape) .f32) [hv : Is3 v f] :
    Mask3 (cmpf .oeq v (broadcastInDim (⟨3, ![a, b, c]⟩ : Shape) d h (constant (F := Ideal) (⟨0, ![]⟩ : Shape) .f32 0x7F800000#32)))
      (fun _ _ _ => false) :=
  ⟨fun i j k => by
    show Ideal.cmp .oeq (v (ix3 i j k)) (Ideal.ofBits .f32 0x7F800000#32) = _
    rw [hv.eq, bits_top]; simp [Ideal.cmp]⟩
/-- A mask of rank two repeated along a new leading axis. -/
instance mask_up (m : (⟨2, ![b, c]⟩ : Shape).Idx → BitVec 1) (p : ℕ → ℕ → Bool)
    (h : (⟨2, ![b, c]⟩ : Shape).BroadcastsInDim (⟨3, ![a, b, c]⟩ : Shape) ![1, 2]) [hm : Mask2 m p] :
    Mask3 (broadcastInDim (⟨3, ![a, b, c]⟩ : Shape) ![1, 2] h m) (fun _ j k => p j k) :=
  ⟨fun i j k => by
    rw [bid_apply ![1, 2] h m _ (ix2 j k) (fun ax => ?_), hm.eq]
    match ax with
    | ⟨0, _⟩ => exact one_or j
    | ⟨1, _⟩ => exact one_or k⟩

end Elementwise

/-! ### The causal mask -/

theorem mask_small (r s : ℕ) (hr : r < 2048) (hs : s < 2048) :
    IntOp.cmpi .slt (BitVec.ofNat 32 s) (BitVec.ofNat 32 r) = if decide (s < r) then 1#1 else 0#1 := by
  have e1 : (BitVec.ofNat 32 s).toInt = s := by
    rw [BitVec.toInt_eq_toNat_of_lt, BitVec.toNat_ofNat, Nat.mod_eq_of_lt] <;> (try rw [BitVec.toNat_ofNat]) <;> omega
  have e2 : (BitVec.ofNat 32 r).toInt = r := by
    rw [BitVec.toInt_eq_toNat_of_lt, BitVec.toNat_ofNat, Nat.mod_eq_of_lt] <;> (try rw [BitVec.toNat_ofNat]) <;> omega
  by_cases h : s < r
  · simp [IntOp.cmpi, BitVec.slt, e1, e2, h]
  · simp [IntOp.cmpi, BitVec.slt, e1, e2, h]

instance causal_mask (d1 : (⟨1, ![2048]⟩ : Shape).BroadcastsInDim (⟨2, ![1, 2048]⟩ : Shape) ![1])
    (d2 : (⟨1, ![2048]⟩ : Shape).BroadcastsInDim (⟨2, ![2048, 1]⟩ : Shape) ![0])
    (h1 : (⟨2, ![1, 2048]⟩ : Shape).BroadcastsInDim (⟨2, ![2048, 2048]⟩ : Shape) ![0, 1])
    (h2 : (⟨2, ![2048, 1]⟩ : Shape).BroadcastsInDim (⟨2, ![2048, 2048]⟩ : Shape) ![0, 1]) :
    Mask2 (cmpi .slt
      (broadcastInDim (⟨2, ![2048, 2048]⟩ : Shape) ![0, 1] h1 (broadcastInDim (⟨2, ![1, 2048]⟩ : Shape) ![1] d1 (iotaInDim (⟨1, ![2048]⟩ : Shape) 32 0)))
      (broadcastInDim (⟨2, ![2048, 2048]⟩ : Shape) ![0, 1] h2 (broadcastInDim (⟨2, ![2048, 1]⟩ : Shape) ![0] d2 (iotaInDim (⟨1, ![2048]⟩ : Shape) 32 0))))
      (fun r s => decide (s < r)) :=
  ⟨fun r s => mask_small r s r.isLt s.isLt⟩

/-! ### Shapes -/

section Shapes
variable {a b c : ℕ}

instance hcast_heads (v : (⟨2, ![2048, 1024]⟩ : Shape).Idx → EReal) (f : ℕ → ℕ → ℝ)
    (h : (⟨2, ![2048, 1024]⟩ : Shape).ShapeCasts ⟨3, ![2048, 8, 128]⟩) [hv : Is2 v f] :
    Is3 (shapeCast (⟨3, ![2048, 8, 128]⟩ : Shape) v h) (fun r h d => f r (128 * h + d)) :=
  ⟨fun i j k => by
    have hj := j.isLt
    have hk := k.isLt
    rw [shapeCast_apply v h (ix3 i j k) (ix2 i (⟨128 * j + k, by omega⟩ : Fin 1024)) ?_, hv.eq]
    rw [Shape.rowMajor_val_two, Shape.rowMajor_val_three]
    show i.val * 1024 + (128 * j.val + k.val) = (i.val * 8 + j.val) * 128 + k.val
    ring⟩
instance hcast_unheads (v : (⟨3, ![2048, 8, 128]⟩ : Shape).Idx → EReal) (f : ℕ → ℕ → ℕ → ℝ)
    (h : (⟨3, ![2048, 8, 128]⟩ : Shape).ShapeCasts ⟨2, ![2048, 1024]⟩) [hv : Is3 v f] :
    Is2 (shapeCast (⟨2, ![2048, 1024]⟩ : Shape) v h) (fun r x => f r (x / 128) (x % 128)) :=
  ⟨fun i j => by
    have hj := j.isLt
    rw [shapeCast_apply v h (ix2 i j) (ix3 i (⟨j / 128, by omega⟩ : Fin 8) (⟨j % 128, by omega⟩ : Fin 128)) ?_, hv.eq]
    rw [Shape.rowMajor_val_two, Shape.rowMajor_val_three]
    show (i.val * 8 + j.val / 128) * 128 + j.val % 128 = i.val * 1024 + j.val
    omega⟩
instance htrans102 (v : (⟨3, ![a, b, c]⟩ : Shape).Idx → EReal) (f : ℕ → ℕ → ℕ → ℝ)
    (h : (⟨3, ![a, b, c]⟩ : Shape).Transposes [1, 0, 2] ⟨3, ![b, a, c]⟩) [hv : Is3 v f] :
    Is3 (transpose (⟨3, ![b, a, c]⟩ : Shape) [1, 0, 2] v h) (fun i j k => f j i k) :=
  ⟨fun i j k => by
    rw [transpose_apply [1, 0, 2] v h (ix3 i j k) (ix3 j i k) (fun ax => ?_), hv.eq]
    match ax with
    | ⟨0, _⟩ => rfl
    | ⟨1, _⟩ => rfl
    | ⟨2, _⟩ => rfl⟩
instance htrans021 (v : (⟨3, ![a, b, c]⟩ : Shape).Idx → EReal) (f : ℕ → ℕ → ℕ → ℝ)
    (h : (⟨3, ![a, b, c]⟩ : Shape).Transposes [0, 2, 1] ⟨3, ![a, c, b]⟩) [hv : Is3 v f] :
    Is3 (transpose (⟨3, ![a, c, b]⟩ : Shape) [0, 2, 1] v h) (fun i j k => f i k j) :=
  ⟨fun i j k => by
    rw [transpose_apply [0, 2, 1] v h (ix3 i j k) (ix3 i k j) (fun ax => ?_), hv.eq]
    match ax with
    | ⟨0, _⟩ => rfl
    | ⟨1, _⟩ => rfl
    | ⟨2, _⟩ => rfl⟩
instance hcol (v : (⟨2, ![a, b]⟩ : Shape).Idx → EReal) (f : ℕ → ℕ → ℝ)
    (h : (⟨2, ![a, b]⟩ : Shape).BroadcastsInDim (⟨3, ![a, b, 1]⟩ : Shape) ![0, 1]) [hv : Is2 v f] :
    Is3 (broadcastInDim (⟨3, ![a, b, 1]⟩ : Shape) ![0, 1] h v) (fun i j _ => f i j) :=
  ⟨fun i j k => by
    rw [bid_apply ![0, 1] h v _ (ix2 i j) (fun ax => ?_), hv.eq]
    match ax with
    | ⟨0, _⟩ => exact one_or i
    | ⟨1, _⟩ => exact one_or j⟩
instance hlayer (v : (⟨2, ![a, b]⟩ : Shape).Idx → EReal) (f : ℕ → ℕ → ℝ)
    (h : (⟨2, ![a, b]⟩ : Shape).BroadcastsInDim (⟨3, ![1, a, b]⟩ : Shape) ![1, 2]) [hv : Is2 v f] :
    Is3 (broadcastInDim (⟨3, ![1, a, b]⟩ : Shape) ![1, 2] h v) (fun _ i j => f i j) :=
  ⟨fun u i j => by
    rw [bid_apply ![1, 2] h v _ (ix2 i j) (fun ax => ?_), hv.eq]
    match ax with
    | ⟨0, _⟩ => exact one_or i
    | ⟨1, _⟩ => exact one_or j⟩
instance hlayers (v w : (⟨3, ![1, a, b]⟩ : Shape).Idx → EReal) (f g : ℕ → ℕ → ℕ → ℝ)
    (h : Shape.Concatenates [⟨3, ![1, a, b]⟩, ⟨3, ![1, a, b]⟩] (⟨3, ![2, a, b]⟩ : Shape) 0) [hv : Is3 v f] [hw : Is3 w g] :
    Is3 (concatenate (⟨3, ![2, a, b]⟩ : Shape) 0 [⟨⟨3, ![1, a, b]⟩, v⟩, ⟨⟨3, ![1, a, b]⟩, w⟩] h)
      (fun t i j => if t = 0 then f 0 i j else g 0 i j) :=
  ⟨fun t i j => by
    rw [concatenate_pair_apply]
    show (if hlt : t.val < 1 then _ else _) = _
    split <;> rename_i hlt
    · rw [if_pos (by omega)]
      refine (congrArg v (a₂ := ix3 (0 : Fin 1) i j) (funext fun ax => ?_)).trans (hv.eq 0 i j)
      match ax with
      | ⟨0, _⟩ => apply Fin.ext; show t.val = 0; omega
      | ⟨1, _⟩ => rfl
      | ⟨2, _⟩ => rfl
    · rw [if_neg (by omega)]
      refine (congrArg w (a₂ := ix3 (0 : Fin 1) i j) (funext fun ax => ?_)).trans (hw.eq 0 i j)
      match ax with
      | ⟨0, _⟩ => apply Fin.ext; show t.val - 1 = 0; have := t.isLt; omega
      | ⟨1, _⟩ => rfl
      | ⟨2, _⟩ => rfl⟩

end Shapes

/-! ### Sums -/

/-- The sum of the last axis. -/
instance hsum (v : FVec Ideal (⟨3, ![8, 2048, 2048]⟩ : Shape) .f32) (f : ℕ → ℕ → ℕ → ℝ) (z : FVec Ideal (⟨0, ![]⟩ : Shape) .f32)
    (h : (⟨3, ![8, 2048, 2048]⟩ : Shape).ReducesTo [2] (⟨2, ![8, 2048]⟩ : Shape)) (hu : 0 < (⟨0, ![]⟩ : Shape).numel) [hv : Is3 v f] [hz : Is0 z 0] :
    Is2 (Host.reduceAdd v z h hu) (fun i j => ∑ k ∈ Finset.range 2048, f i j k) :=
  ⟨fun i j => by
    show Ideal.hostReduceAdd h v (z _) (ix2 i j) = _
    rw [Ideal.hostReduceAdd_r3_a2, hz.eq, EReal.coe_zero, zero_add]
    exact sum_fin _ _ fun k => (hv.eq i j k)⟩

/-- A fold of additions of real numbers is their sum. -/
theorem fold_real {ι : Type} (G : ι → EReal) (g : ι → ℝ) (hG : ∀ n, G n = ((g n : ℝ) : EReal)) (l : List ι) (r : ℝ) :
    l.foldl (fun x n => x + G n) ((r : ℝ) : EReal) = ((r + (l.map g).sum : ℝ) : EReal) := by
  induction l generalizing r with
  | nil => simp
  | cons n l ih =>
    rw [List.foldl_cons, hG, ← EReal.coe_add, ih, List.map_cons, List.sum_cons, add_assoc]

/-- The positions of a window that is long only along the last axis. -/
def rowEquiv (n : ℕ) : Fin n ≃ (⟨3, ![1, 1, n]⟩ : Shape).Idx where
  toFun k := ix3 (0 : Fin 1) (0 : Fin 1) k
  invFun w := w 2
  left_inv _ := rfl
  right_inv w := by
    funext ax
    match ax with
    | ⟨0, _⟩ => exact Fin.ext (by have : (w 0).val < 1 := (w 0).isLt; show 0 = (w 0).val; omega)
    | ⟨1, _⟩ => exact Fin.ext (by have : (w 1).val < 1 := (w 1).isLt; show 0 = (w 1).val; omega)
    | ⟨2, _⟩ => rfl

/-- A window sum along the last axis, the window as long as the axis. -/
theorem window_sum {a b n : ℕ} (lo hi : ℕ) (v : FVec Ideal (⟨3, ![a, b, n]⟩ : Shape) .f32) (f : ℕ → ℕ → ℕ → ℝ) (z : FVec Ideal (⟨0, ![]⟩ : Shape) .f32)
    (h : (⟨3, ![a, b, n]⟩ : Shape).ReduceWindows (![1, 1, n] : Fin 3 → ℕ) ![1, 1, 1] ![0, 0, lo] ![0, 0, hi] (⟨3, ![a, b, n]⟩ : Shape))
    (hu : 0 < (⟨0, ![]⟩ : Shape).numel) [hv : Is3 v f] [hz : Is0 z 0] :
    Is3 (Host.reduceWindowAdd ![1, 1, n] ![1, 1, 1] ![0, 0, lo] ![0, 0, hi] v z h hu)
      (fun i j k => ∑ w ∈ Finset.range n, if lo ≤ k + w ∧ k + w - lo < n then f i j (k + w - lo) else 0) :=
  ⟨fun i j k => by
    show Host.reduceWindow (· + ·) ![1, 1, n] ![1, 1, 1] ![0, 0, lo] ![0, 0, hi] v
      (fun _ : (⟨0, ![]⟩ : Shape).Idx => z (Shape.Idx.first hu)) h (by decide) (ix3 i j k) = _
    unfold Host.reduceWindow
    dsimp only
    rw [hz.eq]
    refine (fold_real _ (fun m => (fun w : (⟨3, ![1, 1, n]⟩ : Shape).Idx =>
      if lo ≤ k.val + (w 2).val ∧ k.val + (w 2).val - lo < n then f i j (k.val + (w 2).val - lo) else 0)
        ((⟨3, ![1, 1, n]⟩ : Shape).rowMajor.symm m)) (fun m => ?_) _ 0).trans ?_
    · let w := (⟨3, ![1, 1, n]⟩ : Shape).rowMajor.symm m
      change _
        = ((if lo ≤ k.val + (w 2).val ∧ k.val + (w 2).val - lo < n then f i j (k.val + (w 2).val - lo) else 0 : ℝ) : EReal)
      have h0 : (w 0).val < 1 := (w 0).isLt
      have h1 : (w 1).val < 1 := (w 1).isLt
      split
      · next hin =>
        have e2 := hin 2
        change lo ≤ k.val * 1 + (w 2).val ∧ k.val * 1 + (w 2).val - lo < n at e2
        rw [Nat.mul_one] at e2
        rw [if_pos e2, ← hv.eq i j ⟨k.val + (w 2).val - lo, e2.2⟩]
        refine congrArg v (funext fun ax => Fin.ext ?_)
        match ax with
        | ⟨0, _⟩ => show i.val * 1 + (w 0).val - 0 = i.val; omega
        | ⟨1, _⟩ => show j.val * 1 + (w 1).val - 0 = j.val; omega
        | ⟨2, _⟩ => show k.val * 1 + (w 2).val - lo = k.val + (w 2).val - lo; omega
      · next hin =>
        rw [if_neg fun hle => hin fun ax => by
          match ax with
          | ⟨0, _⟩ => show 0 ≤ i.val * 1 + (w 0).val ∧ i.val * 1 + (w 0).val - 0 < a; have := i.isLt; omega
          | ⟨1, _⟩ => show 0 ≤ j.val * 1 + (w 1).val ∧ j.val * 1 + (w 1).val - 0 < b; have := j.isLt; omega
          | ⟨2, _⟩ => show lo ≤ k.val * 1 + (w 2).val ∧ k.val * 1 + (w 2).val - lo < n; omega]
    · rw [zero_add, ← Fin.sum_univ_def, Equiv.sum_comp (⟨3, ![1, 1, n]⟩ : Shape).rowMajor.symm (fun w : (⟨3, ![1, 1, n]⟩ : Shape).Idx =>
        if lo ≤ k.val + (w 2).val ∧ k.val + (w 2).val - lo < n then f i j (k.val + (w 2).val - lo) else 0),
        ← Equiv.sum_comp (rowEquiv n), Finset.sum_range]
      rfl⟩

/-- The sum of what stands at a place or after it. -/
instance suffix_sum (v : FVec Ideal (⟨3, ![8, 2048, 2048]⟩ : Shape) .f32) (f : ℕ → ℕ → ℕ → ℝ) (z : FVec Ideal (⟨0, ![]⟩ : Shape) .f32)
    (h : (⟨3, ![8, 2048, 2048]⟩ : Shape).ReduceWindows (![1, 1, 2048] : Fin 3 → ℕ) ![1, 1, 1] ![0, 0, 0] ![0, 0, 2047] (⟨3, ![8, 2048, 2048]⟩ : Shape))
    (hu : 0 < (⟨0, ![]⟩ : Shape).numel) [hv : Is3 v f] [hz : Is0 z 0] :
    Is3 (Host.reduceWindowAdd ![1, 1, 2048] ![1, 1, 1] ![0, 0, 0] ![0, 0, 2047] v z h hu)
      (fun i j k => ∑ s ∈ Finset.range 2048, if k ≤ s then f i j s else 0) :=
  (window_sum 0 2047 v f z h hu).congr fun i j k _ _ hk => by
    rw [← Finset.sum_filter, ← Finset.sum_filter]
    refine Finset.sum_nbij' (fun w => k + w) (fun s => s - k) ?_ ?_ ?_ ?_ ?_ <;>
      intro x hx <;> simp only [Finset.mem_filter, Finset.mem_range] at hx ⊢
    · omega
    · omega
    · omega
    · omega
    · rfl

/-- The sum of what stands at a place or before it. -/
instance prefix_sum (v : FVec Ideal (⟨3, ![8, 2048, 2048]⟩ : Shape) .f32) (f : ℕ → ℕ → ℕ → ℝ) (z : FVec Ideal (⟨0, ![]⟩ : Shape) .f32)
    (h : (⟨3, ![8, 2048, 2048]⟩ : Shape).ReduceWindows (![1, 1, 2048] : Fin 3 → ℕ) ![1, 1, 1] ![0, 0, 2047] ![0, 0, 0] (⟨3, ![8, 2048, 2048]⟩ : Shape))
    (hu : 0 < (⟨0, ![]⟩ : Shape).numel) [hv : Is3 v f] [hz : Is0 z 0] :
    Is3 (Host.reduceWindowAdd ![1, 1, 2048] ![1, 1, 1] ![0, 0, 2047] ![0, 0, 0] v z h hu)
      (fun i j k => ∑ s ∈ Finset.range (k + 1), f i j s) :=
  (window_sum 2047 0 v f z h hu).congr fun i j k _ _ hk => by
    rw [← Finset.sum_filter]
    refine Finset.sum_nbij' (fun w => k + w - 2047) (fun s => s + 2047 - k) ?_ ?_ ?_ ?_ ?_ <;>
      intro x hx <;> simp only [Finset.mem_filter, Finset.mem_range] at hx ⊢
    · omega
    · omega
    · omega
    · omega

/-! ### Products, one for each head -/

section Products
variable {sl sr : Shape}

theorem hdot {a b c K : ℕ} (d : DotDims sl sr ⟨3, ![a, b, c]⟩) (prec : Option ContractPrecision) (l : FVec Ideal sl .f32)
    (r : FVec Ideal sr .f32) (P : ℕ → ℕ → ℕ → ℕ → ℝ)
    (hd : ∀ i j k, Ideal.matmul d l r (fun _ => 0) (ix3 i j k) = 0 + ∑ x : Fin K, ((P i j k x : ℝ) : EReal)) :
    Is3 (Host.dotGeneral d prec l r) (fun i j k => ∑ x ∈ Finset.range K, P i j k x) :=
  ⟨fun i j k => by
    refine (hd i j k).trans ?_
    rw [zero_add]
    exact sum_fin _ _ fun _ => rfl⟩

variable (prec : Option ContractPrecision) (f g : ℕ → ℕ → ℕ → ℝ)

instance hdot_qk (l r : FVec Ideal Cert.ReferenceIdeal.S8x2048x128 .f32) [hl : Is3 l f] [hr : Is3 r g] :
    Is3 (Host.dotGeneral Cert.ReferenceIdeal.dot_S8x2048x128_S8x2048x128_S8x2048x2048_2_2_1_1_0_0 prec l r)
      (fun h i j => ∑ x ∈ Finset.range 128, f h i x * g h j x) :=
  hdot (K := 128) _ prec l r _ fun h i j => by
    refine (Ideal.matmul_apply₁_of (d := Cert.ReferenceIdeal.dot_S8x2048x128_S8x2048x128_S8x2048x2048_2_2_1_1_0_0) (K := 128) rfl rfl l r _ (ix3 h i j)
      (fun x => ix3 h i x) (fun x => ix3 h j x) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · simp only [hl.eq, hr.eq, EReal.coe_mul]
instance hdot_qk' (l r : FVec Ideal Cert.KernelIdeal.S8x2048x128 .f32) [hl : Is3 l f] [hr : Is3 r g] :
    Is3 (Host.dotGeneral Cert.KernelIdeal.dot_S8x2048x128_S8x2048x128_S8x2048x2048_2_2_1_1_0_0 prec l r)
      (fun h i j => ∑ x ∈ Finset.range 128, f h i x * g h j x) :=
  hdot (K := 128) _ prec l r _ fun h i j => by
    refine (Ideal.matmul_apply₁_of (d := Cert.KernelIdeal.dot_S8x2048x128_S8x2048x128_S8x2048x2048_2_2_1_1_0_0) (K := 128) rfl rfl l r _ (ix3 h i j)
      (fun x => ix3 h i x) (fun x => ix3 h j x) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · simp only [hl.eq, hr.eq, EReal.coe_mul]
instance hdot_dq (l : FVec Ideal Cert.ReferenceIdeal.S8x2048x2048 .f32) (r : FVec Ideal Cert.ReferenceIdeal.S8x2048x128 .f32) [hl : Is3 l f] [hr : Is3 r g] :
    Is3 (Host.dotGeneral Cert.ReferenceIdeal.dot_S8x2048x2048_S8x2048x128_S8x2048x128_2_1_1_2_0_0 prec l r)
      (fun h i j => ∑ x ∈ Finset.range 2048, f h i x * g h x j) :=
  hdot (K := 2048) _ prec l r _ fun h i j => by
    refine (Ideal.matmul_apply₁_of (d := Cert.ReferenceIdeal.dot_S8x2048x2048_S8x2048x128_S8x2048x128_2_1_1_2_0_0) (K := 2048) rfl rfl l r _ (ix3 h i j)
      (fun x => ix3 h i x) (fun x => ix3 h x j) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · simp only [hl.eq, hr.eq, EReal.coe_mul]
instance hdot_dk (l : FVec Ideal Cert.ReferenceIdeal.S8x2048x2048 .f32) (r : FVec Ideal Cert.ReferenceIdeal.S8x2048x128 .f32) [hl : Is3 l f] [hr : Is3 r g] :
    Is3 (Host.dotGeneral Cert.ReferenceIdeal.dot_S8x2048x2048_S8x2048x128_S8x2048x128_1_1_2_2_0_0 prec l r)
      (fun h i j => ∑ x ∈ Finset.range 2048, f h x i * g h x j) :=
  hdot (K := 2048) _ prec l r _ fun h i j => by
    refine (Ideal.matmul_apply₁_of (d := Cert.ReferenceIdeal.dot_S8x2048x2048_S8x2048x128_S8x2048x128_1_1_2_2_0_0) (K := 2048) rfl rfl l r _ (ix3 h i j)
      (fun x => ix3 h x i) (fun x => ix3 h x j) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · simp only [hl.eq, hr.eq, EReal.coe_mul]
instance hdot_dv (l : FVec Ideal Cert.ReferenceIdeal.S8x2048x128 .f32) (r : FVec Ideal Cert.ReferenceIdeal.S8x2048x2048 .f32) [hl : Is3 l f] [hr : Is3 r g] :
    Is3 (Host.dotGeneral Cert.ReferenceIdeal.dot_S8x2048x128_S8x2048x2048_S8x128x2048_1_1_2_2_0_0 prec l r)
      (fun h i j => ∑ x ∈ Finset.range 2048, f h x i * g h x j) :=
  hdot (K := 2048) _ prec l r _ fun h i j => by
    refine (Ideal.matmul_apply₁_of (d := Cert.ReferenceIdeal.dot_S8x2048x128_S8x2048x2048_S8x128x2048_1_1_2_2_0_0) (K := 2048) rfl rfl l r _ (ix3 h i j)
      (fun x => ix3 h x i) (fun x => ix3 h x j) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · simp only [hl.eq, hr.eq, EReal.coe_mul]

end Products

end Cert.Calc
-- ==== Proof.Pay.lean ====
module

public import proofs.«01_k».proof.Proof.Calc

/-!
The values computed by one block of the attention's backward pass, as real functions of the block's
local row and key coordinates. The first part names the functions; the second reads the expressions
of the block that lies wholly under the diagonal.
-/

@[expose] public section

set_option maxRecDepth 8192

noncomputable section

namespace Cert.Calc

open Idealize.ShloMosaic hiding ix1 ix2 ix3 ix4
open Idealize.ShloMosaic.ValueIdx Cert.KernelIdeal Cert.KernelIdeal.Gen
open scoped BigOperators

/-! ### The functions -/

/-- The products of the rows of `q` with the rows of `k`. -/
def dotf (q k : ℕ → ℕ → ℝ) (r s : ℕ) : ℝ := ∑ d ∈ Finset.range 128, q r d * k s d
/-- The logits in units of the logarithm of two. -/
def zf (q k : ℕ → ℕ → ℝ) (r s : ℕ) : ℝ := dotf q k r s * cz
/-- The binary logarithm of one minus the weight whose logit is `z`. -/
def mz (z : ℝ) : ℝ := 0 - (max z 0 + Real.log (1 + (2 : ℝ) ^ (0 - |z|)) * cl)
/-- The same for a matrix of logits, zero outside the mask. -/
def mf (p : ℕ → ℕ → Bool) (z : ℕ → ℕ → ℝ) (r s : ℕ) : ℝ := if p r s then mz (z r s) else 0
/-- The running sum along a row, the entry itself included. -/
def cum (m : ℕ → ℕ → ℝ) (r s : ℕ) : ℝ := ∑ j ∈ Finset.range (s + 1), m r j
/-- The attention's weights from the logarithms. -/
def af (p : ℕ → ℕ → Bool) (m z : ℕ → ℕ → ℝ) (ct ps : ℕ → ℝ) (r s : ℕ) : ℝ :=
  if p r s then (2 : ℝ) ^ (m r s + z r s + ((ct r - ps r) - cum m r s)) else 0
/-- The weights times their cotangents. -/
def ef (g v a : ℕ → ℕ → ℝ) (r s : ℕ) : ℝ := dotf g v r s * a r s
/-- The cotangents of the scaled logits. -/
def df (p : ℕ → ℕ → Bool) (m z e : ℕ → ℕ → ℝ) (es : ℕ → ℝ) (r s : ℕ) : ℝ :=
  (if p r s then e r s - (2 : ℝ) ^ (m r s + z r s) * (es r + cum e r s) else 0) * cs
/-- The mask that keeps everything. -/
def pt (_ _ : ℕ) : Bool := true
/-- The mask that keeps the keys before the row. -/
def pd (r s : ℕ) : Bool := decide (s < r)

/-! ### Running sums as products with a triangle -/

/-- The triangle of ones, written twice one below the other. -/
def tri (j s : ℕ) : ℝ := if j % 256 ≤ s then 1 else 0

theorem cum_tri (v : ℕ → ℝ) (s : ℕ) (hs : s < 256) :
    ∑ k ∈ Finset.range 256, v k * tri k s = ∑ j ∈ Finset.range (s + 1), v j := by
  rw [← Finset.sum_subset (Finset.range_subset_range.mpr (by omega : s + 1 ≤ 256))]
  · refine Finset.sum_congr rfl fun k hk => ?_
    have := Finset.mem_range.mp hk
    rw [tri, if_pos (by rw [Nat.mod_eq_of_lt (by omega)]; omega), mul_one]
  · intro k hk hk'
    have h1 := Finset.mem_range.mp hk
    rw [Finset.mem_range, not_lt] at hk'
    rw [tri, if_neg (by rw [Nat.mod_eq_of_lt h1]; omega), mul_zero]

theorem cum_tri2 (v : ℕ → ℝ) (s : ℕ) (hs : s < 256) :
    ∑ k ∈ Finset.range 512, (if k < 256 then v k else v (k - 256) - v (k - 256)) * tri k s
      = ∑ j ∈ Finset.range (s + 1), v j := by
  rw [← cum_tri v s hs, ← Finset.sum_subset (Finset.range_subset_range.mpr (by omega : 256 ≤ 512))]
  · refine Finset.sum_congr rfl fun k hk => ?_
    rw [if_pos (Finset.mem_range.mp hk)]
  · intro k _ hk'
    rw [Finset.mem_range] at hk'
    rw [if_neg hk', sub_self, zero_mul]

instance pay56 : Is2 (k0_pay56 (F := Ideal)) tri := ⟨fun i j => by
  have h1 : k0_pay56 (F := Ideal) (ix2 i j)
      = FloatOps.sitofp (F := Ideal) .f32 ((IntOp.cmpi .sle (BitVec.ofNat 32 (0 * 512 + i.val) &&& 255#32) (BitVec.ofNat 32 (0 * 256 + j.val))).setWidth 32) := rfl
  have hi := i.isLt
  have hj := j.isLt
  have h2 : (BitVec.ofNat 32 (0 * 512 + i.val) &&& 255#32).sle (BitVec.ofNat 32 (0 * 256 + j.val)) = decide (i.val % 256 ≤ j.val) := by
    have e1 : (BitVec.ofNat 32 (0 * 512 + i.val) &&& 255#32) = BitVec.ofNat 32 (i.val % 256) := by
      apply BitVec.eq_of_toNat_eq
      simp only [zero_mul, zero_add, BitVec.toNat_and, BitVec.toNat_ofNat]
      rw [Nat.mod_eq_of_lt (by omega : i.val < 2 ^ 32), Nat.mod_eq_of_lt (by omega : i.val % 256 < 2 ^ 32)]
      exact Nat.and_two_pow_sub_one_eq_mod i.val 8
    rw [e1, BitVec.sle_eq_decide, zero_mul, zero_add]
    rw [BitVec.toInt_eq_toNat_of_lt, BitVec.toInt_eq_toNat_of_lt, BitVec.toNat_ofNat, BitVec.toNat_ofNat,
      Nat.mod_eq_of_lt (by omega : i.val % 256 < 2 ^ 32), Nat.mod_eq_of_lt (by omega : j.val < 2 ^ 32)]
    · apply decide_eq_decide.mpr; omega
    · rw [BitVec.toNat_ofNat, Nat.mod_eq_of_lt (by omega : j.val < 2 ^ 32)]; omega
    · rw [BitVec.toNat_ofNat, Nat.mod_eq_of_lt (by omega : i.val % 256 < 2 ^ 32)]; omega
  rw [h1]
  show FloatOps.sitofp (F := Ideal) .f32 ((BitVec.ofBool ((BitVec.ofNat 32 (0 * 512 + i.val) &&& 255#32).sle (BitVec.ofNat 32 (0 * 256 + j.val)))).setWidth 32) = _
  rw [h2, tri]
  by_cases h : i.val % 256 ≤ j.val
  · rw [decide_eq_true h, if_pos h]
    show ((((1#32 : BitVec 32).toInt : ℝ)) : EReal) = _
    norm_num
  · rw [decide_eq_false h, if_neg h]
    show ((((0#32 : BitVec 32).toInt : ℝ)) : EReal) = _
    norm_num⟩

theorem slt_small (x y : ℕ) (hx : x < 2 ^ 31) (hy : y < 2 ^ 31) :
    IntOp.cmpi .slt (BitVec.ofNat 32 x) (BitVec.ofNat 32 y) = if decide (x < y) = true then 1#1 else 0#1 := by
  show BitVec.ofBool ((BitVec.ofNat 32 x).slt (BitVec.ofNat 32 y)) = _
  have : (BitVec.ofNat 32 x).slt (BitVec.ofNat 32 y) = decide (x < y) := by
    rw [BitVec.slt_eq_decide]
    rw [BitVec.toInt_eq_toNat_of_lt, BitVec.toInt_eq_toNat_of_lt, BitVec.toNat_ofNat, BitVec.toNat_ofNat,
      Nat.mod_eq_of_lt (by omega : x < 2 ^ 32), Nat.mod_eq_of_lt (by omega : y < 2 ^ 32)]
    · simp
    · rw [BitVec.toNat_ofNat, Nat.mod_eq_of_lt (by omega : y < 2 ^ 32)]; omega
    · rw [BitVec.toNat_ofNat, Nat.mod_eq_of_lt (by omega : x < 2 ^ 32)]; omega
  rw [this]
  cases decide (x < y) <;> rfl

instance pay66 : Mask2 k0_pay66 pd := ⟨fun i j => by
  have h1 : k0_pay66 (ix2 i j) = IntOp.cmpi .slt (BitVec.ofNat 32 (0 * 256 + j.val) + 0#32) (BitVec.ofNat 32 (0 * 512 + i.val) + 0#32) := rfl
  have hi := i.isLt
  have hj := j.isLt
  rw [h1, BitVec.add_zero, BitVec.add_zero, slt_small _ _ (by omega) (by omega), pd, zero_mul, zero_add, zero_mul, zero_add]⟩

instance pay97 : Mask2 k0_pay97 pd := ⟨fun i j => by
  have h1 : k0_pay97 (ix2 i j) = IntOp.cmpi .slt (BitVec.ofNat 32 (0 * 256 + j.val) + BitVec.ofNat 32 256) (BitVec.ofNat 32 (0 * 256 + i.val) + BitVec.ofNat 32 256) := rfl
  have hi := i.isLt
  have hj := j.isLt
  rw [h1, ← BitVec.ofNat_add, ← BitVec.ofNat_add, slt_small _ _ (by omega) (by omega), pd]
  have : decide (0 * 256 + j.val + 256 < 0 * 256 + i.val + 256) = decide (j.val < i.val) := by
    apply decide_eq_decide.mpr; omega
  rw [this]⟩

instance pay55 : Is3 (k0_pay55 (F := Ideal)) (fun _ _ _ => 0) := by unfold k0_pay55; infer_instance
instance pay57 : Is2 (k0_pay57 (F := Ideal)) (fun _ _ => 0) := by unfold k0_pay57; infer_instance
instance pay58 : Is2 (k0_pay58 (F := Ideal)) (fun _ _ => 0) := by unfold k0_pay58; infer_instance
instance pay59 : Is2 (k0_pay59 (F := Ideal)) (fun _ _ => 0) := by unfold k0_pay59; infer_instance

/-! ### The block under the diagonal -/

section Loop

instance pay3 (x : Vec Ideal S512x128 .bf16) (y : Vec Ideal S256x128 .bf16) (q k : ℕ → ℕ → ℝ) [Is2 x q] [Is2 y k] :
    Is2 (k0_pay3 x y) (zf q k) := by unfold k0_pay3; exact Is2.congr inferInstance fun r s _ _ => rfl
instance pay4 (x : Vec Ideal S512x128 .bf16) (y : Vec Ideal S256x128 .bf16) (q k : ℕ → ℕ → ℝ) [Is2 x q] [Is2 y k] :
    Is2 (k0_pay4 x y) (mf pt (zf q k)) := by unfold k0_pay4; exact Is2.congr inferInstance fun r s _ _ => rfl
instance pay5 (x : Vec Ideal S512x128 .bf16) (y : Vec Ideal S256x128 .bf16) (q k : ℕ → ℕ → ℝ) [Is2 x q] [Is2 y k] :
    Is2 (k0_pay5 x y) (zf q k) := by unfold k0_pay5; exact Is2.congr inferInstance fun r s _ _ => rfl
instance pay6 (x : Vec Ideal S512x128 .bf16) (y : Vec Ideal S256x128 .bf16) (q k : ℕ → ℕ → ℝ) [Is2 x q] [Is2 y k] :
    Is2 (k0_pay6 x y) (fun r s => max (zf q k r s) 0) := by unfold k0_pay6; exact Is2.congr inferInstance fun r s _ _ => rfl
instance pay7 (x : Vec Ideal S512x128 .bf16) (y : Vec Ideal S256x128 .bf16) (q k : ℕ → ℕ → ℝ) [Is2 x q] [Is2 y k] :
    Is2 (k0_pay7 x y) (fun r s => 1 + (2 : ℝ) ^ (0 - |zf q k r s|)) := by
  unfold k0_pay7; exact Is2.congr inferInstance fun r s _ _ => rfl

variable (v425 v439 v449 v455 v447 : FVec Ideal S512x256 .f32) (z0 z1 m0 m1 : ℕ → ℕ → ℝ)

instance pay8 [Is2 v449 (fun r s => max (z1 r s) 0)] [Is2 v455 (fun r s => 1 + (2 : ℝ) ^ (0 - |z1 r s|))] :
    Is2 (k0_pay8 v449 v455) (mf pt z1) := by
  unfold k0_pay8; exact Is2.congr inferInstance fun r s _ _ => rfl

instance pay9 [Is2 v439 m0] [Is2 v449 (fun r s => max (z1 r s) 0)] [Is2 v455 (fun r s => 1 + (2 : ℝ) ^ (0 - |z1 r s|))] :
    Is2 (k0_pay9 k0_pay56 v439 v449 v455) (fun r s => if r < 512 then cum m0 r s else cum (mf pt z1) (r - 512) s) := by
  unfold k0_pay9
  refine Is2.congr inferInstance fun r s _ hs => ?_
  rw [cum_tri2 (fun k => if r < 512 then m0 r k else mf pt z1 (r - 512) k) s hs]
  split <;> rfl

instance pay10 [Is2 v425 z0] [Is2 v439 m0] : Is2 (k0_pay10 v425 v439) (fun r s => m0 r s + z0 r s) := by
  unfold k0_pay10; infer_instance

variable (arg12 : FVec Ideal S512x1 .f32) (v470 : Vec Ideal S1x512x1 .f32) (ps ct : ℕ → ℝ)
variable (v478 v495 : FVec Ideal S512x128 .bf16) (v481 v498 : FVec Ideal S256x128 .bf16) (g v : ℕ → ℕ → ℝ)

instance pay11 [Is2 v425 z0] [Is2 v439 m0] [Is2 v449 (fun r s => max (z1 r s) 0)]
    [Is2 v455 (fun r s => 1 + (2 : ℝ) ^ (0 - |z1 r s|))] [Is3 v470 (fun _ r _ => ct r)] [Is2 arg12 (fun r _ => ps r)] :
    Is2 (k0_pay11 k0_pay56 arg12 v425 v439 v449 v455 v470) (af pt m0 z0 ct ps) := by
  unfold k0_pay11
  refine Is2.congr inferInstance fun r s hr _ => ?_
  simp only [zero_add, if_pos hr, af, pt, if_true]

instance pay12 [Is2 v425 z0] [Is2 v439 m0] [Is2 v449 (fun r s => max (z1 r s) 0)]
    [Is2 v455 (fun r s => 1 + (2 : ℝ) ^ (0 - |z1 r s|))] [Is3 v470 (fun _ r _ => ct r)] [Is2 arg12 (fun r _ => ps r)]
    [Is2 v478 g] [Is2 v481 v] :
    Is2 (k0_pay12 k0_pay56 arg12 v425 v439 v449 v455 v470 v478 v481) (ef g v (af pt m0 z0 ct ps)) := by
  unfold k0_pay12; exact Is2.congr inferInstance fun r s _ _ => rfl

instance pay13 [Is2 v447 z1] [Is2 v449 (fun r s => max (z1 r s) 0)] [Is2 v455 (fun r s => 1 + (2 : ℝ) ^ (0 - |z1 r s|))] :
    Is2 (k0_pay13 v447 v449 v455) (fun r s => mf pt z1 r s + z1 r s) := by
  unfold k0_pay13; infer_instance

instance pay14 [Is2 v439 m0] [Is2 v447 z1] [Is2 v449 (fun r s => max (z1 r s) 0)]
    [Is2 v455 (fun r s => 1 + (2 : ℝ) ^ (0 - |z1 r s|))] [Is3 v470 (fun _ r _ => ct r)] [Is2 arg12 (fun r _ => ps r)] :
    Is2 (k0_pay14 k0_pay56 arg12 v439 v447 v449 v455 v470) (af pt (mf pt z1) z1 ct ps) := by
  unfold k0_pay14
  refine Is2.congr inferInstance fun r s hr _ => ?_
  simp only [zero_add, if_neg (by omega : ¬ 512 + r < 512), Nat.add_sub_cancel_left, af, pt, if_true]

instance pay15 [Is2 v495 g] : Is2 (k0_pay15 (F := Ideal) v495) g := by unfold k0_pay15; infer_instance
instance pay16 [Is2 v498 v] : Is2 (k0_pay16 (F := Ideal) v498) v := by unfold k0_pay16; infer_instance
instance pay22 [Is2 v498 v] : Is2 (k0_pay22 (F := Ideal) v498) v := by unfold k0_pay22; infer_instance

variable (v493 v477 v484 v469 : FVec Ideal S512x256 .f32) (a a0 a1 e0 l0 : ℕ → ℕ → ℝ) (cst : FVec Ideal S512x256 .f32)

instance pay17 [Is2 v493 a] [Is2 v495 g] [Is2 v498 v] [Is2 cst (fun _ _ => 0)] : Is2 (k0_pay17 v493 v495 v498 cst) (ef g v a) := by
  unfold k0_pay17; exact Is2.congr inferInstance fun r s _ _ => rfl

instance pay18 [Is2 v484 e0] [Is2 v493 a] [Is2 v495 g] [Is2 v498 v] [Is2 cst (fun _ _ => 0)] :
    Is2 (k0_pay18 k0_pay56 v484 v493 v495 v498 cst) (fun r s => if r < 512 then cum e0 r s else cum (ef g v a) (r - 512) s) := by
  unfold k0_pay18
  refine Is2.congr inferInstance fun r s _ hs => ?_
  simp only [zero_add]
  rw [cum_tri (fun k => if r < 512 then e0 r k else ef g v a (r - 512) k) s hs]
  split <;> rfl

variable (es : ℕ → ℝ) (v485 v500 : FVec Ideal S512x256 .f32) (v504 : FVec Ideal S1024x256 .f32) (e1 : ℕ → ℕ → ℝ)

instance pay19 [Is2 arg12 (fun r _ => es r)] [Is2 v469 (fun r s => m0 r s + z0 r s)] [Is2 v484 e0] [Is2 v493 a] [Is2 v495 g] [Is2 v498 v]
    [Is2 cst (fun _ _ => 0)] :
    Is2 (k0_pay19 k0_pay56 arg12 v469 v484 v493 v495 v498 cst) (df pt m0 z0 e0 es) := by
  unfold k0_pay19
  refine Is2.congr inferInstance fun r s hr _ => ?_
  simp only [zero_add, if_pos hr, df, pt, if_true]

instance pay26 [Is2 arg12 (fun r _ => es r)] [Is2 v485 (fun r s => m0 r s + z0 r s)] [Is2 v500 e1]
    [Is2 v504 (fun r s => if r < 512 then cum e0 r s else cum e1 (r - 512) s)] :
    Is2 (k0_pay26 arg12 v485 v500 v504) (df pt m0 z0 e1 es) := by
  unfold k0_pay26
  refine Is2.congr inferInstance fun r s hr _ => ?_
  simp only [zero_add, if_neg (by omega : ¬ 512 + r < 512), Nat.add_sub_cancel_left, df, pt, if_true]

variable (v515 : Vec Ideal S1x256x128 .f32) (v517 : Vec Ideal S512x128 .bf16) (old : ℕ → ℕ → ℕ → ℝ) (q : ℕ → ℕ → ℝ)

instance pay20 [Is2 arg12 (fun r _ => es r)] [Is2 v469 (fun r s => m0 r s + z0 r s)] [Is2 v484 e0] [Is2 v493 a] [Is2 v495 g] [Is2 v498 v]
    [Is2 cst (fun _ _ => 0)] [Is3 v515 old] [Is2 v517 q] :
    Is3 (k0_pay20 k0_pay56 arg12 v469 v484 v493 v495 v498 cst v515 v517)
      (fun _ s d => old 0 s d + ∑ r ∈ Finset.range 512, df pt m0 z0 e0 es r s * q r d) := by
  unfold k0_pay20; infer_instance
instance pay21 [Is2 v477 a] [Is3 v515 old] [Is2 v517 q] :
    Is3 (k0_pay21 v477 v515 v517) (fun _ s d => old 0 s d + ∑ r ∈ Finset.range 512, a r s * q r d) := by
  unfold k0_pay21; infer_instance
instance pay27 [Is2 arg12 (fun r _ => es r)] [Is2 v485 (fun r s => m0 r s + z0 r s)] [Is2 v500 e1]
    [Is2 v504 (fun r s => if r < 512 then cum e0 r s else cum e1 (r - 512) s)] [Is3 v515 old] [Is2 v517 q] :
    Is3 (k0_pay27 arg12 v485 v500 v504 v515 v517)
      (fun _ s d => old 0 s d + ∑ r ∈ Finset.range 512, df pt m0 z0 e1 es r s * q r d) := by
  unfold k0_pay27; infer_instance
instance pay28 [Is2 v477 a] [Is3 v515 old] [Is2 v517 q] :
    Is3 (k0_pay28 v477 v515 v517) (fun _ s d => old 0 s d + ∑ r ∈ Finset.range 512, a r s * q r d) := by
  unfold k0_pay28; infer_instance

variable (arg11 : FVec Ideal S512x128 .f32) (v513 : FVec Ideal S512x256 .bf16) (dq k : ℕ → ℕ → ℝ)

instance pay23 [Is2 arg11 dq] [Is2 v513 a] [Is2 v498 k] :
    Is2 (k0_pay23 arg11 v513 v498) (fun r d => dq r d + ∑ s ∈ Finset.range 256, a r s * k s d) := by
  unfold k0_pay23; infer_instance
instance pay24 [Is2 arg12 (fun r _ => es r)] [Is2 v439 a] :
    Is2 (k0_pay24 arg12 v439) (fun r _ => es r + ∑ s ∈ Finset.range 256, a r s) := by
  unfold k0_pay24; infer_instance
instance pay25 [Is2 arg12 (fun r _ => es r)] [Is2 v439 a] :
    Is2 (k0_pay25 arg12 v439) (fun r _ => es r + ∑ s ∈ Finset.range 256, a r s) := by
  unfold k0_pay25; infer_instance
instance pay60 [Is2 arg11 dq] [Is2 v513 a] [Is2 v481 k] :
    Is2 (k0_pay60 arg11 v513 v481) (fun r d => dq r d + ∑ s ∈ Finset.range 256, a r s * k s d) := by
  unfold k0_pay60; infer_instance
instance pay61 [Is2 arg12 (fun r _ => es r)] [Is2 v439 a] :
    Is2 (k0_pay61 arg12 v439) (fun r _ => es r + ∑ s ∈ Finset.range 256, a r s) := by
  unfold k0_pay61; infer_instance
instance pay62 [Is2 arg12 (fun r _ => es r)] [Is2 v439 a] :
    Is2 (k0_pay62 arg12 v439) (fun r _ => es r + ∑ s ∈ Finset.range 256, a r s) := by
  unfold k0_pay62; infer_instance

end Loop

end Cert.Calc
-- ==== Proof.Diag.lean ====
module

public import proofs.«01_k».proof.Proof.Pay

/-!
The values computed by the two blocks on the diagonal: first all 512 rows of a step against the
first 256 of its keys, then the last 256 rows against the last 256 keys.
-/

@[expose] public section

set_option maxRecDepth 8192

noncomputable section

namespace Cert.Calc

open Idealize.ShloMosaic hiding ix1 ix2 ix3 ix4
open Idealize.ShloMosaic.ValueIdx Cert.KernelIdeal Cert.KernelIdeal.Gen
open scoped BigOperators

instance pay1 (x : FVec Ideal S512x128 .f32) (f : ℕ → ℕ → ℝ) [Is2 x f] : Is2 (k0_pay1 x) f := by unfold k0_pay1; infer_instance
instance pay2 (x : FVec Ideal S512x128 .f32) (f : ℕ → ℕ → ℝ) [Is2 x f] : Is2 (k0_pay2 x) f := by unfold k0_pay2; infer_instance

/-! ### All rows against the first keys -/

section First

variable (xq : FVec Ideal S512x128 .bf16) (xk : FVec Ideal S256x128 .bf16) (q k g v : ℕ → ℕ → ℝ)
variable (M : IVec S512x256 1) (p : ℕ → ℕ → Bool)

instance pay67 [Is2 xq q] : Is2 (k0_pay67 (F := Ideal) xq) q := by unfold k0_pay67; infer_instance
instance pay68 [Is2 xk k] : Is2 (k0_pay68 (F := Ideal) xk) k := by unfold k0_pay68; infer_instance
instance pay80 [Is2 xq q] : Is2 (k0_pay80 (F := Ideal) xq) q := by unfold k0_pay80; infer_instance
instance pay81 [Is2 xk k] : Is2 (k0_pay81 (F := Ideal) xk) k := by unfold k0_pay81; infer_instance
instance pay69 [Is2 xq q] [Is2 xk k] : Is2 (k0_pay69 xq xk) (zf q k) := by
  unfold k0_pay69; exact Is2.congr inferInstance fun r s _ _ => rfl
instance pay71 [Is2 xq q] [Is2 xk k] : Is2 (k0_pay71 (F := Ideal) xq xk) (zf q k) := by
  unfold k0_pay71; exact Is2.congr inferInstance fun r s _ _ => rfl
instance pay70 [Mask2 M p] [Is2 xq q] [Is2 xk k] : Is2 (k0_pay70 M xq xk) (mf p (zf q k)) := by
  unfold k0_pay70; exact Is2.congr inferInstance fun r s _ _ => rfl
instance pay72 [Is2 xq q] [Is2 xk k] : Is2 (k0_pay72 (F := Ideal) xq xk) (fun r s => mz (zf q k r s)) := by
  unfold k0_pay72; exact Is2.congr inferInstance fun r s _ _ => rfl

variable (vz0 vz1 vm0 vu1 vl : FVec Ideal S512x256 .f32) (z0 z1 m0 m1 : ℕ → ℕ → ℝ) (c : EReal)

instance pay73 [Mask2 M p] [Is2 vu1 (fun r s => mz (z1 r s))] [IsS c 0] : Is2 (k0_pay73 (F := Ideal) M vu1 c) (mf p z1) := by
  unfold k0_pay73; exact Is2.congr inferInstance fun r s _ _ => rfl
instance pay74 [Mask2 M p] [Is2 vm0 m0] [Is2 vu1 (fun r s => mz (z1 r s))] [IsS c 0] :
    Is2 (k0_pay74 (F := Ideal) k0_pay56 M vm0 vu1 c) (fun r s => if r < 512 then cum m0 r s else cum (mf p z1) (r - 512) s) := by
  unfold k0_pay74
  refine Is2.congr inferInstance fun r s _ hs => ?_
  rw [cum_tri2 (fun k => if r < 512 then m0 r k else mf p z1 (r - 512) k) s hs]
  split <;> rfl
instance pay75 [Is2 vz0 z0] [Is2 vm0 m0] : Is2 (k0_pay75 vz0 vm0) (fun r s => m0 r s + z0 r s) := by
  unfold k0_pay75; infer_instance

variable (vp : FVec Ideal S512x1 .f32) (vc : Vec Ideal S1x512x1 .f32) (ps ct es : ℕ → ℝ)
variable (xg : FVec Ideal S512x128 .bf16) (xv : FVec Ideal S256x128 .bf16)

instance pay76 [Mask2 M p] [Is2 vp (fun r _ => ps r)] [Is2 vz0 z0] [Is2 vm0 m0] [Is2 vu1 (fun r s => mz (z1 r s))] [IsS c 0]
    [Is3 vc (fun _ r _ => ct r)] : Is2 (k0_pay76 (F := Ideal) k0_pay56 vp M vz0 vm0 vu1 c vc) (af p m0 z0 ct ps) := by
  unfold k0_pay76
  refine Is2.congr inferInstance fun r s hr _ => ?_
  simp only [zero_add, if_pos hr, af]
instance pay77 [Mask2 M p] [Is2 vp (fun r _ => ps r)] [Is2 vz0 z0] [Is2 vm0 m0] [Is2 vu1 (fun r s => mz (z1 r s))] [IsS c 0]
    [Is3 vc (fun _ r _ => ct r)] [Is2 xg g] [Is2 xv v] :
    Is2 (k0_pay77 (F := Ideal) k0_pay56 vp M vz0 vm0 vu1 c vc xg xv) (ef g v (af p m0 z0 ct ps)) := by
  unfold k0_pay77; exact Is2.congr inferInstance fun r s _ _ => rfl
instance pay78 [Mask2 M p] [Is2 vz1 z1] [Is2 vu1 (fun r s => mz (z1 r s))] [IsS c 0] :
    Is2 (k0_pay78 (F := Ideal) M vz1 vu1 c) (fun r s => mf p z1 r s + z1 r s) := by
  unfold k0_pay78; infer_instance
instance pay79 [Mask2 M p] [Is2 vp (fun r _ => ps r)] [Is2 vz1 z1] [Is2 vm0 m0] [Is2 vu1 (fun r s => mz (z1 r s))] [IsS c 0]
    [Is3 vc (fun _ r _ => ct r)] : Is2 (k0_pay79 (F := Ideal) k0_pay56 vp M vm0 vz1 vu1 c vc) (af p (mf p z1) z1 ct ps) := by
  unfold k0_pay79
  refine Is2.congr inferInstance fun r s hr _ => ?_
  simp only [zero_add, if_neg (by omega : ¬ 512 + r < 512), Nat.add_sub_cancel_left, af]

variable (va ve0 ve1 cst : FVec Ideal S512x256 .f32) (a e0 e1 : ℕ → ℕ → ℝ) (vE : FVec Ideal S1024x256 .f32)

instance pay82 [Is2 va a] [Is2 xg g] [Is2 xv v] [Is2 cst (fun _ _ => 0)] : Is2 (k0_pay82 va xg xv cst) (ef g v a) := by
  unfold k0_pay82; exact Is2.congr inferInstance fun r s _ _ => rfl
instance pay83 [Is2 ve0 e0] [Is2 va a] [Is2 xg g] [Is2 xv v] [Is2 cst (fun _ _ => 0)] :
    Is2 (k0_pay83 k0_pay56 ve0 va xg xv cst) (fun r s => if r < 512 then cum e0 r s else cum (ef g v a) (r - 512) s) := by
  unfold k0_pay83
  refine Is2.congr inferInstance fun r s _ hs => ?_
  simp only [zero_add]
  rw [cum_tri (fun k => if r < 512 then e0 r k else ef g v a (r - 512) k) s hs]
  split <;> rfl
instance pay84 [Mask2 M p] [Is2 vp (fun r _ => es r)] [Is2 vl (fun r s => m0 r s + z0 r s)] [Is2 ve0 e0] [Is2 va a] [Is2 xg g] [Is2 xv v]
    [Is2 cst (fun _ _ => 0)] : Is2 (k0_pay84 k0_pay56 vp M vl ve0 va xg xv cst) (df p m0 z0 e0 es) := by
  unfold k0_pay84
  refine Is2.congr inferInstance fun r s hr _ => ?_
  simp only [zero_add, if_pos hr, df]
instance pay90 [Mask2 M p] [Is2 vp (fun r _ => es r)] [Is2 vl (fun r s => m0 r s + z0 r s)] [Is2 ve1 e1]
    [Is2 vE (fun r s => if r < 512 then cum e0 r s else cum e1 (r - 512) s)] :
    Is2 (k0_pay90 vp M vl ve1 vE) (df p m0 z0 e1 es) := by
  unfold k0_pay90
  refine Is2.congr inferInstance fun r s hr _ => ?_
  simp only [zero_add, if_neg (by omega : ¬ 512 + r < 512), Nat.add_sub_cancel_left, df]

variable (vo : Vec Ideal S1x256x128 .f32) (old : ℕ → ℕ → ℕ → ℝ)

instance pay85 [Mask2 M p] [Is2 vp (fun r _ => es r)] [Is2 vl (fun r s => m0 r s + z0 r s)] [Is2 ve0 e0] [Is2 va a] [Is2 xg g] [Is2 xv v]
    [Is2 cst (fun _ _ => 0)] [Is3 vo old] [Is2 xq q] : Is3 (k0_pay85 k0_pay56 vp M vl ve0 va xg xv cst vo xq)
      (fun _ s d => old 0 s d + ∑ r ∈ Finset.range 512, df p m0 z0 e0 es r s * q r d) := by
  unfold k0_pay85; infer_instance
instance pay86 [Is2 va a] [Is3 vo old] [Is2 xq q] :
    Is3 (k0_pay86 va vo xq) (fun _ s d => old 0 s d + ∑ r ∈ Finset.range 512, a r s * q r d) := by
  unfold k0_pay86; infer_instance
instance pay91 [Mask2 M p] [Is2 vp (fun r _ => es r)] [Is2 vl (fun r s => m0 r s + z0 r s)] [Is2 ve1 e1]
    [Is2 vE (fun r s => if r < 512 then cum e0 r s else cum e1 (r - 512) s)] [Is3 vo old] [Is2 xq q] :
    Is3 (k0_pay91 vp M vl ve1 vE vo xq) (fun _ s d => old 0 s d + ∑ r ∈ Finset.range 512, df p m0 z0 e1 es r s * q r d) := by
  unfold k0_pay91; infer_instance
instance pay92 [Is2 va a] [Is3 vo old] [Is2 xq q] :
    Is2 (k0_pay92 va vo xq) (fun s d => old 0 s d + ∑ r ∈ Finset.range 512, a r s * q r d) := by
  unfold k0_pay92; infer_instance
instance pay93 (w : FVec Ideal S256x128 .f32) (f : ℕ → ℕ → ℝ) [Is2 w f] : Is3 (k0_pay93 w) (fun _ s d => f s d) := by
  unfold k0_pay93; infer_instance

variable (vd : FVec Ideal S512x128 .f32) (vs : FVec Ideal S512x256 .bf16) (dq : ℕ → ℕ → ℝ)

instance pay87 [Is2 vd dq] [Is2 vs a] [Is2 xk k] :
    Is2 (k0_pay87 vd vs xk) (fun r d => dq r d + ∑ s ∈ Finset.range 256, a r s * k s d) := by
  unfold k0_pay87; infer_instance
instance pay94 [Is2 vd dq] [Is2 vs a] [Is2 xk k] :
    Is2 (k0_pay94 vd vs xk) (fun r d => dq r d + ∑ s ∈ Finset.range 256, a r s * k s d) := by
  unfold k0_pay94; infer_instance
instance pay88 [Is2 vp (fun r _ => ps r)] [Is2 va a] : Is2 (k0_pay88 vp va) (fun r _ => ps r + ∑ s ∈ Finset.range 256, a r s) := by
  unfold k0_pay88; infer_instance
instance pay89 [Is2 vp (fun r _ => ps r)] [Is2 va a] : Is2 (k0_pay89 vp va) (fun r _ => ps r + ∑ s ∈ Finset.range 256, a r s) := by
  unfold k0_pay89; infer_instance
instance pay95 [Is2 vp (fun r _ => ps r)] [Is2 va a] : Is2 (k0_pay95 vp va) (fun r _ => ps r + ∑ s ∈ Finset.range 256, a r s) := by
  unfold k0_pay95; infer_instance
instance pay96 [Is2 vp (fun r _ => ps r)] [Is2 va a] : Is2 (k0_pay96 vp va) (fun r _ => ps r + ∑ s ∈ Finset.range 256, a r s) := by
  unfold k0_pay96; infer_instance

end First

/-! ### The last rows against the last keys -/

section Last

variable (xq xk xg xv xg' xv' : FVec Ideal S256x128 .bf16) (q k g v g' v' : ℕ → ℕ → ℝ)
variable (M : IVec S256x256 1) (p : ℕ → ℕ → Bool)
variable (vz0 vz1 vm1 vx vy vo' vl : FVec Ideal S256x256 .f32) (z0 z1 m0 m1 : ℕ → ℕ → ℝ)

instance pay98 [Is2 xq q] [Is2 xk k] : Is2 (k0_pay98 (F := Ideal) xq xk) (zf q k) := by
  unfold k0_pay98; exact Is2.congr inferInstance fun r s _ _ => rfl
instance pay103 [Is2 xq q] [Is2 xk k] : Is2 (k0_pay103 (F := Ideal) xq xk) (zf q k) := by
  unfold k0_pay103; exact Is2.congr inferInstance fun r s _ _ => rfl
instance pay99 [Is2 xq q] [Is2 xk k] : Is2 (k0_pay99 (F := Ideal) xq xk) (fun r s => max (zf q k r s) 0) := by
  unfold k0_pay99; infer_instance
instance pay100 [Is2 xq q] [Is2 xk k] : Is2 (k0_pay100 (F := Ideal) xq xk) (fun r s => (2 : ℝ) ^ (0 - |zf q k r s|)) := by
  unfold k0_pay100; infer_instance
instance pay101 : Is2 (k0_pay101 (F := Ideal)) (fun _ _ => 1) := by unfold k0_pay101; infer_instance
instance pay102 [Mask2 M p] [Is2 vx (fun r s => max (z0 r s) 0)] [Is2 vy (fun r s => (2 : ℝ) ^ (0 - |z0 r s|))] [Is2 vo' (fun _ _ => 1)] :
    Is2 (k0_pay102 M vx vy vo') (mf p z0) := by
  unfold k0_pay102; exact Is2.congr inferInstance fun r s _ _ => rfl
instance pay104 [Mask2 M p] [Is2 xq q] [Is2 xk k] : Is2 (k0_pay104 (F := Ideal) M xq xk) (mf p (zf q k)) := by
  unfold k0_pay104; exact Is2.congr inferInstance fun r s _ _ => rfl
instance pay105 [Mask2 M p] [Is2 vx (fun r s => max (z0 r s) 0)] [Is2 vy (fun r s => (2 : ℝ) ^ (0 - |z0 r s|))] [Is2 vo' (fun _ _ => 1)]
    [Is2 xq q] [Is2 xk k] : Is2 (k0_pay105 k0_pay56 M vx vy vo' xq xk)
      (fun r s => if r < 256 then cum (mf p z0) r s else cum (mf p (zf q k)) (r - 256) s) := by
  unfold k0_pay105
  refine Is2.congr inferInstance fun r s _ hs => ?_
  rw [cum_tri2 (fun j => if r < 256 then mf p z0 r j else mf p (zf q k) (r - 256) j) s hs]
  split <;> rfl
instance pay106 [Mask2 M p] [Is2 vz0 z0] [Is2 vx (fun r s => max (z0 r s) 0)] [Is2 vy (fun r s => (2 : ℝ) ^ (0 - |z0 r s|))]
    [Is2 vo' (fun _ _ => 1)] : Is2 (k0_pay106 M vz0 vx vy vo') (fun r s => mf p z0 r s + z0 r s) := by
  unfold k0_pay106; infer_instance
instance pay109 [Is2 vz1 z1] [Is2 vm1 m1] : Is2 (k0_pay109 vz1 vm1) (fun r s => m1 r s + z1 r s) := by
  unfold k0_pay109; infer_instance

variable (vp vp' ve : FVec Ideal S512x1 .f32) (vc vc' : Vec Ideal S1x256x1 .f32) (ps ct ps' ct' es : ℕ → ℝ) (vC : FVec Ideal S512x256 .f32)

instance pay107 [Mask2 M p] [Is2 vp (fun r _ => ps r)] [Is2 vC (fun r s => if r < 256 then cum m0 r s else cum m1 (r - 256) s)]
    [Is2 vl (fun r s => m0 r s + z0 r s)] [Is3 vc (fun _ r _ => ct r)] :
    Is2 (k0_pay107 vp M vC vl vc) (af p m0 z0 ct (fun r => ps (256 + r))) := by
  unfold k0_pay107
  refine Is2.congr inferInstance fun r s hr _ => ?_
  simp only [zero_add, if_pos hr, af]
instance pay108 [Mask2 M p] [Is2 vp (fun r _ => ps r)] [Is2 vC (fun r s => if r < 256 then cum m0 r s else cum m1 (r - 256) s)]
    [Is2 vl (fun r s => m0 r s + z0 r s)] [Is3 vc (fun _ r _ => ct r)] [Is2 xg g] [Is2 xv v] :
    Is2 (k0_pay108 vp M vC vl vc xg xv) (ef g v (af p m0 z0 ct (fun r => ps (256 + r)))) := by
  unfold k0_pay108; exact Is2.congr inferInstance fun r s _ _ => rfl
instance pay110 [Mask2 M p] [Is2 vp (fun r _ => ps r)] [Is2 vC (fun r s => if r < 256 then cum m0 r s else cum m1 (r - 256) s)]
    [Is2 vz1 z1] [Is2 vm1 m1] [Is3 vc (fun _ r _ => ct r)] :
    Is2 (k0_pay110 vp M vz1 vm1 vC vc) (af p m1 z1 ct (fun r => ps (256 + r))) := by
  unfold k0_pay110
  refine Is2.congr inferInstance fun r s hr _ => ?_
  simp only [zero_add, if_neg (by omega : ¬ 256 + r < 256), Nat.add_sub_cancel_left, af]
instance pay111 [Mask2 M p] [Is2 vp (fun r _ => ps r)] [Is2 vC (fun r s => if r < 256 then cum m0 r s else cum m1 (r - 256) s)]
    [Is2 vz1 z1] [Is2 vm1 m1] [Is3 vc (fun _ r _ => ct r)] [Is2 xg g] [Is2 xv v] :
    Is2 (k0_pay111 vp M vz1 vm1 vC vc xg xv) (ef g v (af p m1 z1 ct (fun r => ps (256 + r)))) := by
  unfold k0_pay111; exact Is2.congr inferInstance fun r s _ _ => rfl
instance pay112 [Mask2 M p] [Is2 vp (fun r _ => ps r)] [Is2 vp' (fun r _ => ps' r)]
    [Is2 vC (fun r s => if r < 256 then cum m0 r s else cum m1 (r - 256) s)] [Is2 vz1 z1] [Is2 vm1 m1]
    [Is2 vl (fun r s => m0 r s + z0 r s)] [Is3 vc (fun _ r _ => ct r)] [Is3 vc' (fun _ r _ => ct' r)]
    [Is2 xg g] [Is2 xv v] [Is2 xg' g'] [Is2 xv' v'] :
    Is2 (k0_pay112 k0_pay56 vp vp' M vz1 vm1 vC vl vc xg xv vc' xg' xv')
      (fun r s => if r < 256 then cum (ef g v (af p m0 z0 ct (fun r => ps (256 + r)))) r s
        else cum (ef g' v' (af p m1 z1 ct' (fun r => ps' (256 + r)))) (r - 256) s) := by
  unfold k0_pay112
  refine Is2.congr inferInstance fun r s _ hs => ?_
  simp only [zero_add]
  rw [cum_tri (fun j => if r < 256 then ef g v (af p m0 z0 ct (fun r => ps (256 + r))) r j
    else ef g' v' (af p m1 z1 ct' (fun r => ps' (256 + r))) (r - 256) j) s hs]
  split <;> rfl
instance pay113 [Mask2 M p] [Is2 vp (fun r _ => ps r)] [Is2 vp' (fun r _ => ps' r)] [Is2 ve (fun r _ => es r)]
    [Is2 vC (fun r s => if r < 256 then cum m0 r s else cum m1 (r - 256) s)] [Is2 vz1 z1] [Is2 vm1 m1]
    [Is2 vl (fun r s => m0 r s + z0 r s)] [Is3 vc (fun _ r _ => ct r)] [Is3 vc' (fun _ r _ => ct' r)]
    [Is2 xg g] [Is2 xv v] [Is2 xg' g'] [Is2 xv' v'] :
    Is2 (k0_pay113 k0_pay56 vp ve vp' M vz1 vm1 vC vl vc xg xv vc' xg' xv')
      (fun r s => (2 : ℝ) ^ (m0 r s + z0 r s) * (es (256 + r) + cum (ef g v (af p m0 z0 ct (fun r => ps (256 + r)))) r s)) := by
  unfold k0_pay113
  refine Is2.congr inferInstance fun r s hr _ => ?_
  simp only [zero_add, if_pos hr]

variable (ve0 vh va : FVec Ideal S256x256 .f32) (e0 a : ℕ → ℕ → ℝ) (vo : Vec Ideal S1x256x128 .f32) (old : ℕ → ℕ → ℕ → ℝ)

instance pay114 [Mask2 M p] [Is2 ve0 e0] [Is2 vh (fun r s => (2 : ℝ) ^ (m0 r s + z0 r s) * (es r + cum e0 r s))] :
    Is2 (k0_pay114 M ve0 vh) (df p m0 z0 e0 es) := by
  unfold k0_pay114; exact Is2.congr inferInstance fun r s _ _ => rfl
instance pay115 [Mask2 M p] [Is2 ve0 e0] [Is2 vh (fun r s => (2 : ℝ) ^ (m0 r s + z0 r s) * (es r + cum e0 r s))]
    [Is3 vo old] [Is2 xq q] : Is3 (k0_pay115 M ve0 vh vo xq)
      (fun _ s d => old 0 s d + ∑ r ∈ Finset.range 256, df p m0 z0 e0 es r s * q r d) := by
  unfold k0_pay115; infer_instance
instance pay116 [Is2 va a] [Is3 vo old] [Is2 xq q] :
    Is3 (k0_pay116 va vo xq) (fun _ s d => old 0 s d + ∑ r ∈ Finset.range 256, a r s * q r d) := by
  unfold k0_pay116; infer_instance
instance pay123 [Is2 va a] [Is3 vo old] [Is2 xq q] :
    Is3 (k0_pay123 va vo xq) (fun _ s d => old 0 s d + ∑ r ∈ Finset.range 256, a r s * q r d) := by
  unfold k0_pay123; infer_instance

variable (vd : FVec Ideal S512x128 .f32) (dq : ℕ → ℕ → ℝ)

instance pay117 [Is2 vd dq] [Mask2 M p] [Is2 ve0 e0] [Is2 vh (fun r s => (2 : ℝ) ^ (m0 r s + z0 r s) * (es r + cum e0 r s))]
    [Is2 xk k] : Is2 (k0_pay117 vd M ve0 vh xk) (fun r d => if r < 256 then dq r d
      else dq r d + ∑ s ∈ Finset.range 256, df p m0 z0 e0 es (r - 256) s * k s d) := by
  unfold k0_pay117
  refine Is2.congr inferInstance fun r d hr _ => ?_
  simp only [zero_add]
  split
  · rfl
  · rw [Nat.add_sub_of_le (by omega)]

instance pay118 [Is2 vl m0] : Is2 (k0_pay118 vl) (fun r s => (2 : ℝ) ^ m0 r s) := by unfold k0_pay118; infer_instance
instance pay119 [Is2 ve (fun r _ => es r)] : Is2 (k0_pay119 ve) (fun r _ => es (256 + r)) := by unfold k0_pay119; infer_instance
instance pay120 (f h : ℕ → ℕ → ℝ) [Is2 vC (fun r s => if r < 256 then f r s else cum h (r - 256) s)] :
    Is2 (k0_pay120 vC) (cum h) := by
  unfold k0_pay120
  refine Is2.congr inferInstance fun r s _ _ => ?_
  simp only [zero_add, if_neg (by omega : ¬ 256 + r < 256), Nat.add_sub_cancel_left]

variable (vw : FVec Ideal S256x1 .f32)

instance pay121 [Mask2 M p] [Is2 ve0 e0] [Is2 vh (fun r s => (2 : ℝ) ^ (m0 r s + z0 r s))] [Is2 vw (fun r _ => es r)] [Is2 va (cum e0)] :
    Is2 (k0_pay121 M ve0 vh vw va) (df p m0 z0 e0 es) := by
  unfold k0_pay121; exact Is2.congr inferInstance fun r s _ _ => rfl
instance pay122 [Mask2 M p] [Is2 ve0 e0] [Is2 vh (fun r s => (2 : ℝ) ^ (m0 r s + z0 r s))] [Is2 vw (fun r _ => es r)] [Is2 va (cum e0)]
    [Is3 vo old] [Is2 xq q] : Is3 (k0_pay122 M ve0 vh vw va vo xq)
      (fun _ s d => old 0 s d + ∑ r ∈ Finset.range 256, df p m0 z0 e0 es r s * q r d) := by
  unfold k0_pay122; infer_instance
instance pay124 [Is2 vd dq] [Mask2 M p] [Is2 ve0 e0] [Is2 vh (fun r s => (2 : ℝ) ^ (m0 r s + z0 r s))] [Is2 vw (fun r _ => es r)]
    [Is2 va (cum e0)] [Is2 xk k] : Is2 (k0_pay124 vd M ve0 vh vw va xk) (fun r d => if r < 256 then dq r d
      else dq r d + ∑ s ∈ Finset.range 256, df p m0 z0 e0 es (r - 256) s * k s d) := by
  unfold k0_pay124
  refine Is2.congr inferInstance fun r d hr _ => ?_
  simp only [zero_add]
  split
  · rfl
  · rw [Nat.add_sub_of_le (by omega)]

end Last

end Cert.Calc
-- ==== Proof.Views.lean ====
module

public import proofs.«01_k».proof.Proof.Diag

/-!
Loads from and stores to buffers that hold real numbers: a load of a rectangle reads the buffer's
function at shifted coordinates, a store of "old contents plus something" adds the something within
its rectangle.
-/

@[expose] public section

noncomputable section

namespace Cert.Calc

open Idealize.ShloMosaic hiding ix1 ix2 ix3 ix4
open Idealize.ShloMosaic.ValueIdx Cert.KernelIdeal Cert.KernelIdeal.Gen
open scoped BigOperators

/-- The two offsets of a rectangle of a matrix. -/
class Off2 (o : Fin 2 → ℕ) (a b : outParam ℕ) : Prop where
  eq : o = ![a, b]
/-- The three offsets of a rectangle of an array of rank three. -/
class Off3 (o : Fin 3 → ℕ) (a b c : outParam ℕ) : Prop where
  eq : o = ![a, b, c]

instance off2_lit (a b : ℕ) : Off2 ![a, b] a b := ⟨rfl⟩
instance off3_lit (a b c : ℕ) : Off3 ![a, b, c] a b c := ⟨rfl⟩

section Loops
variable (i : grid0.Coords) (k : Fin (k0_t1_loop i).trips)
instance off_1 : Off2 (k0_off1 i k) (256 * k.val) 0 := ⟨k0_off1_eq i k⟩
instance off_2 : Off2 (k0_off2 i k) (256 * k.val) 128 := ⟨k0_off2_eq i k⟩
instance off_3 : Off3 (k0_off3 i k) 0 (256 * k.val) 0 := ⟨k0_off3_eq i k⟩
instance off_4 : Off3 (k0_off4 i k) 1 (256 * k.val) 0 := ⟨k0_off4_eq i k⟩
instance off_5 : Off3 (k0_off5 i k) 0 (256 * k.val) 128 := ⟨k0_off5_eq i k⟩
instance off_6 : Off3 (k0_off6 i k) 1 (256 * k.val) 128 := ⟨k0_off6_eq i k⟩
instance off_13_0 : Off2 (k0_off13 i 0#32) (512 * (i 1).val) 0 := ⟨k0_off13_eq i 0⟩
instance off_14_0 : Off2 (k0_off14 i 0#32) (512 * (i 1).val) 128 := ⟨k0_off14_eq i 0⟩
instance off_15_0 : Off3 (k0_off15 i 0#32) 0 (512 * (i 1).val) 0 := ⟨k0_off15_eq i 0⟩
instance off_16_0 : Off3 (k0_off16 i 0#32) 1 (512 * (i 1).val) 0 := ⟨k0_off16_eq i 0⟩
instance off_17_0 : Off3 (k0_off17 i 0#32) 0 (512 * (i 1).val) 128 := ⟨k0_off17_eq i 0⟩
instance off_18_0 : Off3 (k0_off18 i 0#32) 1 (512 * (i 1).val) 128 := ⟨k0_off18_eq i 0⟩
instance off_13_1 : Off2 (k0_off13 i 1#32) (512 * (i 1).val + 256) 0 := ⟨k0_off13_eq i 1⟩
instance off_14_1 : Off2 (k0_off14 i 1#32) (512 * (i 1).val + 256) 128 := ⟨k0_off14_eq i 1⟩
instance off_15_1 : Off3 (k0_off15 i 1#32) 0 (512 * (i 1).val + 256) 0 := ⟨k0_off15_eq i 1⟩
instance off_16_1 : Off3 (k0_off16 i 1#32) 1 (512 * (i 1).val + 256) 0 := ⟨k0_off16_eq i 1⟩
instance off_17_1 : Off3 (k0_off17 i 1#32) 0 (512 * (i 1).val + 256) 128 := ⟨k0_off17_eq i 1⟩
instance off_18_1 : Off3 (k0_off18 i 1#32) 1 (512 * (i 1).val + 256) 128 := ⟨k0_off18_eq i 1⟩
end Loops

variable {sp : Space}

/-- A load of a rectangle of a matrix. -/
instance load2 {a b m n : ℕ} (v : View sig .tc sp (⟨2, ![a, b]⟩ : Shape) .bf16) (X : v.ty.Contents (Elt Ideal)) (o : Fin 2 → ℕ)
    (inb : ∀ x : Fin 2, o x + (![m, n] : Fin 2 → ℕ) x ≤ (![a, b] : Fin 2 → ℕ) x) (f : ℕ → ℕ → ℝ) (p q : ℕ) [ho : Off2 o p q]
    [hv : Is2 (v.read (Elt Ideal) X) f] :
    Is2 (View.readAt (Elt Ideal) v (Rect.unit (s := ⟨2, ![a, b]⟩) o (![m, n] : Fin 2 → ℕ) inb).toLoadRect X) (fun i j => f (p + i) (q + j)) := by
  obtain ⟨rfl⟩ := ho
  refine ⟨fun i j => ?_⟩
  have h0 : p + m ≤ a := inb 0
  have h1 : q + n ≤ b := inb 1
  refine (congrArg (v.read (Elt Ideal) X) ?_).trans (hv.eq ⟨p + i, by have := i.isLt; omega⟩ ⟨q + j, by have := j.isLt; omega⟩)
  funext ax
  match ax with
  | ⟨0, _⟩ => exact Fin.ext (show p + 1 * i.val = p + i.val by omega)
  | ⟨1, _⟩ => exact Fin.ext (show q + 1 * j.val = q + j.val by omega)

/-- A load of a rectangle of an array of rank three. -/
instance load3 {a b c l m n : ℕ} (v : View sig .tc sp (⟨3, ![a, b, c]⟩ : Shape) .f32) (X : v.ty.Contents (Elt Ideal)) (o : Fin 3 → ℕ)
    (inb : ∀ x : Fin 3, o x + (![l, m, n] : Fin 3 → ℕ) x ≤ (![a, b, c] : Fin 3 → ℕ) x) (f : ℕ → ℕ → ℕ → ℝ) (p q r : ℕ) [ho : Off3 o p q r]
    [hv : Is3 (v.read (Elt Ideal) X) f] :
    Is3 (View.readAt (Elt Ideal) v (Rect.unit (s := ⟨3, ![a, b, c]⟩) o (![l, m, n] : Fin 3 → ℕ) inb).toLoadRect X)
      (fun t i j => f (p + t) (q + i) (r + j)) := by
  obtain ⟨rfl⟩ := ho
  refine ⟨fun t i j => ?_⟩
  have h0 : p + l ≤ a := inb 0
  have h1 : q + m ≤ b := inb 1
  have h2 : r + n ≤ c := inb 2
  refine (congrArg (v.read (Elt Ideal) X) ?_).trans (hv.eq ⟨p + t, by have := t.isLt; omega⟩ ⟨q + i, by have := i.isLt; omega⟩
    ⟨r + j, by have := j.isLt; omega⟩)
  funext ax
  match ax with
  | ⟨0, _⟩ => exact Fin.ext (show p + 1 * t.val = p + t.val by omega)
  | ⟨1, _⟩ => exact Fin.ext (show q + 1 * i.val = q + i.val by omega)
  | ⟨2, _⟩ => exact Fin.ext (show r + 1 * j.val = r + j.val by omega)

/-- A load of some rows of one layer of an array of columns. -/
instance load3c {a b m : ℕ} (v : View sig .tc sp (⟨3, ![a, b, 1]⟩ : Shape) .f32) (X : v.ty.Contents (Elt Ideal)) (o : Fin 3 → ℕ)
    (inb : ∀ x : Fin 3, o x + (![1, m, 1] : Fin 3 → ℕ) x ≤ (![a, b, 1] : Fin 3 → ℕ) x) (f : ℕ → ℕ → ℝ) (p q r : ℕ) [Off3 o p q r]
    [hv : Is3 (v.read (Elt Ideal) X) (fun t i _ => f t i)] :
    Is3 (View.readAt (Elt Ideal) v (Rect.unit (s := ⟨3, ![a, b, 1]⟩) o (![1, m, 1] : Fin 3 → ℕ) inb).toLoadRect X)
      (fun _ i _ => f p (q + i)) := by
  refine ⟨fun t i j => ((load3 v X o inb _ p q r).eq t i j).trans ?_⟩
  obtain rfl : t = 0 := Subsingleton.elim _ _
  rfl

/-- Adding `g` within the rectangle at `(p, q, r)` of one layer, `m` rows and `n` columns. -/
def upd (old : ℕ → ℕ → ℕ → ℝ) (p q r m n : ℕ) (g : ℕ → ℕ → ℝ) (t i j : ℕ) : ℝ :=
  if t = p ∧ (q ≤ i ∧ i < q + m) ∧ r ≤ j ∧ j < r + n then old t i j + g (i - q) (j - r) else old t i j

/-- A store of the old contents plus something. -/
theorem store3 {a b c m n : ℕ} (v : View sig .tc sp (⟨3, ![a, b, c]⟩ : Shape) .f32) (X : v.ty.Contents (Elt Ideal)) (o : Fin 3 → ℕ)
    (inb : ∀ x : Fin 3, o x + (![1, m, n] : Fin 3 → ℕ) x ≤ (![a, b, c] : Fin 3 → ℕ) x) (L : List (View.Piece (Elt Ideal) (⟨3, ![a, b, c]⟩ : Shape) .f32))
    (w : (⟨3, ![1, m, n]⟩ : Shape).Idx → EReal) (old : ℕ → ℕ → ℕ → ℝ) (p q r : ℕ) (g : ℕ → ℕ → ℝ) [ho : Off3 o p q r]
    (hv : Is3 (v.read (Elt Ideal) (v.writes (Elt Ideal) X L)) old)
    (hw : Is3 w (fun _ i j => old (p + 0) (q + i) (r + j) + g i j)) :
    Is3 (v.read (Elt Ideal) (v.writes (Elt Ideal) X (⟨Rect.unit (s := ⟨3, ![a, b, c]⟩) o (![1, m, n] : Fin 3 → ℕ) inb, w⟩ :: L)))
      (upd old p q r m n g) := by
  obtain ⟨rfl⟩ := ho
  refine ⟨fun t i j => ?_⟩
  unfold upd
  split <;> rename_i h
  · obtain ⟨ht, ⟨hi, hi'⟩, hj, hj'⟩ := h
    refine (View.read_writes_cons_unit_of_mem (s := ⟨3, ![a, b, c]⟩) v X inb w L (ix3 t i j) (ix3 (0 : Fin 1) (⟨i.val - q, by omega⟩ : Fin m) (⟨j.val - r, by omega⟩ : Fin n)) rfl ?_).trans ?_
    · intro ax
      match ax with
      | ⟨0, _⟩ => exact ht
      | ⟨1, _⟩ => exact (show i.val = q + (i.val - q) by omega)
      | ⟨2, _⟩ => exact (show j.val = r + (j.val - r) by omega)
    · rw [hw.eq]
      show ((old (p + 0) (q + (i.val - q)) (r + (j.val - r)) + g (i.val - q) (j.val - r) : ℝ) : EReal) = _
      rw [add_zero, Nat.add_sub_cancel' hi, Nat.add_sub_cancel' hj, ht]
  · rw [← hv.eq]
    by_cases ht : t.val = p
    · by_cases hi : q ≤ i.val ∧ i.val < q + m
      · refine View.read_writes_cons_unit_of_not_mem (s := ⟨3, ![a, b, c]⟩) v X inb w L (ix3 t i j) rfl 2 ?_
        show j.val < r ∨ r + n ≤ j.val
        by_contra hh
        exact h ⟨ht, hi, by omega, by omega⟩
      · refine View.read_writes_cons_unit_of_not_mem (s := ⟨3, ![a, b, c]⟩) v X inb w L (ix3 t i j) rfl 1 ?_
        show i.val < q ∨ q + m ≤ i.val
        omega
    · refine View.read_writes_cons_unit_of_not_mem (s := ⟨3, ![a, b, c]⟩) v X inb w L (ix3 t i j) rfl 0 ?_
      show t.val < p ∨ p + 1 ≤ t.val
      omega

/-- Four stores of a block of rows, both halves of the columns of two layers, each of the first contents plus something. -/
theorem stores4 {b n : ℕ} (v : View sig .tc sp (⟨3, ![2, b, 256]⟩ : Shape) .f32) (X : v.ty.Contents (Elt Ideal)) (o1 o2 o3 o4 : Fin 3 → ℕ)
    (inb1 : ∀ x : Fin 3, o1 x + (![1, n, 128] : Fin 3 → ℕ) x ≤ (![2, b, 256] : Fin 3 → ℕ) x)
    (inb2 : ∀ x : Fin 3, o2 x + (![1, n, 128] : Fin 3 → ℕ) x ≤ (![2, b, 256] : Fin 3 → ℕ) x)
    (inb3 : ∀ x : Fin 3, o3 x + (![1, n, 128] : Fin 3 → ℕ) x ≤ (![2, b, 256] : Fin 3 → ℕ) x)
    (inb4 : ∀ x : Fin 3, o4 x + (![1, n, 128] : Fin 3 → ℕ) x ≤ (![2, b, 256] : Fin 3 → ℕ) x)
    (L : List (View.Piece (Elt Ideal) (⟨3, ![2, b, 256]⟩ : Shape) .f32))
    (w1 w2 w3 w4 : (⟨3, ![1, n, 128]⟩ : Shape).Idx → EReal) (f : ℕ → ℕ → ℕ → ℝ) (q : ℕ) (g1 g2 g3 g4 : ℕ → ℕ → ℝ)
    [Off3 o1 0 q 0] [Off3 o2 1 q 0] [Off3 o3 0 q 128] [Off3 o4 1 q 128]
    (hL : Is3 (v.read (Elt Ideal) (v.writes (Elt Ideal) X L)) f)
    (h1 : Is3 w1 (fun _ i j => f (0 + 0) (q + i) (0 + j) + g1 i j)) (h2 : Is3 w2 (fun _ i j => f (1 + 0) (q + i) (0 + j) + g2 i j))
    (h3 : Is3 w3 (fun _ i j => f (0 + 0) (q + i) (128 + j) + g3 i j)) (h4 : Is3 w4 (fun _ i j => f (1 + 0) (q + i) (128 + j) + g4 i j)) :
    Is3 (v.read (Elt Ideal) (v.writes (Elt Ideal) X (⟨Rect.unit (s := ⟨3, ![2, b, 256]⟩) o4 (![1, n, 128] : Fin 3 → ℕ) inb4, w4⟩ ::
      ⟨Rect.unit (s := ⟨3, ![2, b, 256]⟩) o3 (![1, n, 128] : Fin 3 → ℕ) inb3, w3⟩ ::
      ⟨Rect.unit (s := ⟨3, ![2, b, 256]⟩) o2 (![1, n, 128] : Fin 3 → ℕ) inb2, w2⟩ ::
      ⟨Rect.unit (s := ⟨3, ![2, b, 256]⟩) o1 (![1, n, 128] : Fin 3 → ℕ) inb1, w1⟩ :: L)))
      (upd (upd (upd (upd f 0 q 0 n 128 g1) 1 q 0 n 128 g2) 0 q 128 n 128 g3) 1 q 128 n 128 g4) := by
  have s1 := store3 v X o1 inb1 L w1 f 0 q 0 g1 hL h1
  have s2 := store3 v X o2 inb2 _ w2 _ 1 q 0 g2 s1 (Is3.congr h2 fun t i j _ _ hj => by simp [upd])
  have s3 := store3 v X o3 inb3 _ w3 _ 0 q 128 g3 s2 (Is3.congr h3 fun t i j _ _ hj => by simp [upd])
  exact store3 v X o4 inb4 _ w4 _ 1 q 128 g4 s3 (Is3.congr h4 fun t i j _ _ hj => by simp [upd])

end Cert.Calc
-- ==== Proof.Step.lean ====
module

public import proofs.«01_k».proof.Proof.Views

/-!
One step of the backward pass (512 rows of one pair of heads against all keys), as real functions of
the row within the step and the key: the logits, the weights, their cotangents, the cotangents of the
logits, and the fact that a block's functions are these at the block's place.
-/

@[expose] public section

noncomputable section

namespace Cert.Calc

open scoped BigOperators

/-- The keys before row `R + r`. -/
def pc (R r s : ℕ) : Bool := decide (s < R + r)

/-- The logarithms of one minus the weights. -/
def mS (R : ℕ) (q k : ℕ → ℕ → ℝ) : ℕ → ℕ → ℝ := mf (pc R) (zf q k)
/-- The attention's weights. -/
def aS (R : ℕ) (q k : ℕ → ℕ → ℝ) (ct : ℕ → ℝ) : ℕ → ℕ → ℝ := af (pc R) (mS R q k) (zf q k) ct (fun _ => 0)
/-- The weights times their cotangents. -/
def eS (R : ℕ) (q k g v : ℕ → ℕ → ℝ) (ct : ℕ → ℝ) : ℕ → ℕ → ℝ := ef g v (aS R q k ct)
/-- The cotangents of the products of rows and keys. -/
def dS (R : ℕ) (q k g v : ℕ → ℕ → ℝ) (ct : ℕ → ℝ) : ℕ → ℕ → ℝ :=
  df (pc R) (mS R q k) (zf q k) (eS R q k g v ct) (fun _ => 0)

/-! ### A block at its place -/

theorem sum_split (F : ℕ → ℝ) (b n : ℕ) :
    ∑ j ∈ Finset.range b, F j + ∑ j ∈ Finset.range n, F (b + j) = ∑ j ∈ Finset.range (b + n), F j :=
  (Finset.sum_range_add F b n).symm

section Block

variable {p : ℕ → ℕ → Bool} {R n o b : ℕ} (hp : ∀ r s, r < n → s < 256 → p r s = pc R (o + r) (b + s))
variable {ql kl gl vl q k g v : ℕ → ℕ → ℝ} (hq : ∀ r d, ql r d = q (o + r) d) (hk : ∀ s d, kl s d = k (b + s) d)
variable (hg : ∀ r d, gl r d = g (o + r) d) (hv : ∀ s d, vl s d = v (b + s) d)

include hq hk in
theorem zf_blk (r s : ℕ) : zf ql kl r s = zf q k (o + r) (b + s) := by
  unfold zf dotf
  exact congrArg (· * cz) (Finset.sum_congr rfl fun d _ => by rw [hq, hk])

include hp hq hk in
theorem mf_blk (r s : ℕ) (hr : r < n) (hs : s < 256) : mf p (zf ql kl) r s = mS R q k (o + r) (b + s) := by
  unfold mS mf
  rw [hp r s hr hs, zf_blk hq hk]

theorem cum_blk {f F : ℕ → ℕ → ℝ} (r s : ℕ) (h : ∀ s, s < 256 → f r s = F (o + r) (b + s)) (hs : s < 256) :
    ∑ j ∈ Finset.range b, F (o + r) j + cum f r s = cum F (o + r) (b + s) := by
  unfold cum
  rw [Finset.sum_congr rfl fun j hj => h j (lt_of_lt_of_le (Finset.mem_range.mp hj) hs)]
  exact sum_split (F (o + r)) b (s + 1)

variable {ctl psl esl ct : ℕ → ℝ} (hct : ∀ r, ctl r = ct (o + r))
variable (hps : ∀ r, psl r = ∑ j ∈ Finset.range b, mS R q k (o + r) j)
variable (hes : ∀ r, esl r = ∑ j ∈ Finset.range b, eS R q k g v ct (o + r) j)

include hp hq hk hct hps in
theorem af_blk (r s : ℕ) (hr : r < n) (hs : s < 256) :
    af p (mf p (zf ql kl)) (zf ql kl) ctl psl r s = aS R q k ct (o + r) (b + s) := by
  unfold aS af
  rw [hp r s hr hs, mf_blk hp hq hk r s hr hs, zf_blk hq hk, hct, hps,
    ← cum_blk (o := o) (b := b) (F := mS R q k) r s (fun s hs => mf_blk hp hq hk r s hr hs) hs]
  simp only [sub_zero, sub_sub]

include hp hq hk hg hv hct hps in
theorem ef_blk (r s : ℕ) (hr : r < n) (hs : s < 256) :
    ef gl vl (af p (mf p (zf ql kl)) (zf ql kl) ctl psl) r s = eS R q k g v ct (o + r) (b + s) := by
  unfold eS ef
  rw [af_blk hp hq hk hct hps r s hr hs]
  refine congrArg (· * _) ?_
  unfold dotf
  exact Finset.sum_congr rfl fun d _ => by rw [hg, hv]

include hp hq hk hg hv hct hps hes in
theorem df_blk (r s : ℕ) (hr : r < n) (hs : s < 256) :
    df p (mf p (zf ql kl)) (zf ql kl) (ef gl vl (af p (mf p (zf ql kl)) (zf ql kl) ctl psl)) esl r s
      = dS R q k g v ct (o + r) (b + s) := by
  unfold dS df
  rw [hp r s hr hs, mf_blk hp hq hk r s hr hs, zf_blk hq hk, hes, ef_blk hp hq hk hg hv hct hps r s hr hs,
    ← cum_blk (o := o) (b := b) (F := eS R q k g v ct) r s (fun s hs => ef_blk hp hq hk hg hv hct hps r s hr hs) hs]
  simp only [zero_add]

end Block

theorem aS_zero {R r s : ℕ} (h : R + r ≤ s) (q k : ℕ → ℕ → ℝ) (ct : ℕ → ℝ) : aS R q k ct r s = 0 := by
  unfold aS af pc
  rw [if_neg]
  simpa using h

theorem mS_zero {R r s : ℕ} (h : R + r ≤ s) (q k : ℕ → ℕ → ℝ) : mS R q k r s = 0 := by
  unfold mS mf pc
  rw [if_neg]
  simpa using h

theorem dS_zero {R r s : ℕ} (h : R + r ≤ s) (q k g v : ℕ → ℕ → ℝ) (ct : ℕ → ℝ) : dS R q k g v ct r s = 0 := by
  unfold dS df pc
  rw [if_neg, zero_mul]
  simpa using h

/-! ### A pair of heads side by side -/

/-- The columns of head `h` of a pair. -/
def col (X : ℕ → ℕ → ℝ) (h r d : ℕ) : ℝ := X r (128 * h + d)

/-- What one step works on. -/
structure Data where
  /-- The first row of the step. -/
  R : ℕ
  /-- The step's rows of the queries. -/
  Q : ℕ → ℕ → ℝ
  /-- The keys. -/
  K : ℕ → ℕ → ℝ
  /-- The values. -/
  V : ℕ → ℕ → ℝ
  /-- The step's rows of the output's cotangents. -/
  G : ℕ → ℕ → ℝ
  /-- The step's rows of the total logarithms, by head. -/
  T : ℕ → ℕ → ℝ

namespace Data
variable (D : Data)

/-- The logarithms of head `h`. -/
def m (h : ℕ) : ℕ → ℕ → ℝ := mS D.R (col D.Q h) (col D.K h)
/-- The weights of head `h`. -/
def a (h : ℕ) : ℕ → ℕ → ℝ := aS D.R (col D.Q h) (col D.K h) (D.T h)
/-- The weights times their cotangents, of head `h`. -/
def e (h : ℕ) : ℕ → ℕ → ℝ := eS D.R (col D.Q h) (col D.K h) (col D.G h) (col D.V h) (D.T h)
/-- The cotangents of the products, of head `h`. -/
def d (h : ℕ) : ℕ → ℕ → ℝ := dS D.R (col D.Q h) (col D.K h) (col D.G h) (col D.V h) (D.T h)

/-- What the step adds to the cotangents of the keys (`t = 0`) and of the values (`t = 1`). -/
def C (t s c : ℕ) : ℝ :=
  if t = 0 then ∑ r ∈ Finset.range 512, D.d (c / 128) r s * D.Q r c else ∑ r ∈ Finset.range 512, D.a (c / 128) r s * D.G r c

/-- The accumulators after the keys before `b`. -/
def acc (old : ℕ → ℕ → ℕ → ℝ) (b t s c : ℕ) : ℝ := old t s c + if s < b then D.C t s c else 0

/-- The cotangents of the queries after the keys before `b`. -/
def dq (b h r x : ℕ) : ℝ := ∑ s ∈ Finset.range b, D.d h r s * col D.K h s x

theorem C_zero {s : ℕ} (h : D.R + 512 ≤ s) (t c : ℕ) : D.C t s c = 0 := by
  unfold C d a
  split
  · exact Finset.sum_eq_zero fun r hr => by
      rw [dS_zero (by have := Finset.mem_range.mp hr; omega), zero_mul]
  · exact Finset.sum_eq_zero fun r hr => by
      rw [aS_zero (by have := Finset.mem_range.mp hr; omega), zero_mul]

/-- The keys of a block, added in four parts. -/
theorem acc_step (old : ℕ → ℕ → ℕ → ℝ) (b : ℕ) (g1 g2 g3 g4 : ℕ → ℕ → ℝ)
    (h1 : ∀ s x, s < 256 → x < 128 → g1 s x = D.C 0 (b + s) x)
    (h2 : ∀ s x, s < 256 → x < 128 → g2 s x = D.C 1 (b + s) x)
    (h3 : ∀ s x, s < 256 → x < 128 → g3 s x = D.C 0 (b + s) (128 + x))
    (h4 : ∀ s x, s < 256 → x < 128 → g4 s x = D.C 1 (b + s) (128 + x))
    (t s c : ℕ) (ht : t < 2) (hc : c < 256) :
    upd (upd (upd (upd (D.acc old b) 0 b 0 256 128 g1) 1 b 0 256 128 g2) 0 b 128 256 128 g3) 1 b 128 256 128 g4 t s c
      = D.acc old (b + 256) t s c := by
  unfold upd acc
  by_cases hs : b ≤ s ∧ s < b + 256
  · have e1 : b + (s - b) = s := by omega
    have hs1 : s - b < 256 := by omega
    have hs2 : ¬ s < b := by omega
    by_cases hc1 : c < 128
    · have hc2 : ¬ 128 ≤ c := by omega
      obtain rfl | rfl : t = 0 ∨ t = 1 := by omega
      · simp [hs, hc1, hc2, hs2, h1 _ _ hs1 hc1, e1]
      · simp [hs, hc1, hc2, hs2, h2 _ _ hs1 hc1, e1]
    · have hc2 : 128 ≤ c := by omega
      have hc3 : c < 128 + 128 := by omega
      have hc4 : c - 128 < 128 := by omega
      have e2 : 128 + (c - 128) = c := by omega
      obtain rfl | rfl : t = 0 ∨ t = 1 := by omega
      · simp [hs, hc1, hc2, hs2, h3 _ _ hs1 hc4, e1, e2, hc]
      · simp [hs, hc1, hc2, hs2, h4 _ _ hs1 hc4, e1, e2, hc]
  · have hh : (s < b + 256) = (s < b) := by
      apply propext; omega
    simp only [hs, false_and, and_false, if_false]
    simp only [hh]

/-! ### Blocks of a head of a pair -/

theorem sum_blk {f F : ℕ → ℝ} {b : ℕ} (h : ∀ s, s < 256 → f s = F (b + s)) :
    ∑ s ∈ Finset.range b, F s + ∑ s ∈ Finset.range 256, f s = ∑ s ∈ Finset.range (b + 256), F s := by
  rw [Finset.sum_congr rfl fun s hs => h s (Finset.mem_range.mp hs)]
  exact sum_split F b 256

section DBlock

variable {D} {p : ℕ → ℕ → Bool} {n o b c h : ℕ} (hp : ∀ r s, r < n → s < 256 → p r s = pc D.R (o + r) (b + s)) (hc : c = 128 * h)
variable {ctl psl esl : ℕ → ℝ} (hct : ∀ r, ctl r = D.T h (o + r))
variable (hps : ∀ r, psl r = ∑ j ∈ Finset.range b, D.m h (o + r) j)
variable (hes : ∀ r, esl r = ∑ j ∈ Finset.range b, D.e h (o + r) j)

include hp hc in
theorem m_blk (r s : ℕ) (hr : r < n) (hs : s < 256) :
    mf p (zf (fun i j => D.Q (o + i) (c + j)) (fun i j => D.K (b + i) (c + j))) r s = D.m h (o + r) (b + s) := by
  subst hc
  exact mf_blk (q := col D.Q h) (k := col D.K h) hp (fun _ _ => rfl) (fun _ _ => rfl) r s hr hs

include hp hc hct hps in
theorem a_blk (r s : ℕ) (hr : r < n) (hs : s < 256) :
    af p (mf p (zf (fun i j => D.Q (o + i) (c + j)) (fun i j => D.K (b + i) (c + j))))
      (zf (fun i j => D.Q (o + i) (c + j)) (fun i j => D.K (b + i) (c + j))) ctl psl r s = D.a h (o + r) (b + s) := by
  subst hc
  exact af_blk hp (fun _ _ => rfl) (fun _ _ => rfl) hct hps r s hr hs

include hp hc hct hps in
theorem e_blk (r s : ℕ) (hr : r < n) (hs : s < 256) :
    ef (fun i j => D.G (o + i) (c + j)) (fun i j => D.V (b + i) (c + j))
      (af p (mf p (zf (fun i j => D.Q (o + i) (c + j)) (fun i j => D.K (b + i) (c + j))))
        (zf (fun i j => D.Q (o + i) (c + j)) (fun i j => D.K (b + i) (c + j))) ctl psl) r s = D.e h (o + r) (b + s) := by
  subst hc
  exact ef_blk (g := col D.G h) (v := col D.V h) hp (fun _ _ => rfl) (fun _ _ => rfl) (fun _ _ => rfl) (fun _ _ => rfl) hct hps r s hr hs

include hp hc hct hps hes in
theorem d_blk (r s : ℕ) (hr : r < n) (hs : s < 256) :
    df p (mf p (zf (fun i j => D.Q (o + i) (c + j)) (fun i j => D.K (b + i) (c + j))))
      (zf (fun i j => D.Q (o + i) (c + j)) (fun i j => D.K (b + i) (c + j)))
      (ef (fun i j => D.G (o + i) (c + j)) (fun i j => D.V (b + i) (c + j))
        (af p (mf p (zf (fun i j => D.Q (o + i) (c + j)) (fun i j => D.K (b + i) (c + j))))
          (zf (fun i j => D.Q (o + i) (c + j)) (fun i j => D.K (b + i) (c + j))) ctl psl)) esl r s = D.d h (o + r) (b + s) := by
  subst hc
  exact df_blk (g := col D.G h) (v := col D.V h) hp (fun _ _ => rfl) (fun _ _ => rfl) (fun _ _ => rfl) (fun _ _ => rfl) hct hps hes r s hr hs

end DBlock

/-- The step's contribution to the keys' cotangents, from all of the step's rows. -/
theorem C0_of {f : ℕ → ℝ} {h s c : ℕ} (hc : c / 128 = h) (hf : ∀ r, r < 512 → f r = D.d h r s * D.Q r c) :
    ∑ r ∈ Finset.range 512, f r = D.C 0 s c := by
  subst hc
  exact Finset.sum_congr rfl fun r hr => hf r (Finset.mem_range.mp hr)
/-- The step's contribution to the values' cotangents, from all of the step's rows. -/
theorem C1_of {f : ℕ → ℝ} {h s c : ℕ} (hc : c / 128 = h) (hf : ∀ r, r < 512 → f r = D.a h r s * D.G r c) :
    ∑ r ∈ Finset.range 512, f r = D.C 1 s c := by
  subst hc
  exact Finset.sum_congr rfl fun r hr => hf r (Finset.mem_range.mp hr)
/-- The step's contribution to the keys' cotangents, at keys that only the second half of the rows sees. -/
theorem C0_of' {f : ℕ → ℝ} {h s c : ℕ} (hc : c / 128 = h) (hs : D.R + 256 ≤ s)
    (hf : ∀ r, r < 256 → f r = D.d h (256 + r) s * D.Q (256 + r) c) :
    ∑ r ∈ Finset.range 256, f r = D.C 0 s c := by
  subst hc
  refine (Finset.sum_congr rfl fun r hr => hf r (Finset.mem_range.mp hr)).trans (Eq.trans ?_ (sum_split (fun r => D.d (c / 128) r s * D.Q r c) 256 256))
  rw [right_eq_add]
  exact Finset.sum_eq_zero fun r hr => by
    have := Finset.mem_range.mp hr
    unfold d
    rw [dS_zero (by omega), zero_mul]
/-- The step's contribution to the values' cotangents, at keys that only the second half of the rows sees. -/
theorem C1_of' {f : ℕ → ℝ} {h s c : ℕ} (hc : c / 128 = h) (hs : D.R + 256 ≤ s)
    (hf : ∀ r, r < 256 → f r = D.a h (256 + r) s * D.G (256 + r) c) :
    ∑ r ∈ Finset.range 256, f r = D.C 1 s c := by
  subst hc
  refine (Finset.sum_congr rfl fun r hr => hf r (Finset.mem_range.mp hr)).trans (Eq.trans ?_ (sum_split (fun r => D.a (c / 128) r s * D.G r c) 256 256))
  rw [right_eq_add]
  exact Finset.sum_eq_zero fun r hr => by
    have := Finset.mem_range.mp hr
    unfold a
    rw [aS_zero (by omega), zero_mul]

end Data

end Cert.Calc
-- ==== Proof.Spec.lean ====
module

public import proofs.«01_k».proof.Proof.Step

/-!
The attention's weights and the cotangents of its products, once with the natural exponential and
logarithm (softplus, sums of what follows a place) and once to the base two (sums of what precedes a
place, taken from the row's total), and the equality of the two.
-/

@[expose] public section

noncomputable section

namespace Cert.Calc

open scoped BigOperators

/-- The softplus. -/
def sp (x : ℝ) : ℝ := max x 0 + Real.log (1 + Real.exp (-|x|))

/-- The scaled products of rows and keys. -/
def nz (q k : ℕ → ℕ → ℝ) (r s : ℕ) : ℝ := dotf q k r s * cs
/-- The natural logarithms of one minus the weights. -/
def nm (q k : ℕ → ℕ → ℝ) (r s : ℕ) : ℝ := if decide (s < r) then -sp (nz q k r s) else 0
/-- The weights, before the mask. -/
def nw (q k : ℕ → ℕ → ℝ) (r s : ℕ) : ℝ :=
  Real.exp (-sp (-nz q k r s) + ((∑ j ∈ Finset.range 2048, if s ≤ j then nm q k r j else 0) - nm q k r s))
/-- The weights. -/
def na (q k : ℕ → ℕ → ℝ) (r s : ℕ) : ℝ := if decide (s < r) then nw q k r s else 0
/-- The weights times their cotangents. -/
def ne (q k g v : ℕ → ℕ → ℝ) (r s : ℕ) : ℝ := (if decide (s < r) then dotf g v r s else 0) * nw q k r s
/-- The cotangents of the products. -/
def nd (q k g v : ℕ → ℕ → ℝ) (r s : ℕ) : ℝ :=
  (-(-ne q k g v r s * Real.exp (-nz q k r s - sp (-nz q k r s)))
    + -(-(-(if decide (s < r) then -ne q k g v r s + ∑ j ∈ Finset.range (s + 1), ne q k g v r j else 0)
        * Real.exp (nz q k r s - sp (nz q k r s))))) * cs
/-- The row totals of the logarithms, to the base two. -/
def ct (q k : ℕ → ℕ → ℝ) (r : ℕ) : ℝ := (∑ j ∈ Finset.range 2048, nm q k r j) * (Real.log 2)⁻¹

theorem log_two_pos : 0 < Real.log 2 := Real.log_pos (by norm_num)
theorem cl_pos : 0 < cl := inv_pos.mpr log_two_pos

/-- A power of two whose exponent was turned to the base two is the exponential. -/
theorem two_pow (y : ℝ) : (2 : ℝ) ^ (y * cl) = Real.exp y := by
  rw [Real.rpow_def_of_pos (by norm_num), mul_comm y, ← mul_assoc, cl, mul_inv_cancel₀ log_two_pos.ne', one_mul]

theorem one_add_exp_pos (x : ℝ) : 0 < 1 + Real.exp x := by have := Real.exp_pos x; linarith

theorem exp_sp (x : ℝ) : Real.exp (sp x) = 1 + Real.exp x := by
  unfold sp
  rw [Real.exp_add, Real.exp_log (one_add_exp_pos _)]
  rcases le_total 0 x with h | h
  · rw [max_eq_left h, abs_of_nonneg h, mul_add, mul_one, ← Real.exp_add, add_neg_cancel, Real.exp_zero, add_comm]
  · rw [max_eq_right h, abs_of_nonpos h, neg_neg, Real.exp_zero, one_mul]

theorem sp_neg (x : ℝ) : sp (-x) = sp x - x := by
  unfold sp
  rw [abs_neg]
  rcases le_total 0 x with h | h
  · rw [max_eq_left h, max_eq_right (by linarith)]; ring
  · rw [max_eq_right h, max_eq_left (by linarith)]; ring

theorem mz_eq (x : ℝ) : mz (x * cl) = -sp x * cl := by
  unfold mz sp
  rw [abs_mul, abs_of_pos cl_pos, zero_sub, zero_sub, ← neg_mul |x| cl, two_pow]
  have : max (x * cl) 0 = max x 0 * cl := by
    rcases le_total 0 x with h | h
    · rw [max_eq_left h, max_eq_left (mul_nonneg h cl_pos.le)]
    · rw [max_eq_right h, max_eq_right (mul_nonpos_of_nonpos_of_nonneg h cl_pos.le), zero_mul]
  rw [this]
  ring

theorem zf_eq (q k : ℕ → ℕ → ℝ) (r s : ℕ) : zf q k r s = nz q k r s * cl := by
  unfold zf nz cz cs cl
  ring

/-- The two gates of a product sum to one. -/
theorem gates (x : ℝ) : Real.exp (-x - sp (-x)) + Real.exp (x - sp x) = 1 := by
  have e : -x - sp (-x) = -sp x := by rw [sp_neg]; ring
  have h := one_add_exp_pos x
  rw [e, Real.exp_sub, Real.exp_neg, exp_sp]
  field_simp

theorem pc_zero (r s : ℕ) : pc 0 r s = decide (s < r) := by
  unfold pc
  rw [Nat.zero_add]

theorem mS_eq (q k : ℕ → ℕ → ℝ) (r s : ℕ) : mS 0 q k r s = nm q k r s * cl := by
  unfold mS mf nm
  rw [pc_zero, zf_eq, mz_eq]
  split
  · rfl
  · rw [zero_mul]

/-- What follows a place is what is left of the total. -/
theorem suffix_eq (f : ℕ → ℝ) (n s : ℕ) (hs : s < n) :
    (∑ j ∈ Finset.range n, if s ≤ j then f j else 0) - f s = ∑ j ∈ Finset.range n, f j - ∑ j ∈ Finset.range (s + 1), f j := by
  have h1 : (∑ j ∈ Finset.range n, if s ≤ j then f j else 0) + ∑ j ∈ Finset.range s, f j = ∑ j ∈ Finset.range n, f j := by
    have h2 : ∑ j ∈ Finset.range s, f j = ∑ j ∈ Finset.range n, if s ≤ j then 0 else f j := by
      rw [← Finset.sum_subset (Finset.range_mono hs.le) (fun j _ hj => by rw [if_pos]; simpa using hj)]
      exact Finset.sum_congr rfl fun j hj => by rw [if_neg]; have := Finset.mem_range.mp hj; omega
    rw [h2, ← Finset.sum_add_distrib]
    exact Finset.sum_congr rfl fun j _ => by split <;> ring
  rw [Finset.sum_range_succ, ← h1]
  ring

theorem aS_eq (q k : ℕ → ℕ → ℝ) (r s : ℕ) (hs : s < 2048) : aS 0 q k (ct q k) r s = na q k r s := by
  unfold aS af na
  rw [pc_zero]
  by_cases h : s < r
  · rw [if_pos (by simpa using h), if_pos (by simpa using h)]
    unfold nw cum
    rw [suffix_eq (nm q k r) 2048 s hs, ← two_pow, zf_eq, Finset.sum_congr rfl fun j _ => mS_eq q k r j, mS_eq, ← Finset.sum_mul,
      sp_neg]
    have hm : nm q k r s = -sp (nz q k r s) := by unfold nm; rw [if_pos (by simpa using h)]
    rw [hm]
    refine congrArg _ ?_
    unfold ct
    rw [show (Real.log 2)⁻¹ = cl from rfl]
    ring
  · rw [if_neg (by simpa using h), if_neg (by simpa using h)]

theorem eS_eq (q k g v : ℕ → ℕ → ℝ) (r s : ℕ) (hs : s < 2048) : eS 0 q k g v (ct q k) r s = ne q k g v r s := by
  unfold eS ef ne
  rw [aS_eq q k r s hs]
  unfold na
  split
  · rfl
  · rw [mul_zero, zero_mul]

theorem dS_eq (q k g v : ℕ → ℕ → ℝ) (r s : ℕ) (hs : s < 2048) : dS 0 q k g v (ct q k) r s = nd q k g v r s := by
  unfold dS df nd
  rw [pc_zero]
  refine congrArg (· * cs) ?_
  by_cases h : s < r
  · rw [if_pos (by simpa using h), if_pos (by simpa using h), eS_eq q k g v r s hs, mS_eq, zf_eq, ← add_mul, two_pow]
    unfold cum
    rw [Finset.sum_congr rfl fun j hj => eS_eq q k g v r j (by have := Finset.mem_range.mp hj; omega)]
    have hm : nm q k r s = -sp (nz q k r s) := by unfold nm; rw [if_pos (by simpa using h)]
    rw [hm, show -sp (nz q k r s) + nz q k r s = nz q k r s - sp (nz q k r s) by ring]
    have hg := gates (nz q k r s)
    have e1 : Real.exp (-nz q k r s - sp (-nz q k r s)) = 1 - Real.exp (nz q k r s - sp (nz q k r s)) := by linarith
    rw [e1]
    ring
  · have h0 : ne q k g v r s = 0 := by unfold ne; rw [if_neg (by simpa using h), zero_mul]
    rw [if_neg (by simpa using h), if_neg (by simpa using h), h0]
    simp

end Cert.Calc
-- ==== Proof.Ref.lean ====
module

public import proofs.«01_k».proof.Proof.HostCalc
public import proofs.«01_k».proof.Proof.Spec

/-!
The reference's results as real functions of its arguments' real functions.
-/

@[expose] public section

noncomputable section

namespace Cert.Calc

open Idealize.ShloMosaic hiding ix1 ix2 ix3 ix4
open Idealize.ShloMosaic.ValueIdx
open Cert.ReferenceIdeal Cert.ReferenceIdeal.Gen Cert.ReferenceIdeal.Value
open scoped BigOperators

local notation "𝔽" => Idealize.ShloMosaic.Ideal

/-- Three arrays side by side. -/
theorem concat3 (u v w : (⟨2, ![2048, 1024]⟩ : Shape).Idx → EReal) (f g k : ℕ → ℕ → ℝ)
    (h : Shape.Concatenates [⟨2, ![2048, 1024]⟩, ⟨2, ![2048, 1024]⟩, ⟨2, ![2048, 1024]⟩] (⟨2, ![2048, 3072]⟩ : Shape) 1)
    [hu : Is2 u f] [hv : Is2 v g] [hw : Is2 w k] :
    Is2 (concatenate (⟨2, ![2048, 3072]⟩ : Shape) 1
        [⟨⟨2, ![2048, 1024]⟩, u⟩, ⟨⟨2, ![2048, 1024]⟩, v⟩, ⟨⟨2, ![2048, 1024]⟩, w⟩] h)
      (fun i j => if j < 1024 then f i j else if j < 2048 then g i (j - 1024) else k i (j - 2048)) :=
  ⟨fun i j => by
    have hj := j.isLt
    by_cases h1 : j.val < 1024
    · rw [if_pos h1]
      refine (concatenate_apply_piece (t := ⟨2, ![2048, 3072]⟩) 1 [⟨⟨2, ![2048, 1024]⟩, u⟩, ⟨⟨2, ![2048, 1024]⟩, v⟩, ⟨⟨2, ![2048, 1024]⟩, w⟩] h (ix2 i j) 0 (show 0 < 3 by decide) ⟨2, ![2048, 1024]⟩ u rfl rfl 0 rfl (ix2 i (⟨j, h1⟩ : Fin 1024)) (fun b hb => ?_) ?_).trans
        (hu.eq i ⟨j, h1⟩)
      · match b with
        | ⟨0, _⟩ => rfl
        | ⟨1, _⟩ => exact absurd rfl hb
      · show 0 + j.val = j.val; omega
    · rw [if_neg h1]
      by_cases h2 : j.val < 2048
      · rw [if_pos h2]
        refine (concatenate_apply_piece (t := ⟨2, ![2048, 3072]⟩) 1 [⟨⟨2, ![2048, 1024]⟩, u⟩, ⟨⟨2, ![2048, 1024]⟩, v⟩, ⟨⟨2, ![2048, 1024]⟩, w⟩] h (ix2 i j) 1 (show 1 < 3 by decide) ⟨2, ![2048, 1024]⟩ v rfl rfl 1024 rfl (ix2 i (⟨j - 1024, by omega⟩ : Fin 1024)) (fun b hb => ?_) ?_).trans
          (hv.eq i ⟨j - 1024, by omega⟩)
        · match b with
          | ⟨0, _⟩ => rfl
          | ⟨1, _⟩ => exact absurd rfl hb
        · show 1024 + (j.val - 1024) = j.val; omega
      · rw [if_neg h2]
        refine (concatenate_apply_piece (t := ⟨2, ![2048, 3072]⟩) 1 [⟨⟨2, ![2048, 1024]⟩, u⟩, ⟨⟨2, ![2048, 1024]⟩, v⟩, ⟨⟨2, ![2048, 1024]⟩, w⟩] h (ix2 i j) 2 (show 2 < 3 by decide) ⟨2, ![2048, 1024]⟩ w rfl rfl 2048 rfl (ix2 i (⟨j - 2048, by omega⟩ : Fin 1024)) (fun b hb => ?_) ?_).trans
          (hw.eq i ⟨j - 2048, by omega⟩)
        · match b with
          | ⟨0, _⟩ => rfl
          | ⟨1, _⟩ => exact absurd rfl hb
        · show 2048 + (j.val - 2048) = j.val; omega⟩

/-- The queries, of the array of queries, keys and values. -/
def qs (X : ℕ → ℕ → ℝ) (r c : ℕ) : ℝ := X r c
/-- The keys. -/
def ks (X : ℕ → ℕ → ℝ) (r c : ℕ) : ℝ := X r (1024 + c)
/-- The values. -/
def vs (X : ℕ → ℕ → ℝ) (r c : ℕ) : ℝ := X r (2048 + c)

/-- An array of 2048 by 3072 elements, its type written out. -/
def q2 (x : FVec 𝔽 S2048x3072 .f32) : FVec 𝔽 S2048x3072 .f32 := x
/-- An array of 2048 by 1024 elements, its type written out. -/
def g2 (x : FVec 𝔽 S2048x1024 .f32) : FVec 𝔽 S2048x1024 .f32 := x
/-- An array of a head's rows, its type written out. -/
def h3 (x : FVec 𝔽 S8x2048x128 .f32) : FVec 𝔽 S8x2048x128 .f32 := x
/-- A scalar, its type written out. -/
def f0 (x : FVec 𝔽 S_ .f32) : FVec 𝔽 S_ .f32 := x
/-- An array of rows by keys, its type written out. -/
def f3 (x : FVec 𝔽 S8x2048x2048 .f32) : FVec 𝔽 S8x2048x2048 .f32 := x
/-- A mask of rows by keys, its type written out. -/
def m2 (x : IVec S2048x2048 1) : IVec S2048x2048 1 := x
/-- A mask of heads, rows and keys, its type written out. -/
def m3 (x : IVec S8x2048x2048 1) : IVec S8x2048x2048 1 := x

instance q2_is (x : FVec 𝔽 S2048x3072 .f32) (f : ℕ → ℕ → ℝ) [h : Is2 x f] : Is2 (q2 x) f := h
instance g2_is (x : FVec 𝔽 S2048x1024 .f32) (f : ℕ → ℕ → ℝ) [h : Is2 x f] : Is2 (g2 x) f := h
instance h3_is (x : FVec 𝔽 S8x2048x128 .f32) (f : ℕ → ℕ → ℕ → ℝ) [h : Is3 x f] : Is3 (h3 x) f := h
instance f0_is (x : FVec 𝔽 S_ .f32) (r : ℝ) [h : Is0 x r] : Is0 (f0 x) r := h
instance f3_is (x : FVec 𝔽 S8x2048x2048 .f32) (f : ℕ → ℕ → ℕ → ℝ) [h : Is3 x f] : Is3 (f3 x) f := h
instance m2_is (x : IVec S2048x2048 1) (p : ℕ → ℕ → Bool) [h : Mask2 x p] : Mask2 (m2 x) p := h
instance m3_is (x : IVec S8x2048x2048 1) (p : ℕ → ℕ → ℕ → Bool) [h : Mask3 x p] : Mask3 (m3 x) p := h

section Read
variable (V0 : Valuation τ sig (Elt Ideal)) (X Y : ℕ → ℕ → ℝ)
variable [hX : Is2 (a := 2048) (b := 3072) (V0 (Proc.devRef .tc main_arg0)) X]
variable [hY : Is2 (a := 2048) (b := 1024) (V0 (Proc.devRef .tc main_arg1)) Y]

include hX in
theorem rd_v4 : Is3 (a := 8) (b := 2048) (c := 128) (res_main_v4 V0) (fun h r d => col (qs X) h r d) := by
  haveI h : Is3 (a := 8) (b := 2048) (c := 128) (transpose S8x2048x128 [1, 0, 2] (shapeCast _ (extractStridedSlice S2048x1024 ![0, 0] (q2 (V0 (Proc.devRef .tc main_arg0))) slices_S2048x3072_S2048x1024_0_0) shapeCasts_S2048x1024_S2048x8x128) transposes_S2048x8x128_S8x2048x128_1_0_2) _ := inferInstance
  exact h.congr fun i j k _ _ _ => by simp only [col, qs, zero_add]
include hX in
theorem rd_v6 : Is3 (a := 8) (b := 2048) (c := 128) (res_main_v6 V0) (fun h r d => col (ks X) h r d) := by
  haveI h : Is3 (a := 8) (b := 2048) (c := 128) (transpose S8x2048x128 [1, 0, 2] (shapeCast _ (extractStridedSlice S2048x1024 ![0, 1024] (q2 (V0 (Proc.devRef .tc main_arg0))) slices_S2048x3072_S2048x1024_0_1024) shapeCasts_S2048x1024_S2048x8x128) transposes_S2048x8x128_S8x2048x128_1_0_2) _ := inferInstance
  exact h.congr fun i j k _ _ _ => by simp only [col, ks, zero_add]
include hX in
theorem rd_v8 : Is3 (a := 8) (b := 2048) (c := 128) (res_main_v8 V0) (fun h r d => col (vs X) h r d) := by
  haveI h : Is3 (a := 8) (b := 2048) (c := 128) (transpose S8x2048x128 [1, 0, 2] (shapeCast _ (extractStridedSlice S2048x1024 ![0, 2048] (q2 (V0 (Proc.devRef .tc main_arg0))) slices_S2048x3072_S2048x1024_0_2048) shapeCasts_S2048x1024_S2048x8x128) transposes_S2048x8x128_S8x2048x128_1_0_2) _ := inferInstance
  exact h.congr fun i j k _ _ _ => by simp only [col, vs, zero_add]
include hY in
theorem rd_v33 : Is3 (a := 8) (b := 2048) (c := 128) (res_main_v33 V0) (fun h r d => col Y h r d) := by
  haveI h : Is3 (a := 8) (b := 2048) (c := 128) (transpose S8x2048x128 [1, 0, 2] (shapeCast _ (g2 (V0 (Proc.devRef .tc main_arg1))) shapeCasts_S2048x1024_S2048x8x128) transposes_S2048x8x128_S8x2048x128_1_0_2) _ := inferInstance
  exact h.congr fun i j k _ _ _ => rfl

/-- The scaled products, head by head. -/
abbrev hz (h : ℕ) : ℕ → ℕ → ℝ := nz (col (qs X) h) (col (ks X) h)
/-- The logarithms, head by head. -/
abbrev hm (h : ℕ) : ℕ → ℕ → ℝ := nm (col (qs X) h) (col (ks X) h)
/-- The weights before the mask, head by head. -/
abbrev hw (h : ℕ) : ℕ → ℕ → ℝ := nw (col (qs X) h) (col (ks X) h)
/-- The weights, head by head. -/
abbrev ha (h : ℕ) : ℕ → ℕ → ℝ := na (col (qs X) h) (col (ks X) h)
/-- The weights times their cotangents, head by head. -/
abbrev he (h : ℕ) : ℕ → ℕ → ℝ := ne (col (qs X) h) (col (ks X) h) (col Y h) (col (vs X) h)
/-- The cotangents of the products, head by head. -/
abbrev hd (h : ℕ) : ℕ → ℕ → ℝ := nd (col (qs X) h) (col (ks X) h) (col Y h) (col (vs X) h)

theorem rd_v10 : Is0 (res_main_v10 V0) (Real.sqrt 128) := by
  haveI h : Is0 (Host.sqrt (constant (F := 𝔽) S_ .f32 0x43000000#32)) _ := inferInstance
  exact h

include hX in
theorem rd_v12 : Is3 (a := 8) (b := 2048) (c := 2048) (res_main_v12 V0) (fun h r s => hz X h r s) := by
  haveI := rd_v4 V0 X; haveI := rd_v6 V0 X; haveI := rd_v10 V0
  haveI h : Is3 (a := 8) (b := 2048) (c := 2048) (Host.divf (Host.dotGeneral dot_S8x2048x128_S8x2048x128_S8x2048x2048_2_2_1_1_0_0 none (h3 (res_main_v4 V0)) (h3 (res_main_v6 V0))) (broadcastInDim S8x2048x2048 ![] bcast_S_S8x2048x2048 (f0 (res_main_v10 V0)))) _ := inferInstance
  exact h.congr fun i j k _ _ _ => rfl

theorem rd_v19 : Mask2 (a := 2048) (b := 2048) (res_main_v19 V0) (fun r s => decide (s < r)) := by
  haveI h : Mask2 (a := 2048) (b := 2048) (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))) _ := inferInstance
  exact h
theorem rd_v22_1 : Mask3 (a := 8) (b := 2048) (c := 2048) (res_main_v22_1 V0) (fun _ r s => decide (s < r)) := by
  haveI := rd_v19 V0
  haveI h : Mask3 (a := 8) (b := 2048) (c := 2048) (broadcastInDim S8x2048x2048 ![1, 2] bcast_S2048x2048_S8x2048x2048_1_2 (m2 (res_main_v19 V0))) _ := inferInstance
  exact h
theorem rd_v28_1 : Mask3 (a := 8) (b := 2048) (c := 2048) (res_main_v28_1 V0) (fun _ r s => decide (s < r)) := by
  haveI := rd_v19 V0
  haveI h : Mask3 (a := 8) (b := 2048) (c := 2048) (broadcastInDim S8x2048x2048 ![1, 2] bcast_S2048x2048_S8x2048x2048_1_2 (m2 (res_main_v19 V0))) _ := inferInstance
  exact h

include hX in
theorem rd_c0_v0 : Is3 (a := 8) (b := 2048) (c := 2048) (res_main_call0_v0 V0) (fun h r s => hz X h r s) := by
  haveI := rd_v12 V0 X
  haveI h : Is3 (a := 8) (b := 2048) (c := 2048) (Host.negf (Host.negf (f3 (res_main_v12 V0)))) _ := inferInstance
  exact h.congr fun i j k _ _ _ => neg_neg _
theorem rd_c0_cst : Is0 (res_main_call0_call0_cst V0) 0 := by
  haveI h : Is0 (constant (F := 𝔽) S_ .f32 0x00000000#32) _ := inferInstance
  exact h
include hX in
theorem rd_c0_v3 : Is3 (a := 8) (b := 2048) (c := 2048) (res_main_call0_call0_v3 V0) (fun h r s => hz X h r s) := by
  haveI := rd_c0_v0 V0 X; haveI := rd_c0_cst V0
  haveI h : Is3 (a := 8) (b := 2048) (c := 2048) (subf (f3 (res_main_call0_v0 V0)) (broadcastInDim S8x2048x2048 ![] bcast_S_S8x2048x2048 (f0 (res_main_call0_call0_cst V0)))) _ := inferInstance
  exact h.congr fun i j k _ _ _ => sub_zero _
include hX in
theorem rd_c0_v1 : Is3 (a := 8) (b := 2048) (c := 2048) (res_main_call0_v1_0 V0) (fun h r s => sp (hz X h r s)) := by
  haveI := rd_c0_v0 V0 X; haveI := rd_c0_cst V0; haveI := rd_c0_v3 V0 X
  haveI h : Is3 (a := 8) (b := 2048) (c := 2048) (select (cmpf .une (f3 (res_main_call0_call0_v3 V0)) (f3 (res_main_call0_call0_v3 V0))) (addf (f3 (res_main_call0_v0 V0)) (broadcastInDim S8x2048x2048 ![] bcast_S_S8x2048x2048 (f0 (res_main_call0_call0_cst V0)))) (addf (maximumf (f3 (res_main_call0_v0 V0)) (broadcastInDim S8x2048x2048 ![] bcast_S_S8x2048x2048 (f0 (res_main_call0_call0_cst V0)))) (Host.log1p (Host.exp (Host.negf (Host.absf (f3 (res_main_call0_call0_v3 V0)))))))) _ := inferInstance
  exact h.congr fun i j k _ _ _ => rfl
include hX in
theorem rd_v22_0 : Is3 (a := 8) (b := 2048) (c := 2048) (res_main_v22_0 V0) (fun h r s => hm X h r s) := by
  haveI := rd_c0_v1 V0 X; haveI := rd_v22_1 V0
  haveI h : Is3 (a := 8) (b := 2048) (c := 2048) (select (m3 (res_main_v22_1 V0)) (Host.negf (f3 (res_main_call0_v1_0 V0))) (broadcastInDim S8x2048x2048 ![] bcast_S_S8x2048x2048 (id (constant (F := 𝔽) S_ .f32 0x00000000#32)))) _ := inferInstance
  exact h.congr fun i j k _ _ _ => rfl

include hX in
theorem rd_c3_v0 : Is3 (a := 8) (b := 2048) (c := 2048) (res_main_call3_v0 V0) (fun h r s => -hz X h r s) := by
  haveI := rd_v12 V0 X
  haveI h : Is3 (a := 8) (b := 2048) (c := 2048) (Host.negf (f3 (res_main_v12 V0))) _ := inferInstance
  exact h
theorem rd_c3_cst : Is0 (res_main_call3_call0_cst V0) 0 := by
  haveI h : Is0 (constant (F := 𝔽) S_ .f32 0x00000000#32) _ := inferInstance
  exact h
include hX in
theorem rd_c3_v3 : Is3 (a := 8) (b := 2048) (c := 2048) (res_main_call3_call0_v3 V0) (fun h r s => -hz X h r s) := by
  haveI := rd_c3_v0 V0 X; haveI := rd_c3_cst V0
  haveI h : Is3 (a := 8) (b := 2048) (c := 2048) (subf (f3 (res_main_call3_v0 V0)) (broadcastInDim S8x2048x2048 ![] bcast_S_S8x2048x2048 (f0 (res_main_call3_call0_cst V0)))) _ := inferInstance
  exact h.congr fun i j k _ _ _ => sub_zero _
include hX in
theorem rd_c3_v1 : Is3 (a := 8) (b := 2048) (c := 2048) (res_main_call3_v1_0 V0) (fun h r s => sp (-hz X h r s)) := by
  haveI := rd_c3_v0 V0 X; haveI := rd_c3_cst V0; haveI := rd_c3_v3 V0 X
  haveI h : Is3 (a := 8) (b := 2048) (c := 2048) (select (cmpf .une (f3 (res_main_call3_call0_v3 V0)) (f3 (res_main_call3_call0_v3 V0))) (addf (f3 (res_main_call3_v0 V0)) (broadcastInDim S8x2048x2048 ![] bcast_S_S8x2048x2048 (f0 (res_main_call3_call0_cst V0)))) (addf (maximumf (f3 (res_main_call3_v0 V0)) (broadcastInDim S8x2048x2048 ![] bcast_S_S8x2048x2048 (f0 (res_main_call3_call0_cst V0)))) (Host.log1p (Host.exp (Host.negf (Host.absf (f3 (res_main_call3_call0_v3 V0)))))))) _ := inferInstance
  exact h.congr fun i j k _ _ _ => rfl

include hX in
theorem rd_v27 : Is3 (a := 8) (b := 2048) (c := 2048) (res_main_v27 V0) (fun h r s => hw X h r s) := by
  haveI := rd_c3_v1 V0 X; haveI := rd_v22_0 V0 X
  haveI h : Is3 (a := 8) (b := 2048) (c := 2048) (Host.exp (addf (Host.negf (f3 (res_main_call3_v1_0 V0))) (subf (Host.reduceWindowAdd ![1, 1, 2048] ![1, 1, 1] ![0, 0, 0] ![0, 0, 2047] (f3 (res_main_v22_0 V0)) (broadcastInDim S_ ![] bcast_S_S_ (constant (F := 𝔽) S_ .f32 0x00000000#32)) reduceWindows_S8x2048x2048_S8x2048x2048_w1s1p0_0_w1s1p0_0_w2048s1p0_2047 h_S_) (f3 (res_main_v22_0 V0))))) _ := inferInstance
  exact h.congr fun i j k _ _ _ => rfl
include hX in
theorem rd_v28_0 : Is3 (a := 8) (b := 2048) (c := 2048) (res_main_v28_0 V0) (fun h r s => ha X h r s) := by
  haveI := rd_v27 V0 X; haveI := rd_v28_1 V0
  haveI h : Is3 (a := 8) (b := 2048) (c := 2048) (select (m3 (res_main_v28_1 V0)) (f3 (res_main_v27 V0)) (broadcastInDim S8x2048x2048 ![] bcast_S_S8x2048x2048 (id (constant (F := 𝔽) S_ .f32 0x00000000#32)))) _ := inferInstance
  exact h.congr fun i j k _ _ _ => rfl
include hX hY in
theorem rd_v38 : Is3 (a := 8) (b := 2048) (c := 2048) (res_main_v38 V0) (fun h r s => he X Y h r s) := by
  haveI := rd_v27 V0 X; haveI := rd_v28_1 V0; haveI := rd_v33 V0 Y; haveI := rd_v8 V0 X
  haveI h : Is3 (a := 8) (b := 2048) (c := 2048) (mulf (select (m3 (res_main_v28_1 V0)) (Host.dotGeneral dot_S8x2048x128_S8x2048x128_S8x2048x2048_2_2_1_1_0_0 none (h3 (res_main_v33 V0)) (h3 (res_main_v8 V0))) (broadcastInDim S8x2048x2048 ![] bcast_S_S8x2048x2048 (constant (F := 𝔽) S_ .f32 0x00000000#32))) (f3 (res_main_v27 V0))) _ := inferInstance
  exact h.congr fun i j k _ _ _ => rfl
include hX hY in
theorem rd_v48 : Is3 (a := 8) (b := 2048) (c := 2048) (res_main_v48 V0) (fun h r s => hd X Y h r s) := by
  haveI := rd_v38 V0 X Y; haveI := rd_v22_1 V0; haveI := rd_v10 V0
  haveI := rd_c3_v0 V0 X; haveI := rd_c3_v1 V0 X; haveI := rd_c0_v0 V0 X; haveI := rd_c0_v1 V0 X
  haveI h : Is3 (a := 8) (b := 2048) (c := 2048) (Host.divf (addf (Host.negf (mulf (Host.negf (f3 (res_main_v38 V0))) (Host.exp (subf (select (cmpf .oeq (f3 (res_main_call3_v0 V0)) (broadcastInDim S8x2048x2048 ![] bcast_S_S8x2048x2048 (constant (F := 𝔽) S_ .f32 0x7F800000#32))) (broadcastInDim S8x2048x2048 ![] bcast_S_S8x2048x2048 (constant (F := 𝔽) S_ .f32 0x00000000#32)) (f3 (res_main_call3_v0 V0))) (select (cmpf .oeq (f3 (res_main_call3_v1_0 V0)) (broadcastInDim S8x2048x2048 ![] bcast_S_S8x2048x2048 (constant (F := 𝔽) S_ .f32 0x7F800000#32))) (broadcastInDim S8x2048x2048 ![] bcast_S_S8x2048x2048 (constant (F := 𝔽) S_ .f32 0x00000000#32)) (f3 (res_main_call3_v1_0 V0))))))) (Host.negf (Host.negf (mulf (Host.negf (select (m3 (res_main_v22_1 V0)) (addf (Host.negf (f3 (res_main_v38 V0))) (Host.reduceWindowAdd ![1, 1, 2048] ![1, 1, 1] ![0, 0, 2047] ![0, 0, 0] (f3 (res_main_v38 V0)) (broadcastInDim S_ ![] bcast_S_S_ (constant (F := 𝔽) S_ .f32 0x00000000#32)) reduceWindows_S8x2048x2048_S8x2048x2048_w1s1p0_0_w1s1p0_0_w2048s1p2047_0 h_S_)) (broadcastInDim S8x2048x2048 ![] bcast_S_S8x2048x2048 (constant (F := 𝔽) S_ .f32 0x00000000#32)))) (Host.exp (subf (select (cmpf .oeq (f3 (res_main_call0_v0 V0)) (broadcastInDim S8x2048x2048 ![] bcast_S_S8x2048x2048 (constant (F := 𝔽) S_ .f32 0x7F800000#32))) (broadcastInDim S8x2048x2048 ![] bcast_S_S8x2048x2048 (constant (F := 𝔽) S_ .f32 0x00000000#32)) (f3 (res_main_call0_v0 V0))) (select (cmpf .oeq (f3 (res_main_call0_v1_0 V0)) (broadcastInDim S8x2048x2048 ![] bcast_S_S8x2048x2048 (constant (F := 𝔽) S_ .f32 0x7F800000#32))) (broadcastInDim S8x2048x2048 ![] bcast_S_S8x2048x2048 (constant (F := 𝔽) S_ .f32 0x00000000#32)) (f3 (res_main_call0_v1_0 V0))))))))) (broadcastInDim S8x2048x2048 ![] bcast_S_S8x2048x2048 (f0 (res_main_v10 V0)))) _ := inferInstance
  exact h.congr fun i j k _ _ _ => rfl

/-- The cotangents of the queries. -/
def rq (r c : ℕ) : ℝ := ∑ s ∈ Finset.range 2048, hd X Y (c / 128) r s * ks X s c
/-- The cotangents of the keys. -/
def rk (s c : ℕ) : ℝ := ∑ r ∈ Finset.range 2048, hd X Y (c / 128) r s * qs X r c
/-- The cotangents of the values. -/
def rv (s c : ℕ) : ℝ := ∑ r ∈ Finset.range 2048, ha X (c / 128) r s * Y r c

theorem col_div (X : ℕ → ℕ → ℝ) (r c : ℕ) : col X (c / 128) r (c % 128) = X r c := by
  unfold col
  rw [Nat.div_add_mod]

include hX hY in
theorem rd_v57 : Is2 (a := 2048) (b := 3072) (res_main_v57 V0)
    (fun i j => if j < 1024 then rq X Y i j else if j < 2048 then rk X Y i (j - 1024) else rv X Y i (j - 2048)) := by
  haveI := rd_v48 V0 X Y; haveI := rd_v6 V0 X; haveI := rd_v4 V0 X; haveI := rd_v33 V0 Y; haveI := rd_v28_0 V0 X
  haveI h : Is2 (a := 2048) (b := 3072) ((concatenate S2048x3072 1 [⟨S2048x1024, ((shapeCast _ (transpose S2048x8x128 [1, 0, 2] (Host.dotGeneral dot_S8x2048x2048_S8x2048x128_S8x2048x128_2_1_1_2_0_0 none (f3 (res_main_v48 V0)) (h3 (res_main_v6 V0))) transposes_S8x2048x128_S2048x8x128_1_0_2) shapeCasts_S2048x8x128_S2048x1024))⟩, ⟨S2048x1024, ((shapeCast _ (transpose S2048x8x128 [1, 0, 2] (Host.dotGeneral dot_S8x2048x2048_S8x2048x128_S8x2048x128_1_1_2_2_0_0 none (f3 (res_main_v48 V0)) (h3 (res_main_v4 V0))) transposes_S8x2048x128_S2048x8x128_1_0_2) shapeCasts_S2048x8x128_S2048x1024))⟩, ⟨S2048x1024, ((shapeCast _ (transpose S2048x8x128 [1, 0, 2] (transpose S8x2048x128 [0, 2, 1] (Host.dotGeneral dot_S8x2048x128_S8x2048x2048_S8x128x2048_1_1_2_2_0_0 none (h3 (res_main_v33 V0)) (f3 (res_main_v28_0 V0))) transposes_S8x128x2048_S8x2048x128_0_2_1) transposes_S8x2048x128_S2048x8x128_1_0_2) shapeCasts_S2048x8x128_S2048x1024))⟩] concatenates_S2048x1024_S2048x1024_S2048x1024_S2048x3072_d1)) _ := concat3 _ _ _ _ _ _ _
  refine h.congr fun i j _ _ => ?_
  split
  · exact Finset.sum_congr rfl fun s _ => by rw [col_div]
  · split
    · exact Finset.sum_congr rfl fun s _ => by rw [col_div]
    · exact Finset.sum_congr rfl fun s _ => by rw [col_div, mul_comm]

include hX hY in
/-- The reference's first result. -/
theorem ref_q : Is2 (a := 2048) (b := 1024)
    (truncf .bf16 (extractStridedSlice S2048x1024 ![0, 0] (res_main_v57 V0) slices_S2048x3072_S2048x1024_0_0) bitsLt_bf16_f32)
    (fun r c => rq X Y r c) := by
  haveI := rd_v57 V0 X Y
  haveI h : Is2 (a := 2048) (b := 1024) (truncf .bf16 (extractStridedSlice S2048x1024 ![0, 0] (res_main_v57 V0)
      slices_S2048x3072_S2048x1024_0_0) bitsLt_bf16_f32) _ := inferInstance
  exact h.congr fun i j _ hj => by
    rw [if_pos (by omega), zero_add, zero_add]

include hX hY in
/-- The reference's second result. -/
theorem ref_kv : Is3 (a := 2) (b := 2048) (c := 1024)
    (concatenate S2x2048x1024 0
      [⟨S1x2048x1024, broadcastInDim S1x2048x1024 ![1, 2] bcast_S2048x1024_S1x2048x1024_1_2
          (extractStridedSlice S2048x1024 ![0, 1024] (res_main_v57 V0) slices_S2048x3072_S2048x1024_0_1024)⟩,
       ⟨S1x2048x1024, broadcastInDim S1x2048x1024 ![1, 2] bcast_S2048x1024_S1x2048x1024_1_2
          (extractStridedSlice S2048x1024 ![0, 2048] (res_main_v57 V0) slices_S2048x3072_S2048x1024_0_2048)⟩]
      concatenates_S1x2048x1024_S1x2048x1024_S2x2048x1024_d0)
    (fun t s c => if t = 0 then rk X Y s c else rv X Y s c) := by
  haveI := rd_v57 V0 X Y
  refine (hlayers _ _ _ _ _).congr fun t s c _ _ hc => ?_
  split
  · rw [if_neg (by omega), if_pos (by omega), zero_add, Nat.add_sub_cancel_left]
  · rw [if_neg (by omega), if_neg (by omega), zero_add, Nat.add_sub_cancel_left]

end Read

end Cert.Calc
-- ==== Proof.Entry.lean ====
module

public import proofs.«01_k».proof.Proof.HostCalc
public import proofs.«01_k».proof.Proof.Spec
public import proofs.«01_k».proof.Proof.Gen.KernelIdeal.Value
public import Idealize.ShloMosaic.Lib.Claim

/-!
The arrays the kernel's blocks are cut from, as real functions of the arguments' real functions.
-/

@[expose] public section

noncomputable section

namespace Cert.Calc

open Idealize.ShloMosaic hiding ix1 ix2 ix3 ix4
open Idealize.ShloMosaic.ValueIdx
open Idealize.ShloMosaic.TcCoe Idealize.ShloMosaic.StableHlo
open Cert.KernelIdeal Cert.KernelIdeal.Gen
open scoped BigOperators

local notation "𝔽" => Idealize.ShloMosaic.Ideal
local notation "𝕍" => Elt Idealize.ShloMosaic.Ideal

/-- The scaled products that the host forms. -/
def tz (x : FVec 𝔽 S2048x3072 .f32) : FVec 𝔽 S8x2048x2048 .f32 :=
  Host.divf (Host.dotGeneral dot_S8x2048x128_S8x2048x128_S8x2048x2048_2_2_1_1_0_0 none
      (transpose S8x2048x128 [1, 0, 2] (shapeCast S2048x8x128 (extractStridedSlice S2048x1024 ![0, 0] x slices_S2048x3072_S2048x1024_0_0)
        shapeCasts_S2048x1024_S2048x8x128) transposes_S2048x8x128_S8x2048x128_1_0_2)
      (transpose S8x2048x128 [1, 0, 2] (shapeCast S2048x8x128 (extractStridedSlice S2048x1024 ![0, 1024] x slices_S2048x3072_S2048x1024_0_1024)
        shapeCasts_S2048x1024_S2048x8x128) transposes_S2048x8x128_S8x2048x128_1_0_2))
    (broadcastInDim S8x2048x2048 ![] bcast_S_S8x2048x2048 (Host.sqrt (constant (F := 𝔽) S_ .f32 0x43000000#32)))
/-- The scaled products, twice negated. -/
def tn (x : FVec 𝔽 S2048x3072 .f32) : FVec 𝔽 S8x2048x2048 .f32 := Host.negf (Host.negf (tz x))
/-- A zero in every place. -/
def tu : FVec 𝔽 S8x2048x2048 .f32 := broadcastInDim S8x2048x2048 ![] bcast_S_S8x2048x2048 (constant (F := 𝔽) S_ .f32 0x00000000#32)
/-- The softplus that the host forms. -/
def tp (x : FVec 𝔽 S2048x3072 .f32) : FVec 𝔽 S8x2048x2048 .f32 :=
  select (cmpf .une (subf (tn x) tu) (subf (tn x) tu)) (addf (tn x) tu)
    (addf (maximumf (tn x) tu) (Host.log1p (Host.exp (Host.negf (Host.absf (subf (tn x) tu))))))
/-- The logarithms that the host forms. -/
def tm (x : FVec 𝔽 S2048x3072 .f32) : FVec 𝔽 S8x2048x2048 .f32 :=
  select (broadcastInDim S8x2048x2048 ![1, 2] bcast_S2048x2048_S8x2048x2048_1_2
      (cmpi .slt
        (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
    (Host.negf (tp x)) (broadcastInDim S8x2048x2048 ![] bcast_S_S8x2048x2048 (id (constant (F := 𝔽) S_ .f32 0x00000000#32)))
/-- The row totals that the host forms. -/
def tt (x : FVec 𝔽 S2048x3072 .f32) : FVec 𝔽 S8x2048x1 .f32 :=
  Host.divf (broadcastInDim S8x2048x1 ![0, 1] bcast_S8x2048_S8x2048x1_0_1
      (Host.reduceAdd (tm x) (constant (F := 𝔽) S_ .f32 0x00000000#32) reducesTo_S8x2048x2048_S8x2048_d2 h_S_))
    (broadcastInDim S8x2048x1 ![] bcast_S_S8x2048x1 (Host.log (constant (F := 𝔽) S_ .f32 0x40000000#32)))

section Totals
variable (x : FVec 𝔽 S2048x3072 .f32) (X : ℕ → ℕ → ℝ) [hX : Is2 x X]
include hX

theorem tz_is : Is3 (tz x) (fun h r s => nz (col X h) (col (fun s c => X s (1024 + c)) h) r s) := by
  unfold tz
  haveI h : Is3 (Host.divf (Host.dotGeneral dot_S8x2048x128_S8x2048x128_S8x2048x2048_2_2_1_1_0_0 none
      (transpose S8x2048x128 [1, 0, 2] (shapeCast S2048x8x128 (extractStridedSlice S2048x1024 ![0, 0] x slices_S2048x3072_S2048x1024_0_0)
        shapeCasts_S2048x1024_S2048x8x128) transposes_S2048x8x128_S8x2048x128_1_0_2)
      (transpose S8x2048x128 [1, 0, 2] (shapeCast S2048x8x128 (extractStridedSlice S2048x1024 ![0, 1024] x slices_S2048x3072_S2048x1024_0_1024)
        shapeCasts_S2048x1024_S2048x8x128) transposes_S2048x8x128_S8x2048x128_1_0_2))
    (broadcastInDim S8x2048x2048 ![] bcast_S_S8x2048x2048 (Host.sqrt (constant (F := 𝔽) S_ .f32 0x43000000#32)))) _ := inferInstance
  refine h.congr fun i j k _ _ _ => ?_
  refine congrArg (· * (Real.sqrt 128)⁻¹) (Finset.sum_congr rfl fun d _ => ?_)
  simp only [col, zero_add]
theorem tn_is : Is3 (tn x) (fun h r s => nz (col X h) (col (fun s c => X s (1024 + c)) h) r s) := by
  haveI := tz_is x X
  haveI h : Is3 (Host.negf (Host.negf (tz x))) _ := inferInstance
  exact h.congr fun i j k _ _ _ => neg_neg _
omit hX in
theorem tu_is : Is3 tu (fun _ _ _ => 0) := by
  unfold tu
  infer_instance
theorem tp_is : Is3 (tp x) (fun h r s => sp (nz (col X h) (col (fun s c => X s (1024 + c)) h) r s)) := by
  haveI := tn_is x X; haveI := tu_is
  haveI hd : Is3 (subf (tn x) tu) (fun h r s => nz (col X h) (col (fun s c => X s (1024 + c)) h) r s) :=
    (inferInstance : Is3 (subf (tn x) tu) _).congr fun i j k _ _ _ => sub_zero _
  haveI hu := une_self (subf (tn x) tu) _
  haveI h : Is3 (addf (maximumf (tn x) tu) (Host.log1p (Host.exp (Host.negf (Host.absf (subf (tn x) tu))))))
    (fun h r s => sp (nz (col X h) (col (fun s c => X s (1024 + c)) h) r s)) :=
    (addf3 _ _ _ _ (hv := maxf3 _ _ _ _) (hw := hlog1p3 _ _ (hv := hexp3 _ _ (hv := hnegf3 _ _ (hv := habsf3 _ _ (hv := hd)))))).congr fun i j k _ _ _ => rfl
  haveI h2 : Is3 (addf (tn x) tu) _ := inferInstance
  unfold tp
  exact (hsel3 _ _ _ _ _ _ (hc := hu) (hv := h2) (hw := h)).congr fun i j k _ _ _ => rfl
theorem tm_is : Is3 (tm x) (fun h r s => nm (col X h) (col (fun s c => X s (1024 + c)) h) r s) := by
  haveI := tp_is x X
  unfold tm
  exact (hsel3 (φ := .f32) _ _ _ _ _ _ (hc := mask_up _ _ _ (hm := causal_mask _ _ _ _)) (hv := hnegf3 _ _) (hw := bcast03 _ _ _ _)).congr fun i j k _ _ _ => rfl
theorem tt_is : Is3 (tt x) (fun h r _ => ct (col X h) (col (fun s c => X s (1024 + c)) h) r) := by
  haveI := tm_is x X
  unfold tt
  exact (hdiv_log _ _ _ (hv := hcol _ _ _ (hv := hsum _ _ _ _ _)) (hw := bcast03 _ _ _ _)).congr fun i j k _ _ _ => rfl

end Totals

section Entry
variable (m : (ℓ : Loc nD τ sig) → Buf 𝕍 ℓ) (c : Dev nD)

theorem V_v0 : V m c main_v0 = truncf (F := 𝔽) .bf16 (m ((c.tc : Thread nD τ).loc main_arg0)) bitsLt_bf16_f32 := by
  show StableHlo.after _ _ _ = _
  simp only [hostOps0, hostOps0_1, hostOps0_2, hostOps0_3, hostOps0_4, List.flatten_cons, List.flatten_nil, List.append_nil, List.cons_append,
    List.nil_append]
  after_results
theorem V_v1 : V m c main_v1 = truncf (F := 𝔽) .bf16 (m ((c.tc : Thread nD τ).loc main_arg1)) bitsLt_bf16_f32 := by
  show StableHlo.after _ _ _ = _
  simp only [hostOps0, hostOps0_1, hostOps0_2, hostOps0_3, hostOps0_4, List.flatten_cons, List.flatten_nil, List.append_nil, List.cons_append,
    List.nil_append]
  after_results
set_option maxHeartbeats 8000000 in
theorem V_v29 : V m c main_v29 = tt (m ((c.tc : Thread nD τ).loc main_arg0)) := by
  show StableHlo.after _ _ _ = _
  simp only [hostOps0, hostOps0_1, hostOps0_2, hostOps0_3, hostOps0_4, List.flatten_cons, List.flatten_nil, List.append_nil, List.cons_append,
    List.nil_append]
  after_results
  rfl

end Entry

end Cert.Calc
-- ==== Proof.Trip.lean ====
module

public import proofs.«01_k».proof.Proof.Step
public import proofs.«01_k».proof.Proof.Gen.KernelIdeal.Loops

/-!
The loop over the key blocks that all of the step's rows attend to: what a trip leaves in the carried
values and in the accumulator of the key and value cotangents, and by induction what the loop leaves.
-/

@[expose] public section

noncomputable section

namespace Cert.Calc

open Idealize.ShloMosaic hiding ix1 ix2 ix3 ix4
open Idealize.ShloMosaic.ValueIdx Cert.KernelIdeal Cert.KernelIdeal.Gen
open scoped BigOperators

/-- The carried values after the keys before `b`. -/
structure Carry (D : Data) (b : ℕ)
    (acc : FVec Ideal S512x128 .f32 × FVec Ideal S512x1 .f32 × FVec Ideal S512x1 .f32 × FVec Ideal S512x128 .f32 × FVec Ideal S512x1 .f32 × FVec Ideal S512x1 .f32) : Prop where
  dq0 : Is2 acc.1 (D.dq b 0)
  p0 : Is2 acc.2.1 (fun r _ => ∑ j ∈ Finset.range b, D.m 0 r j)
  e0 : Is2 acc.2.2.1 (fun r _ => ∑ j ∈ Finset.range b, D.e 0 r j)
  dq1 : Is2 acc.2.2.2.1 (D.dq b 1)
  p1 : Is2 acc.2.2.2.2.1 (fun r _ => ∑ j ∈ Finset.range b, D.m 1 r j)
  e1 : Is2 acc.2.2.2.2.2 (fun r _ => ∑ j ∈ Finset.range b, D.e 1 r j)

section Trip

variable (𝒱 : Variants) (c : Dev nD) (bd : Option 𝒱.V) (i : grid0.Coords)
variable (arg2 : Memref sig .tc .vmem S512x256 .bf16) (harg2 : arg2.IsWhole) (arg3 : Memref sig .tc .vmem S2048x256 .bf16) (harg3 : arg3.IsWhole)
variable (arg4 : Memref sig .tc .vmem S2048x256 .bf16) (harg4 : arg4.IsWhole) (arg5 : Memref sig .tc .vmem S512x256 .bf16) (harg5 : arg5.IsWhole)
variable (arg6 : Memref sig .tc .vmem S2x512x1 .f32) (harg6 : arg6.IsWhole) (arg7 : Memref sig .tc .vmem S8x128 .f32) (harg7 : arg7.IsWhole)
variable (arg8 : Memref sig .tc .vmem S512x256 .bf16) (harg8 : arg8.IsWhole) (arg9 : Memref sig .tc .vmem S2x2048x256 .f32) (harg9 : arg9.IsWhole)
variable (X_arg2 : BufTy.Contents (Elt Ideal) arg2.view.ty) (X_arg3 : BufTy.Contents (Elt Ideal) arg3.view.ty)
variable (X_arg4 : BufTy.Contents (Elt Ideal) arg4.view.ty) (X_arg5 : BufTy.Contents (Elt Ideal) arg5.view.ty)
variable (X_arg6 : BufTy.Contents (Elt Ideal) arg6.view.ty)
variable (D : Data) (hR : D.R = 512 * (i 1).val)
variable [i2 : Is2 (arg2.view.read (Elt Ideal) X_arg2) D.Q] [i3 : Is2 (arg3.view.read (Elt Ideal) X_arg3) D.K]
variable [i4 : Is2 (arg4.view.read (Elt Ideal) X_arg4) D.V] [i5 : Is2 (arg5.view.read (Elt Ideal) X_arg5) D.G]
variable [i6 : Is3 (arg6.view.read (Elt Ideal) X_arg6) (fun h r _ => D.T h r)]
variable (k : Fin (k0_t1_loop i).trips) (hk : k.val < 2 * (i 1).val)
variable (acc : FVec Ideal S512x128 .f32 × FVec Ideal S512x1 .f32 × FVec Ideal S512x1 .f32 × FVec Ideal S512x128 .f32 × FVec Ideal S512x1 .f32 × FVec Ideal S512x1 .f32)

set_option maxHeartbeats 4000000 in
include hR hk i2 i3 i4 i5 i6 in
theorem trip_carry (ha : Carry D (256 * k.val) acc) (f_arg9 : BufTy.Contents (Elt Ideal) arg9.view.ty) :
    Carry D (256 * (k.val + 1)) (tripR_k0_t1 (F := Ideal) 𝒱 c bd i arg2 harg2 arg3 harg3 arg4 harg4 arg5 harg5 arg6 harg6 arg7 harg7 arg8 harg8 arg9 harg9
      X_arg2 X_arg3 X_arg4 X_arg5 X_arg6 k acc f_arg9) := by
  obtain ⟨h1, h2, h3, h4, h5, h6⟩ := ha
  haveI i_c : Is2 (trip_k0_t1.sl.cst_206 (F := Ideal)) _ := by unfold trip_k0_t1.sl.cst_206; infer_instance
  haveI i_r : Is2 (trip_k0_t1.sl.r (F := Ideal) i arg2 arg3 X_arg2 X_arg3 k) _ := by unfold trip_k0_t1.sl.r; infer_instance
  haveI i_r_1 : Is2 (trip_k0_t1.sl.r_1 (F := Ideal) i arg2 arg3 X_arg2 X_arg3 k) _ := by unfold trip_k0_t1.sl.r_1; infer_instance
  haveI i_r_2 : Is2 (trip_k0_t1.sl.r_2 (F := Ideal) i arg2 arg3 X_arg2 X_arg3 k) _ := by unfold trip_k0_t1.sl.r_2; infer_instance
  haveI i_r_3 : Is2 (trip_k0_t1.sl.r_3 (F := Ideal) i arg2 arg3 X_arg2 X_arg3 k) _ := by unfold trip_k0_t1.sl.r_3; infer_instance
  haveI i_r_4 : Is2 (trip_k0_t1.sl.r_4 (F := Ideal) i arg2 arg3 X_arg2 X_arg3 k) _ := by unfold trip_k0_t1.sl.r_4; infer_instance
  haveI i_r_5 : Is2 (trip_k0_t1.sl.r_5 (F := Ideal) i arg2 arg3 X_arg2 X_arg3 k) _ := by unfold trip_k0_t1.sl.r_5; infer_instance
  haveI i_r_6 : Is2 (trip_k0_t1.sl.r_6 (F := Ideal) i arg2 arg3 X_arg2 X_arg3 k) _ := by unfold trip_k0_t1.sl.r_6; infer_instance
  haveI i_r_7 : Is2 (trip_k0_t1.sl.r_7 (F := Ideal) i arg2 arg3 arg6 X_arg2 X_arg3 X_arg6 k acc) _ := by unfold trip_k0_t1.sl.r_7; infer_instance
  haveI i_r_8 : Is2 (trip_k0_t1.sl.r_8 (F := Ideal) i arg2 arg3 arg4 arg5 arg6 X_arg2 X_arg3 X_arg4 X_arg5 X_arg6 k acc) _ := by unfold trip_k0_t1.sl.r_8; infer_instance
  haveI i_r_9 : Is2 (trip_k0_t1.sl.r_9 (F := Ideal) i arg2 arg3 X_arg2 X_arg3 k) _ := by unfold trip_k0_t1.sl.r_9; infer_instance
  haveI i_r_10 : Is2 (trip_k0_t1.sl.r_10 (F := Ideal) i arg2 arg3 arg6 X_arg2 X_arg3 X_arg6 k acc) _ := by unfold trip_k0_t1.sl.r_10; infer_instance
  haveI i_r_11 : Is2 (trip_k0_t1.sl.r_11 (F := Ideal) arg5 X_arg5) _ := by unfold trip_k0_t1.sl.r_11; infer_instance
  haveI i_r_12 : Is2 (trip_k0_t1.sl.r_12 (F := Ideal) i arg4 X_arg4 k) _ := by unfold trip_k0_t1.sl.r_12; infer_instance
  haveI i_r_13 : Is2 (trip_k0_t1.sl.r_13 (F := Ideal) i arg2 arg3 arg4 arg5 arg6 X_arg2 X_arg3 X_arg4 X_arg5 X_arg6 k acc) _ := by unfold trip_k0_t1.sl.r_13; infer_instance
  haveI i_r_14 : Is2 (trip_k0_t1.sl.r_14 (F := Ideal) i arg2 arg3 arg4 arg5 arg6 X_arg2 X_arg3 X_arg4 X_arg5 X_arg6 k acc) _ := by unfold trip_k0_t1.sl.r_14; infer_instance
  haveI i_r_15 : Is2 (trip_k0_t1.sl.r_15 (F := Ideal) i arg2 arg3 arg4 arg5 arg6 X_arg2 X_arg3 X_arg4 X_arg5 X_arg6 k acc) _ := by unfold trip_k0_t1.sl.r_15; infer_instance
  haveI i_r_16 : Is2 (trip_k0_t1.sl.r_16 (F := Ideal) i arg3 X_arg3 k) _ := by unfold trip_k0_t1.sl.r_16; infer_instance
  haveI i_r_17 : Is2 (trip_k0_t1.sl.r_17 (F := Ideal) i arg2 arg3 arg4 arg5 arg6 X_arg2 X_arg3 X_arg4 X_arg5 X_arg6 k acc) _ := by unfold trip_k0_t1.sl.r_17; infer_instance
  haveI i_r_18 : Is2 (trip_k0_t1.sl.r_18 (F := Ideal) i arg2 arg3 X_arg2 X_arg3 k acc) _ := by unfold trip_k0_t1.sl.r_18; infer_instance
  haveI i_r_19 : Is2 (trip_k0_t1.sl.r_19 (F := Ideal) i arg2 arg3 arg4 arg5 arg6 X_arg2 X_arg3 X_arg4 X_arg5 X_arg6 k acc) _ := by unfold trip_k0_t1.sl.r_19; infer_instance
  haveI i_r_20 : Is2 (trip_k0_t1.sl.r_20 (F := Ideal) i arg2 arg3 arg4 arg5 arg6 X_arg2 X_arg3 X_arg4 X_arg5 X_arg6 k acc) _ := by unfold trip_k0_t1.sl.r_20; infer_instance
  unfold tripR_k0_t1 trip_k0_t1
  dsimp only
  have hp : ∀ r s, r < 512 → s < 256 → pt r s = pc D.R (0 + r) (256 * k.val + s) := fun r s _ hs => by
    simp only [pt, pc]; exact (decide_eq_true (by omega)).symm
  have z : ∀ r, 0 + r = r := Nat.zero_add
  have dd0 : ∀ r s, r < 512 → s < 256 → _ := fun r s => Data.d_blk (D := D) (b := 256 * k.val) (n := 512) (o := 0) (c := 0) (h := 0) hp rfl
    (ctl := fun r => D.T 0 (0 + r)) (psl := fun r => ∑ j ∈ Finset.range (256 * k.val), D.m 0 r j) (esl := fun r => ∑ j ∈ Finset.range (256 * k.val), D.e 0 r j)
    (fun _ => rfl) (fun r => by rw [z]) (fun r => by rw [z]) r s
  have dd1 : ∀ r s, r < 512 → s < 256 → _ := fun r s => Data.d_blk (D := D) (b := 256 * k.val) (n := 512) (o := 0) (c := 128) (h := 1) hp rfl
    (ctl := fun r => D.T 1 (0 + r)) (psl := fun r => ∑ j ∈ Finset.range (256 * k.val), D.m 1 r j) (esl := fun r => ∑ j ∈ Finset.range (256 * k.val), D.e 1 r j)
    (fun _ => rfl) (fun r => by rw [z]) (fun r => by rw [z]) r s
  have de0 : ∀ r s, r < 512 → s < 256 → _ := fun r s => Data.e_blk (D := D) (b := 256 * k.val) (n := 512) (o := 0) (c := 0) (h := 0) hp rfl
    (ctl := fun r => D.T 0 (0 + r)) (psl := fun r => ∑ j ∈ Finset.range (256 * k.val), D.m 0 r j)
    (fun _ => rfl) (fun r => by rw [z]) r s
  have de1 : ∀ r s, r < 512 → s < 256 → _ := fun r s => Data.e_blk (D := D) (b := 256 * k.val) (n := 512) (o := 0) (c := 128) (h := 1) hp rfl
    (ctl := fun r => D.T 1 (0 + r)) (psl := fun r => ∑ j ∈ Finset.range (256 * k.val), D.m 1 r j)
    (fun _ => rfl) (fun r => by rw [z]) r s
  constructor
  · refine Is2.congr inferInstance fun r x hr hx => Data.sum_blk fun s hs => ?_
    rw [dd0 r s hr hs]; unfold col; rw [z, z]
  · refine Is2.congr inferInstance fun r x hr hx => Data.sum_blk fun s hs => ?_
    rw [Data.m_blk (D := D) (h := 0) hp rfl r s hr hs, z]
  · refine Is2.congr inferInstance fun r x hr hx => Data.sum_blk fun s hs => ?_
    rw [de0 r s hr hs, z]
  · refine Is2.congr inferInstance fun r x hr hx => Data.sum_blk fun s hs => ?_
    rw [dd1 r s hr hs, z]; rfl
  · refine Is2.congr inferInstance fun r x hr hx => Data.sum_blk fun s hs => ?_
    rw [Data.m_blk (D := D) (h := 1) hp rfl r s hr hs, z]
  · refine Is2.congr inferInstance fun r x hr hx => Data.sum_blk fun s hs => ?_
    rw [de1 r s hr hs, z]

set_option maxHeartbeats 4000000 in
include hR hk i2 i3 i4 i5 i6 in
theorem trip_store (ha : Carry D (256 * k.val) acc) (G_arg9 : BufTy.Contents (Elt Ideal) arg9.view.ty)
    (L : List (View.Piece (Elt Ideal) S2x2048x256 .f32)) (old : ℕ → ℕ → ℕ → ℝ)
    (hL : Is3 (arg9.view.read (Elt Ideal) (arg9.view.writes (Elt Ideal) G_arg9 L)) (D.acc old (256 * k.val))) :
    Is3 (arg9.view.read (Elt Ideal) (arg9.view.writes (Elt Ideal) G_arg9
      (tripL_k0_t1 (F := Ideal) 𝒱 c bd i arg2 harg2 arg3 harg3 arg4 harg4 arg5 harg5 arg6 harg6 arg7 harg7 arg8 harg8 arg9 harg9
        X_arg2 X_arg3 X_arg4 X_arg5 X_arg6 k acc (arg9.view.writes (Elt Ideal) G_arg9 L) ++ L))) (D.acc old (256 * (k.val + 1))) := by
  obtain ⟨h1, h2, h3, h4, h5, h6⟩ := ha
  haveI i_c : Is2 (trip_k0_t1.sl.cst_206 (F := Ideal)) _ := by unfold trip_k0_t1.sl.cst_206; infer_instance
  haveI i_r : Is2 (trip_k0_t1.sl.r (F := Ideal) i arg2 arg3 X_arg2 X_arg3 k) _ := by unfold trip_k0_t1.sl.r; infer_instance
  haveI i_r_1 : Is2 (trip_k0_t1.sl.r_1 (F := Ideal) i arg2 arg3 X_arg2 X_arg3 k) _ := by unfold trip_k0_t1.sl.r_1; infer_instance
  haveI i_r_2 : Is2 (trip_k0_t1.sl.r_2 (F := Ideal) i arg2 arg3 X_arg2 X_arg3 k) _ := by unfold trip_k0_t1.sl.r_2; infer_instance
  haveI i_r_3 : Is2 (trip_k0_t1.sl.r_3 (F := Ideal) i arg2 arg3 X_arg2 X_arg3 k) _ := by unfold trip_k0_t1.sl.r_3; infer_instance
  haveI i_r_4 : Is2 (trip_k0_t1.sl.r_4 (F := Ideal) i arg2 arg3 X_arg2 X_arg3 k) _ := by unfold trip_k0_t1.sl.r_4; infer_instance
  haveI i_r_5 : Is2 (trip_k0_t1.sl.r_5 (F := Ideal) i arg2 arg3 X_arg2 X_arg3 k) _ := by unfold trip_k0_t1.sl.r_5; infer_instance
  haveI i_r_6 : Is2 (trip_k0_t1.sl.r_6 (F := Ideal) i arg2 arg3 X_arg2 X_arg3 k) _ := by unfold trip_k0_t1.sl.r_6; infer_instance
  haveI i_r_7 : Is2 (trip_k0_t1.sl.r_7 (F := Ideal) i arg2 arg3 arg6 X_arg2 X_arg3 X_arg6 k acc) _ := by unfold trip_k0_t1.sl.r_7; infer_instance
  haveI i_r_8 : Is2 (trip_k0_t1.sl.r_8 (F := Ideal) i arg2 arg3 arg4 arg5 arg6 X_arg2 X_arg3 X_arg4 X_arg5 X_arg6 k acc) _ := by unfold trip_k0_t1.sl.r_8; infer_instance
  haveI i_r_9 : Is2 (trip_k0_t1.sl.r_9 (F := Ideal) i arg2 arg3 X_arg2 X_arg3 k) _ := by unfold trip_k0_t1.sl.r_9; infer_instance
  haveI i_r_10 : Is2 (trip_k0_t1.sl.r_10 (F := Ideal) i arg2 arg3 arg6 X_arg2 X_arg3 X_arg6 k acc) _ := by unfold trip_k0_t1.sl.r_10; infer_instance
  haveI i_r_11 : Is2 (trip_k0_t1.sl.r_11 (F := Ideal) arg5 X_arg5) _ := by unfold trip_k0_t1.sl.r_11; infer_instance
  haveI i_r_12 : Is2 (trip_k0_t1.sl.r_12 (F := Ideal) i arg4 X_arg4 k) _ := by unfold trip_k0_t1.sl.r_12; infer_instance
  haveI i_r_13 : Is2 (trip_k0_t1.sl.r_13 (F := Ideal) i arg2 arg3 arg4 arg5 arg6 X_arg2 X_arg3 X_arg4 X_arg5 X_arg6 k acc) _ := by unfold trip_k0_t1.sl.r_13; infer_instance
  haveI i_r_14 : Is2 (trip_k0_t1.sl.r_14 (F := Ideal) i arg2 arg3 arg4 arg5 arg6 X_arg2 X_arg3 X_arg4 X_arg5 X_arg6 k acc) _ := by unfold trip_k0_t1.sl.r_14; infer_instance
  haveI i_r_15 : Is2 (trip_k0_t1.sl.r_15 (F := Ideal) i arg2 arg3 arg4 arg5 arg6 X_arg2 X_arg3 X_arg4 X_arg5 X_arg6 k acc) _ := by unfold trip_k0_t1.sl.r_15; infer_instance
  haveI i_r_16 : Is2 (trip_k0_t1.sl.r_16 (F := Ideal) i arg3 X_arg3 k) _ := by unfold trip_k0_t1.sl.r_16; infer_instance
  haveI i_r_17 : Is2 (trip_k0_t1.sl.r_17 (F := Ideal) i arg2 arg3 arg4 arg5 arg6 X_arg2 X_arg3 X_arg4 X_arg5 X_arg6 k acc) _ := by unfold trip_k0_t1.sl.r_17; infer_instance
  haveI i_r_18 : Is2 (trip_k0_t1.sl.r_18 (F := Ideal) i arg2 arg3 X_arg2 X_arg3 k acc) _ := by unfold trip_k0_t1.sl.r_18; infer_instance
  haveI i_r_19 : Is2 (trip_k0_t1.sl.r_19 (F := Ideal) i arg2 arg3 arg4 arg5 arg6 X_arg2 X_arg3 X_arg4 X_arg5 X_arg6 k acc) _ := by unfold trip_k0_t1.sl.r_19; infer_instance
  haveI i_r_20 : Is2 (trip_k0_t1.sl.r_20 (F := Ideal) i arg2 arg3 arg4 arg5 arg6 X_arg2 X_arg3 X_arg4 X_arg5 X_arg6 k acc) _ := by unfold trip_k0_t1.sl.r_20; infer_instance
  unfold tripL_k0_t1 trip_k0_t1 trip_k0_t1.sl.v526 trip_k0_t1.sl.v558 trip_k0_t1.sl.v569
  dsimp only [List.cons_append, List.nil_append]
  have hp : ∀ r s, r < 512 → s < 256 → pt r s = pc D.R (0 + r) (256 * k.val + s) := fun r s _ hs => by
    simp only [pt, pc]; exact (decide_eq_true (by omega)).symm
  have z : ∀ r, 0 + r = r := Nat.zero_add
  have dd0 : ∀ r s, r < 512 → s < 256 → _ := fun r s => Data.d_blk (D := D) (b := 256 * k.val) (n := 512) (o := 0) (c := 0) (h := 0) hp rfl
    (ctl := fun r => D.T 0 (0 + r)) (psl := fun r => ∑ j ∈ Finset.range (256 * k.val), D.m 0 r j) (esl := fun r => ∑ j ∈ Finset.range (256 * k.val), D.e 0 r j)
    (fun _ => rfl) (fun r => by rw [z]) (fun r => by rw [z]) r s
  have dd1 : ∀ r s, r < 512 → s < 256 → _ := fun r s => Data.d_blk (D := D) (b := 256 * k.val) (n := 512) (o := 0) (c := 128) (h := 1) hp rfl
    (ctl := fun r => D.T 1 (0 + r)) (psl := fun r => ∑ j ∈ Finset.range (256 * k.val), D.m 1 r j) (esl := fun r => ∑ j ∈ Finset.range (256 * k.val), D.e 1 r j)
    (fun _ => rfl) (fun r => by rw [z]) (fun r => by rw [z]) r s
  have da0 : ∀ r s, r < 512 → s < 256 → _ := fun r s => Data.a_blk (D := D) (b := 256 * k.val) (n := 512) (o := 0) (c := 0) (h := 0) hp rfl
    (ctl := fun r => D.T 0 (0 + r)) (psl := fun r => ∑ j ∈ Finset.range (256 * k.val), D.m 0 r j)
    (fun _ => rfl) (fun r => by rw [z]) r s
  have da1 : ∀ r s, r < 512 → s < 256 → _ := fun r s => Data.a_blk (D := D) (b := 256 * k.val) (n := 512) (o := 0) (c := 128) (h := 1) hp rfl
    (ctl := fun r => D.T 1 (0 + r)) (psl := fun r => ∑ j ∈ Finset.range (256 * k.val), D.m 1 r j)
    (fun _ => rfl) (fun r => by rw [z]) r s
  refine Is3.congr (stores4 (n := 256) arg9.view G_arg9 _ _ _ _ _ _ _ _ L _ _ _ _ _ (256 * k.val) _ _ _ _ hL inferInstance inferInstance inferInstance inferInstance)
    fun t s x ht hs hx => Data.acc_step D old (256 * k.val) _ _ _ _ ?_ ?_ ?_ ?_ t s x ht hx
  · intro s x hs hx
    refine D.C0_of (h := 0) (by omega) fun r hr => ?_
    rw [dd0 r s hr hs, z, z]
  · intro s x hs hx
    refine D.C1_of (h := 0) (by omega) fun r hr => ?_
    rw [da0 r s hr hs, z, z]
  · intro s x hs hx
    refine D.C0_of (h := 1) (by omega) fun r hr => ?_
    rw [dd1 r s hr hs, z]
  · intro s x hs hx
    refine D.C1_of (h := 1) (by omega) fun r hr => ?_
    rw [da1 r s hr hs, z]

theorem trips_t1 (i : grid0.Coords) : (k0_t1_loop i).trips = 2 * (i 1).val := by
  have h : ∀ a : Fin 4, (k0_t1_loop (fun ax => match ax with | 0 => ⟨0, by decide⟩ | 1 => a)).trips = 2 * a.val := by decide +kernel
  exact h (i 1)

theorem trips_t2 (i : grid0.Coords) : (k0_t2_loop i).trips = 0 := Nat.le_zero.mp (k0_t2_abs i).2.1

set_option maxHeartbeats 4000000 in
include hR i2 i3 i4 i5 i6 in
/-- What the loop leaves after `n` trips. -/
theorem loop_n (G_arg9 : BufTy.Contents (Elt Ideal) arg9.view.ty) (old : ℕ → ℕ → ℕ → ℝ)
    (init : FVec Ideal S512x128 .f32 × FVec Ideal S512x1 .f32 × FVec Ideal S512x1 .f32 × FVec Ideal S512x128 .f32 × FVec Ideal S512x1 .f32 × FVec Ideal S512x1 .f32)
    (hi : Carry D 0 init) (hG : Is3 (arg9.view.read (Elt Ideal) G_arg9) old) (n : ℕ) (hn : n ≤ 2 * (i 1).val) :
    Carry D (256 * n) (st_k0_t1 (F := Ideal) 𝒱 c bd i arg2 harg2 arg3 harg3 arg4 harg4 arg5 harg5 arg6 harg6 arg7 harg7 arg8 harg8 arg9 harg9
      X_arg2 X_arg3 X_arg4 X_arg5 X_arg6 G_arg9 init n).1 ∧
    Is3 (arg9.view.read (Elt Ideal) (arg9.view.writes (Elt Ideal) G_arg9 (st_k0_t1 (F := Ideal) 𝒱 c bd i arg2 harg2 arg3 harg3 arg4 harg4 arg5 harg5
      arg6 harg6 arg7 harg7 arg8 harg8 arg9 harg9 X_arg2 X_arg3 X_arg4 X_arg5 X_arg6 G_arg9 init n).2)) (D.acc old (256 * n)) := by
  induction n with
  | zero =>
    refine ⟨?_, ?_⟩
    · rw [st_k0_t1_zero]; exact hi
    · exact Is3.congr hG fun t s x _ _ _ => by simp [Data.acc]
  | succ n ih =>
    obtain ⟨h1, h2⟩ := ih (by omega)
    have hk : n < (k0_t1_loop i).trips := by rw [trips_t1]; omega
    have hs := st_k0_t1_succ (F := Ideal) 𝒱 c bd i arg2 harg2 arg3 harg3 arg4 harg4 arg5 harg5 arg6 harg6 arg7 harg7 arg8 harg8 arg9 harg9
      X_arg2 X_arg3 X_arg4 X_arg5 X_arg6 G_arg9 init ⟨n, hk⟩
    rw [show n + 1 = (⟨n, hk⟩ : Fin (k0_t1_loop i).trips).val + 1 from rfl, hs]
    exact ⟨trip_carry 𝒱 c bd i arg2 harg2 arg3 harg3 arg4 harg4 arg5 harg5 arg6 harg6 arg7 harg7 arg8 harg8 arg9 harg9
        X_arg2 X_arg3 X_arg4 X_arg5 X_arg6 D hR ⟨n, hk⟩ (show n < _ by omega) _ h1 _,
      trip_store 𝒱 c bd i arg2 harg2 arg3 harg3 arg4 harg4 arg5 harg5 arg6 harg6 arg7 harg7 arg8 harg8 arg9 harg9
        X_arg2 X_arg3 X_arg4 X_arg5 X_arg6 D hR ⟨n, hk⟩ (show n < _ by omega) _ h1 _ _ old h2⟩

end Trip

end Cert.Calc
-- ==== Proof.DiagBase.lean ====
module

public import proofs.«01_k».proof.Proof.Trip

/-!
What the last blocks of a step need besides their payloads: the second loop makes no trips, an output
stored in two halves, a buffer stored whole, and the keys beyond the step's rows contribute nothing.
-/

@[expose] public section

noncomputable section

namespace Cert.Calc

open Idealize.ShloMosaic hiding ix1 ix2 ix3 ix4
open Idealize.ShloMosaic.ValueIdx Cert.KernelIdeal Cert.KernelIdeal.Gen
open scoped BigOperators

theorem carry_zero (D : Data) : Carry D 0 (k0_pay58, k0_pay57, k0_pay57, k0_pay59, k0_pay57, k0_pay57) :=
  ⟨Is2.congr pay58 fun _ _ _ _ => by simp [Data.dq], Is2.congr pay57 fun _ _ _ _ => by simp, Is2.congr pay57 fun _ _ _ _ => by simp,
    Is2.congr pay59 fun _ _ _ _ => by simp [Data.dq], Is2.congr pay57 fun _ _ _ _ => by simp, Is2.congr pay57 fun _ _ _ _ => by simp⟩

section Second

variable (𝒱 : Variants) (c : Dev nD) (bd : Option 𝒱.V) (i : grid0.Coords)
variable (arg2 : Memref sig .tc .vmem S512x256 .bf16) (harg2 : arg2.IsWhole) (arg3 : Memref sig .tc .vmem S2048x256 .bf16) (harg3 : arg3.IsWhole)
variable (arg4 : Memref sig .tc .vmem S2048x256 .bf16) (harg4 : arg4.IsWhole) (arg5 : Memref sig .tc .vmem S512x256 .bf16) (harg5 : arg5.IsWhole)
variable (arg6 : Memref sig .tc .vmem S2x512x1 .f32) (harg6 : arg6.IsWhole) (arg7 : Memref sig .tc .vmem S8x128 .f32) (harg7 : arg7.IsWhole)
variable (arg8 : Memref sig .tc .vmem S512x256 .bf16) (harg8 : arg8.IsWhole) (arg9 : Memref sig .tc .vmem S2x2048x256 .f32) (harg9 : arg9.IsWhole)
variable (v19 : BitVec 32)
variable (X_arg2 : BufTy.Contents (Elt Ideal) arg2.view.ty) (X_arg3 : BufTy.Contents (Elt Ideal) arg3.view.ty)
variable (X_arg4 : BufTy.Contents (Elt Ideal) arg4.view.ty) (X_arg5 : BufTy.Contents (Elt Ideal) arg5.view.ty)
variable (X_arg6 : BufTy.Contents (Elt Ideal) arg6.view.ty) (G_arg9 : BufTy.Contents (Elt Ideal) arg9.view.ty)
variable (init : FVec Ideal S512x128 .f32 × FVec Ideal S512x1 .f32 × FVec Ideal S512x1 .f32 × FVec Ideal S512x128 .f32 × FVec Ideal S512x1 .f32 × FVec Ideal S512x1 .f32)

theorem t2_fst : (st_k0_t2 (F := Ideal) 𝒱 c bd i arg2 harg2 arg3 harg3 arg4 harg4 arg5 harg5 arg6 harg6 arg7 harg7 arg8 harg8 arg9 harg9 v19
    X_arg2 X_arg3 X_arg4 X_arg5 X_arg6 G_arg9 init (Scf.trips (k0_t2_loop i).lb (k0_t2_loop i).ub (k0_t2_loop i).st)).1 = init := by
  rw [show Scf.trips (k0_t2_loop i).lb (k0_t2_loop i).ub (k0_t2_loop i).st = 0 from trips_t2 i]
  rfl

theorem t2_snd : (st_k0_t2 (F := Ideal) 𝒱 c bd i arg2 harg2 arg3 harg3 arg4 harg4 arg5 harg5 arg6 harg6 arg7 harg7 arg8 harg8 arg9 harg9 v19
    X_arg2 X_arg3 X_arg4 X_arg5 X_arg6 G_arg9 init (Scf.trips (k0_t2_loop i).lb (k0_t2_loop i).ub (k0_t2_loop i).st)).2 = [] := by
  rw [show Scf.trips (k0_t2_loop i).lb (k0_t2_loop i).ub (k0_t2_loop i).st = 0 from trips_t2 i]
  rfl

theorem t2_carry (D : Data) (b : ℕ) (h : Carry D b init) :
    Carry D b (st_k0_t2 (F := Ideal) 𝒱 c bd i arg2 harg2 arg3 harg3 arg4 harg4 arg5 harg5 arg6 harg6 arg7 harg7 arg8 harg8 arg9 harg9 v19
      X_arg2 X_arg3 X_arg4 X_arg5 X_arg6 G_arg9 init (Scf.trips (k0_t2_loop i).lb (k0_t2_loop i).ub (k0_t2_loop i).st)).1 := by
  rw [t2_fst]; exact h

theorem t2_store (L : List (View.Piece (Elt Ideal) S2x2048x256 .f32)) (X : BufTy.Contents (Elt Ideal) arg9.view.ty) (f : ℕ → ℕ → ℕ → ℝ)
    (h : Is3 (arg9.view.read (Elt Ideal) (arg9.view.writes (Elt Ideal) X L)) f) :
    Is3 (arg9.view.read (Elt Ideal) (arg9.view.writes (Elt Ideal) X
      ((st_k0_t2 (F := Ideal) 𝒱 c bd i arg2 harg2 arg3 harg3 arg4 harg4 arg5 harg5 arg6 harg6 arg7 harg7 arg8 harg8 arg9 harg9 v19
        X_arg2 X_arg3 X_arg4 X_arg5 X_arg6 G_arg9 init (Scf.trips (k0_t2_loop i).lb (k0_t2_loop i).ub (k0_t2_loop i).st)).2 ++ L))) f := by
  rw [t2_snd, List.nil_append]; exact h

end Second

namespace Data
variable (D : Data)

theorem acc_all (old : ℕ → ℕ → ℕ → ℝ) {b : ℕ} (hb : D.R + 512 ≤ b) (t s x : ℕ) : D.acc old b t s x = old t s x + D.C t s x := by
  unfold acc
  split
  · rfl
  · rw [D.C_zero (by omega)]

/-- Rows of the first half see nothing of the last keys. -/
theorem dq_more (h r x : ℕ) {b : ℕ} (hr : r < 256) (hb : D.R + 256 ≤ b) : D.dq (b + 256) h r x = D.dq b h r x := by
  unfold dq
  rw [← sum_split, add_eq_left]
  exact Finset.sum_eq_zero fun s _ => by
    unfold d
    rw [dS_zero (by omega), zero_mul]

end Data

variable {sp : Space}

/-- An output stored in two halves of its columns. -/
theorem halves {a : ℕ} (v : View sig .tc sp (⟨2, ![a, 256]⟩ : Shape) .bf16) (X : v.ty.Contents (Elt Ideal))
    (inb1 : ∀ x : Fin 2, (![0, 0] : Fin 2 → ℕ) x + (![a, 128] : Fin 2 → ℕ) x ≤ (![a, 256] : Fin 2 → ℕ) x)
    (inb2 : ∀ x : Fin 2, (![0, 128] : Fin 2 → ℕ) x + (![a, 128] : Fin 2 → ℕ) x ≤ (![a, 256] : Fin 2 → ℕ) x)
    (w1 w2 : (⟨2, ![a, 128]⟩ : Shape).Idx → EReal) (g1 g2 : ℕ → ℕ → ℝ) [h1 : Is2 w1 g1] [h2 : Is2 w2 g2] :
    Is2 (v.read (Elt Ideal) (v.writes (Elt Ideal) X [⟨Rect.unit (s := ⟨2, ![a, 256]⟩) ![0, 128] (![a, 128] : Fin 2 → ℕ) inb2, w2⟩,
      ⟨Rect.unit (s := ⟨2, ![a, 256]⟩) ![0, 0] (![a, 128] : Fin 2 → ℕ) inb1, w1⟩]))
      (fun i j => if 128 ≤ j then g2 i (j - 128) else g1 i j) := by
  refine ⟨fun i j => ?_⟩
  have hj := j.isLt
  split <;> rename_i h
  · refine (View.read_writes_cons_unit_of_mem (s := ⟨2, ![a, 256]⟩) v X inb2 w2 _ (ix2 i j) (ix2 i (⟨j.val - 128, by omega⟩ : Fin 128)) rfl ?_).trans (h2.eq _ _)
    intro ax
    match ax with
    | ⟨0, _⟩ => exact (show i.val = 0 + i.val by omega)
    | ⟨1, _⟩ => exact (show j.val = 128 + (j.val - 128) by omega)
  · refine (View.read_writes_cons_unit_of_not_mem (s := ⟨2, ![a, 256]⟩) v X inb2 w2 _ (ix2 i j) rfl 1 ?_).trans ?_
    · show j.val < 128 ∨ 128 + 128 ≤ j.val
      omega
    · refine (View.read_writes_cons_unit_of_mem (s := ⟨2, ![a, 256]⟩) v X inb1 w1 _ (ix2 i j) (ix2 i (⟨j.val, by omega⟩ : Fin 128)) rfl ?_).trans (h1.eq _ _)
      intro ax
      match ax with
      | ⟨0, _⟩ => exact (show i.val = 0 + i.val by omega)
      | ⟨1, _⟩ => exact (show j.val = 0 + j.val by omega)

/-- A buffer stored whole. -/
theorem whole3 {a b c : ℕ} (v : View sig .tc sp (⟨3, ![a, b, c]⟩ : Shape) .f32) (X : v.ty.Contents (Elt Ideal))
    (inb : ∀ x : Fin 3, (![0, 0, 0] : Fin 3 → ℕ) x + (![a, b, c] : Fin 3 → ℕ) x ≤ (![a, b, c] : Fin 3 → ℕ) x)
    (w : (⟨3, ![a, b, c]⟩ : Shape).Idx → EReal) (g : ℕ → ℕ → ℕ → ℝ) [h1 : Is3 w g] :
    Is3 (v.read (Elt Ideal) (v.writes (Elt Ideal) X [⟨Rect.unit (s := ⟨3, ![a, b, c]⟩) ![0, 0, 0] (![a, b, c] : Fin 3 → ℕ) inb, w⟩])) g := by
  refine ⟨fun t i j => ?_⟩
  refine (View.read_writes_cons_unit_of_mem (s := ⟨3, ![a, b, c]⟩) v X inb w _ (ix3 t i j) (ix3 t i j) rfl ?_).trans (h1.eq _ _ _)
  intro ax
  match ax with
  | ⟨0, _⟩ => exact (show t.val = 0 + t.val by omega)
  | ⟨1, _⟩ => exact (show i.val = 0 + i.val by omega)
  | ⟨2, _⟩ => exact (show j.val = 0 + j.val by omega)

end Cert.Calc
-- ==== Proof.StepA.lean ====
module

public import proofs.«01_k».proof.Proof.DiagBase
public import proofs.«01_k».proof.Proof.Gen.KernelIdeal.Frame.RunB

/-!
A step that begins the accumulator of the key and value cotangents: what it leaves in the two outputs.
-/

@[expose] public section

noncomputable section

namespace Cert.Calc

open Idealize.ShloMosaic hiding ix1 ix2 ix3 ix4
open Idealize.ShloMosaic.ValueIdx Cert.KernelIdeal Cert.KernelIdeal.Gen Cert.KernelIdeal.Gen.kernelRun0_A
open scoped BigOperators

variable (c : Dev nD) (i : grid0.Coords)
variable (arg2 : Memref sig .tc .vmem S512x256 .bf16) (harg2 : arg2.IsWhole) (arg3 : Memref sig .tc .vmem S2048x256 .bf16) (harg3 : arg3.IsWhole)
variable (arg4 : Memref sig .tc .vmem S2048x256 .bf16) (harg4 : arg4.IsWhole) (arg5 : Memref sig .tc .vmem S512x256 .bf16) (harg5 : arg5.IsWhole)
variable (arg6 : Memref sig .tc .vmem S2x512x1 .f32) (harg6 : arg6.IsWhole) (arg7 : Memref sig .tc .vmem S8x128 .f32) (harg7 : arg7.IsWhole)
variable (arg8 : Memref sig .tc .vmem S512x256 .bf16) (harg8 : arg8.IsWhole) (arg9 : Memref sig .tc .vmem S2x2048x256 .f32) (harg9 : arg9.IsWhole)
variable (x0 : Vec Ideal S512x256 .bf16) (x1 x2 : Vec Ideal S2048x256 .bf16) (x3 : Vec Ideal S512x256 .bf16)
variable (x4 : Vec Ideal S2x512x1 .f32) (x5 : Vec Ideal S8x128 .f32)
variable (D : Data) (hR : D.R = 512 * (i 1).val)

set_option maxHeartbeats 40000000 in
include hR in
/-- What a step leaves in the two outputs. -/
theorem step_A (hc0 : cond0_0 i) [h0 : Is2 x0 D.Q] [h1 : Is2 x1 D.K] [h2 : Is2 x2 D.V] [h3 : Is2 x3 D.G] [h4 : Is3 x4 (fun h r _ => D.T h r)]
    (Y : BufTy.Contents (Elt Ideal) arg8.view.ty) :
    Is2 (arg8.view.read (Elt Ideal) (arg8.view.writes (Elt Ideal) Y
      (kernelRun0_A (F := Ideal) c i arg2 harg2 arg3 harg3 arg4 harg4 arg5 harg5 arg6 harg6 arg7 harg7 arg8 harg8 arg9 harg9 hc0 x0 x1 x2 x3 x4 x5).1)) (fun r x => D.dq (512 * (i 1).val + 512) (x / 128) r (x % 128)) ∧
    Is3 (arg9.view.read (Elt Ideal) (arg9.view.writes (Elt Ideal) arg9.view.junk
      (kernelRun0_A (F := Ideal) c i arg2 harg2 arg3 harg3 arg4 harg4 arg5 harg5 arg6 harg6 arg7 harg7 arg8 harg8 arg9 harg9 hc0 x0 x1 x2 x3 x4 x5).2.1)) (fun t s x => D.C t s x) := by
  haveI : Is2 (arg2.view.read (Elt Ideal) (harg2.unread x0)) D.Q := by rw [harg2.read_unread]; exact h0
  haveI : Is2 (arg3.view.read (Elt Ideal) (harg3.unread x1)) D.K := by rw [harg3.read_unread]; exact h1
  haveI : Is2 (arg4.view.read (Elt Ideal) (harg4.unread x2)) D.V := by rw [harg4.read_unread]; exact h2
  haveI : Is2 (arg5.view.read (Elt Ideal) (harg5.unread x3)) D.G := by rw [harg5.read_unread]; exact h3
  haveI : Is3 (arg6.view.read (Elt Ideal) (harg6.unread x4)) (fun h r _ => D.T h r) := by rw [harg6.read_unread]; exact h4
  have hB : Is3 (arg9.view.read (Elt Ideal) (arg9.view.writes (Elt Ideal) arg9.view.junk (sl.H7_1 (F := Ideal)))) (fun _ _ _ => 0) := by
    unfold sl.H7_1; exact whole3 _ _ _ _ _
  have hb : 256 * Scf.trips (k0_t1_loop i).lb (k0_t1_loop i).ub (k0_t1_loop i).st = 512 * (i 1).val := by
    have h : Scf.trips (k0_t1_loop i).lb (k0_t1_loop i).ub (k0_t1_loop i).st = 2 * (i 1).val := trips_t1 i
    omega
  obtain ⟨hC, hS⟩ := loop_n Variants.none c none i arg2 harg2 arg3 harg3 arg4 harg4 arg5 harg5 arg6 harg6 arg7 harg7 arg8 harg8 arg9 harg9 (harg2.unread x0) (harg3.unread x1) (harg4.unread x2) (harg5.unread x3) (harg6.unread x4)
    D hR (arg9.view.writes (Elt Ideal) arg9.view.junk sl.H7_1) (fun _ _ _ => 0)
    (k0_pay58, k0_pay57, k0_pay57, k0_pay59, k0_pay57, k0_pay57) (carry_zero D) hB
    (Scf.trips (k0_t1_loop i).lb (k0_t1_loop i).ub (k0_t1_loop i).st) (le_of_eq (trips_t1 i))
  rw [hb] at hC hS
  rw [← View.writes_append] at hS
  haveI := hS
  haveI i_r : Is2 (sl.r (F := Ideal) c i arg2 harg2 arg3 harg3 arg4 harg4 arg5 harg5 arg6 harg6 arg7 harg7 arg8 harg8 arg9 harg9 x0 x1 x2 x3 x4) _ := by unfold sl.r; exact (t2_carry _ _ _ _ _ _ _ _ _ _ _ _ _ _ _ _ _ _ _ _ _ _ _ _ _ _ _ _ D _ hC).dq0
  haveI i_r_1 : Is2 (sl.r_1 (F := Ideal) c i arg2 harg2 arg3 harg3 arg4 harg4 arg5 harg5 arg6 harg6 arg7 harg7 arg8 harg8 arg9 harg9 x0 x1 x2 x3 x4) _ := by unfold sl.r_1; exact (t2_carry _ _ _ _ _ _ _ _ _ _ _ _ _ _ _ _ _ _ _ _ _ _ _ _ _ _ _ _ D _ hC).p0
  haveI i_r_2 : Is2 (sl.r_2 (F := Ideal) c i arg2 harg2 arg3 harg3 arg4 harg4 arg5 harg5 arg6 harg6 arg7 harg7 arg8 harg8 arg9 harg9 x0 x1 x2 x3 x4) _ := by unfold sl.r_2; exact (t2_carry _ _ _ _ _ _ _ _ _ _ _ _ _ _ _ _ _ _ _ _ _ _ _ _ _ _ _ _ D _ hC).e0
  haveI i_r_3 : Is2 (sl.r_3 (F := Ideal) c i arg2 harg2 arg3 harg3 arg4 harg4 arg5 harg5 arg6 harg6 arg7 harg7 arg8 harg8 arg9 harg9 x0 x1 x2 x3 x4) _ := by unfold sl.r_3; exact (t2_carry _ _ _ _ _ _ _ _ _ _ _ _ _ _ _ _ _ _ _ _ _ _ _ _ _ _ _ _ D _ hC).dq1
  haveI i_r_4 : Is2 (sl.r_4 (F := Ideal) c i arg2 harg2 arg3 harg3 arg4 harg4 arg5 harg5 arg6 harg6 arg7 harg7 arg8 harg8 arg9 harg9 x0 x1 x2 x3 x4) _ := by unfold sl.r_4; exact (t2_carry _ _ _ _ _ _ _ _ _ _ _ _ _ _ _ _ _ _ _ _ _ _ _ _ _ _ _ _ D _ hC).p1
  haveI i_r_5 : Is2 (sl.r_5 (F := Ideal) c i arg2 harg2 arg3 harg3 arg4 harg4 arg5 harg5 arg6 harg6 arg7 harg7 arg8 harg8 arg9 harg9 x0 x1 x2 x3 x4) _ := by unfold sl.r_5; exact (t2_carry _ _ _ _ _ _ _ _ _ _ _ _ _ _ _ _ _ _ _ _ _ _ _ _ _ _ _ _ D _ hC).e1
  haveI i_cst_29 : IsS (sl.cst_29 (F := Ideal) ) _ := by unfold sl.cst_29; infer_instance
  haveI i_cst_45 : Is2 (sl.cst_45 (F := Ideal) ) _ := by unfold sl.cst_45; infer_instance
  haveI i_r_6 : Is2 (sl.r_6 (F := Ideal) arg2 harg2 x0) _ := by unfold sl.r_6; infer_instance
  haveI i_r_7 : Is2 (sl.r_7 (F := Ideal) i arg3 harg3 x1) _ := by unfold sl.r_7; infer_instance
  haveI i_r_8 : Is2 (sl.r_8 (F := Ideal) i arg2 harg2 arg3 harg3 x0 x1) _ := by unfold sl.r_8; infer_instance
  haveI i_r_9 : Is2 (sl.r_9 (F := Ideal) i arg2 harg2 arg3 harg3 x0 x1) _ := by unfold sl.r_9; infer_instance
  haveI i_r_10 : Is2 (sl.r_10 (F := Ideal) i arg2 harg2 arg3 harg3 x0 x1) _ := by unfold sl.r_10; infer_instance
  haveI i_r_11 : Is2 (sl.r_11 (F := Ideal) i arg2 harg2 arg3 harg3 x0 x1) _ := by unfold sl.r_11; infer_instance
  haveI i_r_12 : Is2 (sl.r_12 (F := Ideal) i arg2 harg2 arg3 harg3 x0 x1) _ := by unfold sl.r_12; infer_instance
  haveI i_r_13 : Is2 (sl.r_13 (F := Ideal) i arg2 harg2 arg3 harg3 x0 x1) _ := by unfold sl.r_13; infer_instance
  haveI i_r_14 : Is2 (sl.r_14 (F := Ideal) c i arg2 harg2 arg3 harg3 arg4 harg4 arg5 harg5 arg6 harg6 arg7 harg7 arg8 harg8 arg9 harg9 x0 x1 x2 x3 x4) _ := by unfold sl.r_14; infer_instance
  haveI i_r_15 : Is2 (sl.r_15 (F := Ideal) c i arg2 harg2 arg3 harg3 arg4 harg4 arg5 harg5 arg6 harg6 arg7 harg7 arg8 harg8 arg9 harg9 x0 x1 x2 x3 x4) _ := by unfold sl.r_15; infer_instance
  haveI i_r_16 : Is2 (sl.r_16 (F := Ideal) i arg2 harg2 arg3 harg3 x0 x1) _ := by unfold sl.r_16; infer_instance
  haveI i_r_17 : Is2 (sl.r_17 (F := Ideal) c i arg2 harg2 arg3 harg3 arg4 harg4 arg5 harg5 arg6 harg6 arg7 harg7 arg8 harg8 arg9 harg9 x0 x1 x2 x3 x4) _ := by unfold sl.r_17; infer_instance
  haveI i_r_18 : Is2 (sl.r_18 (F := Ideal) arg5 harg5 x3) _ := by unfold sl.r_18; infer_instance
  haveI i_r_19 : Is2 (sl.r_19 (F := Ideal) i arg4 harg4 x2) _ := by unfold sl.r_19; infer_instance
  haveI i_r_20 : Is2 (sl.r_20 (F := Ideal) c i arg2 harg2 arg3 harg3 arg4 harg4 arg5 harg5 arg6 harg6 arg7 harg7 arg8 harg8 arg9 harg9 x0 x1 x2 x3 x4) _ := by unfold sl.r_20; infer_instance
  haveI i_r_21 : Is2 (sl.r_21 (F := Ideal) c i arg2 harg2 arg3 harg3 arg4 harg4 arg5 harg5 arg6 harg6 arg7 harg7 arg8 harg8 arg9 harg9 x0 x1 x2 x3 x4) _ := by unfold sl.r_21; infer_instance
  haveI i_r_22 : Is2 (sl.r_22 (F := Ideal) c i arg2 harg2 arg3 harg3 arg4 harg4 arg5 harg5 arg6 harg6 arg7 harg7 arg8 harg8 arg9 harg9 x0 x1 x2 x3 x4) _ := by unfold sl.r_22; infer_instance
  haveI i_v140 : Is3 (sl.v140 (F := Ideal) c i arg2 harg2 arg3 harg3 arg4 harg4 arg5 harg5 arg6 harg6 arg7 harg7 arg8 harg8 arg9 harg9 x0 x1 x2 x3 x4) _ := by unfold sl.v140; exact load3 (hv := t2_store _ _ _ _ _ _ _ _ _ _ _ _ _ _ _ _ _ _ _ _ _ _ _ _ _ _ _ _ _ _ _ hS) _ _ _ _ _ _ _ _
  haveI s_H7_1_1 : Is3 (arg9.view.read (Elt Ideal) (arg9.view.writes (Elt Ideal) arg9.view.junk (sl.H7_1_1 (F := Ideal) c i arg2 harg2 arg3 harg3 arg4 harg4 arg5 harg5 arg6 harg6 arg7 harg7 arg8 harg8 arg9 harg9 x0 x1 x2 x3 x4))) _ := by
    unfold sl.H7_1_1
    exact store3 arg9.view _ _ _ _ _ _ 0 (512 * (i 1).val) 0 _ (t2_store _ _ _ _ _ _ _ _ _ _ _ _ _ _ _ _ _ _ _ _ _ _ _ _ _ _ _ _ _ _ _ hS) inferInstance
  haveI s_H7_2 : Is3 (arg9.view.read (Elt Ideal) (arg9.view.writes (Elt Ideal) arg9.view.junk (sl.H7_2 (F := Ideal) c i arg2 harg2 arg3 harg3 arg4 harg4 arg5 harg5 arg6 harg6 arg7 harg7 arg8 harg8 arg9 harg9 x0 x1 x2 x3 x4))) _ := by
    unfold sl.H7_2
    exact store3 arg9.view _ _ _ _ _ _ 1 (512 * (i 1).val) 0 _ inferInstance inferInstance
  haveI i_r_26 : Is2 (sl.r_26 (F := Ideal) c i arg2 harg2 arg3 harg3 arg4 harg4 arg5 harg5 arg6 harg6 arg7 harg7 arg8 harg8 arg9 harg9 x0 x1 x2 x3 x4) _ := by unfold sl.r_26; infer_instance
  haveI s_H7_3 : Is3 (arg9.view.read (Elt Ideal) (arg9.view.writes (Elt Ideal) arg9.view.junk (sl.H7_3 (F := Ideal) c i arg2 harg2 arg3 harg3 arg4 harg4 arg5 harg5 arg6 harg6 arg7 harg7 arg8 harg8 arg9 harg9 x0 x1 x2 x3 x4))) _ := by
    unfold sl.H7_3
    exact store3 arg9.view _ _ _ _ _ _ 0 (512 * (i 1).val) 128 _ inferInstance inferInstance
  haveI i_r_27 : Is2 (sl.r_27 (F := Ideal) c i arg2 harg2 arg3 harg3 arg4 harg4 arg5 harg5 arg6 harg6 arg7 harg7 arg8 harg8 arg9 harg9 x0 x1 x2 x3 x4) _ := by unfold sl.r_27; infer_instance
  have hp0 : ∀ r s, r < 512 → s < 256 → pd r s = pc D.R (0 + r) (512 * (i 1).val + s) := fun r s _ hs => by
    simp only [pd, pc]; exact decide_eq_decide.mpr (by omega)
  have z : ∀ r, 0 + r = r := Nat.zero_add
  have DD0 : ∀ r s, r < 512 → s < 256 → _ := fun r s => Data.d_blk (D := D) (b := 512 * (i 1).val) (n := 512) (o := 0) (c := 0) (h := 0) hp0 rfl
    (ctl := fun r => D.T 0 (0 + r)) (psl := fun r => ∑ j ∈ Finset.range (512 * (i 1).val), D.m 0 r j) (esl := fun r => ∑ j ∈ Finset.range (512 * (i 1).val), D.e 0 r j)
    (fun _ => rfl) (fun r => by rw [z]) (fun r => by rw [z]) r s
  have DD1 : ∀ r s, r < 512 → s < 256 → _ := fun r s => Data.d_blk (D := D) (b := 512 * (i 1).val) (n := 512) (o := 0) (c := 128) (h := 1) hp0 rfl
    (ctl := fun r => D.T 1 (0 + r)) (psl := fun r => ∑ j ∈ Finset.range (512 * (i 1).val), D.m 1 r j) (esl := fun r => ∑ j ∈ Finset.range (512 * (i 1).val), D.e 1 r j)
    (fun _ => rfl) (fun r => by rw [z]) (fun r => by rw [z]) r s
  have DE0 : ∀ r s, r < 512 → s < 256 → _ := fun r s => Data.e_blk (D := D) (b := 512 * (i 1).val) (n := 512) (o := 0) (c := 0) (h := 0) hp0 rfl
    (ctl := fun r => D.T 0 (0 + r)) (psl := fun r => ∑ j ∈ Finset.range (512 * (i 1).val), D.m 0 r j) (fun _ => rfl) (fun r => by rw [z]) r s
  have DE1 : ∀ r s, r < 512 → s < 256 → _ := fun r s => Data.e_blk (D := D) (b := 512 * (i 1).val) (n := 512) (o := 0) (c := 128) (h := 1) hp0 rfl
    (ctl := fun r => D.T 1 (0 + r)) (psl := fun r => ∑ j ∈ Finset.range (512 * (i 1).val), D.m 1 r j) (fun _ => rfl) (fun r => by rw [z]) r s
  have DA0 : ∀ r s, r < 512 → s < 256 → _ := fun r s => Data.a_blk (D := D) (b := 512 * (i 1).val) (n := 512) (o := 0) (c := 0) (h := 0) hp0 rfl
    (ctl := fun r => D.T 0 (0 + r)) (psl := fun r => ∑ j ∈ Finset.range (512 * (i 1).val), D.m 0 r j) (fun _ => rfl) (fun r => by rw [z]) r s
  have DA1 : ∀ r s, r < 512 → s < 256 → _ := fun r s => Data.a_blk (D := D) (b := 512 * (i 1).val) (n := 512) (o := 0) (c := 128) (h := 1) hp0 rfl
    (ctl := fun r => D.T 1 (0 + r)) (psl := fun r => ∑ j ∈ Finset.range (512 * (i 1).val), D.m 1 r j) (fun _ => rfl) (fun r => by rw [z]) r s
  haveI s_H4 : Is3 (arg9.view.read (Elt Ideal) (arg9.view.writes (Elt Ideal) arg9.view.junk (sl.H7_4 (F := Ideal) c i arg2 harg2 arg3 harg3 arg4 harg4 arg5 harg5 arg6 harg6 arg7 harg7 arg8 harg8 arg9 harg9 x0 x1 x2 x3 x4))) (D.acc (fun _ _ _ => 0) (512 * (i 1).val + 256)) := by
    unfold sl.H7_4
    refine Is3.congr (store3 arg9.view _ _ _ _ _ _ 1 (512 * (i 1).val) 128 _ inferInstance inferInstance) fun t s x ht hs hx =>
      Data.acc_step D (fun _ _ _ => 0) (512 * (i 1).val) _ _ _ _ ?_ ?_ ?_ ?_ t s x ht hx
    · intro s x hs hx
      refine D.C0_of (h := 0) (by omega) fun r hr => ?_
      rw [DD0 r s hr hs, z, z]
    · intro s x hs hx
      refine D.C1_of (h := 0) (by omega) fun r hr => ?_
      rw [DA0 r s hr hs, z, z]
    · intro s x hs hx
      refine D.C0_of (h := 1) (by omega) fun r hr => ?_
      rw [DD1 r s hr hs, z]
    · intro s x hs hx
      refine D.C1_of (h := 1) (by omega) fun r hr => ?_
      rw [DA1 r s hr hs, z]
  haveI i_r_23 : Is2 (sl.r_23 (F := Ideal) c i arg2 harg2 arg3 harg3 arg4 harg4 arg5 harg5 arg6 harg6 arg7 harg7 arg8 harg8 arg9 harg9 x0 x1 x2 x3 x4) (D.dq (512 * (i 1).val + 256) 0) := by
    unfold sl.r_23
    refine Is2.congr inferInstance fun r x hr hx => Data.sum_blk fun s hs => ?_
    rw [DD0 r s hr hs]; unfold col; rw [z, z]
  haveI i_r_28 : Is2 (sl.r_28 (F := Ideal) c i arg2 harg2 arg3 harg3 arg4 harg4 arg5 harg5 arg6 harg6 arg7 harg7 arg8 harg8 arg9 harg9 x0 x1 x2 x3 x4) (D.dq (512 * (i 1).val + 256) 1) := by
    unfold sl.r_28
    refine Is2.congr inferInstance fun r x hr hx => Data.sum_blk fun s hs => ?_
    rw [DD1 r s hr hs, z]; rfl
  haveI i_r_24 : Is2 (sl.r_24 (F := Ideal) c i arg2 harg2 arg3 harg3 arg4 harg4 arg5 harg5 arg6 harg6 arg7 harg7 arg8 harg8 arg9 harg9 x0 x1 x2 x3 x4) (fun r _ => ∑ j ∈ Finset.range (512 * (i 1).val + 256), D.m 0 r j) := by
    unfold sl.r_24
    refine Is2.congr inferInstance fun r x hr hx => Data.sum_blk fun s hs => ?_
    rw [Data.m_blk (D := D) (h := 0) hp0 rfl r s hr hs, z]
  haveI i_r_29 : Is2 (sl.r_29 (F := Ideal) c i arg2 harg2 arg3 harg3 arg4 harg4 arg5 harg5 arg6 harg6 arg7 harg7 arg8 harg8 arg9 harg9 x0 x1 x2 x3 x4) (fun r _ => ∑ j ∈ Finset.range (512 * (i 1).val + 256), D.m 1 r j) := by
    unfold sl.r_29
    refine Is2.congr inferInstance fun r x hr hx => Data.sum_blk fun s hs => ?_
    rw [Data.m_blk (D := D) (h := 1) hp0 rfl r s hr hs, z]
  haveI i_r_25 : Is2 (sl.r_25 (F := Ideal) c i arg2 harg2 arg3 harg3 arg4 harg4 arg5 harg5 arg6 harg6 arg7 harg7 arg8 harg8 arg9 harg9 x0 x1 x2 x3 x4) (fun r _ => ∑ j ∈ Finset.range (512 * (i 1).val + 256), D.e 0 r j) := by
    unfold sl.r_25
    refine Is2.congr inferInstance fun r x hr hx => Data.sum_blk fun s hs => ?_
    rw [DE0 r s hr hs, z]
  haveI i_r_30 : Is2 (sl.r_30 (F := Ideal) c i arg2 harg2 arg3 harg3 arg4 harg4 arg5 harg5 arg6 harg6 arg7 harg7 arg8 harg8 arg9 harg9 x0 x1 x2 x3 x4) (fun r _ => ∑ j ∈ Finset.range (512 * (i 1).val + 256), D.e 1 r j) := by
    unfold sl.r_30
    refine Is2.congr inferInstance fun r x hr hx => Data.sum_blk fun s hs => ?_
    rw [DE1 r s hr hs, z]
  haveI i_r_31 : Is2 (sl.r_31 (F := Ideal) i arg2 harg2 arg3 harg3 x0 x1) _ := by unfold sl.r_31; infer_instance
  haveI i_r_32 : Is2 (sl.r_32 (F := Ideal) i arg2 harg2 arg3 harg3 x0 x1) _ := by unfold sl.r_32; infer_instance
  haveI i_r_33 : Is2 (sl.r_33 (F := Ideal) i arg2 harg2 arg3 harg3 x0 x1) _ := by unfold sl.r_33; infer_instance
  haveI i_r_34 : Is2 (sl.r_34 (F := Ideal) i arg2 harg2 arg3 harg3 x0 x1) _ := by unfold sl.r_34; infer_instance
  haveI i_r_35 : Is2 (sl.r_35 (F := Ideal) i arg2 harg2 arg3 harg3 x0 x1) _ := by unfold sl.r_35; infer_instance
  haveI i_r_36 : Is2 (sl.r_36 (F := Ideal) i arg2 harg2 arg3 harg3 x0 x1) _ := by unfold sl.r_36; infer_instance
  haveI i_r_37 : Is2 (sl.r_37 (F := Ideal) i arg2 harg2 arg3 harg3 x0 x1) _ := by unfold sl.r_37; infer_instance
  haveI i_r_38 : Is3 (a := 1) (b := 256) (c := 1) (sl.r_38 (F := Ideal) arg6 harg6 x4) _ := by unfold sl.r_38; exact load3c (m := 256) arg6.view _ _ _ _ _ _ _
  haveI i_r_39 : Is2 (sl.r_39 (F := Ideal) c i arg2 harg2 arg3 harg3 arg4 harg4 arg5 harg5 arg6 harg6 arg7 harg7 arg8 harg8 arg9 harg9 x0 x1 x2 x3 x4) _ := by unfold sl.r_39; infer_instance
  haveI i_r_40 : Is2 (sl.r_40 (F := Ideal) c i arg2 harg2 arg3 harg3 arg4 harg4 arg5 harg5 arg6 harg6 arg7 harg7 arg8 harg8 arg9 harg9 x0 x1 x2 x3 x4) _ := by unfold sl.r_40; infer_instance
  haveI i_r_41 : Is2 (sl.r_41 (F := Ideal) i arg2 harg2 arg3 harg3 x0 x1) _ := by unfold sl.r_41; infer_instance
  haveI i_r_42 : Is2 (sl.r_42 (F := Ideal) c i arg2 harg2 arg3 harg3 arg4 harg4 arg5 harg5 arg6 harg6 arg7 harg7 arg8 harg8 arg9 harg9 x0 x1 x2 x3 x4) _ := by unfold sl.r_42; infer_instance
  haveI i_r_43 : Is2 (sl.r_43 (F := Ideal) c i arg2 harg2 arg3 harg3 arg4 harg4 arg5 harg5 arg6 harg6 arg7 harg7 arg8 harg8 arg9 harg9 x0 x1 x2 x3 x4) _ := by unfold sl.r_43; infer_instance
  haveI i_r_44 : Is2 (sl.r_44 (F := Ideal) c i arg2 harg2 arg3 harg3 arg4 harg4 arg5 harg5 arg6 harg6 arg7 harg7 arg8 harg8 arg9 harg9 x0 x1 x2 x3 x4) _ := by unfold sl.r_44; infer_instance
  haveI i_r_45 : Is2 (sl.r_45 (F := Ideal) c i arg2 harg2 arg3 harg3 arg4 harg4 arg5 harg5 arg6 harg6 arg7 harg7 arg8 harg8 arg9 harg9 x0 x1 x2 x3 x4) _ := by unfold sl.r_45; infer_instance
  haveI i_r_47 : Is2 (sl.r_47 (F := Ideal) i arg2 harg2 arg3 harg3 x0 x1) _ := by unfold sl.r_47; infer_instance
  haveI i_r_48 : Is2 (sl.r_48 (F := Ideal) c i arg2 harg2 arg3 harg3 arg4 harg4 arg5 harg5 arg6 harg6 arg7 harg7 arg8 harg8 arg9 harg9 x0 x1 x2 x3 x4) _ := by unfold sl.r_48; infer_instance
  haveI i_r_49 : Is2 (sl.r_49 (F := Ideal) c i arg2 harg2 arg3 harg3 arg4 harg4 arg5 harg5 arg6 harg6 arg7 harg7 arg8 harg8 arg9 harg9 x0 x1 x2 x3 x4) _ := by unfold sl.r_49; infer_instance
  haveI i_r_46 : Is2 (sl.r_46 (F := Ideal) c i arg2 harg2 arg3 harg3 arg4 harg4 arg5 harg5 arg6 harg6 arg7 harg7 arg8 harg8 arg9 harg9 x0 x1 x2 x3 x4) _ := by unfold sl.r_46; infer_instance
  haveI i_r_50 : Is2 (sl.r_50 (F := Ideal) c i arg2 harg2 arg3 harg3 arg4 harg4 arg5 harg5 arg6 harg6 arg7 harg7 arg8 harg8 arg9 harg9 x0 x1 x2 x3 x4) _ := by unfold sl.r_50; infer_instance
  haveI s_H7_5 : Is3 (arg9.view.read (Elt Ideal) (arg9.view.writes (Elt Ideal) arg9.view.junk (sl.H7_5 (F := Ideal) c i arg2 harg2 arg3 harg3 arg4 harg4 arg5 harg5 arg6 harg6 arg7 harg7 arg8 harg8 arg9 harg9 x0 x1 x2 x3 x4))) _ := by
    unfold sl.H7_5
    exact store3 arg9.view _ _ _ _ _ _ 0 (512 * (i 1).val + 256) 0 _ inferInstance inferInstance
  haveI s_H7_6 : Is3 (arg9.view.read (Elt Ideal) (arg9.view.writes (Elt Ideal) arg9.view.junk (sl.H7_6 (F := Ideal) c i arg2 harg2 arg3 harg3 arg4 harg4 arg5 harg5 arg6 harg6 arg7 harg7 arg8 harg8 arg9 harg9 x0 x1 x2 x3 x4))) _ := by
    unfold sl.H7_6
    exact store3 arg9.view _ _ _ _ _ _ 1 (512 * (i 1).val + 256) 0 _ inferInstance inferInstance
  haveI s_H7_7 : Is3 (arg9.view.read (Elt Ideal) (arg9.view.writes (Elt Ideal) arg9.view.junk (sl.H7_7 (F := Ideal) c i arg2 harg2 arg3 harg3 arg4 harg4 arg5 harg5 arg6 harg6 arg7 harg7 arg8 harg8 arg9 harg9 x0 x1 x2 x3 x4))) _ := by
    unfold sl.H7_7
    exact store3 arg9.view _ _ _ _ _ _ 0 (512 * (i 1).val + 256) 128 _ inferInstance inferInstance
  have hp1 : ∀ r s, r < 256 → s < 256 → pd r s = pc D.R (256 + r) (512 * (i 1).val + 256 + s) := fun r s _ hs => by
    simp only [pd, pc]; exact decide_eq_decide.mpr (by omega)
  have DD0' : ∀ r s, r < 256 → s < 256 → _ := fun r s => Data.d_blk (D := D) (b := 512 * (i 1).val + 256) (n := 256) (o := 256) (c := 0) (h := 0) hp1 rfl
    (ctl := fun r => D.T 0 (256 + r)) (psl := fun r => ∑ j ∈ Finset.range (512 * (i 1).val + 256), D.m 0 (256 + r) j) (esl := fun r => ∑ j ∈ Finset.range (512 * (i 1).val + 256), D.e 0 (256 + r) j) (fun _ => rfl) (fun _ => rfl) (fun _ => rfl) r s
  have DD1' : ∀ r s, r < 256 → s < 256 → _ := fun r s => Data.d_blk (D := D) (b := 512 * (i 1).val + 256) (n := 256) (o := 256) (c := 128) (h := 1) hp1 rfl
    (ctl := fun r => D.T 1 (256 + r)) (psl := fun r => ∑ j ∈ Finset.range (512 * (i 1).val + 256), D.m 1 (256 + r) j) (esl := fun r => ∑ j ∈ Finset.range (512 * (i 1).val + 256), D.e 1 (256 + r) j) (fun _ => rfl) (fun _ => rfl) (fun _ => rfl) r s
  have DA0' : ∀ r s, r < 256 → s < 256 → _ := fun r s => Data.a_blk (D := D) (b := 512 * (i 1).val + 256) (n := 256) (o := 256) (c := 0) (h := 0) hp1 rfl
    (ctl := fun r => D.T 0 (256 + r)) (psl := fun r => ∑ j ∈ Finset.range (512 * (i 1).val + 256), D.m 0 (256 + r) j) (fun _ => rfl) (fun _ => rfl) r s
  have DA1' : ∀ r s, r < 256 → s < 256 → _ := fun r s => Data.a_blk (D := D) (b := 512 * (i 1).val + 256) (n := 256) (o := 256) (c := 128) (h := 1) hp1 rfl
    (ctl := fun r => D.T 1 (256 + r)) (psl := fun r => ∑ j ∈ Finset.range (512 * (i 1).val + 256), D.m 1 (256 + r) j) (fun _ => rfl) (fun _ => rfl) r s
  unfold kernelRun0_A
  dsimp only
  constructor
  · refine Is2.congr (halves arg8.view Y _ _ _ _ _ _) fun r x hr hx => ?_
    split
    · rename_i hx2
      rw [show x / 128 = 1 by omega, show x % 128 = x - 128 by omega]
      split
      · exact (D.dq_more 1 r _ (by omega) (by omega)).symm
      · rename_i hr2
        exact (congrArg (_ + ·) (Finset.sum_congr rfl fun s hs => by
          rw [DD1' (r - 256) s (by omega) (Finset.mem_range.mp hs), Nat.add_sub_of_le (Nat.le_of_not_lt hr2)]; rfl)).trans (sum_split _ _ 256)
    · rename_i hx2
      rw [show x / 128 = 0 by omega, show x % 128 = x by omega]
      split
      · exact (D.dq_more 0 r _ (by omega) (by omega)).symm
      · rename_i hr2
        exact (congrArg (_ + ·) (Finset.sum_congr rfl fun s hs => by
          rw [DD0' (r - 256) s (by omega) (Finset.mem_range.mp hs), Nat.add_sub_of_le (Nat.le_of_not_lt hr2)]; rfl)).trans (sum_split _ _ 256)
  · refine Is3.congr (store3 arg9.view _ _ _ _ _ _ 1 (512 * (i 1).val + 256) 128 _ inferInstance inferInstance) fun t s x ht hs hx =>
      (Data.acc_step D (fun _ _ _ => 0) (512 * (i 1).val + 256) _ _ _ _ ?_ ?_ ?_ ?_ t s x ht hx).trans ((D.acc_all (fun _ _ _ => 0) (by omega) t s x).trans (zero_add _))
    · intro s x hs hx
      refine D.C0_of' (h := 0) (by omega) (by omega) fun r hr => ?_
      rw [DD0' r s hr hs, z]
    · intro s x hs hx
      refine D.C1_of' (h := 0) (by omega) (by omega) fun r hr => ?_
      rw [DA0' r s hr hs, z]
    · intro s x hs hx
      refine D.C0_of' (h := 1) (by omega) (by omega) fun r hr => ?_
      rw [DD1' r s hr hs]
    · intro s x hs hx
      refine D.C1_of' (h := 1) (by omega) (by omega) fun r hr => ?_
      rw [DA1' r s hr hs]

end Cert.Calc
-- ==== Proof.StepB.lean ====
module

public import proofs.«01_k».proof.Proof.DiagBase
public import proofs.«01_k».proof.Proof.Gen.KernelIdeal.Frame.RunB

/-!
A step that adds to the accumulator of the key and value cotangents: what it leaves in the two outputs.
-/

@[expose] public section

noncomputable section

namespace Cert.Calc

open Idealize.ShloMosaic hiding ix1 ix2 ix3 ix4
open Idealize.ShloMosaic.ValueIdx Cert.KernelIdeal Cert.KernelIdeal.Gen Cert.KernelIdeal.Gen.kernelRun0_B
open scoped BigOperators

variable (c : Dev nD) (i : grid0.Coords)
variable (arg2 : Memref sig .tc .vmem S512x256 .bf16) (harg2 : arg2.IsWhole) (arg3 : Memref sig .tc .vmem S2048x256 .bf16) (harg3 : arg3.IsWhole)
variable (arg4 : Memref sig .tc .vmem S2048x256 .bf16) (harg4 : arg4.IsWhole) (arg5 : Memref sig .tc .vmem S512x256 .bf16) (harg5 : arg5.IsWhole)
variable (arg6 : Memref sig .tc .vmem S2x512x1 .f32) (harg6 : arg6.IsWhole) (arg7 : Memref sig .tc .vmem S8x128 .f32) (harg7 : arg7.IsWhole)
variable (arg8 : Memref sig .tc .vmem S512x256 .bf16) (harg8 : arg8.IsWhole) (arg9 : Memref sig .tc .vmem S2x2048x256 .f32) (harg9 : arg9.IsWhole)
variable (x0 : Vec Ideal S512x256 .bf16) (x1 x2 : Vec Ideal S2048x256 .bf16) (x3 : Vec Ideal S512x256 .bf16)
variable (x4 : Vec Ideal S2x512x1 .f32) (x5 : Vec Ideal S8x128 .f32) (xo7 : Vec Ideal S2x2048x256 .f32)
variable (D : Data) (hR : D.R = 512 * (i 1).val) (old : ℕ → ℕ → ℕ → ℝ)

set_option maxHeartbeats 40000000 in
include hR in
/-- What a step leaves in the two outputs. -/
theorem step_B (hc0 : ¬cond0_0 i) [h0 : Is2 x0 D.Q] [h1 : Is2 x1 D.K] [h2 : Is2 x2 D.V] [h3 : Is2 x3 D.G] [h4 : Is3 x4 (fun h r _ => D.T h r)] [h7 : Is3 xo7 old]
    (Y : BufTy.Contents (Elt Ideal) arg8.view.ty) :
    Is2 (arg8.view.read (Elt Ideal) (arg8.view.writes (Elt Ideal) Y
      (kernelRun0_B (F := Ideal) c i arg2 harg2 arg3 harg3 arg4 harg4 arg5 harg5 arg6 harg6 arg7 harg7 arg8 harg8 arg9 harg9 hc0 x0 x1 x2 x3 x4 x5 xo7).1)) (fun r x => D.dq (512 * (i 1).val + 512) (x / 128) r (x % 128)) ∧
    Is3 (arg9.view.read (Elt Ideal) (arg9.view.writes (Elt Ideal) (harg9.unread xo7)
      (kernelRun0_B (F := Ideal) c i arg2 harg2 arg3 harg3 arg4 harg4 arg5 harg5 arg6 harg6 arg7 harg7 arg8 harg8 arg9 harg9 hc0 x0 x1 x2 x3 x4 x5 xo7).2.1)) (fun t s x => old t s x + D.C t s x) := by
  haveI : Is2 (arg2.view.read (Elt Ideal) (harg2.unread x0)) D.Q := by rw [harg2.read_unread]; exact h0
  haveI : Is2 (arg3.view.read (Elt Ideal) (harg3.unread x1)) D.K := by rw [harg3.read_unread]; exact h1
  haveI : Is2 (arg4.view.read (Elt Ideal) (harg4.unread x2)) D.V := by rw [harg4.read_unread]; exact h2
  haveI : Is2 (arg5.view.read (Elt Ideal) (harg5.unread x3)) D.G := by rw [harg5.read_unread]; exact h3
  haveI : Is3 (arg6.view.read (Elt Ideal) (harg6.unread x4)) (fun h r _ => D.T h r) := by rw [harg6.read_unread]; exact h4
  have hB : Is3 (arg9.view.read (Elt Ideal) (harg9.unread xo7)) old := by rw [harg9.read_unread]; exact h7
  have hb : 256 * Scf.trips (k0_t1_loop i).lb (k0_t1_loop i).ub (k0_t1_loop i).st = 512 * (i 1).val := by
    have h : Scf.trips (k0_t1_loop i).lb (k0_t1_loop i).ub (k0_t1_loop i).st = 2 * (i 1).val := trips_t1 i
    omega
  obtain ⟨hC, hS⟩ := loop_n Variants.none c none i arg2 harg2 arg3 harg3 arg4 harg4 arg5 harg5 arg6 harg6 arg7 harg7 arg8 harg8 arg9 harg9 (harg2.unread x0) (harg3.unread x1) (harg4.unread x2) (harg5.unread x3) (harg6.unread x4)
    D hR (harg9.unread xo7) old
    (k0_pay58, k0_pay57, k0_pay57, k0_pay59, k0_pay57, k0_pay57) (carry_zero D) hB
    (Scf.trips (k0_t1_loop i).lb (k0_t1_loop i).ub (k0_t1_loop i).st) (le_of_eq (trips_t1 i))
  rw [hb] at hC hS
  haveI := hS
  haveI i_r : Is2 (sl.r (F := Ideal) c i arg2 harg2 arg3 harg3 arg4 harg4 arg5 harg5 arg6 harg6 arg7 harg7 arg8 harg8 arg9 harg9 x0 x1 x2 x3 x4 xo7) _ := by unfold sl.r; exact (t2_carry _ _ _ _ _ _ _ _ _ _ _ _ _ _ _ _ _ _ _ _ _ _ _ _ _ _ _ _ D _ hC).dq0
  haveI i_r_1 : Is2 (sl.r_1 (F := Ideal) c i arg2 harg2 arg3 harg3 arg4 harg4 arg5 harg5 arg6 harg6 arg7 harg7 arg8 harg8 arg9 harg9 x0 x1 x2 x3 x4 xo7) _ := by unfold sl.r_1; exact (t2_carry _ _ _ _ _ _ _ _ _ _ _ _ _ _ _ _ _ _ _ _ _ _ _ _ _ _ _ _ D _ hC).p0
  haveI i_r_2 : Is2 (sl.r_2 (F := Ideal) c i arg2 harg2 arg3 harg3 arg4 harg4 arg5 harg5 arg6 harg6 arg7 harg7 arg8 harg8 arg9 harg9 x0 x1 x2 x3 x4 xo7) _ := by unfold sl.r_2; exact (t2_carry _ _ _ _ _ _ _ _ _ _ _ _ _ _ _ _ _ _ _ _ _ _ _ _ _ _ _ _ D _ hC).e0
  haveI i_r_3 : Is2 (sl.r_3 (F := Ideal) c i arg2 harg2 arg3 harg3 arg4 harg4 arg5 harg5 arg6 harg6 arg7 harg7 arg8 harg8 arg9 harg9 x0 x1 x2 x3 x4 xo7) _ := by unfold sl.r_3; exact (t2_carry _ _ _ _ _ _ _ _ _ _ _ _ _ _ _ _ _ _ _ _ _ _ _ _ _ _ _ _ D _ hC).dq1
  haveI i_r_4 : Is2 (sl.r_4 (F := Ideal) c i arg2 harg2 arg3 harg3 arg4 harg4 arg5 harg5 arg6 harg6 arg7 harg7 arg8 harg8 arg9 harg9 x0 x1 x2 x3 x4 xo7) _ := by unfold sl.r_4; exact (t2_carry _ _ _ _ _ _ _ _ _ _ _ _ _ _ _ _ _ _ _ _ _ _ _ _ _ _ _ _ D _ hC).p1
  haveI i_r_5 : Is2 (sl.r_5 (F := Ideal) c i arg2 harg2 arg3 harg3 arg4 harg4 arg5 harg5 arg6 harg6 arg7 harg7 arg8 harg8 arg9 harg9 x0 x1 x2 x3 x4 xo7) _ := by unfold sl.r_5; exact (t2_carry _ _ _ _ _ _ _ _ _ _ _ _ _ _ _ _ _ _ _ _ _ _ _ _ _ _ _ _ D _ hC).e1
  haveI i_cst_29 : IsS (sl.cst_29 (F := Ideal) ) _ := by unfold sl.cst_29; infer_instance
  haveI i_cst_45 : Is2 (sl.cst_45 (F := Ideal) ) _ := by unfold sl.cst_45; infer_instance
  haveI i_r_6 : Is2 (sl.r_6 (F := Ideal) arg2 harg2 x0) _ := by unfold sl.r_6; infer_instance
  haveI i_r_7 : Is2 (sl.r_7 (F := Ideal) i arg3 harg3 x1) _ := by unfold sl.r_7; infer_instance
  haveI i_r_8 : Is2 (sl.r_8 (F := Ideal) i arg2 harg2 arg3 harg3 x0 x1) _ := by unfold sl.r_8; infer_instance
  haveI i_r_9 : Is2 (sl.r_9 (F := Ideal) i arg2 harg2 arg3 harg3 x0 x1) _ := by unfold sl.r_9; infer_instance
  haveI i_r_10 : Is2 (sl.r_10 (F := Ideal) i arg2 harg2 arg3 harg3 x0 x1) _ := by unfold sl.r_10; infer_instance
  haveI i_r_11 : Is2 (sl.r_11 (F := Ideal) i arg2 harg2 arg3 harg3 x0 x1) _ := by unfold sl.r_11; infer_instance
  haveI i_r_12 : Is2 (sl.r_12 (F := Ideal) i arg2 harg2 arg3 harg3 x0 x1) _ := by unfold sl.r_12; infer_instance
  haveI i_r_13 : Is2 (sl.r_13 (F := Ideal) i arg2 harg2 arg3 harg3 x0 x1) _ := by unfold sl.r_13; infer_instance
  haveI i_r_14 : Is2 (sl.r_14 (F := Ideal) c i arg2 harg2 arg3 harg3 arg4 harg4 arg5 harg5 arg6 harg6 arg7 harg7 arg8 harg8 arg9 harg9 x0 x1 x2 x3 x4 xo7) _ := by unfold sl.r_14; infer_instance
  haveI i_r_15 : Is2 (sl.r_15 (F := Ideal) c i arg2 harg2 arg3 harg3 arg4 harg4 arg5 harg5 arg6 harg6 arg7 harg7 arg8 harg8 arg9 harg9 x0 x1 x2 x3 x4 xo7) _ := by unfold sl.r_15; infer_instance
  haveI i_r_16 : Is2 (sl.r_16 (F := Ideal) i arg2 harg2 arg3 harg3 x0 x1) _ := by unfold sl.r_16; infer_instance
  haveI i_r_17 : Is2 (sl.r_17 (F := Ideal) c i arg2 harg2 arg3 harg3 arg4 harg4 arg5 harg5 arg6 harg6 arg7 harg7 arg8 harg8 arg9 harg9 x0 x1 x2 x3 x4 xo7) _ := by unfold sl.r_17; infer_instance
  haveI i_r_18 : Is2 (sl.r_18 (F := Ideal) arg5 harg5 x3) _ := by unfold sl.r_18; infer_instance
  haveI i_r_19 : Is2 (sl.r_19 (F := Ideal) i arg4 harg4 x2) _ := by unfold sl.r_19; infer_instance
  haveI i_r_20 : Is2 (sl.r_20 (F := Ideal) c i arg2 harg2 arg3 harg3 arg4 harg4 arg5 harg5 arg6 harg6 arg7 harg7 arg8 harg8 arg9 harg9 x0 x1 x2 x3 x4 xo7) _ := by unfold sl.r_20; infer_instance
  haveI i_r_21 : Is2 (sl.r_21 (F := Ideal) c i arg2 harg2 arg3 harg3 arg4 harg4 arg5 harg5 arg6 harg6 arg7 harg7 arg8 harg8 arg9 harg9 x0 x1 x2 x3 x4 xo7) _ := by unfold sl.r_21; infer_instance
  haveI i_r_22 : Is2 (sl.r_22 (F := Ideal) c i arg2 harg2 arg3 harg3 arg4 harg4 arg5 harg5 arg6 harg6 arg7 harg7 arg8 harg8 arg9 harg9 x0 x1 x2 x3 x4 xo7) _ := by unfold sl.r_22; infer_instance
  haveI i_v140 : Is3 (sl.v140 (F := Ideal) c i arg2 harg2 arg3 harg3 arg4 harg4 arg5 harg5 arg6 harg6 arg7 harg7 arg8 harg8 arg9 harg9 x0 x1 x2 x3 x4 xo7) _ := by unfold sl.v140; exact load3 (hv := t2_store _ _ _ _ _ _ _ _ _ _ _ _ _ _ _ _ _ _ _ _ _ _ _ _ _ _ _ _ _ _ _ hS) _ _ _ _ _ _ _ _
  haveI s_H7_1 : Is3 (arg9.view.read (Elt Ideal) (arg9.view.writes (Elt Ideal) (harg9.unread xo7) (sl.H7_1 (F := Ideal) c i arg2 harg2 arg3 harg3 arg4 harg4 arg5 harg5 arg6 harg6 arg7 harg7 arg8 harg8 arg9 harg9 x0 x1 x2 x3 x4 xo7))) _ := by
    unfold sl.H7_1
    exact store3 arg9.view _ _ _ _ _ _ 0 (512 * (i 1).val) 0 _ (t2_store _ _ _ _ _ _ _ _ _ _ _ _ _ _ _ _ _ _ _ _ _ _ _ _ _ _ _ _ _ _ _ hS) inferInstance
  haveI s_H7_2 : Is3 (arg9.view.read (Elt Ideal) (arg9.view.writes (Elt Ideal) (harg9.unread xo7) (sl.H7_2 (F := Ideal) c i arg2 harg2 arg3 harg3 arg4 harg4 arg5 harg5 arg6 harg6 arg7 harg7 arg8 harg8 arg9 harg9 x0 x1 x2 x3 x4 xo7))) _ := by
    unfold sl.H7_2
    exact store3 arg9.view _ _ _ _ _ _ 1 (512 * (i 1).val) 0 _ inferInstance inferInstance
  haveI i_r_26 : Is2 (sl.r_26 (F := Ideal) c i arg2 harg2 arg3 harg3 arg4 harg4 arg5 harg5 arg6 harg6 arg7 harg7 arg8 harg8 arg9 harg9 x0 x1 x2 x3 x4 xo7) _ := by unfold sl.r_26; infer_instance
  haveI s_H7_3 : Is3 (arg9.view.read (Elt Ideal) (arg9.view.writes (Elt Ideal) (harg9.unread xo7) (sl.H7_3 (F := Ideal) c i arg2 harg2 arg3 harg3 arg4 harg4 arg5 harg5 arg6 harg6 arg7 harg7 arg8 harg8 arg9 harg9 x0 x1 x2 x3 x4 xo7))) _ := by
    unfold sl.H7_3
    exact store3 arg9.view _ _ _ _ _ _ 0 (512 * (i 1).val) 128 _ inferInstance inferInstance
  haveI i_r_27 : Is2 (sl.r_27 (F := Ideal) c i arg2 harg2 arg3 harg3 arg4 harg4 arg5 harg5 arg6 harg6 arg7 harg7 arg8 harg8 arg9 harg9 x0 x1 x2 x3 x4 xo7) _ := by unfold sl.r_27; infer_instance
  have hp0 : ∀ r s, r < 512 → s < 256 → pd r s = pc D.R (0 + r) (512 * (i 1).val + s) := fun r s _ hs => by
    simp only [pd, pc]; exact decide_eq_decide.mpr (by omega)
  have z : ∀ r, 0 + r = r := Nat.zero_add
  have DD0 : ∀ r s, r < 512 → s < 256 → _ := fun r s => Data.d_blk (D := D) (b := 512 * (i 1).val) (n := 512) (o := 0) (c := 0) (h := 0) hp0 rfl
    (ctl := fun r => D.T 0 (0 + r)) (psl := fun r => ∑ j ∈ Finset.range (512 * (i 1).val), D.m 0 r j) (esl := fun r => ∑ j ∈ Finset.range (512 * (i 1).val), D.e 0 r j)
    (fun _ => rfl) (fun r => by rw [z]) (fun r => by rw [z]) r s
  have DD1 : ∀ r s, r < 512 → s < 256 → _ := fun r s => Data.d_blk (D := D) (b := 512 * (i 1).val) (n := 512) (o := 0) (c := 128) (h := 1) hp0 rfl
    (ctl := fun r => D.T 1 (0 + r)) (psl := fun r => ∑ j ∈ Finset.range (512 * (i 1).val), D.m 1 r j) (esl := fun r => ∑ j ∈ Finset.range (512 * (i 1).val), D.e 1 r j)
    (fun _ => rfl) (fun r => by rw [z]) (fun r => by rw [z]) r s
  have DE0 : ∀ r s, r < 512 → s < 256 → _ := fun r s => Data.e_blk (D := D) (b := 512 * (i 1).val) (n := 512) (o := 0) (c := 0) (h := 0) hp0 rfl
    (ctl := fun r => D.T 0 (0 + r)) (psl := fun r => ∑ j ∈ Finset.range (512 * (i 1).val), D.m 0 r j) (fun _ => rfl) (fun r => by rw [z]) r s
  have DE1 : ∀ r s, r < 512 → s < 256 → _ := fun r s => Data.e_blk (D := D) (b := 512 * (i 1).val) (n := 512) (o := 0) (c := 128) (h := 1) hp0 rfl
    (ctl := fun r => D.T 1 (0 + r)) (psl := fun r => ∑ j ∈ Finset.range (512 * (i 1).val), D.m 1 r j) (fun _ => rfl) (fun r => by rw [z]) r s
  have DA0 : ∀ r s, r < 512 → s < 256 → _ := fun r s => Data.a_blk (D := D) (b := 512 * (i 1).val) (n := 512) (o := 0) (c := 0) (h := 0) hp0 rfl
    (ctl := fun r => D.T 0 (0 + r)) (psl := fun r => ∑ j ∈ Finset.range (512 * (i 1).val), D.m 0 r j) (fun _ => rfl) (fun r => by rw [z]) r s
  have DA1 : ∀ r s, r < 512 → s < 256 → _ := fun r s => Data.a_blk (D := D) (b := 512 * (i 1).val) (n := 512) (o := 0) (c := 128) (h := 1) hp0 rfl
    (ctl := fun r => D.T 1 (0 + r)) (psl := fun r => ∑ j ∈ Finset.range (512 * (i 1).val), D.m 1 r j) (fun _ => rfl) (fun r => by rw [z]) r s
  haveI s_H4 : Is3 (arg9.view.read (Elt Ideal) (arg9.view.writes (Elt Ideal) (harg9.unread xo7) (sl.H7_4 (F := Ideal) c i arg2 harg2 arg3 harg3 arg4 harg4 arg5 harg5 arg6 harg6 arg7 harg7 arg8 harg8 arg9 harg9 x0 x1 x2 x3 x4 xo7))) (D.acc old (512 * (i 1).val + 256)) := by
    unfold sl.H7_4
    refine Is3.congr (store3 arg9.view _ _ _ _ _ _ 1 (512 * (i 1).val) 128 _ inferInstance inferInstance) fun t s x ht hs hx =>
      Data.acc_step D old (512 * (i 1).val) _ _ _ _ ?_ ?_ ?_ ?_ t s x ht hx
    · intro s x hs hx
      refine D.C0_of (h := 0) (by omega) fun r hr => ?_
      rw [DD0 r s hr hs, z, z]
    · intro s x hs hx
      refine D.C1_of (h := 0) (by omega) fun r hr => ?_
      rw [DA0 r s hr hs, z, z]
    · intro s x hs hx
      refine D.C0_of (h := 1) (by omega) fun r hr => ?_
      rw [DD1 r s hr hs, z]
    · intro s x hs hx
      refine D.C1_of (h := 1) (by omega) fun r hr => ?_
      rw [DA1 r s hr hs, z]
  haveI i_r_23 : Is2 (sl.r_23 (F := Ideal) c i arg2 harg2 arg3 harg3 arg4 harg4 arg5 harg5 arg6 harg6 arg7 harg7 arg8 harg8 arg9 harg9 x0 x1 x2 x3 x4 xo7) (D.dq (512 * (i 1).val + 256) 0) := by
    unfold sl.r_23
    refine Is2.congr inferInstance fun r x hr hx => Data.sum_blk fun s hs => ?_
    rw [DD0 r s hr hs]; unfold col; rw [z, z]
  haveI i_r_28 : Is2 (sl.r_28 (F := Ideal) c i arg2 harg2 arg3 harg3 arg4 harg4 arg5 harg5 arg6 harg6 arg7 harg7 arg8 harg8 arg9 harg9 x0 x1 x2 x3 x4 xo7) (D.dq (512 * (i 1).val + 256) 1) := by
    unfold sl.r_28
    refine Is2.congr inferInstance fun r x hr hx => Data.sum_blk fun s hs => ?_
    rw [DD1 r s hr hs, z]; rfl
  haveI i_r_24 : Is2 (sl.r_24 (F := Ideal) c i arg2 harg2 arg3 harg3 arg4 harg4 arg5 harg5 arg6 harg6 arg7 harg7 arg8 harg8 arg9 harg9 x0 x1 x2 x3 x4 xo7) (fun r _ => ∑ j ∈ Finset.range (512 * (i 1).val + 256), D.m 0 r j) := by
    unfold sl.r_24
    refine Is2.congr inferInstance fun r x hr hx => Data.sum_blk fun s hs => ?_
    rw [Data.m_blk (D := D) (h := 0) hp0 rfl r s hr hs, z]
  haveI i_r_29 : Is2 (sl.r_29 (F := Ideal) c i arg2 harg2 arg3 harg3 arg4 harg4 arg5 harg5 arg6 harg6 arg7 harg7 arg8 harg8 arg9 harg9 x0 x1 x2 x3 x4 xo7) (fun r _ => ∑ j ∈ Finset.range (512 * (i 1).val + 256), D.m 1 r j) := by
    unfold sl.r_29
    refine Is2.congr inferInstance fun r x hr hx => Data.sum_blk fun s hs => ?_
    rw [Data.m_blk (D := D) (h := 1) hp0 rfl r s hr hs, z]
  haveI i_r_25 : Is2 (sl.r_25 (F := Ideal) c i arg2 harg2 arg3 harg3 arg4 harg4 arg5 harg5 arg6 harg6 arg7 harg7 arg8 harg8 arg9 harg9 x0 x1 x2 x3 x4 xo7) (fun r _ => ∑ j ∈ Finset.range (512 * (i 1).val + 256), D.e 0 r j) := by
    unfold sl.r_25
    refine Is2.congr inferInstance fun r x hr hx => Data.sum_blk fun s hs => ?_
    rw [DE0 r s hr hs, z]
  haveI i_r_30 : Is2 (sl.r_30 (F := Ideal) c i arg2 harg2 arg3 harg3 arg4 harg4 arg5 harg5 arg6 harg6 arg7 harg7 arg8 harg8 arg9 harg9 x0 x1 x2 x3 x4 xo7) (fun r _ => ∑ j ∈ Finset.range (512 * (i 1).val + 256), D.e 1 r j) := by
    unfold sl.r_30
    refine Is2.congr inferInstance fun r x hr hx => Data.sum_blk fun s hs => ?_
    rw [DE1 r s hr hs, z]
  haveI i_r_31 : Is2 (sl.r_31 (F := Ideal) i arg2 harg2 arg3 harg3 x0 x1) _ := by unfold sl.r_31; infer_instance
  haveI i_r_32 : Is2 (sl.r_32 (F := Ideal) i arg2 harg2 arg3 harg3 x0 x1) _ := by unfold sl.r_32; infer_instance
  haveI i_r_33 : Is2 (sl.r_33 (F := Ideal) i arg2 harg2 arg3 harg3 x0 x1) _ := by unfold sl.r_33; infer_instance
  haveI i_r_34 : Is2 (sl.r_34 (F := Ideal) i arg2 harg2 arg3 harg3 x0 x1) _ := by unfold sl.r_34; infer_instance
  haveI i_r_35 : Is2 (sl.r_35 (F := Ideal) i arg2 harg2 arg3 harg3 x0 x1) _ := by unfold sl.r_35; infer_instance
  haveI i_r_36 : Is2 (sl.r_36 (F := Ideal) i arg2 harg2 arg3 harg3 x0 x1) _ := by unfold sl.r_36; infer_instance
  haveI i_r_37 : Is2 (sl.r_37 (F := Ideal) i arg2 harg2 arg3 harg3 x0 x1) _ := by unfold sl.r_37; infer_instance
  haveI i_r_38 : Is3 (a := 1) (b := 256) (c := 1) (sl.r_38 (F := Ideal) arg6 harg6 x4) _ := by unfold sl.r_38; exact load3c (m := 256) arg6.view _ _ _ _ _ _ _
  haveI i_r_39 : Is2 (sl.r_39 (F := Ideal) c i arg2 harg2 arg3 harg3 arg4 harg4 arg5 harg5 arg6 harg6 arg7 harg7 arg8 harg8 arg9 harg9 x0 x1 x2 x3 x4 xo7) _ := by unfold sl.r_39; infer_instance
  haveI i_r_40 : Is2 (sl.r_40 (F := Ideal) c i arg2 harg2 arg3 harg3 arg4 harg4 arg5 harg5 arg6 harg6 arg7 harg7 arg8 harg8 arg9 harg9 x0 x1 x2 x3 x4 xo7) _ := by unfold sl.r_40; infer_instance
  haveI i_r_41 : Is2 (sl.r_41 (F := Ideal) i arg2 harg2 arg3 harg3 x0 x1) _ := by unfold sl.r_41; infer_instance
  haveI i_r_42 : Is2 (sl.r_42 (F := Ideal) c i arg2 harg2 arg3 harg3 arg4 harg4 arg5 harg5 arg6 harg6 arg7 harg7 arg8 harg8 arg9 harg9 x0 x1 x2 x3 x4 xo7) _ := by unfold sl.r_42; infer_instance
  haveI i_r_43 : Is2 (sl.r_43 (F := Ideal) c i arg2 harg2 arg3 harg3 arg4 harg4 arg5 harg5 arg6 harg6 arg7 harg7 arg8 harg8 arg9 harg9 x0 x1 x2 x3 x4 xo7) _ := by unfold sl.r_43; infer_instance
  haveI i_r_44 : Is2 (sl.r_44 (F := Ideal) c i arg2 harg2 arg3 harg3 arg4 harg4 arg5 harg5 arg6 harg6 arg7 harg7 arg8 harg8 arg9 harg9 x0 x1 x2 x3 x4 xo7) _ := by unfold sl.r_44; infer_instance
  haveI i_r_45 : Is2 (sl.r_45 (F := Ideal) c i arg2 harg2 arg3 harg3 arg4 harg4 arg5 harg5 arg6 harg6 arg7 harg7 arg8 harg8 arg9 harg9 x0 x1 x2 x3 x4 xo7) _ := by unfold sl.r_45; infer_instance
  haveI i_r_47 : Is2 (sl.r_47 (F := Ideal) i arg2 harg2 arg3 harg3 x0 x1) _ := by unfold sl.r_47; infer_instance
  haveI i_r_48 : Is2 (sl.r_48 (F := Ideal) c i arg2 harg2 arg3 harg3 arg4 harg4 arg5 harg5 arg6 harg6 arg7 harg7 arg8 harg8 arg9 harg9 x0 x1 x2 x3 x4 xo7) _ := by unfold sl.r_48; infer_instance
  haveI i_r_49 : Is2 (sl.r_49 (F := Ideal) c i arg2 harg2 arg3 harg3 arg4 harg4 arg5 harg5 arg6 harg6 arg7 harg7 arg8 harg8 arg9 harg9 x0 x1 x2 x3 x4 xo7) _ := by unfold sl.r_49; infer_instance
  haveI i_r_46 : Is2 (sl.r_46 (F := Ideal) c i arg2 harg2 arg3 harg3 arg4 harg4 arg5 harg5 arg6 harg6 arg7 harg7 arg8 harg8 arg9 harg9 x0 x1 x2 x3 x4 xo7) _ := by unfold sl.r_46; infer_instance
  haveI i_r_50 : Is2 (sl.r_50 (F := Ideal) c i arg2 harg2 arg3 harg3 arg4 harg4 arg5 harg5 arg6 harg6 arg7 harg7 arg8 harg8 arg9 harg9 x0 x1 x2 x3 x4 xo7) _ := by unfold sl.r_50; infer_instance
  haveI s_H7_5 : Is3 (arg9.view.read (Elt Ideal) (arg9.view.writes (Elt Ideal) (harg9.unread xo7) (sl.H7_5 (F := Ideal) c i arg2 harg2 arg3 harg3 arg4 harg4 arg5 harg5 arg6 harg6 arg7 harg7 arg8 harg8 arg9 harg9 x0 x1 x2 x3 x4 xo7))) _ := by
    unfold sl.H7_5
    exact store3 arg9.view _ _ _ _ _ _ 0 (512 * (i 1).val + 256) 0 _ inferInstance inferInstance
  haveI s_H7_6 : Is3 (arg9.view.read (Elt Ideal) (arg9.view.writes (Elt Ideal) (harg9.unread xo7) (sl.H7_6 (F := Ideal) c i arg2 harg2 arg3 harg3 arg4 harg4 arg5 harg5 arg6 harg6 arg7 harg7 arg8 harg8 arg9 harg9 x0 x1 x2 x3 x4 xo7))) _ := by
    unfold sl.H7_6
    exact store3 arg9.view _ _ _ _ _ _ 1 (512 * (i 1).val + 256) 0 _ inferInstance inferInstance
  haveI s_H7_7 : Is3 (arg9.view.read (Elt Ideal) (arg9.view.writes (Elt Ideal) (harg9.unread xo7) (sl.H7_7 (F := Ideal) c i arg2 harg2 arg3 harg3 arg4 harg4 arg5 harg5 arg6 harg6 arg7 harg7 arg8 harg8 arg9 harg9 x0 x1 x2 x3 x4 xo7))) _ := by
    unfold sl.H7_7
    exact store3 arg9.view _ _ _ _ _ _ 0 (512 * (i 1).val + 256) 128 _ inferInstance inferInstance
  have hp1 : ∀ r s, r < 256 → s < 256 → pd r s = pc D.R (256 + r) (512 * (i 1).val + 256 + s) := fun r s _ hs => by
    simp only [pd, pc]; exact decide_eq_decide.mpr (by omega)
  have DD0' : ∀ r s, r < 256 → s < 256 → _ := fun r s => Data.d_blk (D := D) (b := 512 * (i 1).val + 256) (n := 256) (o := 256) (c := 0) (h := 0) hp1 rfl
    (ctl := fun r => D.T 0 (256 + r)) (psl := fun r => ∑ j ∈ Finset.range (512 * (i 1).val + 256), D.m 0 (256 + r) j) (esl := fun r => ∑ j ∈ Finset.range (512 * (i 1).val + 256), D.e 0 (256 + r) j) (fun _ => rfl) (fun _ => rfl) (fun _ => rfl) r s
  have DD1' : ∀ r s, r < 256 → s < 256 → _ := fun r s => Data.d_blk (D := D) (b := 512 * (i 1).val + 256) (n := 256) (o := 256) (c := 128) (h := 1) hp1 rfl
    (ctl := fun r => D.T 1 (256 + r)) (psl := fun r => ∑ j ∈ Finset.range (512 * (i 1).val + 256), D.m 1 (256 + r) j) (esl := fun r => ∑ j ∈ Finset.range (512 * (i 1).val + 256), D.e 1 (256 + r) j) (fun _ => rfl) (fun _ => rfl) (fun _ => rfl) r s
  have DA0' : ∀ r s, r < 256 → s < 256 → _ := fun r s => Data.a_blk (D := D) (b := 512 * (i 1).val + 256) (n := 256) (o := 256) (c := 0) (h := 0) hp1 rfl
    (ctl := fun r => D.T 0 (256 + r)) (psl := fun r => ∑ j ∈ Finset.range (512 * (i 1).val + 256), D.m 0 (256 + r) j) (fun _ => rfl) (fun _ => rfl) r s
  have DA1' : ∀ r s, r < 256 → s < 256 → _ := fun r s => Data.a_blk (D := D) (b := 512 * (i 1).val + 256) (n := 256) (o := 256) (c := 128) (h := 1) hp1 rfl
    (ctl := fun r => D.T 1 (256 + r)) (psl := fun r => ∑ j ∈ Finset.range (512 * (i 1).val + 256), D.m 1 (256 + r) j) (fun _ => rfl) (fun _ => rfl) r s
  unfold kernelRun0_B
  dsimp only
  constructor
  · refine Is2.congr (halves arg8.view Y _ _ _ _ _ _) fun r x hr hx => ?_
    split
    · rename_i hx2
      rw [show x / 128 = 1 by omega, show x % 128 = x - 128 by omega]
      split
      · exact (D.dq_more 1 r _ (by omega) (by omega)).symm
      · rename_i hr2
        exact (congrArg (_ + ·) (Finset.sum_congr rfl fun s hs => by
          rw [DD1' (r - 256) s (by omega) (Finset.mem_range.mp hs), Nat.add_sub_of_le (Nat.le_of_not_lt hr2)]; rfl)).trans (sum_split _ _ 256)
    · rename_i hx2
      rw [show x / 128 = 0 by omega, show x % 128 = x by omega]
      split
      · exact (D.dq_more 0 r _ (by omega) (by omega)).symm
      · rename_i hr2
        exact (congrArg (_ + ·) (Finset.sum_congr rfl fun s hs => by
          rw [DD0' (r - 256) s (by omega) (Finset.mem_range.mp hs), Nat.add_sub_of_le (Nat.le_of_not_lt hr2)]; rfl)).trans (sum_split _ _ 256)
  · refine Is3.congr (store3 arg9.view _ _ _ _ _ _ 1 (512 * (i 1).val + 256) 128 _ inferInstance inferInstance) fun t s x ht hs hx =>
      (Data.acc_step D old (512 * (i 1).val + 256) _ _ _ _ ?_ ?_ ?_ ?_ t s x ht hx).trans (D.acc_all old (by omega) t s x)
    · intro s x hs hx
      refine D.C0_of' (h := 0) (by omega) (by omega) fun r hr => ?_
      rw [DD0' r s hr hs, z]
    · intro s x hs hx
      refine D.C1_of' (h := 0) (by omega) (by omega) fun r hr => ?_
      rw [DA0' r s hr hs, z]
    · intro s x hs hx
      refine D.C0_of' (h := 1) (by omega) (by omega) fun r hr => ?_
      rw [DD1' r s hr hs]
    · intro s x hs hx
      refine D.C1_of' (h := 1) (by omega) (by omega) fun r hr => ?_
      rw [DA1' r s hr hs]

end Cert.Calc
-- ==== Proof.Grid.lean ====
module

public import proofs.«01_k».proof.Proof.Ref
public import proofs.«01_k».proof.Proof.Entry
public import proofs.«01_k».proof.Proof.StepA
public import proofs.«01_k».proof.Proof.StepB
public import Idealize.ShloMosaic.Lib.Pipeline.ValueKit

/-!
The kernel's grid: point `t` works on the pair of heads `t / 4` and on the rows from `512 * (t % 4)`.
-/

@[expose] public section

noncomputable section

namespace Cert.Calc

open Idealize.ShloMosaic hiding ix1 ix2 ix3 ix4
open Idealize.ShloMosaic.ValueIdx
open Idealize.ShloMosaic.TcCoe
open Cert.KernelIdeal Cert.KernelIdeal.Gen
open scoped BigOperators

/-- What grid point `t` works on. -/
def gp (X Y : ℕ → ℕ → ℝ) (t : ℕ) : Data where
  R := 512 * (t % 4)
  Q r x := qs X (512 * (t % 4) + r) (256 * (t / 4) + x)
  K s x := ks X s (256 * (t / 4) + x)
  V s x := vs X s (256 * (t / 4) + x)
  G r x := Y (512 * (t % 4) + r) (256 * (t / 4) + x)
  T h r := ct (col (qs X) (2 * (t / 4) + h)) (col (ks X) (2 * (t / 4) + h)) (512 * (t % 4) + r)

/-! ### The blocks -/

theorem N16 (t : Fin cfg0.N) : t.val < 16 := t.isLt

theorem idx0 : ∀ t : Fin cfg0.N, win0_0.index t = ![t.val % 4, t.val / 4] := by decide +kernel
theorem idx1 : ∀ t : Fin cfg0.N, win0_1.index t = ![0, 4 + t.val / 4] := by decide +kernel
theorem idx2 : ∀ t : Fin cfg0.N, win0_2.index t = ![0, 8 + t.val / 4] := by decide +kernel
theorem idx3 : ∀ t : Fin cfg0.N, win0_3.index t = ![t.val % 4, t.val / 4] := by decide +kernel
theorem idx4 : ∀ t : Fin cfg0.N, win0_4.index t = ![t.val / 4, t.val % 4, 0] := by decide +kernel
theorem idx6 : ∀ t : Fin cfg0.N, win0_6.index t = ![t.val % 4, t.val / 4] := by decide +kernel
theorem idx7 : ∀ t : Fin cfg0.N, win0_7.index t = ![0, 0, t.val / 4] := by decide +kernel
theorem coord1 : ∀ t : Fin cfg0.N, (grid0.coords t 1).val = t.val % 4 := by decide +kernel

section Blocks
variable (m : (ℓ : Loc nD τ sig) → Buf (Elt Idealize.ShloMosaic.Ideal) ℓ) (c : Dev nD) (X Y : ℕ → ℕ → ℝ) (t : Fin cfg0.N)

theorem blk0 (i : Fin 512) (j : Fin 256) : iblk m c 0 t (ix2 i j)
    = V m c main_v0 (ix2 (⟨512 * (t.val % 4) + i, by omega⟩ : Fin 2048) (⟨256 * (t.val / 4) + j, by have := N16 t; omega⟩ : Fin 3072)) := by
  have := N16 t
  blk_ext [iblk, idx0 t]
  · show t.val % 4 * 512 + i.val = 512 * (t.val % 4) + i.val; omega
  · show t.val / 4 * 256 + j.val = 256 * (t.val / 4) + j.val; omega
theorem blk1 (i : Fin 2048) (j : Fin 256) : iblk m c 1 t (ix2 i j)
    = V m c main_v0 (ix2 i (⟨1024 + (256 * (t.val / 4) + j), by have := N16 t; omega⟩ : Fin 3072)) := by
  have := N16 t
  blk_ext [iblk, idx1 t]
  · show (4 + t.val / 4) * 256 + j.val = 1024 + (256 * (t.val / 4) + j.val); omega
theorem blk2 (i : Fin 2048) (j : Fin 256) : iblk m c 2 t (ix2 i j)
    = V m c main_v0 (ix2 i (⟨2048 + (256 * (t.val / 4) + j), by have := N16 t; omega⟩ : Fin 3072)) := by
  have := N16 t
  blk_ext [iblk, idx2 t]
  · show (8 + t.val / 4) * 256 + j.val = 2048 + (256 * (t.val / 4) + j.val); omega
theorem blk3 (i : Fin 512) (j : Fin 256) : iblk m c 3 t (ix2 i j)
    = V m c main_v1 (ix2 (⟨512 * (t.val % 4) + i, by omega⟩ : Fin 2048) (⟨256 * (t.val / 4) + j, by have := N16 t; omega⟩ : Fin 1024)) := by
  have := N16 t
  blk_ext [iblk, idx3 t]
  · show t.val % 4 * 512 + i.val = 512 * (t.val % 4) + i.val; omega
  · show t.val / 4 * 256 + j.val = 256 * (t.val / 4) + j.val; omega
theorem blk4 (h : Fin 2) (i : Fin 512) (j : Fin 1) : iblk m c 4 t (ix3 h i j)
    = V m c main_v29 (ix3 (⟨2 * (t.val / 4) + h, by have := N16 t; omega⟩ : Fin 8) (⟨512 * (t.val % 4) + i, by omega⟩ : Fin 2048) j) := by
  have := N16 t
  blk_ext [iblk, idx4 t]
  · show t.val / 4 * 2 + h.val = 2 * (t.val / 4) + h.val; omega
  · show t.val % 4 * 512 + i.val = 512 * (t.val % 4) + i.val; omega

variable [hX : Is2 (a := 2048) (b := 3072) (m ((c.tc : Thread nD τ).loc main_arg0)) X]
variable [hY : Is2 (a := 2048) (b := 1024) (m ((c.tc : Thread nD τ).loc main_arg1)) Y]

include hX in
theorem en0 : Is2 (a := 2048) (b := 3072) (V m c main_v0) X := by
  rw [V_v0]
  exact ⟨fun i j => hX.eq i j⟩
include hY in
theorem en1 : Is2 (a := 2048) (b := 1024) (V m c main_v1) Y := by
  rw [V_v1]
  exact ⟨fun i j => hY.eq i j⟩
include hX in
theorem en29 : Is3 (a := 8) (b := 2048) (c := 1) (V m c main_v29) (fun h r _ => ct (col (qs X) h) (col (ks X) h) r) := by
  rw [V_v29]
  exact tt_is _ X

include hX in
theorem in0 : Is2 (a := 512) (b := 256) (iblk m c 0 t) (gp X Y t).Q :=
  ⟨fun i j => (blk0 m c t i j).trans ((en0 m c X).eq _ _)⟩
include hX in
theorem in1 : Is2 (a := 2048) (b := 256) (iblk m c 1 t) (gp X Y t).K :=
  ⟨fun i j => (blk1 m c t i j).trans ((en0 m c X).eq _ _)⟩
include hX in
theorem in2 : Is2 (a := 2048) (b := 256) (iblk m c 2 t) (gp X Y t).V :=
  ⟨fun i j => (blk2 m c t i j).trans ((en0 m c X).eq _ _)⟩
include hY in
theorem in3 : Is2 (a := 512) (b := 256) (iblk m c 3 t) (gp X Y t).G :=
  ⟨fun i j => (blk3 m c t i j).trans ((en1 m c Y).eq _ _)⟩
include hX in
theorem in4 : Is3 (a := 2) (b := 512) (c := 1) (iblk m c 4 t) (fun h r _ => (gp X Y t).T h r) :=
  ⟨fun h i j => (blk4 m c t h i j).trans ((en29 m c X).eq _ _ _)⟩

include hX hY in
theorem outs_A (h0 : t.val % 4 = 0) :
    Is2 (a := 512) (b := 256) (outsAt0 m c t.val t.isLt).1 (fun r x => (gp X Y t.val).dq (512 * (t.val % 4) + 512) (x / 128) r (x % 128)) ∧
    Is3 (a := 2) (b := 2048) (c := 256) (outsAt0 m c t.val t.isLt).2
      (fun u s x => ∑ k ∈ Finset.range (t.val % 4 + 1), (gp X Y (4 * (t.val / 4) + k)).C u s x) := by
  haveI := in0 m c X Y t; haveI := in1 m c X Y t; haveI := in2 m c X Y t; haveI := in3 m c X Y t; haveI := in4 m c X Y t
  have hs := step_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (iblk m c 0 t) (iblk m c 1 t) (iblk m c 2 t) (iblk m c 3 t) (iblk m c 4 t)
    (iblk m c 5 t) (gp X Y t.val) (by rw [coord1]; rfl) ((hcond0_0 t).mpr h0) (ms0_6 t).view.junk
  rw [outsAt0_A m c t h0]
  refine ⟨?_, ?_⟩
  · unfold out0_A_6
    rw [View.read_writes_of_cover VO0_6 VO0_6.junk (ms0_6 t).view (ms0_6 t).view.junk _ (cover0_A_6 c _ _ _ _ _ _ _ _ _ _ _ _ _ _ _ _ _ _ _ _ _ _ _ _)]
    have h := hs.1
    rw [coord1] at h
    exact h
  · unfold out0_A_7
    rw [View.read_writes_of_cover VO0_7 VO0_7.junk (ms0_7 t).view (ms0_7 t).view.junk _ (cover0_A_7 c _ _ _ _ _ _ _ _ _ _ _ _ _ _ _ _ _ _ _ _ _ _ _ _)]
    refine hs.2.congr fun u s x _ _ _ => ?_
    rw [h0, zero_add, Finset.sum_range_one, show 4 * (t.val / 4) + 0 = t.val by omega]

include hX hY in
theorem outs_B (h0 : ¬t.val % 4 = 0)
    (hp : Is3 (a := 2) (b := 2048) (c := 256) (outsAt0 m c (t.val - 1) (Nat.lt_of_le_of_lt (Nat.sub_le _ _) t.isLt)).2
      (fun u s x => ∑ k ∈ Finset.range ((t.val - 1) % 4 + 1), (gp X Y (4 * ((t.val - 1) / 4) + k)).C u s x)) :
    Is2 (a := 512) (b := 256) (outsAt0 m c t.val t.isLt).1 (fun r x => (gp X Y t.val).dq (512 * (t.val % 4) + 512) (x / 128) r (x % 128)) ∧
    Is3 (a := 2) (b := 2048) (c := 256) (outsAt0 m c t.val t.isLt).2
      (fun u s x => ∑ k ∈ Finset.range (t.val % 4 + 1), (gp X Y (4 * (t.val / 4) + k)).C u s x) := by
  haveI := in0 m c X Y t; haveI := in1 m c X Y t; haveI := in2 m c X Y t; haveI := in3 m c X Y t; haveI := in4 m c X Y t
  haveI := hp
  have hs := step_B c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (iblk m c 0 t) (iblk m c 1 t) (iblk m c 2 t) (iblk m c 3 t) (iblk m c 4 t)
    (iblk m c 5 t) (outsAt0 m c (t.val - 1) (Nat.lt_of_le_of_lt (Nat.sub_le _ _) t.isLt)).2 (gp X Y t.val) (by rw [coord1]; rfl)
    _ (fun h => h0 ((hcond0_0 t).mp h)) (ms0_6 t).view.junk
  rw [outsAt0_B m c t h0]
  refine ⟨?_, ?_⟩
  · unfold out0_B_6
    rw [View.read_writes_of_cover VO0_6 VO0_6.junk (ms0_6 t).view (ms0_6 t).view.junk _ (cover0_B_6 c _ _ _ _ _ _ _ _ _ _ _ _ _ _ _ _ _ _ _ _ _ _ _ _ _)]
    have h := hs.1
    rw [coord1] at h
    exact h
  · unfold out0_B_7
    refine hs.2.congr fun u s x _ _ _ => ?_
    rw [show (t.val - 1) % 4 + 1 = t.val % 4 by omega, show (t.val - 1) / 4 = t.val / 4 by omega, Finset.sum_range_succ,
      show 4 * (t.val / 4) + t.val % 4 = t.val by omega]

include hX hY in
theorem outs (n : ℕ) (hn : n < cfg0.N) :
    Is2 (a := 512) (b := 256) (outsAt0 m c n hn).1 (fun r x => (gp X Y n).dq (512 * (n % 4) + 512) (x / 128) r (x % 128)) ∧
    Is3 (a := 2) (b := 2048) (c := 256) (outsAt0 m c n hn).2
      (fun t s x => ∑ k ∈ Finset.range (n % 4 + 1), (gp X Y (4 * (n / 4) + k)).C t s x) := by
  induction n with
  | zero => exact outs_A m c X Y ⟨0, hn⟩ rfl
  | succ n ih =>
    by_cases h0 : (n + 1) % 4 = 0
    · exact outs_A m c X Y ⟨n + 1, hn⟩ h0
    · exact outs_B m c X Y ⟨n + 1, hn⟩ h0 (ih (by omega)).2

end Blocks

end Cert.Calc
-- ==== Proof.Out.lean ====
module

public import proofs.«01_k».proof.Proof.Grid
public import proofs.«01_k».proof.Proof.Gen.KernelIdeal.Value

/-!
The kernel's two result arrays, read at an index: the steps' sums, put together over the row blocks,
are the sums over all rows and over all keys.
-/

@[expose] public section

noncomputable section

namespace Cert.Calc

open Idealize.ShloMosaic hiding ix1 ix2 ix3 ix4
open Idealize.ShloMosaic.ValueIdx
open Idealize.ShloMosaic.TcCoe
open Cert.KernelIdeal Cert.KernelIdeal.Gen
open scoped BigOperators

/-! ### A step's functions at the step's rows -/

theorem aS_rows (R : ℕ) (q k : ℕ → ℕ → ℝ) (c : ℕ → ℝ) (r s : ℕ) :
    aS R (fun r d => q (R + r) d) k (fun r => c (R + r)) r s = aS 0 q k c (R + r) s := by
  unfold aS af mS mf pc zf dotf cum
  simp only [Nat.zero_add]

theorem dS_rows (R : ℕ) (q k g v : ℕ → ℕ → ℝ) (c : ℕ → ℝ) (r s : ℕ) :
    dS R (fun r d => q (R + r) d) k (fun r d => g (R + r) d) v (fun r => c (R + r)) r s = dS 0 q k g v c (R + r) s := by
  unfold dS df eS ef aS af mS mf pc zf dotf cum
  simp only [Nat.zero_add]

theorem col_blk (X : ℕ → ℕ → ℝ) (g h r d : ℕ) : col (fun r x => X r (256 * g + x)) h r d = col X (2 * g + h) r d := by
  show X r (256 * g + (128 * h + d)) = X r (128 * (2 * g + h) + d)
  rw [show 256 * g + (128 * h + d) = 128 * (2 * g + h) + d by ring]

section Glob
variable (X Y : ℕ → ℕ → ℝ)

theorem gp_a (t h r s : ℕ) (hs : s < 2048) : (gp X Y t).a h r s = ha X (2 * (t / 4) + h) (512 * (t % 4) + r) s := by
  have hk : col (gp X Y t).K h = col (ks X) (2 * (t / 4) + h) := funext₂ fun r d => col_blk (ks X) _ _ _ _
  have hq : col (gp X Y t).Q h = fun r d => col (qs X) (2 * (t / 4) + h) (512 * (t % 4) + r) d :=
    funext₂ fun r d => col_blk (fun r x => qs X (512 * (t % 4) + r) x) _ _ _ _
  unfold Data.a
  rw [hk, hq]
  exact (aS_rows _ _ _ (ct _ _) r s).trans (aS_eq _ _ _ s hs)

theorem gp_d (t h r s : ℕ) (hs : s < 2048) : (gp X Y t).d h r s = hd X Y (2 * (t / 4) + h) (512 * (t % 4) + r) s := by
  have hk : col (gp X Y t).K h = col (ks X) (2 * (t / 4) + h) := funext₂ fun r d => col_blk (ks X) _ _ _ _
  have hv : col (gp X Y t).V h = col (vs X) (2 * (t / 4) + h) := funext₂ fun r d => col_blk (vs X) _ _ _ _
  have hq : col (gp X Y t).Q h = fun r d => col (qs X) (2 * (t / 4) + h) (512 * (t % 4) + r) d :=
    funext₂ fun r d => col_blk (fun r x => qs X (512 * (t % 4) + r) x) _ _ _ _
  have hg : col (gp X Y t).G h = fun r d => col Y (2 * (t / 4) + h) (512 * (t % 4) + r) d :=
    funext₂ fun r d => col_blk (fun r x => Y (512 * (t % 4) + r) x) _ _ _ _
  unfold Data.d
  rw [hk, hq, hv, hg]
  exact (dS_rows _ _ _ _ _ (ct _ _) r s).trans (dS_eq _ _ _ _ _ s hs)

/-- The rows' gradients: the keys that a step leaves out have no part in its rows. -/
theorem gp_dq (t r x : ℕ) (hr : r < 512) :
    (gp X Y t).dq (512 * (t % 4) + 512) (x / 128) r (x % 128) = rq X Y (512 * (t % 4) + r) (256 * (t / 4) + x) := by
  have hle : 512 * (t % 4) + 512 ≤ 2048 := by omega
  unfold Data.dq rq
  rw [show (256 * (t / 4) + x) / 128 = 2 * (t / 4) + x / 128 by omega]
  rw [Finset.sum_congr rfl fun s hs => by
    rw [gp_d X Y t _ r s (lt_of_lt_of_le (Finset.mem_range.mp hs) hle), col_div]]
  refine Finset.sum_subset (Finset.range_mono hle) fun s hs hn => ?_
  rw [← gp_d X Y t _ r s (Finset.mem_range.mp hs)]
  unfold Data.d
  rw [dS_zero (by show 512 * (t % 4) + r ≤ s; have : ¬ s < 512 * (t % 4) + 512 := fun h => hn (Finset.mem_range.mpr h); omega), zero_mul]

theorem sum_rows (F : ℕ → ℝ) (n : ℕ) :
    ∑ k ∈ Finset.range n, ∑ r ∈ Finset.range 512, F (512 * k + r) = ∑ r ∈ Finset.range (512 * n), F r := by
  induction n with
  | zero => rfl
  | succ n ih => rw [Finset.sum_range_succ, ih, Nat.mul_succ, Finset.sum_range_add]

/-- The keys' and the values' gradients, over the four row blocks. -/
theorem gp_C (g u s x : ℕ) (hs : s < 2048) :
    ∑ k ∈ Finset.range 4, (gp X Y (4 * g + k)).C u s x
      = if u = 0 then rk X Y s (256 * g + x) else rv X Y s (256 * g + x) := by
  have e : (256 * g + x) / 128 = 2 * g + x / 128 := by omega
  split
  · next h =>
    unfold rk
    rw [← sum_rows _ 4]
    refine Finset.sum_congr rfl fun k hk => ?_
    have hk := Finset.mem_range.mp hk
    unfold Data.C
    rw [if_pos h]
    refine Finset.sum_congr rfl fun r _ => ?_
    rw [gp_d X Y _ _ _ _ hs, e, show (4 * g + k) / 4 = g by omega, show (4 * g + k) % 4 = k by omega]
    show _ = _ * qs X (512 * k + r) (256 * g + x)
    show _ * qs X (512 * ((4 * g + k) % 4) + r) (256 * ((4 * g + k) / 4) + x) = _
    rw [show (4 * g + k) / 4 = g by omega, show (4 * g + k) % 4 = k by omega]
  · next h =>
    unfold rv
    rw [← sum_rows _ 4]
    refine Finset.sum_congr rfl fun k hk => ?_
    have hk := Finset.mem_range.mp hk
    unfold Data.C
    rw [if_neg h]
    refine Finset.sum_congr rfl fun r _ => ?_
    rw [gp_a X Y _ _ _ _ hs, e, show (4 * g + k) / 4 = g by omega, show (4 * g + k) % 4 = k by omega]
    show _ * Y (512 * ((4 * g + k) % 4) + r) (256 * ((4 * g + k) / 4) + x) = _
    rw [show (4 * g + k) / 4 = g by omega, show (4 * g + k) % 4 = k by omega]

end Glob

/-! ### The arrays -/

section Arrays
variable (m : (ℓ : Loc nD τ sig) → Buf (Elt Idealize.ShloMosaic.Ideal) ℓ) (c : Dev nD) (X Y : ℕ → ℕ → ℝ)
variable [hX : Is2 (a := 2048) (b := 3072) (m ((c.tc : Thread nD τ).loc main_arg0)) X]
variable [hY : Is2 (a := 2048) (b := 1024) (m ((c.tc : Thread nD τ).loc main_arg1)) Y]

include hX hY in
theorem arr6 : (dats m 0 c).arrAt 6 cfg0.N
    = (fun y => ((rq X Y (y 0).val (y 1).val : ℝ) : EReal) : FVec Idealize.ShloMosaic.Ideal S2048x1024 .bf16) := by
  refine (dats m 0 c).arrAt_eq_of_covers 6 _ (by decide +kernel) fun t hf y => ?_
  have h := ((outs m c X Y t.val t.isLt).1).eq (y 0) (y 1)
  rw [gp_dq X Y _ _ _ (y 0).isLt] at h
  blk_simp [idx6 t]
  rw [after0_6]
  refine (congrArg _ (ValueIdx.eq_ix2 (n0 := 512) (n1 := 256) y)).trans (h.trans ?_)
  rw [Nat.mul_comm 512, Nat.mul_comm 256]

include hX hY in
theorem arr7 : (dats m 0 c).arrAt 7 cfg0.N
    = (fun y => (((if (y 0).val = 0 then rk X Y (y 1).val (y 2).val else rv X Y (y 1).val (y 2).val) : ℝ) : EReal) :
        FVec Idealize.ShloMosaic.Ideal S2x2048x1024 .f32) := by
  refine (dats m 0 c).arrAt_eq_of_covers 7 _ (by decide +kernel) fun t hf y => ?_
  have h3 := (flush0_7 t).mp hf
  have h := ((outs m c X Y t.val t.isLt).2).eq (y 0) (y 1) (y 2)
  rw [h3, gp_C X Y _ _ _ _ (y 1).isLt] at h
  blk_simp [idx7 t]
  rw [after0_7]
  refine (congrArg _ (ValueIdx.eq_ix3 (n0 := 2) (n1 := 2048) (n2 := 256) y)).trans (h.trans ?_)
  rw [Nat.mul_comm 256]

end Arrays

end Cert.Calc
-- ==== Proof.Cols.lean ====
module

public import proofs.«01_k».proof.Proof.Rows
public import proofs.«01_k».proof.Proof.Gen.KernelInIdeal.Value
public import proofs.«01_k».proof.Proof.Gen.KernelCkvIdeal.Value
public import proofs.«01_k».proof.Proof.Gen.ReferenceInIdeal.Run
public import proofs.«01_k».proof.Proof.Gen.ReferenceCkvIdeal.Run
public import Idealize.ShloMosaic.Lib.KernelVsHost

/-!
The gradient of the input projection of the mixing half step and of the key/value projection of the
cross attention. Either is stored as eight column blocks, and a block is the product over all rows of
the columns of the projection's input with the columns of that block's gradient.
-/

@[expose] public section

set_option maxHeartbeats 1000000

noncomputable section

namespace Cert.Calc

open Idealize.ShloMosaic hiding ix1 ix2 ix3 ix4
open Idealize.ShloMosaic.ValueIdx
open Idealize.ShloMosaic.TcCoe
open scoped BigOperators

local notation "𝔽" => Idealize.ShloMosaic.Ideal
local notation "𝕍" => Elt Idealize.ShloMosaic.Ideal

namespace In
open Cert.KernelInIdeal Cert.KernelInIdeal.Gen

/-- The gradient of block `j` of the projection's output: three convolution blocks, the queries, keys and
values, two gate blocks. -/
def part (conv : FVec 𝔽 (⟨3, ![3, 2048, 1024]⟩ : Shape) .f32)
    (q : FVec 𝔽 (⟨2, ![2048, 1024]⟩ : Shape) .f32)
    (kv gate : FVec 𝔽 (⟨3, ![2, 2048, 1024]⟩ : Shape) .f32) (j : ℕ) (k : Fin 2048) (n : Fin 1024) : EReal :=
  if h : j < 3 then conv (ix3 (⟨j, h⟩ : Fin 3) k n)
  else if h : j < 4 then q (ix2 k n)
  else if h : j < 6 then kv (ix3 (⟨j - 4, by omega⟩ : Fin 2) k n)
  else if h : j < 8 then gate (ix3 (⟨j - 6, by omega⟩ : Fin 2) k n)
  else 0

/-- Block `y 0` of the weight's gradient at `(y 1, y 2)`. -/
def prod (u : FVec 𝔽 (⟨2, ![2048, 1024]⟩ : Shape) .f32) (conv : FVec 𝔽 (⟨3, ![3, 2048, 1024]⟩ : Shape) .f32)
    (q : FVec 𝔽 (⟨2, ![2048, 1024]⟩ : Shape) .f32)
    (kv gate : FVec 𝔽 (⟨3, ![2, 2048, 1024]⟩ : Shape) .f32) :
    FVec 𝔽 (⟨3, ![8, 1024, 1024]⟩ : Shape) .bf16 := fun y =>
  ∑ k : Fin 2048, u (ix2 k (⟨(y 1).val, (y 1).isLt⟩ : Fin 1024)) * part conv q kv gate (y 0).val k (⟨(y 2).val, (y 2).isLt⟩ : Fin 1024)

variable (m : (ℓ : Loc nD τ sig) → Buf 𝕍 ℓ) (c : Dev nD)

theorem idx0 : ∀ t : Fin cfg0.N, win0_0.index t = ![0, 0] := by decide +kernel
theorem idx1 : ∀ t : Fin cfg0.N, t.val < 6 → win0_1.index t = ![t.val / 2, 0, t.val % 2] := by decide +kernel
theorem idx2 : ∀ t : Fin cfg0.N, t.val / 2 = 3 → win0_2.index t = ![0, 0, t.val % 2] := by decide +kernel
theorem idx3 : ∀ t : Fin cfg0.N, 8 ≤ t.val → t.val < 12 → win0_3.index t = ![t.val / 2 - 4, 0, t.val % 2] := by decide +kernel
theorem idx4 : ∀ t : Fin cfg0.N, 12 ≤ t.val → win0_4.index t = ![t.val / 2 - 6, 0, t.val % 2] := by decide +kernel
theorem idx5 : ∀ t : Fin cfg0.N, win0_5.index t = ![t.val / 2, 0, t.val % 2] := by decide +kernel
theorem t_lt (t : Fin cfg0.N) : t.val < 16 := lt_of_lt_of_eq t.isLt (show cfg0.N = 16 from N_0)

theorem V_0 : V m c main_v0 = truncf (F := 𝔽) .bf16 (m ((c : Thread nD τ).loc main_arg0)) bitsLt_bf16_f32 := by
  show StableHlo.after _ _ _ = _
  after_results
theorem V_1 : V m c main_v1 = truncf (F := 𝔽) .bf16 (m ((c : Thread nD τ).loc main_arg2)) bitsLt_bf16_f32 := by
  show StableHlo.after _ _ _ = _
  after_results
theorem V_2 : V m c main_v3 = broadcastInDim S1x2048x1024 ![1, 2] bcast_S2048x1024_S1x2048x1024_1_2
    (truncf (F := 𝔽) .bf16 (m ((c : Thread nD τ).loc main_arg3)) bitsLt_bf16_f32) := by
  show StableHlo.after _ _ _ = _
  after_results
theorem V_3 : V m c main_arg4 = m ((c : Thread nD τ).loc main_arg4) := by
  show StableHlo.after _ _ _ = _
  after_results
theorem V_4 : V m c main_v4 = truncf (F := 𝔽) .bf16 (m ((c : Thread nD τ).loc main_arg5)) bitsLt_bf16_f32 := by
  show StableHlo.after _ _ _ = _
  after_results

theorem bcast_at {φ : FTy} (x : FVec 𝔽 (⟨2, ![2048, 1024]⟩ : Shape) φ) (h) (u : Fin 1) (k : Fin 2048) (n : Fin 1024) :
    broadcastInDim (⟨3, ![1, 2048, 1024]⟩ : Shape) ![1, 2] h x (ix3 u k n) = x (ix2 k n) :=
  broadcastInDim_apply _ _ _ _ _ (fun ax => match ax with | ⟨0, _⟩ => rfl | ⟨1, _⟩ => rfl)

theorem blk_0 (t : Fin cfg0.N) (k : Fin 2048) (i : Fin 1024) :
    iblk m c 0 t (ix2 k i) = m ((c : Thread nD τ).loc main_arg0) (ix2 k i) := by
  refine Eq.trans (b := V m c main_v0 (ix2 k i)) ?_ (by rw [V_0]; rfl)
  blk_ext [iblk, idx0 t]
theorem blk_1 (t : Fin cfg0.N) (h : t.val < 6) (u : Fin 1) (k : Fin 2048) (j : Fin 512) :
    iblk m c 1 t (ix3 u k j) = m ((c : Thread nD τ).loc main_arg2) (ix3 (⟨t.val / 2, by omega⟩ : Fin 3) k (⟨t.val % 2 * 512 + j.val, by omega⟩ : Fin 1024)) := by
  refine Eq.trans (b := V m c main_v1 (ix3 (⟨t.val / 2, by omega⟩ : Fin 3) k (⟨t.val % 2 * 512 + j.val, by omega⟩ : Fin 1024))) ?_ (by rw [V_1]; rfl)
  blk_ext [iblk, idx1 t h]
theorem blk_2 (t : Fin cfg0.N) (h : t.val / 2 = 3) (u : Fin 1) (k : Fin 2048) (j : Fin 512) :
    iblk m c 2 t (ix3 u k j) = m ((c : Thread nD τ).loc main_arg3) (ix2 k (⟨t.val % 2 * 512 + j.val, by omega⟩ : Fin 1024)) := by
  refine Eq.trans (b := V m c main_v3 (ix3 (0 : Fin 1) k (⟨t.val % 2 * 512 + j.val, by omega⟩ : Fin 1024))) ?_ (by rw [V_2]; exact bcast_at _ _ _ _ _)
  blk_ext [iblk, idx2 t h]
theorem blk_3 (t : Fin cfg0.N) (h : 8 ≤ t.val) (h' : t.val < 12) (u : Fin 1) (k : Fin 2048) (j : Fin 512) :
    iblk m c 3 t (ix3 u k j) = m ((c : Thread nD τ).loc main_arg4) (ix3 (⟨t.val / 2 - 4, by omega⟩ : Fin 2) k (⟨t.val % 2 * 512 + j.val, by omega⟩ : Fin 1024)) := by
  refine Eq.trans (b := V m c main_arg4 (ix3 (⟨t.val / 2 - 4, by omega⟩ : Fin 2) k (⟨t.val % 2 * 512 + j.val, by omega⟩ : Fin 1024))) ?_ (by rw [V_3])
  blk_ext [iblk, idx3 t h h']
theorem blk_4 (t : Fin cfg0.N) (h : 12 ≤ t.val) (u : Fin 1) (k : Fin 2048) (j : Fin 512) :
    iblk m c 4 t (ix3 u k j) = m ((c : Thread nD τ).loc main_arg5) (ix3 (⟨t.val / 2 - 6, by have := t_lt t; omega⟩ : Fin 2) k (⟨t.val % 2 * 512 + j.val, by omega⟩ : Fin 1024)) := by
  have := t_lt t
  refine Eq.trans (b := V m c main_v4 (ix3 (⟨t.val / 2 - 6, by omega⟩ : Fin 2) k (⟨t.val % 2 * 512 + j.val, by omega⟩ : Fin 1024))) ?_ (by rw [V_4]; rfl)
  blk_ext [iblk, idx4 t h]

/-- What a grid point stores, at an index. -/
theorem pay (a : Vec 𝔽 S2048x1024 .bf16) (b : Vec 𝔽 S1x2048x512 .bf16)
    (u : Fin 1) (i : Fin 1024) (j : Fin 512) :
    k0_pay1 a b (ix3 u i j) = ∑ k : Fin 2048, a (ix2 k i) * b (ix3 (0 : Fin 1) k j) := by
  unfold k0_pay1
  refine (shapeCast_ab_1ab_apply _ _ u i j).trans ?_
  refine (truncf_at (φ := .f32) (ψ := .bf16) _ (by decide) _).trans ((Ideal.matmul_apply₁_of (d := dot_S2048x1024_S2048x512_S1024x512_0_0_1_1_n_n) (K := 2048) rfl rfl _ _ _ _
    (fun k => ix2 k i) (fun k => ix2 k j) (fun k => ?_) (fun k => ?_)).trans ?_)
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    rw [shapeCast_1ab_ab_apply, shapeCast_self]

/-- The same for the blocks that are read as single precision. -/
theorem pay3 (a : Vec 𝔽 S2048x1024 .bf16) (b : Vec 𝔽 S1x2048x512 .f32)
    (u : Fin 1) (i : Fin 1024) (j : Fin 512) :
    k0_pay3 a b (ix3 u i j) = ∑ k : Fin 2048, a (ix2 k i) * b (ix3 (0 : Fin 1) k j) := by
  unfold k0_pay3
  refine (shapeCast_ab_1ab_apply _ _ u i j).trans ?_
  refine (truncf_at (φ := .f32) (ψ := .bf16) _ (by decide) _).trans ((Ideal.matmul_apply₁_of (d := dot_S2048x1024_S2048x512_S1024x512_0_0_1_1_n_n) (K := 2048) rfl rfl _ _ _ _
    (fun k => ix2 k i) (fun k => ix2 k j) (fun k => ?_) (fun k => ?_)).trans ?_)
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    rw [shapeCast_self]
    exact congrArg (_ * ·) (shapeCast_1ab_ab_apply _ _ _ _)

theorem pay2 (a : Vec 𝔽 S2048x1024 .bf16) (b : Vec 𝔽 S1x2048x512 .bf16)
    (u : Fin 1) (i : Fin 1024) (j : Fin 512) :
    k0_pay2 a b (ix3 u i j) = ∑ k : Fin 2048, a (ix2 k i) * b (ix3 (0 : Fin 1) k j) := by
  unfold k0_pay2
  exact pay a b u i j
theorem pay4 (a : Vec 𝔽 S2048x1024 .bf16) (b : Vec 𝔽 S1x2048x512 .bf16)
    (u : Fin 1) (i : Fin 1024) (j : Fin 512) :
    k0_pay4 a b (ix3 u i j) = ∑ k : Fin 2048, a (ix2 k i) * b (ix3 (0 : Fin 1) k j) := by
  unfold k0_pay4
  exact pay a b u i j

/-- The kernel's array. -/
theorem arr : (dats m 0 c).arrAt 5 cfg0.N
    = prod (m ((c : Thread nD τ).loc main_arg0)) (m ((c : Thread nD τ).loc main_arg2)) (m ((c : Thread nD τ).loc main_arg3))
      (m ((c : Thread nD τ).loc main_arg4)) (m ((c : Thread nD τ).loc main_arg5)) := by
  refine (dats m 0 c).arrAt_eq_of_covers 5 _ (by decide +kernel) fun t hf y => ?_
  have ht := t_lt t
  unfold prod
  blk_simp [idx5 t]
  rw [after0_5]
  by_cases hA : t.val < 6
  · rw [outsAt0_A m c t  (by omega) (by omega) (by omega) (by omega)]
    frame_out
    refine (congrArg _ (ValueIdx.eq_ix3 (n0 := 1) (n1 := 1024) (n2 := 512) y)).trans ((pay _ _ _ _ _).trans ?_)
    refine Finset.sum_congr rfl fun k _ => ?_
    refine congrArg₂ (· * ·) ((blk_0 m c t k _).trans (congrArg _ ?_)) ((blk_1 m c t hA 0 k (y 2)).trans ?_)
    · rfl
    · unfold part; rw [dif_pos (by omega)]
  by_cases hB : t.val < 8
  · rw [outsAt0_B m c t  (by omega) (by omega) (by omega) (by omega)]
    frame_out
    refine (congrArg _ (ValueIdx.eq_ix3 (n0 := 1) (n1 := 1024) (n2 := 512) y)).trans ((pay2 _ _ _ _ _).trans ?_)
    refine Finset.sum_congr rfl fun k _ => ?_
    refine congrArg₂ (· * ·) ((blk_0 m c t k _).trans (congrArg _ ?_)) ((blk_2 m c t (by omega) 0 k (y 2)).trans ?_)
    · rfl
    · unfold part; rw [dif_neg (by omega), dif_pos (by omega)]
  by_cases hC : t.val < 12
  · rw [outsAt0_C m c t  (by omega) (by omega) (by omega) (by omega)]
    frame_out
    refine (congrArg _ (ValueIdx.eq_ix3 (n0 := 1) (n1 := 1024) (n2 := 512) y)).trans ((pay3 _ _ _ _ _).trans ?_)
    refine Finset.sum_congr rfl fun k _ => ?_
    refine congrArg₂ (· * ·) ((blk_0 m c t k _).trans (congrArg _ ?_)) ((blk_3 m c t (by omega) (by omega) 0 k (y 2)).trans ?_)
    · rfl
    · unfold part; rw [dif_neg (by omega), dif_neg (by omega), dif_pos (by omega)]
  rw [outsAt0_D m c t  (by omega) (by omega) (by omega) (by omega)]
  frame_out
  refine (congrArg _ (ValueIdx.eq_ix3 (n0 := 1) (n1 := 1024) (n2 := 512) y)).trans ((pay4 _ _ _ _ _).trans ?_)
  refine Finset.sum_congr rfl fun k _ => ?_
  refine congrArg₂ (· * ·) ((blk_0 m c t k _).trans (congrArg _ ?_)) ((blk_4 m c t (by omega) 0 k (y 2)).trans ?_)
  · rfl
  · unfold part; rw [dif_neg (by omega), dif_neg (by omega), dif_neg (by omega), dif_pos (by omega)]

/-- An array padded with zeros along the first axis, at an index. -/
theorem pad_at {n lo hi : ℕ} (x : FVec 𝔽 (⟨3, ![n, 2048, 1024]⟩ : Shape) .f32) {u : Shape} (z : FVec 𝔽 u .f32)
    (hz : ∀ i, z i = 0) (h) (hu) (j : Fin 8) (k : Fin 2048) (l : Fin 1024) :
    pad (⟨3, ![8, 2048, 1024]⟩ : Shape) ![lo, 0, 0] ![hi, 0, 0] ![0, 0, 0] x z h hu (ix3 j k l)
      = if hj : lo ≤ j.val ∧ j.val - lo < n then x (ix3 (⟨j.val - lo, hj.2⟩ : Fin n) k l) else 0 := by
  split
  · rename_i hj
    refine pad_apply_of_inside _ _ _ _ _ _ _ _ _ (fun ax => ?_)
    match ax with
    | ⟨0, _⟩ => show j.val = lo + (j.val - lo) * (0 + 1); omega
    | ⟨1, _⟩ => show k.val = 0 + k.val * (0 + 1); omega
    | ⟨2, _⟩ => show l.val = 0 + l.val * (0 + 1); omega
  · rename_i hj
    refine (pad_apply_of_not_inside _ _ _ _ _ _ _ _ (⟨0, by decide⟩ : Fin 3) ?_).trans (hz _)
    show ¬(lo ≤ j.val ∧ (j.val - lo) % (0 + 1) = 0 ∧ (j.val - lo) / (0 + 1) < n)
    exact fun ⟨a, _, b⟩ => hj ⟨a, by simpa using b⟩

/-- The reference's product. -/
theorem ref (u : FVec 𝔽 (⟨2, ![2048, 1024]⟩ : Shape) .f32) (conv : FVec 𝔽 (⟨3, ![3, 2048, 1024]⟩ : Shape) .f32)
    (q : FVec 𝔽 (⟨2, ![2048, 1024]⟩ : Shape) .f32)
    (kv gate : FVec 𝔽 (⟨3, ![2, 2048, 1024]⟩ : Shape) .f32) :
    truncf .bf16 (transpose Cert.ReferenceInIdeal.S8x1024x1024 [0, 2, 1] (Host.dotGeneral Cert.ReferenceInIdeal.dot_S8x1024x2048_S2048x1024_S8x1024x1024_2_0_01_1_n_n none
      (transpose Cert.ReferenceInIdeal.S8x1024x2048 [0, 2, 1]
        (addf (addf (addf
          (pad Cert.ReferenceInIdeal.S8x2048x1024 ![6, 0, 0] ![0, 0, 0] ![0, 0, 0] gate (constant Cert.ReferenceInIdeal.S_ .f32 0x00000000#32) Cert.ReferenceInIdeal.Gen.pads_S2x2048x1024_S8x2048x1024_600_000_000 Cert.ReferenceInIdeal.Gen.h_S_)
          (pad Cert.ReferenceInIdeal.S8x2048x1024 ![4, 0, 0] ![2, 0, 0] ![0, 0, 0] kv (constant Cert.ReferenceInIdeal.S_ .f32 0x00000000#32) Cert.ReferenceInIdeal.Gen.pads_S2x2048x1024_S8x2048x1024_420_000_000 Cert.ReferenceInIdeal.Gen.h_S_))
          (pad Cert.ReferenceInIdeal.S8x2048x1024 ![3, 0, 0] ![4, 0, 0] ![0, 0, 0] (broadcastInDim Cert.ReferenceInIdeal.S1x2048x1024 ![1, 2] Cert.ReferenceInIdeal.Gen.bcast_S2048x1024_S1x2048x1024_1_2 q) (constant Cert.ReferenceInIdeal.S_ .f32 0x00000000#32) Cert.ReferenceInIdeal.Gen.pads_S1x2048x1024_S8x2048x1024_340_000_000 Cert.ReferenceInIdeal.Gen.h_S_))
          (pad Cert.ReferenceInIdeal.S8x2048x1024 ![0, 0, 0] ![5, 0, 0] ![0, 0, 0] conv (constant Cert.ReferenceInIdeal.S_ .f32 0x00000000#32) Cert.ReferenceInIdeal.Gen.pads_S3x2048x1024_S8x2048x1024_050_000_000 Cert.ReferenceInIdeal.Gen.h_S_))
        Cert.ReferenceInIdeal.Gen.transposes_S8x2048x1024_S8x1024x2048_0_2_1) u) Cert.ReferenceInIdeal.Gen.transposes_S8x1024x1024_S8x1024x1024_0_2_1) Cert.ReferenceInIdeal.Gen.bitsLt_bf16_f32
    = prod u conv q kv gate := by
  funext y
  obtain ⟨j, i, n, rfl⟩ : ∃ (j : Fin 8) (i : Fin 1024) (n : Fin 1024), y = ix3 j i n := ⟨y 0, y 1, y 2, ValueIdx.eq_ix3 y⟩
  refine (truncf_at (φ := .f32) (ψ := .bf16) _ (by decide) _).trans ((transpose_apply _ _ _ (ix3 j i n) (ix3 j n i) (fun ax => ?_)).trans ?_)
  · match ax with
    | ⟨0, _⟩ => rfl
    | ⟨1, _⟩ => rfl
    | ⟨2, _⟩ => rfl
  refine (Ideal.matmul_apply₁_of (d := Cert.ReferenceInIdeal.dot_S8x1024x2048_S2048x1024_S8x1024x1024_2_0_01_1_n_n) (K := 2048) rfl rfl _ _ _ _
    (fun k => ix3 j n k) (fun k => ix2 k i) (fun k => ?_) (fun k => ?_)).trans ?_
  · funext ax; match ax with | ⟨0, _⟩ => rfl | ⟨1, _⟩ => rfl | ⟨2, _⟩ => rfl
  · funext ax; match ax with | ⟨0, _⟩ => rfl | ⟨1, _⟩ => rfl
  · refine (zero_add _).trans (Finset.sum_congr rfl fun k _ => ?_)
    rw [mul_comm]
    refine congrArg (_ * ·) ((transpose_apply _ _ _ (ix3 j n k) (ix3 j k n) (fun ax => ?_)).trans ?_)
    · match ax with
      | ⟨0, _⟩ => rfl
      | ⟨1, _⟩ => rfl
      | ⟨2, _⟩ => rfl
    · have hz : ∀ i, (constant (F := 𝔽) Cert.ReferenceInIdeal.S_ .f32 0x00000000#32) i = 0 := fun i => Ideal.ofBits_zero .f32
      refine (congrArg₂ (· + ·) (congrArg₂ (· + ·) (congrArg₂ (· + ·) (pad_at _ _ hz _ _ j k n) (pad_at _ _ hz _ _ j k n)) (pad_at _ _ hz _ _ j k n)) (pad_at _ _ hz _ _ j k n)).trans ?_
      have hj := j.isLt
      show _ = part conv q kv gate j.val k n
      unfold part
      split_ifs <;> first | omega | (simp; done) | (simp; exact bcast_at _ _ _ _ _)

end In

namespace Ckv
open Cert.KernelCkvIdeal Cert.KernelCkvIdeal.Gen

/-- Block `y 0` of the weight's gradient at `(y 1, y 2)`. -/
def prod (a : FVec 𝔽 (⟨2, ![256, 1024]⟩ : Shape) .f32) (b : FVec 𝔽 (⟨3, ![8, 256, 256]⟩ : Shape) .f32) :
    FVec 𝔽 (⟨3, ![8, 1024, 256]⟩ : Shape) .bf16 := fun y =>
  ∑ k : Fin 256, a (ix2 k (⟨(y 1).val, (y 1).isLt⟩ : Fin 1024)) * b (ix3 (⟨(y 0).val, (y 0).isLt⟩ : Fin 8) k (⟨(y 2).val, (y 2).isLt⟩ : Fin 256))

variable (m : (ℓ : Loc nD τ sig) → Buf 𝕍 ℓ) (c : Dev nD)

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![t.val, 0, 0] := by decide +kernel

theorem V_a : V m c main_arg0 = m ((c : Thread nD τ).loc main_arg0) := by
  first | rfl | (show StableHlo.after _ _ _ = _; after_results)
theorem V_b : V m c main_arg2 = m ((c : Thread nD τ).loc main_arg2) := by
  first | rfl | (show StableHlo.after _ _ _ = _; after_results)

theorem blk_a (t : Fin cfg0.N) (k : Fin 256) (i : Fin 1024) :
    iblk m c 0 t (ix2 k i) = m ((c : Thread nD τ).loc main_arg0) (ix2 k i) := by
  refine Eq.trans (b := V m c main_arg0 (ix2 k i)) ?_ (by rw [V_a])
  blk_ext [iblk, idx0 t]
theorem blk_b (t : Fin cfg0.N) (u : Fin 1) (k j : Fin 256) :
    iblk m c 1 t (ix3 u k j) = m ((c : Thread nD τ).loc main_arg2) (ix3 (⟨t.val, t.isLt⟩ : Fin 8) k j) := by
  refine Eq.trans (b := V m c main_arg2 (ix3 (⟨t.val, t.isLt⟩ : Fin 8) k j)) ?_ (by rw [V_b])
  blk_ext [iblk, idx1 t]

/-- What a grid point stores, at an index. -/
theorem pay (a : Vec 𝔽 S256x1024 .f32) (b : Vec 𝔽 S1x256x256 .f32)
    (u : Fin 1) (i : Fin 1024) (j : Fin 256) :
    k0_pay1 a b (ix3 u i j) = ∑ k : Fin 256, a (ix2 k i) * b (ix3 (0 : Fin 1) k j) := by
  unfold k0_pay1
  refine (shapeCast_ab_1ab_apply _ _ u i j).trans ?_
  refine (truncf_at (φ := .f32) (ψ := .bf16) _ (by decide) _).trans ((Ideal.matmul_apply₁_of (d := dot_S256x1024_S256x256_S1024x256_0_0_1_1_n_n) (K := 256) rfl rfl _ _ _ _
    (fun k => ix2 k i) (fun k => ix2 k j) (fun k => ?_) (fun k => ?_)).trans ?_)
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    exact congrArg (_ * ·) (shapeCast_1ab_ab_apply _ _ _ _)

/-- The kernel's array. -/
theorem arr : (dats m 0 c).arrAt 2 cfg0.N
    = prod (m ((c : Thread nD τ).loc main_arg0)) (m ((c : Thread nD τ).loc main_arg2)) := by
  refine (dats m 0 c).arrAt_eq_of_covers 2 _ (by decide +kernel) fun t hf y => ?_
  unfold prod
  blk_simp [idx2 t]
  rw [after0_2]
  frame_out
  refine (congrArg _ (ValueIdx.eq_ix3 (n0 := 1) (n1 := 1024) (n2 := 256) y)).trans ((pay _ _ _ _ _).trans ?_)
  refine Finset.sum_congr rfl fun k _ => ?_
  refine congrArg₂ (· * ·) ((blk_a m c t k _).trans (congrArg _ ?_)) ((blk_b m c t 0 k (y 2)).trans (congrArg _ ?_))
  · rfl
  · rfl

/-- The reference's product. -/
theorem ref (a : FVec 𝔽 (⟨2, ![256, 1024]⟩ : Shape) .f32) (b : FVec 𝔽 (⟨3, ![8, 256, 256]⟩ : Shape) .f32) :
    truncf .bf16 (transpose Cert.ReferenceCkvIdeal.S8x1024x256 [0, 2, 1] (Host.dotGeneral Cert.ReferenceCkvIdeal.dot_S8x256x256_S256x1024_S8x256x1024_2_0_01_1_n_n none
      (transpose Cert.ReferenceCkvIdeal.S8x256x256 [0, 2, 1] b Cert.ReferenceCkvIdeal.Gen.transposes_S8x256x256_S8x256x256_0_2_1) a) Cert.ReferenceCkvIdeal.Gen.transposes_S8x256x1024_S8x1024x256_0_2_1) Cert.ReferenceCkvIdeal.Gen.bitsLt_bf16_f32
    = prod a b := by
  funext y
  obtain ⟨j, i, n, rfl⟩ : ∃ (j : Fin 8) (i : Fin 1024) (n : Fin 256), y = ix3 j i n := ⟨y 0, y 1, y 2, ValueIdx.eq_ix3 y⟩
  refine (truncf_at (φ := .f32) (ψ := .bf16) _ (by decide) _).trans ((transpose_apply _ _ _ (ix3 j i n) (ix3 j n i) (fun ax => ?_)).trans ?_)
  · match ax with
    | ⟨0, _⟩ => rfl
    | ⟨1, _⟩ => rfl
    | ⟨2, _⟩ => rfl
  refine (Ideal.matmul_apply₁_of (d := Cert.ReferenceCkvIdeal.dot_S8x256x256_S256x1024_S8x256x1024_2_0_01_1_n_n) (K := 256) rfl rfl _ _ _ _
    (fun k => ix3 j n k) (fun k => ix2 k i) (fun k => ?_) (fun k => ?_)).trans ?_
  · funext ax; match ax with | ⟨0, _⟩ => rfl | ⟨1, _⟩ => rfl | ⟨2, _⟩ => rfl
  · funext ax; match ax with | ⟨0, _⟩ => rfl | ⟨1, _⟩ => rfl
  · refine (zero_add _).trans (Finset.sum_congr rfl fun k _ => ?_)
    rw [mul_comm]
    refine congrArg (_ * ·) (transpose_apply _ _ _ _ _ (fun ax => ?_))
    match ax with
    | ⟨0, _⟩ => rfl
    | ⟨1, _⟩ => rfl
    | ⟨2, _⟩ => rfl

end Ckv

end Cert.Calc
-- ==== Proof.Squares.lean ====
module

public import proofs.«01_k».proof.Proof.Rows
public import proofs.«01_k».proof.Proof.Gen.KernelMixIdeal.Value
public import proofs.«01_k».proof.Proof.Gen.KernelCrossIdeal.Value
public import proofs.«01_k».proof.Proof.Gen.ReferenceMixIdeal.Run
public import proofs.«01_k».proof.Proof.Gen.ReferenceCrossIdeal.Run

/-!
The gradients of the square matrices of the mixing half step and of the cross attention. The matrices
lie side by side in one array: its first axis is the eight groups of 128 rows of a matrix, its second
the matrix and the row within the group. The gradient of a matrix is the product over all rows of its
input with the gradient of its output.
-/

@[expose] public section

noncomputable section

namespace Cert.Calc

open Idealize.ShloMosaic hiding ix1 ix2 ix3 ix4
open Idealize.ShloMosaic.ValueIdx
open Idealize.ShloMosaic.TcCoe
open scoped BigOperators

local notation "𝔽" => Idealize.ShloMosaic.Ideal
local notation "𝕍" => Elt Idealize.ShloMosaic.Ideal

/-- Row `r` of group `e` of the rows of a square matrix. -/
def row (e r : ℕ) : Fin 1024 := ⟨(128 * e + r) % 1024, Nat.mod_lt _ (by decide)⟩

/-- The gradient of a square matrix at row `r` of group `e` and column `c`. -/
def sq (a b : FVec 𝔽 (⟨2, ![2048, 1024]⟩ : Shape) .f32) (e r : ℕ) (c : Fin 1024) : EReal :=
  ∑ k : Fin 2048, a (ix2 k (row e r)) * b (ix2 k c)

/-- The rows of a matrix in eight groups. -/
theorem groups_at {α : Type} {b : ℕ} (x : (⟨2, ![1024, b]⟩ : Shape).Idx → α) (h) (e : Fin 8) (r : Fin 128) (j : Fin b) :
    shapeCast (⟨3, ![8, 128, b]⟩ : Shape) x h (ix3 e r j) = x (ix2 (row e r) j) :=
  shapeCast_apply x h _ _ (by
    rw [Shape.rowMajor_val_three, Shape.rowMajor_val_two]
    show (128 * e.val + r.val) % 1024 * b + j.val = (e.val * 128 + r.val) * b + j.val
    rw [Nat.mod_eq_of_lt (by omega), Nat.mul_comm 128])

namespace Mix
open Cert.KernelMixIdeal Cert.KernelMixIdeal.Gen

/-- The gradients of the three matrices, as they are stored. -/
def prod (a0 a1 a2 b0 b1 b2 : FVec 𝔽 (⟨2, ![2048, 1024]⟩ : Shape) .f32) :
    FVec 𝔽 (⟨3, ![8, 384, 1024]⟩ : Shape) .bf16 := fun y =>
  if (y 1).val < 128 then sq a0 b0 (y 0).val (y 1).val (⟨(y 2).val, (y 2).isLt⟩ : Fin 1024)
  else if (y 1).val < 256 then sq a1 b1 (y 0).val ((y 1).val - 128) (⟨(y 2).val, (y 2).isLt⟩ : Fin 1024)
  else sq a2 b2 (y 0).val ((y 1).val - 256) (⟨(y 2).val, (y 2).isLt⟩ : Fin 1024)

variable (m : (ℓ : Loc nD τ sig) → Buf 𝕍 ℓ) (c : Dev nD)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, t.val / 2 = 0 → win0_3.index t = ![0, t.val % 2] := by decide +kernel
theorem idx4 : ∀ t : Fin cfg0.N, t.val / 2 = 1 → win0_4.index t = ![0, t.val % 2] := by decide +kernel
theorem idx5 : ∀ t : Fin cfg0.N, t.val / 2 = 2 → win0_5.index t = ![0, t.val % 2] := by decide +kernel
theorem idx6 : ∀ t : Fin cfg0.N, win0_6.index t = ![0, t.val / 2, t.val % 2] := by decide +kernel
theorem t_lt (t : Fin cfg0.N) : t.val < 6 := lt_of_lt_of_eq t.isLt (show cfg0.N = 6 from N_0)

theorem V_0 : V m c main_v0 = truncf (F := 𝔽) .bf16 (m ((c : Thread nD τ).loc main_arg0)) bitsLt_bf16_f32 := by
  show StableHlo.after _ _ _ = _
  after_results
theorem V_1 : V m c main_v2 = truncf (F := 𝔽) .bf16 (m ((c : Thread nD τ).loc main_arg1)) bitsLt_bf16_f32 := by
  show StableHlo.after _ _ _ = _
  after_results
theorem V_2 : V m c main_v4 = truncf (F := 𝔽) .bf16 (m ((c : Thread nD τ).loc main_arg2)) bitsLt_bf16_f32 := by
  show StableHlo.after _ _ _ = _
  after_results
theorem V_3 : V m c main_v1 = truncf (F := 𝔽) .bf16 (m ((c : Thread nD τ).loc main_arg4)) bitsLt_bf16_f32 := by
  show StableHlo.after _ _ _ = _
  after_results
theorem V_4 : V m c main_v3 = truncf (F := 𝔽) .bf16 (m ((c : Thread nD τ).loc main_arg5)) bitsLt_bf16_f32 := by
  show StableHlo.after _ _ _ = _
  after_results
theorem V_5 : V m c main_v5 = truncf (F := 𝔽) .bf16 (m ((c : Thread nD τ).loc main_arg6)) bitsLt_bf16_f32 := by
  show StableHlo.after _ _ _ = _
  after_results

theorem blk_0 (t : Fin cfg0.N) (k : Fin 2048) (i : Fin 1024) :
    iblk m c 0 t (ix2 k i) = m ((c : Thread nD τ).loc main_arg0) (ix2 k i) := by
  refine Eq.trans (b := V m c main_v0 (ix2 k i)) ?_ (by rw [V_0]; rfl)
  blk_ext [iblk, idx0 t]
theorem blk_1 (t : Fin cfg0.N) (k : Fin 2048) (i : Fin 1024) :
    iblk m c 1 t (ix2 k i) = m ((c : Thread nD τ).loc main_arg1) (ix2 k i) := by
  refine Eq.trans (b := V m c main_v2 (ix2 k i)) ?_ (by rw [V_1]; rfl)
  blk_ext [iblk, idx1 t]
theorem blk_2 (t : Fin cfg0.N) (k : Fin 2048) (i : Fin 1024) :
    iblk m c 2 t (ix2 k i) = m ((c : Thread nD τ).loc main_arg2) (ix2 k i) := by
  refine Eq.trans (b := V m c main_v4 (ix2 k i)) ?_ (by rw [V_2]; rfl)
  blk_ext [iblk, idx2 t]
theorem blk_3 (t : Fin cfg0.N) (h : t.val / 2 = 0) (k : Fin 2048) (j : Fin 512) :
    iblk m c 3 t (ix2 k j) = m ((c : Thread nD τ).loc main_arg4) (ix2 k (⟨t.val % 2 * 512 + j.val, by omega⟩ : Fin 1024)) := by
  refine Eq.trans (b := V m c main_v1 (ix2 k (⟨t.val % 2 * 512 + j.val, by omega⟩ : Fin 1024))) ?_ (by rw [V_3]; rfl)
  blk_ext [iblk, idx3 t h]
theorem blk_4 (t : Fin cfg0.N) (h : t.val / 2 = 1) (k : Fin 2048) (j : Fin 512) :
    iblk m c 4 t (ix2 k j) = m ((c : Thread nD τ).loc main_arg5) (ix2 k (⟨t.val % 2 * 512 + j.val, by omega⟩ : Fin 1024)) := by
  refine Eq.trans (b := V m c main_v3 (ix2 k (⟨t.val % 2 * 512 + j.val, by omega⟩ : Fin 1024))) ?_ (by rw [V_4]; rfl)
  blk_ext [iblk, idx4 t h]
theorem blk_5 (t : Fin cfg0.N) (h : t.val / 2 = 2) (k : Fin 2048) (j : Fin 512) :
    iblk m c 5 t (ix2 k j) = m ((c : Thread nD τ).loc main_arg6) (ix2 k (⟨t.val % 2 * 512 + j.val, by omega⟩ : Fin 1024)) := by
  refine Eq.trans (b := V m c main_v5 (ix2 k (⟨t.val % 2 * 512 + j.val, by omega⟩ : Fin 1024))) ?_ (by rw [V_5]; rfl)
  blk_ext [iblk, idx5 t h]

/-- What a grid point stores, at an index. -/
theorem pay (a : Vec 𝔽 S2048x1024 .bf16) (b : Vec 𝔽 S2048x512 .bf16)
    (e : Fin 8) (r : Fin 128) (j : Fin 512) :
    k0_pay1 a b (ix3 e r j) = ∑ k : Fin 2048, a (ix2 k (row e r)) * b (ix2 k j) := by
  unfold k0_pay1
  refine (groups_at _ _ e r j).trans ?_
  refine (truncf_at (φ := .f32) (ψ := .bf16) _ (by decide) _).trans ((Ideal.matmul_apply₁_of (d := dot_S2048x1024_S2048x512_S1024x512_0_0_1_1_n_n) (K := 2048) rfl rfl _ _ _ _
    (fun k => ix2 k (row e r)) (fun k => ix2 k j) (fun k => ?_) (fun k => ?_)).trans ?_)
  · funext ax; match ax with | ⟨0, _⟩ => rfl | ⟨1, _⟩ => rfl
  · funext ax; match ax with | ⟨0, _⟩ => rfl | ⟨1, _⟩ => rfl
  · refine (congrArg (· + _) (Ideal.ofBits_zero .f32)).trans ?_
    rw [zero_add]
    refine Finset.sum_congr rfl fun k _ => ?_
    rw [shapeCast_self, shapeCast_self]

/-- The kernel's array. -/
theorem arr : (dats m 0 c).arrAt 6 cfg0.N
    = prod (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (dats m 0 c).arrAt_eq_of_covers 6 _ (by decide +kernel) fun t hf y => ?_
  have ht := t_lt t
  have hy : (y 1).val < 128 := (y 1).isLt
  unfold prod
  blk_simp [idx6 t]
  rw [after0_6]
  by_cases h0 : t.val / 2 = 0
  · rw [outsAt0_A m c t (by omega) (by omega) (by omega), if_pos (by omega)]
    frame_out
    refine (congrArg _ (ValueIdx.eq_ix3 (n0 := 8) (n1 := 128) (n2 := 512) y)).trans ((Mix.pay _ _ _ _ _).trans ?_)
    refine Finset.sum_congr rfl fun k _ => ?_
    refine congrArg₂ (· * ·) ((blk_0 m c t k _).trans (congrArg _ ?_)) ((blk_3 m c t (by omega) k (y 2)).trans (congrArg _ ?_))
    · exact congrArg (fun n => ix2 k (row (y 0).val n)) (by omega)
    · rfl
  by_cases h1 : t.val / 2 = 1
  · rw [outsAt0_B m c t (by omega) (by omega) (by omega), if_neg (by omega), if_pos (by omega)]
    frame_out
    refine (congrArg _ (ValueIdx.eq_ix3 (n0 := 8) (n1 := 128) (n2 := 512) y)).trans ((Mix.pay _ _ _ _ _).trans ?_)
    refine Finset.sum_congr rfl fun k _ => ?_
    refine congrArg₂ (· * ·) ((blk_1 m c t k _).trans (congrArg _ ?_)) ((blk_4 m c t (by omega) k (y 2)).trans (congrArg _ ?_))
    · exact congrArg (fun n => ix2 k (row (y 0).val n)) (by omega)
    · rfl
  rw [outsAt0_C m c t (by omega) (by omega) (by omega), if_neg (by omega), if_neg (by omega)]
  frame_out
  refine (congrArg _ (ValueIdx.eq_ix3 (n0 := 8) (n1 := 128) (n2 := 512) y)).trans ((Mix.pay _ _ _ _ _).trans ?_)
  refine Finset.sum_congr rfl fun k _ => ?_
  refine congrArg₂ (· * ·) ((blk_2 m c t k _).trans (congrArg _ ?_)) ((blk_5 m c t (by omega) k (y 2)).trans (congrArg _ ?_))
  · exact congrArg (fun n => ix2 k (row (y 0).val n)) (by omega)
  · rfl

/-- The reference's gradient of one matrix. -/
theorem piece (a b : FVec 𝔽 (⟨2, ![2048, 1024]⟩ : Shape) .f32) (e : Fin 8) (r : Fin 128) (j : Fin 1024) :
    (shapeCast Cert.ReferenceMixIdeal.S8x128x1024 (transpose Cert.ReferenceMixIdeal.S1024x1024 [1, 0] (Host.dotGeneral Cert.ReferenceMixIdeal.dot_S2048x1024_S2048x1024_S1024x1024_0_0_1_1_n_n none b a) Cert.ReferenceMixIdeal.Gen.transposes_S1024x1024_S1024x1024_1_0) Cert.ReferenceMixIdeal.Gen.shapeCasts_S1024x1024_S8x128x1024) (ix3 e r j) = sq a b e.val r.val j := by
  refine (groups_at _ _ e r j).trans ((transpose_apply _ _ _ (ix2 (row e r) j) (ix2 j (row e r)) (fun ax => ?_)).trans ?_)
  · match ax with
    | ⟨0, _⟩ => rfl
    | ⟨1, _⟩ => rfl
  refine (Ideal.matmul_apply₁_of (d := Cert.ReferenceMixIdeal.dot_S2048x1024_S2048x1024_S1024x1024_0_0_1_1_n_n) (K := 2048) rfl rfl _ _ _ _
    (fun k => ix2 k j) (fun k => ix2 k (row e r)) (fun k => ?_) (fun k => ?_)).trans ?_
  · funext ax; match ax with | ⟨0, _⟩ => rfl | ⟨1, _⟩ => rfl
  · funext ax; match ax with | ⟨0, _⟩ => rfl | ⟨1, _⟩ => rfl
  · exact (zero_add _).trans (Finset.sum_congr rfl fun k _ => mul_comm _ _)

/-- The reference's array. -/
theorem ref (a0 a1 a2 b0 b1 b2 : FVec 𝔽 (⟨2, ![2048, 1024]⟩ : Shape) .f32) :
    truncf .bf16 (concatenate Cert.ReferenceMixIdeal.S8x384x1024 1 [⟨Cert.ReferenceMixIdeal.S8x128x1024, (shapeCast Cert.ReferenceMixIdeal.S8x128x1024 (transpose Cert.ReferenceMixIdeal.S1024x1024 [1, 0] (Host.dotGeneral Cert.ReferenceMixIdeal.dot_S2048x1024_S2048x1024_S1024x1024_0_0_1_1_n_n none b0 a0) Cert.ReferenceMixIdeal.Gen.transposes_S1024x1024_S1024x1024_1_0) Cert.ReferenceMixIdeal.Gen.shapeCasts_S1024x1024_S8x128x1024)⟩, ⟨Cert.ReferenceMixIdeal.S8x128x1024, (shapeCast Cert.ReferenceMixIdeal.S8x128x1024 (transpose Cert.ReferenceMixIdeal.S1024x1024 [1, 0] (Host.dotGeneral Cert.ReferenceMixIdeal.dot_S2048x1024_S2048x1024_S1024x1024_0_0_1_1_n_n none b1 a1) Cert.ReferenceMixIdeal.Gen.transposes_S1024x1024_S1024x1024_1_0) Cert.ReferenceMixIdeal.Gen.shapeCasts_S1024x1024_S8x128x1024)⟩, ⟨Cert.ReferenceMixIdeal.S8x128x1024, (shapeCast Cert.ReferenceMixIdeal.S8x128x1024 (transpose Cert.ReferenceMixIdeal.S1024x1024 [1, 0] (Host.dotGeneral Cert.ReferenceMixIdeal.dot_S2048x1024_S2048x1024_S1024x1024_0_0_1_1_n_n none b2 a2) Cert.ReferenceMixIdeal.Gen.transposes_S1024x1024_S1024x1024_1_0) Cert.ReferenceMixIdeal.Gen.shapeCasts_S1024x1024_S8x128x1024)⟩] Cert.ReferenceMixIdeal.Gen.concatenates_S8x128x1024_S8x128x1024_S8x128x1024_S8x384x1024_d1 : FVec 𝔽 Cert.ReferenceMixIdeal.S8x384x1024 .f32) Cert.ReferenceMixIdeal.Gen.bitsLt_bf16_f32
    = prod a0 a1 a2 b0 b1 b2 := by
  funext y
  obtain ⟨e, i, j, rfl⟩ : ∃ (e : Fin 8) (i : Fin 384) (j : Fin 1024), y = ix3 e i j := ⟨y 0, y 1, y 2, ValueIdx.eq_ix3 y⟩
  have hi := i.isLt
  unfold prod
  refine (truncf_at (φ := .f32) (ψ := .bf16) _ (by decide) _).trans ?_
  by_cases h0 : i.val < 128
  · refine (concatenate_apply_piece (t := Cert.ReferenceMixIdeal.S8x384x1024) 1 _ _ (ix3 e i j) 0 (by show 0 < 3; decide) Cert.ReferenceMixIdeal.S8x128x1024 _ rfl rfl 0 rfl (ix3 e (⟨i.val - 0, by omega⟩ : Fin 128) j) (fun b hb => ?_) ?_).trans
      ((Mix.piece a0 b0 e ⟨i.val - 0, by omega⟩ j).trans ?_)
    · match b with
      | ⟨0, _⟩ => rfl
      | ⟨1, _⟩ => exact absurd rfl hb
      | ⟨2, _⟩ => rfl
    · show 0 + (i.val - 0) = i.val; omega
    · symm
      refine (if_pos (show i.val < 128 by omega)).trans ?_
      rfl
  by_cases h1 : i.val < 256
  · refine (concatenate_apply_piece (t := Cert.ReferenceMixIdeal.S8x384x1024) 1 _ _ (ix3 e i j) 1 (by show 1 < 3; decide) Cert.ReferenceMixIdeal.S8x128x1024 _ rfl rfl 128 rfl (ix3 e (⟨i.val - 128, by omega⟩ : Fin 128) j) (fun b hb => ?_) ?_).trans
      ((Mix.piece a1 b1 e ⟨i.val - 128, by omega⟩ j).trans ?_)
    · match b with
      | ⟨0, _⟩ => rfl
      | ⟨1, _⟩ => exact absurd rfl hb
      | ⟨2, _⟩ => rfl
    · show 128 + (i.val - 128) = i.val; omega
    · symm
      refine (if_neg (show ¬i.val < 128 by omega)).trans ?_
      refine (if_pos (show i.val < 256 by omega)).trans ?_
      rfl
  refine (concatenate_apply_piece (t := Cert.ReferenceMixIdeal.S8x384x1024) 1 _ _ (ix3 e i j) 2 (by show 2 < 3; decide) Cert.ReferenceMixIdeal.S8x128x1024 _ rfl rfl 256 rfl (ix3 e (⟨i.val - 256, by omega⟩ : Fin 128) j) (fun b hb => ?_) ?_).trans
    ((Mix.piece a2 b2 e ⟨i.val - 256, by omega⟩ j).trans ?_)
  · match b with
    | ⟨0, _⟩ => rfl
    | ⟨1, _⟩ => exact absurd rfl hb
    | ⟨2, _⟩ => rfl
  · show 256 + (i.val - 256) = i.val; omega
  · symm
    refine (if_neg (show ¬i.val < 128 by omega)).trans ?_
    refine (if_neg (show ¬i.val < 256 by omega)).trans ?_
    rfl

end Mix

namespace Cross
open Cert.KernelCrossIdeal Cert.KernelCrossIdeal.Gen

/-- The gradients of the two matrices, as they are stored. -/
def prod (a0 a1 b0 b1 : FVec 𝔽 (⟨2, ![2048, 1024]⟩ : Shape) .f32) :
    FVec 𝔽 (⟨3, ![8, 256, 1024]⟩ : Shape) .bf16 := fun y =>
  if (y 1).val < 128 then sq a0 b0 (y 0).val (y 1).val (⟨(y 2).val, (y 2).isLt⟩ : Fin 1024)
  else sq a1 b1 (y 0).val ((y 1).val - 128) (⟨(y 2).val, (y 2).isLt⟩ : Fin 1024)

variable (m : (ℓ : Loc nD τ sig) → Buf 𝕍 ℓ) (c : Dev nD)

theorem idx0 : ∀ t : Fin cfg0.N, win0_0.index t = ![0, 0] := by decide +kernel
theorem idx1 : ∀ t : Fin cfg0.N, win0_1.index t = ![0, 0] := by decide +kernel
theorem idx2 : ∀ t : Fin cfg0.N, t.val / 2 = 0 → win0_2.index t = ![0, t.val % 2] := by decide +kernel
theorem idx3 : ∀ t : Fin cfg0.N, t.val / 2 = 1 → win0_3.index t = ![0, t.val % 2] := by decide +kernel
theorem idx4 : ∀ t : Fin cfg0.N, win0_4.index t = ![0, t.val / 2, t.val % 2] := by decide +kernel
theorem t_lt (t : Fin cfg0.N) : t.val < 4 := lt_of_lt_of_eq t.isLt (show cfg0.N = 4 from N_0)

theorem V_0 : V m c main_v0 = truncf (F := 𝔽) .bf16 (m ((c : Thread nD τ).loc main_arg0)) bitsLt_bf16_f32 := by
  show StableHlo.after _ _ _ = _
  after_results
theorem V_1 : V m c main_v2 = truncf (F := 𝔽) .bf16 (m ((c : Thread nD τ).loc main_arg1)) bitsLt_bf16_f32 := by
  show StableHlo.after _ _ _ = _
  after_results
theorem V_2 : V m c main_v1 = truncf (F := 𝔽) .bf16 (m ((c : Thread nD τ).loc main_arg3)) bitsLt_bf16_f32 := by
  show StableHlo.after _ _ _ = _
  after_results
theorem V_3 : V m c main_v3 = truncf (F := 𝔽) .bf16 (m ((c : Thread nD τ).loc main_arg4)) bitsLt_bf16_f32 := by
  show StableHlo.after _ _ _ = _
  after_results

theorem blk_0 (t : Fin cfg0.N) (k : Fin 2048) (i : Fin 1024) :
    iblk m c 0 t (ix2 k i) = m ((c : Thread nD τ).loc main_arg0) (ix2 k i) := by
  refine Eq.trans (b := V m c main_v0 (ix2 k i)) ?_ (by rw [V_0]; rfl)
  blk_ext [iblk, idx0 t]
theorem blk_1 (t : Fin cfg0.N) (k : Fin 2048) (i : Fin 1024) :
    iblk m c 1 t (ix2 k i) = m ((c : Thread nD τ).loc main_arg1) (ix2 k i) := by
  refine Eq.trans (b := V m c main_v2 (ix2 k i)) ?_ (by rw [V_1]; rfl)
  blk_ext [iblk, idx1 t]
theorem blk_2 (t : Fin cfg0.N) (h : t.val / 2 = 0) (k : Fin 2048) (j : Fin 512) :
    iblk m c 2 t (ix2 k j) = m ((c : Thread nD τ).loc main_arg3) (ix2 k (⟨t.val % 2 * 512 + j.val, by omega⟩ : Fin 1024)) := by
  refine Eq.trans (b := V m c main_v1 (ix2 k (⟨t.val % 2 * 512 + j.val, by omega⟩ : Fin 1024))) ?_ (by rw [V_2]; rfl)
  blk_ext [iblk, idx2 t h]
theorem blk_3 (t : Fin cfg0.N) (h : t.val / 2 = 1) (k : Fin 2048) (j : Fin 512) :
    iblk m c 3 t (ix2 k j) = m ((c : Thread nD τ).loc main_arg4) (ix2 k (⟨t.val % 2 * 512 + j.val, by omega⟩ : Fin 1024)) := by
  refine Eq.trans (b := V m c main_v3 (ix2 k (⟨t.val % 2 * 512 + j.val, by omega⟩ : Fin 1024))) ?_ (by rw [V_3]; rfl)
  blk_ext [iblk, idx3 t h]

/-- The kernel's array. -/
theorem arr : (dats m 0 c).arrAt 4 cfg0.N
    = prod (m ((c : Thread nD τ).loc main_arg0)) (m ((c : Thread nD τ).loc main_arg1)) (m ((c : Thread nD τ).loc main_arg3)) (m ((c : Thread nD τ).loc main_arg4)) := by
  refine (dats m 0 c).arrAt_eq_of_covers 4 _ (by decide +kernel) fun t hf y => ?_
  have ht := t_lt t
  have hy : (y 1).val < 128 := (y 1).isLt
  unfold prod
  blk_simp [idx4 t]
  rw [after0_4]
  by_cases h0 : t.val / 2 = 0
  · rw [outsAt0_A m c t (by omega) (by omega), if_pos (by omega)]
    frame_out
    refine (congrArg _ (ValueIdx.eq_ix3 (n0 := 8) (n1 := 128) (n2 := 512) y)).trans ((Mix.pay _ _ _ _ _).trans ?_)
    refine Finset.sum_congr rfl fun k _ => ?_
    refine congrArg₂ (· * ·) ((blk_0 m c t k _).trans (congrArg _ ?_)) ((blk_2 m c t (by omega) k (y 2)).trans (congrArg _ ?_))
    · exact congrArg (fun n => ix2 k (row (y 0).val n)) (by omega)
    · rfl
  rw [outsAt0_B m c t (by omega) (by omega), if_neg (by omega)]
  frame_out
  refine (congrArg _ (ValueIdx.eq_ix3 (n0 := 8) (n1 := 128) (n2 := 512) y)).trans ((Mix.pay _ _ _ _ _).trans ?_)
  refine Finset.sum_congr rfl fun k _ => ?_
  refine congrArg₂ (· * ·) ((blk_1 m c t k _).trans (congrArg _ ?_)) ((blk_3 m c t (by omega) k (y 2)).trans (congrArg _ ?_))
  · exact congrArg (fun n => ix2 k (row (y 0).val n)) (by omega)
  · rfl

/-- The reference's array. -/
theorem ref (a0 a1 b0 b1 : FVec 𝔽 (⟨2, ![2048, 1024]⟩ : Shape) .f32) :
    truncf .bf16 (concatenate Cert.ReferenceCrossIdeal.S8x256x1024 1 [⟨Cert.ReferenceCrossIdeal.S8x128x1024, (shapeCast Cert.ReferenceCrossIdeal.S8x128x1024 (transpose Cert.ReferenceCrossIdeal.S1024x1024 [1, 0] (Host.dotGeneral Cert.ReferenceCrossIdeal.dot_S2048x1024_S2048x1024_S1024x1024_0_0_1_1_n_n none b0 a0) Cert.ReferenceCrossIdeal.Gen.transposes_S1024x1024_S1024x1024_1_0) Cert.ReferenceCrossIdeal.Gen.shapeCasts_S1024x1024_S8x128x1024)⟩, ⟨Cert.ReferenceCrossIdeal.S8x128x1024, (shapeCast Cert.ReferenceCrossIdeal.S8x128x1024 (transpose Cert.ReferenceCrossIdeal.S1024x1024 [1, 0] (Host.dotGeneral Cert.ReferenceCrossIdeal.dot_S2048x1024_S2048x1024_S1024x1024_0_0_1_1_n_n none b1 a1) Cert.ReferenceCrossIdeal.Gen.transposes_S1024x1024_S1024x1024_1_0) Cert.ReferenceCrossIdeal.Gen.shapeCasts_S1024x1024_S8x128x1024)⟩] Cert.ReferenceCrossIdeal.Gen.concatenates_S8x128x1024_S8x128x1024_S8x256x1024_d1 : FVec 𝔽 Cert.ReferenceCrossIdeal.S8x256x1024 .f32) Cert.ReferenceCrossIdeal.Gen.bitsLt_bf16_f32
    = prod a0 a1 b0 b1 := by
  funext y
  obtain ⟨e, i, j, rfl⟩ : ∃ (e : Fin 8) (i : Fin 256) (j : Fin 1024), y = ix3 e i j := ⟨y 0, y 1, y 2, ValueIdx.eq_ix3 y⟩
  have hi := i.isLt
  unfold prod
  refine (truncf_at (φ := .f32) (ψ := .bf16) _ (by decide) _).trans ?_
  by_cases h0 : i.val < 128
  · refine (concatenate_apply_piece (t := Cert.ReferenceCrossIdeal.S8x256x1024) 1 _ _ (ix3 e i j) 0 (by show 0 < 2; decide) Cert.ReferenceCrossIdeal.S8x128x1024 _ rfl rfl 0 rfl (ix3 e (⟨i.val - 0, by omega⟩ : Fin 128) j) (fun b hb => ?_) ?_).trans
      ((Mix.piece a0 b0 e ⟨i.val - 0, by omega⟩ j).trans ?_)
    · match b with
      | ⟨0, _⟩ => rfl
      | ⟨1, _⟩ => exact absurd rfl hb
      | ⟨2, _⟩ => rfl
    · show 0 + (i.val - 0) = i.val; omega
    · symm
      refine (if_pos (show i.val < 128 by omega)).trans ?_
      rfl
  refine (concatenate_apply_piece (t := Cert.ReferenceCrossIdeal.S8x256x1024) 1 _ _ (ix3 e i j) 1 (by show 1 < 2; decide) Cert.ReferenceCrossIdeal.S8x128x1024 _ rfl rfl 128 rfl (ix3 e (⟨i.val - 128, by omega⟩ : Fin 128) j) (fun b hb => ?_) ?_).trans
    ((Mix.piece a1 b1 e ⟨i.val - 128, by omega⟩ j).trans ?_)
  · match b with
    | ⟨0, _⟩ => rfl
    | ⟨1, _⟩ => exact absurd rfl hb
    | ⟨2, _⟩ => rfl
  · show 128 + (i.val - 128) = i.val; omega
  · symm
    refine (if_neg (show ¬i.val < 128 by omega)).trans ?_
    rfl

end Cross

end Cert.Calc
-- ==== Proof.Weights.lean ====
module

public import proofs.«01_k».proof.Defs
public import proofs.«01_k».proof.Proof.Rows
public import proofs.«01_k».proof.Proof.Cols
public import proofs.«01_k».proof.Proof.Squares
public import proofs.«01_k».proof.Proof.Gen.ReferenceGuIdeal
public import proofs.«01_k».proof.Proof.Gen.ReferenceDownIdeal
public import proofs.«01_k».proof.Proof.Gen.ReferenceInIdeal
public import proofs.«01_k».proof.Proof.Gen.ReferenceMixIdeal
public import proofs.«01_k».proof.Proof.Gen.ReferenceCrossIdeal
public import proofs.«01_k».proof.Proof.Gen.ReferenceCkvIdeal
public import Idealize.ShloMosaic.Adequacy
public import Idealize.ShloMosaic.Init

/-!
The claims about the six calls that compute gradients of weights: the references' frames, and that the
kernels' results are the references' for every argument. Both arrays are one sum of products, so no entry
has to be real.
-/

@[expose] public section

noncomputable section

namespace Cert.Calc

open Idealize.ShloMosaic Idealize.SL.Sem
open Idealize.ShloMosaic.TcCoe

local notation "𝔽" => Idealize.ShloMosaic.Ideal

/-- The reference of the gate and up projections is host operations only: its run read at the arguments; it declares no semaphore. -/
theorem Gu.frame : Cert.quiescent_ReferenceGuIdeal (hReferenceGuIdeal := Cert.ReferenceGuIdeal.Gen.facts) := fun m ρ _ =>
  (θ_run Cert.ReferenceGuIdeal.defs _ _).mono (fun r h => ⟨fun c => (h c).2, Idealize.ShloMosaic.sem_eq_zero_of_no_sems (by decide) r.2⟩)
    (Cert.ReferenceGuIdeal.Value.run (F := 𝔽) m ρ)

/-- The gradient of the gate and up projections: the kernel's result is the reference's. -/
theorem Gu.value : Cert.algebraic_KernelGuIdeal_ReferenceGuIdeal (hKernelGuIdeal := Cert.KernelGuIdeal.Gen.facts)
    (hReferenceGuIdeal := Cert.ReferenceGuIdeal.Gen.facts) := by
  intro m g m' g' _ hargs
  refine ⟨fun c => (Cert.KernelGuIdeal.Gen.dats m 0 c).arrAt 2 Cert.KernelGuIdeal.cfg0.N, Cert.KernelGuIdeal.Value.run_blocks m g, ?_⟩
  refine (θ_run Cert.ReferenceGuIdeal.defs _ _).mono (fun r h c => ?_) (Cert.ReferenceGuIdeal.Value.run (F := 𝔽) m' g')
  obtain ⟨h0, h1, h2⟩ := hargs c
  refine ⟨((h c).1.trans (Gu.ref _ _)).trans ?_, (h c).2⟩
  rw [h2, h0]
  exact (Gu.arr m c).symm

/-- The reference of the down projection is host operations only: its run read at the arguments; it declares no semaphore. -/
theorem Down.frame : Cert.quiescent_ReferenceDownIdeal (hReferenceDownIdeal := Cert.ReferenceDownIdeal.Gen.facts) := fun m ρ _ =>
  (θ_run Cert.ReferenceDownIdeal.defs _ _).mono (fun r h => ⟨fun c => (h c).2, Idealize.ShloMosaic.sem_eq_zero_of_no_sems (by decide) r.2⟩)
    (Cert.ReferenceDownIdeal.Value.run (F := 𝔽) m ρ)

/-- The gradient of the down projection: the kernel's result is the reference's. -/
theorem Down.value : Cert.algebraic_KernelDownIdeal_ReferenceDownIdeal (hKernelDownIdeal := Cert.KernelDownIdeal.Gen.facts)
    (hReferenceDownIdeal := Cert.ReferenceDownIdeal.Gen.facts) := by
  intro m g m' g' _ hargs
  refine ⟨fun c => (Cert.KernelDownIdeal.Gen.dats m 0 c).arrAt 2 Cert.KernelDownIdeal.cfg0.N, Cert.KernelDownIdeal.Value.run_blocks m g, ?_⟩
  refine (θ_run Cert.ReferenceDownIdeal.defs _ _).mono (fun r h c => ?_) (Cert.ReferenceDownIdeal.Value.run (F := 𝔽) m' g')
  obtain ⟨h0, h1, h2⟩ := hargs c
  refine ⟨((h c).1.trans (Down.ref _ _)).trans ?_, (h c).2⟩
  rw [h0, h2]
  exact (Down.arr m c).symm

/-- The reference of the mixing half step's input projection is host operations only: its run read at the arguments; it declares no semaphore. -/
theorem In.frame : Cert.quiescent_ReferenceInIdeal (hReferenceInIdeal := Cert.ReferenceInIdeal.Gen.facts) := fun m ρ _ =>
  (θ_run Cert.ReferenceInIdeal.defs _ _).mono (fun r h => ⟨fun c => (h c).2, Idealize.ShloMosaic.sem_eq_zero_of_no_sems (by decide) r.2⟩)
    (Cert.ReferenceInIdeal.Value.run (F := 𝔽) m ρ)

/-- The gradient of the mixing half step's input projection: the kernel's result is the reference's. -/
theorem In.value : Cert.algebraic_KernelInIdeal_ReferenceInIdeal (hKernelInIdeal := Cert.KernelInIdeal.Gen.facts)
    (hReferenceInIdeal := Cert.ReferenceInIdeal.Gen.facts) := by
  intro m g m' g' _ hargs
  refine ⟨fun c => (Cert.KernelInIdeal.Gen.dats m 0 c).arrAt 5 Cert.KernelInIdeal.cfg0.N, Cert.KernelInIdeal.Value.run_blocks m g, ?_⟩
  refine (θ_run Cert.ReferenceInIdeal.defs _ _).mono (fun r h c => ?_) (Cert.ReferenceInIdeal.Value.run (F := 𝔽) m' g')
  obtain ⟨h0, h1, h2, h3, h4, h5⟩ := hargs c
  refine ⟨((h c).1.trans (In.ref _ _ _ _ _)).trans ?_, (h c).2⟩
  rw [h0, h2, h3, h4, h5]
  exact (In.arr m c).symm

/-- The reference of the mixing half step's square matrices is host operations only: its run read at the arguments; it declares no semaphore. -/
theorem Mix.frame : Cert.quiescent_ReferenceMixIdeal (hReferenceMixIdeal := Cert.ReferenceMixIdeal.Gen.facts) := fun m ρ _ =>
  (θ_run Cert.ReferenceMixIdeal.defs _ _).mono (fun r h => ⟨fun c => (h c).2, Idealize.ShloMosaic.sem_eq_zero_of_no_sems (by decide) r.2⟩)
    (Cert.ReferenceMixIdeal.Value.run (F := 𝔽) m ρ)

/-- The gradient of the mixing half step's square matrices: the kernel's result is the reference's. -/
theorem Mix.value : Cert.algebraic_KernelMixIdeal_ReferenceMixIdeal (hKernelMixIdeal := Cert.KernelMixIdeal.Gen.facts)
    (hReferenceMixIdeal := Cert.ReferenceMixIdeal.Gen.facts) := by
  intro m g m' g' _ hargs
  refine ⟨fun c => (Cert.KernelMixIdeal.Gen.dats m 0 c).arrAt 6 Cert.KernelMixIdeal.cfg0.N, Cert.KernelMixIdeal.Value.run_blocks m g, ?_⟩
  refine (θ_run Cert.ReferenceMixIdeal.defs _ _).mono (fun r h c => ?_) (Cert.ReferenceMixIdeal.Value.run (F := 𝔽) m' g')
  obtain ⟨h0, h1, h2, h3, h4, h5, h6⟩ := hargs c
  refine ⟨((h c).1.trans (Mix.ref _ _ _ _ _ _)).trans ?_, (h c).2⟩
  rw [h0, h1, h2, h4, h5, h6]
  exact (Mix.arr m c).symm

/-- The reference of the cross attention's square matrices is host operations only: its run read at the arguments; it declares no semaphore. -/
theorem Cross.frame : Cert.quiescent_ReferenceCrossIdeal (hReferenceCrossIdeal := Cert.ReferenceCrossIdeal.Gen.facts) := fun m ρ _ =>
  (θ_run Cert.ReferenceCrossIdeal.defs _ _).mono (fun r h => ⟨fun c => (h c).2, Idealize.ShloMosaic.sem_eq_zero_of_no_sems (by decide) r.2⟩)
    (Cert.ReferenceCrossIdeal.Value.run (F := 𝔽) m ρ)

/-- The gradient of the cross attention's square matrices: the kernel's result is the reference's. -/
theorem Cross.value : Cert.algebraic_KernelCrossIdeal_ReferenceCrossIdeal (hKernelCrossIdeal := Cert.KernelCrossIdeal.Gen.facts)
    (hReferenceCrossIdeal := Cert.ReferenceCrossIdeal.Gen.facts) := by
  intro m g m' g' _ hargs
  refine ⟨fun c => (Cert.KernelCrossIdeal.Gen.dats m 0 c).arrAt 4 Cert.KernelCrossIdeal.cfg0.N, Cert.KernelCrossIdeal.Value.run_blocks m g, ?_⟩
  refine (θ_run Cert.ReferenceCrossIdeal.defs _ _).mono (fun r h c => ?_) (Cert.ReferenceCrossIdeal.Value.run (F := 𝔽) m' g')
  obtain ⟨h0, h1, h2, h3, h4⟩ := hargs c
  refine ⟨((h c).1.trans (Cross.ref _ _ _ _)).trans ?_, (h c).2⟩
  rw [h0, h1, h3, h4]
  exact (Cross.arr m c).symm

/-- The reference of the key/value projection is host operations only: its run read at the arguments; it declares no semaphore. -/
theorem Ckv.frame : Cert.quiescent_ReferenceCkvIdeal (hReferenceCkvIdeal := Cert.ReferenceCkvIdeal.Gen.facts) := fun m ρ _ =>
  (θ_run Cert.ReferenceCkvIdeal.defs _ _).mono (fun r h => ⟨fun c => (h c).2, Idealize.ShloMosaic.sem_eq_zero_of_no_sems (by decide) r.2⟩)
    (Cert.ReferenceCkvIdeal.Value.run (F := 𝔽) m ρ)

/-- The gradient of the key/value projection: the kernel's result is the reference's. -/
theorem Ckv.value : Cert.algebraic_KernelCkvIdeal_ReferenceCkvIdeal (hKernelCkvIdeal := Cert.KernelCkvIdeal.Gen.facts)
    (hReferenceCkvIdeal := Cert.ReferenceCkvIdeal.Gen.facts) := by
  intro m g m' g' _ hargs
  refine ⟨fun c => (Cert.KernelCkvIdeal.Gen.dats m 0 c).arrAt 2 Cert.KernelCkvIdeal.cfg0.N, Cert.KernelCkvIdeal.Value.run_blocks m g, ?_⟩
  refine (θ_run Cert.ReferenceCkvIdeal.defs _ _).mono (fun r h c => ?_) (Cert.ReferenceCkvIdeal.Value.run (F := 𝔽) m' g')
  obtain ⟨h0, h1, h2⟩ := hargs c
  refine ⟨((h c).1.trans (Ckv.ref _ _)).trans ?_, (h c).2⟩
  rw [h0, h2]
  exact (Ckv.arr m c).symm

end Cert.Calc

end
-- ==== Proof.FfnCalc.lean ====
module

public import proofs.«01_k».proof.Proof.Calc
public import proofs.«01_k».proof.Proof.Gen.KernelFfnIdeal.Skeleton
public import Idealize.ShloMosaic.Lib.WritesUnit

/-!
Readings of the operations of the feed-forward call as operations on real functions, the loads of
its buffers, and the record of a buffer of eight slabs that is being filled tile by tile.
-/

@[expose] public section

noncomputable section

namespace Cert.Calc.Ff

open Idealize.ShloMosaic hiding ix1 ix2 ix3 ix4
open Idealize.ShloMosaic.ValueIdx Cert.KernelFfnIdeal Cert.KernelFfnIdeal.Gen
open scoped BigOperators

local notation "𝔽" => Idealize.ShloMosaic.Ideal
local notation "𝕍" => Elt Idealize.ShloMosaic.Ideal

/-! ### Constants -/

/-- The constant under the root mean square. -/
def eps : ℝ := 8796093 * (2 ^ 43)⁻¹
theorem eps_pos : 0 < eps := by unfold eps; positivity

theorem bits_half : Ideal.ofBits .f32 0x3F000000#32 = ((1 / 2 : ℝ) : EReal) := by
  simp [Ideal.ofBits, Ideal.ieee]
  rw [← EReal.coe_mul]
  norm_num
theorem bits_1024 : Ideal.ofBits .f32 0x44800000#32 = ((1024 : ℝ) : EReal) := by
  simp [Ideal.ofBits, Ideal.ieee]
  rw [← EReal.coe_mul]
  norm_num
theorem bits_eps : Ideal.ofBits .f32 0x358637BD#32 = ((eps : ℝ) : EReal) := by
  simp [Ideal.ofBits, Ideal.ieee, eps]

instance half_s : IsS (Scalar.ofBits (F := 𝔽) .f32 0x3F000000#32) (1 / 2) := ⟨bits_half⟩
instance n1024_s : IsS (Scalar.ofBits (F := 𝔽) .f32 0x44800000#32) 1024 := ⟨bits_1024⟩
instance eps_s : IsS (Scalar.ofBits (F := 𝔽) .f32 0x358637BD#32) eps := ⟨bits_eps⟩
instance zero_b : IsS (Scalar.ofBits (F := 𝔽) .bf16 0x0000#16) 0 :=
  ⟨by rw [EReal.coe_zero]; exact Ideal.ofBits_zero .bf16⟩

/-! ### Elementwise operations -/

section Elementwise
variable {a b c : ℕ} {φ : FTy} (v w : FVec 𝔽 (⟨2, ![a, b]⟩ : Shape) φ) (f g : ℕ → ℕ → ℝ)

instance expf2 [hv : Is2 v f] : Is2 (exp v) (fun i j => Real.exp (f i j)) :=
  ⟨fun i j => by
    have : exp v (ix2 i j) = Ideal.exp (v (ix2 i j)) := rfl
    rw [this, hv.eq, Ideal.exp_coe]⟩
theorem divf2 [hv : Is2 v f] [hw : Is2 w g] (h : ∀ i j, g i j ≠ 0) : Is2 (divf v w) (fun i j => f i j * (g i j)⁻¹) :=
  ⟨fun i j => by
    have : divf v w (ix2 i j) = Ideal.div (v (ix2 i j)) (w (ix2 i j)) := rfl
    rw [this, hv.eq, hw.eq, Ideal.div_coe (h _ _), ← EReal.coe_mul, one_div]⟩
instance divf_exp [hv : Is2 v f] [hw : Is2 w (fun i j => 1 + Real.exp (g i j))] :
    Is2 (divf v w) (fun i j => f i j * (1 + Real.exp (g i j))⁻¹) :=
  divf2 v w f _ fun i j => by positivity
instance divf_1024 [hv : Is2 v f] [hw : Is2 w (fun _ _ => 1024)] : Is2 (divf v w) (fun i j => f i j * (1024)⁻¹) :=
  divf2 v w f _ fun i j => by norm_num

theorem mean_pos (f : ℕ → ℕ → ℝ) (i : ℕ) : 0 < (∑ k ∈ Finset.range 1024, f i k * f i k) * (1024)⁻¹ + eps := by
  have h : 0 ≤ ∑ k ∈ Finset.range 1024, f i k * f i k := Finset.sum_nonneg fun k _ => mul_self_nonneg _
  have := eps_pos
  positivity

/-- The reciprocal root of the mean of squares plus a small positive constant. -/
instance rsqrt_mean [hv : Is2 v (fun i _ => (∑ k ∈ Finset.range 1024, f i k * f i k) * (1024)⁻¹ + eps)] :
    Is2 (rsqrt v) (fun i _ => (Real.sqrt ((∑ k ∈ Finset.range 1024, f i k * f i k) * (1024)⁻¹ + eps))⁻¹) :=
  ⟨fun i j => by
    have h := mean_pos f i
    have : rsqrt v (ix2 i j) = Ideal.rsqrt (v (ix2 i j)) := rfl
    rw [this, hv.eq, Ideal.rsqrt_coe, if_neg (not_lt.mpr h.le), if_neg h.ne']⟩

instance bcast_row (v : (⟨2, ![1, b]⟩ : Shape).Idx → EReal) (h : (⟨2, ![1, b]⟩ : Shape).Broadcasts ⟨2, ![a, b]⟩) [hv : Is2 v f] :
    Is2 (broadcastTo (⟨2, ![a, b]⟩ : Shape) v h) (fun _ j => f 0 j) :=
  ⟨fun i j => by
    rw [broadcastTo_apply v h (ix2 i j) (ix2 (0 : Fin 1) j) (fun ax => ?_), hv.eq]
    · rfl
    · match ax with
      | ⟨0, _⟩ => rfl
      | ⟨1, _⟩ =>
        show j.val = if b = 1 then 0 else j.val
        split
        · have := j.isLt; omega
        · rfl⟩
instance cast_self3 (v : (⟨3, ![a, b, c]⟩ : Shape).Idx → EReal) (h : (⟨3, ![a, b, c]⟩ : Shape).ShapeCasts ⟨3, ![a, b, c]⟩)
    (f : ℕ → ℕ → ℕ → ℝ) [hv : Is3 v f] : Is3 (shapeCast (⟨3, ![a, b, c]⟩ : Shape) v h) f := by rw [shapeCast_self]; exact hv
instance cast_row (v : (⟨1, ![b]⟩ : Shape).Idx → EReal) (h : (⟨1, ![b]⟩ : Shape).ShapeCasts ⟨2, ![1, b]⟩) (f : ℕ → ℝ)
    [hv : Is1 v f] : Is2 (shapeCast (⟨2, ![1, b]⟩ : Shape) v h) (fun _ j => f j) :=
  ⟨fun i j => by rw [shapeCast_a_1a_apply, hv.eq]⟩

end Elementwise

variable {f g : ℕ → ℕ → ℝ} {prec : Option ContractPrecision}

instance rowsum_k (v : FVec 𝔽 S256x1024 .f32) [hv : Is2 v f] :
    Is1 (multiReduction .add [1] S256 v 0x00000000#32 reduces_S256x1024_S256 (.inl rfl) rfl) (fun i => ∑ j ∈ Finset.range 1024, f i j) :=
  rowsum v _ _ _ _
theorem colsum {a b : ℕ} (v : FVec 𝔽 (⟨2, ![a, b]⟩ : Shape) .f32) (acc : BitVec (FTy.f32).bits)
    (h : (⟨2, ![a, b]⟩ : Shape).Reduces [0] ⟨1, ![b]⟩) (hφ : FKind.Formats .f32) (hacc : acc = FKind.add.neutral .f32 hφ) [hv : Is2 v f] :
    Is1 (multiReduction .add [0] (⟨1, ![b]⟩ : Shape) v acc h hφ hacc) (fun j => ∑ i ∈ Finset.range a, f i j) :=
  ⟨fun j => by
    rw [multiReduction_add_apply]
    refine (Ideal.reduceAdd_r2_a0 h v (ix1 j)).trans (sum_fin _ _ fun k => ?_)
    exact hv.eq k j⟩
instance colsum_k (v : FVec 𝔽 S256x1024 .f32) [hv : Is2 v f] :
    Is1 (multiReduction .add [0] S1024 v 0x00000000#32 reduces_S256x1024_S1024 (.inl rfl) rfl) (fun j => ∑ i ∈ Finset.range 256, f i j) :=
  colsum v _ _ _ _

instance mm_da (l r : FVec 𝔽 S256x1024 .bf16)
    (acc : FVec 𝔽 S256x256 .f32) [Is2 l f] [Is2 r g] [Is2 acc (fun _ _ => 0)] :
    Is2 (matmul dot_S256x1024_S256x1024_S256x256_1_1_0_0_n_n prec l r acc) (fun i j => ∑ k ∈ Finset.range 1024, f i k * g j k) :=
  mm_nt l r acc
instance mm_dn (l : FVec 𝔽 S256x768 .bf16) (r : FVec 𝔽 S768x1024 .bf16)
    (acc : FVec 𝔽 S256x1024 .f32) [Is2 l f] [Is2 r g] [Is2 acc (fun _ _ => 0)] :
    Is2 (matmul dot_S256x768_S768x1024_S256x1024_1_0_0_1_n_n prec l r acc) (fun i j => ∑ k ∈ Finset.range 768, f i k * g k j) :=
  mm_plain l r acc

/-! ### Loads -/

section Loads
variable {sp : Space}

theorem load3 {a b c l m n : ℕ} (v : View sig .tc sp (⟨3, ![a, b, c]⟩ : Shape) .bf16) (X : v.ty.Contents 𝕍) (p q r : ℕ)
    (inb : ∀ x : Fin 3, (![p, q, r] : Fin 3 → ℕ) x + (![l, m, n] : Fin 3 → ℕ) x ≤ (![a, b, c] : Fin 3 → ℕ) x) (f : ℕ → ℕ → ℕ → ℝ)
    [hv : Is3 (v.read 𝕍 X) f] :
    Is3 (View.readAt 𝕍 v (Rect.unit (s := ⟨3, ![a, b, c]⟩) ![p, q, r] (![l, m, n] : Fin 3 → ℕ) inb).toLoadRect X)
      (fun t i j => f (p + t) (q + i) (r + j)) := by
  refine ⟨fun t i j => ?_⟩
  have h0 : p + l ≤ a := inb 0
  have h1 : q + m ≤ b := inb 1
  have h2 : r + n ≤ c := inb 2
  refine (congrArg (v.read 𝕍 X) ?_).trans (hv.eq ⟨p + t, by have := t.isLt; omega⟩ ⟨q + i, by have := i.isLt; omega⟩
    ⟨r + j, by have := j.isLt; omega⟩)
  funext ax
  match ax with
  | ⟨0, _⟩ => exact Fin.ext (show p + 1 * t.val = p + t.val by omega)
  | ⟨1, _⟩ => exact Fin.ext (show q + 1 * i.val = q + i.val by omega)
  | ⟨2, _⟩ => exact Fin.ext (show r + 1 * j.val = r + j.val by omega)

/-- A tile of the saved gates. -/
instance load_gate (v : View sig .tc sp (⟨3, ![4, 256, 768]⟩ : Shape) .bf16) (X : v.ty.Contents 𝕍) (p r : ℕ)
    (inb : ∀ x : Fin 3, (![p, 0, r] : Fin 3 → ℕ) x + (![1, 256, 256] : Fin 3 → ℕ) x ≤ (![4, 256, 768] : Fin 3 → ℕ) x) (f : ℕ → ℕ → ℕ → ℝ)
    [hv : Is3 (v.read 𝕍 X) f] :
    Is3 (View.readAt 𝕍 v (Rect.unit (s := ⟨3, ![4, 256, 768]⟩) ![p, 0, r] (![1, 256, 256] : Fin 3 → ℕ) inb).toLoadRect X)
      (fun _ i j => f p i (r + j)) :=
  (load3 v X p 0 r inb f).congr fun t i j ht _ _ => by rw [Nat.lt_one_iff.mp ht, Nat.add_zero, Nat.zero_add]
/-- Rows of the second product's matrix. -/
instance load_down (v : View sig .tc sp (⟨3, ![4, 768, 1024]⟩ : Shape) .bf16) (X : v.ty.Contents 𝕍) (p q : ℕ)
    (inb : ∀ x : Fin 3, (![p, q, 0] : Fin 3 → ℕ) x + (![1, 256, 1024] : Fin 3 → ℕ) x ≤ (![4, 768, 1024] : Fin 3 → ℕ) x) (f : ℕ → ℕ → ℕ → ℝ)
    [hv : Is3 (v.read 𝕍 X) f] :
    Is3 (View.readAt 𝕍 v (Rect.unit (s := ⟨3, ![4, 768, 1024]⟩) ![p, q, 0] (![1, 256, 1024] : Fin 3 → ℕ) inb).toLoadRect X)
      (fun _ i j => f p (q + i) j) :=
  (load3 v X p q 0 inb f).congr fun t i j ht _ _ => by rw [Nat.lt_one_iff.mp ht, Nat.add_zero, Nat.zero_add]
/-- A slab of the first product's matrix. -/
instance load_up (v : View sig .tc sp (⟨3, ![8, 768, 1024]⟩ : Shape) .bf16) (X : v.ty.Contents 𝕍) (p : ℕ)
    (inb : ∀ x : Fin 3, (![p, 0, 0] : Fin 3 → ℕ) x + (![1, 768, 1024] : Fin 3 → ℕ) x ≤ (![8, 768, 1024] : Fin 3 → ℕ) x) (f : ℕ → ℕ → ℕ → ℝ)
    [hv : Is3 (v.read 𝕍 X) f] :
    Is3 (View.readAt 𝕍 v (Rect.unit (s := ⟨3, ![8, 768, 1024]⟩) ![p, 0, 0] (![1, 768, 1024] : Fin 3 → ℕ) inb).toLoadRect X)
      (fun _ i j => f p i j) :=
  (load3 v X p 0 0 inb f).congr fun t i j ht _ _ => by rw [Nat.lt_one_iff.mp ht, Nat.add_zero, Nat.zero_add, Nat.zero_add]
/-- A whole matrix. -/
instance load_all {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x) (f : ℕ → ℕ → ℝ)
    [hv : Is2 (v.read 𝕍 X) f] :
    Is2 (View.readAt 𝕍 v (Rect.unit (s := ⟨2, ![a, b]⟩) ![0, 0] (![a, b] : Fin 2 → ℕ) inb).toLoadRect X) f := by
  refine ⟨fun i j => ?_⟩
  refine (congrArg (v.read 𝕍 X) ?_).trans (hv.eq i j)
  funext ax
  match ax with
  | ⟨0, _⟩ => exact Fin.ext (show 0 + 1 * i.val = i.val by omega)
  | ⟨1, _⟩ => exact Fin.ext (show 0 + 1 * j.val = j.val by omega)
/-- A matrix stored whole. -/
theorem whole2 {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x)
    (w : (⟨2, ![a, b]⟩ : Shape).Idx → EReal) (g : ℕ → ℕ → ℝ) [h1 : Is2 w g] :
    Is2 (v.read 𝕍 (v.writes 𝕍 X [⟨Rect.unit (s := ⟨2, ![a, b]⟩) ![0, 0] (![a, b] : Fin 2 → ℕ) inb, w⟩])) g := by
  refine ⟨fun i j => ?_⟩
  refine (View.read_writes_cons_unit_of_mem (s := ⟨2, ![a, b]⟩) v X inb w _ (ix2 i j) (ix2 i j) rfl ?_).trans (h1.eq _ _)
  intro ax
  match ax with
  | ⟨0, _⟩ => exact (Nat.zero_add _).symm
  | ⟨1, _⟩ => exact (Nat.zero_add _).symm

/-- A matrix of the short format stored whole. -/
theorem whole2b {a b : ℕ} (v : View sig .tc sp (⟨2, ![a, b]⟩ : Shape) .bf16) (X : v.ty.Contents 𝕍)
    (inb : ∀ x : Fin 2, (![0, 0] : Fin 2 → ℕ) x + (![a, b] : Fin 2 → ℕ) x ≤ (![a, b] : Fin 2 → ℕ) x)
    (w : (⟨2, ![a, b]⟩ : Shape).Idx → EReal) (g : ℕ → ℕ → ℝ) [h1 : Is2 w g] :
    Is2 (v.read 𝕍 (v.writes 𝕍 X [⟨Rect.unit (s := ⟨2, ![a, b]⟩) ![0, 0] (![a, b] : Fin 2 → ℕ) inb, w⟩])) g := by
  refine ⟨fun i j => ?_⟩
  refine (View.read_writes_cons_unit_of_mem (s := ⟨2, ![a, b]⟩) v X inb w _ (ix2 i j) (ix2 i j) rfl ?_).trans (h1.eq _ _)
  intro ax
  match ax with
  | ⟨0, _⟩ => exact (Nat.zero_add _).symm
  | ⟨1, _⟩ => exact (Nat.zero_add _).symm

/-! ### Filling the eight slabs -/

/-- The place of a tile in the order in which the tiles are stored. -/
def rank (j m : ℕ) : ℕ := 6 * (j % 4) + 2 * (m / 256) + j / 4

/-- The first `n` tiles hold what they are to hold. -/
def Part (T : ℕ → ℕ → ℕ → ℝ) (n : ℕ) (v : (⟨3, ![8, 256, 768]⟩ : Shape).Idx → EReal) : Prop :=
  ∀ (j : Fin 8) (i : Fin 256) (m : Fin 768), rank j m < n → v (ix3 j i m) = ((T j i m : ℝ) : EReal)

theorem Part.zero (T : ℕ → ℕ → ℕ → ℝ) (v : (⟨3, ![8, 256, 768]⟩ : Shape).Idx → EReal) : Part T 0 v :=
  fun _ _ _ h => absurd h (Nat.not_lt_zero _)

theorem Part.store {T : ℕ → ℕ → ℕ → ℝ} {n : ℕ} (v : View sig .tc sp (⟨3, ![8, 256, 768]⟩ : Shape) .bf16) (X : v.ty.Contents 𝕍)
    (L : List (View.Piece 𝕍 (⟨3, ![8, 256, 768]⟩ : Shape) .bf16)) (p q : ℕ)
    (inb : ∀ x : Fin 3, (![p, 0, q] : Fin 3 → ℕ) x + (![1, 256, 256] : Fin 3 → ℕ) x ≤ (![8, 256, 768] : Fin 3 → ℕ) x)
    (w : (⟨3, ![1, 256, 256]⟩ : Shape).Idx → EReal) (g : ℕ → ℕ → ℕ → ℝ) [hw : Is3 w g]
    (hP : Part T n (v.read 𝕍 (v.writes 𝕍 X L)))
    (hg : ∀ i m, g 0 i m = T p i (q + m)) (hn : n = rank p q ∧ q % 256 = 0) :
    Part T (n + 1) (v.read 𝕍
      (v.writes 𝕍 X (⟨Rect.unit (s := ⟨3, ![8, 256, 768]⟩) ![p, 0, q] (![1, 256, 256] : Fin 3 → ℕ) inb, w⟩ :: L))) := by
  intro j i m hr
  have hp : p + 1 ≤ 8 := inb 0
  have hq : q + 256 ≤ 768 := inb 2
  have hj := j.isLt
  have hi := i.isLt
  have hm := m.isLt
  unfold rank at *
  by_cases h : j.val = p ∧ q ≤ m.val ∧ m.val < q + 256
  · refine (View.read_writes_cons_unit_of_mem (s := ⟨3, ![8, 256, 768]⟩) v X inb w L (ix3 j i m) (ix3 (0 : Fin 1) i (⟨m.val - q, by omega⟩ : Fin 256)) rfl ?_).trans ?_
    · intro ax
      match ax with
      | ⟨0, _⟩ => show j.val = p + 0; omega
      | ⟨1, _⟩ => show i.val = 0 + i.val; omega
      | ⟨2, _⟩ => show m.val = q + (m.val - q); omega
    · rw [hw.eq]
      refine congrArg _ ((hg _ _).trans ?_)
      rw [h.1]
      exact congrArg (T p i.val) (by show q + (m.val - q) = m.val; omega)
  · by_cases h0 : j.val = p
    · rw [View.read_writes_cons_unit_of_not_mem (s := ⟨3, ![8, 256, 768]⟩) v X inb w L (ix3 j i m) rfl 2
        (by show m.val < q ∨ q + 256 ≤ m.val; omega)]
      exact hP j i m (by unfold rank; omega)
    · rw [View.read_writes_cons_unit_of_not_mem (s := ⟨3, ![8, 256, 768]⟩) v X inb w L (ix3 j i m) rfl 0
        (by show j.val < p ∨ p + 1 ≤ j.val; omega)]
      exact hP j i m (by unfold rank; omega)

theorem Part.slab {T : ℕ → ℕ → ℕ → ℝ} {n : ℕ} (v : View sig .tc sp (⟨3, ![8, 256, 768]⟩ : Shape) .bf16)
    (L : List (View.Piece 𝕍 (⟨3, ![8, 256, 768]⟩ : Shape) .bf16)) (p : ℕ)
    (inb : ∀ x : Fin 3, (![p, 0, 0] : Fin 3 → ℕ) x + (![1, 256, 768] : Fin 3 → ℕ) x ≤ (![8, 256, 768] : Fin 3 → ℕ) x)
    (hP : Part T n (v.read 𝕍 (v.writes 𝕍 v.junk L)))
    (hn : 6 * (p % 4) + 4 + p / 4 < n) :
    Is3 (v.readCov L (Rect.unit (s := ⟨3, ![8, 256, 768]⟩) ![p, 0, 0] (![1, 256, 768] : Fin 3 → ℕ) inb).toLoadRect) (fun _ i m => T p i m) := by
  refine ⟨fun t i m => ?_⟩
  have hp : p + 1 ≤ 8 := inb 0
  have hi := i.isLt
  have hm := m.isLt
  refine (congrArg (v.read 𝕍 (v.writes 𝕍 v.junk L)) (a₂ := ix3 (⟨p, by omega⟩ : Fin 8) i m) ?_).trans
    (hP _ i m (by unfold rank; show 6 * (p % 4) + 2 * (m.val / 256) + p / 4 < n; omega))
  funext ax
  match ax with
  | ⟨0, _⟩ => exact Fin.ext (show p + 1 * t.val = p by have := t.isLt; omega)
  | ⟨1, _⟩ => exact Fin.ext (show 0 + 1 * i.val = i.val by omega)
  | ⟨2, _⟩ => exact Fin.ext (show 0 + 1 * m.val = m.val by omega)

theorem Part.all {T : ℕ → ℕ → ℕ → ℝ} {v : (⟨3, ![8, 256, 768]⟩ : Shape).Idx → EReal} (h : Part T 24 v) : Is3 v T :=
  ⟨fun j i m => h j i m (by have := j.isLt; have := m.isLt; unfold rank; omega)⟩

end Loads

/-! ### What the call computes on one block of rows -/

/-- The numbers that one step of the call reads. -/
structure Data where
  /-- The gradient of the layer's result. -/
  dh : ℕ → ℕ → ℝ
  /-- The layer's input. -/
  x : ℕ → ℕ → ℝ
  /-- The scale of the norm. -/
  g : ℕ → ℝ
  /-- The saved gates. -/
  gate : ℕ → ℕ → ℕ → ℝ
  /-- The saved values. -/
  up : ℕ → ℕ → ℕ → ℝ
  /-- The first product's matrix. -/
  w : ℕ → ℕ → ℕ → ℝ
  /-- The second product's matrix, widened with zero rows. -/
  d : ℕ → ℕ → ℕ → ℝ

namespace Data
variable (D : Data)

/-- The gradient of the hidden layer. -/
def da (j t m : ℕ) : ℝ := ∑ k ∈ Finset.range 1024, 1 / 2 * D.dh t k * D.d j m k
/-- The logistic function of a gate. -/
def sg (j t m : ℕ) : ℝ := 1 * (1 + Real.exp (0 - D.gate j t m))⁻¹
/-- The gradient of a gate. -/
def dg (j t m : ℕ) : ℝ := D.da j t m * D.up j t m * (D.sg j t m * (1 + D.gate j t m * (1 - D.sg j t m)))
/-- The gradient of a value. -/
def du (j t m : ℕ) : ℝ := D.da j t m * (D.gate j t m * D.sg j t m)
/-- The gradients of the gates and of the values. -/
def dgu (j t m : ℕ) : ℝ := if j < 4 then D.dg j t m else D.du (j - 4) t m
theorem dgu_lo (j t m : ℕ) (h : j < 4) : D.dgu j t m = D.dg j t m := if_pos h
theorem dgu_hi (j t m : ℕ) : D.dgu (j + 4) t m = D.du j t m := by
  unfold dgu
  rw [if_neg (by omega), Nat.add_sub_cancel]
/-- One slab's share of the gradient of the normed input. -/
def term (j t e : ℕ) : ℝ := ∑ m ∈ Finset.range 768, D.dgu j t m * D.w j m e
/-- The gradient of the normed input. -/
def dn (t e : ℕ) : ℝ :=
  0 + D.term 0 t e + D.term 4 t e + D.term 1 t e + D.term 5 t e + D.term 2 t e + D.term 6 t e + D.term 3 t e + D.term 7 t e
/-- The reciprocal root mean square of a row. -/
def inv (t : ℕ) : ℝ := (Real.sqrt ((∑ k ∈ Finset.range 1024, D.x t k * D.x t k) * (1024)⁻¹ + eps))⁻¹
/-- The normed row. -/
def xh (t e : ℕ) : ℝ := D.x t e * D.inv t
/-- The gradient of the normed row, less its part along the row. -/
def dx (t e : ℕ) : ℝ :=
  D.dn t e * D.g e - D.xh t e * ((∑ k ∈ Finset.range 1024, D.dn t k * D.g k * D.xh t k) * (1024)⁻¹)
/-- The gradient of the layer's input. -/
def out (t e : ℕ) : ℝ := D.dh t e + D.inv t * D.dx t e
/-- The block's share of the gradient of the norm's scale. -/
def part (e : ℕ) : ℝ := ∑ t ∈ Finset.range 256, D.dn t e * D.xh t e

end Data

end Cert.Calc.Ff
-- ==== Proof.FfnPay.lean ====
module

public import proofs.«01_k».proof.Proof.FfnCalc

/-!
The real functions computed by the straight pieces of the feed-forward call.
-/

@[expose] public section

noncomputable section

namespace Cert.Calc.Ff

open Idealize.ShloMosaic hiding ix1 ix2 ix3 ix4
open Idealize.ShloMosaic.ValueIdx Cert.KernelFfnIdeal Cert.KernelFfnIdeal.Gen
open scoped BigOperators

local notation "𝔽" => Idealize.ShloMosaic.Ideal

instance pay1 (v464 v476 : FVec 𝔽 S256x1024 .f32) (f464 f476 : ℕ → ℕ → ℝ) [Is2 v464 f464] [Is2 v476 f476] :
    Is2 (k0_pay1 v464 v476) (fun _ j => (fun j => ∑ k ∈ Finset.range 256, (f464 k j * f476 k j)) j) := by
  unfold k0_pay1
  exact Is2.congr inferInstance fun _ _ _ _ => rfl

instance pay2 (v3 : Vec 𝔽 S256x1024 .f32) (v486 v487 : FVec 𝔽 S256x1024 .f32) (f3 f486 f487 : ℕ → ℕ → ℝ) [Is2 v3 f3] [Is2 v486 f486] [Is2 v487 f487] :
    Is2 (k0_pay2 v3 v486 v487) (fun i j => f3 i j + (f487 i j * f486 i j)) := by
  unfold k0_pay2
  exact Is2.congr inferInstance fun _ _ _ _ => rfl

instance pay3 (v464 v476 : FVec 𝔽 S256x1024 .f32) (v500 : Vec 𝔽 S1x1024 .f32) (f464 f476 f500 : ℕ → ℕ → ℝ) [Is2 v464 f464] [Is2 v476 f476] [Is2 v500 f500] :
    Is2 (k0_pay3 v464 v476 v500) (fun i j => f500 i j + (fun _ j => (fun j => ∑ k ∈ Finset.range 256, (f464 k j * f476 k j)) j) i j) := by
  unfold k0_pay3
  exact Is2.congr inferInstance fun _ _ _ _ => rfl

instance pay4   :
    Is3 (k0_pay4 (F := 𝔽)) (fun _ _ _ => 0) := by
  unfold k0_pay4
  exact Is3.congr inferInstance fun _ _ _ _ _ _ => rfl

instance pay5 (v3 : Vec 𝔽 S256x1024 .f32) (f3 : ℕ → ℕ → ℝ) [Is2 v3 f3] :
    Is2 (k0_pay5 v3) (fun i j => (1 / 2) * f3 i j) := by
  unfold k0_pay5
  exact Is2.congr inferInstance fun _ _ _ _ => rfl

instance pay6   :
    Is2 (k0_pay6 (F := 𝔽)) (fun _ _ => 0) := by
  unfold k0_pay6
  exact Is2.congr inferInstance fun _ _ _ _ => rfl

instance pay7 (v3 : Vec 𝔽 S256x1024 .f32) (v9 : Vec 𝔽 S1x256x1024 .bf16) (f3 : ℕ → ℕ → ℝ) (f9 : ℕ → ℕ → ℕ → ℝ) [Is2 v3 f3] [Is3 v9 f9] :
    Is2 (k0_pay7 v3 v9) (fun i j => ∑ k ∈ Finset.range 1024, ((1 / 2) * f3 i k) * f9 0 j k) := by
  unfold k0_pay7
  exact Is2.congr inferInstance fun _ _ _ _ => rfl

instance pay8 (v12 : Vec 𝔽 S1x256x256 .bf16) (f12 : ℕ → ℕ → ℕ → ℝ) [Is3 v12 f12] :
    Is2 (k0_pay8 v12) (fun i j => f12 0 i j) := by
  unfold k0_pay8
  exact Is2.congr inferInstance fun _ _ _ _ => rfl

instance pay9 (v12 : Vec 𝔽 S1x256x256 .bf16) (f12 : ℕ → ℕ → ℕ → ℝ) [Is3 v12 f12] :
    Is2 (k0_pay9 v12) (fun i j => 1 * ((1 + (Real.exp ((0 - f12 0 i j)))))⁻¹) := by
  unfold k0_pay9
  exact Is2.congr inferInstance fun _ _ _ _ => rfl

instance pay10 (v3 : Vec 𝔽 S256x1024 .f32) (v9 : Vec 𝔽 S1x256x1024 .bf16) (v12 v15 : Vec 𝔽 S1x256x256 .bf16) (f3 : ℕ → ℕ → ℝ) (f9 f12 f15 : ℕ → ℕ → ℕ → ℝ) [Is2 v3 f3] [Is3 v9 f9] [Is3 v12 f12] [Is3 v15 f15] :
    Is2 (k0_pay10 v3 v9 v12 v15) (fun i j => ((∑ k ∈ Finset.range 1024, ((1 / 2) * f3 i k) * f9 0 j k) * f15 0 i j) * ((1 * ((1 + (Real.exp ((0 - f12 0 i j)))))⁻¹) * (1 + (f12 0 i j * (1 - (1 * ((1 + (Real.exp ((0 - f12 0 i j)))))⁻¹)))))) := by
  unfold k0_pay10
  exact Is2.congr inferInstance fun _ _ _ _ => rfl

instance pay11 (v33 : FVec 𝔽 S256x256 .bf16) (f33 : ℕ → ℕ → ℝ) [Is2 v33 f33] :
    Is3 (k0_pay11 v33) (fun _ i j => f33 i j) := by
  unfold k0_pay11
  exact Is3.congr inferInstance fun _ _ _ _ _ _ => rfl

instance pay12 (v11 v14 v24 : FVec 𝔽 S256x256 .f32) (f11 f14 f24 : ℕ → ℕ → ℝ) [Is2 v11 f11] [Is2 v14 f14] [Is2 v24 f24] :
    Is3 (k0_pay12 v11 v14 v24) (fun _ i j => (f11 i j * (f14 i j * f24 i j))) := by
  unfold k0_pay12
  exact Is3.congr inferInstance fun _ _ _ _ _ _ => rfl

instance pay13 (v6 : FVec 𝔽 S256x1024 .bf16) (v43 : Vec 𝔽 S1x256x1024 .bf16) (f6 : ℕ → ℕ → ℝ) (f43 : ℕ → ℕ → ℕ → ℝ) [Is2 v6 f6] [Is3 v43 f43] :
    Is2 (k0_pay13 v6 v43) (fun i j => ∑ k ∈ Finset.range 1024, f6 i k * f43 0 j k) := by
  unfold k0_pay13
  exact Is2.congr inferInstance fun _ _ _ _ => rfl

instance pay14 (v46 : Vec 𝔽 S1x256x256 .bf16) (f46 : ℕ → ℕ → ℕ → ℝ) [Is3 v46 f46] :
    Is2 (k0_pay14 v46) (fun i j => f46 0 i j) := by
  unfold k0_pay14
  exact Is2.congr inferInstance fun _ _ _ _ => rfl

instance pay15 (v46 : Vec 𝔽 S1x256x256 .bf16) (f46 : ℕ → ℕ → ℕ → ℝ) [Is3 v46 f46] :
    Is2 (k0_pay15 v46) (fun i j => 1 * ((1 + (Real.exp ((0 - f46 0 i j)))))⁻¹) := by
  unfold k0_pay15
  exact Is2.congr inferInstance fun _ _ _ _ => rfl

instance pay16 (v6 : FVec 𝔽 S256x1024 .bf16) (v43 : Vec 𝔽 S1x256x1024 .bf16) (v46 v49 : Vec 𝔽 S1x256x256 .bf16) (f6 : ℕ → ℕ → ℝ) (f43 f46 f49 : ℕ → ℕ → ℕ → ℝ) [Is2 v6 f6] [Is3 v43 f43] [Is3 v46 f46] [Is3 v49 f49] :
    Is2 (k0_pay16 v6 v43 v46 v49) (fun i j => ((∑ k ∈ Finset.range 1024, f6 i k * f43 0 j k) * f49 0 i j) * ((1 * ((1 + (Real.exp ((0 - f46 0 i j)))))⁻¹) * (1 + (f46 0 i j * (1 - (1 * ((1 + (Real.exp ((0 - f46 0 i j)))))⁻¹)))))) := by
  unfold k0_pay16
  exact Is2.congr inferInstance fun _ _ _ _ => rfl

instance pay17 (v6 : FVec 𝔽 S256x1024 .bf16) (v43 : Vec 𝔽 S1x256x1024 .bf16) (v46 : Vec 𝔽 S1x256x256 .bf16) (f6 : ℕ → ℕ → ℝ) (f43 f46 : ℕ → ℕ → ℕ → ℝ) [Is2 v6 f6] [Is3 v43 f43] [Is3 v46 f46] :
    Is2 (k0_pay17 v6 v43 v46) (fun i j => (∑ k ∈ Finset.range 1024, f6 i k * f43 0 j k) * (f46 0 i j * (1 * ((1 + (Real.exp ((0 - f46 0 i j)))))⁻¹))) := by
  unfold k0_pay17
  exact Is2.congr inferInstance fun _ _ _ _ => rfl

instance pay18 (v67 : FVec 𝔽 S256x256 .bf16) (f67 : ℕ → ℕ → ℝ) [Is2 v67 f67] :
    Is3 (k0_pay18 v67) (fun _ i j => f67 i j) := by
  unfold k0_pay18
  exact Is3.congr inferInstance fun _ _ _ _ _ _ => rfl

instance pay19 (v70 : FVec 𝔽 S256x256 .bf16) (f70 : ℕ → ℕ → ℝ) [Is2 v70 f70] :
    Is3 (k0_pay19 v70) (fun _ i j => f70 i j) := by
  unfold k0_pay19
  exact Is3.congr inferInstance fun _ _ _ _ _ _ => rfl

instance pay20 (v6 : FVec 𝔽 S256x1024 .bf16) (v77 : Vec 𝔽 S1x256x1024 .bf16) (f6 : ℕ → ℕ → ℝ) (f77 : ℕ → ℕ → ℕ → ℝ) [Is2 v6 f6] [Is3 v77 f77] :
    Is2 (k0_pay20 v6 v77) (fun i j => ∑ k ∈ Finset.range 1024, f6 i k * f77 0 j k) := by
  unfold k0_pay20
  exact Is2.congr inferInstance fun _ _ _ _ => rfl

instance pay21 (v80 : Vec 𝔽 S1x256x256 .bf16) (f80 : ℕ → ℕ → ℕ → ℝ) [Is3 v80 f80] :
    Is2 (k0_pay21 v80) (fun i j => f80 0 i j) := by
  unfold k0_pay21
  exact Is2.congr inferInstance fun _ _ _ _ => rfl

instance pay22 (v80 : Vec 𝔽 S1x256x256 .bf16) (f80 : ℕ → ℕ → ℕ → ℝ) [Is3 v80 f80] :
    Is2 (k0_pay22 v80) (fun i j => 1 * ((1 + (Real.exp ((0 - f80 0 i j)))))⁻¹) := by
  unfold k0_pay22
  exact Is2.congr inferInstance fun _ _ _ _ => rfl

instance pay23 (v6 : FVec 𝔽 S256x1024 .bf16) (v77 : Vec 𝔽 S1x256x1024 .bf16) (v80 v83 : Vec 𝔽 S1x256x256 .bf16) (f6 : ℕ → ℕ → ℝ) (f77 f80 f83 : ℕ → ℕ → ℕ → ℝ) [Is2 v6 f6] [Is3 v77 f77] [Is3 v80 f80] [Is3 v83 f83] :
    Is2 (k0_pay23 v6 v77 v80 v83) (fun i j => ((∑ k ∈ Finset.range 1024, f6 i k * f77 0 j k) * f83 0 i j) * ((1 * ((1 + (Real.exp ((0 - f80 0 i j)))))⁻¹) * (1 + (f80 0 i j * (1 - (1 * ((1 + (Real.exp ((0 - f80 0 i j)))))⁻¹)))))) := by
  unfold k0_pay23
  exact Is2.congr inferInstance fun _ _ _ _ => rfl

instance pay24 (v6 : FVec 𝔽 S256x1024 .bf16) (v77 : Vec 𝔽 S1x256x1024 .bf16) (v80 : Vec 𝔽 S1x256x256 .bf16) (f6 : ℕ → ℕ → ℝ) (f77 f80 : ℕ → ℕ → ℕ → ℝ) [Is2 v6 f6] [Is3 v77 f77] [Is3 v80 f80] :
    Is2 (k0_pay24 v6 v77 v80) (fun i j => (∑ k ∈ Finset.range 1024, f6 i k * f77 0 j k) * (f80 0 i j * (1 * ((1 + (Real.exp ((0 - f80 0 i j)))))⁻¹))) := by
  unfold k0_pay24
  exact Is2.congr inferInstance fun _ _ _ _ => rfl

instance pay25 (v101 : FVec 𝔽 S256x256 .bf16) (f101 : ℕ → ℕ → ℝ) [Is2 v101 f101] :
    Is3 (k0_pay25 v101) (fun _ i j => f101 i j) := by
  unfold k0_pay25
  exact Is3.congr inferInstance fun _ _ _ _ _ _ => rfl

instance pay26 (v104 : FVec 𝔽 S256x256 .bf16) (f104 : ℕ → ℕ → ℝ) [Is2 v104 f104] :
    Is3 (k0_pay26 v104) (fun _ i j => f104 i j) := by
  unfold k0_pay26
  exact Is3.congr inferInstance fun _ _ _ _ _ _ => rfl

instance pay27 (v8 : FVec 𝔽 S256x1024 .f32) (v111 : Vec 𝔽 S1x256x768 .bf16) (v113 : Vec 𝔽 S1x768x1024 .bf16) (v117 : Vec 𝔽 S1x256x768 .bf16) (v119 : Vec 𝔽 S1x768x1024 .bf16) (f8 : ℕ → ℕ → ℝ) (f111 f113 f117 f119 : ℕ → ℕ → ℕ → ℝ) [Is2 v8 f8] [Is3 v111 f111] [Is3 v113 f113] [Is3 v117 f117] [Is3 v119 f119] :
    Is2 (k0_pay27 v8 v111 v113 v117 v119) (fun i j => (f8 i j + (∑ k ∈ Finset.range 768, f111 0 i k * f113 0 k j)) + (∑ k ∈ Finset.range 768, f117 0 i k * f119 0 k j)) := by
  unfold k0_pay27
  exact Is2.congr inferInstance fun _ _ _ _ => rfl

instance pay28 (v6 : FVec 𝔽 S256x1024 .bf16) (v123 : Vec 𝔽 S1x256x1024 .bf16) (f6 : ℕ → ℕ → ℝ) (f123 : ℕ → ℕ → ℕ → ℝ) [Is2 v6 f6] [Is3 v123 f123] :
    Is2 (k0_pay28 v6 v123) (fun i j => ∑ k ∈ Finset.range 1024, f6 i k * f123 0 j k) := by
  unfold k0_pay28
  exact Is2.congr inferInstance fun _ _ _ _ => rfl

instance pay29 (v126 : Vec 𝔽 S1x256x256 .bf16) (f126 : ℕ → ℕ → ℕ → ℝ) [Is3 v126 f126] :
    Is2 (k0_pay29 v126) (fun i j => f126 0 i j) := by
  unfold k0_pay29
  exact Is2.congr inferInstance fun _ _ _ _ => rfl

instance pay30 (v129 : Vec 𝔽 S1x256x256 .bf16) (f129 : ℕ → ℕ → ℕ → ℝ) [Is3 v129 f129] :
    Is2 (k0_pay30 v129) (fun i j => f129 0 i j) := by
  unfold k0_pay30
  exact Is2.congr inferInstance fun _ _ _ _ => rfl

instance pay31 (v126 : Vec 𝔽 S1x256x256 .bf16) (f126 : ℕ → ℕ → ℕ → ℝ) [Is3 v126 f126] :
    Is2 (k0_pay31 v126) (fun i j => Real.exp ((0 - f126 0 i j))) := by
  unfold k0_pay31
  exact Is2.congr inferInstance fun _ _ _ _ => rfl

instance pay32 (v134 : FVec 𝔽 S256x256 .f32) (f134 : ℕ → ℕ → ℝ) [Is2 v134 (fun i j => Real.exp (f134 i j))] :
    Is2 (k0_pay32 v134) (fun i j => 1 * ((1 + (Real.exp (f134 i j))))⁻¹) := by
  unfold k0_pay32
  exact Is2.congr inferInstance fun _ _ _ _ => rfl

instance pay33 (v125 v128 v131 v134 : FVec 𝔽 S256x256 .f32) (f125 f128 f131 f134 : ℕ → ℕ → ℝ) [Is2 v125 f125] [Is2 v128 f128] [Is2 v131 f131] [Is2 v134 (fun i j => Real.exp (f134 i j))] :
    Is3 (k0_pay33 v125 v128 v131 v134) (fun _ i j => ((f125 i j * f131 i j) * ((1 * ((1 + (Real.exp (f134 i j))))⁻¹) * (1 + (f128 i j * (1 - (1 * ((1 + (Real.exp (f134 i j))))⁻¹))))))) := by
  unfold k0_pay33
  exact Is3.congr inferInstance fun _ _ _ _ _ _ => rfl

instance pay34 (v125 v128 v134 : FVec 𝔽 S256x256 .f32) (f125 f128 f134 : ℕ → ℕ → ℝ) [Is2 v125 f125] [Is2 v128 f128] [Is2 v134 (fun i j => Real.exp (f134 i j))] :
    Is3 (k0_pay34 v125 v128 v134) (fun _ i j => (f125 i j * (f128 i j * (1 * ((1 + (Real.exp (f134 i j))))⁻¹)))) := by
  unfold k0_pay34
  exact Is3.congr inferInstance fun _ _ _ _ _ _ => rfl

instance pay35 (v6 : FVec 𝔽 S256x1024 .bf16) (v157 : Vec 𝔽 S1x256x1024 .bf16) (f6 : ℕ → ℕ → ℝ) (f157 : ℕ → ℕ → ℕ → ℝ) [Is2 v6 f6] [Is3 v157 f157] :
    Is2 (k0_pay35 v6 v157) (fun i j => ∑ k ∈ Finset.range 1024, f6 i k * f157 0 j k) := by
  unfold k0_pay35
  exact Is2.congr inferInstance fun _ _ _ _ => rfl

instance pay36 (v160 : Vec 𝔽 S1x256x256 .bf16) (f160 : ℕ → ℕ → ℕ → ℝ) [Is3 v160 f160] :
    Is2 (k0_pay36 v160) (fun i j => f160 0 i j) := by
  unfold k0_pay36
  exact Is2.congr inferInstance fun _ _ _ _ => rfl

instance pay37 (v163 : Vec 𝔽 S1x256x256 .bf16) (f163 : ℕ → ℕ → ℕ → ℝ) [Is3 v163 f163] :
    Is2 (k0_pay37 v163) (fun i j => f163 0 i j) := by
  unfold k0_pay37
  exact Is2.congr inferInstance fun _ _ _ _ => rfl

instance pay38 (v160 : Vec 𝔽 S1x256x256 .bf16) (f160 : ℕ → ℕ → ℕ → ℝ) [Is3 v160 f160] :
    Is2 (k0_pay38 v160) (fun i j => 1 + (Real.exp ((0 - f160 0 i j)))) := by
  unfold k0_pay38
  exact Is2.congr inferInstance fun _ _ _ _ => rfl

instance pay39 (v170 : FVec 𝔽 S256x256 .f32) (f170 : ℕ → ℕ → ℝ) [Is2 v170 (fun i j => 1 + Real.exp (f170 i j))] :
    Is2 (k0_pay39 v170) (fun i j => 1 * ((1 + Real.exp (f170 i j)))⁻¹) := by
  unfold k0_pay39
  exact Is2.congr inferInstance fun _ _ _ _ => rfl

instance pay40 (v159 v162 v165 v170 : FVec 𝔽 S256x256 .f32) (f159 f162 f165 f170 : ℕ → ℕ → ℝ) [Is2 v159 f159] [Is2 v162 f162] [Is2 v165 f165] [Is2 v170 (fun i j => 1 + Real.exp (f170 i j))] :
    Is3 (k0_pay40 v159 v162 v165 v170) (fun _ i j => ((f159 i j * f165 i j) * ((1 * ((1 + Real.exp (f170 i j)))⁻¹) * (1 + (f162 i j * (1 - (1 * ((1 + Real.exp (f170 i j)))⁻¹))))))) := by
  unfold k0_pay40
  exact Is3.congr inferInstance fun _ _ _ _ _ _ => rfl

instance pay41 (v159 v162 v170 : FVec 𝔽 S256x256 .f32) (f159 f162 f170 : ℕ → ℕ → ℝ) [Is2 v159 f159] [Is2 v162 f162] [Is2 v170 (fun i j => 1 + Real.exp (f170 i j))] :
    Is3 (k0_pay41 v159 v162 v170) (fun _ i j => (f159 i j * (f162 i j * (1 * ((1 + Real.exp (f170 i j)))⁻¹)))) := by
  unfold k0_pay41
  exact Is3.congr inferInstance fun _ _ _ _ _ _ => rfl

instance pay42 (v6 : FVec 𝔽 S256x1024 .bf16) (v191 : Vec 𝔽 S1x256x1024 .bf16) (f6 : ℕ → ℕ → ℝ) (f191 : ℕ → ℕ → ℕ → ℝ) [Is2 v6 f6] [Is3 v191 f191] :
    Is2 (k0_pay42 v6 v191) (fun i j => ∑ k ∈ Finset.range 1024, f6 i k * f191 0 j k) := by
  unfold k0_pay42
  exact Is2.congr inferInstance fun _ _ _ _ => rfl

instance pay43 (v194 : Vec 𝔽 S1x256x256 .bf16) (f194 : ℕ → ℕ → ℕ → ℝ) [Is3 v194 f194] :
    Is2 (k0_pay43 v194) (fun i j => f194 0 i j) := by
  unfold k0_pay43
  exact Is2.congr inferInstance fun _ _ _ _ => rfl

instance pay44 (v197 : Vec 𝔽 S1x256x256 .bf16) (f197 : ℕ → ℕ → ℕ → ℝ) [Is3 v197 f197] :
    Is2 (k0_pay44 v197) (fun i j => f197 0 i j) := by
  unfold k0_pay44
  exact Is2.congr inferInstance fun _ _ _ _ => rfl

instance pay45 (v194 : Vec 𝔽 S1x256x256 .bf16) (f194 : ℕ → ℕ → ℕ → ℝ) [Is3 v194 f194] :
    Is2 (k0_pay45 v194) (fun i j => 1 * ((1 + (Real.exp ((0 - f194 0 i j)))))⁻¹) := by
  unfold k0_pay45
  exact Is2.congr inferInstance fun _ _ _ _ => rfl

instance pay46 (v193 v196 v199 v206 : FVec 𝔽 S256x256 .f32) (f193 f196 f199 f206 : ℕ → ℕ → ℝ) [Is2 v193 f193] [Is2 v196 f196] [Is2 v199 f199] [Is2 v206 f206] :
    Is3 (k0_pay46 v193 v196 v199 v206) (fun _ i j => ((f193 i j * f199 i j) * (f206 i j * (1 + (f196 i j * (1 - f206 i j)))))) := by
  unfold k0_pay46
  exact Is3.congr inferInstance fun _ _ _ _ _ _ => rfl

instance pay47 (v193 v196 v206 : FVec 𝔽 S256x256 .f32) (f193 f196 f206 : ℕ → ℕ → ℝ) [Is2 v193 f193] [Is2 v196 f196] [Is2 v206 f206] :
    Is3 (k0_pay47 v193 v196 v206) (fun _ i j => (f193 i j * (f196 i j * f206 i j))) := by
  unfold k0_pay47
  exact Is3.congr inferInstance fun _ _ _ _ _ _ => rfl

instance pay48 (v122 : FVec 𝔽 S256x1024 .f32) (v225 : Vec 𝔽 S1x256x768 .bf16) (v227 : Vec 𝔽 S1x768x1024 .bf16) (v231 : Vec 𝔽 S1x256x768 .bf16) (v233 : Vec 𝔽 S1x768x1024 .bf16) (f122 : ℕ → ℕ → ℝ) (f225 f227 f231 f233 : ℕ → ℕ → ℕ → ℝ) [Is2 v122 f122] [Is3 v225 f225] [Is3 v227 f227] [Is3 v231 f231] [Is3 v233 f233] :
    Is2 (k0_pay48 v122 v225 v227 v231 v233) (fun i j => (f122 i j + (∑ k ∈ Finset.range 768, f225 0 i k * f227 0 k j)) + (∑ k ∈ Finset.range 768, f231 0 i k * f233 0 k j)) := by
  unfold k0_pay48
  exact Is2.congr inferInstance fun _ _ _ _ => rfl

instance pay49 (v237 : Vec 𝔽 S1x256x1024 .bf16) (f237 : ℕ → ℕ → ℕ → ℝ) [Is3 v237 f237] :
    Is2 (k0_pay49 v237) (fun i j => f237 0 i j) := by
  unfold k0_pay49
  exact Is2.congr inferInstance fun _ _ _ _ => rfl

instance pay50 (v6 v238 : FVec 𝔽 S256x1024 .bf16) (cst_156 : FVec 𝔽 S256x256 .f32) (f6 f238 : ℕ → ℕ → ℝ) [Is2 v6 f6] [Is2 v238 f238] [Is2 cst_156 (fun _ _ => 0)] :
    Is2 (k0_pay50 v6 v238 cst_156) (fun i j => ∑ k ∈ Finset.range 1024, f6 i k * f238 j k) := by
  unfold k0_pay50
  exact Is2.congr inferInstance fun _ _ _ _ => rfl

instance pay51 (v240 : Vec 𝔽 S1x256x256 .bf16) (f240 : ℕ → ℕ → ℕ → ℝ) [Is3 v240 f240] :
    Is2 (k0_pay51 v240) (fun i j => f240 0 i j) := by
  unfold k0_pay51
  exact Is2.congr inferInstance fun _ _ _ _ => rfl

instance pay52 (v240 : Vec 𝔽 S1x256x256 .bf16) (f240 : ℕ → ℕ → ℕ → ℝ) [Is3 v240 f240] :
    Is2 (k0_pay52 v240) (fun i j => 1 * ((1 + (Real.exp ((0 - f240 0 i j)))))⁻¹) := by
  unfold k0_pay52
  exact Is2.congr inferInstance fun _ _ _ _ => rfl

instance pay53 (v6 v238 : FVec 𝔽 S256x1024 .bf16) (cst_156 : FVec 𝔽 S256x256 .f32) (v240 v243 : Vec 𝔽 S1x256x256 .bf16) (f6 f238 : ℕ → ℕ → ℝ) (f240 f243 : ℕ → ℕ → ℕ → ℝ) [Is2 v6 f6] [Is2 v238 f238] [Is2 cst_156 (fun _ _ => 0)] [Is3 v240 f240] [Is3 v243 f243] :
    Is3 (k0_pay53 v6 v238 cst_156 v240 v243) (fun _ i j => (((∑ k ∈ Finset.range 1024, f6 i k * f238 j k) * f243 0 i j) * ((1 * ((1 + (Real.exp ((0 - f240 0 i j)))))⁻¹) * (1 + (f240 0 i j * (1 - (1 * ((1 + (Real.exp ((0 - f240 0 i j)))))⁻¹))))))) := by
  unfold k0_pay53
  exact Is3.congr inferInstance fun _ _ _ _ _ _ => rfl

instance pay54 (v6 v238 : FVec 𝔽 S256x1024 .bf16) (cst_156 : FVec 𝔽 S256x256 .f32) (v240 : Vec 𝔽 S1x256x256 .bf16) (f6 f238 : ℕ → ℕ → ℝ) (f240 : ℕ → ℕ → ℕ → ℝ) [Is2 v6 f6] [Is2 v238 f238] [Is2 cst_156 (fun _ _ => 0)] [Is3 v240 f240] :
    Is3 (k0_pay54 v6 v238 cst_156 v240) (fun _ i j => ((∑ k ∈ Finset.range 1024, f6 i k * f238 j k) * (f240 0 i j * (1 * ((1 + (Real.exp ((0 - f240 0 i j)))))⁻¹)))) := by
  unfold k0_pay54
  exact Is3.congr inferInstance fun _ _ _ _ _ _ => rfl

instance pay55 (v6 : FVec 𝔽 S256x1024 .bf16) (v271 : Vec 𝔽 S1x256x1024 .bf16) (f6 : ℕ → ℕ → ℝ) (f271 : ℕ → ℕ → ℕ → ℝ) [Is2 v6 f6] [Is3 v271 f271] :
    Is2 (k0_pay55 v6 v271) (fun i j => ∑ k ∈ Finset.range 1024, f6 i k * f271 0 j k) := by
  unfold k0_pay55
  exact Is2.congr inferInstance fun _ _ _ _ => rfl

instance pay56 (v274 : Vec 𝔽 S1x256x256 .bf16) (f274 : ℕ → ℕ → ℕ → ℝ) [Is3 v274 f274] :
    Is2 (k0_pay56 v274) (fun i j => f274 0 i j) := by
  unfold k0_pay56
  exact Is2.congr inferInstance fun _ _ _ _ => rfl

instance pay57 (v274 : Vec 𝔽 S1x256x256 .bf16) (f274 : ℕ → ℕ → ℕ → ℝ) [Is3 v274 f274] :
    Is2 (k0_pay57 v274) (fun i j => 1 * ((1 + (Real.exp ((0 - f274 0 i j)))))⁻¹) := by
  unfold k0_pay57
  exact Is2.congr inferInstance fun _ _ _ _ => rfl

instance pay58 (v273 : FVec 𝔽 S256x256 .f32) (v274 v277 : Vec 𝔽 S1x256x256 .bf16) (f273 : ℕ → ℕ → ℝ) (f274 f277 : ℕ → ℕ → ℕ → ℝ) [Is2 v273 f273] [Is3 v274 f274] [Is3 v277 f277] :
    Is3 (k0_pay58 v273 v274 v277) (fun _ i j => ((f273 i j * f277 0 i j) * ((1 * ((1 + (Real.exp ((0 - f274 0 i j)))))⁻¹) * (1 + (f274 0 i j * (1 - (1 * ((1 + (Real.exp ((0 - f274 0 i j)))))⁻¹))))))) := by
  unfold k0_pay58
  exact Is3.congr inferInstance fun _ _ _ _ _ _ => rfl

instance pay59 (v273 : FVec 𝔽 S256x256 .f32) (v274 : Vec 𝔽 S1x256x256 .bf16) (f273 : ℕ → ℕ → ℝ) (f274 : ℕ → ℕ → ℕ → ℝ) [Is2 v273 f273] [Is3 v274 f274] :
    Is3 (k0_pay59 v273 v274) (fun _ i j => (f273 i j * (f274 0 i j * (1 * ((1 + (Real.exp ((0 - f274 0 i j)))))⁻¹)))) := by
  unfold k0_pay59
  exact Is3.congr inferInstance fun _ _ _ _ _ _ => rfl

instance pay60 (v6 : FVec 𝔽 S256x1024 .bf16) (v305 : Vec 𝔽 S1x256x1024 .bf16) (f6 : ℕ → ℕ → ℝ) (f305 : ℕ → ℕ → ℕ → ℝ) [Is2 v6 f6] [Is3 v305 f305] :
    Is2 (k0_pay60 v6 v305) (fun i j => ∑ k ∈ Finset.range 1024, f6 i k * f305 0 j k) := by
  unfold k0_pay60
  exact Is2.congr inferInstance fun _ _ _ _ => rfl

instance pay61 (v308 : Vec 𝔽 S1x256x256 .bf16) (f308 : ℕ → ℕ → ℕ → ℝ) [Is3 v308 f308] :
    Is2 (k0_pay61 v308) (fun i j => f308 0 i j) := by
  unfold k0_pay61
  exact Is2.congr inferInstance fun _ _ _ _ => rfl

instance pay62 (v309 : FVec 𝔽 S256x256 .bf16) (f309 : ℕ → ℕ → ℝ) [Is2 v309 f309] :
    Is2 (k0_pay62 v309) f309 := by
  unfold k0_pay62
  exact Is2.congr inferInstance fun _ _ _ _ => rfl

instance pay63 (v309 : FVec 𝔽 S256x256 .bf16) (f309 : ℕ → ℕ → ℝ) [Is2 v309 f309] :
    Is2 (k0_pay63 v309) (fun i j => 1 * ((1 + (Real.exp ((0 - f309 i j)))))⁻¹) := by
  unfold k0_pay63
  exact Is2.congr inferInstance fun _ _ _ _ => rfl

instance pay64 (v307 : FVec 𝔽 S256x256 .f32) (v309 : FVec 𝔽 S256x256 .bf16) (v311 : Vec 𝔽 S1x256x256 .bf16) (f307 f309 : ℕ → ℕ → ℝ) (f311 : ℕ → ℕ → ℕ → ℝ) [Is2 v307 f307] [Is2 v309 f309] [Is3 v311 f311] :
    Is3 (k0_pay64 v307 v309 v311) (fun _ i j => ((f307 i j * f311 0 i j) * ((1 * ((1 + (Real.exp ((0 - f309 i j)))))⁻¹) * (1 + (f309 i j * (1 - (1 * ((1 + (Real.exp ((0 - f309 i j)))))⁻¹))))))) := by
  unfold k0_pay64
  exact Is3.congr inferInstance fun _ _ _ _ _ _ => rfl

instance pay65 (v307 : FVec 𝔽 S256x256 .f32) (v309 : FVec 𝔽 S256x256 .bf16) (f307 f309 : ℕ → ℕ → ℝ) [Is2 v307 f307] [Is2 v309 f309] :
    Is3 (k0_pay65 v307 v309) (fun _ i j => (f307 i j * (f309 i j * (1 * ((1 + (Real.exp ((0 - f309 i j)))))⁻¹)))) := by
  unfold k0_pay65
  exact Is3.congr inferInstance fun _ _ _ _ _ _ => rfl

instance pay66 (v236 : FVec 𝔽 S256x1024 .f32) (v339 : Vec 𝔽 S1x256x768 .bf16) (v341 : Vec 𝔽 S1x768x1024 .bf16) (f236 : ℕ → ℕ → ℝ) (f339 f341 : ℕ → ℕ → ℕ → ℝ) [Is2 v236 f236] [Is3 v339 f339] [Is3 v341 f341] :
    Is2 (k0_pay66 v236 v339 v341) (fun i j => f236 i j + (∑ k ∈ Finset.range 768, f339 0 i k * f341 0 k j)) := by
  unfold k0_pay66
  exact Is2.congr inferInstance fun _ _ _ _ => rfl

instance pay67 (v344 : FVec 𝔽 S256x1024 .f32) (v345 : Vec 𝔽 S1x256x768 .bf16) (v347 : Vec 𝔽 S1x768x1024 .bf16) (f344 : ℕ → ℕ → ℝ) (f345 f347 : ℕ → ℕ → ℕ → ℝ) [Is2 v344 f344] [Is3 v345 f345] [Is3 v347 f347] :
    Is2 (k0_pay67 v344 v345 v347) (fun i j => f344 i j + (∑ k ∈ Finset.range 768, f345 0 i k * f347 0 k j)) := by
  unfold k0_pay67
  exact Is2.congr inferInstance fun _ _ _ _ => rfl

instance pay68 (v6 : FVec 𝔽 S256x1024 .bf16) (v351 : Vec 𝔽 S1x256x1024 .bf16) (f6 : ℕ → ℕ → ℝ) (f351 : ℕ → ℕ → ℕ → ℝ) [Is2 v6 f6] [Is3 v351 f351] :
    Is2 (k0_pay68 v6 v351) (fun i j => ∑ k ∈ Finset.range 1024, f6 i k * f351 0 j k) := by
  unfold k0_pay68
  exact Is2.congr inferInstance fun _ _ _ _ => rfl

instance pay69 (v354 : Vec 𝔽 S1x256x256 .bf16) (f354 : ℕ → ℕ → ℕ → ℝ) [Is3 v354 f354] :
    Is2 (k0_pay69 v354) (fun i j => f354 0 i j) := by
  unfold k0_pay69
  exact Is2.congr inferInstance fun _ _ _ _ => rfl

instance pay70 (v354 : Vec 𝔽 S1x256x256 .bf16) (f354 : ℕ → ℕ → ℕ → ℝ) [Is3 v354 f354] :
    Is2 (k0_pay70 v354) (fun i j => 1 * ((1 + (Real.exp ((0 - f354 0 i j)))))⁻¹) := by
  unfold k0_pay70
  exact Is2.congr inferInstance fun _ _ _ _ => rfl

instance pay71 (v6 : FVec 𝔽 S256x1024 .bf16) (v351 : Vec 𝔽 S1x256x1024 .bf16) (v354 : Vec 𝔽 S1x256x256 .bf16) (f6 : ℕ → ℕ → ℝ) (f351 f354 : ℕ → ℕ → ℕ → ℝ) [Is2 v6 f6] [Is3 v351 f351] [Is3 v354 f354] :
    Is2 (k0_pay71 v6 v351 v354) (fun i j => (∑ k ∈ Finset.range 1024, f6 i k * f351 0 j k) * (f354 0 i j * (1 * ((1 + (Real.exp ((0 - f354 0 i j)))))⁻¹))) := by
  unfold k0_pay71
  exact Is2.congr inferInstance fun _ _ _ _ => rfl

instance pay72 (v6 : FVec 𝔽 S256x1024 .bf16) (v351 : Vec 𝔽 S1x256x1024 .bf16) (v354 v357 : Vec 𝔽 S1x256x256 .bf16) (f6 : ℕ → ℕ → ℝ) (f351 f354 f357 : ℕ → ℕ → ℕ → ℝ) [Is2 v6 f6] [Is3 v351 f351] [Is3 v354 f354] [Is3 v357 f357] :
    Is3 (k0_pay72 v6 v351 v354 v357) (fun _ i j => (((∑ k ∈ Finset.range 1024, f6 i k * f351 0 j k) * f357 0 i j) * ((1 * ((1 + (Real.exp ((0 - f354 0 i j)))))⁻¹) * (1 + (f354 0 i j * (1 - (1 * ((1 + (Real.exp ((0 - f354 0 i j)))))⁻¹))))))) := by
  unfold k0_pay72
  exact Is3.congr inferInstance fun _ _ _ _ _ _ => rfl

instance pay73 (v378 : FVec 𝔽 S256x256 .bf16) (f378 : ℕ → ℕ → ℝ) [Is2 v378 f378] :
    Is3 (k0_pay73 v378) (fun _ i j => f378 i j) := by
  unfold k0_pay73
  exact Is3.congr inferInstance fun _ _ _ _ _ _ => rfl

instance pay74 (v6 : FVec 𝔽 S256x1024 .bf16) (v385 : Vec 𝔽 S1x256x1024 .bf16) (f6 : ℕ → ℕ → ℝ) (f385 : ℕ → ℕ → ℕ → ℝ) [Is2 v6 f6] [Is3 v385 f385] :
    Is2 (k0_pay74 v6 v385) (fun i j => ∑ k ∈ Finset.range 1024, f6 i k * f385 0 j k) := by
  unfold k0_pay74
  exact Is2.congr inferInstance fun _ _ _ _ => rfl

instance pay75 (v388 : Vec 𝔽 S1x256x256 .bf16) (f388 : ℕ → ℕ → ℕ → ℝ) [Is3 v388 f388] :
    Is2 (k0_pay75 v388) (fun i j => f388 0 i j) := by
  unfold k0_pay75
  exact Is2.congr inferInstance fun _ _ _ _ => rfl

instance pay76 (v388 : Vec 𝔽 S1x256x256 .bf16) (f388 : ℕ → ℕ → ℕ → ℝ) [Is3 v388 f388] :
    Is2 (k0_pay76 v388) (fun i j => 1 * ((1 + (Real.exp ((0 - f388 0 i j)))))⁻¹) := by
  unfold k0_pay76
  exact Is2.congr inferInstance fun _ _ _ _ => rfl

instance pay77 (v6 : FVec 𝔽 S256x1024 .bf16) (v385 : Vec 𝔽 S1x256x1024 .bf16) (v388 : Vec 𝔽 S1x256x256 .bf16) (f6 : ℕ → ℕ → ℝ) (f385 f388 : ℕ → ℕ → ℕ → ℝ) [Is2 v6 f6] [Is3 v385 f385] [Is3 v388 f388] :
    Is2 (k0_pay77 v6 v385 v388) (fun i j => (∑ k ∈ Finset.range 1024, f6 i k * f385 0 j k) * (f388 0 i j * (1 * ((1 + (Real.exp ((0 - f388 0 i j)))))⁻¹))) := by
  unfold k0_pay77
  exact Is2.congr inferInstance fun _ _ _ _ => rfl

instance pay78 (v6 : FVec 𝔽 S256x1024 .bf16) (v385 : Vec 𝔽 S1x256x1024 .bf16) (v388 v391 : Vec 𝔽 S1x256x256 .bf16) (f6 : ℕ → ℕ → ℝ) (f385 f388 f391 : ℕ → ℕ → ℕ → ℝ) [Is2 v6 f6] [Is3 v385 f385] [Is3 v388 f388] [Is3 v391 f391] :
    Is3 (k0_pay78 v6 v385 v388 v391) (fun _ i j => (((∑ k ∈ Finset.range 1024, f6 i k * f385 0 j k) * f391 0 i j) * ((1 * ((1 + (Real.exp ((0 - f388 0 i j)))))⁻¹) * (1 + (f388 0 i j * (1 - (1 * ((1 + (Real.exp ((0 - f388 0 i j)))))⁻¹))))))) := by
  unfold k0_pay78
  exact Is3.congr inferInstance fun _ _ _ _ _ _ => rfl

instance pay79 (v412 : FVec 𝔽 S256x256 .bf16) (f412 : ℕ → ℕ → ℝ) [Is2 v412 f412] :
    Is3 (k0_pay79 v412) (fun _ i j => f412 i j) := by
  unfold k0_pay79
  exact Is3.congr inferInstance fun _ _ _ _ _ _ => rfl

instance pay80 (v6 : FVec 𝔽 S256x1024 .bf16) (v419 : Vec 𝔽 S1x256x1024 .bf16) (f6 : ℕ → ℕ → ℝ) (f419 : ℕ → ℕ → ℕ → ℝ) [Is2 v6 f6] [Is3 v419 f419] :
    Is2 (k0_pay80 v6 v419) (fun i j => ∑ k ∈ Finset.range 1024, f6 i k * f419 0 j k) := by
  unfold k0_pay80
  exact Is2.congr inferInstance fun _ _ _ _ => rfl

instance pay81 (v422 : Vec 𝔽 S1x256x256 .bf16) (f422 : ℕ → ℕ → ℕ → ℝ) [Is3 v422 f422] :
    Is2 (k0_pay81 v422) (fun i j => f422 0 i j) := by
  unfold k0_pay81
  exact Is2.congr inferInstance fun _ _ _ _ => rfl

instance pay82 (v422 : Vec 𝔽 S1x256x256 .bf16) (f422 : ℕ → ℕ → ℕ → ℝ) [Is3 v422 f422] :
    Is2 (k0_pay82 v422) (fun i j => 1 * ((1 + (Real.exp ((0 - f422 0 i j)))))⁻¹) := by
  unfold k0_pay82
  exact Is2.congr inferInstance fun _ _ _ _ => rfl

instance pay83 (v6 : FVec 𝔽 S256x1024 .bf16) (v419 : Vec 𝔽 S1x256x1024 .bf16) (v422 : Vec 𝔽 S1x256x256 .bf16) (f6 : ℕ → ℕ → ℝ) (f419 f422 : ℕ → ℕ → ℕ → ℝ) [Is2 v6 f6] [Is3 v419 f419] [Is3 v422 f422] :
    Is2 (k0_pay83 v6 v419 v422) (fun i j => (∑ k ∈ Finset.range 1024, f6 i k * f419 0 j k) * (f422 0 i j * (1 * ((1 + (Real.exp ((0 - f422 0 i j)))))⁻¹))) := by
  unfold k0_pay83
  exact Is2.congr inferInstance fun _ _ _ _ => rfl

instance pay84 (v6 : FVec 𝔽 S256x1024 .bf16) (v419 : Vec 𝔽 S1x256x1024 .bf16) (v422 v425 : Vec 𝔽 S1x256x256 .bf16) (f6 : ℕ → ℕ → ℝ) (f419 f422 f425 : ℕ → ℕ → ℕ → ℝ) [Is2 v6 f6] [Is3 v419 f419] [Is3 v422 f422] [Is3 v425 f425] :
    Is3 (k0_pay84 v6 v419 v422 v425) (fun _ i j => (((∑ k ∈ Finset.range 1024, f6 i k * f419 0 j k) * f425 0 i j) * ((1 * ((1 + (Real.exp ((0 - f422 0 i j)))))⁻¹) * (1 + (f422 0 i j * (1 - (1 * ((1 + (Real.exp ((0 - f422 0 i j)))))⁻¹))))))) := by
  unfold k0_pay84
  exact Is3.congr inferInstance fun _ _ _ _ _ _ => rfl

instance pay85 (v446 : FVec 𝔽 S256x256 .bf16) (f446 : ℕ → ℕ → ℝ) [Is2 v446 f446] :
    Is3 (k0_pay85 v446) (fun _ i j => f446 i j) := by
  unfold k0_pay85
  exact Is3.congr inferInstance fun _ _ _ _ _ _ => rfl

instance pay86 (v350 : FVec 𝔽 S256x1024 .f32) (v453 : Vec 𝔽 S1x256x768 .bf16) (v455 : Vec 𝔽 S1x768x1024 .bf16) (v459 : Vec 𝔽 S1x256x768 .bf16) (v461 : Vec 𝔽 S1x768x1024 .bf16) (f350 : ℕ → ℕ → ℝ) (f453 f455 f459 f461 : ℕ → ℕ → ℕ → ℝ) [Is2 v350 f350] [Is3 v453 f453] [Is3 v455 f455] [Is3 v459 f459] [Is3 v461 f461] :
    Is2 (k0_pay86 v350 v453 v455 v459 v461) (fun i j => (f350 i j + (∑ k ∈ Finset.range 768, f453 0 i k * f455 0 k j)) + (∑ k ∈ Finset.range 768, f459 0 i k * f461 0 k j)) := by
  unfold k0_pay86
  exact Is2.congr inferInstance fun _ _ _ _ => rfl

instance pay87 (v465 : Vec 𝔽 S256x1024 .f32) (f465 : ℕ → ℕ → ℝ) [Is2 v465 f465] :
    Is2 (k0_pay87 v465) (fun i j => (Real.sqrt ((((fun i _ => (fun i => ∑ k ∈ Finset.range 1024, (f465 i k * f465 i k)) i) i j * (1024)⁻¹) + eps)))⁻¹) := by
  unfold k0_pay87
  exact Is2.congr inferInstance fun _ _ _ _ => rfl

instance pay88 (v465 : Vec 𝔽 S256x1024 .f32) (f465 : ℕ → ℕ → ℝ) [Is2 v465 f465] :
    Is2 (k0_pay88 v465) (fun i j => f465 i j * (fun i _ => (fun i j => (Real.sqrt ((((fun i _ => (fun i => ∑ k ∈ Finset.range 1024, (f465 i k * f465 i k)) i) i j * (1024)⁻¹) + eps)))⁻¹) i 0) i j) := by
  unfold k0_pay88
  exact Is2.congr inferInstance fun _ _ _ _ => rfl

instance pay89 (v350 : FVec 𝔽 S256x1024 .f32) (v453 : Vec 𝔽 S1x256x768 .bf16) (v455 : Vec 𝔽 S1x768x1024 .bf16) (v459 : Vec 𝔽 S1x256x768 .bf16) (v461 : Vec 𝔽 S1x768x1024 .bf16) (v465 : Vec 𝔽 S256x1024 .f32) (v466 : Vec 𝔽 S1x1024 .f32) (f350 : ℕ → ℕ → ℝ) (f453 f455 f459 f461 : ℕ → ℕ → ℕ → ℝ) (f465 f466 : ℕ → ℕ → ℝ) [Is2 v350 f350] [Is3 v453 f453] [Is3 v455 f455] [Is3 v459 f459] [Is3 v461 f461] [Is2 v465 f465] [Is2 v466 f466] :
    Is2 (k0_pay89 v350 v453 v455 v459 v461 v465 v466) (fun i j => (((f350 i j + (∑ k ∈ Finset.range 768, f453 0 i k * f455 0 k j)) + (∑ k ∈ Finset.range 768, f459 0 i k * f461 0 k j)) * f466 0 j) - ((f465 i j * (fun i _ => (fun i j => (Real.sqrt ((((fun i _ => (fun i => ∑ k ∈ Finset.range 1024, (f465 i k * f465 i k)) i) i j * (1024)⁻¹) + eps)))⁻¹) i 0) i j) * (fun i _ => (fun i j => (fun i _ => (fun i => ∑ k ∈ Finset.range 1024, (fun i j => (((f350 i j + (∑ k ∈ Finset.range 768, f453 0 i k * f455 0 k j)) + (∑ k ∈ Finset.range 768, f459 0 i k * f461 0 k j)) * f466 0 j) * (f465 i j * (fun i _ => (fun i j => (Real.sqrt ((((fun i _ => (fun i => ∑ k ∈ Finset.range 1024, (f465 i k * f465 i k)) i) i j * (1024)⁻¹) + eps)))⁻¹) i 0) i j)) i k) i) i j * (1024)⁻¹) i 0) i j)) := by
  unfold k0_pay89
  exact Is2.congr inferInstance fun _ _ _ _ => rfl

instance pay90 (v465 : Vec 𝔽 S256x1024 .f32) (f465 : ℕ → ℕ → ℝ) [Is2 v465 f465] :
    Is2 (k0_pay90 v465) (fun i _ => (fun i j => (Real.sqrt ((((fun i _ => (fun i => ∑ k ∈ Finset.range 1024, (f465 i k * f465 i k)) i) i j * (1024)⁻¹) + eps)))⁻¹) i 0) := by
  unfold k0_pay90
  exact Is2.congr inferInstance fun _ _ _ _ => rfl

end Cert.Calc.Ff
-- ==== Proof.FfnFill.lean ====
module

public import proofs.«01_k».proof.Proof.FfnPay
public import proofs.«01_k».proof.Proof.Gen.KernelFfnIdeal.Frame.RunA

/-!
The two matrices as the first step leaves them in its buffers: the first whole, the second from eight
pieces, two to a slab, with zero rows below.
-/

@[expose] public section

noncomputable section

namespace Cert.Calc.Ff

open Idealize.ShloMosaic hiding ix1 ix2 ix3 ix4
open Idealize.ShloMosaic.ValueIdx Cert.KernelFfnIdeal Cert.KernelFfnIdeal.Gen
open scoped BigOperators

local notation "𝔽" => Idealize.ShloMosaic.Ideal
local notation "𝕍" => Elt Idealize.ShloMosaic.Ideal

variable (c : Dev nD)

theorem fill_w (arg12 : Memref sig .tc .vmem S8x768x1024 .bf16) (fh0 : HbBuf0 (F := 𝔽) c hbM0_0) (W : ℕ → ℕ → ℕ → ℝ)
    (Y : BufTy.Contents 𝕍 arg12.view.ty)
    [h : Is3 (View.read 𝕍 (Memref.whole main_v17).view fh0) W] :
    Is3 (arg12.view.read 𝕍 (arg12.view.writes 𝕍 Y
      [⟨Rect.whole S8x768x1024, kernelRun0_A.sl.dma0 c fh0⟩])) W := by
  refine ⟨fun i j k => ?_⟩
  refine (View.read_writes_cons_unit_of_mem (s := ⟨3, ![8, 768, 1024]⟩) arg12.view Y (off := fun _ => 0) (size := ![8, 768, 1024])
    (fun a => (Nat.zero_add _).le) (kernelRun0_A.sl.dma0 (F := 𝔽) c fh0) [] (ix3 i j k) (ix3 i j k) rfl
    (fun a => (Nat.zero_add _).symm)).trans ?_
  exact h.eq i j k

/-- The pieces of the second matrix, the newest first. -/
abbrev downPieces (fh1 : HbBuf0 (F := 𝔽) c hbM0_1) : List (View.Piece 𝕍 S4x768x1024 .bf16) :=
  [⟨Rect.unit (s := S4x768x1024) ![0, 704, 0] S4x64x1024.size (by decide), k0_pay4 (F := 𝔽)⟩,
    ⟨Rect.unit (s := S4x768x1024) ![3, 352, 0] S1x352x1024.size (by decide), kernelRun0_A.sl.dma0_8 (F := 𝔽) c fh1⟩,
    ⟨Rect.unit (s := S4x768x1024) ![3, 0, 0] S1x352x1024.size (by decide), kernelRun0_A.sl.dma0_7 (F := 𝔽) c fh1⟩,
    ⟨Rect.unit (s := S4x768x1024) ![2, 352, 0] S1x352x1024.size (by decide), kernelRun0_A.sl.dma0_6 (F := 𝔽) c fh1⟩,
    ⟨Rect.unit (s := S4x768x1024) ![2, 0, 0] S1x352x1024.size (by decide), kernelRun0_A.sl.dma0_5 (F := 𝔽) c fh1⟩,
    ⟨Rect.unit (s := S4x768x1024) ![1, 352, 0] S1x352x1024.size (by decide), kernelRun0_A.sl.dma0_4 (F := 𝔽) c fh1⟩,
    ⟨Rect.unit (s := S4x768x1024) ![1, 0, 0] S1x352x1024.size (by decide), kernelRun0_A.sl.dma0_3 (F := 𝔽) c fh1⟩,
    ⟨Rect.unit (s := S4x768x1024) ![0, 352, 0] S1x352x1024.size (by decide), kernelRun0_A.sl.dma0_2 (F := 𝔽) c fh1⟩,
    ⟨Rect.unit (s := S4x768x1024) ![0, 0, 0] S1x352x1024.size (by decide), kernelRun0_A.sl.dma0_1 (F := 𝔽) c fh1⟩]

section Down
variable (v : View sig .tc .vmem (⟨3, ![4, 768, 1024]⟩ : Shape) .bf16) (X : v.ty.Contents 𝕍) (Wd : ℕ → ℕ → ℕ → ℝ)

/-- The first `n` pieces are in place. -/
def Got (n : ℕ) (v : (⟨3, ![4, 768, 1024]⟩ : Shape).Idx → EReal) : Prop :=
  ∀ (j : Fin 4) (m : Fin 768) (e : Fin 1024), m.val < 704 → 2 * j.val + m.val / 352 < n →
    v (ix3 j m e) = ((Wd (2 * j + m / 352) (m % 352) e : ℝ) : EReal)

theorem Got.store {n : ℕ} (L : List (View.Piece 𝕍 (⟨3, ![4, 768, 1024]⟩ : Shape) .bf16)) (p q : ℕ)
    (inb : ∀ x : Fin 3, (![p, q, 0] : Fin 3 → ℕ) x + (![1, 352, 1024] : Fin 3 → ℕ) x ≤ (![4, 768, 1024] : Fin 3 → ℕ) x)
    (w : (⟨3, ![1, 352, 1024]⟩ : Shape).Idx → EReal)
    (hw : ∀ (m : Fin 352) (e : Fin 1024), w (ix3 (0 : Fin 1) m e) = ((Wd n m e : ℝ) : EReal)) (hn : n = 2 * p + q / 352 ∧ (q = 0 ∨ q = 352))
    (hP : Got Wd n (v.read 𝕍 (v.writes 𝕍 X L))) :
    Got Wd (n + 1) (v.read 𝕍
      (v.writes 𝕍 X (⟨Rect.unit (s := ⟨3, ![4, 768, 1024]⟩) ![p, q, 0] (![1, 352, 1024] : Fin 3 → ℕ) inb, w⟩ :: L))) := by
  intro j m e hm704 hr
  have hp : p + 1 ≤ 4 := inb 0
  have hj := j.isLt
  have hm := m.isLt
  have he := e.isLt
  by_cases h : j.val = p ∧ q ≤ m.val ∧ m.val < q + 352
  · refine (View.read_writes_cons_unit_of_mem (s := ⟨3, ![4, 768, 1024]⟩) v X inb w L (ix3 j m e) (ix3 (0 : Fin 1) (⟨m.val - q, by omega⟩ : Fin 352) e) rfl ?_).trans ?_
    · intro ax
      match ax with
      | ⟨0, _⟩ => show j.val = p + 0; omega
      | ⟨1, _⟩ => show m.val = q + (m.val - q); omega
      | ⟨2, _⟩ => show e.val = 0 + e.val; omega
    · rw [hw]
      have e1 : n = 2 * j.val + m.val / 352 := by omega
      have e2 : m.val - q = m.val % 352 := by omega
      show ((Wd n (m.val - q) e : ℝ) : EReal) = _
      rw [e1, e2]
  · by_cases h0 : j.val = p
    · rw [View.read_writes_cons_unit_of_not_mem (s := ⟨3, ![4, 768, 1024]⟩) v X inb w L (ix3 j m e) rfl 1
        (by show m.val < q ∨ q + 352 ≤ m.val; omega)]
      exact hP j m e hm704 (by omega)
    · rw [View.read_writes_cons_unit_of_not_mem (s := ⟨3, ![4, 768, 1024]⟩) v X inb w L (ix3 j m e) rfl 0
        (by show j.val < p ∨ p + 1 ≤ j.val; omega)]
      exact hP j m e hm704 (by omega)

end Down

/-- A piece is a slab of the matrix it is fetched from. -/
theorem piece (fh1 : HbBuf0 (F := 𝔽) c hbM0_1) (Wd : ℕ → ℕ → ℕ → ℝ) (n : ℕ) (hn : n < 8)
    (inb : ∀ x : Fin 3, (![n, 0, 0] : Fin 3 → ℕ) x + (![1, 352, 1024] : Fin 3 → ℕ) x ≤ (![8, 352, 1024] : Fin 3 → ℕ) x) (hs)
    [h : Is3 (View.read 𝕍 (Memref.whole main_v18).view fh1) Wd] (m : Fin 352) (e : Fin 1024) :
    View.read 𝕍 ((Memref.whole main_v18).slice (Rect.unit (s := S8x352x1024) ![n, 0, 0] S1x352x1024.size inb) hs).view fh1
      (ix3 (0 : Fin 1) m e) = ((Wd n m e : ℝ) : EReal) := by
  refine (congrArg (View.read 𝕍 (Memref.whole main_v18).view fh1) (a₂ := ix3 (⟨n, hn⟩ : Fin 8) m e) ?_).trans (h.eq _ _ _)
  funext ax
  match ax with
  | ⟨0, _⟩ => exact Fin.ext (show n + 1 * 0 = n by omega)
  | ⟨1, _⟩ => exact Fin.ext (show 0 + 1 * m.val = m.val by omega)
  | ⟨2, _⟩ => exact Fin.ext (show 0 + 1 * e.val = e.val by omega)

theorem fill_d (arg13 : Memref sig .tc .vmem S4x768x1024 .bf16) (fh1 : HbBuf0 (F := 𝔽) c hbM0_1) (Wd : ℕ → ℕ → ℕ → ℝ)
    (Y : BufTy.Contents 𝕍 arg13.view.ty)
    [h : Is3 (View.read 𝕍 (Memref.whole main_v18).view fh1) Wd] :
    Is3 (arg13.view.read 𝕍 (arg13.view.writes 𝕍 Y (downPieces c fh1)))
      (fun j m e => if m < 704 then Wd (2 * j + m / 352) (m % 352) e else 0) := by
  refine ⟨fun j m e => ?_⟩
  have hj := j.isLt
  have hm := m.isLt
  have he := e.isLt
  by_cases hlt : m.val < 704
  · rw [if_pos hlt]
    unfold downPieces
    rw [View.read_writes_cons_unit_of_not_mem (s := ⟨3, ![4, 768, 1024]⟩) arg13.view Y (off' := ![0, 704, 0]) (size := ![4, 64, 1024]) _ _ _ (ix3 j m e) rfl 1
      (by show m.val < 704 ∨ 704 + 64 ≤ m.val; omega)]
    refine (?_ : Got Wd 8 _) j m e hlt (by omega)
    refine Got.store (n := 7) _ _ Wd _ 3 352 _ _ (fun m e => ?_) ⟨by decide, by decide⟩ ?_
    · exact piece c fh1 Wd 7 (by decide) _ _ m e
    refine Got.store (n := 6) _ _ Wd _ 3 0 _ _ (fun m e => ?_) ⟨by decide, by decide⟩ ?_
    · exact piece c fh1 Wd 6 (by decide) _ _ m e
    refine Got.store (n := 5) _ _ Wd _ 2 352 _ _ (fun m e => ?_) ⟨by decide, by decide⟩ ?_
    · exact piece c fh1 Wd 5 (by decide) _ _ m e
    refine Got.store (n := 4) _ _ Wd _ 2 0 _ _ (fun m e => ?_) ⟨by decide, by decide⟩ ?_
    · exact piece c fh1 Wd 4 (by decide) _ _ m e
    refine Got.store (n := 3) _ _ Wd _ 1 352 _ _ (fun m e => ?_) ⟨by decide, by decide⟩ ?_
    · exact piece c fh1 Wd 3 (by decide) _ _ m e
    refine Got.store (n := 2) _ _ Wd _ 1 0 _ _ (fun m e => ?_) ⟨by decide, by decide⟩ ?_
    · exact piece c fh1 Wd 2 (by decide) _ _ m e
    refine Got.store (n := 1) _ _ Wd _ 0 352 _ _ (fun m e => ?_) ⟨by decide, by decide⟩ ?_
    · exact piece c fh1 Wd 1 (by decide) _ _ m e
    refine Got.store (n := 0) _ _ Wd _ 0 0 _ _ (fun m e => ?_) ⟨by decide, by decide⟩ ?_
    · exact piece c fh1 Wd 0 (by decide) _ _ m e
    exact fun _ _ _ _ h => absurd h (Nat.not_lt_zero _)
  · rw [if_neg hlt]
    unfold downPieces
    haveI : Is3 (k0_pay4 (F := 𝔽)) (fun _ _ _ => 0) := Is3.congr inferInstance fun _ _ _ _ _ _ => rfl
    refine (View.read_writes_cons_unit_of_mem (s := ⟨3, ![4, 768, 1024]⟩) arg13.view Y _ _ _ (ix3 j m e) (ix3 j (⟨m.val - 704, by omega⟩ : Fin 64) e) rfl ?_).trans
      (Is3.eq (v := k0_pay4 (F := 𝔽)) _ _ _)
    intro ax
    match ax with
    | ⟨0, _⟩ => show j.val = 0 + j.val; omega
    | ⟨1, _⟩ => show m.val = 704 + (m.val - 704); omega
    | ⟨2, _⟩ => show e.val = 0 + e.val; omega

end Cert.Calc.Ff
-- ==== Proof.FfnStepA.lean ====
module

public import proofs.«01_k».proof.Proof.FfnFill
public import proofs.«01_k».proof.Proof.Gen.KernelFfnIdeal.Frame.RunA

/-!
The first step, which fetches the two matrices and begins the gradient of the norm's scale.
-/

@[expose] public section

noncomputable section

namespace Cert.Calc.Ff

open Idealize.ShloMosaic hiding ix1 ix2 ix3 ix4
open Idealize.ShloMosaic.ValueIdx Cert.KernelFfnIdeal Cert.KernelFfnIdeal.Gen Cert.KernelFfnIdeal.Gen.kernelRun0_A
open scoped BigOperators

local notation "𝔽" => Idealize.ShloMosaic.Ideal
local notation "𝕍" => Elt Idealize.ShloMosaic.Ideal

variable (c : Dev nD) (i : grid0.Coords)
variable (arg1 : Memref sig .tc .vmem S256x1024 .f32) (harg1 : arg1.IsWhole)
variable (arg2 : Memref sig .tc .vmem S256x1024 .f32) (harg2 : arg2.IsWhole)
variable (arg3 : Memref sig .tc .vmem S1x1024 .f32) (harg3 : arg3.IsWhole)
variable (arg4 : Memref sig .tc .vmem S4x256x768 .bf16) (harg4 : arg4.IsWhole)
variable (arg5 : Memref sig .tc .vmem S4x256x768 .bf16) (harg5 : arg5.IsWhole)
variable (arg8 : Memref sig .tc .vmem S8x256x768 .bf16) (harg8 : arg8.IsWhole)
variable (arg9 : Memref sig .tc .vmem S256x1024 .bf16) (harg9 : arg9.IsWhole)
variable (arg10 : Memref sig .tc .vmem S256x1024 .f32) (harg10 : arg10.IsWhole)
variable (arg11 : Memref sig .tc .vmem S1x1024 .f32) (harg11 : arg11.IsWhole)
variable (arg12 : Memref sig .tc .vmem S8x768x1024 .bf16) (harg12 : arg12.IsWhole)
variable (arg13 : Memref sig .tc .vmem S4x768x1024 .bf16) (harg13 : arg13.IsWhole)
variable (x0 : Vec 𝔽 S256x1024 .f32)
variable (x1 : Vec 𝔽 S256x1024 .f32)
variable (x2 : Vec 𝔽 S1x1024 .f32)
variable (x3 : Vec 𝔽 S4x256x768 .bf16)
variable (x4 : Vec 𝔽 S4x256x768 .bf16)
variable (fh0 : HbBuf0 (F := 𝔽) c hbM0_0) (fh1 : HbBuf0 (F := 𝔽) c hbM0_1)
variable (D : Data)

set_option maxHeartbeats 40000000 in
/-- What the step leaves in its outputs and in the two matrices' buffers. -/
theorem step_A (hc0 : cond0_0 i) (hc1 : cond0_1 i) (hc2 : ¬cond0_2 i)
    [h0 : Is2 x0 D.dh] [h1 : Is2 x1 D.x] [h2 : Is2 x2 (fun _ e => D.g e)] [h3 : Is3 x3 D.gate] [h4 : Is3 x4 D.up]
    (Wd : ℕ → ℕ → ℕ → ℝ) (hd : ∀ j m e, D.d j m e = if m < 704 then Wd (2 * j + m / 352) (m % 352) e else 0)
    [h6 : Is3 (View.read 𝕍 (Memref.whole main_v17).view fh0) D.w] [h7 : Is3 (View.read 𝕍 (Memref.whole main_v18).view fh1) Wd]
    (Y8 : BufTy.Contents 𝕍 arg8.view.ty) (Y9 : BufTy.Contents 𝕍 arg9.view.ty) (Y10 : BufTy.Contents 𝕍 arg10.view.ty) (Y11 : BufTy.Contents 𝕍 arg11.view.ty) (Y12 : BufTy.Contents 𝕍 arg12.view.ty) (Y13 : BufTy.Contents 𝕍 arg13.view.ty) :
    Is3 (arg8.view.read 𝕍 (arg8.view.writes 𝕍 (Y8) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).1)) D.dgu ∧
    Is2 (arg9.view.read 𝕍 (arg9.view.writes 𝕍 (Y9) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).2.1)) (fun t e => 1 / 2 * D.dh t e) ∧
    Is2 (arg10.view.read 𝕍 (arg10.view.writes 𝕍 (Y10) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).2.2.1)) D.out ∧
    Is2 (arg11.view.read 𝕍 (arg11.view.writes 𝕍 (Y11) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).2.2.2.1)) (fun _ e => D.part e) ∧
    Is3 (arg12.view.read 𝕍 (arg12.view.writes 𝕍 (Y12) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).2.2.2.2.1)) D.w ∧
    Is3 (arg13.view.read 𝕍 (arg13.view.writes 𝕍 (Y13) (kernelRun0_A (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 fh0 fh1).2.2.2.2.2.1)) D.d := by
  haveI : Is2 (arg1.view.read 𝕍 (harg1.unread x0)) D.dh := by rw [harg1.read_unread]; infer_instance
  haveI : Is2 (arg2.view.read 𝕍 (harg2.unread x1)) D.x := by rw [harg2.read_unread]; infer_instance
  haveI : Is2 (arg3.view.read 𝕍 (harg3.unread x2)) (fun _ e => D.g e) := by rw [harg3.read_unread]; infer_instance
  haveI : Is3 (arg4.view.read 𝕍 (harg4.unread x3)) D.gate := by rw [harg4.read_unread]; infer_instance
  haveI : Is3 (arg5.view.read 𝕍 (harg5.unread x4)) D.up := by rw [harg5.read_unread]; infer_instance
  have hw : ∀ Y, Is3 (arg12.view.read 𝕍 (arg12.view.writes 𝕍 Y [⟨Rect.whole S8x768x1024, sl.dma0 c fh0⟩])) D.w :=
    fun Y => fill_w c arg12 fh0 D.w Y
  have hdn : ∀ Y, Is3 (arg13.view.read 𝕍 (arg13.view.writes 𝕍 Y (downPieces c fh1))) D.d :=
    fun Y => (fill_d c arg13 fh1 Wd Y).congr fun j m e _ _ _ => (hd j m e).symm
  haveI := hw arg12.view.junk
  haveI := hdn arg13.view.junk
  haveI : Is2 (sl.r (F := 𝔽) c arg1 harg1 x0) _ := by
    unfold sl.r; infer_instance
  haveI : Is2 (sl.r_1 (F := 𝔽) c arg1 harg1 x0) _ := by
    unfold sl.r_1; infer_instance
  haveI : Is3 (sl.v9 (F := 𝔽) c arg13 fh1) (fun _ i m => D.d 0 (0 + i) m) :=
    load_down arg13.view (arg13.view.writes 𝕍 arg13.view.junk _) 0 0 _ _
  haveI : Is2 (sl.r_2 (F := 𝔽) c arg1 harg1 arg13 x0 fh1) _ := by
    unfold sl.r_2; infer_instance
  haveI : Is2 (sl.r_3 (F := 𝔽) c arg4 harg4 x3) _ := by
    unfold sl.r_3; infer_instance
  haveI : Is2 (sl.r_4 (F := 𝔽) c arg4 harg4 x3) _ := by
    unfold sl.r_4; infer_instance
  haveI : Is2 (sl.r_5 (F := 𝔽) c arg1 harg1 arg4 harg4 arg5 harg5 arg13 x0 x3 x4 fh1) _ := by
    unfold sl.r_5; infer_instance
  haveI : Is3 (sl.v43 (F := 𝔽) c arg13 fh1) (fun _ i m => D.d 0 (256 + i) m) :=
    load_down arg13.view (arg13.view.writes 𝕍 arg13.view.junk _) 0 256 _ _
  haveI : Is2 (sl.r_6 (F := 𝔽) c arg1 harg1 arg4 harg4 arg5 harg5 arg13 x0 x3 x4 fh1) _ := by
    unfold sl.r_6; infer_instance
  haveI : Is2 (sl.r_7 (F := 𝔽) c arg1 harg1 arg4 harg4 arg13 x0 x3 fh1) _ := by
    unfold sl.r_7; infer_instance
  haveI : Is3 (sl.v77 (F := 𝔽) c arg13 fh1) (fun _ i m => D.d 0 (512 + i) m) :=
    load_down arg13.view (arg13.view.writes 𝕍 arg13.view.junk _) 0 512 _ _
  haveI : Is2 (sl.r_8 (F := 𝔽) c arg1 harg1 arg4 harg4 arg5 harg5 arg13 x0 x3 x4 fh1) _ := by
    unfold sl.r_8; infer_instance
  haveI : Is2 (sl.r_9 (F := 𝔽) c arg1 harg1 arg4 harg4 arg13 x0 x3 fh1) _ := by
    unfold sl.r_9; infer_instance
  have P6 : ∀ X, Part D.dgu 6 (arg8.view.read 𝕍 (arg8.view.writes 𝕍 X (sl.H5_6 (F := 𝔽) c arg1 harg1 arg4 harg4 arg5 harg5 arg13 x0 x3 x4 fh1))) := by
    intro X
    unfold sl.H5_6
    refine Part.store (n := 5) _ _ _ 4 512 _ _ _ ?_ (fun i m => Eq.trans (b := D.du 0 i (512 + m)) rfl (D.dgu_hi 0 _ _).symm) ⟨rfl, rfl⟩
    refine Part.store (n := 4) _ _ _ 0 512 _ _ _ ?_ (fun i m => Eq.trans (b := D.dg 0 i (512 + m)) rfl (D.dgu_lo 0 _ _ (by decide)).symm) ⟨rfl, rfl⟩
    refine Part.store (n := 3) _ _ _ 4 256 _ _ _ ?_ (fun i m => Eq.trans (b := D.du 0 i (256 + m)) rfl (D.dgu_hi 0 _ _).symm) ⟨rfl, rfl⟩
    refine Part.store (n := 2) _ _ _ 0 256 _ _ _ ?_ (fun i m => Eq.trans (b := D.dg 0 i (256 + m)) rfl (D.dgu_lo 0 _ _ (by decide)).symm) ⟨rfl, rfl⟩
    refine Part.store (n := 1) _ _ _ 4 0 _ _ _ ?_ (fun i m => Eq.trans (b := D.du 0 i (0 + m)) rfl (D.dgu_hi 0 _ _).symm) ⟨rfl, rfl⟩
    refine Part.store (n := 0) _ _ _ 0 0 _ _ _ ?_ (fun i m => Eq.trans (b := D.dg 0 i (0 + m)) rfl (D.dgu_lo 0 _ _ (by decide)).symm) ⟨rfl, rfl⟩
    exact Part.zero _ _
  haveI : Is3 (sl.v111 (F := 𝔽) c arg1 harg1 arg4 harg4 arg5 harg5 arg8 arg13 x0 x3 x4 fh1) (fun _ i m => D.dgu 0 i m) :=
    Part.slab arg8.view _ 0 _ (P6 _) (by decide)
  haveI : Is3 (sl.v113 (F := 𝔽) c arg12 fh0) (fun _ i m => D.w 0 i m) :=
    load_up arg12.view (arg12.view.writes 𝕍 arg12.view.junk _) 0 _ _
  haveI : Is3 (sl.v117 (F := 𝔽) c arg1 harg1 arg4 harg4 arg5 harg5 arg8 arg13 x0 x3 x4 fh1) (fun _ i m => D.dgu 4 i m) :=
    Part.slab arg8.view _ 4 _ (P6 _) (by decide)
  haveI : Is3 (sl.v119 (F := 𝔽) c arg12 fh0) (fun _ i m => D.w 4 i m) :=
    load_up arg12.view (arg12.view.writes 𝕍 arg12.view.junk _) 4 _ _
  haveI : Is2 (sl.r_10 (F := 𝔽) c arg1 harg1 arg4 harg4 arg5 harg5 arg8 arg12 arg13 x0 x3 x4 fh0 fh1) _ := by
    unfold sl.r_10; infer_instance
  haveI : Is3 (sl.v123 (F := 𝔽) c arg13 fh1) (fun _ i m => D.d 1 (0 + i) m) :=
    load_down arg13.view (arg13.view.writes 𝕍 arg13.view.junk _) 1 0 _ _
  haveI : Is2 (sl.r_11 (F := 𝔽) c arg1 harg1 arg13 x0 fh1) _ := by
    unfold sl.r_11; infer_instance
  haveI : Is2 (sl.r_12 (F := 𝔽) c arg4 harg4 x3) _ := by
    unfold sl.r_12; infer_instance
  haveI : Is2 (sl.r_13 (F := 𝔽) c arg5 harg5 x4) _ := by
    unfold sl.r_13; infer_instance
  haveI : Is2 (sl.r_14 (F := 𝔽) c arg4 harg4 x3) _ := by
    unfold sl.r_14; infer_instance
  haveI : Is3 (sl.v157 (F := 𝔽) c arg13 fh1) (fun _ i m => D.d 1 (256 + i) m) :=
    load_down arg13.view (arg13.view.writes 𝕍 arg13.view.junk _) 1 256 _ _
  haveI : Is2 (sl.r_15 (F := 𝔽) c arg1 harg1 arg13 x0 fh1) _ := by
    unfold sl.r_15; infer_instance
  haveI : Is2 (sl.r_16 (F := 𝔽) c arg4 harg4 x3) _ := by
    unfold sl.r_16; infer_instance
  haveI : Is2 (sl.r_17 (F := 𝔽) c arg5 harg5 x4) _ := by
    unfold sl.r_17; infer_instance
  haveI : Is2 (sl.r_18 (F := 𝔽) c arg4 harg4 x3) _ := by
    unfold sl.r_18; infer_instance
  haveI : Is3 (sl.v191 (F := 𝔽) c arg13 fh1) (fun _ i m => D.d 1 (512 + i) m) :=
    load_down arg13.view (arg13.view.writes 𝕍 arg13.view.junk _) 1 512 _ _
  haveI : Is2 (sl.r_19 (F := 𝔽) c arg1 harg1 arg13 x0 fh1) _ := by
    unfold sl.r_19; infer_instance
  haveI : Is2 (sl.r_20 (F := 𝔽) c arg4 harg4 x3) _ := by
    unfold sl.r_20; infer_instance
  haveI : Is2 (sl.r_21 (F := 𝔽) c arg5 harg5 x4) _ := by
    unfold sl.r_21; infer_instance
  haveI : Is2 (sl.r_22 (F := 𝔽) c arg4 harg4 x3) _ := by
    unfold sl.r_22; infer_instance
  have P12 : ∀ X, Part D.dgu 12 (arg8.view.read 𝕍 (arg8.view.writes 𝕍 X (sl.H5_12 (F := 𝔽) c arg1 harg1 arg4 harg4 arg5 harg5 arg13 x0 x3 x4 fh1))) := by
    intro X
    unfold sl.H5_12
    refine Part.store (n := 11) _ _ _ 5 512 _ _ _ ?_ (fun i m => Eq.trans (b := D.du 1 i (512 + m)) rfl (D.dgu_hi 1 _ _).symm) ⟨rfl, rfl⟩
    refine Part.store (n := 10) _ _ _ 1 512 _ _ _ ?_ (fun i m => Eq.trans (b := D.dg 1 i (512 + m)) rfl (D.dgu_lo 1 _ _ (by decide)).symm) ⟨rfl, rfl⟩
    refine Part.store (n := 9) _ _ _ 5 256 _ _ _ ?_ (fun i m => Eq.trans (b := D.du 1 i (256 + m)) rfl (D.dgu_hi 1 _ _).symm) ⟨rfl, rfl⟩
    refine Part.store (n := 8) _ _ _ 1 256 _ _ _ ?_ (fun i m => Eq.trans (b := D.dg 1 i (256 + m)) rfl (D.dgu_lo 1 _ _ (by decide)).symm) ⟨rfl, rfl⟩
    refine Part.store (n := 7) _ _ _ 5 0 _ _ _ ?_ (fun i m => Eq.trans (b := D.du 1 i (0 + m)) rfl (D.dgu_hi 1 _ _).symm) ⟨rfl, rfl⟩
    refine Part.store (n := 6) _ _ _ 1 0 _ _ _ ?_ (fun i m => Eq.trans (b := D.dg 1 i (0 + m)) rfl (D.dgu_lo 1 _ _ (by decide)).symm) ⟨rfl, rfl⟩
    exact P6 X
  haveI : Is3 (sl.v225 (F := 𝔽) c arg1 harg1 arg4 harg4 arg5 harg5 arg8 arg13 x0 x3 x4 fh1) (fun _ i m => D.dgu 1 i m) :=
    Part.slab arg8.view _ 1 _ (P12 _) (by decide)
  haveI : Is3 (sl.v227 (F := 𝔽) c arg12 fh0) (fun _ i m => D.w 1 i m) :=
    load_up arg12.view (arg12.view.writes 𝕍 arg12.view.junk _) 1 _ _
  haveI : Is3 (sl.v231 (F := 𝔽) c arg1 harg1 arg4 harg4 arg5 harg5 arg8 arg13 x0 x3 x4 fh1) (fun _ i m => D.dgu 5 i m) :=
    Part.slab arg8.view _ 5 _ (P12 _) (by decide)
  haveI : Is3 (sl.v233 (F := 𝔽) c arg12 fh0) (fun _ i m => D.w 5 i m) :=
    load_up arg12.view (arg12.view.writes 𝕍 arg12.view.junk _) 5 _ _
  haveI : Is2 (sl.r_23 (F := 𝔽) c arg1 harg1 arg4 harg4 arg5 harg5 arg8 arg12 arg13 x0 x3 x4 fh0 fh1) _ := by
    unfold sl.r_23; infer_instance
  haveI : Is3 (sl.v351 (F := 𝔽) c arg13 fh1) (fun _ i m => D.d 3 (0 + i) m) :=
    load_down arg13.view (arg13.view.writes 𝕍 arg13.view.junk _) 3 0 _ _
  haveI : Is2 (sl.r_30 (F := 𝔽) c arg1 harg1 arg4 harg4 arg13 x0 x3 fh1) _ := by
    unfold sl.r_30; infer_instance
  haveI : Is3 (sl.r_31 (F := 𝔽) c arg1 harg1 arg4 harg4 arg5 harg5 arg13 x0 x3 x4 fh1) _ := by
    unfold sl.r_31; infer_instance
  haveI : Is3 (sl.v385 (F := 𝔽) c arg13 fh1) (fun _ i m => D.d 3 (256 + i) m) :=
    load_down arg13.view (arg13.view.writes 𝕍 arg13.view.junk _) 3 256 _ _
  haveI : Is2 (sl.r_32 (F := 𝔽) c arg1 harg1 arg4 harg4 arg13 x0 x3 fh1) _ := by
    unfold sl.r_32; infer_instance
  haveI : Is3 (sl.v419 (F := 𝔽) c arg13 fh1) (fun _ i m => D.d 3 (512 + i) m) :=
    load_down arg13.view (arg13.view.writes 𝕍 arg13.view.junk _) 3 512 _ _
  haveI : Is2 (sl.r_33 (F := 𝔽) c arg1 harg1 arg4 harg4 arg13 x0 x3 fh1) _ := by
    unfold sl.r_33; infer_instance
  haveI : Is3 (sl.v237 (F := 𝔽) c arg13 fh1) (fun _ i m => D.d 2 (0 + i) m) :=
    load_down arg13.view (arg13.view.writes 𝕍 arg13.view.junk _) 2 0 _ _
  haveI : Is2 (sl.r_24 (F := 𝔽) c arg13 fh1) _ := by
    unfold sl.r_24; infer_instance
  haveI : Is3 (sl.v271 (F := 𝔽) c arg13 fh1) (fun _ i m => D.d 2 (256 + i) m) :=
    load_down arg13.view (arg13.view.writes 𝕍 arg13.view.junk _) 2 256 _ _
  haveI : Is2 (sl.r_25 (F := 𝔽) c arg1 harg1 arg13 x0 fh1) _ := by
    unfold sl.r_25; infer_instance
  haveI : Is3 (sl.v305 (F := 𝔽) c arg13 fh1) (fun _ i m => D.d 2 (512 + i) m) :=
    load_down arg13.view (arg13.view.writes 𝕍 arg13.view.junk _) 2 512 _ _
  haveI : Is2 (sl.r_26 (F := 𝔽) c arg1 harg1 arg13 x0 fh1) _ := by
    unfold sl.r_26; infer_instance
  haveI : Is2 (sl.r_27 (F := 𝔽) c arg4 harg4 x3) _ := by
    unfold sl.r_27; infer_instance
  haveI : Is2 (sl.cst_156 (F := 𝔽)) _ := by
    unfold sl.cst_156; infer_instance
  have P18 : ∀ X, Part D.dgu 18 (arg8.view.read 𝕍 (arg8.view.writes 𝕍 X (sl.H5_18 (F := 𝔽) c arg1 harg1 arg4 harg4 arg5 harg5 arg13 x0 x3 x4 fh1))) := by
    intro X
    unfold sl.H5_18
    refine Part.store (n := 17) _ _ _ 6 512 _ _ _ ?_ (fun i m => Eq.trans (b := D.du 2 i (512 + m)) rfl (D.dgu_hi 2 _ _).symm) ⟨rfl, rfl⟩
    refine Part.store (n := 16) _ _ _ 2 512 _ _ _ ?_ (fun i m => Eq.trans (b := D.dg 2 i (512 + m)) rfl (D.dgu_lo 2 _ _ (by decide)).symm) ⟨rfl, rfl⟩
    refine Part.store (n := 15) _ _ _ 6 256 _ _ _ ?_ (fun i m => Eq.trans (b := D.du 2 i (256 + m)) rfl (D.dgu_hi 2 _ _).symm) ⟨rfl, rfl⟩
    refine Part.store (n := 14) _ _ _ 2 256 _ _ _ ?_ (fun i m => Eq.trans (b := D.dg 2 i (256 + m)) rfl (D.dgu_lo 2 _ _ (by decide)).symm) ⟨rfl, rfl⟩
    refine Part.store (n := 13) _ _ _ 6 0 _ _ _ ?_ (fun i m => Eq.trans (b := D.du 2 i (0 + m)) rfl (D.dgu_hi 2 _ _).symm) ⟨rfl, rfl⟩
    refine Part.store (n := 12) _ _ _ 2 0 _ _ _ ?_ (fun i m => Eq.trans (b := D.dg 2 i (0 + m)) rfl (D.dgu_lo 2 _ _ (by decide)).symm) ⟨rfl, rfl⟩
    exact P12 X
  have P24 : ∀ X, Part D.dgu 24 (arg8.view.read 𝕍 (arg8.view.writes 𝕍 X (sl.H5_24 (F := 𝔽) c arg1 harg1 arg4 harg4 arg5 harg5 arg13 x0 x3 x4 fh1))) := by
    intro X
    unfold sl.H5_24
    refine Part.store (n := 23) _ _ _ 7 512 _ _ _ ?_ (fun i m => Eq.trans (b := D.du 3 i (512 + m)) rfl (D.dgu_hi 3 _ _).symm) ⟨rfl, rfl⟩
    refine Part.store (n := 22) _ _ _ 3 512 _ _ _ ?_ (fun i m => Eq.trans (b := D.dg 3 i (512 + m)) rfl (D.dgu_lo 3 _ _ (by decide)).symm) ⟨rfl, rfl⟩
    refine Part.store (n := 21) _ _ _ 7 256 _ _ _ ?_ (fun i m => Eq.trans (b := D.du 3 i (256 + m)) rfl (D.dgu_hi 3 _ _).symm) ⟨rfl, rfl⟩
    refine Part.store (n := 20) _ _ _ 3 256 _ _ _ ?_ (fun i m => Eq.trans (b := D.dg 3 i (256 + m)) rfl (D.dgu_lo 3 _ _ (by decide)).symm) ⟨rfl, rfl⟩
    refine Part.store (n := 19) _ _ _ 7 0 _ _ _ ?_ (fun i m => Eq.trans (b := D.du 3 i (0 + m)) rfl (D.dgu_hi 3 _ _).symm) ⟨rfl, rfl⟩
    refine Part.store (n := 18) _ _ _ 3 0 _ _ _ ?_ (fun i m => Eq.trans (b := D.dg 3 i (0 + m)) rfl (D.dgu_lo 3 _ _ (by decide)).symm) ⟨rfl, rfl⟩
    exact P18 X
  haveI : Is3 (sl.v339 (F := 𝔽) c arg1 harg1 arg4 harg4 arg5 harg5 arg8 arg13 x0 x3 x4 fh1) (fun _ i m => D.dgu 2 i m) :=
    Part.slab arg8.view _ 2 _ (P18 _) (by decide)
  haveI : Is3 (sl.v341 (F := 𝔽) c arg12 fh0) (fun _ i m => D.w 2 i m) :=
    load_up arg12.view (arg12.view.writes 𝕍 arg12.view.junk _) 2 _ _
  haveI : Is2 (sl.r_28 (F := 𝔽) c arg1 harg1 arg4 harg4 arg5 harg5 arg8 arg12 arg13 x0 x3 x4 fh0 fh1) _ := by
    unfold sl.r_28; infer_instance
  haveI : Is3 (sl.v345 (F := 𝔽) c arg1 harg1 arg4 harg4 arg5 harg5 arg8 arg13 x0 x3 x4 fh1) (fun _ i m => D.dgu 6 i m) :=
    Part.slab arg8.view _ 6 _ (P18 _) (by decide)
  haveI : Is3 (sl.v347 (F := 𝔽) c arg12 fh0) (fun _ i m => D.w 6 i m) :=
    load_up arg12.view (arg12.view.writes 𝕍 arg12.view.junk _) 6 _ _
  haveI : Is2 (sl.r_29 (F := 𝔽) c arg1 harg1 arg4 harg4 arg5 harg5 arg8 arg12 arg13 x0 x3 x4 fh0 fh1) _ := by
    unfold sl.r_29; infer_instance
  haveI : Is3 (sl.v453 (F := 𝔽) c arg1 harg1 arg4 harg4 arg5 harg5 arg8 arg13 x0 x3 x4 fh1) (fun _ i m => D.dgu 3 i m) :=
    Part.slab arg8.view _ 3 _ (P24 _) (by decide)
  haveI : Is3 (sl.v455 (F := 𝔽) c arg12 fh0) (fun _ i m => D.w 3 i m) :=
    load_up arg12.view (arg12.view.writes 𝕍 arg12.view.junk _) 3 _ _
  haveI : Is3 (sl.v459 (F := 𝔽) c arg1 harg1 arg4 harg4 arg5 harg5 arg8 arg13 x0 x3 x4 fh1) (fun _ i m => D.dgu 7 i m) :=
    Part.slab arg8.view _ 7 _ (P24 _) (by decide)
  haveI : Is3 (sl.v461 (F := 𝔽) c arg12 fh0) (fun _ i m => D.w 7 i m) :=
    load_up arg12.view (arg12.view.writes 𝕍 arg12.view.junk _) 7 _ _
  haveI : Is2 (sl.r_34 (F := 𝔽) c arg1 harg1 arg4 harg4 arg5 harg5 arg8 arg12 arg13 x0 x3 x4 fh0 fh1) D.dn := by
    unfold sl.r_34; exact Is2.congr inferInstance fun _ _ _ _ => rfl
  haveI : Is2 (sl.r_35 (F := 𝔽) c arg2 harg2 x1) D.xh := by
    unfold sl.r_35; exact Is2.congr inferInstance fun _ _ _ _ => rfl
  haveI : Is2 (sl.r_36 (F := 𝔽) c arg1 harg1 arg2 harg2 arg3 harg3 arg4 harg4 arg5 harg5 arg8 arg12 arg13 x0 x1 x2 x3 x4 fh0 fh1) D.dx := by
    unfold sl.r_36; exact Is2.congr inferInstance fun _ _ _ _ => rfl
  haveI : Is2 (sl.r_37 (F := 𝔽) c arg2 harg2 x1) (fun t _ => D.inv t) := by
    unfold sl.r_37; exact Is2.congr inferInstance fun _ _ _ _ => rfl
  unfold kernelRun0_A
  dsimp only
  refine ⟨(P24 Y8).all, ?_, ?_, ?_, ?_, ?_⟩
  · haveI : Is2 (k0_pay5 (View.readAt 𝕍 arg1.view (Rect.unit ![0, 0] S256x1024.size inb_S256x1024_S256x1024_0_0).toLoadRect (harg1.unread x0)))
      (fun t e => 1 / 2 * D.dh t e) := Is2.congr inferInstance fun _ _ _ _ => rfl
    exact whole2b _ _ _ _ _
  · exact (whole2 _ _ _ _ _).congr fun _ _ _ _ => rfl
  · exact (whole2 _ _ _ _ _).congr fun _ _ _ _ => rfl
  · exact hw Y12
  · exact hdn Y13

end Cert.Calc.Ff
-- ==== Proof.FfnStepB.lean ====
module

public import proofs.«01_k».proof.Proof.FfnPay
public import proofs.«01_k».proof.Proof.Gen.KernelFfnIdeal.Frame.RunB

/-!
A step that finds the two matrices in place and adds to the gradient of the norm's scale.
-/

@[expose] public section

noncomputable section

namespace Cert.Calc.Ff

open Idealize.ShloMosaic hiding ix1 ix2 ix3 ix4
open Idealize.ShloMosaic.ValueIdx Cert.KernelFfnIdeal Cert.KernelFfnIdeal.Gen Cert.KernelFfnIdeal.Gen.kernelRun0_B
open scoped BigOperators

local notation "𝔽" => Idealize.ShloMosaic.Ideal
local notation "𝕍" => Elt Idealize.ShloMosaic.Ideal

variable (c : Dev nD) (i : grid0.Coords)
variable (arg1 : Memref sig .tc .vmem S256x1024 .f32) (harg1 : arg1.IsWhole)
variable (arg2 : Memref sig .tc .vmem S256x1024 .f32) (harg2 : arg2.IsWhole)
variable (arg3 : Memref sig .tc .vmem S1x1024 .f32) (harg3 : arg3.IsWhole)
variable (arg4 : Memref sig .tc .vmem S4x256x768 .bf16) (harg4 : arg4.IsWhole)
variable (arg5 : Memref sig .tc .vmem S4x256x768 .bf16) (harg5 : arg5.IsWhole)
variable (arg8 : Memref sig .tc .vmem S8x256x768 .bf16) (harg8 : arg8.IsWhole)
variable (arg9 : Memref sig .tc .vmem S256x1024 .bf16) (harg9 : arg9.IsWhole)
variable (arg10 : Memref sig .tc .vmem S256x1024 .f32) (harg10 : arg10.IsWhole)
variable (arg11 : Memref sig .tc .vmem S1x1024 .f32) (harg11 : arg11.IsWhole)
variable (arg12 : Memref sig .tc .vmem S8x768x1024 .bf16) (harg12 : arg12.IsWhole)
variable (arg13 : Memref sig .tc .vmem S4x768x1024 .bf16) (harg13 : arg13.IsWhole)
variable (x0 : Vec 𝔽 S256x1024 .f32)
variable (x1 : Vec 𝔽 S256x1024 .f32)
variable (x2 : Vec 𝔽 S1x1024 .f32)
variable (x3 : Vec 𝔽 S4x256x768 .bf16)
variable (x4 : Vec 𝔽 S4x256x768 .bf16)
variable (xo8 : Vec 𝔽 S1x1024 .f32)
variable (xs0 : Vec 𝔽 S8x768x1024 .bf16)
variable (xs1 : Vec 𝔽 S4x768x1024 .bf16)
variable (fh0 : HbBuf0 (F := 𝔽) c hbM0_0) (fh1 : HbBuf0 (F := 𝔽) c hbM0_1)
variable (D : Data)

set_option maxHeartbeats 40000000 in
/-- What the step leaves in its outputs. -/
theorem step_B (hc0 : ¬cond0_0 i) (hc1 : ¬cond0_1 i) (hc2 : cond0_2 i)
    [h0 : Is2 x0 D.dh] [h1 : Is2 x1 D.x] [h2 : Is2 x2 (fun _ e => D.g e)] [h3 : Is3 x3 D.gate] [h4 : Is3 x4 D.up] (A : ℕ → ℝ) [h5 : Is2 xo8 (fun _ e => A e)] [h6 : Is3 xs0 D.w] [h7 : Is3 xs1 D.d]
    (Y8 : BufTy.Contents 𝕍 arg8.view.ty) (Y9 : BufTy.Contents 𝕍 arg9.view.ty) (Y10 : BufTy.Contents 𝕍 arg10.view.ty) (Y11 : BufTy.Contents 𝕍 arg11.view.ty) :
    Is3 (arg8.view.read 𝕍 (arg8.view.writes 𝕍 (Y8) (kernelRun0_B (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 xo8 xs0 xs1 fh0 fh1).1)) D.dgu ∧
    Is2 (arg9.view.read 𝕍 (arg9.view.writes 𝕍 (Y9) (kernelRun0_B (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 xo8 xs0 xs1 fh0 fh1).2.1)) (fun t e => 1 / 2 * D.dh t e) ∧
    Is2 (arg10.view.read 𝕍 (arg10.view.writes 𝕍 (Y10) (kernelRun0_B (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 xo8 xs0 xs1 fh0 fh1).2.2.1)) D.out ∧
    Is2 (arg11.view.read 𝕍 (arg11.view.writes 𝕍 (Y11) (kernelRun0_B (F := 𝔽) c i arg1 harg1 arg2 harg2 arg3 harg3 arg4 harg4 arg5 harg5 arg8 harg8 arg9 harg9 arg10 harg10 arg11 harg11 arg12 harg12 arg13 harg13 hc0 hc1 hc2 x0 x1 x2 x3 x4 xo8 xs0 xs1 fh0 fh1).2.2.2.1)) (fun _ e => A e + D.part e) := by
  haveI : Is2 (arg1.view.read 𝕍 (harg1.unread x0)) D.dh := by rw [harg1.read_unread]; infer_instance
  haveI : Is2 (arg2.view.read 𝕍 (harg2.unread x1)) D.x := by rw [harg2.read_unread]; infer_instance
  haveI : Is2 (arg3.view.read 𝕍 (harg3.unread x2)) (fun _ e => D.g e) := by rw [harg3.read_unread]; infer_instance
  haveI : Is3 (arg4.view.read 𝕍 (harg4.unread x3)) D.gate := by rw [harg4.read_unread]; infer_instance
  haveI : Is3 (arg5.view.read 𝕍 (harg5.unread x4)) D.up := by rw [harg5.read_unread]; infer_instance
  haveI : Is2 (arg11.view.read 𝕍 (harg11.unread xo8)) (fun _ e => A e) := by rw [harg11.read_unread]; infer_instance
  haveI : Is3 (arg12.view.read 𝕍 (harg12.unread xs0)) D.w := by rw [harg12.read_unread]; infer_instance
  haveI : Is3 (arg13.view.read 𝕍 (harg13.unread xs1)) D.d := by rw [harg13.read_unread]; infer_instance
  haveI : Is2 (sl.r (F := 𝔽) c arg1 harg1 x0) _ := by
    unfold sl.r; infer_instance
  haveI : Is2 (sl.r_1 (F := 𝔽) c arg1 harg1 x0) _ := by
    unfold sl.r_1; infer_instance
  haveI : Is2 (sl.r_2 (F := 𝔽) c arg1 harg1 arg13 harg13 x0 xs1) _ := by
    unfold sl.r_2; infer_instance
  haveI : Is2 (sl.r_3 (F := 𝔽) c arg4 harg4 x3) _ := by
    unfold sl.r_3; infer_instance
  haveI : Is2 (sl.r_4 (F := 𝔽) c arg4 harg4 x3) _ := by
    unfold sl.r_4; infer_instance
  haveI : Is2 (sl.r_5 (F := 𝔽) c arg1 harg1 arg4 harg4 arg5 harg5 arg13 harg13 x0 x3 x4 xs1) _ := by
    unfold sl.r_5; infer_instance
  haveI : Is2 (sl.r_6 (F := 𝔽) c arg1 harg1 arg4 harg4 arg5 harg5 arg13 harg13 x0 x3 x4 xs1) _ := by
    unfold sl.r_6; infer_instance
  haveI : Is2 (sl.r_7 (F := 𝔽) c arg1 harg1 arg4 harg4 arg13 harg13 x0 x3 xs1) _ := by
    unfold sl.r_7; infer_instance
  haveI : Is2 (sl.r_8 (F := 𝔽) c arg1 harg1 arg4 harg4 arg5 harg5 arg13 harg13 x0 x3 x4 xs1) _ := by
    unfold sl.r_8; infer_instance
  haveI : Is2 (sl.r_9 (F := 𝔽) c arg1 harg1 arg4 harg4 arg13 harg13 x0 x3 xs1) _ := by
    unfold sl.r_9; infer_instance
  have P6 : ∀ X, Part D.dgu 6 (arg8.view.read 𝕍 (arg8.view.writes 𝕍 X (sl.H5_6 (F := 𝔽) c arg1 harg1 arg4 harg4 arg5 harg5 arg13 harg13 x0 x3 x4 xs1))) := by
    intro X
    unfold sl.H5_6
    refine Part.store (n := 5) _ _ _ 4 512 _ _ _ ?_ (fun i m => Eq.trans (b := D.du 0 i (512 + m)) rfl (D.dgu_hi 0 _ _).symm) ⟨rfl, rfl⟩
    refine Part.store (n := 4) _ _ _ 0 512 _ _ _ ?_ (fun i m => Eq.trans (b := D.dg 0 i (512 + m)) rfl (D.dgu_lo 0 _ _ (by decide)).symm) ⟨rfl, rfl⟩
    refine Part.store (n := 3) _ _ _ 4 256 _ _ _ ?_ (fun i m => Eq.trans (b := D.du 0 i (256 + m)) rfl (D.dgu_hi 0 _ _).symm) ⟨rfl, rfl⟩
    refine Part.store (n := 2) _ _ _ 0 256 _ _ _ ?_ (fun i m => Eq.trans (b := D.dg 0 i (256 + m)) rfl (D.dgu_lo 0 _ _ (by decide)).symm) ⟨rfl, rfl⟩
    refine Part.store (n := 1) _ _ _ 4 0 _ _ _ ?_ (fun i m => Eq.trans (b := D.du 0 i (0 + m)) rfl (D.dgu_hi 0 _ _).symm) ⟨rfl, rfl⟩
    refine Part.store (n := 0) _ _ _ 0 0 _ _ _ ?_ (fun i m => Eq.trans (b := D.dg 0 i (0 + m)) rfl (D.dgu_lo 0 _ _ (by decide)).symm) ⟨rfl, rfl⟩
    exact Part.zero _ _
  haveI : Is3 (sl.v111 (F := 𝔽) c arg1 harg1 arg4 harg4 arg5 harg5 arg8 arg13 harg13 x0 x3 x4 xs1) (fun _ i m => D.dgu 0 i m) :=
    Part.slab arg8.view _ 0 _ (P6 _) (by decide)
  haveI : Is3 (sl.v117 (F := 𝔽) c arg1 harg1 arg4 harg4 arg5 harg5 arg8 arg13 harg13 x0 x3 x4 xs1) (fun _ i m => D.dgu 4 i m) :=
    Part.slab arg8.view _ 4 _ (P6 _) (by decide)
  haveI : Is2 (sl.r_10 (F := 𝔽) c arg1 harg1 arg4 harg4 arg5 harg5 arg8 arg12 harg12 arg13 harg13 x0 x3 x4 xs0 xs1) _ := by
    unfold sl.r_10; infer_instance
  haveI : Is2 (sl.r_11 (F := 𝔽) c arg1 harg1 arg13 harg13 x0 xs1) _ := by
    unfold sl.r_11; infer_instance
  haveI : Is2 (sl.r_12 (F := 𝔽) c arg4 harg4 x3) _ := by
    unfold sl.r_12; infer_instance
  haveI : Is2 (sl.r_13 (F := 𝔽) c arg5 harg5 x4) _ := by
    unfold sl.r_13; infer_instance
  haveI : Is2 (sl.r_14 (F := 𝔽) c arg4 harg4 x3) _ := by
    unfold sl.r_14; infer_instance
  haveI : Is2 (sl.r_15 (F := 𝔽) c arg1 harg1 arg13 harg13 x0 xs1) _ := by
    unfold sl.r_15; infer_instance
  haveI : Is2 (sl.r_16 (F := 𝔽) c arg4 harg4 x3) _ := by
    unfold sl.r_16; infer_instance
  haveI : Is2 (sl.r_17 (F := 𝔽) c arg5 harg5 x4) _ := by
    unfold sl.r_17; infer_instance
  haveI : Is2 (sl.r_18 (F := 𝔽) c arg4 harg4 x3) _ := by
    unfold sl.r_18; infer_instance
  haveI : Is2 (sl.r_19 (F := 𝔽) c arg1 harg1 arg13 harg13 x0 xs1) _ := by
    unfold sl.r_19; infer_instance
  haveI : Is2 (sl.r_20 (F := 𝔽) c arg4 harg4 x3) _ := by
    unfold sl.r_20; infer_instance
  haveI : Is2 (sl.r_21 (F := 𝔽) c arg5 harg5 x4) _ := by
    unfold sl.r_21; infer_instance
  haveI : Is2 (sl.r_22 (F := 𝔽) c arg4 harg4 x3) _ := by
    unfold sl.r_22; infer_instance
  have P12 : ∀ X, Part D.dgu 12 (arg8.view.read 𝕍 (arg8.view.writes 𝕍 X (sl.H5_12 (F := 𝔽) c arg1 harg1 arg4 harg4 arg5 harg5 arg13 harg13 x0 x3 x4 xs1))) := by
    intro X
    unfold sl.H5_12
    refine Part.store (n := 11) _ _ _ 5 512 _ _ _ ?_ (fun i m => Eq.trans (b := D.du 1 i (512 + m)) rfl (D.dgu_hi 1 _ _).symm) ⟨rfl, rfl⟩
    refine Part.store (n := 10) _ _ _ 1 512 _ _ _ ?_ (fun i m => Eq.trans (b := D.dg 1 i (512 + m)) rfl (D.dgu_lo 1 _ _ (by decide)).symm) ⟨rfl, rfl⟩
    refine Part.store (n := 9) _ _ _ 5 256 _ _ _ ?_ (fun i m => Eq.trans (b := D.du 1 i (256 + m)) rfl (D.dgu_hi 1 _ _).symm) ⟨rfl, rfl⟩
    refine Part.store (n := 8) _ _ _ 1 256 _ _ _ ?_ (fun i m => Eq.trans (b := D.dg 1 i (256 + m)) rfl (D.dgu_lo 1 _ _ (by decide)).symm) ⟨rfl, rfl⟩
    refine Part.store (n := 7) _ _ _ 5 0 _ _ _ ?_ (fun i m => Eq.trans (b := D.du 1 i (0 + m)) rfl (D.dgu_hi 1 _ _).symm) ⟨rfl, rfl⟩
    refine Part.store (n := 6) _ _ _ 1 0 _ _ _ ?_ (fun i m => Eq.trans (b := D.dg 1 i (0 + m)) rfl (D.dgu_lo 1 _ _ (by decide)).symm) ⟨rfl, rfl⟩
    exact P6 X
  haveI : Is3 (sl.v225 (F := 𝔽) c arg1 harg1 arg4 harg4 arg5 harg5 arg8 arg13 harg13 x0 x3 x4 xs1) (fun _ i m => D.dgu 1 i m) :=
    Part.slab arg8.view _ 1 _ (P12 _) (by decide)
  haveI : Is3 (sl.v231 (F := 𝔽) c arg1 harg1 arg4 harg4 arg5 harg5 arg8 arg13 harg13 x0 x3 x4 xs1) (fun _ i m => D.dgu 5 i m) :=
    Part.slab arg8.view _ 5 _ (P12 _) (by decide)
  haveI : Is2 (sl.r_23 (F := 𝔽) c arg1 harg1 arg4 harg4 arg5 harg5 arg8 arg12 harg12 arg13 harg13 x0 x3 x4 xs0 xs1) _ := by
    unfold sl.r_23; infer_instance
  haveI : Is2 (sl.r_30 (F := 𝔽) c arg1 harg1 arg4 harg4 arg13 harg13 x0 x3 xs1) _ := by
    unfold sl.r_30; infer_instance
  haveI : Is3 (sl.r_31 (F := 𝔽) c arg1 harg1 arg4 harg4 arg5 harg5 arg13 harg13 x0 x3 x4 xs1) _ := by
    unfold sl.r_31; infer_instance
  haveI : Is2 (sl.r_32 (F := 𝔽) c arg1 harg1 arg4 harg4 arg13 harg13 x0 x3 xs1) _ := by
    unfold sl.r_32; infer_instance
  haveI : Is2 (sl.r_33 (F := 𝔽) c arg1 harg1 arg4 harg4 arg13 harg13 x0 x3 xs1) _ := by
    unfold sl.r_33; infer_instance
  haveI : Is2 (sl.r_24 (F := 𝔽) c arg13 harg13 xs1) _ := by
    unfold sl.r_24; infer_instance
  haveI : Is2 (sl.r_25 (F := 𝔽) c arg1 harg1 arg13 harg13 x0 xs1) _ := by
    unfold sl.r_25; infer_instance
  haveI : Is2 (sl.r_26 (F := 𝔽) c arg1 harg1 arg13 harg13 x0 xs1) _ := by
    unfold sl.r_26; infer_instance
  haveI : Is2 (sl.r_27 (F := 𝔽) c arg4 harg4 x3) _ := by
    unfold sl.r_27; infer_instance
  haveI : Is2 (sl.cst_156 (F := 𝔽)) _ := by
    unfold sl.cst_156; infer_instance
  have P18 : ∀ X, Part D.dgu 18 (arg8.view.read 𝕍 (arg8.view.writes 𝕍 X (sl.H5_18 (F := 𝔽) c arg1 harg1 arg4 harg4 arg5 harg5 arg13 harg13 x0 x3 x4 xs1))) := by
    intro X
    unfold sl.H5_18
    refine Part.store (n := 17) _ _ _ 6 512 _ _ _ ?_ (fun i m => Eq.trans (b := D.du 2 i (512 + m)) rfl (D.dgu_hi 2 _ _).symm) ⟨rfl, rfl⟩
    refine Part.store (n := 16) _ _ _ 2 512 _ _ _ ?_ (fun i m => Eq.trans (b := D.dg 2 i (512 + m)) rfl (D.dgu_lo 2 _ _ (by decide)).symm) ⟨rfl, rfl⟩
    refine Part.store (n := 15) _ _ _ 6 256 _ _ _ ?_ (fun i m => Eq.trans (b := D.du 2 i (256 + m)) rfl (D.dgu_hi 2 _ _).symm) ⟨rfl, rfl⟩
    refine Part.store (n := 14) _ _ _ 2 256 _ _ _ ?_ (fun i m => Eq.trans (b := D.dg 2 i (256 + m)) rfl (D.dgu_lo 2 _ _ (by decide)).symm) ⟨rfl, rfl⟩
    refine Part.store (n := 13) _ _ _ 6 0 _ _ _ ?_ (fun i m => Eq.trans (b := D.du 2 i (0 + m)) rfl (D.dgu_hi 2 _ _).symm) ⟨rfl, rfl⟩
    refine Part.store (n := 12) _ _ _ 2 0 _ _ _ ?_ (fun i m => Eq.trans (b := D.dg 2 i (0 + m)) rfl (D.dgu_lo 2 _ _ (by decide)).symm) ⟨rfl, rfl⟩
    exact P12 X
  have P24 : ∀ X, Part D.dgu 24 (arg8.view.read 𝕍 (arg8.view.writes 𝕍 X (sl.H5_24 (F := 𝔽) c arg1 harg1 arg4 harg4 arg5 harg5 arg13 harg13 x0 x3 x4 xs1))) := by
    intro X
    unfold sl.H5_24
    refine Part.store (n := 23) _ _ _ 7 512 _ _ _ ?_ (fun i m => Eq.trans (b := D.du 3 i (512 + m)) rfl (D.dgu_hi 3 _ _).symm) ⟨rfl, rfl⟩
    refine Part.store (n := 22) _ _ _ 3 512 _ _ _ ?_ (fun i m => Eq.trans (b := D.dg 3 i (512 + m)) rfl (D.dgu_lo 3 _ _ (by decide)).symm) ⟨rfl, rfl⟩
    refine Part.store (n := 21) _ _ _ 7 256 _ _ _ ?_ (fun i m => Eq.trans (b := D.du 3 i (256 + m)) rfl (D.dgu_hi 3 _ _).symm) ⟨rfl, rfl⟩
    refine Part.store (n := 20) _ _ _ 3 256 _ _ _ ?_ (fun i m => Eq.trans (b := D.dg 3 i (256 + m)) rfl (D.dgu_lo 3 _ _ (by decide)).symm) ⟨rfl, rfl⟩
    refine Part.store (n := 19) _ _ _ 7 0 _ _ _ ?_ (fun i m => Eq.trans (b := D.du 3 i (0 + m)) rfl (D.dgu_hi 3 _ _).symm) ⟨rfl, rfl⟩
    refine Part.store (n := 18) _ _ _ 3 0 _ _ _ ?_ (fun i m => Eq.trans (b := D.dg 3 i (0 + m)) rfl (D.dgu_lo 3 _ _ (by decide)).symm) ⟨rfl, rfl⟩
    exact P18 X
  haveI : Is3 (sl.v339 (F := 𝔽) c arg1 harg1 arg4 harg4 arg5 harg5 arg8 arg13 harg13 x0 x3 x4 xs1) (fun _ i m => D.dgu 2 i m) :=
    Part.slab arg8.view _ 2 _ (P18 _) (by decide)
  haveI : Is2 (sl.r_28 (F := 𝔽) c arg1 harg1 arg4 harg4 arg5 harg5 arg8 arg12 harg12 arg13 harg13 x0 x3 x4 xs0 xs1) _ := by
    unfold sl.r_28; infer_instance
  haveI : Is3 (sl.v345 (F := 𝔽) c arg1 harg1 arg4 harg4 arg5 harg5 arg8 arg13 harg13 x0 x3 x4 xs1) (fun _ i m => D.dgu 6 i m) :=
    Part.slab arg8.view _ 6 _ (P18 _) (by decide)
  haveI : Is2 (sl.r_29 (F := 𝔽) c arg1 harg1 arg4 harg4 arg5 harg5 arg8 arg12 harg12 arg13 harg13 x0 x3 x4 xs0 xs1) _ := by
    unfold sl.r_29; infer_instance
  haveI : Is3 (sl.v453 (F := 𝔽) c arg1 harg1 arg4 harg4 arg5 harg5 arg8 arg13 harg13 x0 x3 x4 xs1) (fun _ i m => D.dgu 3 i m) :=
    Part.slab arg8.view _ 3 _ (P24 _) (by decide)
  haveI : Is3 (sl.v459 (F := 𝔽) c arg1 harg1 arg4 harg4 arg5 harg5 arg8 arg13 harg13 x0 x3 x4 xs1) (fun _ i m => D.dgu 7 i m) :=
    Part.slab arg8.view _ 7 _ (P24 _) (by decide)
  haveI : Is2 (sl.r_34 (F := 𝔽) c arg1 harg1 arg4 harg4 arg5 harg5 arg8 arg12 harg12 arg13 harg13 x0 x3 x4 xs0 xs1) D.dn := by
    unfold sl.r_34; exact Is2.congr inferInstance fun _ _ _ _ => rfl
  haveI : Is2 (sl.r_35 (F := 𝔽) c arg2 harg2 x1) D.xh := by
    unfold sl.r_35; exact Is2.congr inferInstance fun _ _ _ _ => rfl
  haveI : Is2 (sl.r_36 (F := 𝔽) c arg1 harg1 arg2 harg2 arg3 harg3 arg4 harg4 arg5 harg5 arg8 arg12 harg12 arg13 harg13 x0 x1 x2 x3 x4 xs0 xs1) D.dx := by
    unfold sl.r_36; exact Is2.congr inferInstance fun _ _ _ _ => rfl
  haveI : Is2 (sl.r_37 (F := 𝔽) c arg2 harg2 x1) (fun t _ => D.inv t) := by
    unfold sl.r_37; exact Is2.congr inferInstance fun _ _ _ _ => rfl
  unfold kernelRun0_B
  dsimp only
  refine ⟨(P24 Y8).all, ?_, ?_, ?_⟩
  · haveI : Is2 (k0_pay5 (View.readAt 𝕍 arg1.view (Rect.unit ![0, 0] S256x1024.size inb_S256x1024_S256x1024_0_0).toLoadRect (harg1.unread x0)))
      (fun t e => 1 / 2 * D.dh t e) := Is2.congr inferInstance fun _ _ _ _ => rfl
    exact whole2b _ _ _ _ _
  · exact (whole2 _ _ _ _ _).congr fun _ _ _ _ => rfl
  · exact (whole2 _ _ _ _ _).congr fun _ _ _ _ => rfl

end Cert.Calc.Ff
-- ==== Proof.FfnHost.lean ====
module

public import proofs.«01_k».proof.Proof.HostCalc
public import proofs.«01_k».proof.Proof.FfnCalc
public import proofs.«01_k».proof.Proof.Gen.ReferenceFfnIdeal.Run
public import Idealize.ShloMosaic.Lib.KernelVsHost

/-!
Readings of the host's operations that stand around the feed-forward call.
-/

@[expose] public section

noncomputable section

namespace Cert.Calc.Ff

open Idealize.ShloMosaic hiding ix1 ix2 ix3 ix4
open Idealize.ShloMosaic.ValueIdx
open scoped BigOperators

local notation "𝔽" => Idealize.ShloMosaic.Ideal

/-! ### Constants -/

theorem bits_mhalf : Ideal.ofBits .f32 0xBF000000#32 = ((-(1 / 2) : ℝ) : EReal) := by
  simp [Ideal.ofBits, Ideal.ieee]
  rw [← EReal.coe_mul]
  norm_num

instance half0 : Is0 (constant (F := 𝔽) (⟨0, ![]⟩ : Shape) .f32 0x3F000000#32) (1 / 2) := ⟨fun _ => bits_half⟩
instance mhalf0 : Is0 (constant (F := 𝔽) (⟨0, ![]⟩ : Shape) .f32 0xBF000000#32) (-(1 / 2)) := ⟨fun _ => bits_mhalf⟩
instance one0 : Is0 (constant (F := 𝔽) (⟨0, ![]⟩ : Shape) .f32 0x3F800000#32) 1 :=
  ⟨fun _ => (ofBits_one).eq⟩
instance n1024_0 : Is0 (constant (F := 𝔽) (⟨0, ![]⟩ : Shape) .f32 0x44800000#32) 1024 := ⟨fun _ => bits_1024⟩
instance eps0 : Is0 (constant (F := 𝔽) (⟨0, ![]⟩ : Shape) .f32 0x358637BD#32) eps := ⟨fun _ => bits_eps⟩

/-! ### Elementwise operations -/

section Elementwise
variable {a b c : ℕ} {φ : FTy} (v w : FVec 𝔽 (⟨2, ![a, b]⟩ : Shape) φ) (f g : ℕ → ℕ → ℝ)

instance bcast02 (v : (⟨0, ![]⟩ : Shape).Idx → EReal) (r : ℝ) (d : Fin 0 → Fin 2)
    (h : (⟨0, ![]⟩ : Shape).BroadcastsInDim (⟨2, ![a, b]⟩ : Shape) d) [hv : Is0 v r] :
    Is2 (broadcastInDim (⟨2, ![a, b]⟩ : Shape) d h v) (fun _ _ => r) :=
  ⟨fun _ _ => hv.eq _⟩
theorem hdivf2 [hv : Is2 v f] [hw : Is2 w g] (h : ∀ i j, g i j ≠ 0) : Is2 (Host.divf v w) (fun i j => f i j * (g i j)⁻¹) :=
  ⟨fun i j => by
    have : Host.divf v w (ix2 i j) = Ideal.div (v (ix2 i j)) (w (ix2 i j)) := rfl
    rw [this, hv.eq, hw.eq, Ideal.div_coe (h _ _), ← EReal.coe_mul, one_div]⟩
instance hdiv_1024 [hv : Is2 v f] [hw : Is2 w (fun _ _ => 1024)] : Is2 (Host.divf v w) (fun i j => f i j * (1024)⁻¹) :=
  hdivf2 v w f _ fun i j => by norm_num
instance hdiv_mean [hv : Is2 v f] [hw : Is2 w (fun i _ => (∑ k ∈ Finset.range 1024, g i k * g i k) * (1024)⁻¹ + eps)] :
    Is2 (Host.divf v w) (fun i j => f i j * ((∑ k ∈ Finset.range 1024, g i k * g i k) * (1024)⁻¹ + eps)⁻¹) :=
  hdivf2 v w f _ fun i j => (mean_pos g i).ne'
instance hrsqrt_mean [hv : Is2 v (fun i _ => (∑ k ∈ Finset.range 1024, f i k * f i k) * (1024)⁻¹ + eps)] :
    Is2 (Host.rsqrt v) (fun i _ => (Real.sqrt ((∑ k ∈ Finset.range 1024, f i k * f i k) * (1024)⁻¹ + eps))⁻¹) :=
  ⟨fun i j => by
    have h := mean_pos f i
    have : Host.rsqrt v (ix2 i j) = Ideal.rsqrt (v (ix2 i j)) := rfl
    rw [this, hv.eq, Ideal.rsqrt_coe, if_neg (not_lt.mpr h.le), if_neg h.ne']⟩
instance hdiv_exp (v w : FVec 𝔽 (⟨3, ![a, b, c]⟩ : Shape) φ) (f g : ℕ → ℕ → ℕ → ℝ)
    [hv : Is3 v f] [hw : Is3 w (fun i j k => 1 + Real.exp (g i j k))] :
    Is3 (Host.divf v w) (fun i j k => f i j k * (1 + Real.exp (g i j k))⁻¹) :=
  ⟨fun i j k => by
    have : Host.divf v w (ix3 i j k) = Ideal.div (v (ix3 i j k)) (w (ix3 i j k)) := rfl
    have h0 : 1 + Real.exp (g i j k) ≠ 0 := by positivity
    rw [this, hv.eq, hw.eq, Ideal.div_coe h0, ← EReal.coe_mul, one_div]⟩
instance truncf3 (v : FVec 𝔽 (⟨3, ![a, b, c]⟩ : Shape) .f32) (f : ℕ → ℕ → ℕ → ℝ) (h : (FTy.bf16).bits < (FTy.f32).bits)
    [hv : Is3 v f] : Is3 (truncf .bf16 v h) f := ⟨fun i j k => hv.eq i j k⟩

end Elementwise

/-! ### Shapes -/

section Shapes
variable {a b c : ℕ}

instance hcol1 (v : (⟨1, ![a]⟩ : Shape).Idx → EReal) (f : ℕ → ℝ)
    (h : (⟨1, ![a]⟩ : Shape).BroadcastsInDim (⟨2, ![a, b]⟩ : Shape) ![0]) [hv : Is1 v f] :
    Is2 (broadcastInDim (⟨2, ![a, b]⟩ : Shape) ![0] h v) (fun i _ => f i) :=
  ⟨fun i j => by
    rw [bid_apply ![0] h v _ (ix1 i) (fun ax => ?_), hv.eq]
    match ax with
    | ⟨0, _⟩ => exact one_or i⟩
instance hcols (v : (⟨2, ![a, 1]⟩ : Shape).Idx → EReal) (f : ℕ → ℕ → ℝ)
    (h : (⟨2, ![a, 1]⟩ : Shape).BroadcastsInDim (⟨2, ![a, b]⟩ : Shape) ![0, 1]) [hv : Is2 v f] :
    Is2 (broadcastInDim (⟨2, ![a, b]⟩ : Shape) ![0, 1] h v) (fun i _ => f i 0) :=
  ⟨fun i j => by
    rw [bid_apply ![0, 1] h v _ (ix2 i (0 : Fin 1)) (fun ax => ?_), hv.eq]
    · rfl
    match ax with
    | ⟨0, _⟩ => exact one_or i
    | ⟨1, _⟩ => rfl⟩
instance hrows (v : (⟨2, ![1, b]⟩ : Shape).Idx → EReal) (f : ℕ → ℕ → ℝ)
    (h : (⟨2, ![1, b]⟩ : Shape).BroadcastsInDim (⟨2, ![a, b]⟩ : Shape) ![0, 1]) [hv : Is2 v f] :
    Is2 (broadcastInDim (⟨2, ![a, b]⟩ : Shape) ![0, 1] h v) (fun _ j => f 0 j) :=
  ⟨fun i j => by
    rw [bid_apply ![0, 1] h v _ (ix2 (0 : Fin 1) j) (fun ax => ?_), hv.eq]
    · rfl
    match ax with
    | ⟨0, _⟩ => rfl
    | ⟨1, _⟩ => exact one_or j⟩
instance hslice3 {l m n : ℕ} (o p q : ℕ) (v : (⟨3, ![a, b, c]⟩ : Shape).Idx → EReal) (f : ℕ → ℕ → ℕ → ℝ)
    (h : (⟨3, ![a, b, c]⟩ : Shape).Slices ![o, p, q] ⟨3, ![l, m, n]⟩) [hv : Is3 v f] :
    Is3 (extractStridedSlice (⟨3, ![l, m, n]⟩ : Shape) ![o, p, q] v h) (fun i j k => f (o + i) (p + j) (q + k)) :=
  ⟨fun i j k => by
    have h0 : o + l ≤ a := h.2 0
    have h1 : p + m ≤ b := h.2 1
    have h2 : q + n ≤ c := h.2 2
    have hi := i.isLt
    have hj := j.isLt
    have hk := k.isLt
    rw [extractStridedSlice_apply _ _ _ _ (ix3 (⟨o + i, by omega⟩ : Fin a) (⟨p + j, by omega⟩ : Fin b) (⟨q + k, by omega⟩ : Fin c)) (fun ax => ?_), hv.eq]
    match ax with
    | ⟨0, _⟩ => rfl
    | ⟨1, _⟩ => rfl
    | ⟨2, _⟩ => rfl⟩
/-- Pairs of slabs joined. -/
instance hpairs (v : (⟨3, ![8, 352, 1024]⟩ : Shape).Idx → EReal) (f : ℕ → ℕ → ℕ → ℝ)
    (h : (⟨3, ![8, 352, 1024]⟩ : Shape).ShapeCasts ⟨3, ![4, 704, 1024]⟩) [hv : Is3 v f] :
    Is3 (shapeCast (⟨3, ![4, 704, 1024]⟩ : Shape) v h) (fun j m e => f (2 * j + m / 352) (m % 352) e) :=
  ⟨fun j m e => by
    have hj := j.isLt
    have hm := m.isLt
    rw [shapeCast_apply v h (ix3 j m e) (ix3 (⟨2 * j + m / 352, by omega⟩ : Fin 8) (⟨m % 352, by omega⟩ : Fin 352) e) ?_, hv.eq]
    rw [Shape.rowMajor_val_three, Shape.rowMajor_val_three]
    show ((2 * j.val + m.val / 352) * 352 + m.val % 352) * 1024 + e.val = (j.val * 704 + m.val) * 1024 + e.val
    omega⟩
/-- Slabs widened with a constant. -/
instance hpad (v : (⟨3, ![4, 2048, 704]⟩ : Shape).Idx → EReal) (f : ℕ → ℕ → ℕ → ℝ) (z : (⟨0, ![]⟩ : Shape).Idx → EReal) (r : ℝ)
    (h : (⟨3, ![4, 2048, 704]⟩ : Shape).Pads (![0, 0, 0] : Fin 3 → ℕ) ![0, 0, 64] ![0, 0, 0] ⟨3, ![4, 2048, 768]⟩)
    (hu : 0 < (⟨0, ![]⟩ : Shape).numel) [hv : Is3 v f] [hz : Is0 z r] :
    Is3 (pad (⟨3, ![4, 2048, 768]⟩ : Shape) (![0, 0, 0] : Fin 3 → ℕ) ![0, 0, 64] ![0, 0, 0] v z h hu)
      (fun j t m => if m < 704 then f j t m else r) :=
  ⟨fun j t m => by
    by_cases hm : m.val < 704
    · rw [if_pos hm, pad_apply_of_inside _ _ _ _ _ _ _ _ (ix3 j t (⟨m.val, hm⟩ : Fin 704)) (fun ax => ?_), hv.eq]
      match ax with
      | ⟨0, _⟩ => show j.val = 0 + j.val * (0 + 1); omega
      | ⟨1, _⟩ => show t.val = 0 + t.val * (0 + 1); omega
      | ⟨2, _⟩ => show m.val = 0 + m.val * (0 + 1); omega
    · rw [if_neg hm, pad_apply_of_not_inside _ _ _ _ _ _ _ _ 2 ?_, hz.eq]
      show ¬(0 ≤ m.val ∧ (m.val - 0) % (0 + 1) = 0 ∧ (m.val - 0) / (0 + 1) < 704)
      simp
      omega⟩
/-- Four slabs and four more. -/
instance hslabs (v w : (⟨3, ![4, a, b]⟩ : Shape).Idx → EReal) (f g : ℕ → ℕ → ℕ → ℝ)
    (h : Shape.Concatenates [⟨3, ![4, a, b]⟩, ⟨3, ![4, a, b]⟩] (⟨3, ![8, a, b]⟩ : Shape) 0) [hv : Is3 v f] [hw : Is3 w g] :
    Is3 (concatenate (⟨3, ![8, a, b]⟩ : Shape) 0 [⟨⟨3, ![4, a, b]⟩, v⟩, ⟨⟨3, ![4, a, b]⟩, w⟩] h)
      (fun t i j => if t < 4 then f t i j else g (t - 4) i j) :=
  ⟨fun t i j => by
    rw [concatenate_pair_apply]
    show (if hlt : t.val < 4 then _ else _) = _
    have ht := t.isLt
    split <;> rename_i hlt
    · refine (congrArg v (a₂ := ix3 (⟨t.val, hlt⟩ : Fin 4) i j) (funext fun ax => ?_)).trans (hv.eq _ i j)
      match ax with
      | ⟨0, _⟩ => rfl
      | ⟨1, _⟩ => rfl
      | ⟨2, _⟩ => rfl
    · refine (congrArg w (a₂ := ix3 (⟨t.val - 4, by omega⟩ : Fin 4) i j) (funext fun ax => ?_)).trans (hw.eq _ i j)
      match ax with
      | ⟨0, _⟩ => rfl
      | ⟨1, _⟩ => rfl
      | ⟨2, _⟩ => rfl⟩

/-! ### Sums -/

instance hrowsum (v : FVec 𝔽 (⟨2, ![a, b]⟩ : Shape) .f32) (f : ℕ → ℕ → ℝ) (z : FVec 𝔽 (⟨0, ![]⟩ : Shape) .f32)
    (h : (⟨2, ![a, b]⟩ : Shape).ReducesTo [1] (⟨1, ![a]⟩ : Shape)) (hu : 0 < (⟨0, ![]⟩ : Shape).numel) [hv : Is2 v f] [hz : Is0 z 0] :
    Is1 (Host.reduceAdd v z h hu) (fun i => ∑ k ∈ Finset.range b, f i k) :=
  ⟨fun i => by
    show Ideal.hostReduceAdd h v (z _) (ix1 i) = _
    rw [Ideal.hostReduceAdd_r2_a1, hz.eq, EReal.coe_zero, zero_add]
    exact sum_fin _ _ fun k => (hv.eq i k)⟩
instance hcolsum (v : FVec 𝔽 (⟨2, ![a, b]⟩ : Shape) .f32) (f : ℕ → ℕ → ℝ) (z : FVec 𝔽 (⟨0, ![]⟩ : Shape) .f32)
    (h : (⟨2, ![a, b]⟩ : Shape).ReducesTo [0] (⟨1, ![b]⟩ : Shape)) (hu : 0 < (⟨0, ![]⟩ : Shape).numel) [hv : Is2 v f] [hz : Is0 z 0] :
    Is1 (Host.reduceAdd v z h hu) (fun j => ∑ k ∈ Finset.range a, f k j) :=
  ⟨fun j => by
    show Ideal.hostReduceAdd h v (z _) (ix1 j) = _
    rw [Ideal.hostReduceAdd_r2_a0, hz.eq, EReal.coe_zero, zero_add]
    exact sum_fin _ _ fun k => (hv.eq k j)⟩

end Shapes

/-! ### Products -/

section Products
variable (prec : Option ContractPrecision)

instance hdot_up (l : FVec 𝔽 Cert.ReferenceFfnIdeal.S8x768x1024 .f32) (r : FVec 𝔽 Cert.ReferenceFfnIdeal.S2048x1024 .f32) (f : ℕ → ℕ → ℕ → ℝ) (g : ℕ → ℕ → ℝ)
    [hl : Is3 l f] [hr : Is2 r g] :
    Is3 (Host.dotGeneral Cert.ReferenceFfnIdeal.dot_S8x768x1024_S2048x1024_S8x768x2048_2_1_01_0_n_n prec l r) (fun j m t => ∑ x ∈ Finset.range 1024, f j m x * g t x) :=
  hdot (K := 1024) _ prec l r _ fun j m t => by
    refine (Ideal.matmul_apply₁_of (d := Cert.ReferenceFfnIdeal.dot_S8x768x1024_S2048x1024_S8x768x2048_2_1_01_0_n_n) (K := 1024) rfl rfl l r _ (ix3 j m t)
      (fun x => ix3 j m x) (fun x => ix2 t x) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl
    · simp only [hl.eq, hr.eq, EReal.coe_mul]
instance hdot_upk (l : FVec 𝔽 Cert.KernelFfnIdeal.S8x768x1024 .f32) (r : FVec 𝔽 Cert.KernelFfnIdeal.S2048x1024 .f32) (f : ℕ → ℕ → ℕ → ℝ) (g : ℕ → ℕ → ℝ)
    [hl : Is3 l f] [hr : Is2 r g] :
    Is3 (Host.dotGeneral Cert.KernelFfnIdeal.dot_S8x768x1024_S2048x1024_S8x768x2048_2_1_01_0_n_n prec l r) (fun j m t => ∑ x ∈ Finset.range 1024, f j m x * g t x) :=
  hdot (K := 1024) _ prec l r _ fun j m t => by
    refine (Ideal.matmul_apply₁_of (d := Cert.KernelFfnIdeal.dot_S8x768x1024_S2048x1024_S8x768x2048_2_1_01_0_n_n) (K := 1024) rfl rfl l r _ (ix3 j m t)
      (fun x => ix3 j m x) (fun x => ix2 t x) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl
    · simp only [hl.eq, hr.eq, EReal.coe_mul]
instance hdot_da (l : FVec 𝔽 Cert.ReferenceFfnIdeal.S2048x1024 .f32) (r : FVec 𝔽 Cert.ReferenceFfnIdeal.S4x704x1024 .f32) (f : ℕ → ℕ → ℝ) (g : ℕ → ℕ → ℕ → ℝ)
    [hl : Is2 l f] [hr : Is3 r g] :
    Is3 (Host.dotGeneral Cert.ReferenceFfnIdeal.dot_S2048x1024_S4x704x1024_S2048x4x704_1_2_0_01_n_n prec l r) (fun t j m => ∑ x ∈ Finset.range 1024, f t x * g j m x) :=
  hdot (K := 1024) _ prec l r _ fun t j m => by
    refine (Ideal.matmul_apply₁_of (d := Cert.ReferenceFfnIdeal.dot_S2048x1024_S4x704x1024_S2048x4x704_1_2_0_01_n_n) (K := 1024) rfl rfl l r _ (ix3 t j m)
      (fun x => ix2 t x) (fun x => ix3 j m x) (fun x => ?_) (fun x => ?_)).trans ?_
    · funext ax; match ax with | ⟨0, _⟩ => rfl | ⟨1, _⟩ => rfl
    · funext ax; match ax with | ⟨0, _⟩ => rfl | ⟨1, _⟩ => rfl | ⟨2, _⟩ => rfl
    · simp only [hl.eq, hr.eq, EReal.coe_mul]
instance hdot_dn (l : FVec 𝔽 Cert.ReferenceFfnIdeal.S8x768x2048 .f32) (r : FVec 𝔽 Cert.ReferenceFfnIdeal.S8x768x1024 .f32) (f g : ℕ → ℕ → ℕ → ℝ)
    [hl : Is3 l f] [hr : Is3 r g] :
    Is2 (Host.dotGeneral Cert.ReferenceFfnIdeal.dot_S8x768x2048_S8x768x1024_S2048x1024_01_01_2_2_n_n prec l r)
      (fun t e => ∑ j ∈ Finset.range 8, ∑ m ∈ Finset.range 768, f j m t * g j m e) :=
  ⟨fun t e => by
    refine (Ideal.matmul_apply₂_of (d := Cert.ReferenceFfnIdeal.dot_S8x768x2048_S8x768x1024_S2048x1024_01_01_2_2_n_n) (K₁ := 8) (K₂ := 768) rfl rfl rfl l r _ (ix2 t e)
      (fun j m => ix3 j m t) (fun j m => ix3 j m e) (fun j m => ?_) (fun j m => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · refine (zero_add _).trans (sum_fin _ _ fun j => sum_fin _ _ fun m => ?_)
      rw [hl.eq, hr.eq, EReal.coe_mul]⟩

end Products

end Cert.Calc.Ff
-- ==== Proof.FfnGrid.lean ====
module

public import proofs.«01_k».proof.Proof.FfnStepA
public import proofs.«01_k».proof.Proof.FfnStepB
public import proofs.«01_k».proof.Proof.FfnHost
public import proofs.«01_k».proof.Proof.Gen.KernelFfnIdeal.Value
public import Idealize.ShloMosaic.Lib.Pipeline.ValueKit

/-!
The feed-forward call's grid: point `t` works on the rows from `256 * t`.
-/

@[expose] public section

noncomputable section

namespace Cert.Calc.Ff

open Idealize.ShloMosaic hiding ix1 ix2 ix3 ix4
open Idealize.ShloMosaic.ValueIdx
open Idealize.ShloMosaic.TcCoe
open Cert.KernelFfnIdeal Cert.KernelFfnIdeal.Gen
open scoped BigOperators

local notation "𝔽" => Idealize.ShloMosaic.Ideal
local notation "𝕍" => Elt Idealize.ShloMosaic.Ideal

/-- The block of rows `n` of what the call works on. -/
def Data.rows (D : Data) (n : ℕ) : Data where
  dh t := D.dh (256 * n + t)
  x t := D.x (256 * n + t)
  g := D.g
  gate j t := D.gate j (256 * n + t)
  up j t := D.up j (256 * n + t)
  w := D.w
  d := D.d

/-- The first product of the normed rows. -/
def hid (X : ℕ → ℕ → ℝ) (G : ℕ → ℝ) (W : ℕ → ℕ → ℕ → ℝ) (j t m : ℕ) : ℝ :=
  ∑ k ∈ Finset.range 1024, W j m k * (X t k * (Real.sqrt ((∑ k ∈ Finset.range 1024, X t k * X t k) * (1024)⁻¹ + eps))⁻¹ * G k)

/-- What the call works on, of its arguments. -/
def glob (H X : ℕ → ℕ → ℝ) (G : ℕ → ℝ) (W Wd : ℕ → ℕ → ℕ → ℝ) : Data where
  dh := H
  x := X
  g := G
  gate := hid X G W
  up j := hid X G W (4 + j)
  w := W
  d j m e := if m < 704 then Wd (2 * j + m / 352) (m % 352) e else 0

/-! ### What the host prepares -/

/-- The first product of the normed rows, as the host forms it. -/
def pre (x : FVec 𝔽 S2048x1024 .f32) (g : FVec 𝔽 S1x1024 .f32) (w : FVec 𝔽 S8x768x1024 .f32) :
    FVec 𝔽 S8x2048x768 .bf16 :=
  truncf .bf16 (transpose S8x2048x768 [0, 2, 1] (Host.dotGeneral dot_S8x768x1024_S2048x1024_S8x768x2048_2_1_01_0_n_n none w
    (mulf (mulf x (broadcastInDim S2048x1024 ![0, 1] bcast_S2048x1_S2048x1024_0_1
      (Host.rsqrt (addf (Host.divf (broadcastInDim S2048x1 ![0] bcast_S2048_S2048x1_0
          (Host.reduceAdd (mulf x x) (constant S_ .f32 0x00000000#32) reducesTo_S2048x1024_S2048_d1 h_S_))
        (broadcastInDim S2048x1 ![] bcast_S_S2048x1 (constant S_ .f32 0x44800000#32)))
        (broadcastInDim S2048x1 ![] bcast_S_S2048x1 (constant S_ .f32 0x358637BD#32))))))
      (broadcastInDim S2048x1024 ![0, 1] bcast_S1x1024_S2048x1024_0_1 g)))
    transposes_S8x768x2048_S8x2048x768_0_2_1) bitsLt_bf16_f32

theorem pre_is (x : FVec 𝔽 S2048x1024 .f32) (g : FVec 𝔽 S1x1024 .f32) (w : FVec 𝔽 S8x768x1024 .f32)
    (X : ℕ → ℕ → ℝ) (G : ℕ → ℝ) (W : ℕ → ℕ → ℕ → ℝ) [Is2 x X] [Is2 g (fun _ e => G e)] [Is3 w W] : Is3 (pre x g w) (hid X G W) := by
  unfold pre
  exact (inferInstance : Is3 (truncf .bf16 (transpose S8x2048x768 [0, 2, 1] (Host.dotGeneral dot_S8x768x1024_S2048x1024_S8x768x2048_2_1_01_0_n_n none w
    (mulf (mulf x (broadcastInDim S2048x1024 ![0, 1] bcast_S2048x1_S2048x1024_0_1
      (Host.rsqrt (addf (Host.divf (broadcastInDim S2048x1 ![0] bcast_S2048_S2048x1_0
          (Host.reduceAdd (mulf x x) (constant S_ .f32 0x00000000#32) reducesTo_S2048x1024_S2048_d1 h_S_))
        (broadcastInDim S2048x1 ![] bcast_S_S2048x1 (constant S_ .f32 0x44800000#32)))
        (broadcastInDim S2048x1 ![] bcast_S_S2048x1 (constant S_ .f32 0x358637BD#32))))))
      (broadcastInDim S2048x1024 ![0, 1] bcast_S1x1024_S2048x1024_0_1 g)))
    transposes_S8x768x2048_S8x2048x768_0_2_1) bitsLt_bf16_f32) _)

section Blocks
variable (m : (ℓ : Loc nD τ sig) → Buf 𝕍 ℓ) (c : Dev nD) (t : Fin cfg0.N)

theorem V_v15 : V m c main_v15 = extractStridedSlice S4x2048x768 ![0, 0, 0]
    (pre (m ((c.tc : Thread nD τ).loc main_arg1)) (m ((c.tc : Thread nD τ).loc main_arg2)) (m ((c.tc : Thread nD τ).loc main_arg3)))
    slices_S8x2048x768_S4x2048x768_0_0_0 := by
  show StableHlo.after _ _ _ = _
  after_results
  rfl
theorem V_v16 : V m c main_v16 = extractStridedSlice S4x2048x768 ![4, 0, 0]
    (pre (m ((c.tc : Thread nD τ).loc main_arg1)) (m ((c.tc : Thread nD τ).loc main_arg2)) (m ((c.tc : Thread nD τ).loc main_arg3)))
    slices_S8x2048x768_S4x2048x768_4_0_0 := by
  show StableHlo.after _ _ _ = _
  after_results
  rfl
theorem V_v17 : V m c main_v17 = truncf (F := 𝔽) .bf16 (m ((c.tc : Thread nD τ).loc main_arg3)) bitsLt_bf16_f32 := by
  show StableHlo.after _ _ _ = _
  after_results
theorem V_v18 : V m c main_v18 = truncf (F := 𝔽) .bf16 (m ((c.tc : Thread nD τ).loc main_arg4)) bitsLt_bf16_f32 := by
  show StableHlo.after _ _ _ = _
  after_results
theorem V_a0 : V m c main_arg0 = m ((c.tc : Thread nD τ).loc main_arg0) := by
  show StableHlo.after _ _ _ = _
  after_results
theorem V_a1 : V m c main_arg1 = m ((c.tc : Thread nD τ).loc main_arg1) := by
  show StableHlo.after _ _ _ = _
  after_results
theorem V_a2 : V m c main_arg2 = m ((c.tc : Thread nD τ).loc main_arg2) := by
  show StableHlo.after _ _ _ = _
  after_results

/-! ### The blocks -/

theorem N8 (t : Fin cfg0.N) : t.val < 8 := lt_of_lt_of_eq t.isLt (show cfg0.N = 8 from N_0)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![0, t.val, 0] := by decide +kernel
theorem idx4 : ∀ t : Fin cfg0.N, win0_4.index t = ![0, t.val, 0] := by decide +kernel
theorem idx5 : ∀ t : Fin cfg0.N, win0_5.index t = ![0, t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![0, 0] := by decide +kernel

theorem blk0 (i : Fin 256) (j : Fin 1024) : iblk m c 0 t (ix2 i j)
    = V m c main_arg0 (ix2 (⟨256 * t.val + i, by have := N8 t; omega⟩ : Fin 2048) j) := by
  have := N8 t
  blk_ext [iblk, idx0 t]
  · show t.val * 256 + i.val = 256 * t.val + i.val; omega
theorem blk1 (i : Fin 256) (j : Fin 1024) : iblk m c 1 t (ix2 i j)
    = V m c main_arg1 (ix2 (⟨256 * t.val + i, by have := N8 t; omega⟩ : Fin 2048) j) := by
  have := N8 t
  blk_ext [iblk, idx1 t]
  · show t.val * 256 + i.val = 256 * t.val + i.val; omega
theorem blk2 (i : Fin 1) (j : Fin 1024) : iblk m c 2 t (ix2 i j) = V m c main_arg2 (ix2 i j) := by
  blk_ext [iblk, idx2 t]
theorem blk3 (h : Fin 4) (i : Fin 256) (j : Fin 768) : iblk m c 3 t (ix3 h i j)
    = V m c main_v15 (ix3 h (⟨256 * t.val + i, by have := N8 t; omega⟩ : Fin 2048) j) := by
  have := N8 t
  blk_ext [iblk, idx3 t]
  · show t.val * 256 + i.val = 256 * t.val + i.val; omega
theorem blk4 (h : Fin 4) (i : Fin 256) (j : Fin 768) : iblk m c 4 t (ix3 h i j)
    = V m c main_v16 (ix3 h (⟨256 * t.val + i, by have := N8 t; omega⟩ : Fin 2048) j) := by
  have := N8 t
  blk_ext [iblk, idx4 t]
  · show t.val * 256 + i.val = 256 * t.val + i.val; omega

variable (H X : ℕ → ℕ → ℝ) (G : ℕ → ℝ) (W Wd : ℕ → ℕ → ℕ → ℝ)
variable [hH : Is2 (a := 2048) (b := 1024) (m ((c.tc : Thread nD τ).loc main_arg0)) H]
variable [hX : Is2 (a := 2048) (b := 1024) (m ((c.tc : Thread nD τ).loc main_arg1)) X]
variable [hG : Is2 (a := 1) (b := 1024) (m ((c.tc : Thread nD τ).loc main_arg2)) (fun _ e => G e)]
variable [hW : Is3 (a := 8) (b := 768) (c := 1024) (m ((c.tc : Thread nD τ).loc main_arg3)) W]
variable [hD : Is3 (a := 8) (b := 352) (c := 1024) (m ((c.tc : Thread nD τ).loc main_arg4)) Wd]

include hX hG hW in
theorem en15 : Is3 (a := 4) (b := 2048) (c := 768) (V m c main_v15) (hid X G W) := by
  rw [V_v15]
  haveI := pre_is (m ((c.tc : Thread nD τ).loc main_arg1)) (m ((c.tc : Thread nD τ).loc main_arg2)) (m ((c.tc : Thread nD τ).loc main_arg3)) X G W
  exact (hslice3 0 0 0 _ _ _).congr fun i j k _ _ _ => by rw [Nat.zero_add, Nat.zero_add, Nat.zero_add]
include hX hG hW in
theorem en16 : Is3 (a := 4) (b := 2048) (c := 768) (V m c main_v16) (fun j => hid X G W (4 + j)) := by
  rw [V_v16]
  haveI := pre_is (m ((c.tc : Thread nD τ).loc main_arg1)) (m ((c.tc : Thread nD τ).loc main_arg2)) (m ((c.tc : Thread nD τ).loc main_arg3)) X G W
  exact (hslice3 4 0 0 _ _ _).congr fun i j k _ _ _ => by rw [Nat.zero_add, Nat.zero_add]
include hW in
theorem en17 : Is3 (a := 8) (b := 768) (c := 1024) (V m c main_v17) W := by
  rw [V_v17]
  exact ⟨fun i j k => hW.eq i j k⟩
include hD in
theorem en18 : Is3 (a := 8) (b := 352) (c := 1024) (V m c main_v18) Wd := by
  rw [V_v18]
  exact ⟨fun i j k => hD.eq i j k⟩

include hH in
theorem in0 : Is2 (a := 256) (b := 1024) (iblk m c 0 t) ((glob H X G W Wd).rows t.val).dh :=
  ⟨fun i j => (blk0 m c t i j).trans (by rw [V_a0]; exact hH.eq _ _)⟩
include hX in
theorem in1 : Is2 (a := 256) (b := 1024) (iblk m c 1 t) ((glob H X G W Wd).rows t.val).x :=
  ⟨fun i j => (blk1 m c t i j).trans (by rw [V_a1]; exact hX.eq _ _)⟩
include hG in
theorem in2 : Is2 (a := 1) (b := 1024) (iblk m c 2 t) (fun _ e => ((glob H X G W Wd).rows t.val).g e) :=
  ⟨fun i j => (blk2 m c t i j).trans (by rw [V_a2]; exact hG.eq _ _)⟩
include hX hG hW in
theorem in3 : Is3 (a := 4) (b := 256) (c := 768) (iblk m c 3 t) ((glob H X G W Wd).rows t.val).gate :=
  ⟨fun h i j => (blk3 m c t h i j).trans ((en15 m c X G W).eq _ _ _)⟩
include hX hG hW in
theorem in4 : Is3 (a := 4) (b := 256) (c := 768) (iblk m c 4 t) ((glob H X G W Wd).rows t.val).up :=
  ⟨fun h i j => (blk4 m c t h i j).trans ((en16 m c X G W).eq _ _ _)⟩

/-! ### The steps -/

set_option maxHeartbeats 400000 in
include hH hX hG hW hD in
theorem outs_A (D : Data) (hDe : D = glob H X G W Wd) (h0 : t.val % 8 = 0) (h1 : t.val % 8 = 0) (h2 : ¬1 ≤ t.val) :
    Is3 (a := 8) (b := 256) (c := 768) (outsAt0 m c t.val t.isLt).1 (D.rows t.val).dgu ∧
    Is2 (a := 256) (b := 1024) (outsAt0 m c t.val t.isLt).2.1 (fun r e => 1 / 2 * (D.rows t.val).dh r e) ∧
    Is2 (a := 256) (b := 1024) (outsAt0 m c t.val t.isLt).2.2.1 (D.rows t.val).out ∧
    Is2 (a := 1) (b := 1024) (outsAt0 m c t.val t.isLt).2.2.2.1 (fun _ e => ∑ k ∈ Finset.range (t.val + 1), (D.rows k).part e) ∧
    Is3 (a := 8) (b := 768) (c := 1024) (outsAt0 m c t.val t.isLt).2.2.2.2.1 D.w ∧
    Is3 (a := 4) (b := 768) (c := 1024) (outsAt0 m c t.val t.isLt).2.2.2.2.2 D.d := by
  subst hDe
  haveI := in0 m c t H X G W Wd
  haveI := in1 m c t H X G W Wd
  haveI := in2 m c t H X G W Wd
  haveI := in3 m c t H X G W Wd
  haveI := in4 m c t H X G W Wd
  haveI h6 : Is3 (View.read 𝕍 (Memref.whole main_v17).view (V m c main_v17)) ((glob H X G W Wd).rows t.val).w := en17 m c W
  haveI h7 : Is3 (View.read 𝕍 (Memref.whole main_v18).view (V m c main_v18)) Wd := en18 m c Wd
  have hs := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (iblk m c 0 t) (iblk m c 1 t) (iblk m c 2 t) (iblk m c 3 t) (iblk m c 4 t) (V m c main_v17) (V m c main_v18) ((glob H X G W Wd).rows t.val)
    ((hcond0_0 t).mpr h0) ((hcond0_1 t).mpr h1) (fun h => h2 ((hcond0_2 t).mp h)) Wd (fun _ _ _ => rfl)
    (ms0_5 t).view.junk (ms0_6 t).view.junk (ms0_7 t).view.junk (ms0_8 t).view.junk scM0_0.view.junk scM0_1.view.junk
  rw [outsAt0_A m c t h0 h1 h2]
  refine ⟨?_, ?_, ?_, ?_, ?_, ?_⟩
  · unfold out0_A_5
    rw [View.read_writes_of_cover VO0_5 VO0_5.junk (ms0_5 t).view (ms0_5 t).view.junk _ (cover0_A_5 c _ _ _ _ _ _ _ _ _ _ _ _ _ _ _ _ _ _ _ _ _ _ _ _ _ _ _ _ _ _ _ _ _)]
    dsimp only
    exact hs.1
  · unfold out0_A_6
    rw [View.read_writes_of_cover VO0_6 VO0_6.junk (ms0_6 t).view (ms0_6 t).view.junk _ (cover0_A_6 c _ _ _ _ _ _ _ _ _ _ _ _ _ _ _ _ _ _ _ _ _ _ _ _ _ _ _ _ _ _ _ _ _)]
    dsimp only
    exact hs.2.1
  · unfold out0_A_7
    rw [View.read_writes_of_cover VO0_7 VO0_7.junk (ms0_7 t).view (ms0_7 t).view.junk _ (cover0_A_7 c _ _ _ _ _ _ _ _ _ _ _ _ _ _ _ _ _ _ _ _ _ _ _ _ _ _ _ _ _ _ _ _ _)]
    dsimp only
    exact hs.2.2.1
  · unfold out0_A_8
    rw [View.read_writes_of_cover VO0_8 VO0_8.junk (ms0_8 t).view (ms0_8 t).view.junk _ (cover0_A_8 c _ _ _ _ _ _ _ _ _ _ _ _ _ _ _ _ _ _ _ _ _ _ _ _ _ _ _ _ _ _ _ _ _)]
    dsimp only
    refine hs.2.2.2.1.congr fun _ e _ _ => ?_
    rw [show t.val = 0 by omega, Nat.zero_add, Finset.sum_range_one]
  · unfold sout0_A_0
    rw [View.read_writes_of_cover VS0_0 VS0_0.junk scM0_0.view scM0_0.view.junk _ (scover0_A_0 c _ _ _ _ _ _ _ _ _ _ _ _ _ _ _ _ _ _ _ _ _ _ _ _ _ _ _ _ _ _ _ _ _)]
    dsimp only
    exact hs.2.2.2.2.1.congr fun _ _ _ _ _ _ => rfl
  · unfold sout0_A_1
    rw [View.read_writes_of_cover VS0_1 VS0_1.junk scM0_1.view scM0_1.view.junk _ (scover0_A_1 c _ _ _ _ _ _ _ _ _ _ _ _ _ _ _ _ _ _ _ _ _ _ _ _ _ _ _ _ _ _ _ _ _)]
    dsimp only
    exact hs.2.2.2.2.2.congr fun _ _ _ _ _ _ => rfl

set_option maxHeartbeats 400000 in
include hH hX hG hW hD in
theorem outs_B (D : Data) (hDe : D = glob H X G W Wd) (h0 : ¬t.val % 8 = 0) (h1 : ¬t.val % 8 = 0) (h2 : 1 ≤ t.val)
    (hp : Is2 (a := 1) (b := 1024) (outsAt0 m c (t.val - 1) (Nat.lt_of_le_of_lt (Nat.sub_le _ _) t.isLt)).2.2.2.1 (fun _ e => ∑ k ∈ Finset.range (t.val - 1 + 1), (D.rows k).part e))
    (hp0 : Is3 (a := 8) (b := 768) (c := 1024) (outsAt0 m c (t.val - 1) (Nat.lt_of_le_of_lt (Nat.sub_le _ _) t.isLt)).2.2.2.2.1 D.w)
    (hp1 : Is3 (a := 4) (b := 768) (c := 1024) (outsAt0 m c (t.val - 1) (Nat.lt_of_le_of_lt (Nat.sub_le _ _) t.isLt)).2.2.2.2.2 D.d) :
    Is3 (a := 8) (b := 256) (c := 768) (outsAt0 m c t.val t.isLt).1 (D.rows t.val).dgu ∧
    Is2 (a := 256) (b := 1024) (outsAt0 m c t.val t.isLt).2.1 (fun r e => 1 / 2 * (D.rows t.val).dh r e) ∧
    Is2 (a := 256) (b := 1024) (outsAt0 m c t.val t.isLt).2.2.1 (D.rows t.val).out ∧
    Is2 (a := 1) (b := 1024) (outsAt0 m c t.val t.isLt).2.2.2.1 (fun _ e => ∑ k ∈ Finset.range (t.val + 1), (D.rows k).part e) ∧
    Is3 (a := 8) (b := 768) (c := 1024) (outsAt0 m c t.val t.isLt).2.2.2.2.1 D.w ∧
    Is3 (a := 4) (b := 768) (c := 1024) (outsAt0 m c t.val t.isLt).2.2.2.2.2 D.d := by
  subst hDe
  haveI := in0 m c t H X G W Wd
  haveI := in1 m c t H X G W Wd
  haveI := in2 m c t H X G W Wd
  haveI := in3 m c t H X G W Wd
  haveI := in4 m c t H X G W Wd
  haveI : Is3 (a := 8) (b := 768) (c := 1024) (outsAt0 m c (t.val - 1) (Nat.lt_of_le_of_lt (Nat.sub_le _ _) t.isLt)).2.2.2.2.1 ((glob H X G W Wd).rows t.val).w := hp0
  haveI : Is3 (a := 4) (b := 768) (c := 1024) (outsAt0 m c (t.val - 1) (Nat.lt_of_le_of_lt (Nat.sub_le _ _) t.isLt)).2.2.2.2.2 ((glob H X G W Wd).rows t.val).d := hp1
  have hs := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (iblk m c 0 t) (iblk m c 1 t) (iblk m c 2 t) (iblk m c 3 t) (iblk m c 4 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (V m c main_v17) (V m c main_v18) ((glob H X G W Wd).rows t.val)
    (fun h => h0 ((hcond0_0 t).mp h)) (fun h => h1 ((hcond0_1 t).mp h)) ((hcond0_2 t).mpr h2) (fun e => ∑ k ∈ Finset.range (t.val - 1 + 1), ((glob H X G W Wd).rows k).part e)
    (ms0_5 t).view.junk (ms0_6 t).view.junk (ms0_7 t).view.junk (ms0_8 t).view.junk
  rw [outsAt0_B m c t h0 h1 h2]
  refine ⟨?_, ?_, ?_, ?_, ?_, ?_⟩
  · unfold out0_B_5
    rw [View.read_writes_of_cover VO0_5 VO0_5.junk (ms0_5 t).view (ms0_5 t).view.junk _ (cover0_B_5 c _ _ _ _ _ _ _ _ _ _ _ _ _ _ _ _ _ _ _ _ _ _ _ _ _ _ _ _ _ _ _ _ _ _ _ _)]
    dsimp only
    exact hs.1
  · unfold out0_B_6
    rw [View.read_writes_of_cover VO0_6 VO0_6.junk (ms0_6 t).view (ms0_6 t).view.junk _ (cover0_B_6 c _ _ _ _ _ _ _ _ _ _ _ _ _ _ _ _ _ _ _ _ _ _ _ _ _ _ _ _ _ _ _ _ _ _ _ _)]
    dsimp only
    exact hs.2.1
  · unfold out0_B_7
    rw [View.read_writes_of_cover VO0_7 VO0_7.junk (ms0_7 t).view (ms0_7 t).view.junk _ (cover0_B_7 c _ _ _ _ _ _ _ _ _ _ _ _ _ _ _ _ _ _ _ _ _ _ _ _ _ _ _ _ _ _ _ _ _ _ _ _)]
    dsimp only
    exact hs.2.2.1
  · unfold out0_B_8
    rw [View.read_writes_of_cover VO0_8 VO0_8.junk (ms0_8 t).view (ms0_8 t).view.junk _ (cover0_B_8 c _ _ _ _ _ _ _ _ _ _ _ _ _ _ _ _ _ _ _ _ _ _ _ _ _ _ _ _ _ _ _ _ _ _ _ _)]
    dsimp only
    refine hs.2.2.2.congr fun _ e _ _ => ?_
    rw [show t.val - 1 + 1 = t.val by omega, Finset.sum_range_succ]
  · exact hp0
  · exact hp1

include hH hX hG hW hD in
theorem outs (D : Data) (hDe : D = glob H X G W Wd) (n : ℕ) (hn : n < cfg0.N) :
    Is3 (a := 8) (b := 256) (c := 768) (outsAt0 m c n hn).1 (D.rows n).dgu ∧
    Is2 (a := 256) (b := 1024) (outsAt0 m c n hn).2.1 (fun r e => 1 / 2 * (D.rows n).dh r e) ∧
    Is2 (a := 256) (b := 1024) (outsAt0 m c n hn).2.2.1 (D.rows n).out ∧
    Is2 (a := 1) (b := 1024) (outsAt0 m c n hn).2.2.2.1 (fun _ e => ∑ k ∈ Finset.range (n + 1), (D.rows k).part e) ∧
    Is3 (a := 8) (b := 768) (c := 1024) (outsAt0 m c n hn).2.2.2.2.1 D.w ∧
    Is3 (a := 4) (b := 768) (c := 1024) (outsAt0 m c n hn).2.2.2.2.2 D.d := by
  induction n with
  | zero => exact outs_A m c ⟨0, hn⟩ H X G W Wd D hDe rfl rfl (by simp)
  | succ n ih =>
    have h8 := N8 ⟨n + 1, hn⟩
    have h := ih (by omega)
    exact outs_B m c ⟨n + 1, hn⟩ H X G W Wd D hDe (by show ¬(n + 1) % 8 = 0; simp only at h8; omega) (by show ¬(n + 1) % 8 = 0; simp only at h8; omega)
      (by show 1 ≤ n + 1; omega) h.2.2.2.1 h.2.2.2.2.1 h.2.2.2.2.2

end Blocks

end Cert.Calc.Ff
-- ==== Proof.FfnOut.lean ====
module

public import proofs.«01_k».proof.Proof.FfnGrid

/-!
The feed-forward call's result arrays, read at an index.
-/

@[expose] public section

noncomputable section

namespace Cert.Calc.Ff

open Idealize.ShloMosaic hiding ix1 ix2 ix3 ix4
open Idealize.ShloMosaic.ValueIdx
open Idealize.ShloMosaic.TcCoe
open Cert.KernelFfnIdeal Cert.KernelFfnIdeal.Gen
open scoped BigOperators

/-- The gradient of the norm's scale. -/
def Data.scale (D : Data) (e : ℕ) : ℝ := ∑ t ∈ Finset.range 2048, D.dn t e * D.xh t e

theorem sum_rows (F : ℕ → ℝ) (n : ℕ) :
    ∑ k ∈ Finset.range n, ∑ r ∈ Finset.range 256, F (256 * k + r) = ∑ r ∈ Finset.range (256 * n), F r := by
  induction n with
  | zero => rfl
  | succ n ih => rw [Finset.sum_range_succ, ih, Nat.mul_succ, Finset.sum_range_add]

theorem rows_scale (D : Data) (e : ℕ) : ∑ k ∈ Finset.range 8, (D.rows k).part e = D.scale e :=
  sum_rows (fun t => D.dn t e * D.xh t e) 8

section Arrays
variable (m : (ℓ : Loc nD τ sig) → Buf (Elt Idealize.ShloMosaic.Ideal) ℓ) (c : Dev nD)
variable (H X : ℕ → ℕ → ℝ) (G : ℕ → ℝ) (W Wd : ℕ → ℕ → ℕ → ℝ)
variable [hH : Is2 (a := 2048) (b := 1024) (m ((c.tc : Thread nD τ).loc main_arg0)) H]
variable [hX : Is2 (a := 2048) (b := 1024) (m ((c.tc : Thread nD τ).loc main_arg1)) X]
variable [hG : Is2 (a := 1) (b := 1024) (m ((c.tc : Thread nD τ).loc main_arg2)) (fun _ e => G e)]
variable [hW : Is3 (a := 8) (b := 768) (c := 1024) (m ((c.tc : Thread nD τ).loc main_arg3)) W]
variable [hD : Is3 (a := 8) (b := 352) (c := 1024) (m ((c.tc : Thread nD τ).loc main_arg4)) Wd]

include hH hX hG hW hD in
theorem arr5 : (dats m 0 c).arrAt 5 cfg0.N
    = (fun y => (((glob H X G W Wd).dgu (y 0).val (y 1).val (y 2).val : ℝ) : EReal) : FVec Idealize.ShloMosaic.Ideal S8x2048x768 .bf16) := by
  refine (dats m 0 c).arrAt_eq_of_covers 5 _ (by decide +kernel) fun t hf y => ?_
  have h := ((outs m c H X G W Wd _ rfl t.val t.isLt).1).eq (y 0) (y 1) (y 2)
  blk_simp [idx5 t]
  rw [after0_5]
  refine (congrArg _ (ValueIdx.eq_ix3 (n0 := 8) (n1 := 256) (n2 := 768) y)).trans (h.trans ?_)
  rw [Nat.mul_comm _ 256]
  rfl

include hH hX hG hW hD in
theorem arr6 : (dats m 0 c).arrAt 6 cfg0.N
    = (fun y => ((1 / 2 * H (y 0).val (y 1).val : ℝ) : EReal) : FVec Idealize.ShloMosaic.Ideal S2048x1024 .bf16) := by
  refine (dats m 0 c).arrAt_eq_of_covers 6 _ (by decide +kernel) fun t hf y => ?_
  have h := ((outs m c H X G W Wd _ rfl t.val t.isLt).2.1).eq (y 0) (y 1)
  blk_simp [idx6 t]
  rw [after0_6]
  refine (congrArg _ (ValueIdx.eq_ix2 (n0 := 256) (n1 := 1024) y)).trans (h.trans ?_)
  rw [Nat.mul_comm _ 256]
  rfl

include hH hX hG hW hD in
theorem arr7 : (dats m 0 c).arrAt 7 cfg0.N
    = (fun y => (((glob H X G W Wd).out (y 0).val (y 1).val : ℝ) : EReal) : FVec Idealize.ShloMosaic.Ideal S2048x1024 .f32) := by
  refine (dats m 0 c).arrAt_eq_of_covers 7 _ (by decide +kernel) fun t hf y => ?_
  have h := ((outs m c H X G W Wd _ rfl t.val t.isLt).2.2.1).eq (y 0) (y 1)
  blk_simp [idx7 t]
  rw [after0_7]
  refine (congrArg _ (ValueIdx.eq_ix2 (n0 := 256) (n1 := 1024) y)).trans (h.trans ?_)
  rw [Nat.mul_comm _ 256]
  rfl

include hH hX hG hW hD in
theorem arr8 : (dats m 0 c).arrAt 8 cfg0.N
    = (fun y => (((glob H X G W Wd).scale (y 1).val : ℝ) : EReal) : FVec Idealize.ShloMosaic.Ideal S1x1024 .f32) := by
  refine (dats m 0 c).arrAt_eq_of_covers 8 _ (by decide +kernel) fun t hf y => ?_
  have h3 := (flush0_8 t).mp hf
  have h := ((outs m c H X G W Wd _ rfl t.val t.isLt).2.2.2.1).eq (y 0) (y 1)
  have h8 := N8 t
  rw [show t.val + 1 = 8 by omega, rows_scale] at h
  blk_simp [idx8 t]
  rw [after0_8]
  exact (congrArg _ (ValueIdx.eq_ix2 (n0 := 1) (n1 := 1024) y)).trans h

end Arrays

end Cert.Calc.Ff
-- ==== Proof.FfnRef.lean ====
module

public import proofs.«01_k».proof.Proof.FfnOut

/-!
The feed-forward reference's results, read at an index: they are the call's own real functions.
-/

@[expose] public section

noncomputable section

namespace Cert.Calc.Ff

open Idealize.ShloMosaic hiding ix1 ix2 ix3 ix4
open Idealize.ShloMosaic.ValueIdx
open Idealize.ShloMosaic.TcCoe
open Cert.ReferenceFfnIdeal Cert.ReferenceFfnIdeal.Gen
open scoped BigOperators

local notation "𝔽" => Idealize.ShloMosaic.Ideal
local notation "𝕍" => Elt Idealize.ShloMosaic.Ideal

/-! ### The reference's terms -/

/-- The means of squares, a small constant added. -/
def rMs (x : FVec 𝔽 S2048x1024 .f32) : FVec 𝔽 S2048x1 .f32 :=
  addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))

/-- Their reciprocal roots. -/
def rInv (x : FVec 𝔽 S2048x1024 .f32) : FVec 𝔽 S2048x1 .f32 :=
  Host.rsqrt (rMs x)

/-- The normed rows. -/
def rXh (x : FVec 𝔽 S2048x1024 .f32) : FVec 𝔽 S2048x1024 .f32 :=
  mulf x (broadcastInDim S2048x1024 ![0, 1] bcast_S2048x1_S2048x1024_0_1 (rInv x))

/-- The first product. -/
def rHid (x : FVec 𝔽 S2048x1024 .f32) (g : FVec 𝔽 S1x1024 .f32) (w : FVec 𝔽 S8x768x1024 .f32) : FVec 𝔽 S8x2048x768 .f32 :=
  transpose S8x2048x768 [0, 2, 1] (Host.dotGeneral dot_S8x768x1024_S2048x1024_S8x768x2048_2_1_01_0_n_n none w (mulf (rXh x) (broadcastInDim S2048x1024 ![0, 1] bcast_S1x1024_S2048x1024_0_1 g))) transposes_S8x768x2048_S8x2048x768_0_2_1

/-- The gates. -/
def rGate (x : FVec 𝔽 S2048x1024 .f32) (g : FVec 𝔽 S1x1024 .f32) (w : FVec 𝔽 S8x768x1024 .f32) : FVec 𝔽 S4x2048x768 .f32 :=
  extractStridedSlice S4x2048x768 ![0, 0, 0] (rHid x g w) slices_S8x2048x768_S4x2048x768_0_0_0

/-- The values. -/
def rUp (x : FVec 𝔽 S2048x1024 .f32) (g : FVec 𝔽 S1x1024 .f32) (w : FVec 𝔽 S8x768x1024 .f32) : FVec 𝔽 S4x2048x768 .f32 :=
  extractStridedSlice S4x2048x768 ![4, 0, 0] (rHid x g w) slices_S8x2048x768_S4x2048x768_4_0_0

/-- The logistic function of the gates. -/
def rSg (x : FVec 𝔽 S2048x1024 .f32) (g : FVec 𝔽 S1x1024 .f32) (w : FVec 𝔽 S8x768x1024 .f32) : FVec 𝔽 S4x2048x768 .f32 :=
  Host.divf (broadcastInDim S4x2048x768 ![] bcast_S_S4x2048x768 (constant S_ .f32 0x3F800000#32)) (addf (broadcastInDim S4x2048x768 ![] bcast_S_S4x2048x768 (constant S_ .f32 0x3F800000#32)) (Host.exp (Host.negf (rGate x g w))))

/-- The gradient of the hidden layer. -/
def rDa (h : FVec 𝔽 S2048x1024 .f32) (d : FVec 𝔽 S8x352x1024 .f32) : FVec 𝔽 S4x2048x768 .f32 :=
  pad S4x2048x768 ![0, 0, 0] ![0, 0, 64] ![0, 0, 0] (transpose S4x2048x704 [1, 0, 2] (Host.dotGeneral dot_S2048x1024_S4x704x1024_S2048x4x704_1_2_0_01_n_n none (mulf (broadcastInDim S2048x1024 ![] bcast_S_S2048x1024 (constant S_ .f32 0x3F000000#32)) h) (shapeCast S4x704x1024 d shapeCasts_S8x352x1024_S4x704x1024)) transposes_S2048x4x704_S4x2048x704_1_0_2) (constant S_ .f32 0x00000000#32) pads_S4x2048x704_S4x2048x768_000_000_0640 h_S_

/-- The gradients of the gates and of the values. -/
def rDgu (h x : FVec 𝔽 S2048x1024 .f32) (g : FVec 𝔽 S1x1024 .f32) (w : FVec 𝔽 S8x768x1024 .f32) (d : FVec 𝔽 S8x352x1024 .f32) : FVec 𝔽 S8x2048x768 .f32 :=
  concatenate S8x2048x768 0 [⟨S4x2048x768, addf (mulf (mulf (rDa h d) (rUp x g w)) (rSg x g w)) (mulf (mulf (rGate x g w) (mulf (rDa h d) (rUp x g w))) (mulf (rSg x g w) (subf (broadcastInDim S4x2048x768 ![] bcast_S_S4x2048x768 (constant S_ .f32 0x3F800000#32)) (rSg x g w))))⟩, ⟨S4x2048x768, mulf (mulf (rGate x g w) (rSg x g w)) (rDa h d)⟩] concatenates_S4x2048x768_S4x2048x768_S8x2048x768_d0

/-- The gradient of the normed input. -/
def rDn (h x : FVec 𝔽 S2048x1024 .f32) (g : FVec 𝔽 S1x1024 .f32) (w : FVec 𝔽 S8x768x1024 .f32) (d : FVec 𝔽 S8x352x1024 .f32) : FVec 𝔽 S2048x1024 .f32 :=
  Host.dotGeneral dot_S8x768x2048_S8x768x1024_S2048x1024_01_01_2_2_n_n none (transpose S8x768x2048 [0, 2, 1] (rDgu h x g w d) transposes_S8x2048x768_S8x768x2048_0_2_1) w

/-- The gradient of the norm's scale. -/
def rScale (h x : FVec 𝔽 S2048x1024 .f32) (g : FVec 𝔽 S1x1024 .f32) (w : FVec 𝔽 S8x768x1024 .f32) (d : FVec 𝔽 S8x352x1024 .f32) : FVec 𝔽 S1x1024 .f32 :=
  shapeCast S1x1024 (Host.reduceAdd (mulf (rXh x) (rDn h x g w d)) (constant S_ .f32 0x00000000#32) reducesTo_S2048x1024_S1024_d0 h_S_) shapeCasts_S1024_S1x1024

/-- The part along the rows. -/
def rAlong (h x : FVec 𝔽 S2048x1024 .f32) (g : FVec 𝔽 S1x1024 .f32) (w : FVec 𝔽 S8x768x1024 .f32) (d : FVec 𝔽 S8x352x1024 .f32) : FVec 𝔽 S2048x1024 .f32 :=
  broadcastInDim S2048x1024 ![0] bcast_S2048_S2048x1024_0 (Host.reduceAdd (Host.divf (mulf (shapeCast S2048x1 (Host.reduceAdd (mulf x (mulf (rDn h x g w d) (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (rInv x) (rMs x)))) (broadcastInDim S2048x1 ![] bcast_S_S2048x1 (constant S_ .f32 0x44800000#32))) (constant S_ .f32 0x00000000#32) reducesTo_S2048x1_S2048_d1 h_S_)

/-- The gradient of the layer's input. -/
def rOut (h x : FVec 𝔽 S2048x1024 .f32) (g : FVec 𝔽 S1x1024 .f32) (w : FVec 𝔽 S8x768x1024 .f32) (d : FVec 𝔽 S8x352x1024 .f32) : FVec 𝔽 S2048x1024 .f32 :=
  addf h (addf (addf (mulf (mulf (rDn h x g w d) (broadcastInDim S2048x1024 ![0, 1] bcast_S1x1024_S2048x1024_0_1 g)) (broadcastInDim S2048x1024 ![0, 1] bcast_S2048x1_S2048x1024_0_1 (rInv x))) (mulf x (rAlong h x g w d))) (mulf (rAlong h x g w d) x))

/-! ### Their readings -/

section Readings
variable (h x : FVec 𝔽 S2048x1024 .f32) (g : FVec 𝔽 S1x1024 .f32) (w : FVec 𝔽 S8x768x1024 .f32) (d : FVec 𝔽 S8x352x1024 .f32)
variable (H X : ℕ → ℕ → ℝ) (G : ℕ → ℝ) (W Wd : ℕ → ℕ → ℕ → ℝ)
variable [hH : Is2 h H] [hX : Is2 x X] [hG : Is2 g (fun _ e => G e)] [hW : Is3 w W] [hD : Is3 d Wd]

/-- The mean of squares of a row, a small constant added. -/
def msq (X : ℕ → ℕ → ℝ) (t : ℕ) : ℝ := (∑ k ∈ Finset.range 1024, X t k * X t k) * (1024)⁻¹ + eps
theorem msq_pos (t : ℕ) : 0 < msq X t := mean_pos X t

include hX in
theorem ms_is : Is2 (rMs x) (fun i _ => (∑ k ∈ Finset.range 1024, X i k * X i k) * (1024)⁻¹ + eps) := by
  exact (inferInstance : Is2 (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))) _)
include hX in
theorem inv_is : Is2 (rInv x) (fun i _ => (Real.sqrt ((∑ k ∈ Finset.range 1024, X i k * X i k) * (1024)⁻¹ + eps))⁻¹) := by
  haveI := ms_is x X
  exact (inferInstance : Is2 (Host.rsqrt (rMs x)) _)
include hX in
theorem xh_is : Is2 (rXh x) (glob H X G W Wd).xh := by
  haveI := inv_is x X
  exact (inferInstance : Is2 (mulf x (broadcastInDim S2048x1024 ![0, 1] bcast_S2048x1_S2048x1024_0_1 (rInv x))) _).congr fun _ _ _ _ => rfl
include hX hG hW in
theorem hid_is : Is3 (rHid x g w) (hid X G W) := by
  haveI := xh_is x X X G W W
  exact (inferInstance : Is3 (transpose S8x2048x768 [0, 2, 1] (Host.dotGeneral dot_S8x768x1024_S2048x1024_S8x768x2048_2_1_01_0_n_n none w (mulf (rXh x) (broadcastInDim S2048x1024 ![0, 1] bcast_S1x1024_S2048x1024_0_1 g))) transposes_S8x768x2048_S8x2048x768_0_2_1) _).congr fun _ _ _ _ _ _ => rfl
include hX hG hW in
theorem gate_is : Is3 (rGate x g w) (glob H X G W Wd).gate := by
  haveI := hid_is x g w X G W
  exact (hslice3 0 0 0 (rHid x g w) _ _).congr fun i j k _ _ _ => by simp only [Nat.zero_add]; rfl
include hX hG hW in
theorem up_is : Is3 (rUp x g w) (glob H X G W Wd).up := by
  haveI := hid_is x g w X G W
  exact (hslice3 4 0 0 (rHid x g w) _ _).congr fun i j k _ _ _ => by simp only [Nat.zero_add]; rfl
include hX hG hW in
theorem sg_is : Is3 (rSg x g w) (glob H X G W Wd).sg := by
  haveI := gate_is x g w H X G W Wd
  refine (inferInstance : Is3 (Host.divf (broadcastInDim S4x2048x768 ![] bcast_S_S4x2048x768 (constant S_ .f32 0x3F800000#32)) (addf (broadcastInDim S4x2048x768 ![] bcast_S_S4x2048x768 (constant S_ .f32 0x3F800000#32)) (Host.exp (Host.negf (rGate x g w))))) _).congr fun j t m _ _ _ => ?_
  unfold Data.sg
  rw [zero_sub]
include hH hD in
theorem da_is : Is3 (rDa h d) (glob H X G W Wd).da := by
  refine (inferInstance : Is3 (pad S4x2048x768 ![0, 0, 0] ![0, 0, 64] ![0, 0, 0] (transpose S4x2048x704 [1, 0, 2] (Host.dotGeneral dot_S2048x1024_S4x704x1024_S2048x4x704_1_2_0_01_n_n none (mulf (broadcastInDim S2048x1024 ![] bcast_S_S2048x1024 (constant S_ .f32 0x3F000000#32)) h) (shapeCast S4x704x1024 d shapeCasts_S8x352x1024_S4x704x1024)) transposes_S2048x4x704_S4x2048x704_1_0_2) (constant S_ .f32 0x00000000#32 : FVec 𝔽 S_ .f32) pads_S4x2048x704_S4x2048x768_000_000_0640 h_S_) _).congr fun j t m _ _ _ => ?_
  unfold Data.da
  split
  · next hm => exact Finset.sum_congr rfl fun k _ => congrArg (1 / 2 * H t k * ·) (if_pos hm).symm
  · next hm => exact (Finset.sum_eq_zero fun k _ => (congrArg (1 / 2 * H t k * ·) (if_neg hm)).trans (mul_zero _)).symm
include hH hX hG hW hD in
theorem dgu_is : Is3 (rDgu h x g w d) (glob H X G W Wd).dgu := by
  haveI := gate_is x g w H X G W Wd; haveI := up_is x g w H X G W Wd; haveI := sg_is x g w H X G W Wd; haveI := da_is h d H X G W Wd
  refine (inferInstance : Is3 (concatenate S8x2048x768 0 [⟨S4x2048x768, addf (mulf (mulf (rDa h d) (rUp x g w)) (rSg x g w)) (mulf (mulf (rGate x g w) (mulf (rDa h d) (rUp x g w))) (mulf (rSg x g w) (subf (broadcastInDim S4x2048x768 ![] bcast_S_S4x2048x768 (constant S_ .f32 0x3F800000#32)) (rSg x g w))))⟩, ⟨S4x2048x768, mulf (mulf (rGate x g w) (rSg x g w)) (rDa h d)⟩] concatenates_S4x2048x768_S4x2048x768_S8x2048x768_d0) _).congr fun j t m _ _ _ => ?_
  unfold Data.dgu Data.dg Data.du
  split <;> ring
include hH hX hG hW hD in
theorem dn_is : Is2 (rDn h x g w d) (glob H X G W Wd).dn := by
  haveI := dgu_is h x g w d H X G W Wd
  refine (inferInstance : Is2 (Host.dotGeneral dot_S8x768x2048_S8x768x1024_S2048x1024_01_01_2_2_n_n none (transpose S8x768x2048 [0, 2, 1] (rDgu h x g w d) transposes_S8x2048x768_S8x768x2048_0_2_1) w) _).congr fun t e _ _ => ?_
  show ∑ j ∈ Finset.range 8, (glob H X G W Wd).term j t e = (glob H X G W Wd).dn t e
  simp only [Finset.sum_range_succ, Finset.sum_range_zero, Data.dn]
  ring
include hH hX hG hW hD in
theorem scale_is : Is2 (rScale h x g w d) (fun _ e => (glob H X G W Wd).scale e) := by
  haveI := dn_is h x g w d H X G W Wd; haveI := xh_is x H X G W Wd
  refine (inferInstance : Is2 (shapeCast S1x1024 (Host.reduceAdd (mulf (rXh x) (rDn h x g w d)) (constant S_ .f32 0x00000000#32) reducesTo_S2048x1024_S1024_d0 h_S_) shapeCasts_S1024_S1x1024) _).congr fun t e _ _ => ?_
  exact Finset.sum_congr rfl fun k _ => mul_comm _ _
include hH hX hG hW hD in
theorem along_is : Is2 (rAlong h x g w d) (fun t _ => (∑ e ∈ Finset.range 1024, X t e * ((glob H X G W Wd).dn t e * G e))
    * (-(1 / 2) * ((Real.sqrt (msq X t))⁻¹ * (msq X t)⁻¹)) * (1024)⁻¹) := by
  haveI := dn_is h x g w d H X G W Wd; haveI := ms_is x X; haveI := inv_is x X
  refine (inferInstance : Is2 (broadcastInDim S2048x1024 ![0] bcast_S2048_S2048x1024_0 (Host.reduceAdd (Host.divf (mulf (shapeCast S2048x1 (Host.reduceAdd (mulf x (mulf (rDn h x g w d) (broadcastInDim S2048x1024 ![0, 1] bcast_S1x1024_S2048x1024_0_1 g))) (constant S_ .f32 0x00000000#32) reducesTo_S2048x1024_S2048_d1 h_S_) shapeCasts_S2048_S2048x1) (mulf (broadcastInDim S2048x1 ![] bcast_S_S2048x1 (constant S_ .f32 0xBF000000#32)) (Host.divf (rInv x) (rMs x)))) (broadcastInDim S2048x1 ![] bcast_S_S2048x1 (constant S_ .f32 0x44800000#32))) (constant S_ .f32 0x00000000#32) reducesTo_S2048x1_S2048_d1 h_S_)) _).congr fun t e _ _ => ?_
  exact Finset.sum_range_one _
include hH hX hG hW hD in
theorem out_is : Is2 (rOut h x g w d) (glob H X G W Wd).out := by
  haveI := dn_is h x g w d H X G W Wd; haveI := inv_is x X; haveI := along_is h x g w d H X G W Wd
  refine (inferInstance : Is2 (addf h (addf (addf (mulf (mulf (rDn h x g w d) (broadcastInDim S2048x1024 ![0, 1] bcast_S1x1024_S2048x1024_0_1 g)) (broadcastInDim S2048x1024 ![0, 1] bcast_S2048x1_S2048x1024_0_1 (rInv x))) (mulf x (rAlong h x g w d))) (mulf (rAlong h x g w d) x))) _).congr fun t e _ _ => ?_
  have hp := msq_pos X t
  have hr : (Real.sqrt (msq X t))⁻¹ * (Real.sqrt (msq X t))⁻¹ = (msq X t)⁻¹ := by
    rw [← mul_inv, Real.mul_self_sqrt hp.le]
  have hs : ∑ k ∈ Finset.range 1024, (glob H X G W Wd).dn t k * G k * (X t k * (Real.sqrt (msq X t))⁻¹)
      = (∑ k ∈ Finset.range 1024, X t k * ((glob H X G W Wd).dn t k * G k)) * (Real.sqrt (msq X t))⁻¹ := by
    rw [Finset.sum_mul]
    exact Finset.sum_congr rfl fun k _ => by ring
  show H t e + ((glob H X G W Wd).dn t e * G e * (Real.sqrt (msq X t))⁻¹ + X t e * _ + _ * X t e)
    = H t e + (Real.sqrt (msq X t))⁻¹ * ((glob H X G W Wd).dn t e * G e - X t e * (Real.sqrt (msq X t))⁻¹ *
      ((∑ k ∈ Finset.range 1024, (glob H X G W Wd).dn t k * G k * (X t k * (Real.sqrt (msq X t))⁻¹)) * (1024)⁻¹))
  rw [hs, ← hr]
  ring

end Readings

/-! ### The reference's results -/

section Results
variable (m : (ℓ : Loc nD τ sig) → Buf 𝕍 ℓ) (c : Dev nD)

theorem res0 : Value.res_out0 (F := 𝔽) m c = truncf .bf16 (rDgu (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) bitsLt_bf16_f32 := rfl
theorem res2 : Value.res_out2 (F := 𝔽) m c = rOut (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl
theorem res3 : Value.res_out3 (F := 𝔽) m c = rScale (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := rfl

end Results

end Cert.Calc.Ff
-- ==== Proof.Ffn.lean ====
module

public import proofs.«01_k».proof.Defs
public import proofs.«01_k».proof.Pre_finite_ffn
public import proofs.«01_k».proof.Proof.Finite
public import proofs.«01_k».proof.Proof.FfnRef
public import proofs.«01_k».proof.Proof.Gen.KernelFfnIdeal.Value

/-!
The feed-forward layer's backward: its precondition, its reference's frame, and the equality of the
kernel's and the reference's four results, for arguments whose entries are real.
-/

@[expose] public section

noncomputable section

namespace Cert.Calc

open Idealize.ShloMosaic hiding ix1 ix2 ix3 ix4
open Idealize.ShloMosaic.ValueIdx
open Idealize.ShloMosaic.TcCoe
open Idealize.SL.Sem
open Cert.ReferenceFfnIdeal

local notation "𝔽" => Idealize.ShloMosaic.Ideal
local notation "𝕍" => Elt Idealize.ShloMosaic.Ideal

/-! ### The precondition -/

namespace Ffn

/-- The shapes' relations that the precondition takes. -/
theorem preFacts : Cert.Pre_finite_ffn.Facts where
  bcast_S_S2048x1024 := by decide
  reducesTo_S2048x1024_S_d0_1 := by decide
  h_S_ := by decide
  bcast_S_S1x1024 := by decide
  reducesTo_S1x1024_S_d0_1 := by decide
  bcast_S_S8x768x1024 := by decide
  reducesTo_S8x768x1024_S_d0_1_2 := by decide
  bcast_S_S8x352x1024 := by decide
  reducesTo_S8x352x1024_S_d0_1_2 := by decide

instance : Subsingleton (Cert.Pre_finite_ffn.S_).Idx := ⟨fun _ _ => funext fun a => a.elim0⟩

/-- The reals of an array of rank 3 of extended reals. -/
def reals3 {a b c : ℕ} (x : (⟨3, ![a, b, c]⟩ : Shape).Idx → EReal) (i j k : ℕ) : ℝ :=
  if h : i < a ∧ j < b ∧ k < c then (x (ix3 (⟨i, h.1⟩ : Fin a) (⟨j, h.2.1⟩ : Fin b) (⟨k, h.2.2⟩ : Fin c))).toReal else 0

theorem reals3_is {a b c : ℕ} (x : (⟨3, ![a, b, c]⟩ : Shape).Idx → EReal) (h : ∀ i, ∃ w, max (x i) (-x i) < w) : Is3 x (reals3 x) :=
  ⟨fun i j k => by
    obtain ⟨w, hw⟩ := h (ix3 i j k)
    unfold reals3
    rw [dif_pos ⟨i.isLt, j.isLt, k.isLt⟩]
    exact (real_of_abs_lt hw).symm⟩

/-- Every entry of the five arguments is real. -/
theorem real_args (h x : FVec 𝔽 Cert.Pre_finite_ffn.S2048x1024 .f32)
    (g : FVec 𝔽 Cert.Pre_finite_ffn.S1x1024 .f32) (w : FVec 𝔽 Cert.Pre_finite_ffn.S8x768x1024 .f32)
    (d : FVec 𝔽 Cert.Pre_finite_ffn.S8x352x1024 .f32)
    (hp : (haveI := preFacts; Cert.Pre_finite_ffn.fn (F := 𝔽) h x g w d) = fun _ => 1#1) :
    Is2 (a := 2048) (b := 1024) h (reals (a := 2048) (b := 1024) h) ∧ Is2 (a := 2048) (b := 1024) x (reals (a := 2048) (b := 1024) x) ∧ Is2 (a := 1) (b := 1024) g (fun _ e => reals (a := 1) (b := 1024) g 0 e) ∧ Is3 (a := 8) (b := 768) (c := 1024) w (reals3 (a := 8) (b := 768) (c := 1024) w) ∧ Is3 (a := 8) (b := 352) (c := 1024) d (reals3 (a := 8) (b := 352) (c := 1024) d) := by
  have h0 := IntOp.andi_eq_one.mp (congrFun hp (Shape.Idx.first (s := Cert.Pre_finite_ffn.S_) (by decide)))
  have h1 := IntOp.andi_eq_one.mp h0.1
  have h2 := IntOp.andi_eq_one.mp h1.1
  have h3 := IntOp.andi_eq_one.mp h2.1
  have hg : Is2 (a := 1) (b := 1024) g (reals (a := 1) (b := 1024) g) := reals_is _ fun i => ⟨_, (Idealize.ShloMosaic.Ideal.cmp_olt_eq_one _ _).mp (Host.reduce_andi_all _ _ _ _ _ h2.2 i)⟩
  exact ⟨reals_is _ fun i => ⟨_, (Idealize.ShloMosaic.Ideal.cmp_olt_eq_one _ _).mp (Host.reduce_andi_all _ _ _ _ _ h3.1 i)⟩,
    reals_is _ fun i => ⟨_, (Idealize.ShloMosaic.Ideal.cmp_olt_eq_one _ _).mp (Host.reduce_andi_all _ _ _ _ _ h3.2 i)⟩,
    hg.congr fun i j hi _ => by rw [Nat.lt_one_iff.mp hi],
    reals3_is _ fun i => ⟨_, (Idealize.ShloMosaic.Ideal.cmp_olt_eq_one _ _).mp (Host.reduce_andi_all _ _ _ _ _ h1.2 i)⟩,
    reals3_is _ fun i => ⟨_, (Idealize.ShloMosaic.Ideal.cmp_olt_eq_one _ _).mp (Host.reduce_andi_all _ _ _ _ _ h0.2 i)⟩⟩

end Ffn

/-! ### The reference's frame -/

section Frame
open Cert.ReferenceFfnIdeal Gen

/-- The reference is host operations only: its run read at the arguments; it declares no semaphore. -/
theorem Ffn.frame (m : (ℓ : Loc nD τ sig) → Buf 𝕍 ℓ) (ρ : Dev nD → PrngReg) :
    θ_run (defs (F := 𝔽)) (onTc (τ := τ) (main (F := 𝔽))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2.2.2.2,
      Idealize.ShloMosaic.sem_eq_zero_of_no_sems (by decide) r.2⟩)
    (Value.run (F := 𝔽) m ρ)

end Frame

/-! ### The results -/

open Cert.ReferenceFfnIdeal Gen in
/-- The reference's four results, of arguments that read real functions. -/
theorem Ffn.ref_eq (m : (ℓ : Loc nD τ sig) → Buf 𝕍 ℓ) (c : Dev nD)
    (H X : ℕ → ℕ → ℝ) (G : ℕ → ℝ) (W Wd : ℕ → ℕ → ℕ → ℝ)
    [hH : Is2 (a := 2048) (b := 1024) (m ((c.tc : Thread nD τ).loc main_arg0)) H] [hX : Is2 (a := 2048) (b := 1024) (m ((c.tc : Thread nD τ).loc main_arg1)) X]
    [hG : Is2 (a := 1) (b := 1024) (m ((c.tc : Thread nD τ).loc main_arg2)) (fun _ e => G e)] [hW : Is3 (a := 8) (b := 768) (c := 1024) (m ((c.tc : Thread nD τ).loc main_arg3)) W]
    [hD : Is3 (a := 8) (b := 352) (c := 1024) (m ((c.tc : Thread nD τ).loc main_arg4)) Wd] :
    Value.res_out0 (F := 𝔽) m c = (fun y => (((Ff.glob H X G W Wd).dgu (y 0).val (y 1).val (y 2).val : ℝ) : EReal))
    ∧ (truncf .bf16 (mulf (broadcastInDim S2048x1024 ![] bcast_S_S2048x1024 (constant S_ .f32 0x3F000000#32)) (m ((c.tc : Thread nD τ).loc main_arg0) : FVec 𝔽 S2048x1024 .f32)) bitsLt_bf16_f32
        : FVec 𝔽 S2048x1024 .bf16) = (fun y => ((1 / 2 * H (y 0).val (y 1).val : ℝ) : EReal))
    ∧ Value.res_out2 (F := 𝔽) m c = (fun y => (((Ff.glob H X G W Wd).out (y 0).val (y 1).val : ℝ) : EReal))
    ∧ Value.res_out3 (F := 𝔽) m c = (fun y => (((Ff.glob H X G W Wd).scale (y 1).val : ℝ) : EReal)) := by
  refine ⟨(Ff.res0 m c).trans ?_, ?_, (Ff.res2 m c).trans ?_, (Ff.res3 m c).trans ?_⟩
  · haveI := Ff.dgu_is (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) H X G W Wd
    have k := (inferInstance : Is3 (truncf .bf16 (Ff.rDgu (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) bitsLt_bf16_f32 : FVec 𝔽 S8x2048x768 .bf16) _)
    exact funext fun y => (congrArg _ (ValueIdx.eq_ix3 (n0 := 8) (n1 := 2048) (n2 := 768) y)).trans (k.eq (y 0) (y 1) (y 2))
  · have k := (inferInstance : Is2 (truncf .bf16 (mulf (broadcastInDim S2048x1024 ![] bcast_S_S2048x1024 (constant S_ .f32 0x3F000000#32)) (m ((c.tc : Thread nD τ).loc main_arg0) : FVec 𝔽 S2048x1024 .f32)) bitsLt_bf16_f32
        : FVec 𝔽 S2048x1024 .bf16) _)
    exact funext fun y => (congrArg _ (ValueIdx.eq_ix2 (n0 := 2048) (n1 := 1024) y)).trans (k.eq (y 0) (y 1))
  · have k := Ff.out_is (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) H X G W Wd
    exact funext fun y => (congrArg _ (ValueIdx.eq_ix2 (n0 := 2048) (n1 := 1024) y)).trans (k.eq (y 0) (y 1))
  · have k := Ff.scale_is (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) H X G W Wd
    exact funext fun y => (congrArg _ (ValueIdx.eq_ix2 (n0 := 1) (n1 := 1024) y)).trans (k.eq (y 0) (y 1))

/-- The kernel's four results are the reference's. -/
theorem Ffn.value : Cert.algebraic_KernelFfnIdeal_ReferenceFfnIdeal_pre_finite_ffn (hKernelFfnIdeal := Cert.KernelFfnIdeal.Gen.facts)
    (hReferenceFfnIdeal := Gen.facts) (hPre_finite_ffn := Ffn.preFacts) := by
  intro m g m' g' hpre hargs
  refine ⟨fun c => (Cert.KernelFfnIdeal.Gen.dats m 0 c).arrAt 5 Cert.KernelFfnIdeal.cfg0.N,
    fun c => (Cert.KernelFfnIdeal.Gen.dats m 0 c).arrAt 6 Cert.KernelFfnIdeal.cfg0.N,
    fun c => (Cert.KernelFfnIdeal.Gen.dats m 0 c).arrAt 7 Cert.KernelFfnIdeal.cfg0.N,
    fun c => (Cert.KernelFfnIdeal.Gen.dats m 0 c).arrAt 8 Cert.KernelFfnIdeal.cfg0.N, Cert.KernelFfnIdeal.Value.run_blocks m g, ?_⟩
  refine (θ_run defs _ _).mono (fun r h c => ?_) (Value.run (F := 𝔽) m' g')
  obtain ⟨hH, hX, hG, hW, hD⟩ := Ffn.real_args _ _ _ _ _ (hpre c)
  obtain ⟨ha, hb, hc, hd, he⟩ := hargs c
  haveI := hH; haveI := hX; haveI := hG; haveI := hW; haveI := hD
  haveI kH : Is2 (a := 2048) (b := 1024) (m' ((c.tc : Thread nD τ).loc main_arg0)) (reals (a := 2048) (b := 1024) (m ((c.tc : Thread Cert.KernelFfnIdeal.nD Cert.KernelFfnIdeal.τ).loc Cert.KernelFfnIdeal.main_arg0))) := ha ▸ hH
  haveI kX : Is2 (a := 2048) (b := 1024) (m' ((c.tc : Thread nD τ).loc main_arg1)) (reals (a := 2048) (b := 1024) (m ((c.tc : Thread Cert.KernelFfnIdeal.nD Cert.KernelFfnIdeal.τ).loc Cert.KernelFfnIdeal.main_arg1))) := hb ▸ hX
  haveI kG : Is2 (a := 1) (b := 1024) (m' ((c.tc : Thread nD τ).loc main_arg2)) (fun _ e => reals (a := 1) (b := 1024) (m ((c.tc : Thread Cert.KernelFfnIdeal.nD Cert.KernelFfnIdeal.τ).loc Cert.KernelFfnIdeal.main_arg2)) 0 e) := hc ▸ hG
  haveI kW : Is3 (a := 8) (b := 768) (c := 1024) (m' ((c.tc : Thread nD τ).loc main_arg3)) (Ffn.reals3 (a := 8) (b := 768) (c := 1024) (m ((c.tc : Thread Cert.KernelFfnIdeal.nD Cert.KernelFfnIdeal.τ).loc Cert.KernelFfnIdeal.main_arg3))) := hd ▸ hW
  haveI kD : Is3 (a := 8) (b := 352) (c := 1024) (m' ((c.tc : Thread nD τ).loc main_arg4)) (Ffn.reals3 (a := 8) (b := 352) (c := 1024) (m ((c.tc : Thread Cert.KernelFfnIdeal.nD Cert.KernelFfnIdeal.τ).loc Cert.KernelFfnIdeal.main_arg4))) := he ▸ hD
  obtain ⟨k0, k1, k2, k3⟩ := Ffn.ref_eq m' c _ _ _ _ _ (hH := kH) (hX := kX) (hG := kG) (hW := kW) (hD := kD)
  refine ⟨(h c).1.trans (k0.trans ?_), (h c).2.1.trans (k1.trans ?_), (h c).2.2.1.trans (k2.trans ?_), (h c).2.2.2.1.trans (k3.trans ?_), (h c).2.2.2.2⟩
  · exact (Ff.arr5 m c _ _ _ _ _ (hH := hH) (hX := hX) (hG := hG) (hW := hW) (hD := hD)).symm
  · exact (Ff.arr6 m c _ _ _ _ _ (hH := hH) (hX := hX) (hG := hG) (hW := hW) (hD := hD)).symm
  · exact (Ff.arr7 m c _ _ _ _ _ (hH := hH) (hX := hX) (hG := hG) (hW := hW) (hD := hD)).symm
  · exact (Ff.arr8 m c _ _ _ _ _ (hH := hH) (hX := hX) (hG := hG) (hW := hW) (hD := hD)).symm

end Cert.Calc
-- ==== Proof.ECalc.lean ====
module

public import proofs.«01_k».proof.Proof.HostCalc
public import Idealize.ShloMosaic.Lib.KernelVsHost

/-!
Arrays read as extended-real functions of their places: the function of a composed expression is found
by instance search, whatever the entries.
-/

@[expose] public section

noncomputable section

namespace Cert.Calc.Er

open Idealize.ShloMosaic hiding ix1 ix2 ix3 ix4
open Idealize.ShloMosaic.ValueIdx
open Idealize.ShloMosaic.TcCoe
open scoped BigOperators

/-! ### Readings -/

/-- The array of rank zero `v` is the extended real `r`. -/
class E0 (v : (⟨0, ![]⟩ : Shape).Idx → EReal) (r : outParam EReal) : Prop where
  eq : ∀ i, v i = r
/-- The array `v` of rank one is the function `f` of its place. -/
class E1 {a : ℕ} (v : (⟨1, ![a]⟩ : Shape).Idx → EReal) (f : outParam (ℕ → EReal)) : Prop where
  eq : ∀ i : Fin a, v (ix1 i) = f i
/-- The array `v` of rank two is the function `f` of its place. -/
class E2 {a b : ℕ} (v : (⟨2, ![a, b]⟩ : Shape).Idx → EReal) (f : outParam (ℕ → ℕ → EReal)) : Prop where
  eq : ∀ (i : Fin a) (j : Fin b), v (ix2 i j) = f i j
/-- The array `v` of rank three is the function `f` of its place. -/
class E3 {a b c : ℕ} (v : (⟨3, ![a, b, c]⟩ : Shape).Idx → EReal) (f : outParam (ℕ → ℕ → ℕ → EReal)) : Prop where
  eq : ∀ (i : Fin a) (j : Fin b) (k : Fin c), v (ix3 i j k) = f i j k

theorem E2.congr {a b : ℕ} {v : (⟨2, ![a, b]⟩ : Shape).Idx → EReal} {f g : ℕ → ℕ → EReal} (h : E2 v f)
    (hfg : ∀ i j, i < a → j < b → f i j = g i j) : E2 v g :=
  ⟨fun i j => (h.eq i j).trans (hfg _ _ i.isLt j.isLt)⟩
theorem E3.congr {a b c : ℕ} {v : (⟨3, ![a, b, c]⟩ : Shape).Idx → EReal} {f g : ℕ → ℕ → ℕ → EReal} (h : E3 v f)
    (hfg : ∀ i j k, i < a → j < b → k < c → f i j k = g i j k) : E3 v g :=
  ⟨fun i j k => (h.eq i j k).trans (hfg _ _ _ i.isLt j.isLt k.isLt)⟩

/-- The function of the places that an array of rank two is, zero outside. -/
def read2 {a b : ℕ} (v : (⟨2, ![a, b]⟩ : Shape).Idx → EReal) (i j : ℕ) : EReal :=
  if h : i < a ∧ j < b then v (ix2 (⟨i, h.1⟩ : Fin a) (⟨j, h.2⟩ : Fin b)) else 0
theorem read2_is {a b : ℕ} (v : (⟨2, ![a, b]⟩ : Shape).Idx → EReal) : E2 v (read2 v) :=
  ⟨fun i j => by unfold read2; rw [dif_pos ⟨i.isLt, j.isLt⟩]⟩
/-- The function of the places that an array of rank three is, zero outside. -/
def read3 {a b c : ℕ} (v : (⟨3, ![a, b, c]⟩ : Shape).Idx → EReal) (i j k : ℕ) : EReal :=
  if h : i < a ∧ j < b ∧ k < c then v (ix3 (⟨i, h.1⟩ : Fin a) (⟨j, h.2.1⟩ : Fin b) (⟨k, h.2.2⟩ : Fin c)) else 0
theorem read3_is {a b c : ℕ} (v : (⟨3, ![a, b, c]⟩ : Shape).Idx → EReal) : E3 v (read3 v) :=
  ⟨fun i j k => by unfold read3; rw [dif_pos ⟨i.isLt, j.isLt, k.isLt⟩]⟩

theorem sum_of {n : ℕ} (f : Fin n → EReal) (g : ℕ → EReal) (h : ∀ i : Fin n, f i = g i) :
    ∑ i : Fin n, f i = ∑ i ∈ Finset.range n, g i := by
  rw [Finset.sum_range]
  exact Finset.sum_congr rfl fun i _ => h i

/-! ### Elementwise operations -/

section Elementwise
variable {a b c : ℕ} {φ : FTy}

instance const0 (w : BitVec (FTy.f32).bits) : E0 (constant (F := Ideal) (⟨0, ![]⟩ : Shape) .f32 w) (Ideal.ofBits .f32 w) := ⟨fun _ => rfl⟩
theorem zero2 (w : BitVec (FTy.f32).bits) : E2 (constant (F := Ideal) (⟨2, ![a, b]⟩ : Shape) .f32 w) (fun _ _ => Ideal.ofBits .f32 w) := ⟨fun _ _ => rfl⟩
instance zeros : E2 (constant (F := Ideal) (⟨2, ![a, b]⟩ : Shape) .f32 0x00000000#32) (fun _ _ => 0) :=
  ⟨fun _ _ => Ideal.ofBits_zero .f32⟩
instance splat2 (x : EReal) : E2 (broadcast (⟨2, ![a, b]⟩ : Shape) x) (fun _ _ => x) := ⟨fun _ _ => rfl⟩

variable (v w : FVec Ideal (⟨2, ![a, b]⟩ : Shape) φ) (f g : ℕ → ℕ → EReal)

instance addf2 [hv : E2 v f] [hw : E2 w g] : E2 (addf v w) (fun i j => f i j + g i j) :=
  ⟨fun i j => by rw [← hv.eq, ← hw.eq]; rfl⟩
instance subf2 [hv : E2 v f] [hw : E2 w g] : E2 (subf v w) (fun i j => f i j - g i j) :=
  ⟨fun i j => by rw [← hv.eq, ← hw.eq]; rfl⟩
instance mulf2 [hv : E2 v f] [hw : E2 w g] : E2 (mulf v w) (fun i j => f i j * g i j) :=
  ⟨fun i j => by rw [← hv.eq, ← hw.eq]; rfl⟩
instance divf2 [hv : E2 v f] [hw : E2 w g] : E2 (divf v w) (fun i j => Ideal.div (f i j) (g i j)) :=
  ⟨fun i j => by rw [← hv.eq, ← hw.eq]; rfl⟩
instance hdivf2 [hv : E2 v f] [hw : E2 w g] : E2 (Host.divf v w) (fun i j => Ideal.div (f i j) (g i j)) :=
  ⟨fun i j => by rw [← hv.eq, ← hw.eq]; rfl⟩
instance rsqrt2 [hv : E2 v f] : E2 (rsqrt v) (fun i j => Ideal.rsqrt (f i j)) :=
  ⟨fun i j => by rw [← hv.eq]; rfl⟩
instance hrsqrt2 [hv : E2 v f] : E2 (Host.rsqrt v) (fun i j => Ideal.rsqrt (f i j)) :=
  ⟨fun i j => by rw [← hv.eq]; rfl⟩
instance addf3 (v w : FVec Ideal (⟨3, ![a, b, c]⟩ : Shape) φ) (f g : ℕ → ℕ → ℕ → EReal) [hv : E3 v f] [hw : E3 w g] :
    E3 (addf v w) (fun i j k => f i j k + g i j k) :=
  ⟨fun i j k => by rw [← hv.eq, ← hw.eq]; rfl⟩
instance truncf2 (v : FVec Ideal (⟨2, ![a, b]⟩ : Shape) .f32) (h : (FTy.bf16).bits < (FTy.f32).bits) [hv : E2 v f] :
    E2 (truncf .bf16 v h) f := ⟨fun i j => hv.eq i j⟩
instance truncf3 (v : FVec Ideal (⟨3, ![a, b, c]⟩ : Shape) .f32) (f : ℕ → ℕ → ℕ → EReal) (h : (FTy.bf16).bits < (FTy.f32).bits)
    [hv : E3 v f] : E3 (truncf .bf16 v h) f := ⟨fun i j k => hv.eq i j k⟩

end Elementwise

/-! ### Shapes -/

section Shapes
variable {a b c : ℕ} {f : ℕ → ℕ → EReal}

instance cast_self2 (v : (⟨2, ![a, b]⟩ : Shape).Idx → EReal) (h : (⟨2, ![a, b]⟩ : Shape).ShapeCasts ⟨2, ![a, b]⟩) [hv : E2 v f] :
    E2 (shapeCast (⟨2, ![a, b]⟩ : Shape) v h) f := by rw [shapeCast_self]; exact hv
instance cast_drop (v : (⟨3, ![1, a, b]⟩ : Shape).Idx → EReal) (h : (⟨3, ![1, a, b]⟩ : Shape).ShapeCasts ⟨2, ![a, b]⟩)
    (f : ℕ → ℕ → ℕ → EReal) [hv : E3 v f] : E2 (shapeCast (⟨2, ![a, b]⟩ : Shape) v h) (fun i j => f 0 i j) :=
  ⟨fun i j => by rw [shapeCast_1ab_ab_apply, hv.eq]; rfl⟩
instance cast_col (v : (⟨1, ![a]⟩ : Shape).Idx → EReal) (h : (⟨1, ![a]⟩ : Shape).ShapeCasts ⟨2, ![a, 1]⟩) (f : ℕ → EReal)
    [hv : E1 v f] : E2 (shapeCast (⟨2, ![a, 1]⟩ : Shape) v h) (fun i _ => f i) :=
  ⟨fun i j => by rw [shapeCast_a_a1_apply, hv.eq]⟩
instance cast_row (v : (⟨1, ![b]⟩ : Shape).Idx → EReal) (h : (⟨1, ![b]⟩ : Shape).ShapeCasts ⟨2, ![1, b]⟩) (f : ℕ → EReal)
    [hv : E1 v f] : E2 (shapeCast (⟨2, ![1, b]⟩ : Shape) v h) (fun _ j => f j) :=
  ⟨fun i j => by rw [shapeCast_a_1a_apply, hv.eq]⟩
instance bcast_col (v : (⟨2, ![a, 1]⟩ : Shape).Idx → EReal) (h : (⟨2, ![a, 1]⟩ : Shape).Broadcasts ⟨2, ![a, b]⟩)
    [hv : E2 v f] : E2 (broadcastTo (⟨2, ![a, b]⟩ : Shape) v h) (fun i _ => f i 0) :=
  ⟨fun i j => by
    rw [broadcastTo_apply v h (ix2 i j) (ix2 i (0 : Fin 1)) (fun ax => ?_), hv.eq]
    · rfl
    · match ax with
      | ⟨0, _⟩ => exact one_or i
      | ⟨1, _⟩ => rfl⟩
instance bcast_row (v : (⟨2, ![1, b]⟩ : Shape).Idx → EReal) (h : (⟨2, ![1, b]⟩ : Shape).Broadcasts ⟨2, ![a, b]⟩) [hv : E2 v f] :
    E2 (broadcastTo (⟨2, ![a, b]⟩ : Shape) v h) (fun _ j => f 0 j) :=
  ⟨fun i j => by
    rw [broadcastTo_apply v h (ix2 i j) (ix2 (0 : Fin 1) j) (fun ax => ?_), hv.eq]
    · rfl
    · match ax with
      | ⟨0, _⟩ => rfl
      | ⟨1, _⟩ => exact one_or j⟩
instance bcast02 (v : (⟨0, ![]⟩ : Shape).Idx → EReal) (r : EReal) (d : Fin 0 → Fin 2)
    (h : (⟨0, ![]⟩ : Shape).BroadcastsInDim (⟨2, ![a, b]⟩ : Shape) d) [hv : E0 v r] :
    E2 (broadcastInDim (⟨2, ![a, b]⟩ : Shape) d h v) (fun _ _ => r) :=
  ⟨fun _ _ => hv.eq _⟩
instance hcol1 (v : (⟨1, ![a]⟩ : Shape).Idx → EReal) (f : ℕ → EReal)
    (h : (⟨1, ![a]⟩ : Shape).BroadcastsInDim (⟨2, ![a, b]⟩ : Shape) ![0]) [hv : E1 v f] :
    E2 (broadcastInDim (⟨2, ![a, b]⟩ : Shape) ![0] h v) (fun i _ => f i) :=
  ⟨fun i j => by
    rw [bid_apply ![0] h v _ (ix1 i) (fun ax => ?_), hv.eq]
    match ax with
    | ⟨0, _⟩ => exact one_or i⟩
instance hcols (v : (⟨2, ![a, 1]⟩ : Shape).Idx → EReal)
    (h : (⟨2, ![a, 1]⟩ : Shape).BroadcastsInDim (⟨2, ![a, b]⟩ : Shape) ![0, 1]) [hv : E2 v f] :
    E2 (broadcastInDim (⟨2, ![a, b]⟩ : Shape) ![0, 1] h v) (fun i _ => f i 0) :=
  ⟨fun i j => by
    rw [bid_apply ![0, 1] h v _ (ix2 i (0 : Fin 1)) (fun ax => ?_), hv.eq]
    · rfl
    match ax with
    | ⟨0, _⟩ => exact one_or i
    | ⟨1, _⟩ => rfl⟩
instance hrows (v : (⟨2, ![1, b]⟩ : Shape).Idx → EReal)
    (h : (⟨2, ![1, b]⟩ : Shape).BroadcastsInDim (⟨2, ![a, b]⟩ : Shape) ![0, 1]) [hv : E2 v f] :
    E2 (broadcastInDim (⟨2, ![a, b]⟩ : Shape) ![0, 1] h v) (fun _ j => f 0 j) :=
  ⟨fun i j => by
    rw [bid_apply ![0, 1] h v _ (ix2 (0 : Fin 1) j) (fun ax => ?_), hv.eq]
    · rfl
    match ax with
    | ⟨0, _⟩ => rfl
    | ⟨1, _⟩ => exact one_or j⟩
instance hlayer (v : (⟨2, ![a, b]⟩ : Shape).Idx → EReal)
    (h : (⟨2, ![a, b]⟩ : Shape).BroadcastsInDim (⟨3, ![1, a, b]⟩ : Shape) ![1, 2]) [hv : E2 v f] :
    E3 (broadcastInDim (⟨3, ![1, a, b]⟩ : Shape) ![1, 2] h v) (fun _ i j => f i j) :=
  ⟨fun u i j => by
    rw [bid_apply ![1, 2] h v _ (ix2 i j) (fun ax => ?_), hv.eq]
    match ax with
    | ⟨0, _⟩ => exact one_or i
    | ⟨1, _⟩ => exact one_or j⟩
instance htrans021 (v : (⟨3, ![a, b, c]⟩ : Shape).Idx → EReal) (f : ℕ → ℕ → ℕ → EReal)
    (h : (⟨3, ![a, b, c]⟩ : Shape).Transposes [0, 2, 1] (⟨3, ![a, c, b]⟩ : Shape)) [hv : E3 v f] :
    E3 (transpose (⟨3, ![a, c, b]⟩ : Shape) [0, 2, 1] v h) (fun i j k => f i k j) :=
  ⟨fun i j k => by
    rw [transpose_apply [0, 2, 1] v h (ix3 i j k) (ix3 i k j) (fun ax => ?_), hv.eq]
    match ax with
    | ⟨0, _⟩ => rfl
    | ⟨1, _⟩ => rfl
    | ⟨2, _⟩ => rfl⟩
instance hpad {n lo hi : ℕ} (v : (⟨3, ![n, b, c]⟩ : Shape).Idx → EReal) (f : ℕ → ℕ → ℕ → EReal) (z : (⟨0, ![]⟩ : Shape).Idx → EReal) (r : EReal)
    (h : (⟨3, ![n, b, c]⟩ : Shape).Pads (![lo, 0, 0] : Fin 3 → ℕ) ![hi, 0, 0] ![0, 0, 0] ⟨3, ![a, b, c]⟩)
    (hu : 0 < (⟨0, ![]⟩ : Shape).numel) [hv : E3 v f] [hz : E0 z r] :
    E3 (pad (⟨3, ![a, b, c]⟩ : Shape) (![lo, 0, 0] : Fin 3 → ℕ) ![hi, 0, 0] ![0, 0, 0] v z h hu)
      (fun j t m => if lo ≤ j ∧ j - lo < n then f (j - lo) t m else r) :=
  ⟨fun j t m => by
    by_cases hj : lo ≤ j.val ∧ j.val - lo < n
    · rw [if_pos hj, pad_apply_of_inside _ _ _ _ _ _ _ _ (ix3 (⟨j.val - lo, hj.2⟩ : Fin n) t m) (fun ax => ?_), hv.eq]
      match ax with
      | ⟨0, _⟩ => show j.val = lo + (j.val - lo) * (0 + 1); omega
      | ⟨1, _⟩ => show t.val = 0 + t.val * (0 + 1); omega
      | ⟨2, _⟩ => show m.val = 0 + m.val * (0 + 1); omega
    · rw [if_neg hj, pad_apply_of_not_inside _ _ _ _ _ _ _ _ (⟨0, by decide⟩ : Fin 3) ?_, hz.eq]
      show ¬(lo ≤ j.val ∧ (j.val - lo) % (0 + 1) = 0 ∧ (j.val - lo) / (0 + 1) < n)
      exact fun ⟨x, _, y⟩ => hj ⟨x, by simpa using y⟩⟩

end Shapes

/-! ### Sums -/

section Sums
variable {a b : ℕ} {f : ℕ → ℕ → EReal}

theorem rowsum (v : FVec Ideal (⟨2, ![a, b]⟩ : Shape) .f32) (acc : BitVec (FTy.f32).bits) (h : (⟨2, ![a, b]⟩ : Shape).Reduces [1] ⟨1, ![a]⟩)
    (hφ : FKind.Formats .f32) (hacc : acc = FKind.add.neutral .f32 hφ) [hv : E2 v f] :
    E1 (multiReduction .add [1] (⟨1, ![a]⟩ : Shape) v acc h hφ hacc) (fun i => ∑ j ∈ Finset.range b, f i j) :=
  ⟨fun i => by
    rw [multiReduction_add_apply]
    exact (Ideal.reduceAdd_r2_a1 h v (ix1 i)).trans (sum_of _ _ fun k => hv.eq i k)⟩
theorem colsum (v : FVec Ideal (⟨2, ![a, b]⟩ : Shape) .f32) (acc : BitVec (FTy.f32).bits)
    (h : (⟨2, ![a, b]⟩ : Shape).Reduces [0] ⟨1, ![b]⟩) (hφ : FKind.Formats .f32) (hacc : acc = FKind.add.neutral .f32 hφ) [hv : E2 v f] :
    E1 (multiReduction .add [0] (⟨1, ![b]⟩ : Shape) v acc h hφ hacc) (fun j => ∑ i ∈ Finset.range a, f i j) :=
  ⟨fun j => by
    rw [multiReduction_add_apply]
    exact (Ideal.reduceAdd_r2_a0 h v (ix1 j)).trans (sum_of _ _ fun k => hv.eq k j)⟩
instance hrowsum (v : FVec Ideal (⟨2, ![a, b]⟩ : Shape) .f32) (h : (⟨2, ![a, b]⟩ : Shape).ReducesTo [1] (⟨1, ![a]⟩ : Shape))
    (hu : 0 < (⟨0, ![]⟩ : Shape).numel) [hv : E2 v f] :
    E1 (Host.reduceAdd v (constant (F := Ideal) (⟨0, ![]⟩ : Shape) .f32 0x00000000#32) h hu) (fun i => ∑ k ∈ Finset.range b, f i k) :=
  ⟨fun i => by
    show Ideal.hostReduceAdd h v (Ideal.ofBits .f32 0x00000000#32) (ix1 i) = _
    rw [Ideal.hostReduceAdd_r2_a1, Ideal.ofBits_zero, zero_add]
    exact sum_of _ _ fun k => hv.eq i k⟩
instance hcolsum (v : FVec Ideal (⟨2, ![a, b]⟩ : Shape) .f32) (h : (⟨2, ![a, b]⟩ : Shape).ReducesTo [0] (⟨1, ![b]⟩ : Shape))
    (hu : 0 < (⟨0, ![]⟩ : Shape).numel) [hv : E2 v f] :
    E1 (Host.reduceAdd v (constant (F := Ideal) (⟨0, ![]⟩ : Shape) .f32 0x00000000#32) h hu) (fun j => ∑ k ∈ Finset.range a, f k j) :=
  ⟨fun j => by
    show Ideal.hostReduceAdd h v (Ideal.ofBits .f32 0x00000000#32) (ix1 j) = _
    rw [Ideal.hostReduceAdd_r2_a0, Ideal.ofBits_zero, zero_add]
    exact sum_of _ _ fun k => hv.eq k j⟩

end Sums

/-! ### Products -/

section Products
variable {M K N : ℕ} {f g : ℕ → ℕ → EReal} {prec : Option ContractPrecision}

theorem mm_plain (l : FVec Ideal ⟨2, ![M, K]⟩ .bf16) (r : FVec Ideal ⟨2, ![K, N]⟩ .bf16) (acc : FVec Ideal ⟨2, ![M, N]⟩ .f32)
    [hl : E2 l f] [hr : E2 r g] [ha : E2 acc (fun _ _ => 0)] :
    E2 (matmul (DotDims.plain M K N) prec l r acc) (fun i j => ∑ k ∈ Finset.range K, f i k * g k j) :=
  ⟨fun i j => by
    refine (Ideal.matmul_plain_apply prec l r acc i j).trans ?_
    rw [ha.eq, zero_add]
    exact sum_of _ _ fun k => by rw [hl.eq, hr.eq]⟩
theorem mm_nt (l : FVec Ideal ⟨2, ![M, K]⟩ .bf16) (r : FVec Ideal ⟨2, ![N, K]⟩ .bf16) (acc : FVec Ideal ⟨2, ![M, N]⟩ .f32)
    [hl : E2 l f] [hr : E2 r g] [ha : E2 acc (fun _ _ => 0)] :
    E2 (matmul (DotDims.transposedRhs M K N) prec l r acc) (fun i j => ∑ k ∈ Finset.range K, f i k * g j k) :=
  ⟨fun i j => by
    refine (Ideal.matmul_transposedRhs_apply prec l r acc i j).trans ?_
    rw [ha.eq, zero_add]
    exact sum_of _ _ fun k => by rw [hl.eq, hr.eq]⟩

end Products

end Cert.Calc.Er
-- ==== Proof.InbPay.lean ====
module

public import proofs.«01_k».proof.Proof.ECalc
public import proofs.«01_k».proof.Proof.Gen.KernelInbIdeal.Frame.RunA
public import Idealize.ShloMosaic.Lib.WritesUnit

/-!
The loads and the straight pieces of the input projection's backward, read as extended-real functions.
-/

@[expose] public section

noncomputable section

namespace Cert.Calc.Er

open Idealize.ShloMosaic hiding ix1 ix2 ix3 ix4
open Idealize.ShloMosaic.ValueIdx Cert.KernelInbIdeal Cert.KernelInbIdeal.Gen
open scoped BigOperators

local notation "𝔽" => Idealize.ShloMosaic.Ideal
local notation "𝕍" => Elt Idealize.ShloMosaic.Ideal

/-! ### Loads -/

section Loads
variable {sp : Space}

theorem load3 {a b c l m n : ℕ} (v : View sig .tc sp (⟨3, ![a, b, c]⟩ : Shape) .bf16) (X : v.ty.Contents 𝕍) (p q r : ℕ)
    (inb : ∀ x : Fin 3, (![p, q, r] : Fin 3 → ℕ) x + (![l, m, n] : Fin 3 → ℕ) x ≤ (![a, b, c] : Fin 3 → ℕ) x) (f : ℕ → ℕ → ℕ → EReal)
    [hv : E3 (v.read 𝕍 X) f] :
    E3 (View.readAt 𝕍 v (Rect.unit (s := ⟨3, ![a, b, c]⟩) ![p, q, r] (![l, m, n] : Fin 3 → ℕ) inb).toLoadRect X)
      (fun t i j => f (p + t) (q + i) (r + j)) := by
  refine ⟨fun t i j => ?_⟩
  have h0 : p + l ≤ a := inb 0
  have h1 : q + m ≤ b := inb 1
  have h2 : r + n ≤ c := inb 2
  refine (congrArg (v.read 𝕍 X) ?_).trans (hv.eq ⟨p + t, by have := t.isLt; omega⟩ ⟨q + i, by have := i.isLt; omega⟩
    ⟨r + j, by have := j.isLt; omega⟩)
  funext ax
  match ax with
  | ⟨0, _⟩ => exact Fin.ext (show p + 1 * t.val = p + t.val by omega)
  | ⟨1, _⟩ => exact Fin.ext (show q + 1 * i.val = q + i.val by omega)
  | ⟨2, _⟩ => exact Fin.ext (show r + 1 * j.val = r + j.val by omega)

theorem load3f {a b c l m n : ℕ} (v : View sig .tc sp (⟨3, ![a, b, c]⟩ : Shape) .f32) (X : v.ty.Contents 𝕍) (p q r : ℕ)
    (inb : ∀ x : Fin 3, (![p, q, r] : Fin 3 → ℕ) x + (![l, m, n] : Fin 3 → ℕ) x ≤ (![a, b, c] : Fin 3 → ℕ) x) (f : ℕ → ℕ → ℕ → EReal)
    [hv : E3 (v.read 𝕍 X) f] :
    E3 (View.readAt 𝕍 v (Rect.unit (s := ⟨3, ![a, b, c]⟩) ![p, q, r] (![l, m, n] : Fin 3 → ℕ) inb).toLoadRect X)
      (fun t i j => f (p + t) (q + i) (r + j)) := by
  refine ⟨fun t i j => ?_⟩
  have h0 : p + l ≤ a := inb 0
  have h1 : q + m ≤ b := inb 1
  have h2 : r + n ≤ c := inb 2
  refine (congrArg (v.read 𝕍 X) ?_).trans (hv.eq ⟨p + t, by have := t.isLt; omega⟩ ⟨q + i, by have := i.isLt; omega⟩
    ⟨r + j, by have := j.isLt; omega⟩)
  funext ax
  match ax with
  | ⟨0, _⟩ => exact Fin.ext (show p + 1 * t.val = p + t.val by omega)
  | ⟨1, _⟩ => exact Fin.ext (show q + 1 * i.val = q + i.val by omega)
  | ⟨2, _⟩ => exact Fin.ext (show r + 1 * j.val = r + j.val by omega)

/-- A slab of the gradients at the convolution. -/
instance slab_conv (v : View sig .tc sp (⟨3, ![3, 256, 1024]⟩ : Shape) .bf16) (X : v.ty.Contents 𝕍) (p : ℕ)
    (inb : ∀ x : Fin 3, (![p, 0, 0] : Fin 3 → ℕ) x + (![1, 256, 1024] : Fin 3 → ℕ) x ≤ (![3, 256, 1024] : Fin 3 → ℕ) x) (f : ℕ → ℕ → ℕ → EReal)
    [hv : E3 (v.read 𝕍 X) f] :
    E3 (View.readAt 𝕍 v (Rect.unit (s := ⟨3, ![3, 256, 1024]⟩) ![p, 0, 0] (![1, 256, 1024] : Fin 3 → ℕ) inb).toLoadRect X)
      (fun _ i j => f p i j) :=
  (load3 v X p 0 0 inb f).congr fun t i j ht _ _ => by rw [Nat.lt_one_iff.mp ht, Nat.add_zero, Nat.zero_add, Nat.zero_add]
/-- A slab of the gradients of the gates. -/
instance slab_gate (v : View sig .tc sp (⟨3, ![2, 256, 1024]⟩ : Shape) .bf16) (X : v.ty.Contents 𝕍) (p : ℕ)
    (inb : ∀ x : Fin 3, (![p, 0, 0] : Fin 3 → ℕ) x + (![1, 256, 1024] : Fin 3 → ℕ) x ≤ (![2, 256, 1024] : Fin 3 → ℕ) x) (f : ℕ → ℕ → ℕ → EReal)
    [hv : E3 (v.read 𝕍 X) f] :
    E3 (View.readAt 𝕍 v (Rect.unit (s := ⟨3, ![2, 256, 1024]⟩) ![p, 0, 0] (![1, 256, 1024] : Fin 3 → ℕ) inb).toLoadRect X)
      (fun _ i j => f p i j) :=
  (load3 v X p 0 0 inb f).congr fun t i j ht _ _ => by rw [Nat.lt_one_iff.mp ht, Nat.add_zero, Nat.zero_add, Nat.zero_add]
/-- A slab of the gradients of the keys and values. -/
instance slab_kv (v : View sig .tc sp (⟨3, ![2, 256, 1024]⟩ : Shape) .f32) (X : v.ty.Contents 𝕍) (p : ℕ)
    (inb : ∀ x : Fin 3, (![p, 0, 0] : Fin 3 → ℕ) x + (![1, 256, 1024] : Fin 3 → ℕ) x ≤ (![2, 256, 1024] : Fin 3 → ℕ) x) (f : ℕ → ℕ → ℕ → EReal)
    [hv : E3 (v.read 𝕍 X) f] :
    E3 (View.readAt 𝕍 v (Rect.unit (s := ⟨3, ![2, 256, 1024]⟩) ![p, 0, 0] (![1, 256, 1024] : Fin 3 → ℕ) inb).toLoadRect X)
      (fun _ i j => f p i j) :=
  (load3f v X p 0 0 inb f).congr fun t i j ht _ _ => by rw [Nat.lt_one_iff.mp ht, Nat.add_zero, Nat.zero_add, Nat.zero_add]
/-- A slab of the matrix. -/
instance slab_w (v : View sig .tc sp (⟨3, ![8, 1024, 1024]⟩ : Shape) .bf16) (X : v.ty.Contents 𝕍) (p : ℕ)
    (inb : ∀ x : Fin 3, (![p, 0, 0] : Fin 3 → ℕ) x + (![1, 1024, 1024] : Fin 3 → ℕ) x ≤ (![8, 1024, 1024] : Fin 3 → ℕ) x) (f : ℕ → ℕ → ℕ → EReal)
    [hv : E3 (v.read 𝕍 X) f] :
    E3 (View.readAt 𝕍 v (Rect.unit (s := ⟨3, ![8, 1024, 1024]⟩) ![p, 0, 0] (![1, 1024, 1024] : Fin 3 → ℕ) inb).toLoadRect X)
      (fun _ i j => f p i j) :=
  (load3 v X p 0 0 inb f).congr fun t i j ht _ _ => by rw [Nat.lt_one_iff.mp ht, Nat.add_zero, Nat.zero_add, Nat.zero_add]
/-- A whole matrix. -/
instance load_all {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x) (f : ℕ → ℕ → EReal)
    [hv : E2 (v.read 𝕍 X) f] :
    E2 (View.readAt 𝕍 v (Rect.unit (s := ⟨2, ![a, b]⟩) ![0, 0] (![a, b] : Fin 2 → ℕ) inb).toLoadRect X) f := by
  refine ⟨fun i j => ?_⟩
  refine (congrArg (v.read 𝕍 X) ?_).trans (hv.eq i j)
  funext ax
  match ax with
  | ⟨0, _⟩ => exact Fin.ext (show 0 + 1 * i.val = i.val by omega)
  | ⟨1, _⟩ => exact Fin.ext (show 0 + 1 * j.val = j.val by omega)
/-- A matrix stored whole. -/
theorem whole2 {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x)
    (w : (⟨2, ![a, b]⟩ : Shape).Idx → EReal) (g : ℕ → ℕ → EReal) [h1 : E2 w g] :
    E2 (v.read 𝕍 (v.writes 𝕍 X [⟨Rect.unit (s := ⟨2, ![a, b]⟩) ![0, 0] (![a, b] : Fin 2 → ℕ) inb, w⟩])) g := by
  refine ⟨fun i j => ?_⟩
  refine (View.read_writes_cons_unit_of_mem (s := ⟨2, ![a, b]⟩) v X inb w _ (ix2 i j) (ix2 i j) rfl ?_).trans (h1.eq _ _)
  intro ax
  match ax with
  | ⟨0, _⟩ => exact (Nat.zero_add _).symm
  | ⟨1, _⟩ => exact (Nat.zero_add _).symm

/-- A whole matrix of the short format. -/
instance load_allb {a b : ℕ} (v : View sig .tc sp (⟨2, ![a, b]⟩ : Shape) .bf16) (X : v.ty.Contents 𝕍)
    (inb : ∀ x : Fin 2, (![0, 0] : Fin 2 → ℕ) x + (![a, b] : Fin 2 → ℕ) x ≤ (![a, b] : Fin 2 → ℕ) x) (f : ℕ → ℕ → EReal)
    [hv : E2 (v.read 𝕍 X) f] :
    E2 (View.readAt 𝕍 v (Rect.unit (s := ⟨2, ![a, b]⟩) ![0, 0] (![a, b] : Fin 2 → ℕ) inb).toLoadRect X) f := by
  refine ⟨fun i j => ?_⟩
  refine (congrArg (v.read 𝕍 X) ?_).trans (hv.eq i j)
  funext ax
  match ax with
  | ⟨0, _⟩ => exact Fin.ext (show 0 + 1 * i.val = i.val by omega)
  | ⟨1, _⟩ => exact Fin.ext (show 0 + 1 * j.val = j.val by omega)
end Loads

/-! ### What the call computes on one block of rows -/

/-- The number of columns, as the programs write it. -/
abbrev cols : EReal := Ideal.ofBits .f32 0x44800000#32
/-- The constant under the root mean square, as the programs write it. -/
abbrev small : EReal := Ideal.ofBits .f32 0x358637BD#32

/-- The numbers that one step of the call reads. -/
structure Data where
  /-- The gradients at the convolution. -/
  conv : ℕ → ℕ → ℕ → EReal
  /-- The gradient of the queries. -/
  q : ℕ → ℕ → EReal
  /-- The gradients of the keys and values. -/
  kv : ℕ → ℕ → ℕ → EReal
  /-- The gradients of the gates. -/
  gate : ℕ → ℕ → ℕ → EReal
  /-- The matrix. -/
  w : ℕ → ℕ → ℕ → EReal
  /-- The layer's input. -/
  h : ℕ → ℕ → EReal
  /-- The scale of the norm. -/
  g : ℕ → EReal
  /-- The gradient along the residual. -/
  res : ℕ → ℕ → EReal

namespace Data
variable (D : Data)

/-- One slab's share of the gradient of the normed input. -/
def term (a : ℕ → ℕ → EReal) (j t e : ℕ) : EReal := ∑ k ∈ Finset.range 1024, a t k * D.w j e k
/-- The gradient of the normed input. -/
def dn (t e : ℕ) : EReal :=
  D.term D.q 3 t e + D.term (D.conv 0) 0 t e + D.term (D.conv 1) 1 t e + D.term (D.conv 2) 2 t e
    + D.term (D.kv 0) 4 t e + D.term (D.gate 0) 6 t e + D.term (D.kv 1) 5 t e + D.term (D.gate 1) 7 t e
/-- The mean of squares of a row, a small constant added. -/
def ms (t : ℕ) : EReal := Ideal.div (∑ k ∈ Finset.range 1024, D.h t k * D.h t k) cols + small
/-- The normed row. -/
def xh (t e : ℕ) : EReal := D.h t e * Ideal.rsqrt (D.ms t)
/-- The gradient of the layer's input. -/
def out (t e : ℕ) : EReal :=
  D.res t e + Ideal.rsqrt (D.ms t) * (D.dn t e * D.g e
    - D.xh t e * Ideal.div (∑ k ∈ Finset.range 1024, D.dn t k * D.g k * D.xh t k) cols)
/-- The block's share of the gradient of the norm's scale. -/
def part (e : ℕ) : EReal := ∑ t ∈ Finset.range 256, D.dn t e * D.xh t e

end Data

/-! ### The straight pieces -/

variable {f g : ℕ → ℕ → EReal} {prec : Option ContractPrecision}

instance rowsum_k (v : FVec 𝔽 S256x1024 .f32) [hv : E2 v f] :
    E1 (multiReduction .add [1] S256 v 0x00000000#32 reduces_S256x1024_S256 (.inl rfl) rfl) (fun i => ∑ j ∈ Finset.range 1024, f i j) :=
  rowsum v _ _ _ _
instance colsum_k (v : FVec 𝔽 S256x1024 .f32) [hv : E2 v f] :
    E1 (multiReduction .add [0] S1024 v 0x00000000#32 reduces_S256x1024_S1024 (.inl rfl) rfl) (fun j => ∑ i ∈ Finset.range 256, f i j) :=
  colsum v _ _ _ _
instance mm_k (l : FVec 𝔽 S256x1024 .bf16) (r : FVec 𝔽 S1024x1024 .bf16) (acc : FVec 𝔽 S256x1024 .f32)
    [E2 l f] [E2 r g] [E2 acc (fun _ _ => 0)] :
    E2 (matmul dot_S256x1024_S1024x1024_S256x1024_1_1_0_0_n_n prec l r acc) (fun i j => ∑ k ∈ Finset.range 1024, f i k * g j k) :=
  mm_nt l r acc

section Pieces
variable (D : Data)
variable (v3 : Vec 𝔽 S256x1024 .bf16) (v8 v14 v20 v33 v46 : Vec 𝔽 S1x256x1024 .bf16) (v26 v39 : Vec 𝔽 S1x256x1024 .f32)
variable (v5 v10 v16 v22 v29 v35 v42 v48 : Vec 𝔽 S1x1024x1024 .bf16)
variable (v25 v51 : FVec 𝔽 S256x1024 .f32) (v52 v79 : Vec 𝔽 S256x1024 .f32) (v53 v88 : Vec 𝔽 S1x1024 .f32) (v55 : FVec 𝔽 S256 .f32)

/-- The first four products. -/
theorem piece6 [E2 v3 D.q] [E3 v5 (fun _ i j => D.w 3 i j)] [E3 v8 (fun _ i j => D.conv 0 i j)] [E3 v10 (fun _ i j => D.w 0 i j)]
    [E3 v14 (fun _ i j => D.conv 1 i j)] [E3 v16 (fun _ i j => D.w 1 i j)] [E3 v20 (fun _ i j => D.conv 2 i j)] [E3 v22 (fun _ i j => D.w 2 i j)] :
    E2 (k0_pay6 v3 v5 v8 v10 v14 v16 v20 v22)
      (fun t e => D.term D.q 3 t e + D.term (D.conv 0) 0 t e + D.term (D.conv 1) 1 t e + D.term (D.conv 2) 2 t e) := by
  unfold k0_pay6
  exact E2.congr inferInstance fun _ _ _ _ => rfl
/-- All eight products. -/
theorem piece7 [E2 v25 (fun t e => D.term D.q 3 t e + D.term (D.conv 0) 0 t e + D.term (D.conv 1) 1 t e + D.term (D.conv 2) 2 t e)]
    [E3 v26 (fun _ i j => D.kv 0 i j)] [E3 v29 (fun _ i j => D.w 4 i j)] [E3 v33 (fun _ i j => D.gate 0 i j)] [E3 v35 (fun _ i j => D.w 6 i j)]
    [E3 v39 (fun _ i j => D.kv 1 i j)] [E3 v42 (fun _ i j => D.w 5 i j)] [E3 v46 (fun _ i j => D.gate 1 i j)] [E3 v48 (fun _ i j => D.w 7 i j)] :
    E2 (k0_pay7 v25 v26 v29 v33 v35 v39 v42 v46 v48) D.dn := by
  unfold k0_pay7
  exact E2.congr inferInstance fun _ _ _ _ => rfl
/-- The sums of squares. -/
theorem piece8 [E2 v52 D.h] : E1 (k0_pay8 v52) (fun t => ∑ k ∈ Finset.range 1024, D.h t k * D.h t k) := by
  unfold k0_pay8
  exact rowsum_k (mulf v52 v52)
theorem piece1 [E1 v55 (fun t => ∑ k ∈ Finset.range 1024, D.h t k * D.h t k)] : E2 (k0_pay1 v55) (fun t _ => Ideal.rsqrt (D.ms t)) := by
  unfold k0_pay1
  exact E2.congr inferInstance fun _ _ _ _ => rfl
theorem piece2 [E2 v52 D.h] [E1 v55 (fun t => ∑ k ∈ Finset.range 1024, D.h t k * D.h t k)] : E2 (k0_pay2 v52 v55) D.xh := by
  haveI := piece1 D v55
  unfold k0_pay2
  exact E2.congr inferInstance fun _ _ _ _ => rfl
theorem piece3 [E2 v51 D.dn] [E2 v52 D.h] [E1 v55 (fun t => ∑ k ∈ Finset.range 1024, D.h t k * D.h t k)] :
    E2 (k0_pay3 v51 v52 v55) (fun _ e => D.part e) := by
  haveI := piece2 D v52 v55
  unfold k0_pay3
  exact E2.congr inferInstance fun _ _ _ _ => rfl
/-- The gradient of the layer's input. -/
theorem piece4 [E2 v51 D.dn] [E2 v52 D.h] [E2 v53 (fun _ e => D.g e)] [E1 v55 (fun t => ∑ k ∈ Finset.range 1024, D.h t k * D.h t k)]
    [E2 v79 D.res] : E2 (k0_pay4 v51 v52 v53 v55 v79) D.out := by
  haveI := piece2 D v52 v55
  haveI := piece1 D v55
  unfold k0_pay4
  exact E2.congr inferInstance fun _ _ _ _ => rfl
theorem piece5 [E2 v51 D.dn] [E2 v52 D.h] [E1 v55 (fun t => ∑ k ∈ Finset.range 1024, D.h t k * D.h t k)] (A : ℕ → EReal)
    [E2 v88 (fun _ e => A e)] : E2 (k0_pay5 v51 v52 v55 v88) (fun _ e => A e + D.part e) := by
  haveI := piece3 D v51 v52 v55
  unfold k0_pay5
  exact E2.congr inferInstance fun _ _ _ _ => rfl

end Pieces

/-! ### The matrix as the first step fetches it -/

theorem fill_w (c : Dev nD) (arg11 : Memref sig .tc .vmem S8x1024x1024 .bf16) (fh0 : HbBuf0 (F := 𝔽) c hbM0_0) (W : ℕ → ℕ → ℕ → EReal)
    (Y : BufTy.Contents 𝕍 arg11.view.ty)
    [h : E3 (View.read 𝕍 (Memref.whole main_v3).view fh0) W] :
    E3 (arg11.view.read 𝕍 (arg11.view.writes 𝕍 Y
      [⟨Rect.whole S8x1024x1024, kernelRun0_A.sl.dma0 c fh0⟩])) W := by
  refine ⟨fun i j k => ?_⟩
  refine (View.read_writes_cons_unit_of_mem (s := ⟨3, ![8, 1024, 1024]⟩) arg11.view Y (off := fun _ => 0) (size := ![8, 1024, 1024])
    (fun a => (Nat.zero_add _).le) (kernelRun0_A.sl.dma0 (F := 𝔽) c fh0) [] (ix3 i j k) (ix3 i j k) rfl
    (fun a => (Nat.zero_add _).symm)).trans ?_
  exact h.eq i j k

end Cert.Calc.Er
-- ==== Proof.InbStep.lean ====
module

public import proofs.«01_k».proof.Proof.InbPay
public import proofs.«01_k».proof.Proof.Gen.KernelInbIdeal.Frame.RunB

/-!
What one step of the input projection's backward leaves in its outputs.
-/

@[expose] public section

noncomputable section

namespace Cert.Calc.Er

open Idealize.ShloMosaic hiding ix1 ix2 ix3 ix4
open Idealize.ShloMosaic.ValueIdx Cert.KernelInbIdeal Cert.KernelInbIdeal.Gen
open scoped BigOperators

local notation "𝔽" => Idealize.ShloMosaic.Ideal
local notation "𝕍" => Elt Idealize.ShloMosaic.Ideal

variable (c : Dev nD) (i : grid0.Coords)
variable (arg1 : Memref sig .tc .vmem S3x256x1024 .bf16) (harg1 : arg1.IsWhole)
variable (arg2 : Memref sig .tc .vmem S256x1024 .bf16) (harg2 : arg2.IsWhole)
variable (arg3 : Memref sig .tc .vmem S2x256x1024 .f32) (harg3 : arg3.IsWhole)
variable (arg4 : Memref sig .tc .vmem S2x256x1024 .bf16) (harg4 : arg4.IsWhole)
variable (arg6 : Memref sig .tc .vmem S256x1024 .f32) (harg6 : arg6.IsWhole)
variable (arg7 : Memref sig .tc .vmem S1x1024 .f32) (harg7 : arg7.IsWhole)
variable (arg8 : Memref sig .tc .vmem S256x1024 .f32) (harg8 : arg8.IsWhole)
variable (arg9 : Memref sig .tc .vmem S256x1024 .f32) (harg9 : arg9.IsWhole)
variable (arg10 : Memref sig .tc .vmem S1x1024 .f32) (harg10 : arg10.IsWhole)
variable (arg11 : Memref sig .tc .vmem S8x1024x1024 .bf16) (harg11 : arg11.IsWhole)
variable (x0 : Vec 𝔽 S3x256x1024 .bf16)
variable (x1 : Vec 𝔽 S256x1024 .bf16)
variable (x2 : Vec 𝔽 S2x256x1024 .f32)
variable (x3 : Vec 𝔽 S2x256x1024 .bf16)
variable (x4 : Vec 𝔽 S256x1024 .f32)
variable (x5 : Vec 𝔽 S1x1024 .f32)
variable (x6 : Vec 𝔽 S256x1024 .f32)
variable (xo8 : Vec 𝔽 S1x1024 .f32) (xs0 : Vec 𝔽 S8x1024x1024 .bf16)
variable (fh0 : HbBuf0 (F := 𝔽) c hbM0_0)
variable (D : Data)

/-- The first step fetches the matrix and starts the gradient of the norm's scale. -/
theorem step_A (hc0 : cond0_0 i) (hc1 : cond0_1 i) (hc2 : ¬cond0_2 i)
    [h0 : E3 x0 D.conv] [h1 : E2 x1 D.q] [h2 : E3 x2 D.kv] [h3 : E3 x3 D.gate] [h4 : E2 x4 D.h] [h5 : E2 x5 (fun _ e => D.g e)] [h6 : E2 x6 D.res]
    [hW : E3 (View.read 𝕍 (Memref.whole main_v3).view fh0) D.w]
    (Y9 : BufTy.Contents 𝕍 arg9.view.ty) (Y10 : BufTy.Contents 𝕍 arg10.view.ty) (Y11 : BufTy.Contents 𝕍 arg11.view.ty) :
    E2 (arg9.view.read 𝕍 (arg9.view.writes 𝕍 Y9 (kernelRun0_A (F := 𝔽) c i arg1 harg1 arg2 harg2 arg3 harg3 arg4 harg4 arg6 harg6 arg7 harg7 arg8 harg8 arg9 harg9 arg10 harg10 arg11 harg11 hc0 hc1 hc2 x0 x1 x2 x3 x4 x5 x6 fh0).1)) D.out ∧
    E2 (arg10.view.read 𝕍 (arg10.view.writes 𝕍 Y10 (kernelRun0_A (F := 𝔽) c i arg1 harg1 arg2 harg2 arg3 harg3 arg4 harg4 arg6 harg6 arg7 harg7 arg8 harg8 arg9 harg9 arg10 harg10 arg11 harg11 hc0 hc1 hc2 x0 x1 x2 x3 x4 x5 x6 fh0).2.1)) (fun _ e => D.part e) ∧
    E3 (arg11.view.read 𝕍 (arg11.view.writes 𝕍 Y11 (kernelRun0_A (F := 𝔽) c i arg1 harg1 arg2 harg2 arg3 harg3 arg4 harg4 arg6 harg6 arg7 harg7 arg8 harg8 arg9 harg9 arg10 harg10 arg11 harg11 hc0 hc1 hc2 x0 x1 x2 x3 x4 x5 x6 fh0).2.2.1)) D.w := by
  haveI : E3 (arg1.view.read 𝕍 (harg1.unread x0)) D.conv := by rw [harg1.read_unread]; infer_instance
  haveI : E2 (arg2.view.read 𝕍 (harg2.unread x1)) D.q := by rw [harg2.read_unread]; infer_instance
  haveI : E3 (arg3.view.read 𝕍 (harg3.unread x2)) D.kv := by rw [harg3.read_unread]; infer_instance
  haveI : E3 (arg4.view.read 𝕍 (harg4.unread x3)) D.gate := by rw [harg4.read_unread]; infer_instance
  haveI : E2 (arg6.view.read 𝕍 (harg6.unread x4)) D.h := by rw [harg6.read_unread]; infer_instance
  haveI : E2 (arg7.view.read 𝕍 (harg7.unread x5)) (fun _ e => D.g e) := by rw [harg7.read_unread]; infer_instance
  haveI : E2 (arg8.view.read 𝕍 (harg8.unread x6)) D.res := by rw [harg8.read_unread]; infer_instance
  have hw : ∀ Y, E3 (arg11.view.read 𝕍 (arg11.view.writes 𝕍 Y [⟨Rect.whole S8x1024x1024, kernelRun0_A.sl.dma0 c fh0⟩])) D.w :=
    fun Y => fill_w c arg11 fh0 D.w Y
  haveI := hw arg11.view.junk
  haveI : E3 (kernelRun0_A.sl.v5 (F := 𝔽) c arg11 fh0) (fun _ i j => D.w 3 i j) :=
    slab_w arg11.view (arg11.view.writes 𝕍 arg11.view.junk _) 3 _ _
  haveI : E3 (kernelRun0_A.sl.v10 (F := 𝔽) c arg11 fh0) (fun _ i j => D.w 0 i j) :=
    slab_w arg11.view (arg11.view.writes 𝕍 arg11.view.junk _) 0 _ _
  haveI : E3 (kernelRun0_A.sl.v16 (F := 𝔽) c arg11 fh0) (fun _ i j => D.w 1 i j) :=
    slab_w arg11.view (arg11.view.writes 𝕍 arg11.view.junk _) 1 _ _
  haveI : E3 (kernelRun0_A.sl.v22 (F := 𝔽) c arg11 fh0) (fun _ i j => D.w 2 i j) :=
    slab_w arg11.view (arg11.view.writes 𝕍 arg11.view.junk _) 2 _ _
  haveI : E3 (kernelRun0_A.sl.v29 (F := 𝔽) c arg11 fh0) (fun _ i j => D.w 4 i j) :=
    slab_w arg11.view (arg11.view.writes 𝕍 arg11.view.junk _) 4 _ _
  haveI : E3 (kernelRun0_A.sl.v35 (F := 𝔽) c arg11 fh0) (fun _ i j => D.w 6 i j) :=
    slab_w arg11.view (arg11.view.writes 𝕍 arg11.view.junk _) 6 _ _
  haveI : E3 (kernelRun0_A.sl.v42 (F := 𝔽) c arg11 fh0) (fun _ i j => D.w 5 i j) :=
    slab_w arg11.view (arg11.view.writes 𝕍 arg11.view.junk _) 5 _ _
  haveI : E3 (kernelRun0_A.sl.v48 (F := 𝔽) c arg11 fh0) (fun _ i j => D.w 7 i j) :=
    slab_w arg11.view (arg11.view.writes 𝕍 arg11.view.junk _) 7 _ _
  haveI : E2 (kernelRun0_A.sl.r (F := 𝔽) c arg1 harg1 arg2 harg2 arg11 x0 x1 fh0) (fun t e => D.term D.q 3 t e + D.term (D.conv 0) 0 t e + D.term (D.conv 1) 1 t e + D.term (D.conv 2) 2 t e) := by
    unfold kernelRun0_A.sl.r; exact piece6 D _ _ _ _ _ _ _ _
  haveI : E2 (kernelRun0_A.sl.r_1 (F := 𝔽) c arg1 harg1 arg2 harg2 arg3 harg3 arg4 harg4 arg11 x0 x1 x2 x3 fh0) D.dn := by
    unfold kernelRun0_A.sl.r_1; exact piece7 D _ _ _ _ _ _ _ _ _
  haveI : E2 (kernelRun0_A.sl.r_2 (F := 𝔽) c arg6 harg6 x4) D.h := by
    unfold kernelRun0_A.sl.r_2; infer_instance
  haveI : E2 (kernelRun0_A.sl.r_3 (F := 𝔽) c arg7 harg7 x5) (fun _ e => D.g e) := by
    unfold kernelRun0_A.sl.r_3; infer_instance
  haveI : E1 (kernelRun0_A.sl.r_4 (F := 𝔽) c arg6 harg6 x4) (fun t => ∑ k ∈ Finset.range 1024, D.h t k * D.h t k) := by
    unfold kernelRun0_A.sl.r_4; exact piece8 D _
  unfold kernelRun0_A
  dsimp only
  refine ⟨?_, ?_, hw Y11⟩
  · haveI := piece4 D
    exact whole2 _ _ _ _ _
  · haveI := piece3 D
    exact whole2 _ _ _ _ _

/-- A later step finds the matrix in place and adds to the gradient of the norm's scale. -/
theorem step_B (hc0 : ¬cond0_0 i) (hc1 : ¬cond0_1 i) (hc2 : cond0_2 i)
    [h0 : E3 x0 D.conv] [h1 : E2 x1 D.q] [h2 : E3 x2 D.kv] [h3 : E3 x3 D.gate] [h4 : E2 x4 D.h] [h5 : E2 x5 (fun _ e => D.g e)] [h6 : E2 x6 D.res]
    (A : ℕ → EReal) [h7 : E2 xo8 (fun _ e => A e)] [h8 : E3 xs0 D.w]
    (Y9 : BufTy.Contents 𝕍 arg9.view.ty) (Y10 : BufTy.Contents 𝕍 arg10.view.ty) :
    E2 (arg9.view.read 𝕍 (arg9.view.writes 𝕍 Y9 (kernelRun0_B (F := 𝔽) c i arg1 harg1 arg2 harg2 arg3 harg3 arg4 harg4 arg6 harg6 arg7 harg7 arg8 harg8 arg9 harg9 arg10 harg10 arg11 harg11 hc0 hc1 hc2 x0 x1 x2 x3 x4 x5 x6 xo8 xs0 fh0).1)) D.out ∧
    E2 (arg10.view.read 𝕍 (arg10.view.writes 𝕍 Y10 (kernelRun0_B (F := 𝔽) c i arg1 harg1 arg2 harg2 arg3 harg3 arg4 harg4 arg6 harg6 arg7 harg7 arg8 harg8 arg9 harg9 arg10 harg10 arg11 harg11 hc0 hc1 hc2 x0 x1 x2 x3 x4 x5 x6 xo8 xs0 fh0).2.1)) (fun _ e => A e + D.part e) := by
  haveI : E3 (arg1.view.read 𝕍 (harg1.unread x0)) D.conv := by rw [harg1.read_unread]; infer_instance
  haveI : E2 (arg2.view.read 𝕍 (harg2.unread x1)) D.q := by rw [harg2.read_unread]; infer_instance
  haveI : E3 (arg3.view.read 𝕍 (harg3.unread x2)) D.kv := by rw [harg3.read_unread]; infer_instance
  haveI : E3 (arg4.view.read 𝕍 (harg4.unread x3)) D.gate := by rw [harg4.read_unread]; infer_instance
  haveI : E2 (arg6.view.read 𝕍 (harg6.unread x4)) D.h := by rw [harg6.read_unread]; infer_instance
  haveI : E2 (arg7.view.read 𝕍 (harg7.unread x5)) (fun _ e => D.g e) := by rw [harg7.read_unread]; infer_instance
  haveI : E2 (arg8.view.read 𝕍 (harg8.unread x6)) D.res := by rw [harg8.read_unread]; infer_instance
  haveI : E2 (arg10.view.read 𝕍 (harg10.unread xo8)) (fun _ e => A e) := by rw [harg10.read_unread]; infer_instance
  haveI : E3 (arg11.view.read 𝕍 (harg11.unread xs0)) D.w := by rw [harg11.read_unread]; infer_instance
  haveI : E2 (kernelRun0_B.sl.r (F := 𝔽) c arg1 harg1 arg2 harg2 arg11 harg11 x0 x1 xs0) (fun t e => D.term D.q 3 t e + D.term (D.conv 0) 0 t e + D.term (D.conv 1) 1 t e + D.term (D.conv 2) 2 t e) := by
    unfold kernelRun0_B.sl.r; exact piece6 D _ _ _ _ _ _ _ _
  haveI : E2 (kernelRun0_B.sl.r_1 (F := 𝔽) c arg1 harg1 arg2 harg2 arg3 harg3 arg4 harg4 arg11 harg11 x0 x1 x2 x3 xs0) D.dn := by
    unfold kernelRun0_B.sl.r_1; exact piece7 D _ _ _ _ _ _ _ _ _
  haveI : E2 (kernelRun0_B.sl.r_2 (F := 𝔽) c arg6 harg6 x4) D.h := by
    unfold kernelRun0_B.sl.r_2; infer_instance
  haveI : E2 (kernelRun0_B.sl.r_3 (F := 𝔽) c arg7 harg7 x5) (fun _ e => D.g e) := by
    unfold kernelRun0_B.sl.r_3; infer_instance
  haveI : E1 (kernelRun0_B.sl.r_4 (F := 𝔽) c arg6 harg6 x4) (fun t => ∑ k ∈ Finset.range 1024, D.h t k * D.h t k) := by
    unfold kernelRun0_B.sl.r_4; exact piece8 D _
  unfold kernelRun0_B
  dsimp only
  refine ⟨?_, ?_⟩
  · haveI := piece4 D
    exact whole2 _ _ _ _ _
  · haveI := piece5 D
    exact whole2 _ _ _ _ _

end Cert.Calc.Er
-- ==== Proof.InbGrid.lean ====
module

public import proofs.«01_k».proof.Proof.InbStep
public import proofs.«01_k».proof.Proof.Gen.KernelInbIdeal.Value
public import Idealize.ShloMosaic.Lib.Pipeline.ValueKit

/-!
The grid of the input projection's backward: point `t` works on the rows from `256 * t`.
-/

@[expose] public section

noncomputable section

namespace Cert.Calc.Er

open Idealize.ShloMosaic hiding ix1 ix2 ix3 ix4
open Idealize.ShloMosaic.ValueIdx
open Idealize.ShloMosaic.TcCoe
open Cert.KernelInbIdeal Cert.KernelInbIdeal.Gen
open scoped BigOperators

local notation "𝔽" => Idealize.ShloMosaic.Ideal
local notation "𝕍" => Elt Idealize.ShloMosaic.Ideal

/-- The block of rows `n` of what the call works on. -/
def Data.rows (D : Data) (n : ℕ) : Data where
  conv j t := D.conv j (256 * n + t)
  q t := D.q (256 * n + t)
  kv j t := D.kv j (256 * n + t)
  gate j t := D.gate j (256 * n + t)
  w := D.w
  h t := D.h (256 * n + t)
  g := D.g
  res t := D.res (256 * n + t)

/-- The call's arguments read as functions. -/
structure Args (m : (ℓ : Loc nD τ sig) → Buf 𝕍 ℓ) (c : Dev nD) (D : Data) : Prop where
  /-- Argument 0. -/
  conv : E3 (a := 3) (b := 2048) (c := 1024) (m ((c.tc : Thread nD τ).loc main_arg0)) D.conv
  /-- Argument 1. -/
  q : E2 (a := 2048) (b := 1024) (m ((c.tc : Thread nD τ).loc main_arg1)) D.q
  /-- Argument 2. -/
  kv : E3 (a := 2) (b := 2048) (c := 1024) (m ((c.tc : Thread nD τ).loc main_arg2)) D.kv
  /-- Argument 3. -/
  gate : E3 (a := 2) (b := 2048) (c := 1024) (m ((c.tc : Thread nD τ).loc main_arg3)) D.gate
  /-- Argument 4. -/
  w : E3 (a := 8) (b := 1024) (c := 1024) (m ((c.tc : Thread nD τ).loc main_arg4)) D.w
  /-- Argument 5. -/
  h : E2 (a := 2048) (b := 1024) (m ((c.tc : Thread nD τ).loc main_arg5)) D.h
  /-- Argument 6. -/
  g : E2 (a := 1) (b := 1024) (m ((c.tc : Thread nD τ).loc main_arg6)) (fun _ e => D.g e)
  /-- Argument 7. -/
  res : E2 (a := 2048) (b := 1024) (m ((c.tc : Thread nD τ).loc main_arg7)) D.res

section Blocks
variable (m : (ℓ : Loc nD τ sig) → Buf 𝕍 ℓ) (c : Dev nD) (t : Fin cfg0.N)

/-! ### What the host prepares -/

theorem V_v0 : V m c main_v0 = truncf (F := 𝔽) .bf16 (m ((c.tc : Thread nD τ).loc main_arg0)) bitsLt_bf16_f32 := by
  show StableHlo.after _ _ _ = _
  after_results
theorem V_v1 : V m c main_v1 = truncf (F := 𝔽) .bf16 (m ((c.tc : Thread nD τ).loc main_arg1)) bitsLt_bf16_f32 := by
  show StableHlo.after _ _ _ = _
  after_results
theorem V_v2 : V m c main_v2 = truncf (F := 𝔽) .bf16 (m ((c.tc : Thread nD τ).loc main_arg3)) bitsLt_bf16_f32 := by
  show StableHlo.after _ _ _ = _
  after_results
theorem V_v3 : V m c main_v3 = truncf (F := 𝔽) .bf16 (m ((c.tc : Thread nD τ).loc main_arg4)) bitsLt_bf16_f32 := by
  show StableHlo.after _ _ _ = _
  after_results
theorem V_a2 : V m c main_arg2 = (m ((c.tc : Thread nD τ).loc main_arg2)) := by
  show StableHlo.after _ _ _ = _
  after_results
theorem V_a5 : V m c main_arg5 = (m ((c.tc : Thread nD τ).loc main_arg5)) := by
  show StableHlo.after _ _ _ = _
  after_results
theorem V_a6 : V m c main_arg6 = (m ((c.tc : Thread nD τ).loc main_arg6)) := by
  show StableHlo.after _ _ _ = _
  after_results
theorem V_a7 : V m c main_arg7 = (m ((c.tc : Thread nD τ).loc main_arg7)) := by
  show StableHlo.after _ _ _ = _
  after_results

/-! ### The blocks -/

theorem N8 (t : Fin cfg0.N) : t.val < 8 := lt_of_lt_of_eq t.isLt (show cfg0.N = 8 from N_0)

theorem idx0 : ∀ t : Fin cfg0.N, win0_0.index t = ![0, t.val, 0] := by decide +kernel
theorem idx1 : ∀ t : Fin cfg0.N, win0_1.index t = ![t.val, 0] := by decide +kernel
theorem idx2 : ∀ t : Fin cfg0.N, win0_2.index t = ![0, t.val, 0] := by decide +kernel
theorem idx3 : ∀ t : Fin cfg0.N, win0_3.index t = ![0, t.val, 0] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![0, 0] := by decide +kernel

theorem blk0 (h : Fin 3) (i : Fin 256) (j : Fin 1024) : iblk m c 0 t (ix3 h i j)
    = V m c main_v0 (ix3 h (⟨256 * t.val + i, by have := N8 t; omega⟩ : Fin 2048) j) := by
  have := N8 t
  blk_ext [iblk, idx0 t]
  · show t.val * 256 + i.val = 256 * t.val + i.val; omega
theorem blk1 (i : Fin 256) (j : Fin 1024) : iblk m c 1 t (ix2 i j)
    = V m c main_v1 (ix2 (⟨256 * t.val + i, by have := N8 t; omega⟩ : Fin 2048) j) := by
  have := N8 t
  blk_ext [iblk, idx1 t]
  · show t.val * 256 + i.val = 256 * t.val + i.val; omega
theorem blk2 (h : Fin 2) (i : Fin 256) (j : Fin 1024) : iblk m c 2 t (ix3 h i j)
    = V m c main_arg2 (ix3 h (⟨256 * t.val + i, by have := N8 t; omega⟩ : Fin 2048) j) := by
  have := N8 t
  blk_ext [iblk, idx2 t]
  · show t.val * 256 + i.val = 256 * t.val + i.val; omega
theorem blk3 (h : Fin 2) (i : Fin 256) (j : Fin 1024) : iblk m c 3 t (ix3 h i j)
    = V m c main_v2 (ix3 h (⟨256 * t.val + i, by have := N8 t; omega⟩ : Fin 2048) j) := by
  have := N8 t
  blk_ext [iblk, idx3 t]
  · show t.val * 256 + i.val = 256 * t.val + i.val; omega
theorem blk4 (i : Fin 256) (j : Fin 1024) : iblk m c 4 t (ix2 i j)
    = V m c main_arg5 (ix2 (⟨256 * t.val + i, by have := N8 t; omega⟩ : Fin 2048) j) := by
  have := N8 t
  blk_ext [iblk, idx4 t]
  · show t.val * 256 + i.val = 256 * t.val + i.val; omega
theorem blk5 (i : Fin 1) (j : Fin 1024) : iblk m c 5 t (ix2 i j) = V m c main_arg6 (ix2 i j) := by
  blk_ext [iblk, idx5 t]
theorem blk6 (i : Fin 256) (j : Fin 1024) : iblk m c 6 t (ix2 i j)
    = V m c main_arg7 (ix2 (⟨256 * t.val + i, by have := N8 t; omega⟩ : Fin 2048) j) := by
  have := N8 t
  blk_ext [iblk, idx6 t]
  · show t.val * 256 + i.val = 256 * t.val + i.val; omega

variable (D : Data) (hA : Args m c D)

include hA
theorem in0 : E3 (a := 3) (b := 256) (c := 1024) (iblk m c 0 t) (D.rows t.val).conv :=
  ⟨fun h i j => (blk0 m c t h i j).trans (by rw [V_v0]; exact hA.conv.eq h (⟨256 * t.val + i, by have := N8 t; omega⟩ : Fin 2048) j)⟩
theorem in1 : E2 (a := 256) (b := 1024) (iblk m c 1 t) (D.rows t.val).q :=
  ⟨fun i j => (blk1 m c t i j).trans (by rw [V_v1]; exact hA.q.eq (⟨256 * t.val + i, by have := N8 t; omega⟩ : Fin 2048) j)⟩
theorem in2 : E3 (a := 2) (b := 256) (c := 1024) (iblk m c 2 t) (D.rows t.val).kv :=
  ⟨fun h i j => (blk2 m c t h i j).trans (by rw [V_a2]; exact hA.kv.eq h (⟨256 * t.val + i, by have := N8 t; omega⟩ : Fin 2048) j)⟩
theorem in3 : E3 (a := 2) (b := 256) (c := 1024) (iblk m c 3 t) (D.rows t.val).gate :=
  ⟨fun h i j => (blk3 m c t h i j).trans (by rw [V_v2]; exact hA.gate.eq h (⟨256 * t.val + i, by have := N8 t; omega⟩ : Fin 2048) j)⟩
theorem in4 : E2 (a := 256) (b := 1024) (iblk m c 4 t) (D.rows t.val).h :=
  ⟨fun i j => (blk4 m c t i j).trans (by rw [V_a5]; exact hA.h.eq (⟨256 * t.val + i, by have := N8 t; omega⟩ : Fin 2048) j)⟩
theorem in5 : E2 (a := 1) (b := 1024) (iblk m c 5 t) (fun _ e => (D.rows t.val).g e) :=
  ⟨fun i j => (blk5 m c t i j).trans (by rw [V_a6]; exact hA.g.eq i j)⟩
theorem in6 : E2 (a := 256) (b := 1024) (iblk m c 6 t) (D.rows t.val).res :=
  ⟨fun i j => (blk6 m c t i j).trans (by rw [V_a7]; exact hA.res.eq (⟨256 * t.val + i, by have := N8 t; omega⟩ : Fin 2048) j)⟩

/-! ### The steps -/

theorem outs_A (h0 : t.val % 8 = 0) (h1 : t.val % 8 = 0) (h2 : ¬1 ≤ t.val) :
    E2 (a := 256) (b := 1024) (outsAt0 m c t.val t.isLt).1 (D.rows t.val).out ∧
    E2 (a := 1) (b := 1024) (outsAt0 m c t.val t.isLt).2.1 (fun _ e => ∑ k ∈ Finset.range (t.val + 1), (D.rows k).part e) ∧
    E3 (a := 8) (b := 1024) (c := 1024) (outsAt0 m c t.val t.isLt).2.2 D.w := by
  haveI := in0 m c t D hA
  haveI := in1 m c t D hA
  haveI := in2 m c t D hA
  haveI := in3 m c t D hA
  haveI := in4 m c t D hA
  haveI := in5 m c t D hA
  haveI := in6 m c t D hA
  haveI hw : E3 (View.read 𝕍 (Memref.whole main_v3).view (V m c main_v3)) (D.rows t.val).w :=
    ⟨fun i j k => by rw [V_v3]; exact hA.w.eq i j k⟩
  have hs := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (V m c main_v3) (D.rows t.val)
    ((hcond0_0 t).mpr h0) ((hcond0_1 t).mpr h1) (fun h => h2 ((hcond0_2 t).mp h))
    (ms0_7 t).view.junk (ms0_8 t).view.junk scM0_0.view.junk
  rw [outsAt0_A m c t h0 h1 h2]
  refine ⟨?_, ?_, ?_⟩
  · unfold out0_A_7
    rw [View.read_writes_of_cover VO0_7 VO0_7.junk (ms0_7 t).view (ms0_7 t).view.junk _ (cover0_A_7 c _ _ _ _ _ _ _ _ _ _ _ _ _ _ _ _ _ _ _ _ _ _ _ _ _ _ _ _ _ _ _ _)]
    dsimp only
    exact hs.1
  · unfold out0_A_8
    rw [View.read_writes_of_cover VO0_8 VO0_8.junk (ms0_8 t).view (ms0_8 t).view.junk _ (cover0_A_8 c _ _ _ _ _ _ _ _ _ _ _ _ _ _ _ _ _ _ _ _ _ _ _ _ _ _ _ _ _ _ _ _)]
    dsimp only
    refine hs.2.1.congr fun _ e _ _ => ?_
    rw [show t.val = 0 by omega, Nat.zero_add, Finset.sum_range_one]
  · unfold sout0_A_0
    rw [View.read_writes_of_cover VS0_0 VS0_0.junk scM0_0.view scM0_0.view.junk _ (scover0_A_0 c _ _ _ _ _ _ _ _ _ _ _ _ _ _ _ _ _ _ _ _ _ _ _ _ _ _ _ _ _ _ _ _)]
    dsimp only
    exact hs.2.2.congr fun _ _ _ _ _ _ => rfl

theorem outs_B (h0 : ¬t.val % 8 = 0) (h1 : ¬t.val % 8 = 0) (h2 : 1 ≤ t.val)
    (hp : E2 (a := 1) (b := 1024) (outsAt0 m c (t.val - 1) (Nat.lt_of_le_of_lt (Nat.sub_le _ _) t.isLt)).2.1 (fun _ e => ∑ k ∈ Finset.range (t.val - 1 + 1), (D.rows k).part e))
    (hp0 : E3 (a := 8) (b := 1024) (c := 1024) (outsAt0 m c (t.val - 1) (Nat.lt_of_le_of_lt (Nat.sub_le _ _) t.isLt)).2.2 D.w) :
    E2 (a := 256) (b := 1024) (outsAt0 m c t.val t.isLt).1 (D.rows t.val).out ∧
    E2 (a := 1) (b := 1024) (outsAt0 m c t.val t.isLt).2.1 (fun _ e => ∑ k ∈ Finset.range (t.val + 1), (D.rows k).part e) ∧
    E3 (a := 8) (b := 1024) (c := 1024) (outsAt0 m c t.val t.isLt).2.2 D.w := by
  haveI := in0 m c t D hA
  haveI := in1 m c t D hA
  haveI := in2 m c t D hA
  haveI := in3 m c t D hA
  haveI := in4 m c t D hA
  haveI := in5 m c t D hA
  haveI := in6 m c t D hA
  haveI : E3 (a := 8) (b := 1024) (c := 1024) (outsAt0 m c (t.val - 1) (Nat.lt_of_le_of_lt (Nat.sub_le _ _) t.isLt)).2.2 (D.rows t.val).w := hp0
  have hs := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2
    (V m c main_v3) (D.rows t.val)
    (fun h => h0 ((hcond0_0 t).mp h)) (fun h => h1 ((hcond0_1 t).mp h)) ((hcond0_2 t).mpr h2) (fun e => ∑ k ∈ Finset.range (t.val - 1 + 1), (D.rows k).part e)
    (ms0_7 t).view.junk (ms0_8 t).view.junk
  rw [outsAt0_B m c t h0 h1 h2]
  refine ⟨?_, ?_, ?_⟩
  · unfold out0_B_7
    rw [View.read_writes_of_cover VO0_7 VO0_7.junk (ms0_7 t).view (ms0_7 t).view.junk _ (cover0_B_7 c _ _ _ _ _ _ _ _ _ _ _ _ _ _ _ _ _ _ _ _ _ _ _ _ _ _ _ _ _ _ _ _ _ _)]
    dsimp only
    exact hs.1
  · unfold out0_B_8
    rw [View.read_writes_of_cover VO0_8 VO0_8.junk (ms0_8 t).view (ms0_8 t).view.junk _ (cover0_B_8 c _ _ _ _ _ _ _ _ _ _ _ _ _ _ _ _ _ _ _ _ _ _ _ _ _ _ _ _ _ _ _ _ _ _)]
    dsimp only
    refine hs.2.congr fun _ e _ _ => ?_
    rw [show t.val - 1 + 1 = t.val by omega, Finset.sum_range_succ]
  · exact hp0

theorem outs (n : ℕ) (hn : n < cfg0.N) :
    E2 (a := 256) (b := 1024) (outsAt0 m c n hn).1 (D.rows n).out ∧
    E2 (a := 1) (b := 1024) (outsAt0 m c n hn).2.1 (fun _ e => ∑ k ∈ Finset.range (n + 1), (D.rows k).part e) ∧
    E3 (a := 8) (b := 1024) (c := 1024) (outsAt0 m c n hn).2.2 D.w := by
  induction n with
  | zero => exact outs_A m c ⟨0, hn⟩ D hA rfl rfl (by simp)
  | succ n ih =>
    have h8 := N8 ⟨n + 1, hn⟩
    have h := ih (by omega)
    exact outs_B m c ⟨n + 1, hn⟩ D hA (by show ¬(n + 1) % 8 = 0; simp only at h8; omega) (by show ¬(n + 1) % 8 = 0; simp only at h8; omega)
      (by show 1 ≤ n + 1; omega) h.2.1 h.2.2

end Blocks

/-! ### The result arrays -/

/-- The gradient of the norm's scale. -/
def Data.scale (D : Data) (e : ℕ) : EReal := ∑ t ∈ Finset.range 2048, D.dn t e * D.xh t e

theorem sum_rows (F : ℕ → EReal) (n : ℕ) :
    ∑ k ∈ Finset.range n, ∑ r ∈ Finset.range 256, F (256 * k + r) = ∑ r ∈ Finset.range (256 * n), F r := by
  induction n with
  | zero => rfl
  | succ n ih => rw [Finset.sum_range_succ, ih, Nat.mul_succ, Finset.sum_range_add]

theorem rows_scale (D : Data) (e : ℕ) : ∑ k ∈ Finset.range 8, (D.rows k).part e = D.scale e :=
  sum_rows (fun t => D.dn t e * D.xh t e) 8

section Arrays
variable (m : (ℓ : Loc nD τ sig) → Buf 𝕍 ℓ) (c : Dev nD) (D : Data) (hA : Args m c D)

include hA
theorem arr7 : (dats m 0 c).arrAt 7 cfg0.N
    = (fun y => D.out (y 0).val (y 1).val : FVec 𝔽 S2048x1024 .f32) := by
  refine (dats m 0 c).arrAt_eq_of_covers 7 _ (by decide +kernel) fun t hf y => ?_
  have h := ((outs m c D hA t.val t.isLt).1).eq (y 0) (y 1)
  blk_simp [idx7 t]
  rw [after0_7]
  refine (congrArg _ (ValueIdx.eq_ix2 (n0 := 256) (n1 := 1024) y)).trans (h.trans ?_)
  rw [Nat.mul_comm _ 256]
  rfl

theorem arr8 : (dats m 0 c).arrAt 8 cfg0.N
    = (fun y => D.scale (y 1).val : FVec 𝔽 S1x1024 .f32) := by
  refine (dats m 0 c).arrAt_eq_of_covers 8 _ (by decide +kernel) fun t hf y => ?_
  have h3 := (flush0_8 t).mp hf
  have h := ((outs m c D hA t.val t.isLt).2.1).eq (y 0) (y 1)
  have h8 := N8 t
  rw [show t.val + 1 = 8 by omega, rows_scale] at h
  blk_simp [idx8 t]
  rw [after0_8]
  exact (congrArg _ (ValueIdx.eq_ix2 (n0 := 1) (n1 := 1024) y)).trans h

end Arrays

end Cert.Calc.Er
-- ==== Proof.InbRef.lean ====
module

public import proofs.«01_k».proof.Proof.ECalc
public import proofs.«01_k».proof.Proof.FfnHost
public import proofs.«01_k».proof.Proof.InbGrid
public import proofs.«01_k».proof.Proof.Gen.ReferenceInbIdeal.Run

/-!
The input projection's backward: the reference's two results, read as extended-real functions, and
the equality of the two forms of the norm's backward. A row with an infinite entry has an infinite
mean square, hence a zero scale, and both forms give zero there.
-/

@[expose] public section

noncomputable section

namespace Cert.Calc.Er

open Idealize.ShloMosaic hiding ix1 ix2 ix3 ix4
open Idealize.ShloMosaic.ValueIdx
open Idealize.ShloMosaic.TcCoe
open Cert.ReferenceInbIdeal Cert.ReferenceInbIdeal.Gen
open scoped BigOperators

local notation "𝔽" => Idealize.ShloMosaic.Ideal
local notation "𝕍" => Elt Idealize.ShloMosaic.Ideal

/-! ### Extended reals -/

theorem cols_eq : cols = ((1024 : ℝ) : EReal) := Ff.bits_1024
theorem div_cols (y : EReal) : Ideal.div y cols = y * ((1 / 1024 : ℝ) : EReal) := by
  rw [cols_eq]
  exact Ideal.div_coe (by norm_num) y

theorem sq_nonneg (y : EReal) : 0 ≤ y * y := by
  induction y with
  | bot => rw [EReal.bot_mul_bot]; exact le_top
  | top => rw [EReal.top_mul_top]; exact le_top
  | coe r => exact_mod_cast mul_self_nonneg r

/-- A nonnegative real factor comes out of a sum. -/
theorem sum_scale (f : ℕ → EReal) (ρ : ℝ) (hρ : 0 ≤ ρ) (n : ℕ) :
    ∑ k ∈ Finset.range n, f k * (ρ : EReal) = (∑ k ∈ Finset.range n, f k) * (ρ : EReal) := by
  induction n with
  | zero => rw [Finset.sum_range_zero, Finset.sum_range_zero, zero_mul]
  | succ n ih =>
    rw [Finset.sum_range_succ, Finset.sum_range_succ, ih,
      EReal.right_distrib_of_nonneg_of_ne_top (by exact_mod_cast hρ) (EReal.coe_ne_top ρ)]

theorem twice (y : EReal) : y + y = y * ((2 : ℝ) : EReal) := by
  have h : ((2 : ℝ) : EReal) = 1 + 1 := by
    have : (2 : ℝ) = 1 + 1 := by norm_num
    rw [this, EReal.coe_add, EReal.coe_one]
  rw [h, EReal.left_distrib_of_nonneg zero_le_one zero_le_one, mul_one]

theorem sum_coe (f : ℕ → ℝ) (n : ℕ) : ((∑ k ∈ Finset.range n, f k : ℝ) : EReal) = ∑ k ∈ Finset.range n, (f k : EReal) := by
  induction n with
  | zero => rw [Finset.sum_range_zero, Finset.sum_range_zero, EReal.coe_zero]
  | succ n ih => rw [Finset.sum_range_succ, Finset.sum_range_succ, EReal.coe_add, ih]

/-- A sum of squares with an infinite entry is infinite. -/
theorem sum_sq_top (x : ℕ → EReal) (n k : ℕ) (hk : k < n) (h : x k = ⊤ ∨ x k = ⊥) : ∑ k ∈ Finset.range n, x k * x k = ⊤ := by
  have h1 : x k * x k = ⊤ := by
    rcases h with h | h
    · rw [h, EReal.top_mul_top]
    · rw [h, EReal.bot_mul_bot]
  have h2 := Finset.single_le_sum (f := fun k => x k * x k) (fun i _ => sq_nonneg (x i)) (Finset.mem_range.mpr hk)
  rw [h1] at h2
  exact top_le_iff.mp h2

/-- The norm's backward as the kernel forms it and as the reference forms it. -/
theorem norm_eq (x A : ℕ → EReal) (s r L : EReal) (hs : s = Ideal.div (∑ k ∈ Finset.range 1024, x k * x k) cols + small)
    (hr : r = Ideal.rsqrt s)
    (hL : L = Ideal.div ((∑ k ∈ Finset.range 1024, x k * A k) * (Ideal.ofBits .f32 0xBF000000#32 * Ideal.div r s)) cols) (e : ℕ) (he : e < 1024) :
    r * (A e - x e * r * Ideal.div (∑ k ∈ Finset.range 1024, A k * (x k * r)) cols) = A e * r + x e * L + L * x e := by
  by_cases h : ∃ k, k < 1024 ∧ (x k = ⊤ ∨ x k = ⊥)
  · obtain ⟨k, hk, hx⟩ := h
    have h1 : s = ⊤ := by
      rw [hs, sum_sq_top x 1024 k hk hx, div_cols, EReal.top_mul_coe_of_pos (by norm_num), small, Ff.bits_eps, EReal.top_add_coe]
    have h2 : r = 0 := by rw [hr, h1]; exact Ideal.rsqrt_top
    have h3 : Ideal.div r s = 0 := by
      rw [h1, h2]; unfold Ideal.div; rw [if_neg EReal.top_ne_zero, zero_mul]
    have h4 : L = 0 := by rw [hL, h3, mul_zero, mul_zero, div_cols, zero_mul]
    rw [h4, h2, zero_mul, mul_zero, mul_zero, zero_mul, add_zero, add_zero]
  · have hreal : ∀ k, k < 1024 → x k = ((x k).toReal : EReal) := fun k hk =>
      (EReal.coe_toReal (fun h' => h ⟨k, hk, Or.inl h'⟩) (fun h' => h ⟨k, hk, Or.inr h'⟩)).symm
    set ξ : ℕ → ℝ := fun k => (x k).toReal with hξ
    have h0 : ∑ k ∈ Finset.range 1024, x k * x k = ((∑ k ∈ Finset.range 1024, ξ k * ξ k : ℝ) : EReal) := by
      rw [sum_coe]
      exact Finset.sum_congr rfl fun k hk => by rw [EReal.coe_mul, ← hreal k (Finset.mem_range.mp hk)]
    obtain ⟨σ, hσ, h1⟩ : ∃ σ : ℝ, 0 < σ ∧ s = (σ : EReal) :=
      ⟨(∑ k ∈ Finset.range 1024, ξ k * ξ k) * (1 / 1024) + Ff.eps,
        add_pos_of_nonneg_of_pos (mul_nonneg (Finset.sum_nonneg fun k _ => mul_self_nonneg _) (by norm_num)) Ff.eps_pos, by
          rw [hs, h0, div_cols, small, Ff.bits_eps, EReal.coe_add, EReal.coe_mul]⟩
    have hsq : (0 : ℝ) < Real.sqrt σ := Real.sqrt_pos.mpr hσ
    obtain ⟨ρ, hρ, h2, h3⟩ : ∃ ρ : ℝ, 0 < ρ ∧ r = (ρ : EReal) ∧ 1 / σ = ρ * ρ :=
      ⟨(Real.sqrt σ)⁻¹, inv_pos.mpr hsq, by
        rw [hr, h1]
        show (if σ < 0 then ⊥ else if σ = 0 then ⊤ else (((Real.sqrt σ)⁻¹ : ℝ) : EReal)) = _
        rw [if_neg hσ.not_gt, if_neg hσ.ne'], by
        rw [← mul_inv, Real.mul_self_sqrt hσ.le, one_div]⟩
    have h4 : ∑ k ∈ Finset.range 1024, A k * (x k * r) = (∑ k ∈ Finset.range 1024, x k * A k) * (ρ : EReal) := by
      rw [← sum_scale _ ρ hρ.le, h2]
      exact Finset.sum_congr rfl fun k _ => by rw [← mul_assoc, mul_comm (A k)]
    have h5 : Ideal.div r s = ((ρ * (ρ * ρ) : ℝ) : EReal) := by
      rw [h1, h2, Ideal.div_coe hσ.ne', h3, ← EReal.coe_mul]
    rw [h4, h2]
    generalize (∑ k ∈ Finset.range 1024, x k * A k) = T at hL
    rw [h5, Ff.bits_mhalf, div_cols, ← EReal.coe_mul, mul_assoc, ← EReal.coe_mul] at hL
    have h6 : x e * L = T * ((-(ξ e * ρ * ρ * ρ / 1024) / 2 : ℝ) : EReal) := by
      rw [hL, hreal e he, ← mul_assoc, mul_comm _ T, mul_assoc, ← EReal.coe_mul]
      exact congrArg (fun z : ℝ => T * (z : EReal)) (by show ξ e * _ = _; ring)
    have h7 : (ρ : EReal) * (x e * (ρ : EReal) * Ideal.div (T * (ρ : EReal)) cols) = T * ((ξ e * ρ * ρ * ρ / 1024 : ℝ) : EReal) := by
      rw [div_cols, hreal e he, mul_assoc T, ← EReal.coe_mul, ← EReal.coe_mul, ← mul_assoc, ← EReal.coe_mul, mul_left_comm, ← EReal.coe_mul]
      exact congrArg (fun z : ℝ => T * (z : EReal)) (by show _ = ξ e * ρ * ρ * ρ / 1024; ring)
    rw [sub_eq_add_neg, EReal.left_distrib_of_nonneg_of_ne_top (by exact_mod_cast hρ.le) (EReal.coe_ne_top ρ), mul_neg, h7,
      mul_comm L, h6, add_assoc, twice, mul_assoc T, ← EReal.coe_mul, mul_comm (A e), ← mul_neg, ← EReal.coe_neg]
    congr 3
    ring

/-! ### The reference's operations -/

instance const_zero : E0 (constant (F := 𝔽) (⟨0, ![]⟩ : Shape) .f32 0x00000000#32) 0 := ⟨fun _ => Ideal.ofBits_zero .f32⟩

/-- The reference's product of the gradients with the matrices. -/
instance hdot_ct (prec : Option ContractPrecision) (l : FVec 𝔽 S8x1024x2048 .f32) (r : FVec 𝔽 S8x1024x1024 .f32) (f g : ℕ → ℕ → ℕ → EReal)
    [hl : E3 l f] [hr : E3 r g] :
    E2 (Host.dotGeneral dot_S8x1024x2048_S8x1024x1024_S2048x1024_01_02_2_1_n_n prec l r)
      (fun t d => ∑ j ∈ Finset.range 8, ∑ e ∈ Finset.range 1024, f j e t * g j d e) :=
  ⟨fun t d => by
    refine (Ideal.matmul_apply₂_of (d := dot_S8x1024x2048_S8x1024x1024_S2048x1024_01_02_2_1_n_n) (K₁ := 8) (K₂ := 1024) rfl rfl rfl l r _ (ix2 t d)
      (fun j e => ix3 j e t) (fun j e => ix3 j d e) (fun j e => ?_) (fun j e => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · refine (zero_add _).trans (sum_of _ _ fun j => sum_of _ _ fun e => ?_)
      rw [hl.eq, hr.eq]⟩

/-- The gradients at the projection's eight slabs. -/
def rCt (dconv : FVec 𝔽 S3x2048x1024 .f32) (dq : FVec 𝔽 S2048x1024 .f32) (dkv dgate : FVec 𝔽 S2x2048x1024 .f32) : FVec 𝔽 S8x2048x1024 .f32 :=
  addf (addf (addf (pad S8x2048x1024 ![6, 0, 0] ![0, 0, 0] ![0, 0, 0] dgate (constant S_ .f32 0x00000000#32) pads_S2x2048x1024_S8x2048x1024_600_000_000 h_S_)
    (pad S8x2048x1024 ![4, 0, 0] ![2, 0, 0] ![0, 0, 0] dkv (constant S_ .f32 0x00000000#32) pads_S2x2048x1024_S8x2048x1024_420_000_000 h_S_))
    (pad S8x2048x1024 ![3, 0, 0] ![4, 0, 0] ![0, 0, 0] (broadcastInDim S1x2048x1024 ![1, 2] bcast_S2048x1024_S1x2048x1024_1_2 dq)
      (constant S_ .f32 0x00000000#32) pads_S1x2048x1024_S8x2048x1024_340_000_000 h_S_))
    (pad S8x2048x1024 ![0, 0, 0] ![5, 0, 0] ![0, 0, 0] dconv (constant S_ .f32 0x00000000#32) pads_S3x2048x1024_S8x2048x1024_050_000_000 h_S_)

/-- The gradient of the normed input. -/
def rDn (dconv : FVec 𝔽 S3x2048x1024 .f32) (dq : FVec 𝔽 S2048x1024 .f32) (dkv dgate : FVec 𝔽 S2x2048x1024 .f32) (w : FVec 𝔽 S8x1024x1024 .f32) : FVec 𝔽 S2048x1024 .f32 :=
  Host.dotGeneral dot_S8x1024x2048_S8x1024x1024_S2048x1024_01_02_2_1_n_n none
    (transpose S8x1024x2048 [0, 2, 1] (rCt dconv dq dkv dgate) transposes_S8x2048x1024_S8x1024x2048_0_2_1) w

/-- The mean squares of the rows, a small constant added. -/
def rMs (h : FVec 𝔽 S2048x1024 .f32) : FVec 𝔽 S2048x1 .f32 :=
  addf (Host.divf (broadcastInDim S2048x1 ![0] bcast_S2048_S2048x1_0 (Host.reduceAdd (mulf h h) (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x358637BD#32))

/-- The normed input. -/
def rXh (h : FVec 𝔽 S2048x1024 .f32) : FVec 𝔽 S2048x1024 .f32 :=
  mulf h (broadcastInDim S2048x1024 ![0, 1] bcast_S2048x1_S2048x1024_0_1 (Host.rsqrt (rMs h)))

/-- The gradient that reaches a row through its mean square. -/
def rL (h A : FVec 𝔽 S2048x1024 .f32) : FVec 𝔽 S2048x1024 .f32 :=
  broadcastInDim S2048x1024 ![0] bcast_S2048_S2048x1024_0 (Host.reduceAdd (Host.divf
    (mulf (shapeCast S2048x1 (Host.reduceAdd (mulf h A) (constant S_ .f32 0x00000000#32) reducesTo_S2048x1024_S2048_d1 h_S_) shapeCasts_S2048_S2048x1)
      (mulf (broadcastInDim S2048x1 ![] bcast_S_S2048x1 (constant S_ .f32 0xBF000000#32)) (Host.divf (Host.rsqrt (rMs h)) (rMs h))))
    (broadcastInDim S2048x1 ![] bcast_S_S2048x1 (constant S_ .f32 0x44800000#32))) (constant S_ .f32 0x00000000#32) reducesTo_S2048x1_S2048_d1 h_S_)

/-- The gradient of the layer's input. -/
def rOut (h A res : FVec 𝔽 S2048x1024 .f32) : FVec 𝔽 S2048x1024 .f32 :=
  addf res (addf (addf (mulf A (broadcastInDim S2048x1024 ![0, 1] bcast_S2048x1_S2048x1024_0_1 (Host.rsqrt (rMs h))))
    (mulf h (rL h A))) (mulf (rL h A) h))

/-- The gradient of the norm's scale. -/
def rScale (h dn : FVec 𝔽 S2048x1024 .f32) : FVec 𝔽 S1x1024 .f32 :=
  shapeCast S1x1024 (Host.reduceAdd (mulf (rXh h) dn) (constant S_ .f32 0x00000000#32) reducesTo_S2048x1024_S1024_d0 h_S_) shapeCasts_S1024_S1x1024

variable (D : Data)

section Readings
variable (dconv : FVec 𝔽 S3x2048x1024 .f32) (dq : FVec 𝔽 S2048x1024 .f32) (dkv dgate : FVec 𝔽 S2x2048x1024 .f32) (w : FVec 𝔽 S8x1024x1024 .f32)
variable (h A res dn : FVec 𝔽 S2048x1024 .f32)

/-- The gradients at the eight slabs, as numbers. -/
def Data.ct (j t e : ℕ) : EReal :=
  (if 6 ≤ j ∧ j - 6 < 2 then D.gate (j - 6) t e else 0) + (if 4 ≤ j ∧ j - 4 < 2 then D.kv (j - 4) t e else 0)
    + (if 3 ≤ j ∧ j - 3 < 1 then D.q t e else 0) + (if 0 ≤ j ∧ j - 0 < 3 then D.conv (j - 0) t e else 0)

theorem rCt_is [E3 dconv D.conv] [E2 dq D.q] [E3 dkv D.kv] [E3 dgate D.gate] : E3 (rCt dconv dq dkv dgate) D.ct := by
  unfold rCt
  exact E3.congr inferInstance fun _ _ _ _ _ _ => rfl

/-- The eight slabs' sum is the kernel's eight products. -/
theorem ct_sum (t d : ℕ) : ∑ j ∈ Finset.range 8, ∑ e ∈ Finset.range 1024, D.ct j t e * D.w j d e = D.dn t d := by
  have h0 : ∀ e, D.ct 0 t e = D.conv 0 t e := fun e => by simp [Data.ct]
  have h1 : ∀ e, D.ct 1 t e = D.conv 1 t e := fun e => by simp [Data.ct]
  have h2 : ∀ e, D.ct 2 t e = D.conv 2 t e := fun e => by simp [Data.ct]
  have h3 : ∀ e, D.ct 3 t e = D.q t e := fun e => by simp [Data.ct]
  have h4 : ∀ e, D.ct 4 t e = D.kv 0 t e := fun e => by simp [Data.ct]
  have h5 : ∀ e, D.ct 5 t e = D.kv 1 t e := fun e => by simp [Data.ct]
  have h6 : ∀ e, D.ct 6 t e = D.gate 0 t e := fun e => by simp [Data.ct]
  have h7 : ∀ e, D.ct 7 t e = D.gate 1 t e := fun e => by simp [Data.ct]
  rw [Finset.sum_range_succ, Finset.sum_range_succ, Finset.sum_range_succ, Finset.sum_range_succ, Finset.sum_range_succ, Finset.sum_range_succ,
    Finset.sum_range_succ, Finset.sum_range_one]
  simp only [h0, h1, h2, h3, h4, h5, h6, h7]
  unfold Data.dn
  change D.term (D.conv 0) 0 t d + D.term (D.conv 1) 1 t d + D.term (D.conv 2) 2 t d + D.term D.q 3 t d + D.term (D.kv 0) 4 t d
    + D.term (D.kv 1) 5 t d + D.term (D.gate 0) 6 t d + D.term (D.gate 1) 7 t d = _
  generalize D.term (D.conv 0) 0 t d = a0
  generalize D.term (D.conv 1) 1 t d = a1
  generalize D.term (D.conv 2) 2 t d = a2
  generalize D.term D.q 3 t d = a3
  generalize D.term (D.kv 0) 4 t d = a4
  generalize D.term (D.kv 1) 5 t d = a5
  generalize D.term (D.gate 0) 6 t d = a6
  generalize D.term (D.gate 1) 7 t d = a7
  ac_rfl

theorem rDn_is [E3 dconv D.conv] [E2 dq D.q] [E3 dkv D.kv] [E3 dgate D.gate] [E3 w D.w] : E2 (rDn dconv dq dkv dgate w) D.dn := by
  haveI := rCt_is D dconv dq dkv dgate
  unfold rDn
  exact E2.congr inferInstance fun t d _ _ => ct_sum D t d

theorem rMs_is [E2 h D.h] : E2 (rMs h) (fun t _ => D.ms t) := by
  unfold rMs
  exact E2.congr inferInstance fun _ _ _ _ => rfl
theorem rXh_is [E2 h D.h] : E2 (rXh h) D.xh := by
  haveI := rMs_is D h
  unfold rXh
  exact E2.congr inferInstance fun _ _ _ _ => rfl
/-- The gradient that reaches a row through its mean square, as a number. -/
def Data.L (B : ℕ → ℕ → EReal) (t : ℕ) : EReal :=
  Ideal.div ((∑ k ∈ Finset.range 1024, D.h t k * B t k) * (Ideal.ofBits .f32 0xBF000000#32 * Ideal.div (Ideal.rsqrt (D.ms t)) (D.ms t))) cols
theorem rL_is (B : ℕ → ℕ → EReal) [E2 h D.h] [E2 A B] : E2 (rL h A) (fun t _ => D.L B t) := by
  haveI := rMs_is D h
  unfold rL
  exact E2.congr inferInstance fun _ _ _ _ => Finset.sum_range_one _
theorem rOut_is [E2 h D.h] [E2 A (fun t e => D.dn t e * D.g e)] [E2 res D.res] : E2 (rOut h A res) D.out := by
  haveI := rMs_is D h
  haveI := rL_is D h A (fun t e => D.dn t e * D.g e)
  unfold rOut
  refine E2.congr inferInstance fun t e _ he => ?_
  exact congrArg (D.res t e + ·) (norm_eq (D.h t) (fun e => D.dn t e * D.g e) (D.ms t) _ _ rfl rfl rfl e he).symm
theorem rScale_is [E2 h D.h] [E2 dn D.dn] : E2 (rScale h dn) (fun _ e => D.scale e) := by
  haveI := rXh_is D h
  unfold rScale
  exact E2.congr inferInstance fun _ e _ _ => Finset.sum_congr rfl fun t _ => mul_comm _ _

end Readings

/-! ### The results -/

/-- The reference's arguments read as functions. -/
structure RefArgs (m : (ℓ : Loc nD τ sig) → Buf 𝕍 ℓ) (c : Dev nD) : Prop where
  /-- Argument 0. -/
  conv : E3 (a := 3) (b := 2048) (c := 1024) (m ((c.tc : Thread nD τ).loc main_arg0)) D.conv
  /-- Argument 1. -/
  q : E2 (a := 2048) (b := 1024) (m ((c.tc : Thread nD τ).loc main_arg1)) D.q
  /-- Argument 2. -/
  kv : E3 (a := 2) (b := 2048) (c := 1024) (m ((c.tc : Thread nD τ).loc main_arg2)) D.kv
  /-- Argument 3. -/
  gate : E3 (a := 2) (b := 2048) (c := 1024) (m ((c.tc : Thread nD τ).loc main_arg3)) D.gate
  /-- Argument 4. -/
  w : E3 (a := 8) (b := 1024) (c := 1024) (m ((c.tc : Thread nD τ).loc main_arg4)) D.w
  /-- Argument 5. -/
  h : E2 (a := 2048) (b := 1024) (m ((c.tc : Thread nD τ).loc main_arg5)) D.h
  /-- Argument 6. -/
  g : E2 (a := 1) (b := 1024) (m ((c.tc : Thread nD τ).loc main_arg6)) (fun _ e => D.g e)
  /-- Argument 7. -/
  res : E2 (a := 2048) (b := 1024) (m ((c.tc : Thread nD τ).loc main_arg7)) D.res

section Results
variable (m : (ℓ : Loc nD τ sig) → Buf 𝕍 ℓ) (c : Dev nD)

/-- The reference's gradient of the normed input, of the arguments. -/
abbrev dnOf : FVec 𝔽 S2048x1024 .f32 := rDn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem res0 : Value.res_out0 (F := 𝔽) m c
    = rOut (m ((c.tc : Thread nD τ).loc main_arg5)) (mulf (dnOf m c) (broadcastInDim S2048x1024 ![0, 1] bcast_S1x1024_S2048x1024_0_1 (m ((c.tc : Thread nD τ).loc main_arg6)))) (m ((c.tc : Thread nD τ).loc main_arg7)) := rfl

variable (hA : RefArgs D m c)

include hA
theorem ref0 : Value.res_out0 (F := 𝔽) m c = (fun y => D.out (y 0).val (y 1).val) := by
  rw [res0]
  haveI := hA.conv; haveI := hA.q; haveI := hA.kv; haveI := hA.gate; haveI := hA.w; haveI := hA.h; haveI := hA.g; haveI := hA.res
  haveI := rDn_is D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  haveI : E2 (mulf (dnOf m c) (broadcastInDim S2048x1024 ![0, 1] bcast_S1x1024_S2048x1024_0_1 (m ((c.tc : Thread nD τ).loc main_arg6)))) (fun t e => D.dn t e * D.g e) :=
    E2.congr inferInstance fun _ _ _ _ => rfl
  have k := rOut_is D (m ((c.tc : Thread nD τ).loc main_arg5)) (mulf (dnOf m c) (broadcastInDim S2048x1024 ![0, 1] bcast_S1x1024_S2048x1024_0_1 (m ((c.tc : Thread nD τ).loc main_arg6)))) (m ((c.tc : Thread nD τ).loc main_arg7))
  exact funext fun y => (congrArg _ (ValueIdx.eq_ix2 (n0 := 2048) (n1 := 1024) y)).trans (k.eq (y 0) (y 1))

theorem ref1 : rScale (m ((c.tc : Thread nD τ).loc main_arg5)) (dnOf m c) = (fun y => D.scale (y 1).val) := by
  haveI := hA.conv; haveI := hA.q; haveI := hA.kv; haveI := hA.gate; haveI := hA.w; haveI := hA.h
  haveI := rDn_is D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
  have k := rScale_is D (m ((c.tc : Thread nD τ).loc main_arg5)) (dnOf m c)
  exact funext fun y => (congrArg _ (ValueIdx.eq_ix2 (n0 := 1) (n1 := 1024) y)).trans (k.eq (y 0) (y 1))

end Results

end Cert.Calc.Er
-- ==== Proof.Inb.lean ====
module

public import proofs.«01_k».proof.Defs
public import proofs.«01_k».proof.Proof.InbRef

/-!
The input projection's backward: its reference's frame, and the equality of the kernel's and the
reference's two results, for all arguments.
-/

@[expose] public section

noncomputable section

namespace Cert.Calc

open Idealize.ShloMosaic hiding ix1 ix2 ix3 ix4
open Idealize.ShloMosaic.ValueIdx
open Idealize.ShloMosaic.TcCoe
open Idealize.SL.Sem

/-! ### The reference's frame -/

open Cert.ReferenceInbIdeal Cert.ReferenceInbIdeal.Gen in
/-- The reference is host operations only: its run read at the arguments; it declares no semaphore. -/
theorem Inb.frame : Cert.quiescent_ReferenceInbIdeal (hReferenceInbIdeal := Cert.ReferenceInbIdeal.Gen.facts) := fun m ρ _ =>
  (θ_run defs _ _).mono (fun r h => ⟨fun c => (h c).2.2, Idealize.ShloMosaic.sem_eq_zero_of_no_sems (by decide) r.2⟩)
    (Value.run (F := Idealize.ShloMosaic.Ideal) m ρ)

/-! ### The results -/

/-- What the call works on, of its arguments. -/
def Inb.data (m : (ℓ : Loc Cert.KernelInbIdeal.nD Cert.KernelInbIdeal.τ Cert.KernelInbIdeal.sig) → Buf (Elt Idealize.ShloMosaic.Ideal) ℓ) (c : Dev Cert.KernelInbIdeal.nD) : Er.Data where
  conv := Er.read3 (a := 3) (b := 2048) (c := 1024) (m ((c.tc : Thread Cert.KernelInbIdeal.nD Cert.KernelInbIdeal.τ).loc Cert.KernelInbIdeal.main_arg0))
  q := Er.read2 (a := 2048) (b := 1024) (m ((c.tc : Thread Cert.KernelInbIdeal.nD Cert.KernelInbIdeal.τ).loc Cert.KernelInbIdeal.main_arg1))
  kv := Er.read3 (a := 2) (b := 2048) (c := 1024) (m ((c.tc : Thread Cert.KernelInbIdeal.nD Cert.KernelInbIdeal.τ).loc Cert.KernelInbIdeal.main_arg2))
  gate := Er.read3 (a := 2) (b := 2048) (c := 1024) (m ((c.tc : Thread Cert.KernelInbIdeal.nD Cert.KernelInbIdeal.τ).loc Cert.KernelInbIdeal.main_arg3))
  w := Er.read3 (a := 8) (b := 1024) (c := 1024) (m ((c.tc : Thread Cert.KernelInbIdeal.nD Cert.KernelInbIdeal.τ).loc Cert.KernelInbIdeal.main_arg4))
  h := Er.read2 (a := 2048) (b := 1024) (m ((c.tc : Thread Cert.KernelInbIdeal.nD Cert.KernelInbIdeal.τ).loc Cert.KernelInbIdeal.main_arg5))
  g := Er.read2 (a := 1) (b := 1024) (m ((c.tc : Thread Cert.KernelInbIdeal.nD Cert.KernelInbIdeal.τ).loc Cert.KernelInbIdeal.main_arg6)) 0
  res := Er.read2 (a := 2048) (b := 1024) (m ((c.tc : Thread Cert.KernelInbIdeal.nD Cert.KernelInbIdeal.τ).loc Cert.KernelInbIdeal.main_arg7))

theorem Inb.args (m : (ℓ : Loc Cert.KernelInbIdeal.nD Cert.KernelInbIdeal.τ Cert.KernelInbIdeal.sig) → Buf (Elt Idealize.ShloMosaic.Ideal) ℓ) (c : Dev Cert.KernelInbIdeal.nD) : Er.Args m c (Inb.data m c) where
  conv := Er.read3_is (a := 3) (b := 2048) (c := 1024) _
  q := Er.read2_is (a := 2048) (b := 1024) _
  kv := Er.read3_is (a := 2) (b := 2048) (c := 1024) _
  gate := Er.read3_is (a := 2) (b := 2048) (c := 1024) _
  w := Er.read3_is (a := 8) (b := 1024) (c := 1024) _
  h := Er.read2_is (a := 2048) (b := 1024) _
  g := (Er.read2_is (a := 1) (b := 1024) _).congr fun i j hi _ => by rw [Nat.lt_one_iff.mp hi]; rfl
  res := Er.read2_is (a := 2048) (b := 1024) _

/-- The kernel's two results are the reference's. -/
theorem Inb.value : Cert.algebraic_KernelInbIdeal_ReferenceInbIdeal (hKernelInbIdeal := Cert.KernelInbIdeal.Gen.facts)
    (hReferenceInbIdeal := Cert.ReferenceInbIdeal.Gen.facts) := by
  intro m g m' g' _ hargs
  refine ⟨fun c => (Cert.KernelInbIdeal.Gen.dats m 0 c).arrAt 7 Cert.KernelInbIdeal.cfg0.N,
    fun c => (Cert.KernelInbIdeal.Gen.dats m 0 c).arrAt 8 Cert.KernelInbIdeal.cfg0.N, Cert.KernelInbIdeal.Value.run_blocks m g, ?_⟩
  refine (θ_run Cert.ReferenceInbIdeal.defs _ _).mono (fun r h c => ?_) (Cert.ReferenceInbIdeal.Value.run (F := Idealize.ShloMosaic.Ideal) m' g')
  obtain ⟨h0, h1, h2, h3, h4, h5, h6, h7⟩ := hargs c
  have kA := Inb.args m c
  have rA : Er.RefArgs (Inb.data m c) m' c :=
    ⟨h0 ▸ kA.conv, h1 ▸ kA.q, h2 ▸ kA.kv, h3 ▸ kA.gate, h4 ▸ kA.w, h5 ▸ kA.h, h6 ▸ kA.g, h7 ▸ kA.res⟩
  refine ⟨(h c).1.trans ((Er.ref0 _ m' c rA).trans ?_), (h c).2.1.trans ((Er.ref1 _ m' c rA).trans ?_), (h c).2.2⟩
  · exact (Er.arr7 m c _ kA).symm
  · exact (Er.arr8 m c _ kA).symm

end Cert.Calc
-- ==== Proof.FwdPay.lean ====
module

public import proofs.«01_k».proof.Proof.ECalc
public import proofs.«01_k».proof.Proof.Gen.KernelFwdIdeal.Frame.RunA
public import Idealize.ShloMosaic.Lib.WritesUnit

/-!
The feed-forward call's forward: what it computes on one block of rows, its loads, and the record of
a buffer of four slabs that is filled three tiles to a slab.
-/

@[expose] public section

noncomputable section

namespace Cert.Calc.Fw

open Idealize.ShloMosaic hiding ix1 ix2 ix3 ix4
open Idealize.ShloMosaic.ValueIdx Cert.KernelFwdIdeal Cert.KernelFwdIdeal.Gen
open Cert.Calc.Er
open scoped BigOperators

local notation "𝕍" => Elt Idealize.ShloMosaic.Ideal

/-! ### What the call computes on one block of rows -/

/-- The number zero, as the programs write it. -/
abbrev zer : EReal := Ideal.ofBits .f32 0x00000000#32
/-- The number one, as the programs write it. -/
abbrev one : EReal := Ideal.ofBits .f32 0x3F800000#32
/-- A half, as the programs write it. -/
abbrev half : EReal := Ideal.ofBits .f32 0x3F000000#32
/-- The number of columns, as the programs write it. -/
abbrev cols : EReal := Ideal.ofBits .f32 0x44800000#32
/-- The constant under the root mean square, as the programs write it. -/
abbrev small : EReal := Ideal.ofBits .f32 0x358637BD#32

/-- The numbers that one step of the call reads. -/
structure Data where
  /-- The rows. -/
  x : ℕ → ℕ → EReal
  /-- The norm's scale. -/
  g : ℕ → EReal
  /-- The matrix of the gates and the ups. -/
  w : ℕ → ℕ → ℕ → EReal
  /-- The second matrix, two pieces to a slab. -/
  p : ℕ → ℕ → ℕ → EReal

namespace Data
variable (D : Data)

/-- The normed rows. -/
def n (t e : ℕ) : EReal := D.x t e * Ideal.rsqrt (Ideal.div (∑ k ∈ Finset.range 1024, D.x t k * D.x t k) cols + small) * D.g e
/-- Eight slabs: the gates, then the ups. -/
def gu (j t m : ℕ) : EReal := ∑ k ∈ Finset.range 1024, D.n t k * D.w j m k
/-- The ups. -/
def up (j t m : ℕ) : EReal := D.gu (4 + j) t m
/-- The activations. -/
def act (j t m : ℕ) : EReal := D.gu j t m * Ideal.div one (one + Ideal.exp (zer - D.gu j t m)) * D.up j t m
/-- The second matrix with zero rows below each slab. -/
def d (j m e : ℕ) : EReal := if m < 704 then D.p (2 * j + m / 352) (m % 352) e else 0
/-- A slab's part of the second product. -/
def term (j t e : ℕ) : EReal := ∑ m ∈ Finset.range 768, D.act j t m * D.d j m e
/-- The new rows. -/
def out (t e : ℕ) : EReal := D.x t e + half * (zer + D.term 0 t e + D.term 1 t e + D.term 2 t e + D.term 3 t e)

end Data

/-! ### Operations -/

section Operations
variable {a b : ℕ} {φ : FTy} {f g : ℕ → ℕ → EReal}

instance exp2 (v : FVec Idealize.ShloMosaic.Ideal (⟨2, ![a, b]⟩ : Shape) φ) [hv : E2 v f] : E2 (exp v) (fun i j => Ideal.exp (f i j)) :=
  ⟨fun i j => by rw [← hv.eq]; rfl⟩
instance cast_layer (v : (⟨2, ![a, b]⟩ : Shape).Idx → EReal) (h : (⟨2, ![a, b]⟩ : Shape).ShapeCasts ⟨3, ![1, a, b]⟩) [hv : E2 v f] :
    E3 (shapeCast (⟨3, ![1, a, b]⟩ : Shape) v h) (fun _ i j => f i j) :=
  ⟨fun u i j => by rw [shapeCast_ab_1ab_apply, hv.eq]⟩
instance rowsum_k (v : FVec Idealize.ShloMosaic.Ideal S256x1024 .f32) [hv : E2 v f] :
    E1 (multiReduction .add [1] S256 v 0x00000000#32 reduces_S256x1024_S256 (.inl rfl) rfl) (fun i => ∑ j ∈ Finset.range 1024, f i j) :=
  Er.rowsum (a := 256) (b := 1024) v _ _ _ _
instance mm_up (l r : FVec Idealize.ShloMosaic.Ideal S256x1024 .bf16) [hl : E2 l f] [hr : E2 r g] :
    E2 (matmul dot_S256x1024_S256x1024_S256x256_1_1_0_0_n_n none l r (constant S256x256 .f32 0x00000000#32))
      (fun i j => ∑ k ∈ Finset.range 1024, f i k * g j k) :=
  Er.mm_nt (M := 256) (K := 1024) (N := 256) l r _
instance mm_dn (l : FVec Idealize.ShloMosaic.Ideal S256x768 .bf16) (r : FVec Idealize.ShloMosaic.Ideal S768x1024 .bf16) [hl : E2 l f] [hr : E2 r g] :
    E2 (matmul dot_S256x768_S768x1024_S256x1024_1_0_0_1_n_n none l r (constant S256x1024 .f32 0x00000000#32))
      (fun i j => ∑ k ∈ Finset.range 768, f i k * g k j) :=
  Er.mm_plain (M := 256) (K := 768) (N := 1024) l r _

end Operations

/-! ### Loads and stores -/

section Loads
variable {sp : Space}

theorem load3 {a b c l m n : ℕ} (v : View sig .tc sp (⟨3, ![a, b, c]⟩ : Shape) .bf16) (X : v.ty.Contents 𝕍) (p q r : ℕ)
    (inb : ∀ x : Fin 3, (![p, q, r] : Fin 3 → ℕ) x + (![l, m, n] : Fin 3 → ℕ) x ≤ (![a, b, c] : Fin 3 → ℕ) x) (f : ℕ → ℕ → ℕ → EReal)
    [hv : E3 (v.read 𝕍 X) f] :
    E3 (View.readAt 𝕍 v (Rect.unit (s := ⟨3, ![a, b, c]⟩) ![p, q, r] (![l, m, n] : Fin 3 → ℕ) inb).toLoadRect X)
      (fun t i j => f (p + t) (q + i) (r + j)) := by
  refine ⟨fun t i j => ?_⟩
  have h0 : p + l ≤ a := inb 0
  have h1 : q + m ≤ b := inb 1
  have h2 : r + n ≤ c := inb 2
  refine (congrArg (v.read 𝕍 X) ?_).trans (hv.eq ⟨p + t, by have := t.isLt; omega⟩ ⟨q + i, by have := i.isLt; omega⟩
    ⟨r + j, by have := j.isLt; omega⟩)
  funext ax
  match ax with
  | ⟨0, _⟩ => exact Fin.ext (show p + 1 * t.val = p + t.val by omega)
  | ⟨1, _⟩ => exact Fin.ext (show q + 1 * i.val = q + i.val by omega)
  | ⟨2, _⟩ => exact Fin.ext (show r + 1 * j.val = r + j.val by omega)
/-- A tile of the first matrix. -/
instance load_w (v : View sig .tc sp (⟨3, ![8, 768, 1024]⟩ : Shape) .bf16) (X : v.ty.Contents 𝕍) (p q : ℕ)
    (inb : ∀ x : Fin 3, (![p, q, 0] : Fin 3 → ℕ) x + (![1, 256, 1024] : Fin 3 → ℕ) x ≤ (![8, 768, 1024] : Fin 3 → ℕ) x) (f : ℕ → ℕ → ℕ → EReal)
    [hv : E3 (v.read 𝕍 X) f] :
    E3 (View.readAt 𝕍 v (Rect.unit (s := ⟨3, ![8, 768, 1024]⟩) ![p, q, 0] (![1, 256, 1024] : Fin 3 → ℕ) inb).toLoadRect X)
      (fun _ i j => f p (q + i) j) :=
  (load3 v X p q 0 inb f).congr fun t i j ht _ _ => by rw [Nat.lt_one_iff.mp ht, Nat.add_zero, Nat.zero_add]
/-- A slab of the second matrix. -/
instance load_d (v : View sig .tc sp (⟨3, ![4, 768, 1024]⟩ : Shape) .bf16) (X : v.ty.Contents 𝕍) (p : ℕ)
    (inb : ∀ x : Fin 3, (![p, 0, 0] : Fin 3 → ℕ) x + (![1, 768, 1024] : Fin 3 → ℕ) x ≤ (![4, 768, 1024] : Fin 3 → ℕ) x) (f : ℕ → ℕ → ℕ → EReal)
    [hv : E3 (v.read 𝕍 X) f] :
    E3 (View.readAt 𝕍 v (Rect.unit (s := ⟨3, ![4, 768, 1024]⟩) ![p, 0, 0] (![1, 768, 1024] : Fin 3 → ℕ) inb).toLoadRect X)
      (fun _ i j => f p i j) :=
  (load3 v X p 0 0 inb f).congr fun t i j ht _ _ => by rw [Nat.lt_one_iff.mp ht, Nat.add_zero, Nat.zero_add, Nat.zero_add]
instance load_wc (v : View sig .tc sp (⟨3, ![8, 768, 1024]⟩ : Shape) .bf16) (L) (p q : ℕ)
    (inb : ∀ x : Fin 3, (![p, q, 0] : Fin 3 → ℕ) x + (![1, 256, 1024] : Fin 3 → ℕ) x ≤ (![8, 768, 1024] : Fin 3 → ℕ) x) (f : ℕ → ℕ → ℕ → EReal)
    [hv : E3 (v.read 𝕍 (v.writes 𝕍 v.junk L)) f] :
    E3 (v.readCov (Val := 𝕍) L (Rect.unit (s := ⟨3, ![8, 768, 1024]⟩) ![p, q, 0] (![1, 256, 1024] : Fin 3 → ℕ) inb).toLoadRect) (fun _ i j => f p (q + i) j) :=
  load_w v (v.writes 𝕍 v.junk L) p q inb f
instance load_dc (v : View sig .tc sp (⟨3, ![4, 768, 1024]⟩ : Shape) .bf16) (L) (p : ℕ)
    (inb : ∀ x : Fin 3, (![p, 0, 0] : Fin 3 → ℕ) x + (![1, 768, 1024] : Fin 3 → ℕ) x ≤ (![4, 768, 1024] : Fin 3 → ℕ) x) (f : ℕ → ℕ → ℕ → EReal)
    [hv : E3 (v.read 𝕍 (v.writes 𝕍 v.junk L)) f] :
    E3 (v.readCov (Val := 𝕍) L (Rect.unit (s := ⟨3, ![4, 768, 1024]⟩) ![p, 0, 0] (![1, 768, 1024] : Fin 3 → ℕ) inb).toLoadRect) (fun _ i j => f p i j) :=
  load_d v (v.writes 𝕍 v.junk L) p inb f
/-- A whole matrix. -/
instance load_all {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x) (f : ℕ → ℕ → EReal)
    [hv : E2 (v.read 𝕍 X) f] :
    E2 (View.readAt 𝕍 v (Rect.unit (s := ⟨2, ![a, b]⟩) ![0, 0] (![a, b] : Fin 2 → ℕ) inb).toLoadRect X) f := by
  refine ⟨fun i j => (congrArg (v.read 𝕍 X) ?_).trans (hv.eq i j)⟩
  funext ax
  match ax with
  | ⟨0, _⟩ => exact Fin.ext (show 0 + 1 * i.val = i.val by omega)
  | ⟨1, _⟩ => exact Fin.ext (show 0 + 1 * j.val = j.val by omega)
theorem whole_at {a b : ℕ} {φ : EltTy} (v : View sig .tc sp (⟨2, ![a, b]⟩ : Shape) φ) (X : v.ty.Contents 𝕍)
    (inb : ∀ x : Fin 2, (![0, 0] : Fin 2 → ℕ) x + (![a, b] : Fin 2 → ℕ) x ≤ (![a, b] : Fin 2 → ℕ) x)
    (w : Vec Idealize.ShloMosaic.Ideal (⟨2, ![a, b]⟩ : Shape) φ) (i : Fin a) (j : Fin b) :
    v.read 𝕍 (v.writes 𝕍 X [⟨Rect.unit (s := ⟨2, ![a, b]⟩) ![0, 0] (![a, b] : Fin 2 → ℕ) inb, w⟩]) (ix2 i j) = w (ix2 i j) := by
  refine View.read_writes_cons_unit_of_mem (s := ⟨2, ![a, b]⟩) v X inb w _ (ix2 i j) (ix2 i j) rfl ?_
  intro ax
  match ax with
  | ⟨0, _⟩ => exact (Nat.zero_add _).symm
  | ⟨1, _⟩ => exact (Nat.zero_add _).symm
/-- A matrix stored whole. -/
theorem whole2 {a b : ℕ} (v : View sig .tc sp (⟨2, ![a, b]⟩ : Shape) .f32) (X : v.ty.Contents 𝕍)
    (inb : ∀ x : Fin 2, (![0, 0] : Fin 2 → ℕ) x + (![a, b] : Fin 2 → ℕ) x ≤ (![a, b] : Fin 2 → ℕ) x)
    (w : (⟨2, ![a, b]⟩ : Shape).Idx → EReal) (g : ℕ → ℕ → EReal) [h : E2 w g] :
    E2 (v.read 𝕍 (v.writes 𝕍 X [⟨Rect.unit (s := ⟨2, ![a, b]⟩) ![0, 0] (![a, b] : Fin 2 → ℕ) inb, w⟩])) g :=
  ⟨fun i j => (whole_at v X inb w i j).trans (h.eq i j)⟩
/-- A matrix of the narrow format stored whole. -/
theorem whole2b {a b : ℕ} (v : View sig .tc sp (⟨2, ![a, b]⟩ : Shape) .bf16) (X : v.ty.Contents 𝕍)
    (inb : ∀ x : Fin 2, (![0, 0] : Fin 2 → ℕ) x + (![a, b] : Fin 2 → ℕ) x ≤ (![a, b] : Fin 2 → ℕ) x)
    (w : (⟨2, ![a, b]⟩ : Shape).Idx → EReal) (g : ℕ → ℕ → EReal) [h : E2 w g] :
    E2 (v.read 𝕍 (v.writes 𝕍 X [⟨Rect.unit (s := ⟨2, ![a, b]⟩) ![0, 0] (![a, b] : Fin 2 → ℕ) inb, w⟩])) g :=
  ⟨fun i j => (whole_at v X inb w i j).trans (h.eq i j)⟩

/-! ### Slabs filled tile by tile -/

section Slabs
variable (v : View sig .tc sp (⟨3, ![4, 256, 768]⟩ : Shape) .bf16) (X : v.ty.Contents 𝕍)
variable (L : List (View.Piece 𝕍 (⟨3, ![4, 256, 768]⟩ : Shape) .bf16)) {T : ℕ → ℕ → ℕ → EReal}

/-- What a buffer holds after a tile is stored. -/
theorem tile (p q : ℕ)
    (inb : ∀ x : Fin 3, (![p, 0, q] : Fin 3 → ℕ) x + (![1, 256, 256] : Fin 3 → ℕ) x ≤ (![4, 256, 768] : Fin 3 → ℕ) x)
    (w : (⟨3, ![1, 256, 256]⟩ : Shape).Idx → EReal) (j : Fin 4) (i : Fin 256) (m : Fin 768) :
    v.read 𝕍 (v.writes 𝕍 X (⟨Rect.unit (s := ⟨3, ![4, 256, 768]⟩) ![p, 0, q] (![1, 256, 256] : Fin 3 → ℕ) inb, w⟩ :: L)) (ix3 j i m)
      = if h : j.val = p ∧ q ≤ m.val ∧ m.val - q < 256 then w (ix3 (0 : Fin 1) i (⟨m.val - q, h.2.2⟩ : Fin 256))
        else v.read 𝕍 (v.writes 𝕍 X L) (ix3 j i m) := by
  have hp : p + 1 ≤ 4 := inb 0
  have hq : q + 256 ≤ 768 := inb 2
  have hj := j.isLt
  have hm := m.isLt
  split <;> rename_i h
  · refine View.read_writes_cons_unit_of_mem (s := ⟨3, ![4, 256, 768]⟩) v X inb w L (ix3 j i m) (ix3 (0 : Fin 1) i (⟨m.val - q, h.2.2⟩ : Fin 256)) rfl ?_
    intro ax
    match ax with
    | ⟨0, _⟩ => show j.val = p + 0; omega
    | ⟨1, _⟩ => show i.val = 0 + i.val; omega
    | ⟨2, _⟩ => show m.val = q + (m.val - q); omega
  · by_cases h0 : j.val = p
    · exact View.read_writes_cons_unit_of_not_mem (s := ⟨3, ![4, 256, 768]⟩) v X inb w L (ix3 j i m) rfl 2
        (by show m.val < q ∨ q + 256 ≤ m.val; omega)
    · exact View.read_writes_cons_unit_of_not_mem (s := ⟨3, ![4, 256, 768]⟩) v X inb w L (ix3 j i m) rfl 0
        (by show j.val < p ∨ p + 1 ≤ j.val; omega)

/-- The first `n` slabs are in place. -/
def Part (T : ℕ → ℕ → ℕ → EReal) (n : ℕ) (u : (⟨3, ![4, 256, 768]⟩ : Shape).Idx → EReal) : Prop :=
  ∀ (j : Fin 4) (i : Fin 256) (m : Fin 768), j.val < n → u (ix3 j i m) = T j i m

theorem Part.zero (u : (⟨3, ![4, 256, 768]⟩ : Shape).Idx → EReal) : Part T 0 u :=
  fun _ _ _ h => absurd h (Nat.not_lt_zero _)
theorem Part.all {u : (⟨3, ![4, 256, 768]⟩ : Shape).Idx → EReal} (h : Part T 4 u) : E3 u T :=
  ⟨fun j i m => h j i m j.isLt⟩

/-- Three tiles make the next slab. -/
theorem Part.next (p : ℕ)
    (i0 : ∀ x : Fin 3, (![p, 0, 0] : Fin 3 → ℕ) x + (![1, 256, 256] : Fin 3 → ℕ) x ≤ (![4, 256, 768] : Fin 3 → ℕ) x)
    (i1 : ∀ x : Fin 3, (![p, 0, 256] : Fin 3 → ℕ) x + (![1, 256, 256] : Fin 3 → ℕ) x ≤ (![4, 256, 768] : Fin 3 → ℕ) x)
    (i2 : ∀ x : Fin 3, (![p, 0, 512] : Fin 3 → ℕ) x + (![1, 256, 256] : Fin 3 → ℕ) x ≤ (![4, 256, 768] : Fin 3 → ℕ) x)
    (w0 w1 w2 : (⟨3, ![1, 256, 256]⟩ : Shape).Idx → EReal)
    (h0 : E3 w0 (fun _ i m => T p i (0 + m))) (h1 : E3 w1 (fun _ i m => T p i (256 + m))) (h2 : E3 w2 (fun _ i m => T p i (512 + m)))
    (hP : Part T p (v.read 𝕍 (v.writes 𝕍 X L))) :
    Part T (p + 1) (v.read 𝕍 (v.writes 𝕍 X (⟨Rect.unit (s := ⟨3, ![4, 256, 768]⟩) ![p, 0, 512] (![1, 256, 256] : Fin 3 → ℕ) i2, w2⟩ ::
      ⟨Rect.unit (s := ⟨3, ![4, 256, 768]⟩) ![p, 0, 256] (![1, 256, 256] : Fin 3 → ℕ) i1, w1⟩ ::
      ⟨Rect.unit (s := ⟨3, ![4, 256, 768]⟩) ![p, 0, 0] (![1, 256, 256] : Fin 3 → ℕ) i0, w0⟩ :: L))) := by
  intro j i m hj
  have hm := m.isLt
  rw [tile, tile, tile]
  by_cases h : j.val = p
  · rw [h]
    by_cases c0 : m.val < 256
    · rw [dif_neg (by omega), dif_neg (by omega), dif_pos (by omega), h0.eq]
      exact congrArg (T p i.val) (show 0 + (m.val - 0) = m.val by omega)
    · by_cases c1 : m.val < 512
      · rw [dif_neg (by omega), dif_pos (by omega), h1.eq]
        exact congrArg (T p i.val) (show 256 + (m.val - 256) = m.val by omega)
      · rw [dif_pos (by omega), h2.eq]
        exact congrArg (T p i.val) (show 512 + (m.val - 512) = m.val by omega)
  · rw [dif_neg (by omega), dif_neg (by omega), dif_neg (by omega)]
    exact hP j i m (by omega)

/-- A slab read back. -/
theorem Part.slab {n : ℕ} (p : ℕ)
    (inb : ∀ x : Fin 3, (![p, 0, 0] : Fin 3 → ℕ) x + (![1, 256, 768] : Fin 3 → ℕ) x ≤ (![4, 256, 768] : Fin 3 → ℕ) x)
    (hP : Part T n (v.read 𝕍 (v.writes 𝕍 v.junk L))) (hn : p < n) :
    E3 (v.readCov L (Rect.unit (s := ⟨3, ![4, 256, 768]⟩) ![p, 0, 0] (![1, 256, 768] : Fin 3 → ℕ) inb).toLoadRect) (fun _ i m => T p i m) := by
  refine ⟨fun t i m => ?_⟩
  have h0 : p + 1 ≤ 4 := inb 0
  refine (congrArg (v.read 𝕍 (v.writes 𝕍 v.junk L)) (a₂ := ix3 (⟨p, h0⟩ : Fin 4) i m) ?_).trans (hP _ _ _ hn)
  funext ax
  match ax with
  | ⟨0, _⟩ => exact Fin.ext (show p + 1 * t.val = p by omega)
  | ⟨1, _⟩ => exact Fin.ext (show 0 + 1 * i.val = i.val by omega)
  | ⟨2, _⟩ => exact Fin.ext (show 0 + 1 * m.val = m.val by omega)

end Slabs
end Loads

end Cert.Calc.Fw
-- ==== Proof.FwdFill.lean ====
module

public import proofs.«01_k».proof.Proof.FwdPay
public import proofs.«01_k».proof.Proof.Gen.KernelFwdIdeal.Frame.RunA

/-!
The two matrices as the first step leaves them in its buffers: the first whole, the second from eight
pieces, two to a slab, with zero rows below.
-/

@[expose] public section

noncomputable section

namespace Cert.Calc.Fw

open Idealize.ShloMosaic hiding ix1 ix2 ix3 ix4
open Idealize.ShloMosaic.ValueIdx Cert.KernelFwdIdeal Cert.KernelFwdIdeal.Gen
open Cert.Calc.Er

local notation "𝔽" => Idealize.ShloMosaic.Ideal
local notation "𝕍" => Elt Idealize.ShloMosaic.Ideal

variable (c : Dev nD)

theorem fill_w (arg10 : Memref sig .tc .vmem S8x768x1024 .bf16) (fh0 : HbBuf0 (F := 𝔽) c hbM0_0) (W : ℕ → ℕ → ℕ → EReal)
    (Y : BufTy.Contents 𝕍 arg10.view.ty)
    [h : E3 (View.read 𝕍 (Memref.whole main_v0).view fh0) W] :
    E3 (arg10.view.read 𝕍 (arg10.view.writes 𝕍 Y
      [⟨Rect.whole S8x768x1024, kernelRun0_A.sl.dma0 c fh0⟩])) W := by
  refine ⟨fun i j k => ?_⟩
  refine (View.read_writes_cons_unit_of_mem (s := ⟨3, ![8, 768, 1024]⟩) arg10.view Y (off := fun _ => 0) (size := ![8, 768, 1024])
    (fun a => (Nat.zero_add _).le) (kernelRun0_A.sl.dma0 (F := 𝔽) c fh0) [] (ix3 i j k) (ix3 i j k) rfl
    (fun a => (Nat.zero_add _).symm)).trans ?_
  exact h.eq i j k

/-- The pieces of the second matrix, the newest first. -/
abbrev downPieces (fh1 : HbBuf0 (F := 𝔽) c hbM0_1) : List (View.Piece 𝕍 S4x768x1024 .bf16) :=
  [⟨Rect.unit (s := S4x768x1024) ![0, 704, 0] S4x64x1024.size (by decide), k0_pay3 (F := 𝔽)⟩,
    ⟨Rect.unit (s := S4x768x1024) ![3, 352, 0] S1x352x1024.size (by decide), kernelRun0_A.sl.dma0_8 (F := 𝔽) c fh1⟩,
    ⟨Rect.unit (s := S4x768x1024) ![3, 0, 0] S1x352x1024.size (by decide), kernelRun0_A.sl.dma0_7 (F := 𝔽) c fh1⟩,
    ⟨Rect.unit (s := S4x768x1024) ![2, 352, 0] S1x352x1024.size (by decide), kernelRun0_A.sl.dma0_6 (F := 𝔽) c fh1⟩,
    ⟨Rect.unit (s := S4x768x1024) ![2, 0, 0] S1x352x1024.size (by decide), kernelRun0_A.sl.dma0_5 (F := 𝔽) c fh1⟩,
    ⟨Rect.unit (s := S4x768x1024) ![1, 352, 0] S1x352x1024.size (by decide), kernelRun0_A.sl.dma0_4 (F := 𝔽) c fh1⟩,
    ⟨Rect.unit (s := S4x768x1024) ![1, 0, 0] S1x352x1024.size (by decide), kernelRun0_A.sl.dma0_3 (F := 𝔽) c fh1⟩,
    ⟨Rect.unit (s := S4x768x1024) ![0, 352, 0] S1x352x1024.size (by decide), kernelRun0_A.sl.dma0_2 (F := 𝔽) c fh1⟩,
    ⟨Rect.unit (s := S4x768x1024) ![0, 0, 0] S1x352x1024.size (by decide), kernelRun0_A.sl.dma0_1 (F := 𝔽) c fh1⟩]

section Down
variable (v : View sig .tc .vmem (⟨3, ![4, 768, 1024]⟩ : Shape) .bf16) (X : v.ty.Contents 𝕍) (Wd : ℕ → ℕ → ℕ → EReal)

/-- The first `n` pieces are in place. -/
def Got (n : ℕ) (v : (⟨3, ![4, 768, 1024]⟩ : Shape).Idx → EReal) : Prop :=
  ∀ (j : Fin 4) (m : Fin 768) (e : Fin 1024), m.val < 704 → 2 * j.val + m.val / 352 < n →
    v (ix3 j m e) = Wd (2 * j + m / 352) (m % 352) e

theorem Got.store {n : ℕ} (L : List (View.Piece 𝕍 (⟨3, ![4, 768, 1024]⟩ : Shape) .bf16)) (p q : ℕ)
    (inb : ∀ x : Fin 3, (![p, q, 0] : Fin 3 → ℕ) x + (![1, 352, 1024] : Fin 3 → ℕ) x ≤ (![4, 768, 1024] : Fin 3 → ℕ) x)
    (w : (⟨3, ![1, 352, 1024]⟩ : Shape).Idx → EReal)
    (hw : ∀ (m : Fin 352) (e : Fin 1024), w (ix3 (0 : Fin 1) m e) = Wd n m e) (hn : n = 2 * p + q / 352 ∧ (q = 0 ∨ q = 352))
    (hP : Got Wd n (v.read 𝕍 (v.writes 𝕍 X L))) :
    Got Wd (n + 1) (v.read 𝕍
      (v.writes 𝕍 X (⟨Rect.unit (s := ⟨3, ![4, 768, 1024]⟩) ![p, q, 0] (![1, 352, 1024] : Fin 3 → ℕ) inb, w⟩ :: L))) := by
  intro j m e hm704 hr
  have hp : p + 1 ≤ 4 := inb 0
  have hj := j.isLt
  have hm := m.isLt
  have he := e.isLt
  by_cases h : j.val = p ∧ q ≤ m.val ∧ m.val < q + 352
  · refine (View.read_writes_cons_unit_of_mem (s := ⟨3, ![4, 768, 1024]⟩) v X inb w L (ix3 j m e) (ix3 (0 : Fin 1) (⟨m.val - q, by omega⟩ : Fin 352) e) rfl ?_).trans ?_
    · intro ax
      match ax with
      | ⟨0, _⟩ => show j.val = p + 0; omega
      | ⟨1, _⟩ => show m.val = q + (m.val - q); omega
      | ⟨2, _⟩ => show e.val = 0 + e.val; omega
    · rw [hw]
      have e1 : n = 2 * j.val + m.val / 352 := by omega
      have e2 : m.val - q = m.val % 352 := by omega
      show Wd n (m.val - q) e = _
      rw [e1, e2]
  · by_cases h0 : j.val = p
    · rw [View.read_writes_cons_unit_of_not_mem (s := ⟨3, ![4, 768, 1024]⟩) v X inb w L (ix3 j m e) rfl 1
        (by show m.val < q ∨ q + 352 ≤ m.val; omega)]
      exact hP j m e hm704 (by omega)
    · rw [View.read_writes_cons_unit_of_not_mem (s := ⟨3, ![4, 768, 1024]⟩) v X inb w L (ix3 j m e) rfl 0
        (by show j.val < p ∨ p + 1 ≤ j.val; omega)]
      exact hP j m e hm704 (by omega)

end Down

/-- A piece is a slab of the matrix it is fetched from. -/
theorem piece (fh1 : HbBuf0 (F := 𝔽) c hbM0_1) (Wd : ℕ → ℕ → ℕ → EReal) (n : ℕ) (hn : n < 8)
    (inb : ∀ x : Fin 3, (![n, 0, 0] : Fin 3 → ℕ) x + (![1, 352, 1024] : Fin 3 → ℕ) x ≤ (![8, 352, 1024] : Fin 3 → ℕ) x) (hs)
    [h : E3 (View.read 𝕍 (Memref.whole main_v1).view fh1) Wd] (m : Fin 352) (e : Fin 1024) :
    View.read 𝕍 ((Memref.whole main_v1).slice (Rect.unit (s := S8x352x1024) ![n, 0, 0] S1x352x1024.size inb) hs).view fh1
      (ix3 (0 : Fin 1) m e) = Wd n m e := by
  refine (congrArg (View.read 𝕍 (Memref.whole main_v1).view fh1) (a₂ := ix3 (⟨n, hn⟩ : Fin 8) m e) ?_).trans (h.eq _ _ _)
  funext ax
  match ax with
  | ⟨0, _⟩ => exact Fin.ext (show n + 1 * 0 = n by omega)
  | ⟨1, _⟩ => exact Fin.ext (show 0 + 1 * m.val = m.val by omega)
  | ⟨2, _⟩ => exact Fin.ext (show 0 + 1 * e.val = e.val by omega)

theorem fill_d (arg11 : Memref sig .tc .vmem S4x768x1024 .bf16) (fh1 : HbBuf0 (F := 𝔽) c hbM0_1) (Wd : ℕ → ℕ → ℕ → EReal)
    (Y : BufTy.Contents 𝕍 arg11.view.ty)
    [h : E3 (View.read 𝕍 (Memref.whole main_v1).view fh1) Wd] :
    E3 (arg11.view.read 𝕍 (arg11.view.writes 𝕍 Y (downPieces c fh1)))
      (fun j m e => if m < 704 then Wd (2 * j + m / 352) (m % 352) e else 0) := by
  refine ⟨fun j m e => ?_⟩
  have hj := j.isLt
  have hm := m.isLt
  have he := e.isLt
  by_cases hlt : m.val < 704
  · rw [if_pos hlt]
    unfold downPieces
    rw [View.read_writes_cons_unit_of_not_mem (s := ⟨3, ![4, 768, 1024]⟩) arg11.view Y (off' := ![0, 704, 0]) (size := ![4, 64, 1024]) _ _ _ (ix3 j m e) rfl 1
      (by show m.val < 704 ∨ 704 + 64 ≤ m.val; omega)]
    refine (?_ : Got Wd 8 _) j m e hlt (by omega)
    refine Got.store (n := 7) _ _ Wd _ 3 352 _ _ (piece c fh1 Wd 7 (by decide) _ _) ⟨by decide, by decide⟩ ?_
    refine Got.store (n := 6) _ _ Wd _ 3 0 _ _ (piece c fh1 Wd 6 (by decide) _ _) ⟨by decide, by decide⟩ ?_
    refine Got.store (n := 5) _ _ Wd _ 2 352 _ _ (piece c fh1 Wd 5 (by decide) _ _) ⟨by decide, by decide⟩ ?_
    refine Got.store (n := 4) _ _ Wd _ 2 0 _ _ (piece c fh1 Wd 4 (by decide) _ _) ⟨by decide, by decide⟩ ?_
    refine Got.store (n := 3) _ _ Wd _ 1 352 _ _ (piece c fh1 Wd 3 (by decide) _ _) ⟨by decide, by decide⟩ ?_
    refine Got.store (n := 2) _ _ Wd _ 1 0 _ _ (piece c fh1 Wd 2 (by decide) _ _) ⟨by decide, by decide⟩ ?_
    refine Got.store (n := 1) _ _ Wd _ 0 352 _ _ (piece c fh1 Wd 1 (by decide) _ _) ⟨by decide, by decide⟩ ?_
    refine Got.store (n := 0) _ _ Wd _ 0 0 _ _ (piece c fh1 Wd 0 (by decide) _ _) ⟨by decide, by decide⟩ ?_
    exact fun _ _ _ _ h => absurd h (Nat.not_lt_zero _)
  · rw [if_neg hlt]
    unfold downPieces
    refine (View.read_writes_cons_unit_of_mem (s := ⟨3, ![4, 768, 1024]⟩) arg11.view Y _ _ _ (ix3 j m e) (ix3 j (⟨m.val - 704, by omega⟩ : Fin 64) e) rfl ?_).trans
      (show k0_pay3 (F := 𝔽) (ix3 j (⟨m.val - 704, by omega⟩ : Fin 64) e) = 0 by unfold k0_pay3; rw [shapeCast_self]; exact Ideal.ofBits_zero_bf16)
    intro ax
    match ax with
    | ⟨0, _⟩ => show j.val = 0 + j.val; omega
    | ⟨1, _⟩ => show m.val = 704 + (m.val - 704); omega
    | ⟨2, _⟩ => show e.val = 0 + e.val; omega

end Cert.Calc.Fw
-- ==== Proof.FwdStepA.lean ====
module

public import proofs.«01_k».proof.Proof.FwdFill
public import proofs.«01_k».proof.Proof.Gen.KernelFwdIdeal.Frame.RunA

/-!
What the first step of the feed-forward call leaves in its outputs.
-/

@[expose] public section

noncomputable section

namespace Cert.Calc.Fw

open Idealize.ShloMosaic hiding ix1 ix2 ix3 ix4
open Idealize.ShloMosaic.ValueIdx Cert.KernelFwdIdeal Cert.KernelFwdIdeal.Gen Cert.KernelFwdIdeal.Gen.kernelRun0_A
open Cert.Calc.Er
open scoped BigOperators

local notation "𝔽" => Idealize.ShloMosaic.Ideal
local notation "𝕍" => Elt Idealize.ShloMosaic.Ideal

variable (c : Dev nD) (i : grid0.Coords)
variable (arg1 : Memref sig .tc .vmem S256x1024 .f32) (harg1 : arg1.IsWhole)
variable (arg2 : Memref sig .tc .vmem S1x1024 .f32) (harg2 : arg2.IsWhole)
variable (arg5 : Memref sig .tc .vmem S256x1024 .bf16) (harg5 : arg5.IsWhole)
variable (arg6 : Memref sig .tc .vmem S4x256x768 .bf16) (harg6 : arg6.IsWhole)
variable (arg7 : Memref sig .tc .vmem S4x256x768 .bf16) (harg7 : arg7.IsWhole)
variable (arg8 : Memref sig .tc .vmem S4x256x768 .bf16) (harg8 : arg8.IsWhole)
variable (arg9 : Memref sig .tc .vmem S256x1024 .f32) (harg9 : arg9.IsWhole)
variable (arg10 : Memref sig .tc .vmem S8x768x1024 .bf16) (harg10 : arg10.IsWhole)
variable (arg11 : Memref sig .tc .vmem S4x768x1024 .bf16) (harg11 : arg11.IsWhole)
variable (x0 : Vec 𝔽 S256x1024 .f32) (x1 : Vec 𝔽 S1x1024 .f32) (xs0 : Vec 𝔽 S8x768x1024 .bf16) (xs1 : Vec 𝔽 S4x768x1024 .bf16)
variable (fh0 : HbBuf0 (F := 𝔽) c hbM0_0) (fh1 : HbBuf0 (F := 𝔽) c hbM0_1) (D : Data)

/-- The first step fetches the two matrices. -/
theorem step_A (hc0 : cond0_0 i) [h0 : E2 x0 D.x] [h1 : E2 x1 (fun _ e => D.g e)]
    [hw : E3 (View.read 𝕍 (Memref.whole main_v0).view fh0) D.w] [hp : E3 (View.read 𝕍 (Memref.whole main_v1).view fh1) D.p]
    (Y5 : BufTy.Contents 𝕍 arg5.view.ty) (Y6 : BufTy.Contents 𝕍 arg6.view.ty) (Y7 : BufTy.Contents 𝕍 arg7.view.ty) (Y8 : BufTy.Contents 𝕍 arg8.view.ty) (Y9 : BufTy.Contents 𝕍 arg9.view.ty) (Y10 : BufTy.Contents 𝕍 arg10.view.ty) (Y11 : BufTy.Contents 𝕍 arg11.view.ty) :
    E2 (arg5.view.read 𝕍 (arg5.view.writes 𝕍 Y5 (kernelRun0_A (F := 𝔽) c i arg1 harg1 arg2 harg2 arg5 harg5 arg6 harg6 arg7 harg7 arg8 harg8 arg9 harg9 arg10 harg10 arg11 harg11 hc0 x0 x1 fh0 fh1).1)) D.n ∧
    E3 (arg6.view.read 𝕍 (arg6.view.writes 𝕍 Y6 (kernelRun0_A (F := 𝔽) c i arg1 harg1 arg2 harg2 arg5 harg5 arg6 harg6 arg7 harg7 arg8 harg8 arg9 harg9 arg10 harg10 arg11 harg11 hc0 x0 x1 fh0 fh1).2.1)) D.gu ∧
    E3 (arg7.view.read 𝕍 (arg7.view.writes 𝕍 Y7 (kernelRun0_A (F := 𝔽) c i arg1 harg1 arg2 harg2 arg5 harg5 arg6 harg6 arg7 harg7 arg8 harg8 arg9 harg9 arg10 harg10 arg11 harg11 hc0 x0 x1 fh0 fh1).2.2.1)) D.up ∧
    E3 (arg8.view.read 𝕍 (arg8.view.writes 𝕍 Y8 (kernelRun0_A (F := 𝔽) c i arg1 harg1 arg2 harg2 arg5 harg5 arg6 harg6 arg7 harg7 arg8 harg8 arg9 harg9 arg10 harg10 arg11 harg11 hc0 x0 x1 fh0 fh1).2.2.2.1)) D.act ∧
    E2 (arg9.view.read 𝕍 (arg9.view.writes 𝕍 Y9 (kernelRun0_A (F := 𝔽) c i arg1 harg1 arg2 harg2 arg5 harg5 arg6 harg6 arg7 harg7 arg8 harg8 arg9 harg9 arg10 harg10 arg11 harg11 hc0 x0 x1 fh0 fh1).2.2.2.2.1)) D.out ∧
    E3 (arg10.view.read 𝕍 (arg10.view.writes 𝕍 Y10 (kernelRun0_A (F := 𝔽) c i arg1 harg1 arg2 harg2 arg5 harg5 arg6 harg6 arg7 harg7 arg8 harg8 arg9 harg9 arg10 harg10 arg11 harg11 hc0 x0 x1 fh0 fh1).2.2.2.2.2.1)) D.w ∧
    E3 (arg11.view.read 𝕍 (arg11.view.writes 𝕍 Y11 (kernelRun0_A (F := 𝔽) c i arg1 harg1 arg2 harg2 arg5 harg5 arg6 harg6 arg7 harg7 arg8 harg8 arg9 harg9 arg10 harg10 arg11 harg11 hc0 x0 x1 fh0 fh1).2.2.2.2.2.2.1)) D.d := by
  haveI : E2 (arg1.view.read 𝕍 (harg1.unread x0)) D.x := by rw [harg1.read_unread]; infer_instance
  haveI : E2 (arg2.view.read 𝕍 (harg2.unread x1)) (fun _ e => D.g e) := by rw [harg2.read_unread]; infer_instance
  have hw := fun Y => fill_w c arg10 fh0 D.w Y
  have hd := fun Y => fill_d c arg11 fh1 D.p Y
  haveI := hw arg10.view.junk
  haveI := hd arg11.view.junk
  haveI : E2 (sl.r_1 (F := 𝔽) c arg1 harg1 arg2 harg2 x0 x1) D.n := by
    unfold sl.r_1; (dsimp only [k0_pay4]; exact E2.congr inferInstance fun _ _ _ _ => rfl)
  have a0 : ∀ Y8, Part D.act 1 (arg8.view.read 𝕍 (arg8.view.writes 𝕍 Y8 (sl.H5_3 (F := 𝔽) c arg1 harg1 arg2 harg2 arg10 x0 x1 fh0))) := fun Y8 => by
    unfold sl.H5_3
    refine Part.next _ _ _ 0 _ _ _ _ _ _ ?_ ?_ ?_ (Part.zero _) <;>
      (dsimp only [k0_pay11, k0_pay12, k0_pay13, k0_pay16, k0_pay17, k0_pay18, k0_pay19, k0_pay22, k0_pay23, k0_pay4, k0_pay6, k0_pay7, sl.cst_42, sl.r_2, sl.r_3, sl.r_5, sl.r_6, sl.r_7, sl.r_8, sl.v20, sl.v23, sl.v47, sl.v50, sl.v74, sl.v77]; exact E3.congr inferInstance fun _ _ _ _ _ _ => rfl)
  haveI : E3 (sl.v101 (F := 𝔽) c arg1 harg1 arg2 harg2 arg8 arg10 x0 x1 fh0) (fun _ t m => D.act 0 t m) := by
    unfold sl.v101; exact Part.slab _ _ 0 _ (a0 _) (by decide)
  have a1 : ∀ Y8, Part D.act 2 (arg8.view.read 𝕍 (arg8.view.writes 𝕍 Y8 (sl.H5_6 (F := 𝔽) c arg1 harg1 arg2 harg2 arg10 x0 x1 fh0))) := fun Y8 => by
    unfold sl.H5_6
    refine Part.next _ _ _ 1 _ _ _ _ _ _ ?_ ?_ ?_ (a0 Y8) <;>
      (dsimp only [k0_pay25, k0_pay26, k0_pay29, k0_pay30, k0_pay31, k0_pay32, k0_pay35, k0_pay36, k0_pay37, k0_pay40, sl.r_10, sl.v107, sl.v110, sl.v134, sl.v137, sl.v161, sl.v164]; exact E3.congr inferInstance fun _ _ _ _ _ _ => rfl)
  haveI : E3 (sl.v188 (F := 𝔽) c arg1 harg1 arg2 harg2 arg8 arg10 x0 x1 fh0) (fun _ t m => D.act 1 t m) := by
    unfold sl.v188; exact Part.slab _ _ 1 _ (a1 _) (by decide)
  have a2 : ∀ Y8, Part D.act 3 (arg8.view.read 𝕍 (arg8.view.writes 𝕍 Y8 (sl.H5_9 (F := 𝔽) c arg1 harg1 arg2 harg2 arg10 x0 x1 fh0))) := fun Y8 => by
    unfold sl.H5_9
    refine Part.next _ _ _ 2 _ _ _ _ _ _ ?_ ?_ ?_ (a1 Y8) <;>
      (dsimp only [k0_pay43, k0_pay44, k0_pay47, k0_pay48, k0_pay49, k0_pay52, k0_pay53, k0_pay54, k0_pay58, sl.r_13, sl.r_14, sl.r_15, sl.v194, sl.v197, sl.v221, sl.v224, sl.v248, sl.v251]; exact E3.congr inferInstance fun _ _ _ _ _ _ => rfl)
  haveI : E3 (sl.v275 (F := 𝔽) c arg1 harg1 arg2 harg2 arg8 arg10 x0 x1 fh0) (fun _ t m => D.act 2 t m) := by
    unfold sl.v275; exact Part.slab _ _ 2 _ (a2 _) (by decide)
  have a3 : ∀ Y8, Part D.act 4 (arg8.view.read 𝕍 (arg8.view.writes 𝕍 Y8 (sl.H5_12 (F := 𝔽) c arg1 harg1 arg2 harg2 arg10 x0 x1 fh0))) := fun Y8 => by
    unfold sl.H5_12
    refine Part.next _ _ _ 3 _ _ _ _ _ _ ?_ ?_ ?_ (a2 Y8) <;>
      (dsimp only [k0_pay1, k0_pay60, k0_pay61, k0_pay65, k0_pay66, k0_pay67, k0_pay71, k0_pay72, k0_pay73, k0_pay76, k0_pay77, sl.r_18, sl.r_19, sl.r_21, sl.r_22, sl.r_24, sl.r_25, sl.r_26, sl.v281, sl.v284, sl.v308, sl.v311, sl.v335, sl.v338]; exact E3.congr inferInstance fun _ _ _ _ _ _ => rfl)
  haveI : E3 (sl.v362 (F := 𝔽) c arg1 harg1 arg2 harg2 arg8 arg10 x0 x1 fh0) (fun _ t m => D.act 3 t m) := by
    unfold sl.v362; exact Part.slab _ _ 3 _ (a3 _) (by decide)
  unfold kernelRun0_A
  dsimp only
  refine ⟨whole2b _ _ _ _ _ (h := ?_), Part.all ?_, Part.all ?_, Part.all (a3 Y8), whole2 _ _ _ _ _ (h := ?_), hw Y10, hd Y11⟩
  · dsimp only [k0_pay4]; exact E2.congr inferInstance fun _ _ _ _ => rfl
  iterate 2
    refine Part.next _ _ _ 3 _ _ _ _ _ _ ?_ ?_ ?_ (Part.next _ _ _ 2 _ _ _ _ _ _ ?_ ?_ ?_ (Part.next _ _ _ 1 _ _ _ _ _ _ ?_ ?_ ?_ (Part.next _ _ _ 0 _ _ _ _ _ _ ?_ ?_ ?_ (Part.zero _)))) <;>
      (dsimp only [k0_pay10, k0_pay12, k0_pay13, k0_pay14, k0_pay15, k0_pay16, k0_pay18, k0_pay19, k0_pay20, k0_pay21, k0_pay22, k0_pay25, k0_pay26, k0_pay27, k0_pay28, k0_pay29, k0_pay31, k0_pay32, k0_pay33, k0_pay34, k0_pay36, k0_pay37, k0_pay38, k0_pay39, k0_pay4, k0_pay43, k0_pay44, k0_pay45, k0_pay46, k0_pay48, k0_pay49, k0_pay50, k0_pay51, k0_pay53, k0_pay54, k0_pay55, k0_pay56, k0_pay57, k0_pay6, k0_pay60, k0_pay61, k0_pay62, k0_pay63, k0_pay64, k0_pay66, k0_pay67, k0_pay68, k0_pay69, k0_pay7, k0_pay70, k0_pay72, k0_pay73, k0_pay74, k0_pay75, k0_pay76, k0_pay8, k0_pay9, sl.r_10, sl.r_13, sl.r_14, sl.r_15, sl.r_16, sl.r_18, sl.r_19, sl.r_2, sl.r_20, sl.r_21, sl.r_22, sl.r_23, sl.r_24, sl.r_25, sl.r_26, sl.r_3, sl.r_4, sl.r_5, sl.r_6, sl.r_7, sl.r_8, sl.v107, sl.v110, sl.v134, sl.v137, sl.v161, sl.v164, sl.v194, sl.v197, sl.v20, sl.v221, sl.v224, sl.v23, sl.v248, sl.v251, sl.v281, sl.v284, sl.v308, sl.v311, sl.v335, sl.v338, sl.v47, sl.v50, sl.v74, sl.v77]; exact E3.congr inferInstance fun _ _ _ _ _ _ => rfl)
  · dsimp only [k0_pay2, k0_pay24, k0_pay41, k0_pay42, k0_pay5, k0_pay59, sl.r, sl.r_11, sl.r_12, sl.r_17, sl.r_9, sl.v103, sl.v190, sl.v277, sl.v364]; exact E2.congr inferInstance fun _ _ _ _ => rfl

end Cert.Calc.Fw
-- ==== Proof.FwdStepB.lean ====
module

public import proofs.«01_k».proof.Proof.FwdFill
public import proofs.«01_k».proof.Proof.Gen.KernelFwdIdeal.Frame.RunB

/-!
What a later step of the feed-forward call leaves in its outputs.
-/

@[expose] public section

noncomputable section

namespace Cert.Calc.Fw

open Idealize.ShloMosaic hiding ix1 ix2 ix3 ix4
open Idealize.ShloMosaic.ValueIdx Cert.KernelFwdIdeal Cert.KernelFwdIdeal.Gen Cert.KernelFwdIdeal.Gen.kernelRun0_B
open Cert.Calc.Er
open scoped BigOperators

local notation "𝔽" => Idealize.ShloMosaic.Ideal
local notation "𝕍" => Elt Idealize.ShloMosaic.Ideal

variable (c : Dev nD) (i : grid0.Coords)
variable (arg1 : Memref sig .tc .vmem S256x1024 .f32) (harg1 : arg1.IsWhole)
variable (arg2 : Memref sig .tc .vmem S1x1024 .f32) (harg2 : arg2.IsWhole)
variable (arg5 : Memref sig .tc .vmem S256x1024 .bf16) (harg5 : arg5.IsWhole)
variable (arg6 : Memref sig .tc .vmem S4x256x768 .bf16) (harg6 : arg6.IsWhole)
variable (arg7 : Memref sig .tc .vmem S4x256x768 .bf16) (harg7 : arg7.IsWhole)
variable (arg8 : Memref sig .tc .vmem S4x256x768 .bf16) (harg8 : arg8.IsWhole)
variable (arg9 : Memref sig .tc .vmem S256x1024 .f32) (harg9 : arg9.IsWhole)
variable (arg10 : Memref sig .tc .vmem S8x768x1024 .bf16) (harg10 : arg10.IsWhole)
variable (arg11 : Memref sig .tc .vmem S4x768x1024 .bf16) (harg11 : arg11.IsWhole)
variable (x0 : Vec 𝔽 S256x1024 .f32) (x1 : Vec 𝔽 S1x1024 .f32) (xs0 : Vec 𝔽 S8x768x1024 .bf16) (xs1 : Vec 𝔽 S4x768x1024 .bf16)
variable (fh0 : HbBuf0 (F := 𝔽) c hbM0_0) (fh1 : HbBuf0 (F := 𝔽) c hbM0_1) (D : Data)

/-- A later step finds the two matrices in place. -/
theorem step_B (hc0 : ¬cond0_0 i) [h0 : E2 x0 D.x] [h1 : E2 x1 (fun _ e => D.g e)]
    [hw : E3 xs0 D.w] [hp : E3 xs1 D.d]
    (Y5 : BufTy.Contents 𝕍 arg5.view.ty) (Y6 : BufTy.Contents 𝕍 arg6.view.ty) (Y7 : BufTy.Contents 𝕍 arg7.view.ty) (Y8 : BufTy.Contents 𝕍 arg8.view.ty) (Y9 : BufTy.Contents 𝕍 arg9.view.ty) :
    E2 (arg5.view.read 𝕍 (arg5.view.writes 𝕍 Y5 (kernelRun0_B (F := 𝔽) c i arg1 harg1 arg2 harg2 arg5 harg5 arg6 harg6 arg7 harg7 arg8 harg8 arg9 harg9 arg10 harg10 arg11 harg11 hc0 x0 x1 xs0 xs1 fh0 fh1).1)) D.n ∧
    E3 (arg6.view.read 𝕍 (arg6.view.writes 𝕍 Y6 (kernelRun0_B (F := 𝔽) c i arg1 harg1 arg2 harg2 arg5 harg5 arg6 harg6 arg7 harg7 arg8 harg8 arg9 harg9 arg10 harg10 arg11 harg11 hc0 x0 x1 xs0 xs1 fh0 fh1).2.1)) D.gu ∧
    E3 (arg7.view.read 𝕍 (arg7.view.writes 𝕍 Y7 (kernelRun0_B (F := 𝔽) c i arg1 harg1 arg2 harg2 arg5 harg5 arg6 harg6 arg7 harg7 arg8 harg8 arg9 harg9 arg10 harg10 arg11 harg11 hc0 x0 x1 xs0 xs1 fh0 fh1).2.2.1)) D.up ∧
    E3 (arg8.view.read 𝕍 (arg8.view.writes 𝕍 Y8 (kernelRun0_B (F := 𝔽) c i arg1 harg1 arg2 harg2 arg5 harg5 arg6 harg6 arg7 harg7 arg8 harg8 arg9 harg9 arg10 harg10 arg11 harg11 hc0 x0 x1 xs0 xs1 fh0 fh1).2.2.2.1)) D.act ∧
    E2 (arg9.view.read 𝕍 (arg9.view.writes 𝕍 Y9 (kernelRun0_B (F := 𝔽) c i arg1 harg1 arg2 harg2 arg5 harg5 arg6 harg6 arg7 harg7 arg8 harg8 arg9 harg9 arg10 harg10 arg11 harg11 hc0 x0 x1 xs0 xs1 fh0 fh1).2.2.2.2.1)) D.out := by
  haveI : E2 (arg1.view.read 𝕍 (harg1.unread x0)) D.x := by rw [harg1.read_unread]; infer_instance
  haveI : E2 (arg2.view.read 𝕍 (harg2.unread x1)) (fun _ e => D.g e) := by rw [harg2.read_unread]; infer_instance
  haveI : E3 (arg10.view.read 𝕍 (harg10.unread xs0)) D.w := by rw [harg10.read_unread]; infer_instance
  haveI : E3 (arg11.view.read 𝕍 (harg11.unread xs1)) D.d := by rw [harg11.read_unread]; infer_instance
  haveI : E2 (sl.r_1 (F := 𝔽) c arg1 harg1 arg2 harg2 x0 x1) D.n := by
    unfold sl.r_1; (dsimp only [k0_pay4]; exact E2.congr inferInstance fun _ _ _ _ => rfl)
  have a0 : ∀ Y8, Part D.act 1 (arg8.view.read 𝕍 (arg8.view.writes 𝕍 Y8 (sl.H5_3 (F := 𝔽) c arg1 harg1 arg2 harg2 arg10 harg10 x0 x1 xs0))) := fun Y8 => by
    unfold sl.H5_3
    refine Part.next _ _ _ 0 _ _ _ _ _ _ ?_ ?_ ?_ (Part.zero _) <;>
      (dsimp only [k0_pay11, k0_pay12, k0_pay13, k0_pay16, k0_pay17, k0_pay18, k0_pay19, k0_pay22, k0_pay23, k0_pay4, k0_pay6, k0_pay7, sl.cst_42, sl.r_2, sl.r_3, sl.r_5, sl.r_6, sl.r_7, sl.r_8]; exact E3.congr inferInstance fun _ _ _ _ _ _ => rfl)
  haveI : E3 (sl.v101 (F := 𝔽) c arg1 harg1 arg2 harg2 arg8 arg10 harg10 x0 x1 xs0) (fun _ t m => D.act 0 t m) := by
    unfold sl.v101; exact Part.slab _ _ 0 _ (a0 _) (by decide)
  have a1 : ∀ Y8, Part D.act 2 (arg8.view.read 𝕍 (arg8.view.writes 𝕍 Y8 (sl.H5_6 (F := 𝔽) c arg1 harg1 arg2 harg2 arg10 harg10 x0 x1 xs0))) := fun Y8 => by
    unfold sl.H5_6
    refine Part.next _ _ _ 1 _ _ _ _ _ _ ?_ ?_ ?_ (a0 Y8) <;>
      (dsimp only [k0_pay25, k0_pay26, k0_pay29, k0_pay30, k0_pay31, k0_pay32, k0_pay35, k0_pay36, k0_pay37, k0_pay40, sl.r_10]; exact E3.congr inferInstance fun _ _ _ _ _ _ => rfl)
  haveI : E3 (sl.v188 (F := 𝔽) c arg1 harg1 arg2 harg2 arg8 arg10 harg10 x0 x1 xs0) (fun _ t m => D.act 1 t m) := by
    unfold sl.v188; exact Part.slab _ _ 1 _ (a1 _) (by decide)
  have a2 : ∀ Y8, Part D.act 3 (arg8.view.read 𝕍 (arg8.view.writes 𝕍 Y8 (sl.H5_9 (F := 𝔽) c arg1 harg1 arg2 harg2 arg10 harg10 x0 x1 xs0))) := fun Y8 => by
    unfold sl.H5_9
    refine Part.next _ _ _ 2 _ _ _ _ _ _ ?_ ?_ ?_ (a1 Y8) <;>
      (dsimp only [k0_pay43, k0_pay44, k0_pay47, k0_pay48, k0_pay49, k0_pay52, k0_pay53, k0_pay54, k0_pay58, sl.r_13, sl.r_14, sl.r_15]; exact E3.congr inferInstance fun _ _ _ _ _ _ => rfl)
  haveI : E3 (sl.v275 (F := 𝔽) c arg1 harg1 arg2 harg2 arg8 arg10 harg10 x0 x1 xs0) (fun _ t m => D.act 2 t m) := by
    unfold sl.v275; exact Part.slab _ _ 2 _ (a2 _) (by decide)
  have a3 : ∀ Y8, Part D.act 4 (arg8.view.read 𝕍 (arg8.view.writes 𝕍 Y8 (sl.H5_12 (F := 𝔽) c arg1 harg1 arg2 harg2 arg10 harg10 x0 x1 xs0))) := fun Y8 => by
    unfold sl.H5_12
    refine Part.next _ _ _ 3 _ _ _ _ _ _ ?_ ?_ ?_ (a2 Y8) <;>
      (dsimp only [k0_pay1, k0_pay60, k0_pay61, k0_pay65, k0_pay66, k0_pay67, k0_pay71, k0_pay72, k0_pay73, k0_pay76, k0_pay77, sl.r_18, sl.r_19, sl.r_21, sl.r_22, sl.r_24, sl.r_25, sl.r_26]; exact E3.congr inferInstance fun _ _ _ _ _ _ => rfl)
  haveI : E3 (sl.v362 (F := 𝔽) c arg1 harg1 arg2 harg2 arg8 arg10 harg10 x0 x1 xs0) (fun _ t m => D.act 3 t m) := by
    unfold sl.v362; exact Part.slab _ _ 3 _ (a3 _) (by decide)
  unfold kernelRun0_B
  dsimp only
  refine ⟨whole2b _ _ _ _ _ (h := ?_), Part.all ?_, Part.all ?_, Part.all (a3 Y8), whole2 _ _ _ _ _ (h := ?_)⟩
  · dsimp only [k0_pay4]; exact E2.congr inferInstance fun _ _ _ _ => rfl
  iterate 2
    refine Part.next _ _ _ 3 _ _ _ _ _ _ ?_ ?_ ?_ (Part.next _ _ _ 2 _ _ _ _ _ _ ?_ ?_ ?_ (Part.next _ _ _ 1 _ _ _ _ _ _ ?_ ?_ ?_ (Part.next _ _ _ 0 _ _ _ _ _ _ ?_ ?_ ?_ (Part.zero _)))) <;>
      (dsimp only [k0_pay10, k0_pay12, k0_pay13, k0_pay14, k0_pay15, k0_pay16, k0_pay18, k0_pay19, k0_pay20, k0_pay21, k0_pay22, k0_pay25, k0_pay26, k0_pay27, k0_pay28, k0_pay29, k0_pay31, k0_pay32, k0_pay33, k0_pay34, k0_pay36, k0_pay37, k0_pay38, k0_pay39, k0_pay4, k0_pay43, k0_pay44, k0_pay45, k0_pay46, k0_pay48, k0_pay49, k0_pay50, k0_pay51, k0_pay53, k0_pay54, k0_pay55, k0_pay56, k0_pay57, k0_pay6, k0_pay60, k0_pay61, k0_pay62, k0_pay63, k0_pay64, k0_pay66, k0_pay67, k0_pay68, k0_pay69, k0_pay7, k0_pay70, k0_pay72, k0_pay73, k0_pay74, k0_pay75, k0_pay76, k0_pay8, k0_pay9, sl.r_10, sl.r_13, sl.r_14, sl.r_15, sl.r_16, sl.r_18, sl.r_19, sl.r_2, sl.r_20, sl.r_21, sl.r_22, sl.r_23, sl.r_24, sl.r_25, sl.r_26, sl.r_3, sl.r_4, sl.r_5, sl.r_6, sl.r_7, sl.r_8]; exact E3.congr inferInstance fun _ _ _ _ _ _ => rfl)
  · dsimp only [k0_pay2, k0_pay24, k0_pay41, k0_pay42, k0_pay5, k0_pay59, sl.r, sl.r_11, sl.r_12, sl.r_17, sl.r_9]; exact E2.congr inferInstance fun _ _ _ _ => rfl

end Cert.Calc.Fw
-- ==== Proof.FwdGrid.lean ====
module

public import proofs.«01_k».proof.Proof.FwdStepA
public import proofs.«01_k».proof.Proof.FwdStepB
public import proofs.«01_k».proof.Proof.Gen.KernelFwdIdeal.Value
public import Idealize.ShloMosaic.Lib.Pipeline.ValueKit

/-!
The grid of the feed-forward call: point `t` works on the rows from `256 * t`.
-/

@[expose] public section

noncomputable section

namespace Cert.Calc.Fw

open Idealize.ShloMosaic hiding ix1 ix2 ix3 ix4
open Idealize.ShloMosaic.ValueIdx Idealize.ShloMosaic.TcCoe
open Cert.KernelFwdIdeal Cert.KernelFwdIdeal.Gen
open Cert.Calc.Er

local notation "𝔽" => Idealize.ShloMosaic.Ideal
local notation "𝕍" => Elt Idealize.ShloMosaic.Ideal

/-- The block of rows `n` of what the call works on. -/
def Data.rows (D : Data) (n : ℕ) : Data where
  x t := D.x (256 * n + t)
  g := D.g
  w := D.w
  p := D.p

/-- The call's arguments read as functions. -/
structure Args (m : (ℓ : Loc nD τ sig) → Buf 𝕍 ℓ) (c : Dev nD) (D : Data) : Prop where
  /-- Argument 0. -/
  x : E2 (a := 2048) (b := 1024) (m ((c.tc : Thread nD τ).loc main_arg0)) D.x
  /-- Argument 1. -/
  g : E2 (a := 1) (b := 1024) (m ((c.tc : Thread nD τ).loc main_arg1)) (fun _ e => D.g e)
  /-- Argument 2. -/
  w : E3 (a := 8) (b := 768) (c := 1024) (m ((c.tc : Thread nD τ).loc main_arg2)) D.w
  /-- Argument 3. -/
  p : E3 (a := 8) (b := 352) (c := 1024) (m ((c.tc : Thread nD τ).loc main_arg3)) D.p

variable (m : (ℓ : Loc nD τ sig) → Buf 𝕍 ℓ) (c : Dev nD) (t : Fin cfg0.N)

/-! ### What the host prepares -/

theorem V_v0 : V m c main_v0 = truncf (F := 𝔽) .bf16 (m ((c.tc : Thread nD τ).loc main_arg2)) bitsLt_bf16_f32 := by
  show StableHlo.after _ _ _ = _
  after_results
theorem V_v1 : V m c main_v1 = truncf (F := 𝔽) .bf16 (m ((c.tc : Thread nD τ).loc main_arg3)) bitsLt_bf16_f32 := by
  show StableHlo.after _ _ _ = _
  after_results
theorem V_a0 : V m c main_arg0 = (m ((c.tc : Thread nD τ).loc main_arg0)) := by
  show StableHlo.after _ _ _ = _
  after_results
theorem V_a1 : V m c main_arg1 = (m ((c.tc : Thread nD τ).loc main_arg1)) := by
  show StableHlo.after _ _ _ = _
  after_results

/-! ### The blocks -/

theorem N8 (t : Fin cfg0.N) : t.val < 8 := lt_of_lt_of_eq t.isLt (show cfg0.N = 8 from N_0)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, t.val, 0] := by decide +kernel
theorem idx4 : ∀ t : Fin cfg0.N, win0_4.index t = ![0, t.val, 0] := by decide +kernel
theorem idx5 : ∀ t : Fin cfg0.N, win0_5.index t = ![0, t.val, 0] := by decide +kernel
theorem idx6 : ∀ t : Fin cfg0.N, win0_6.index t = ![t.val, 0] := by decide +kernel

theorem blk0 (i : Fin 256) (j : Fin 1024) : iblk m c 0 t (ix2 i j)
    = V m c main_arg0 (ix2 (⟨256 * t.val + i, by have := N8 t; omega⟩ : Fin 2048) j) := by
  have := N8 t
  blk_ext [iblk, idx0 t]
  · show t.val * 256 + i.val = 256 * t.val + i.val; omega
theorem blk1 (i : Fin 1) (j : Fin 1024) : iblk m c 1 t (ix2 i j) = V m c main_arg1 (ix2 i j) := by
  blk_ext [iblk, idx1 t]

variable (D : Data) (hA : Args m c D)

/-- What point `i` leaves. -/
structure At (i : ℕ) (hi : i < cfg0.N) : Prop where
  /-- Result 0. -/
  n : E2 (a := 256) (b := 1024) (outsAt0 m c i hi).1 (D.rows i).n
  /-- Result 1. -/
  gu : E3 (a := 4) (b := 256) (c := 768) (outsAt0 m c i hi).2.1 (D.rows i).gu
  /-- Result 2. -/
  up : E3 (a := 4) (b := 256) (c := 768) (outsAt0 m c i hi).2.2.1 (D.rows i).up
  /-- Result 3. -/
  act : E3 (a := 4) (b := 256) (c := 768) (outsAt0 m c i hi).2.2.2.1 (D.rows i).act
  /-- Result 4. -/
  out : E2 (a := 256) (b := 1024) (outsAt0 m c i hi).2.2.2.2.1 (D.rows i).out
  /-- The first matrix. -/
  w : E3 (a := 8) (b := 768) (c := 1024) (outsAt0 m c i hi).2.2.2.2.2.1 D.w
  /-- The second matrix. -/
  d : E3 (a := 4) (b := 768) (c := 1024) (outsAt0 m c i hi).2.2.2.2.2.2 D.d

include hA
theorem in0 : E2 (a := 256) (b := 1024) (iblk m c 0 t) (D.rows t.val).x :=
  ⟨fun i j => (blk0 m c t i j).trans (by rw [V_a0]; exact hA.x.eq (⟨256 * t.val + i, by have := N8 t; omega⟩ : Fin 2048) j)⟩
theorem in1 : E2 (a := 1) (b := 1024) (iblk m c 1 t) (fun _ e => (D.rows t.val).g e) :=
  ⟨fun i j => (blk1 m c t i j).trans (by rw [V_a1]; exact hA.g.eq i j)⟩

/-! ### The steps -/

set_option maxHeartbeats 800000 in
theorem outs_A (h0 : t.val % 8 = 0) : At m c D t.val t.isLt := by
  haveI := in0 m c t D hA
  haveI := in1 m c t D hA
  haveI hw : E3 (View.read 𝕍 (Memref.whole main_v0).view (V m c main_v0)) (D.rows t.val).w :=
    ⟨fun i j k => by rw [V_v0]; exact hA.w.eq i j k⟩
  haveI hp : E3 (View.read 𝕍 (Memref.whole main_v1).view (V m c main_v1)) (D.rows t.val).p :=
    ⟨fun i j k => by rw [V_v1]; exact hA.p.eq i j k⟩
  have hs := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (V m c main_v0) (V m c main_v1) (D.rows t.val) ((hcond0_0 t).mpr h0)
    (ms0_2 t).view.junk (ms0_3 t).view.junk (ms0_4 t).view.junk (ms0_5 t).view.junk (ms0_6 t).view.junk scM0_0.view.junk scM0_1.view.junk
  refine ⟨?_, ?_, ?_, ?_, ?_, ?_, ?_⟩ <;> rw [outsAt0_A m c t h0]
  · unfold out0_A_2
    rw [View.read_writes_of_cover VO0_2 VO0_2.junk (ms0_2 t).view (ms0_2 t).view.junk _ (cover0_A_2 c _ _ _ _ _ _ _ _ _ _ _ _ _ _ _ _ _ _ _ _ _ _ _ _)]
    dsimp only
    exact hs.1
  · unfold out0_A_3
    rw [View.read_writes_of_cover VO0_3 VO0_3.junk (ms0_3 t).view (ms0_3 t).view.junk _ (cover0_A_3 c _ _ _ _ _ _ _ _ _ _ _ _ _ _ _ _ _ _ _ _ _ _ _ _)]
    dsimp only
    exact hs.2.1
  · unfold out0_A_4
    rw [View.read_writes_of_cover VO0_4 VO0_4.junk (ms0_4 t).view (ms0_4 t).view.junk _ (cover0_A_4 c _ _ _ _ _ _ _ _ _ _ _ _ _ _ _ _ _ _ _ _ _ _ _ _)]
    dsimp only
    exact hs.2.2.1
  · unfold out0_A_5
    rw [View.read_writes_of_cover VO0_5 VO0_5.junk (ms0_5 t).view (ms0_5 t).view.junk _ (cover0_A_5 c _ _ _ _ _ _ _ _ _ _ _ _ _ _ _ _ _ _ _ _ _ _ _ _)]
    dsimp only
    exact hs.2.2.2.1
  · unfold out0_A_6
    rw [View.read_writes_of_cover VO0_6 VO0_6.junk (ms0_6 t).view (ms0_6 t).view.junk _ (cover0_A_6 c _ _ _ _ _ _ _ _ _ _ _ _ _ _ _ _ _ _ _ _ _ _ _ _)]
    dsimp only
    exact hs.2.2.2.2.1
  · unfold sout0_A_0
    rw [View.read_writes_of_cover VS0_0 VS0_0.junk scM0_0.view scM0_0.view.junk _ (scover0_A_0 c _ _ _ _ _ _ _ _ _ _ _ _ _ _ _ _ _ _ _ _ _ _ _ _)]
    dsimp only
    exact hs.2.2.2.2.2.1.congr fun _ _ _ _ _ _ => rfl
  · unfold sout0_A_1
    rw [View.read_writes_of_cover VS0_1 VS0_1.junk scM0_1.view scM0_1.view.junk _ (scover0_A_1 c _ _ _ _ _ _ _ _ _ _ _ _ _ _ _ _ _ _ _ _ _ _ _ _)]
    dsimp only
    exact hs.2.2.2.2.2.2.congr fun _ _ _ _ _ _ => rfl

set_option maxHeartbeats 800000 in
theorem outs_B (h0 : ¬t.val % 8 = 0) (hP : At m c D (t.val - 1) (Nat.lt_of_le_of_lt (Nat.sub_le _ _) t.isLt)) : At m c D t.val t.isLt := by
  haveI := in0 m c t D hA
  haveI := in1 m c t D hA
  have hs := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _)
    (iblk m c 0 t) (iblk m c 1 t) (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2 (V m c main_v0) (V m c main_v1) (D.rows t.val) (fun h => h0 ((hcond0_0 t).mp h)) (hw := hP.w) (hp := hP.d)
    (ms0_2 t).view.junk (ms0_3 t).view.junk (ms0_4 t).view.junk (ms0_5 t).view.junk (ms0_6 t).view.junk
  refine ⟨?_, ?_, ?_, ?_, ?_, ?_, ?_⟩ <;> rw [outsAt0_B m c t h0]
  · unfold out0_B_2
    rw [View.read_writes_of_cover VO0_2 VO0_2.junk (ms0_2 t).view (ms0_2 t).view.junk _ (cover0_B_2 c _ _ _ _ _ _ _ _ _ _ _ _ _ _ _ _ _ _ _ _ _ _ _ _ _ _)]
    dsimp only
    exact hs.1
  · unfold out0_B_3
    rw [View.read_writes_of_cover VO0_3 VO0_3.junk (ms0_3 t).view (ms0_3 t).view.junk _ (cover0_B_3 c _ _ _ _ _ _ _ _ _ _ _ _ _ _ _ _ _ _ _ _ _ _ _ _ _ _)]
    dsimp only
    exact hs.2.1
  · unfold out0_B_4
    rw [View.read_writes_of_cover VO0_4 VO0_4.junk (ms0_4 t).view (ms0_4 t).view.junk _ (cover0_B_4 c _ _ _ _ _ _ _ _ _ _ _ _ _ _ _ _ _ _ _ _ _ _ _ _ _ _)]
    dsimp only
    exact hs.2.2.1
  · unfold out0_B_5
    rw [View.read_writes_of_cover VO0_5 VO0_5.junk (ms0_5 t).view (ms0_5 t).view.junk _ (cover0_B_5 c _ _ _ _ _ _ _ _ _ _ _ _ _ _ _ _ _ _ _ _ _ _ _ _ _ _)]
    dsimp only
    exact hs.2.2.2.1
  · unfold out0_B_6
    rw [View.read_writes_of_cover VO0_6 VO0_6.junk (ms0_6 t).view (ms0_6 t).view.junk _ (cover0_B_6 c _ _ _ _ _ _ _ _ _ _ _ _ _ _ _ _ _ _ _ _ _ _ _ _ _ _)]
    dsimp only
    exact hs.2.2.2.2
  · exact hP.w
  · exact hP.d

theorem outs (n : ℕ) (hn : n < cfg0.N) : At m c D n hn := by
  induction n with
  | zero => exact outs_A m c ⟨0, hn⟩ D hA rfl
  | succ n ih =>
    have h8 := N8 ⟨n + 1, hn⟩
    exact outs_B m c ⟨n + 1, hn⟩ D hA (by show ¬(n + 1) % 8 = 0; simp only at h8; omega) (ih (by omega))

/-! ### The result arrays -/

theorem arr2 : (dats m 0 c).arrAt 2 cfg0.N = (fun y => D.n (y 0).val (y 1).val : FVec 𝔽 S2048x1024 .bf16) := by
  refine (dats m 0 c).arrAt_eq_of_covers 2 _ (by decide +kernel) fun t hf y => ?_
  have h := (outs m c D hA t.val t.isLt).n.eq (y 0) (y 1)
  blk_simp [idx2 t]
  rw [after0_2]
  refine (congrArg _ (ValueIdx.eq_ix2 (n0 := 256) (n1 := 1024) y)).trans (h.trans ?_)
  rw [Nat.mul_comm _ 256]
  rfl
theorem arr3 : (dats m 0 c).arrAt 3 cfg0.N = (fun y => D.gu (y 0).val (y 1).val (y 2).val : FVec 𝔽 S4x2048x768 .bf16) := by
  refine (dats m 0 c).arrAt_eq_of_covers 3 _ (by decide +kernel) fun t hf y => ?_
  have h := (outs m c D hA t.val t.isLt).gu.eq (y 0) (y 1) (y 2)
  blk_simp [idx3 t]
  rw [after0_3]
  refine (congrArg _ (ValueIdx.eq_ix3 (n0 := 4) (n1 := 256) (n2 := 768) y)).trans (h.trans ?_)
  rw [Nat.mul_comm _ 256]
  rfl
theorem arr4 : (dats m 0 c).arrAt 4 cfg0.N = (fun y => D.up (y 0).val (y 1).val (y 2).val : FVec 𝔽 S4x2048x768 .bf16) := by
  refine (dats m 0 c).arrAt_eq_of_covers 4 _ (by decide +kernel) fun t hf y => ?_
  have h := (outs m c D hA t.val t.isLt).up.eq (y 0) (y 1) (y 2)
  blk_simp [idx4 t]
  rw [after0_4]
  refine (congrArg _ (ValueIdx.eq_ix3 (n0 := 4) (n1 := 256) (n2 := 768) y)).trans (h.trans ?_)
  rw [Nat.mul_comm _ 256]
  rfl
theorem arr5 : (dats m 0 c).arrAt 5 cfg0.N = (fun y => D.act (y 0).val (y 1).val (y 2).val : FVec 𝔽 S4x2048x768 .bf16) := by
  refine (dats m 0 c).arrAt_eq_of_covers 5 _ (by decide +kernel) fun t hf y => ?_
  have h := (outs m c D hA t.val t.isLt).act.eq (y 0) (y 1) (y 2)
  blk_simp [idx5 t]
  rw [after0_5]
  refine (congrArg _ (ValueIdx.eq_ix3 (n0 := 4) (n1 := 256) (n2 := 768) y)).trans (h.trans ?_)
  rw [Nat.mul_comm _ 256]
  rfl
theorem arr6 : (dats m 0 c).arrAt 6 cfg0.N = (fun y => D.out (y 0).val (y 1).val : FVec 𝔽 S2048x1024 .f32) := by
  refine (dats m 0 c).arrAt_eq_of_covers 6 _ (by decide +kernel) fun t hf y => ?_
  have h := (outs m c D hA t.val t.isLt).out.eq (y 0) (y 1)
  blk_simp [idx6 t]
  rw [after0_6]
  refine (congrArg _ (ValueIdx.eq_ix2 (n0 := 256) (n1 := 1024) y)).trans (h.trans ?_)
  rw [Nat.mul_comm _ 256]
  rfl

end Cert.Calc.Fw
-- ==== Proof.FwdRef.lean ====
module

public import proofs.«01_k».proof.Proof.FwdGrid
public import proofs.«01_k».proof.Proof.Gen.ReferenceFwdIdeal.Run

/-!
The feed-forward's forward: the reference's five results, read as extended-real functions, and the
equality of its second product with the kernel's four.
-/

@[expose] public section

noncomputable section

namespace Cert.Calc.Fw

open Idealize.ShloMosaic hiding ix1 ix2 ix3 ix4
open Idealize.ShloMosaic.ValueIdx Idealize.ShloMosaic.TcCoe
open Cert.ReferenceFwdIdeal Cert.ReferenceFwdIdeal.Gen
open Cert.Calc.Er
open scoped BigOperators

local notation "𝔽" => Idealize.ShloMosaic.Ideal
local notation "𝕍" => Elt Idealize.ShloMosaic.Ideal

/-! ### The reference's operations -/

section Operations
variable {a b c : ℕ} {φ : FTy} {f g : ℕ → ℕ → ℕ → EReal}
variable (v w : FVec 𝔽 (⟨3, ![a, b, c]⟩ : Shape) φ)

instance hmul3 [hv : E3 v f] [hw : E3 w g] : E3 (mulf v w) (fun i j k => f i j k * g i j k) :=
  ⟨fun i j k => by rw [← hv.eq, ← hw.eq]; rfl⟩
instance hdiv3 [hv : E3 v f] [hw : E3 w g] : E3 (Host.divf v w) (fun i j k => Ideal.div (f i j k) (g i j k)) :=
  ⟨fun i j k => by rw [← hv.eq, ← hw.eq]; rfl⟩
instance hexp3 [hv : E3 v f] : E3 (Host.exp v) (fun i j k => Ideal.exp (f i j k)) :=
  ⟨fun i j k => by rw [← hv.eq]; rfl⟩
instance hneg3 [hv : E3 v f] : E3 (Host.negf v) (fun i j k => -f i j k) :=
  ⟨fun i j k => by rw [← hv.eq]; rfl⟩
instance hsplat3 (u : (⟨0, ![]⟩ : Shape).Idx → EReal) (r : EReal) (d : Fin 0 → Fin 3)
    (h : (⟨0, ![]⟩ : Shape).BroadcastsInDim (⟨3, ![a, b, c]⟩ : Shape) d) [hu : E0 u r] :
    E3 (broadcastInDim (⟨3, ![a, b, c]⟩ : Shape) d h u) (fun _ _ _ => r) :=
  ⟨fun _ _ _ => hu.eq _⟩
/-- A part of three axes. -/
instance hpart {l m n : ℕ} (o p q : ℕ) (u : (⟨3, ![a, b, c]⟩ : Shape).Idx → EReal)
    (h : (⟨3, ![a, b, c]⟩ : Shape).Slices ![o, p, q] ⟨3, ![l, m, n]⟩) [hu : E3 u f] :
    E3 (extractStridedSlice (⟨3, ![l, m, n]⟩ : Shape) ![o, p, q] u h) (fun i j k => f (o + i) (p + j) (q + k)) :=
  ⟨fun i j k => by
    have h0 : o + l ≤ a := h.2 0
    have h1 : p + m ≤ b := h.2 1
    have h2 : q + n ≤ c := h.2 2
    have := i.isLt; have := j.isLt; have := k.isLt
    rw [extractStridedSlice_apply _ _ _ _ (ix3 (⟨o + i, by omega⟩ : Fin a) (⟨p + j, by omega⟩ : Fin b) (⟨q + k, by omega⟩ : Fin c)) (fun ax => ?_), hu.eq]
    match ax with | ⟨0, _⟩ => rfl | ⟨1, _⟩ => rfl | ⟨2, _⟩ => rfl⟩
/-- Two pieces to a slab. -/
instance hjoin (u : (⟨3, ![8, 352, 1024]⟩ : Shape).Idx → EReal)
    (h : (⟨3, ![8, 352, 1024]⟩ : Shape).ShapeCasts ⟨3, ![4, 704, 1024]⟩) [hu : E3 u f] :
    E3 (shapeCast (⟨3, ![4, 704, 1024]⟩ : Shape) u h) (fun j m e => f (2 * j + m / 352) (m % 352) e) :=
  ⟨fun j m e => by
    have := j.isLt; have := m.isLt
    rw [shapeCast_apply u h (ix3 j m e) (ix3 (⟨2 * j + m / 352, by omega⟩ : Fin 8) (⟨m % 352, by omega⟩ : Fin 352) e) ?_, hu.eq]
    rw [Shape.rowMajor_val_three, Shape.rowMajor_val_three]
    show ((2 * j.val + m.val / 352) * 352 + m.val % 352) * 1024 + e.val = (j.val * 704 + m.val) * 1024 + e.val
    omega⟩

end Operations

/-- The product with the first matrix. -/
instance hdot_first (l : FVec 𝔽 S8x768x1024 .f32) (r : FVec 𝔽 S2048x1024 .f32) (f : ℕ → ℕ → ℕ → EReal) (g : ℕ → ℕ → EReal)
    [hl : E3 l f] [hr : E2 r g] :
    E3 (Host.dotGeneral dot_S8x768x1024_S2048x1024_S8x768x2048_2_1_01_0_n_n none l r) (fun j m t => ∑ k ∈ Finset.range 1024, f j m k * g t k) :=
  ⟨fun j m t => by
    refine (Ideal.matmul_apply₁_of (d := dot_S8x768x1024_S2048x1024_S8x768x2048_2_1_01_0_n_n) (K := 1024) rfl rfl l r _ (ix3 j m t)
      (fun x => ix3 j m x) (fun x => ix2 t x) (fun x => ?_) (fun x => ?_)).trans ?_
    · funext ax; match ax with | ⟨0, _⟩ => rfl | ⟨1, _⟩ => rfl | ⟨2, _⟩ => rfl
    · funext ax; match ax with | ⟨0, _⟩ => rfl | ⟨1, _⟩ => rfl
    · refine (zero_add _).trans (sum_of _ _ fun x => ?_)
      rw [hl.eq, hr.eq]⟩
/-- The product with the second matrix, over slabs and columns. -/
instance hdot_second (l : FVec 𝔽 S4x2048x704 .f32) (r : FVec 𝔽 S4x704x1024 .f32) (f g : ℕ → ℕ → ℕ → EReal) [hl : E3 l f] [hr : E3 r g] :
    E2 (Host.dotGeneral dot_S4x2048x704_S4x704x1024_S2048x1024_02_01_1_2_n_n none l r)
      (fun t e => ∑ j ∈ Finset.range 4, ∑ m ∈ Finset.range 704, f j t m * g j m e) :=
  ⟨fun t e => by
    refine (Ideal.matmul_apply₂_of (d := dot_S4x2048x704_S4x704x1024_S2048x1024_02_01_1_2_n_n) (K₁ := 4) (K₂ := 704) rfl rfl rfl l r _ (ix2 t e)
      (fun j m => ix3 j t m) (fun j m => ix3 j m e) (fun j m => ?_) (fun j m => ?_)).trans ?_
    · funext ax; match ax with | ⟨0, _⟩ => rfl | ⟨1, _⟩ => rfl | ⟨2, _⟩ => rfl
    · funext ax; match ax with | ⟨0, _⟩ => rfl | ⟨1, _⟩ => rfl | ⟨2, _⟩ => rfl
    · refine (zero_add _).trans (sum_of _ _ fun j => sum_of _ _ fun m => ?_)
      rw [hl.eq, hr.eq]⟩

/-! ### What the reference computes, in stages -/

/-- The normed rows. -/
def rN (x : FVec 𝔽 S2048x1024 .f32) (g : FVec 𝔽 S1x1024 .f32) : FVec 𝔽 S2048x1024 .f32 :=
  mulf (mulf x (broadcastInDim S2048x1024 ![0, 1] bcast_S2048x1_S2048x1024_0_1 (Host.rsqrt (addf (Host.divf (broadcastInDim S2048x1 ![0] bcast_S2048_S2048x1_0
    (Host.reduceAdd (mulf x x) (constant S_ .f32 0x00000000#32) reducesTo_S2048x1024_S2048_d1 h_S_)) (broadcastInDim S2048x1 ![] bcast_S_S2048x1 (constant S_ .f32 0x44800000#32)))
    (broadcastInDim S2048x1 ![] bcast_S_S2048x1 (constant S_ .f32 0x358637BD#32)))))) (broadcastInDim S2048x1024 ![0, 1] bcast_S1x1024_S2048x1024_0_1 g)
/-- The gates and the ups. -/
def rGu (n : FVec 𝔽 S2048x1024 .f32) (w : FVec 𝔽 S8x768x1024 .f32) : FVec 𝔽 S8x2048x768 .f32 :=
  transpose S8x2048x768 [0, 2, 1] (Host.dotGeneral dot_S8x768x1024_S2048x1024_S8x768x2048_2_1_01_0_n_n none w n) transposes_S8x768x2048_S8x2048x768_0_2_1
/-- The gates. -/
def rGate (z : FVec 𝔽 S8x2048x768 .f32) : FVec 𝔽 S4x2048x768 .f32 := extractStridedSlice S4x2048x768 ![0, 0, 0] z slices_S8x2048x768_S4x2048x768_0_0_0
/-- The ups. -/
def rUp (z : FVec 𝔽 S8x2048x768 .f32) : FVec 𝔽 S4x2048x768 .f32 := extractStridedSlice S4x2048x768 ![4, 0, 0] z slices_S8x2048x768_S4x2048x768_4_0_0
/-- The activations. -/
def rAct (u v : FVec 𝔽 S4x2048x768 .f32) : FVec 𝔽 S4x2048x768 .f32 :=
  mulf (mulf u (Host.divf (broadcastInDim S4x2048x768 ![] bcast_S_S4x2048x768 (constant S_ .f32 0x3F800000#32))
    (addf (broadcastInDim S4x2048x768 ![] bcast_S_S4x2048x768 (constant S_ .f32 0x3F800000#32)) (Host.exp (Host.negf u))))) v
/-- The new rows. -/
def rOut (x : FVec 𝔽 S2048x1024 .f32) (a : FVec 𝔽 S4x2048x768 .f32) (p : FVec 𝔽 S8x352x1024 .f32) : FVec 𝔽 S2048x1024 .f32 :=
  addf x (mulf (broadcastInDim S2048x1024 ![] bcast_S_S2048x1024 (constant S_ .f32 0x3F000000#32)) (Host.dotGeneral dot_S4x2048x704_S4x704x1024_S2048x1024_02_01_1_2_n_n none
    (extractStridedSlice S4x2048x704 ![0, 0, 0] a slices_S4x2048x768_S4x2048x704_0_0_0) (shapeCast S4x704x1024 p shapeCasts_S8x352x1024_S4x704x1024)))

instance const_zero : E0 (constant (F := 𝔽) (⟨0, ![]⟩ : Shape) .f32 0x00000000#32) 0 := ⟨fun _ => Ideal.ofBits_zero .f32⟩

variable (D : Data)

/-- The zero rows below each slab add nothing. -/
theorem term_eq (j t e : ℕ) : D.term j t e = ∑ m ∈ Finset.range 704, D.act j t m * D.p (2 * j + m / 352) (m % 352) e := by
  unfold Data.term
  rw [← Finset.sum_subset (Finset.range_mono (show 704 ≤ 768 by omega))]
  · refine Finset.sum_congr rfl fun m hm => ?_
    unfold Data.d
    rw [if_pos (Finset.mem_range.mp hm)]
  · intro m _ hm
    unfold Data.d
    rw [if_neg fun h => hm (Finset.mem_range.mpr h), mul_zero]

section Readings
variable (x n : FVec 𝔽 S2048x1024 .f32) (g : FVec 𝔽 S1x1024 .f32) (w : FVec 𝔽 S8x768x1024 .f32) (z : FVec 𝔽 S8x2048x768 .f32)
variable (u v a : FVec 𝔽 S4x2048x768 .f32) (p : FVec 𝔽 S8x352x1024 .f32)

theorem rN_is [E2 x D.x] [E2 g (fun _ e => D.g e)] : E2 (rN x g) D.n := by
  unfold rN
  exact E2.congr inferInstance fun _ _ _ _ => rfl
theorem rGu_is [E2 n D.n] [E3 w D.w] : E3 (rGu n w) D.gu := by
  unfold rGu
  exact E3.congr inferInstance fun j t m _ _ _ => Finset.sum_congr rfl fun k _ => mul_comm _ _
theorem rGate_is [E3 z D.gu] : E3 (rGate z) D.gu := by
  unfold rGate
  exact E3.congr inferInstance fun j t m _ _ _ => by rw [Nat.zero_add, Nat.zero_add, Nat.zero_add]
theorem rUp_is [E3 z D.gu] : E3 (rUp z) D.up := by
  unfold rUp
  exact E3.congr inferInstance fun j t m _ _ _ => by rw [Nat.zero_add, Nat.zero_add]; rfl
theorem rAct_is [E3 u D.gu] [E3 v D.up] : E3 (rAct u v) D.act := by
  unfold rAct
  refine E3.congr inferInstance fun j t m _ _ _ => ?_
  unfold Data.act
  rw [show zer = 0 from Ideal.ofBits_zero .f32, zero_sub]
theorem rOut_is [E2 x D.x] [E3 a D.act] [E3 p D.p] : E2 (rOut x a p) D.out := by
  unfold rOut
  refine E2.congr inferInstance fun t e _ _ => ?_
  unfold Data.out
  rw [show zer = 0 from Ideal.ofBits_zero .f32, term_eq, term_eq, term_eq, term_eq]
  simp only [Nat.zero_add]
  have four (f : ℕ → EReal) : ∑ j ∈ Finset.range 4, f j = f 0 + f 1 + f 2 + f 3 := by
    rw [Finset.sum_range_succ, Finset.sum_range_succ, Finset.sum_range_succ, Finset.sum_range_one]
  rw [four, zero_add]

end Readings

/-! ### The results -/

/-- The reference's arguments read as functions. -/
structure RefArgs (m : (ℓ : Loc nD τ sig) → Buf 𝕍 ℓ) (c : Dev nD) : Prop where
  /-- Argument 0. -/
  x : E2 (a := 2048) (b := 1024) (m ((c.tc : Thread nD τ).loc main_arg0)) D.x
  /-- Argument 1. -/
  g : E2 (a := 1) (b := 1024) (m ((c.tc : Thread nD τ).loc main_arg1)) (fun _ e => D.g e)
  /-- Argument 2. -/
  w : E3 (a := 8) (b := 768) (c := 1024) (m ((c.tc : Thread nD τ).loc main_arg2)) D.w
  /-- Argument 3. -/
  p : E3 (a := 8) (b := 352) (c := 1024) (m ((c.tc : Thread nD τ).loc main_arg3)) D.p

section Results
variable (m : (ℓ : Loc nD τ sig) → Buf 𝕍 ℓ) (c : Dev nD)

/-- The normed rows, of the arguments. -/
abbrev nOf : FVec 𝔽 S2048x1024 .f32 := rN (m ((c.tc : Thread nD τ).loc main_arg0)) (m ((c.tc : Thread nD τ).loc main_arg1))
/-- The gates and the ups, of the arguments. -/
abbrev guOf : FVec 𝔽 S8x2048x768 .f32 := rGu (nOf m c) (m ((c.tc : Thread nD τ).loc main_arg2))
/-- The activations, of the arguments. -/
abbrev actOf : FVec 𝔽 S4x2048x768 .f32 := rAct (rGate (guOf m c)) (rUp (guOf m c))
/-- The new rows, of the arguments. -/
abbrev outOf : FVec 𝔽 S2048x1024 .f32 := rOut (m ((c.tc : Thread nD τ).loc main_arg0)) (actOf m c) (m ((c.tc : Thread nD τ).loc main_arg3))

variable (hA : RefArgs D m c)

include hA
theorem n_is : E2 (nOf m c) D.n := by
  haveI := hA.x; haveI := hA.g
  exact rN_is D _ _
theorem gu_is : E3 (guOf m c) D.gu := by
  haveI := n_is D m c hA; haveI := hA.w
  exact rGu_is D _ _
theorem act_is : E3 (actOf m c) D.act := by
  haveI := gu_is D m c hA
  haveI := rGate_is D (guOf m c)
  haveI := rUp_is D (guOf m c)
  exact rAct_is D _ _

theorem ref0 : (truncf .bf16 (nOf m c) bitsLt_bf16_f32 : FVec 𝔽 S2048x1024 .bf16) = (fun y => D.n (y 0).val (y 1).val) :=
  funext fun y => (congrArg (nOf m c) (ValueIdx.eq_ix2 (n0 := 2048) (n1 := 1024) y)).trans ((n_is D m c hA).eq (y 0) (y 1))
theorem ref1 : (truncf .bf16 (rGate (guOf m c)) bitsLt_bf16_f32 : FVec 𝔽 S4x2048x768 .bf16) = (fun y => D.gu (y 0).val (y 1).val (y 2).val) := by
  haveI := gu_is D m c hA
  exact funext fun y => (congrArg (rGate (guOf m c)) (ValueIdx.eq_ix3 (n0 := 4) (n1 := 2048) (n2 := 768) y)).trans ((rGate_is D (guOf m c)).eq (y 0) (y 1) (y 2))
theorem ref2 : (truncf .bf16 (rUp (guOf m c)) bitsLt_bf16_f32 : FVec 𝔽 S4x2048x768 .bf16) = (fun y => D.up (y 0).val (y 1).val (y 2).val) := by
  haveI := gu_is D m c hA
  exact funext fun y => (congrArg (rUp (guOf m c)) (ValueIdx.eq_ix3 (n0 := 4) (n1 := 2048) (n2 := 768) y)).trans ((rUp_is D (guOf m c)).eq (y 0) (y 1) (y 2))
theorem ref3 : (truncf .bf16 (actOf m c) bitsLt_bf16_f32 : FVec 𝔽 S4x2048x768 .bf16) = (fun y => D.act (y 0).val (y 1).val (y 2).val) :=
  funext fun y => (congrArg (actOf m c) (ValueIdx.eq_ix3 (n0 := 4) (n1 := 2048) (n2 := 768) y)).trans ((act_is D m c hA).eq (y 0) (y 1) (y 2))
theorem ref4 : outOf m c = (fun y => D.out (y 0).val (y 1).val) := by
  haveI := hA.x; haveI := hA.p; haveI := act_is D m c hA
  have k := rOut_is D (m ((c.tc : Thread nD τ).loc main_arg0)) (actOf m c) (m ((c.tc : Thread nD τ).loc main_arg3))
  exact funext fun y => (congrArg _ (ValueIdx.eq_ix2 (n0 := 2048) (n1 := 1024) y)).trans (k.eq (y 0) (y 1))

end Results

end Cert.Calc.Fw
-- ==== Proof.Fwd.lean ====
module

public import proofs.«01_k».proof.Defs
public import proofs.«01_k».proof.Proof.FwdRef

/-!
The feed-forward's forward: its reference's frame, and the equality of the kernel's and the
reference's five results, for all arguments.
-/

@[expose] public section

noncomputable section

namespace Cert.Calc

open Idealize.ShloMosaic hiding ix1 ix2 ix3 ix4
open Idealize.ShloMosaic.ValueIdx
open Idealize.ShloMosaic.TcCoe
open Idealize.SL.Sem

/-! ### The reference's frame -/

open Cert.ReferenceFwdIdeal Cert.ReferenceFwdIdeal.Gen in
/-- The reference's run, read at the arguments; no semaphore is declared. -/
theorem Fwd.frame : Cert.quiescent_ReferenceFwdIdeal (hReferenceFwdIdeal := Cert.ReferenceFwdIdeal.Gen.facts) := fun m ρ _ =>
  (θ_run defs _ _).mono (fun r h => ⟨fun c => (h c).2.2.2.2.2, Idealize.ShloMosaic.sem_eq_zero_of_no_sems (by decide) r.2⟩)
    (Value.run (F := Idealize.ShloMosaic.Ideal) m ρ)

/-! ### The results -/

section
open Cert.KernelFwdIdeal

/-- What the call works on, of its arguments. -/
def Fwd.data (m : (ℓ : Loc nD τ sig) → Buf (Elt Idealize.ShloMosaic.Ideal) ℓ) (c : Dev nD) : Fw.Data where
  x := Er.read2 (a := 2048) (b := 1024) (m ((c.tc : Thread nD τ).loc main_arg0))
  g := Er.read2 (a := 1) (b := 1024) (m ((c.tc : Thread nD τ).loc main_arg1)) 0
  w := Er.read3 (a := 8) (b := 768) (c := 1024) (m ((c.tc : Thread nD τ).loc main_arg2))
  p := Er.read3 (a := 8) (b := 352) (c := 1024) (m ((c.tc : Thread nD τ).loc main_arg3))

theorem Fwd.args (m : (ℓ : Loc nD τ sig) → Buf (Elt Idealize.ShloMosaic.Ideal) ℓ) (c : Dev nD) : Fw.Args m c (Fwd.data m c) where
  x := Er.read2_is (a := 2048) (b := 1024) _
  g := (Er.read2_is (a := 1) (b := 1024) _).congr fun i j hi _ => by rw [Nat.lt_one_iff.mp hi]; rfl
  w := Er.read3_is (a := 8) (b := 768) (c := 1024) _
  p := Er.read3_is (a := 8) (b := 352) (c := 1024) _

end

/-- The kernel's five results are the reference's. -/
theorem Fwd.value : Cert.algebraic_KernelFwdIdeal_ReferenceFwdIdeal (hKernelFwdIdeal := Cert.KernelFwdIdeal.Gen.facts)
    (hReferenceFwdIdeal := Cert.ReferenceFwdIdeal.Gen.facts) := by
  intro m g m' g' _ hargs
  refine ⟨fun c => (Cert.KernelFwdIdeal.Gen.dats m 0 c).arrAt 2 Cert.KernelFwdIdeal.cfg0.N,
    fun c => (Cert.KernelFwdIdeal.Gen.dats m 0 c).arrAt 3 Cert.KernelFwdIdeal.cfg0.N,
    fun c => (Cert.KernelFwdIdeal.Gen.dats m 0 c).arrAt 4 Cert.KernelFwdIdeal.cfg0.N,
    fun c => (Cert.KernelFwdIdeal.Gen.dats m 0 c).arrAt 5 Cert.KernelFwdIdeal.cfg0.N,
    fun c => (Cert.KernelFwdIdeal.Gen.dats m 0 c).arrAt 6 Cert.KernelFwdIdeal.cfg0.N, Cert.KernelFwdIdeal.Value.run_blocks m g, ?_⟩
  refine (θ_run Cert.ReferenceFwdIdeal.defs _ _).mono (fun r h c => ?_) (Cert.ReferenceFwdIdeal.Value.run (F := Idealize.ShloMosaic.Ideal) m' g')
  obtain ⟨h0, h1, h2, h3⟩ := hargs c
  have kA := Fwd.args m c
  have rA : Fw.RefArgs (Fwd.data m c) m' c := ⟨h0 ▸ kA.x, h1 ▸ kA.g, h2 ▸ kA.w, h3 ▸ kA.p⟩
  obtain ⟨r0, r1, r2, r3, r4, r5⟩ := h c
  exact ⟨r0.trans ((Fw.ref0 _ m' c rA).trans (Fw.arr2 m c _ kA).symm), r1.trans ((Fw.ref1 _ m' c rA).trans (Fw.arr3 m c _ kA).symm),
    r2.trans ((Fw.ref2 _ m' c rA).trans (Fw.arr4 m c _ kA).symm), r3.trans ((Fw.ref3 _ m' c rA).trans (Fw.arr5 m c _ kA).symm),
    r4.trans ((Fw.ref4 _ m' c rA).trans (Fw.arr6 m c _ kA).symm), r5⟩

end Cert.Calc
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.KernelGu
public import proofs.«01_k».proof.Proof.Gen.KernelGu.Skeleton
public import proofs.«01_k».proof.Proof.Gen.KernelGu.Launch
public import proofs.«01_k».proof.Proof.Gen.KernelGu.Points
public import proofs.«01_k».proof.Proof.Gen.KernelGu.Frame
public import proofs.«01_k».proof.Proof.Gen.KernelGuIdeal
public import proofs.«01_k».proof.Proof.Gen.KernelGuIdeal.Skeleton
public import proofs.«01_k».proof.Proof.Gen.KernelGuIdeal.Launch
public import proofs.«01_k».proof.Proof.Gen.KernelGuIdeal.Points
public import proofs.«01_k».proof.Proof.Gen.KernelGuIdeal.Frame
public import proofs.«01_k».proof.Proof.Gen.KernelGuIdeal.Value
public import proofs.«01_k».proof.Proof.Gen.ReferenceGuIdeal
public import proofs.«01_k».proof.Proof.Gen.ReferenceGuIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.KernelCross
public import proofs.«01_k».proof.Proof.Gen.KernelCross.Skeleton
public import proofs.«01_k».proof.Proof.Gen.KernelCross.Launch
public import proofs.«01_k».proof.Proof.Gen.KernelCross.Points
public import proofs.«01_k».proof.Proof.Gen.KernelCross.Frame
public import proofs.«01_k».proof.Proof.Gen.KernelCrossIdeal
public import proofs.«01_k».proof.Proof.Gen.KernelCrossIdeal.Skeleton
public import proofs.«01_k».proof.Proof.Gen.KernelCrossIdeal.Launch
public import proofs.«01_k».proof.Proof.Gen.KernelCrossIdeal.Points
public import proofs.«01_k».proof.Proof.Gen.KernelCrossIdeal.Frame
public import proofs.«01_k».proof.Proof.Gen.KernelCrossIdeal.Value
public import proofs.«01_k».proof.Proof.Gen.ReferenceCrossIdeal
public import proofs.«01_k».proof.Proof.Gen.ReferenceCrossIdeal.Run
public import proofs.«01_k».proof.Proof.Gen.KernelCkv
public import proofs.«01_k».proof.Proof.Gen.KernelCkv.Skeleton
public import proofs.«01_k».proof.Proof.Gen.KernelCkv.Launch
public import proofs.«01_k».proof.Proof.Gen.KernelCkv.Points
public import proofs.«01_k».proof.Proof.Gen.KernelCkv.Frame
public import proofs.«01_k».proof.Proof.Gen.KernelCkvIdeal
public import proofs.«01_k».proof.Proof.Gen.KernelCkvIdeal.Skeleton
public import proofs.«01_k».proof.Proof.Gen.KernelCkvIdeal.Launch
public import proofs.«01_k».proof.Proof.Gen.KernelCkvIdeal.Points
public import proofs.«01_k».proof.Proof.Gen.KernelCkvIdeal.Frame
public import proofs.«01_k».proof.Proof.Gen.KernelCkvIdeal.Value
public import proofs.«01_k».proof.Proof.Gen.ReferenceCkvIdeal
public import proofs.«01_k».proof.Proof.Gen.ReferenceCkvIdeal.Run
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.KernelInb
public import proofs.«01_k».proof.Proof.Gen.KernelInb.Skeleton
public import proofs.«01_k».proof.Proof.Gen.KernelInb.Launch
public import proofs.«01_k».proof.Proof.Gen.KernelInb.Points
public import proofs.«01_k».proof.Proof.Gen.KernelInb.Frame
public import proofs.«01_k».proof.Proof.Gen.KernelInbIdeal
public import proofs.«01_k».proof.Proof.Gen.KernelInbIdeal.Skeleton
public import proofs.«01_k».proof.Proof.Gen.KernelInbIdeal.Launch
public import proofs.«01_k».proof.Proof.Gen.KernelInbIdeal.Points
public import proofs.«01_k».proof.Proof.Gen.KernelInbIdeal.Frame
public import proofs.«01_k».proof.Proof.Gen.KernelInbIdeal.Value
public import proofs.«01_k».proof.Proof.Gen.ReferenceInbIdeal
public import proofs.«01_k».proof.Proof.Gen.ReferenceInbIdeal.Run
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.KernelAdIn
public import proofs.«01_k».proof.Proof.AdIn
public import proofs.«01_k».proof.Proof.Gen.KernelAdDown
public import proofs.«01_k».proof.Proof.Gen.KernelAdDown.Skeleton
public import proofs.«01_k».proof.Proof.Gen.KernelAdDown.Launch
public import proofs.«01_k».proof.Proof.Gen.KernelAdDown.Points
public import proofs.«01_k».proof.Proof.Gen.KernelAdDown.Frame
public import proofs.«01_k».proof.Proof.Gen.KernelAdDownIdeal
public import proofs.«01_k».proof.Proof.Gen.KernelAdDownIdeal.Skeleton
public import proofs.«01_k».proof.Proof.Gen.KernelAdDownIdeal.Launch
public import proofs.«01_k».proof.Proof.Gen.KernelAdDownIdeal.Points
public import proofs.«01_k».proof.Proof.Gen.KernelAdDownIdeal.Frame
public import proofs.«01_k».proof.Proof.Gen.ReferenceAdDownIdeal
public import proofs.«01_k».proof.Proof.Gen.ReferenceAdDownIdeal.Run
public import proofs.«01_k».proof.Proof.Gen.KernelAdCkv
public import proofs.«01_k».proof.Proof.Gen.KernelAdCkv.Skeleton
public import proofs.«01_k».proof.Proof.Gen.KernelAdCkv.Launch
public import proofs.«01_k».proof.Proof.Gen.KernelAdCkv.Points
public import proofs.«01_k».proof.Proof.Gen.KernelAdCkv.Frame
public import proofs.«01_k».proof.Proof.Gen.KernelAdCkvIdeal
public import proofs.«01_k».proof.Proof.Gen.KernelAdCkvIdeal.Skeleton
public import proofs.«01_k».proof.Proof.Gen.KernelAdCkvIdeal.Launch
public import proofs.«01_k».proof.Proof.Gen.KernelAdCkvIdeal.Points
public import proofs.«01_k».proof.Proof.Gen.KernelAdCkvIdeal.Frame
public import proofs.«01_k».proof.Proof.Gen.ReferenceAdCkvIdeal
public import proofs.«01_k».proof.Proof.Gen.ReferenceAdCkvIdeal.Run
public import proofs.«01_k».proof.Proof.Gen.KernelAdMix0
public import proofs.«01_k».proof.Proof.Gen.KernelAdMix0.Skeleton
public import proofs.«01_k».proof.Proof.Gen.KernelAdMix0.Launch
public import proofs.«01_k».proof.Proof.Gen.KernelAdMix0.Points
public import proofs.«01_k».proof.Proof.Gen.KernelAdMix0.Frame
public import proofs.«01_k».proof.Proof.Gen.KernelAdMix0Ideal
public import proofs.«01_k».proof.Proof.Gen.KernelAdMix0Ideal.Skeleton
public import proofs.«01_k».proof.Proof.Gen.KernelAdMix0Ideal.Launch
public import proofs.«01_k».proof.Proof.Gen.KernelAdMix0Ideal.Points
public import proofs.«01_k».proof.Proof.Gen.KernelAdMix0Ideal.Frame
public import proofs.«01_k».proof.Proof.Gen.ReferenceAdMix0Ideal
public import proofs.«01_k».proof.Proof.Gen.ReferenceAdMix0Ideal.Run
public import proofs.«01_k».proof.Proof.Gen.KernelAdMix1
public import proofs.«01_k».proof.Proof.Gen.KernelAdMix1.Skeleton
public import proofs.«01_k».proof.Proof.Gen.KernelAdMix1.Launch
public import proofs.«01_k».proof.Proof.Gen.KernelAdMix1.Points
public import proofs.«01_k».proof.Proof.Gen.KernelAdMix1.Frame
public import proofs.«01_k».proof.Proof.Gen.KernelAdMix1Ideal
public import proofs.«01_k».proof.Proof.Gen.KernelAdMix1Ideal.Skeleton
public import proofs.«01_k».proof.Proof.Gen.KernelAdMix1Ideal.Launch
public import proofs.«01_k».proof.Proof.Gen.KernelAdMix1Ideal.Points
public import proofs.«01_k».proof.Proof.Gen.KernelAdMix1Ideal.Frame
public import proofs.«01_k».proof.Proof.Gen.ReferenceAdMix1Ideal
public import proofs.«01_k».proof.Proof.Gen.ReferenceAdMix1Ideal.Run
public import proofs.«01_k».proof.Proof.Gen.KernelAdMix2
public import proofs.«01_k».proof.Proof.Gen.KernelAdMix2.Skeleton
public import proofs.«01_k».proof.Proof.Gen.KernelAdMix2.Launch
public import proofs.«01_k».proof.Proof.Gen.KernelAdMix2.Points
public import proofs.«01_k».proof.Proof.Gen.KernelAdMix2.Frame
public import proofs.«01_k».proof.Proof.Gen.KernelAdMix2Ideal
public import proofs.«01_k».proof.Proof.Gen.KernelAdMix2Ideal.Skeleton
public import proofs.«01_k».proof.Proof.Gen.KernelAdMix2Ideal.Launch
public import proofs.«01_k».proof.Proof.Gen.KernelAdMix2Ideal.Points
public import proofs.«01_k».proof.Proof.Gen.KernelAdMix2Ideal.Frame
public import proofs.«01_k».proof.Proof.Gen.ReferenceAdMix2Ideal
public import proofs.«01_k».proof.Proof.Gen.ReferenceAdMix2Ideal.Run
public import proofs.«01_k».proof.Proof.Gen.KernelAdCross0
public import proofs.«01_k».proof.Proof.Gen.KernelAdCross0.Skeleton
public import proofs.«01_k».proof.Proof.Gen.KernelAdCross0.Launch
public import proofs.«01_k».proof.Proof.Gen.KernelAdCross0.Points
public import proofs.«01_k».proof.Proof.Gen.KernelAdCross0.Frame
public import proofs.«01_k».proof.Proof.Gen.KernelAdCross0Ideal
public import proofs.«01_k».proof.Proof.Gen.KernelAdCross0Ideal.Skeleton
public import proofs.«01_k».proof.Proof.Gen.KernelAdCross0Ideal.Launch
public import proofs.«01_k».proof.Proof.Gen.KernelAdCross0Ideal.Points
public import proofs.«01_k».proof.Proof.Gen.KernelAdCross0Ideal.Frame
public import proofs.«01_k».proof.Proof.Gen.ReferenceAdCross0Ideal
public import proofs.«01_k».proof.Proof.Gen.ReferenceAdCross0Ideal.Run
public import proofs.«01_k».proof.Proof.Gen.KernelAdCross1
public import proofs.«01_k».proof.Proof.Gen.KernelAdCross1.Skeleton
public import proofs.«01_k».proof.Proof.Gen.KernelAdCross1.Launch
public import proofs.«01_k».proof.Proof.Gen.KernelAdCross1.Points
public import proofs.«01_k».proof.Proof.Gen.KernelAdCross1.Frame
public import proofs.«01_k».proof.Proof.Gen.KernelAdCross1Ideal
public import proofs.«01_k».proof.Proof.Gen.KernelAdCross1Ideal.Skeleton
public import proofs.«01_k».proof.Proof.Gen.KernelAdCross1Ideal.Launch
public import proofs.«01_k».proof.Proof.Gen.KernelAdCross1Ideal.Points
public import proofs.«01_k».proof.Proof.Gen.KernelAdCross1Ideal.Frame
public import proofs.«01_k».proof.Proof.Gen.ReferenceAdCross1Ideal
public import proofs.«01_k».proof.Proof.Gen.ReferenceAdCross1Ideal.Run
public import proofs.«01_k».proof.Proof.Gen.KernelAdGu
public import proofs.«01_k».proof.Proof.Gen.KernelAdGu.Skeleton
public import proofs.«01_k».proof.Proof.Gen.KernelAdGu.Launch
public import proofs.«01_k».proof.Proof.Gen.KernelAdGu.Points
public import proofs.«01_k».proof.Proof.Gen.KernelAdGu.Frame
public import proofs.«01_k».proof.Proof.Gen.KernelAdGuIdeal
public import proofs.«01_k».proof.Proof.Gen.KernelAdGuIdeal.Skeleton
public import proofs.«01_k».proof.Proof.Gen.KernelAdGuIdeal.Launch
public import proofs.«01_k».proof.Proof.Gen.KernelAdGuIdeal.Points
public import proofs.«01_k».proof.Proof.Gen.KernelAdGuIdeal.Frame
public import proofs.«01_k».proof.Proof.Gen.ReferenceAdGuIdeal
public import proofs.«01_k».proof.Proof.Gen.ReferenceAdGuIdeal.Run
public import proofs.«01_k».proof.Proof.AdDown
public import proofs.«01_k».proof.Proof.AdCkv
public import proofs.«01_k».proof.Proof.AdMix
public import proofs.«01_k».proof.Proof.AdCross
public import proofs.«01_k».proof.Proof.AdGu
public import proofs.«01_k».proof.Proof.Gen.KernelAdIn.Skeleton
public import proofs.«01_k».proof.Proof.Gen.KernelAdIn.Launch
public import proofs.«01_k».proof.Proof.Gen.KernelAdIn.Points
public import proofs.«01_k».proof.Proof.Gen.KernelAdIn.Frame
public import proofs.«01_k».proof.Proof.Gen.KernelAdInIdeal
public import proofs.«01_k».proof.Proof.Gen.KernelAdInIdeal.Skeleton
public import proofs.«01_k».proof.Proof.Gen.KernelAdInIdeal.Launch
public import proofs.«01_k».proof.Proof.Gen.KernelAdInIdeal.Points
public import proofs.«01_k».proof.Proof.Gen.KernelAdInIdeal.Frame
public import proofs.«01_k».proof.Proof.Gen.ReferenceAdInIdeal
public import proofs.«01_k».proof.Proof.Gen.ReferenceAdInIdeal.Run
public import proofs.«01_k».proof.Proof.Gen.ReferenceIdeal.Run
public import Idealize.ShloMosaic.Adequacy
public import Idealize.ShloMosaic.Init
public import proofs.«01_k».proof.Proof.Out
public import proofs.«01_k».proof.Proof.Finite
public import proofs.«01_k».proof.Proof.Weights
public import proofs.«01_k».proof.Proof.Ffn
public import proofs.«01_k».proof.Proof.Inb
public import proofs.«01_k».proof.Proof.Fwd

/-!
The proof of everything the certificate claims: the frames of the programs, the constants' identities,
and the equality of each kernel's and its reference's results over the extended reals; for the
attention's and the feed-forward layer's backward of arguments whose entries are real.
-/

@[expose] public section

noncomputable section

namespace Cert.Proof

open Idealize.ShloMosaic Idealize.SL.Sem Cert.Kernel Cert.Calc
open Idealize.ShloMosaic.TcCoe

/-- The reference is host operations only: its run read at the arguments; it declares no semaphore. -/
theorem frame_r (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- Two arrays of rank 2 with the same reading are equal. -/
theorem eq_of_is2 {a b : ℕ} {x y : (⟨2, ![a, b]⟩ : Shape).Idx → EReal} {f : ℕ → ℕ → ℝ} (hx : Is2 x f) (hy : Is2 y f) : x = y :=
  funext fun i => by rw [ValueIdx.eq_ix2 i]; exact (hx.eq _ _).trans (hy.eq _ _).symm

/-- Two arrays of rank 3 with the same reading are equal. -/
theorem eq_of_is3 {a b c : ℕ} {x y : (⟨3, ![a, b, c]⟩ : Shape).Idx → EReal} {f : ℕ → ℕ → ℕ → ℝ} (hx : Is3 x f) (hy : Is3 y f) : x = y :=
  funext fun i => by rw [ValueIdx.eq_ix3 i]; exact (hx.eq _ _ _).trans (hy.eq _ _ _).symm

/-- The kernel's results are the reference's. -/
theorem value : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.Value.run (F := Ideal) m' g')
  obtain ⟨hX, hY⟩ := finite_real _ _ (hpre c)
  haveI := hX; haveI := hY
  haveI : Is2 (a := 2048) (b := 3072) (StableHlo.launchContents m' c (Proc.devRef .tc Cert.ReferenceIdeal.main_arg0)) _ := by
    have e : StableHlo.launchContents m' c (Proc.devRef .tc Cert.ReferenceIdeal.main_arg0) = _ := (hargs c).1
    rw [e]; exact hX
  haveI : Is2 (a := 2048) (b := 1024) (StableHlo.launchContents m' c (Proc.devRef .tc Cert.ReferenceIdeal.main_arg1)) _ := by
    have e : StableHlo.launchContents m' c (Proc.devRef .tc Cert.ReferenceIdeal.main_arg1) = _ := (hargs c).2
    rw [e]; exact hY
  refine ⟨(h c).1.trans ?_, (h c).2.1.trans ?_, (h c).2.2⟩
  · exact (eq_of_is2 (ref_q _ _ _) ⟨fun i j => rfl⟩).trans (arr6 m c _ _).symm
  · exact (eq_of_is3 (ref_kv _ _ _) ⟨fun t i j => rfl⟩).trans (arr7 m c _ _).symm

/-- Everything the certificate claims. -/
theorem claim : Cert.Claim := ⟨Cert.Kernel.Gen.facts, Cert.KernelIdeal.Gen.facts, Cert.ReferenceIdeal.Gen.facts,
  Cert.KernelGu.Gen.facts, Cert.KernelGuIdeal.Gen.facts, Cert.ReferenceGuIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelMix.Gen.facts, Cert.KernelMixIdeal.Gen.facts, Cert.ReferenceMixIdeal.Gen.facts,
  Cert.KernelCross.Gen.facts, Cert.KernelCrossIdeal.Gen.facts, Cert.ReferenceCrossIdeal.Gen.facts,
  Cert.KernelCkv.Gen.facts, Cert.KernelCkvIdeal.Gen.facts, Cert.ReferenceCkvIdeal.Gen.facts,
  Cert.KernelFfn.Gen.facts, Cert.KernelFfnIdeal.Gen.facts, Cert.ReferenceFfnIdeal.Gen.facts,
  Cert.KernelInb.Gen.facts, Cert.KernelInbIdeal.Gen.facts, Cert.ReferenceInbIdeal.Gen.facts,
  Cert.KernelFwd.Gen.facts, Cert.KernelFwdIdeal.Gen.facts, Cert.ReferenceFwdIdeal.Gen.facts,
  Cert.KernelAdIn.Gen.facts, Cert.KernelAdInIdeal.Gen.facts, Cert.ReferenceAdInIdeal.Gen.facts,
  Cert.KernelAdDown.Gen.facts, Cert.KernelAdDownIdeal.Gen.facts, Cert.ReferenceAdDownIdeal.Gen.facts,
  Cert.KernelAdCkv.Gen.facts, Cert.KernelAdCkvIdeal.Gen.facts, Cert.ReferenceAdCkvIdeal.Gen.facts,
  Cert.KernelAdMix0.Gen.facts, Cert.KernelAdMix0Ideal.Gen.facts, Cert.ReferenceAdMix0Ideal.Gen.facts,
  Cert.KernelAdMix1.Gen.facts, Cert.KernelAdMix1Ideal.Gen.facts, Cert.ReferenceAdMix1Ideal.Gen.facts,
  Cert.KernelAdMix2.Gen.facts, Cert.KernelAdMix2Ideal.Gen.facts, Cert.ReferenceAdMix2Ideal.Gen.facts,
  Cert.KernelAdCross0.Gen.facts, Cert.KernelAdCross0Ideal.Gen.facts, Cert.ReferenceAdCross0Ideal.Gen.facts,
  Cert.KernelAdCross1.Gen.facts, Cert.KernelAdCross1Ideal.Gen.facts, Cert.ReferenceAdCross1Ideal.Gen.facts,
  Cert.KernelAdGu.Gen.facts, Cert.KernelAdGuIdeal.Gen.facts, Cert.ReferenceAdGuIdeal.Gen.facts,
  preFacts, Cert.Calc.Ffn.preFacts, Cert.Calc.Ad.pre, Cert.Calc.Ad.pre_down, Cert.Calc.Ad.pre_ckv, Cert.Calc.Ad.pre_mix, Cert.Calc.Ad.pre_cross, Cert.Calc.Ad.pre_gu,
  fun m ρ _ => Cert.Kernel.Gen.frame m ρ, fun m ρ _ => Cert.KernelIdeal.Gen.frame m ρ, fun m ρ _ => Cert.KernelIdeal.Gen.frame m ρ,
  fun m ρ _ => frame_r m ρ, fun m ρ _ => frame_r m ρ,
  fun m ρ _ => Cert.KernelGu.Gen.frame m ρ, fun m ρ _ => Cert.KernelGuIdeal.Gen.frame m ρ, Cert.Calc.Gu.frame,
  fun m ρ _ => Cert.KernelDown.Gen.frame m ρ, fun m ρ _ => Cert.KernelDownIdeal.Gen.frame m ρ, Cert.Calc.Down.frame,
  fun m ρ _ => Cert.KernelIn.Gen.frame m ρ, fun m ρ _ => Cert.KernelInIdeal.Gen.frame m ρ, Cert.Calc.In.frame,
  fun m ρ _ => Cert.KernelMix.Gen.frame m ρ, fun m ρ _ => Cert.KernelMixIdeal.Gen.frame m ρ, Cert.Calc.Mix.frame,
  fun m ρ _ => Cert.KernelCross.Gen.frame m ρ, fun m ρ _ => Cert.KernelCrossIdeal.Gen.frame m ρ, Cert.Calc.Cross.frame,
  fun m ρ _ => Cert.KernelCkv.Gen.frame m ρ, fun m ρ _ => Cert.KernelCkvIdeal.Gen.frame m ρ, Cert.Calc.Ckv.frame,
  fun m ρ _ => Cert.KernelFfn.Gen.frame m ρ, fun m ρ _ => Cert.KernelFfnIdeal.Gen.frame m ρ, fun m ρ _ => Cert.KernelFfnIdeal.Gen.frame m ρ,
  fun m ρ _ => Cert.Calc.Ffn.frame m ρ, fun m ρ _ => Cert.Calc.Ffn.frame m ρ,
  fun m ρ _ => Cert.KernelInb.Gen.frame m ρ, fun m ρ _ => Cert.KernelInbIdeal.Gen.frame m ρ, Cert.Calc.Inb.frame,
  fun m ρ _ => Cert.KernelFwd.Gen.frame m ρ, fun m ρ _ => Cert.KernelFwdIdeal.Gen.frame m ρ, Cert.Calc.Fwd.frame,
  Cert.Calc.AdIn.frameP, Cert.Calc.AdIn.framePI, Cert.Calc.AdIn.frame,
  Cert.Calc.AdDown.frameP, Cert.Calc.AdDown.framePI, Cert.Calc.AdDown.frame,
  Cert.Calc.AdCkv.frameP, Cert.Calc.AdCkv.framePI, Cert.Calc.AdCkv.frame,
  Cert.Calc.AdMix0.frameP, Cert.Calc.AdMix0.framePI, Cert.Calc.AdMix0.frame,
  Cert.Calc.AdMix1.frameP, Cert.Calc.AdMix1.framePI, Cert.Calc.AdMix1.frame,
  Cert.Calc.AdMix2.frameP, Cert.Calc.AdMix2.framePI, Cert.Calc.AdMix2.frame,
  Cert.Calc.AdCross0.frameP, Cert.Calc.AdCross0.framePI, Cert.Calc.AdCross0.frame,
  Cert.Calc.AdCross1.frameP, Cert.Calc.AdCross1.framePI, Cert.Calc.AdCross1.frame,
  Cert.Calc.AdGu.frameP, Cert.Calc.AdGu.framePI, Cert.Calc.AdGu.frame,
  ⟨IdealRules.named_const.statement Cert.KernelIdeal.κ "scale_log2_e" .f32 0x3E0293EE#32 _ rfl,
  IdealRules.named_const.statement Cert.KernelIdeal.κ "log2_e" .f32 0x3FB8AA3B#32 _ rfl,
  IdealRules.named_const.statement Cert.KernelIdeal.κ "scale" .f32 0x3DB504F3#32 _ rfl⟩, value,
  trivial, Cert.Calc.Gu.value,
  trivial, Cert.Calc.Down.value,
  trivial, Cert.Calc.In.value,
  trivial, Cert.Calc.Mix.value,
  trivial, Cert.Calc.Cross.value,
  trivial, Cert.Calc.Ckv.value,
  trivial, Cert.Calc.Ffn.value,
  trivial, Cert.Calc.Inb.value,
  trivial, Cert.Calc.Fwd.value,
  trivial, Cert.Calc.AdIn.value,
  trivial, Cert.Calc.AdDown.value,
  trivial, Cert.Calc.AdCkv.value,
  trivial, Cert.Calc.AdMix0.value,
  trivial, Cert.Calc.AdMix1.value,
  trivial, Cert.Calc.AdMix2.value,
  trivial, Cert.Calc.AdCross0.value,
  trivial, Cert.Calc.AdCross1.value,
  trivial, Cert.Calc.AdGu.value⟩

end Cert.Proof

end
